-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_args [hPre_finite_args : Cert.Pre_finite_args.Facts] (m : (ℓ : Loc Cert.KernelIdeal.nD Cert.KernelIdeal.τ Cert.KernelIdeal.sig) → Buf (Elt Ideal) ℓ) : Prop :=
  ∀ c : Dev Cert.KernelIdeal.nD,
    (Cert.Pre_finite_args.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_args.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_args.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_finite_args.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.1 = (fun _ => 1#1)
    ∧ (Cert.Pre_finite_args.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_args [hPre_finite_args : Cert.Pre_finite_args.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_args.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_args.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_args.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_finite_args.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.1 = (fun _ => 1#1)
    ∧ (Cert.Pre_finite_args.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel30 (m : (ℓ : Loc Cert.Kernel30.nD Cert.Kernel30.τ Cert.Kernel30.sig) → Buf (Elt Bits) ℓ) : Prop :=
  True

def Pre_Kernel30Ideal (m : (ℓ : Loc Cert.Kernel30Ideal.nD Cert.Kernel30Ideal.τ Cert.Kernel30Ideal.sig) → Buf (Elt Ideal) ℓ) : Prop :=
  True

def Pre_Reference30Ideal (m : (ℓ : Loc Cert.Reference30Ideal.nD Cert.Reference30Ideal.τ Cert.Reference30Ideal.sig) → Buf (Elt Ideal) ℓ) : Prop :=
  True

def Pre_Kernel33 (m : (ℓ : Loc Cert.Kernel33.nD Cert.Kernel33.τ Cert.Kernel33.sig) → Buf (Elt Bits) ℓ) : Prop :=
  True

def Pre_Kernel33Ideal (m : (ℓ : Loc Cert.Kernel33Ideal.nD Cert.Kernel33Ideal.τ Cert.Kernel33Ideal.sig) → Buf (Elt Ideal) ℓ) : Prop :=
  True

def Pre_Reference33Ideal (m : (ℓ : Loc Cert.Reference33Ideal.nD Cert.Reference33Ideal.τ Cert.Reference33Ideal.sig) → Buf (Elt Ideal) ℓ) : Prop :=
  True

def Pre_Kernel34 (m : (ℓ : Loc Cert.Kernel34.nD Cert.Kernel34.τ Cert.Kernel34.sig) → Buf (Elt Bits) ℓ) : Prop :=
  True

def Pre_Kernel34Ideal (m : (ℓ : Loc Cert.Kernel34Ideal.nD Cert.Kernel34Ideal.τ Cert.Kernel34Ideal.sig) → Buf (Elt Ideal) ℓ) : Prop :=
  True

def Pre_Reference34Ideal (m : (ℓ : Loc Cert.Reference34Ideal.nD Cert.Reference34Ideal.τ Cert.Reference34Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_args [hKernelIdeal : Cert.KernelIdeal.Facts] [hPre_finite_args : Cert.Pre_finite_args.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_args m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_args [hReferenceIdeal : Cert.ReferenceIdeal.Facts] [hPre_finite_args : Cert.Pre_finite_args.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_args m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4)
      ∧ r.2.mem ((c.tc : Thread Cert.Kernel11.nD Cert.Kernel11.τ).loc Cert.Kernel11.main_arg5) = m ((c.tc : Thread Cert.Kernel11.nD Cert.Kernel11.τ).loc Cert.Kernel11.main_arg5)
      ∧ r.2.mem ((c.tc : Thread Cert.Kernel11.nD Cert.Kernel11.τ).loc Cert.Kernel11.main_arg6) = m ((c.tc : Thread Cert.Kernel11.nD Cert.Kernel11.τ).loc Cert.Kernel11.main_arg6))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
      ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
      ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4)
      ∧ r.2.mem ((c.tc : Thread Cert.Reference11Ideal.nD Cert.Reference11Ideal.τ).loc Cert.Reference11Ideal.main_arg5) = m ((c.tc : Thread Cert.Reference11Ideal.nD Cert.Reference11Ideal.τ).loc Cert.Reference11Ideal.main_arg5)
      ∧ r.2.mem ((c.tc : Thread Cert.Reference11Ideal.nD Cert.Reference11Ideal.τ).loc Cert.Reference11Ideal.main_arg6) = m ((c.tc : Thread Cert.Reference11Ideal.nD Cert.Reference11Ideal.τ).loc Cert.Reference11Ideal.main_arg6))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4)
      ∧ r.2.mem ((c.tc : Thread Cert.Kernel12.nD Cert.Kernel12.τ).loc Cert.Kernel12.main_arg5) = m ((c.tc : Thread Cert.Kernel12.nD Cert.Kernel12.τ).loc Cert.Kernel12.main_arg5)
      ∧ r.2.mem ((c.tc : Thread Cert.Kernel12.nD Cert.Kernel12.τ).loc Cert.Kernel12.main_arg6) = m ((c.tc : Thread Cert.Kernel12.nD Cert.Kernel12.τ).loc Cert.Kernel12.main_arg6)
      ∧ r.2.mem ((c.tc : Thread Cert.Kernel12.nD Cert.Kernel12.τ).loc Cert.Kernel12.main_arg7) = m ((c.tc : Thread Cert.Kernel12.nD Cert.Kernel12.τ).loc Cert.Kernel12.main_arg7))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
      ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5)
      ∧ r.2.mem ((c.tc : Thread Cert.Kernel12Ideal.nD Cert.Kernel12Ideal.τ).loc Cert.Kernel12Ideal.main_arg6) = m ((c.tc : Thread Cert.Kernel12Ideal.nD Cert.Kernel12Ideal.τ).loc Cert.Kernel12Ideal.main_arg6)
      ∧ r.2.mem ((c.tc : Thread Cert.Kernel12Ideal.nD Cert.Kernel12Ideal.τ).loc Cert.Kernel12Ideal.main_arg7) = m ((c.tc : Thread Cert.Kernel12Ideal.nD Cert.Kernel12Ideal.τ).loc Cert.Kernel12Ideal.main_arg7))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4)
      ∧ r.2.mem ((c.tc : Thread Cert.Reference12Ideal.nD Cert.Reference12Ideal.τ).loc Cert.Reference12Ideal.main_arg5) = m ((c.tc : Thread Cert.Reference12Ideal.nD Cert.Reference12Ideal.τ).loc Cert.Reference12Ideal.main_arg5)
      ∧ r.2.mem ((c.tc : Thread Cert.Reference12Ideal.nD Cert.Reference12Ideal.τ).loc Cert.Reference12Ideal.main_arg6) = m ((c.tc : Thread Cert.Reference12Ideal.nD Cert.Reference12Ideal.τ).loc Cert.Reference12Ideal.main_arg6)
      ∧ r.2.mem ((c.tc : Thread Cert.Reference12Ideal.nD Cert.Reference12Ideal.τ).loc Cert.Reference12Ideal.main_arg7) = m ((c.tc : Thread Cert.Reference12Ideal.nD Cert.Reference12Ideal.τ).loc Cert.Reference12Ideal.main_arg7))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4)
      ∧ r.2.mem ((c.tc : Thread Cert.Kernel13.nD Cert.Kernel13.τ).loc Cert.Kernel13.main_arg5) = m ((c.tc : Thread Cert.Kernel13.nD Cert.Kernel13.τ).loc Cert.Kernel13.main_arg5))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
      ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4)
      ∧ r.2.mem ((c.tc : Thread Cert.Reference13Ideal.nD Cert.Reference13Ideal.τ).loc Cert.Reference13Ideal.main_arg5) = m ((c.tc : Thread Cert.Reference13Ideal.nD Cert.Reference13Ideal.τ).loc Cert.Reference13Ideal.main_arg5))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3)
      ∧ r.2.mem ((c.tc : Thread Cert.Kernel19.nD Cert.Kernel19.τ).loc Cert.Kernel19.main_arg4) = m ((c.tc : Thread Cert.Kernel19.nD Cert.Kernel19.τ).loc Cert.Kernel19.main_arg4)
      ∧ r.2.mem ((c.tc : Thread Cert.Kernel19.nD Cert.Kernel19.τ).loc Cert.Kernel19.main_arg5) = m ((c.tc : Thread Cert.Kernel19.nD Cert.Kernel19.τ).loc Cert.Kernel19.main_arg5))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
      ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4)
      ∧ r.2.mem ((c.tc : Thread Cert.Kernel19Ideal.nD Cert.Kernel19Ideal.τ).loc Cert.Kernel19Ideal.main_arg5) = m ((c.tc : Thread Cert.Kernel19Ideal.nD Cert.Kernel19Ideal.τ).loc Cert.Kernel19Ideal.main_arg5))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3)
      ∧ r.2.mem ((c.tc : Thread Cert.Reference19Ideal.nD Cert.Reference19Ideal.τ).loc Cert.Reference19Ideal.main_arg4) = m ((c.tc : Thread Cert.Reference19Ideal.nD Cert.Reference19Ideal.τ).loc Cert.Reference19Ideal.main_arg4)
      ∧ r.2.mem ((c.tc : Thread Cert.Reference19Ideal.nD Cert.Reference19Ideal.τ).loc Cert.Reference19Ideal.main_arg5) = m ((c.tc : Thread Cert.Reference19Ideal.nD Cert.Reference19Ideal.τ).loc Cert.Reference19Ideal.main_arg5))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2)
      ∧ r.2.mem ((c.tc : Thread Cert.Kernel25.nD Cert.Kernel25.τ).loc Cert.Kernel25.main_arg3) = m ((c.tc : Thread Cert.Kernel25.nD Cert.Kernel25.τ).loc Cert.Kernel25.main_arg3)
      ∧ r.2.mem ((c.tc : Thread Cert.Kernel25.nD Cert.Kernel25.τ).loc Cert.Kernel25.main_arg4) = m ((c.tc : Thread Cert.Kernel25.nD Cert.Kernel25.τ).loc Cert.Kernel25.main_arg4))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
      ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3)
      ∧ r.2.mem ((c.tc : Thread Cert.Kernel25Ideal.nD Cert.Kernel25Ideal.τ).loc Cert.Kernel25Ideal.main_arg4) = m ((c.tc : Thread Cert.Kernel25Ideal.nD Cert.Kernel25Ideal.τ).loc Cert.Kernel25Ideal.main_arg4))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2)
      ∧ r.2.mem ((c.tc : Thread Cert.Reference25Ideal.nD Cert.Reference25Ideal.τ).loc Cert.Reference25Ideal.main_arg3) = m ((c.tc : Thread Cert.Reference25Ideal.nD Cert.Reference25Ideal.τ).loc Cert.Reference25Ideal.main_arg3)
      ∧ r.2.mem ((c.tc : Thread Cert.Reference25Ideal.nD Cert.Reference25Ideal.τ).loc Cert.Reference25Ideal.main_arg4) = m ((c.tc : Thread Cert.Reference25Ideal.nD Cert.Reference25Ideal.τ).loc Cert.Reference25Ideal.main_arg4))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1))
      ∧ r.2.sem = fun _ => 0)

def quiescent_Kernel30 [hKernel30 : Cert.Kernel30.Facts] : Prop :=
  ∀ (m : (ℓ : Loc Cert.Kernel30.nD Cert.Kernel30.τ Cert.Kernel30.sig) → Buf (Elt Bits) ℓ) (g : Dev Cert.Kernel30.nD → PrngReg), Pre_Kernel30 m →
    θ_run (Cert.Kernel30.defs (F := Bits)) (onTc (τ := Cert.Kernel30.τ) (Cert.Kernel30.main (F := Bits))) ⟨m, fun _ => 0, g⟩ (fun r => (∀ c : Dev Cert.Kernel30.nD,
      r.2.mem ((c.tc : Thread Cert.Kernel30.nD Cert.Kernel30.τ).loc Cert.Kernel30.main_arg0) = m ((c.tc : Thread Cert.Kernel30.nD Cert.Kernel30.τ).loc Cert.Kernel30.main_arg0)
      ∧ r.2.mem ((c.tc : Thread Cert.Kernel30.nD Cert.Kernel30.τ).loc Cert.Kernel30.main_arg1) = m ((c.tc : Thread Cert.Kernel30.nD Cert.Kernel30.τ).loc Cert.Kernel30.main_arg1))
      ∧ r.2.sem = fun _ => 0)

def quiescent_Kernel30Ideal [hKernel30Ideal : Cert.Kernel30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
      ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1))
      ∧ r.2.sem = fun _ => 0)

def quiescent_Reference30Ideal [hReference30Ideal : Cert.Reference30Ideal.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0)
      ∧ r.2.mem ((c.tc : Thread Cert.Reference30Ideal.nD Cert.Reference30Ideal.τ).loc Cert.Reference30Ideal.main_arg1) = m ((c.tc : Thread Cert.Reference30Ideal.nD Cert.Reference30Ideal.τ).loc Cert.Reference30Ideal.main_arg1))
      ∧ r.2.sem = fun _ => 0)

def quiescent_Kernel33 [hKernel33 : Cert.Kernel33.Facts] : Prop :=
  ∀ (m : (ℓ : Loc Cert.Kernel33.nD Cert.Kernel33.τ Cert.Kernel33.sig) → Buf (Elt Bits) ℓ) (g : Dev Cert.Kernel33.nD → PrngReg), Pre_Kernel33 m →
    θ_run (Cert.Kernel33.defs (F := Bits)) (onTc (τ := Cert.Kernel33.τ) (Cert.Kernel33.main (F := Bits))) ⟨m, fun _ => 0, g⟩ (fun r => (∀ c : Dev Cert.Kernel33.nD,
      r.2.mem ((c.tc : Thread Cert.Kernel33.nD Cert.Kernel33.τ).loc Cert.Kernel33.main_arg0) = m ((c.tc : Thread Cert.Kernel33.nD Cert.Kernel33.τ).loc Cert.Kernel33.main_arg0)
      ∧ r.2.mem ((c.tc : Thread Cert.Kernel33.nD Cert.Kernel33.τ).loc Cert.Kernel33.main_arg1) = m ((c.tc : Thread Cert.Kernel33.nD Cert.Kernel33.τ).loc Cert.Kernel33.main_arg1)
      ∧ r.2.mem ((c.tc : Thread Cert.Kernel33.nD Cert.Kernel33.τ).loc Cert.Kernel33.main_arg2) = m ((c.tc : Thread Cert.Kernel33.nD Cert.Kernel33.τ).loc Cert.Kernel33.main_arg2)
      ∧ r.2.mem ((c.tc : Thread Cert.Kernel33.nD Cert.Kernel33.τ).loc Cert.Kernel33.main_arg3) = m ((c.tc : Thread Cert.Kernel33.nD Cert.Kernel33.τ).loc Cert.Kernel33.main_arg3)
      ∧ r.2.mem ((c.tc : Thread Cert.Kernel33.nD Cert.Kernel33.τ).loc Cert.Kernel33.main_arg4) = m ((c.tc : Thread Cert.Kernel33.nD Cert.Kernel33.τ).loc Cert.Kernel33.main_arg4)
      ∧ r.2.mem ((c.tc : Thread Cert.Kernel33.nD Cert.Kernel33.τ).loc Cert.Kernel33.main_arg5) = m ((c.tc : Thread Cert.Kernel33.nD Cert.Kernel33.τ).loc Cert.Kernel33.main_arg5)
      ∧ r.2.mem ((c.tc : Thread Cert.Kernel33.nD Cert.Kernel33.τ).loc Cert.Kernel33.main_arg6) = m ((c.tc : Thread Cert.Kernel33.nD Cert.Kernel33.τ).loc Cert.Kernel33.main_arg6))
      ∧ r.2.sem = fun _ => 0)

def quiescent_Kernel33Ideal [hKernel33Ideal : Cert.Kernel33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg), Pre_Kernel33Ideal m →
    θ_run (Cert.Kernel33Ideal.defs (F := Ideal)) (onTc (τ := Cert.Kernel33Ideal.τ) (Cert.Kernel33Ideal.main (F := Ideal))) ⟨m, fun _ => 0, g⟩ (fun r => (∀ c : Dev Cert.Kernel33Ideal.nD,
      r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
      ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1)
      ∧ r.2.mem ((c.tc : Thread Cert.Kernel33Ideal.nD Cert.Kernel33Ideal.τ).loc Cert.Kernel33Ideal.main_arg2) = m ((c.tc : Thread Cert.Kernel33Ideal.nD Cert.Kernel33Ideal.τ).loc Cert.Kernel33Ideal.main_arg2)
      ∧ r.2.mem ((c.tc : Thread Cert.Kernel33Ideal.nD Cert.Kernel33Ideal.τ).loc Cert.Kernel33Ideal.main_arg3) = m ((c.tc : Thread Cert.Kernel33Ideal.nD Cert.Kernel33Ideal.τ).loc Cert.Kernel33Ideal.main_arg3)
      ∧ r.2.mem ((c.tc : Thread Cert.Kernel33Ideal.nD Cert.Kernel33Ideal.τ).loc Cert.Kernel33Ideal.main_arg4) = m ((c.tc : Thread Cert.Kernel33Ideal.nD Cert.Kernel33Ideal.τ).loc Cert.Kernel33Ideal.main_arg4)
      ∧ r.2.mem ((c.tc : Thread Cert.Kernel33Ideal.nD Cert.Kernel33Ideal.τ).loc Cert.Kernel33Ideal.main_arg5) = m ((c.tc : Thread Cert.Kernel33Ideal.nD Cert.Kernel33Ideal.τ).loc Cert.Kernel33Ideal.main_arg5)
      ∧ r.2.mem ((c.tc : Thread Cert.Kernel33Ideal.nD Cert.Kernel33Ideal.τ).loc Cert.Kernel33Ideal.main_arg6) = m ((c.tc : Thread Cert.Kernel33Ideal.nD Cert.Kernel33Ideal.τ).loc Cert.Kernel33Ideal.main_arg6))
      ∧ r.2.sem = fun _ => 0)

def quiescent_Reference33Ideal [hReference33Ideal : Cert.Reference33Ideal.Facts] : Prop :=
  ∀ (m : (ℓ : Loc Cert.Reference33Ideal.nD Cert.Reference33Ideal.τ Cert.Reference33Ideal.sig) → Buf (Elt Ideal) ℓ) (g : Dev Cert.Reference33Ideal.nD → PrngReg), Pre_Reference33Ideal m →
    θ_run (Cert.Reference33Ideal.defs (F := Ideal)) (onTc (τ := Cert.Reference33Ideal.τ) (Cert.Reference33Ideal.main (F := Ideal))) ⟨m, fun _ => 0, g⟩ (fun r => (∀ c : Dev Cert.Reference33Ideal.nD,
      r.2.mem ((c.tc : Thread Cert.Reference33Ideal.nD Cert.Reference33Ideal.τ).loc Cert.Reference33Ideal.main_arg0) = m ((c.tc : Thread Cert.Reference33Ideal.nD Cert.Reference33Ideal.τ).loc Cert.Reference33Ideal.main_arg0)
      ∧ r.2.mem ((c.tc : Thread Cert.Reference33Ideal.nD Cert.Reference33Ideal.τ).loc Cert.Reference33Ideal.main_arg1) = m ((c.tc : Thread Cert.Reference33Ideal.nD Cert.Reference33Ideal.τ).loc Cert.Reference33Ideal.main_arg1)
      ∧ r.2.mem ((c.tc : Thread Cert.Reference33Ideal.nD Cert.Reference33Ideal.τ).loc Cert.Reference33Ideal.main_arg2) = m ((c.tc : Thread Cert.Reference33Ideal.nD Cert.Reference33Ideal.τ).loc Cert.Reference33Ideal.main_arg2)
      ∧ r.2.mem ((c.tc : Thread Cert.Reference33Ideal.nD Cert.Reference33Ideal.τ).loc Cert.Reference33Ideal.main_arg3) = m ((c.tc : Thread Cert.Reference33Ideal.nD Cert.Reference33Ideal.τ).loc Cert.Reference33Ideal.main_arg3)
      ∧ r.2.mem ((c.tc : Thread Cert.Reference33Ideal.nD Cert.Reference33Ideal.τ).loc Cert.Reference33Ideal.main_arg4) = m ((c.tc : Thread Cert.Reference33Ideal.nD Cert.Reference33Ideal.τ).loc Cert.Reference33Ideal.main_arg4)
      ∧ r.2.mem ((c.tc : Thread Cert.Reference33Ideal.nD Cert.Reference33Ideal.τ).loc Cert.Reference33Ideal.main_arg5) = m ((c.tc : Thread Cert.Reference33Ideal.nD Cert.Reference33Ideal.τ).loc Cert.Reference33Ideal.main_arg5)
      ∧ r.2.mem ((c.tc : Thread Cert.Reference33Ideal.nD Cert.Reference33Ideal.τ).loc Cert.Reference33Ideal.main_arg6) = m ((c.tc : Thread Cert.Reference33Ideal.nD Cert.Reference33Ideal.τ).loc Cert.Reference33Ideal.main_arg6))
      ∧ r.2.sem = fun _ => 0)

def quiescent_Kernel34 [hKernel34 : Cert.Kernel34.Facts] : Prop :=
  ∀ (m : (ℓ : Loc Cert.Kernel34.nD Cert.Kernel34.τ Cert.Kernel34.sig) → Buf (Elt Bits) ℓ) (g : Dev Cert.Kernel34.nD → PrngReg), Pre_Kernel34 m →
    θ_run (Cert.Kernel34.defs (F := Bits)) (onTc (τ := Cert.Kernel34.τ) (Cert.Kernel34.main (F := Bits))) ⟨m, fun _ => 0, g⟩ (fun r => (∀ c : Dev Cert.Kernel34.nD,
      r.2.mem ((c.tc : Thread Cert.Kernel34.nD Cert.Kernel34.τ).loc Cert.Kernel34.main_arg0) = m ((c.tc : Thread Cert.Kernel34.nD Cert.Kernel34.τ).loc Cert.Kernel34.main_arg0)
      ∧ r.2.mem ((c.tc : Thread Cert.Kernel34.nD Cert.Kernel34.τ).loc Cert.Kernel34.main_arg1) = m ((c.tc : Thread Cert.Kernel34.nD Cert.Kernel34.τ).loc Cert.Kernel34.main_arg1)
      ∧ r.2.mem ((c.tc : Thread Cert.Kernel34.nD Cert.Kernel34.τ).loc Cert.Kernel34.main_arg2) = m ((c.tc : Thread Cert.Kernel34.nD Cert.Kernel34.τ).loc Cert.Kernel34.main_arg2)
      ∧ r.2.mem ((c.tc : Thread Cert.Kernel34.nD Cert.Kernel34.τ).loc Cert.Kernel34.main_arg3) = m ((c.tc : Thread Cert.Kernel34.nD Cert.Kernel34.τ).loc Cert.Kernel34.main_arg3)
      ∧ r.2.mem ((c.tc : Thread Cert.Kernel34.nD Cert.Kernel34.τ).loc Cert.Kernel34.main_arg4) = m ((c.tc : Thread Cert.Kernel34.nD Cert.Kernel34.τ).loc Cert.Kernel34.main_arg4)
      ∧ r.2.mem ((c.tc : Thread Cert.Kernel34.nD Cert.Kernel34.τ).loc Cert.Kernel34.main_arg5) = m ((c.tc : Thread Cert.Kernel34.nD Cert.Kernel34.τ).loc Cert.Kernel34.main_arg5)
      ∧ r.2.mem ((c.tc : Thread Cert.Kernel34.nD Cert.Kernel34.τ).loc Cert.Kernel34.main_arg6) = m ((c.tc : Thread Cert.Kernel34.nD Cert.Kernel34.τ).loc Cert.Kernel34.main_arg6)
      ∧ r.2.mem ((c.tc : Thread Cert.Kernel34.nD Cert.Kernel34.τ).loc Cert.Kernel34.main_arg7) = m ((c.tc : Thread Cert.Kernel34.nD Cert.Kernel34.τ).loc Cert.Kernel34.main_arg7)
      ∧ r.2.mem ((c.tc : Thread Cert.Kernel34.nD Cert.Kernel34.τ).loc Cert.Kernel34.main_arg8) = m ((c.tc : Thread Cert.Kernel34.nD Cert.Kernel34.τ).loc Cert.Kernel34.main_arg8)
      ∧ r.2.mem ((c.tc : Thread Cert.Kernel34.nD Cert.Kernel34.τ).loc Cert.Kernel34.main_arg9) = m ((c.tc : Thread Cert.Kernel34.nD Cert.Kernel34.τ).loc Cert.Kernel34.main_arg9)
      ∧ r.2.mem ((c.tc : Thread Cert.Kernel34.nD Cert.Kernel34.τ).loc Cert.Kernel34.main_arg10) = m ((c.tc : Thread Cert.Kernel34.nD Cert.Kernel34.τ).loc Cert.Kernel34.main_arg10)
      ∧ r.2.mem ((c.tc : Thread Cert.Kernel34.nD Cert.Kernel34.τ).loc Cert.Kernel34.main_arg11) = m ((c.tc : Thread Cert.Kernel34.nD Cert.Kernel34.τ).loc Cert.Kernel34.main_arg11)
      ∧ r.2.mem ((c.tc : Thread Cert.Kernel34.nD Cert.Kernel34.τ).loc Cert.Kernel34.main_arg12) = m ((c.tc : Thread Cert.Kernel34.nD Cert.Kernel34.τ).loc Cert.Kernel34.main_arg12))
      ∧ r.2.sem = fun _ => 0)

def quiescent_Kernel34Ideal [hKernel34Ideal : Cert.Kernel34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg), Pre_Kernel34Ideal m →
    θ_run (Cert.Kernel34Ideal.defs (F := Ideal)) (onTc (τ := Cert.Kernel34Ideal.τ) (Cert.Kernel34Ideal.main (F := Ideal))) ⟨m, fun _ => 0, g⟩ (fun r => (∀ c : Dev Cert.Kernel34Ideal.nD,
      r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
      ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1)
      ∧ r.2.mem ((c.tc : Thread Cert.Kernel34Ideal.nD Cert.Kernel34Ideal.τ).loc Cert.Kernel34Ideal.main_arg2) = m ((c.tc : Thread Cert.Kernel34Ideal.nD Cert.Kernel34Ideal.τ).loc Cert.Kernel34Ideal.main_arg2)
      ∧ r.2.mem ((c.tc : Thread Cert.Kernel34Ideal.nD Cert.Kernel34Ideal.τ).loc Cert.Kernel34Ideal.main_arg3) = m ((c.tc : Thread Cert.Kernel34Ideal.nD Cert.Kernel34Ideal.τ).loc Cert.Kernel34Ideal.main_arg3)
      ∧ r.2.mem ((c.tc : Thread Cert.Kernel34Ideal.nD Cert.Kernel34Ideal.τ).loc Cert.Kernel34Ideal.main_arg4) = m ((c.tc : Thread Cert.Kernel34Ideal.nD Cert.Kernel34Ideal.τ).loc Cert.Kernel34Ideal.main_arg4)
      ∧ r.2.mem ((c.tc : Thread Cert.Kernel34Ideal.nD Cert.Kernel34Ideal.τ).loc Cert.Kernel34Ideal.main_arg5) = m ((c.tc : Thread Cert.Kernel34Ideal.nD Cert.Kernel34Ideal.τ).loc Cert.Kernel34Ideal.main_arg5)
      ∧ r.2.mem ((c.tc : Thread Cert.Kernel34Ideal.nD Cert.Kernel34Ideal.τ).loc Cert.Kernel34Ideal.main_arg6) = m ((c.tc : Thread Cert.Kernel34Ideal.nD Cert.Kernel34Ideal.τ).loc Cert.Kernel34Ideal.main_arg6)
      ∧ r.2.mem ((c.tc : Thread Cert.Kernel34Ideal.nD Cert.Kernel34Ideal.τ).loc Cert.Kernel34Ideal.main_arg7) = m ((c.tc : Thread Cert.Kernel34Ideal.nD Cert.Kernel34Ideal.τ).loc Cert.Kernel34Ideal.main_arg7)
      ∧ r.2.mem ((c.tc : Thread Cert.Kernel34Ideal.nD Cert.Kernel34Ideal.τ).loc Cert.Kernel34Ideal.main_arg8) = m ((c.tc : Thread Cert.Kernel34Ideal.nD Cert.Kernel34Ideal.τ).loc Cert.Kernel34Ideal.main_arg8)
      ∧ r.2.mem ((c.tc : Thread Cert.Kernel34Ideal.nD Cert.Kernel34Ideal.τ).loc Cert.Kernel34Ideal.main_arg9) = m ((c.tc : Thread Cert.Kernel34Ideal.nD Cert.Kernel34Ideal.τ).loc Cert.Kernel34Ideal.main_arg9)
      ∧ r.2.mem ((c.tc : Thread Cert.Kernel34Ideal.nD Cert.Kernel34Ideal.τ).loc Cert.Kernel34Ideal.main_arg10) = m ((c.tc : Thread Cert.Kernel34Ideal.nD Cert.Kernel34Ideal.τ).loc Cert.Kernel34Ideal.main_arg10)
      ∧ r.2.mem ((c.tc : Thread Cert.Kernel34Ideal.nD Cert.Kernel34Ideal.τ).loc Cert.Kernel34Ideal.main_arg11) = m ((c.tc : Thread Cert.Kernel34Ideal.nD Cert.Kernel34Ideal.τ).loc Cert.Kernel34Ideal.main_arg11)
      ∧ r.2.mem ((c.tc : Thread Cert.Kernel34Ideal.nD Cert.Kernel34Ideal.τ).loc Cert.Kernel34Ideal.main_arg12) = m ((c.tc : Thread Cert.Kernel34Ideal.nD Cert.Kernel34Ideal.τ).loc Cert.Kernel34Ideal.main_arg12))
      ∧ r.2.sem = fun _ => 0)

def quiescent_Reference34Ideal [hReference34Ideal : Cert.Reference34Ideal.Facts] : Prop :=
  ∀ (m : (ℓ : Loc Cert.Reference34Ideal.nD Cert.Reference34Ideal.τ Cert.Reference34Ideal.sig) → Buf (Elt Ideal) ℓ) (g : Dev Cert.Reference34Ideal.nD → PrngReg), Pre_Reference34Ideal m →
    θ_run (Cert.Reference34Ideal.defs (F := Ideal)) (onTc (τ := Cert.Reference34Ideal.τ) (Cert.Reference34Ideal.main (F := Ideal))) ⟨m, fun _ => 0, g⟩ (fun r => (∀ c : Dev Cert.Reference34Ideal.nD,
      r.2.mem ((c.tc : Thread Cert.Reference34Ideal.nD Cert.Reference34Ideal.τ).loc Cert.Reference34Ideal.main_arg0) = m ((c.tc : Thread Cert.Reference34Ideal.nD Cert.Reference34Ideal.τ).loc Cert.Reference34Ideal.main_arg0)
      ∧ r.2.mem ((c.tc : Thread Cert.Reference34Ideal.nD Cert.Reference34Ideal.τ).loc Cert.Reference34Ideal.main_arg1) = m ((c.tc : Thread Cert.Reference34Ideal.nD Cert.Reference34Ideal.τ).loc Cert.Reference34Ideal.main_arg1)
      ∧ r.2.mem ((c.tc : Thread Cert.Reference34Ideal.nD Cert.Reference34Ideal.τ).loc Cert.Reference34Ideal.main_arg2) = m ((c.tc : Thread Cert.Reference34Ideal.nD Cert.Reference34Ideal.τ).loc Cert.Reference34Ideal.main_arg2)
      ∧ r.2.mem ((c.tc : Thread Cert.Reference34Ideal.nD Cert.Reference34Ideal.τ).loc Cert.Reference34Ideal.main_arg3) = m ((c.tc : Thread Cert.Reference34Ideal.nD Cert.Reference34Ideal.τ).loc Cert.Reference34Ideal.main_arg3)
      ∧ r.2.mem ((c.tc : Thread Cert.Reference34Ideal.nD Cert.Reference34Ideal.τ).loc Cert.Reference34Ideal.main_arg4) = m ((c.tc : Thread Cert.Reference34Ideal.nD Cert.Reference34Ideal.τ).loc Cert.Reference34Ideal.main_arg4)
      ∧ r.2.mem ((c.tc : Thread Cert.Reference34Ideal.nD Cert.Reference34Ideal.τ).loc Cert.Reference34Ideal.main_arg5) = m ((c.tc : Thread Cert.Reference34Ideal.nD Cert.Reference34Ideal.τ).loc Cert.Reference34Ideal.main_arg5)
      ∧ r.2.mem ((c.tc : Thread Cert.Reference34Ideal.nD Cert.Reference34Ideal.τ).loc Cert.Reference34Ideal.main_arg6) = m ((c.tc : Thread Cert.Reference34Ideal.nD Cert.Reference34Ideal.τ).loc Cert.Reference34Ideal.main_arg6)
      ∧ r.2.mem ((c.tc : Thread Cert.Reference34Ideal.nD Cert.Reference34Ideal.τ).loc Cert.Reference34Ideal.main_arg7) = m ((c.tc : Thread Cert.Reference34Ideal.nD Cert.Reference34Ideal.τ).loc Cert.Reference34Ideal.main_arg7)
      ∧ r.2.mem ((c.tc : Thread Cert.Reference34Ideal.nD Cert.Reference34Ideal.τ).loc Cert.Reference34Ideal.main_arg8) = m ((c.tc : Thread Cert.Reference34Ideal.nD Cert.Reference34Ideal.τ).loc Cert.Reference34Ideal.main_arg8)
      ∧ r.2.mem ((c.tc : Thread Cert.Reference34Ideal.nD Cert.Reference34Ideal.τ).loc Cert.Reference34Ideal.main_arg9) = m ((c.tc : Thread Cert.Reference34Ideal.nD Cert.Reference34Ideal.τ).loc Cert.Reference34Ideal.main_arg9)
      ∧ r.2.mem ((c.tc : Thread Cert.Reference34Ideal.nD Cert.Reference34Ideal.τ).loc Cert.Reference34Ideal.main_arg10) = m ((c.tc : Thread Cert.Reference34Ideal.nD Cert.Reference34Ideal.τ).loc Cert.Reference34Ideal.main_arg10)
      ∧ r.2.mem ((c.tc : Thread Cert.Reference34Ideal.nD Cert.Reference34Ideal.τ).loc Cert.Reference34Ideal.main_arg11) = m ((c.tc : Thread Cert.Reference34Ideal.nD Cert.Reference34Ideal.τ).loc Cert.Reference34Ideal.main_arg11)
      ∧ r.2.mem ((c.tc : Thread Cert.Reference34Ideal.nD Cert.Reference34Ideal.τ).loc Cert.Reference34Ideal.main_arg12) = m ((c.tc : Thread Cert.Reference34Ideal.nD Cert.Reference34Ideal.τ).loc Cert.Reference34Ideal.main_arg12))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_args [hKernelIdeal : Cert.KernelIdeal.Facts] [hReferenceIdeal : Cert.ReferenceIdeal.Facts] [hPre_finite_args : Cert.Pre_finite_args.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_args m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6)) (v1 : (c : Dev Cert.KernelIdeal.nD) → Buf (Elt Ideal) ((c.tc : Thread Cert.KernelIdeal.nD Cert.KernelIdeal.τ).loc Cert.KernelIdeal.main_v4_1)) (v2 : (c : Dev Cert.KernelIdeal.nD) → Buf (Elt Ideal) ((c.tc : Thread Cert.KernelIdeal.nD Cert.KernelIdeal.τ).loc Cert.KernelIdeal.main_v4_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_v4_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v128) = v0 c
          ∧ r.2.mem ((c.tc : Thread Cert.ReferenceIdeal.nD Cert.ReferenceIdeal.τ).loc Cert.ReferenceIdeal.main_v131) = v1 c
          ∧ r.2.mem ((c.tc : Thread Cert.ReferenceIdeal.nD Cert.ReferenceIdeal.τ).loc Cert.ReferenceIdeal.main_v134) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v9)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v9) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v14) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v9) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v9) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v7) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v4) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v9_0)) (v1 : (c : Dev Cert.Kernel7Ideal.nD) → Buf (Elt Ideal) ((c.tc : Thread Cert.Kernel7Ideal.nD Cert.Kernel7Ideal.τ).loc Cert.Kernel7Ideal.main_v9_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v9_0) = v0 c
          ∧ r.2.mem ((c.tc : Thread Cert.Kernel7Ideal.nD Cert.Kernel7Ideal.τ).loc Cert.Kernel7Ideal.main_v9_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v2) = v0 c
          ∧ r.2.mem ((c.tc : Thread Cert.Reference7Ideal.nD Cert.Reference7Ideal.τ).loc Cert.Reference7Ideal.main_v5) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v1) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v3) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v1) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v2) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v2) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v3) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)
      ∧ m' ((c.tc : Thread Cert.Reference11Ideal.nD Cert.Reference11Ideal.τ).loc Cert.Reference11Ideal.main_arg5) = m ((c.tc : Thread Cert.Kernel11Ideal.nD Cert.Kernel11Ideal.τ).loc Cert.Kernel11Ideal.main_arg5)
      ∧ m' ((c.tc : Thread Cert.Reference11Ideal.nD Cert.Reference11Ideal.τ).loc Cert.Reference11Ideal.main_arg6) = m ((c.tc : Thread Cert.Kernel11Ideal.nD Cert.Kernel11Ideal.τ).loc Cert.Kernel11Ideal.main_arg6)) →
    ∃ (v0 : (c : Dev Cert.Kernel11Ideal.nD) → Buf (Elt Ideal) ((c.tc : Thread Cert.Kernel11Ideal.nD Cert.Kernel11Ideal.τ).loc Cert.Kernel11Ideal.main_v9_0)) (v1 : (c : Dev Cert.Kernel11Ideal.nD) → Buf (Elt Ideal) ((c.tc : Thread Cert.Kernel11Ideal.nD Cert.Kernel11Ideal.τ).loc Cert.Kernel11Ideal.main_v9_1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v9_0) = v0 c
          ∧ r.2.mem ((c.tc : Thread Cert.Kernel11Ideal.nD Cert.Kernel11Ideal.τ).loc Cert.Kernel11Ideal.main_v9_1) = v1 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
          ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
          ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v2) = v0 c
          ∧ r.2.mem ((c.tc : Thread Cert.Reference11Ideal.nD Cert.Reference11Ideal.τ).loc Cert.Reference11Ideal.main_v15) = v1 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4)
          ∧ r.2.mem ((c.tc : Thread Cert.Reference11Ideal.nD Cert.Reference11Ideal.τ).loc Cert.Reference11Ideal.main_arg5) = m' ((c.tc : Thread Cert.Reference11Ideal.nD Cert.Reference11Ideal.τ).loc Cert.Reference11Ideal.main_arg5)
          ∧ r.2.mem ((c.tc : Thread Cert.Reference11Ideal.nD Cert.Reference11Ideal.τ).loc Cert.Reference11Ideal.main_arg6) = m' ((c.tc : Thread Cert.Reference11Ideal.nD Cert.Reference11Ideal.τ).loc Cert.Reference11Ideal.main_arg6))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)
      ∧ m' ((c.tc : Thread Cert.Reference12Ideal.nD Cert.Reference12Ideal.τ).loc Cert.Reference12Ideal.main_arg5) = m ((c.tc : Thread Cert.Kernel12Ideal.nD Cert.Kernel12Ideal.τ).loc Cert.Kernel12Ideal.main_arg5)
      ∧ m' ((c.tc : Thread Cert.Reference12Ideal.nD Cert.Reference12Ideal.τ).loc Cert.Reference12Ideal.main_arg6) = m ((c.tc : Thread Cert.Kernel12Ideal.nD Cert.Kernel12Ideal.τ).loc Cert.Kernel12Ideal.main_arg6)
      ∧ m' ((c.tc : Thread Cert.Reference12Ideal.nD Cert.Reference12Ideal.τ).loc Cert.Reference12Ideal.main_arg7) = m ((c.tc : Thread Cert.Kernel12Ideal.nD Cert.Kernel12Ideal.τ).loc Cert.Kernel12Ideal.main_arg7)) →
    ∃ (v0 : (c : Dev Cert.Kernel12Ideal.nD) → Buf (Elt Ideal) ((c.tc : Thread Cert.Kernel12Ideal.nD Cert.Kernel12Ideal.τ).loc Cert.Kernel12Ideal.main_v9_0)) (v1 : (c : Dev Cert.Kernel12Ideal.nD) → Buf (Elt Ideal) ((c.tc : Thread Cert.Kernel12Ideal.nD Cert.Kernel12Ideal.τ).loc Cert.Kernel12Ideal.main_v9_1)) (v2 : (c : Dev Cert.Kernel12Ideal.nD) → Buf (Elt Ideal) ((c.tc : Thread Cert.Kernel12Ideal.nD Cert.Kernel12Ideal.τ).loc Cert.Kernel12Ideal.main_v9_2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v9_0) = v0 c
          ∧ r.2.mem ((c.tc : Thread Cert.Kernel12Ideal.nD Cert.Kernel12Ideal.τ).loc Cert.Kernel12Ideal.main_v9_1) = v1 c
          ∧ r.2.mem ((c.tc : Thread Cert.Kernel12Ideal.nD Cert.Kernel12Ideal.τ).loc Cert.Kernel12Ideal.main_v9_2) = v2 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
          ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5)
          ∧ r.2.mem ((c.tc : Thread Cert.Kernel12Ideal.nD Cert.Kernel12Ideal.τ).loc Cert.Kernel12Ideal.main_arg6) = m ((c.tc : Thread Cert.Kernel12Ideal.nD Cert.Kernel12Ideal.τ).loc Cert.Kernel12Ideal.main_arg6)
          ∧ r.2.mem ((c.tc : Thread Cert.Kernel12Ideal.nD Cert.Kernel12Ideal.τ).loc Cert.Kernel12Ideal.main_arg7) = m ((c.tc : Thread Cert.Kernel12Ideal.nD Cert.Kernel12Ideal.τ).loc Cert.Kernel12Ideal.main_arg7))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v37) = v0 c
          ∧ r.2.mem ((c.tc : Thread Cert.Reference12Ideal.nD Cert.Reference12Ideal.τ).loc Cert.Reference12Ideal.main_v38) = v1 c
          ∧ r.2.mem ((c.tc : Thread Cert.Reference12Ideal.nD Cert.Reference12Ideal.τ).loc Cert.Reference12Ideal.main_v20) = v2 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4)
          ∧ r.2.mem ((c.tc : Thread Cert.Reference12Ideal.nD Cert.Reference12Ideal.τ).loc Cert.Reference12Ideal.main_arg5) = m' ((c.tc : Thread Cert.Reference12Ideal.nD Cert.Reference12Ideal.τ).loc Cert.Reference12Ideal.main_arg5)
          ∧ r.2.mem ((c.tc : Thread Cert.Reference12Ideal.nD Cert.Reference12Ideal.τ).loc Cert.Reference12Ideal.main_arg6) = m' ((c.tc : Thread Cert.Reference12Ideal.nD Cert.Reference12Ideal.τ).loc Cert.Reference12Ideal.main_arg6)
          ∧ r.2.mem ((c.tc : Thread Cert.Reference12Ideal.nD Cert.Reference12Ideal.τ).loc Cert.Reference12Ideal.main_arg7) = m' ((c.tc : Thread Cert.Reference12Ideal.nD Cert.Reference12Ideal.τ).loc Cert.Reference12Ideal.main_arg7))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
      ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)
      ∧ m' ((c.tc : Thread Cert.Reference13Ideal.nD Cert.Reference13Ideal.τ).loc Cert.Reference13Ideal.main_arg5) = m ((c.tc : Thread Cert.Kernel13Ideal.nD Cert.Kernel13Ideal.τ).loc Cert.Kernel13Ideal.main_arg5)) →
    ∃ (v0 : (c : Dev Cert.Kernel13Ideal.nD) → Buf (Elt Ideal) ((c.tc : Thread Cert.Kernel13Ideal.nD Cert.Kernel13Ideal.τ).loc Cert.Kernel13Ideal.main_v2_0)) (v1 : (c : Dev Cert.Kernel13Ideal.nD) → Buf (Elt Ideal) ((c.tc : Thread Cert.Kernel13Ideal.nD Cert.Kernel13Ideal.τ).loc Cert.Kernel13Ideal.main_v2_1)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v2_0) = v0 c
          ∧ r.2.mem ((c.tc : Thread Cert.Kernel13Ideal.nD Cert.Kernel13Ideal.τ).loc Cert.Kernel13Ideal.main_v2_1) = v1 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
          ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
          ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v39) = v0 c
          ∧ r.2.mem ((c.tc : Thread Cert.Reference13Ideal.nD Cert.Reference13Ideal.τ).loc Cert.Reference13Ideal.main_v22) = v1 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3)
          ∧ r.2.mem ((c.tc : Thread Cert.Reference13Ideal.nD Cert.Reference13Ideal.τ).loc Cert.Reference13Ideal.main_arg4) = m' ((c.tc : Thread Cert.Reference13Ideal.nD Cert.Reference13Ideal.τ).loc Cert.Reference13Ideal.main_arg4)
          ∧ r.2.mem ((c.tc : Thread Cert.Reference13Ideal.nD Cert.Reference13Ideal.τ).loc Cert.Reference13Ideal.main_arg5) = m' ((c.tc : Thread Cert.Reference13Ideal.nD Cert.Reference13Ideal.τ).loc Cert.Reference13Ideal.main_arg5))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
      ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)) →
    ∃ (v0 : (c : Dev Cert.Kernel14Ideal.nD) → Buf (Elt Ideal) ((c.tc : Thread Cert.Kernel14Ideal.nD Cert.Kernel14Ideal.τ).loc Cert.Kernel14Ideal.main_v1_0)) (v1 : (c : Dev Cert.Kernel14Ideal.nD) → Buf (Elt Ideal) ((c.tc : Thread Cert.Kernel14Ideal.nD Cert.Kernel14Ideal.τ).loc Cert.Kernel14Ideal.main_v1_1)) (v2 : (c : Dev Cert.Kernel14Ideal.nD) → Buf (Elt Ideal) ((c.tc : Thread Cert.Kernel14Ideal.nD Cert.Kernel14Ideal.τ).loc Cert.Kernel14Ideal.main_v1_2)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v1_0) = v0 c
          ∧ r.2.mem ((c.tc : Thread Cert.Kernel14Ideal.nD Cert.Kernel14Ideal.τ).loc Cert.Kernel14Ideal.main_v1_1) = v1 c
          ∧ r.2.mem ((c.tc : Thread Cert.Kernel14Ideal.nD Cert.Kernel14Ideal.τ).loc Cert.Kernel14Ideal.main_v1_2) = v2 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
          ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v37) = v0 c
          ∧ r.2.mem ((c.tc : Thread Cert.Reference14Ideal.nD Cert.Reference14Ideal.τ).loc Cert.Reference14Ideal.main_v38) = v1 c
          ∧ r.2.mem ((c.tc : Thread Cert.Reference14Ideal.nD Cert.Reference14Ideal.τ).loc Cert.Reference14Ideal.main_v20) = v2 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3)
          ∧ r.2.mem ((c.tc : Thread Cert.Reference14Ideal.nD Cert.Reference14Ideal.τ).loc Cert.Reference14Ideal.main_arg4) = m' ((c.tc : Thread Cert.Reference14Ideal.nD Cert.Reference14Ideal.τ).loc Cert.Reference14Ideal.main_arg4))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)) →
    ∃ (v0 : (c : Dev Cert.Kernel15Ideal.nD) → Buf (Elt Ideal) ((c.tc : Thread Cert.Kernel15Ideal.nD Cert.Kernel15Ideal.τ).loc Cert.Kernel15Ideal.main_v1_0)) (v1 : (c : Dev Cert.Kernel15Ideal.nD) → Buf (Elt Ideal) ((c.tc : Thread Cert.Kernel15Ideal.nD Cert.Kernel15Ideal.τ).loc Cert.Kernel15Ideal.main_v1_1)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v1_0) = v0 c
          ∧ r.2.mem ((c.tc : Thread Cert.Kernel15Ideal.nD Cert.Kernel15Ideal.τ).loc Cert.Kernel15Ideal.main_v1_1) = v1 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v2) = v0 c
          ∧ r.2.mem ((c.tc : Thread Cert.Reference15Ideal.nD Cert.Reference15Ideal.τ).loc Cert.Reference15Ideal.main_v15) = v1 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v1)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v1) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v2) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)) →
    ∃ (v0 : (c : Dev Cert.Kernel17Ideal.nD) → Buf (Elt Ideal) ((c.tc : Thread Cert.Kernel17Ideal.nD Cert.Kernel17Ideal.τ).loc Cert.Kernel17Ideal.main_v1_0)) (v1 : (c : Dev Cert.Kernel17Ideal.nD) → Buf (Elt Ideal) ((c.tc : Thread Cert.Kernel17Ideal.nD Cert.Kernel17Ideal.τ).loc Cert.Kernel17Ideal.main_v1_1)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v1_0) = v0 c
          ∧ r.2.mem ((c.tc : Thread Cert.Kernel17Ideal.nD Cert.Kernel17Ideal.τ).loc Cert.Kernel17Ideal.main_v1_1) = v1 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v2) = v0 c
          ∧ r.2.mem ((c.tc : Thread Cert.Reference17Ideal.nD Cert.Reference17Ideal.τ).loc Cert.Reference17Ideal.main_v22) = v1 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v1)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v1) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v0) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)
      ∧ m' ((c.tc : Thread Cert.Reference19Ideal.nD Cert.Reference19Ideal.τ).loc Cert.Reference19Ideal.main_arg4) = m ((c.tc : Thread Cert.Kernel19Ideal.nD Cert.Kernel19Ideal.τ).loc Cert.Kernel19Ideal.main_arg4)
      ∧ m' ((c.tc : Thread Cert.Reference19Ideal.nD Cert.Reference19Ideal.τ).loc Cert.Reference19Ideal.main_arg5) = m ((c.tc : Thread Cert.Kernel19Ideal.nD Cert.Kernel19Ideal.τ).loc Cert.Kernel19Ideal.main_arg5)) →
    ∃ (v0 : (c : Dev Cert.Kernel19Ideal.nD) → Buf (Elt Ideal) ((c.tc : Thread Cert.Kernel19Ideal.nD Cert.Kernel19Ideal.τ).loc Cert.Kernel19Ideal.main_v1_0)) (v1 : (c : Dev Cert.Kernel19Ideal.nD) → Buf (Elt Ideal) ((c.tc : Thread Cert.Kernel19Ideal.nD Cert.Kernel19Ideal.τ).loc Cert.Kernel19Ideal.main_v1_1)) (v2 : (c : Dev Cert.Kernel19Ideal.nD) → Buf (Elt Ideal) ((c.tc : Thread Cert.Kernel19Ideal.nD Cert.Kernel19Ideal.τ).loc Cert.Kernel19Ideal.main_v1_2)) (v3 : (c : Dev Cert.Kernel19Ideal.nD) → Buf (Elt Ideal) ((c.tc : Thread Cert.Kernel19Ideal.nD Cert.Kernel19Ideal.τ).loc Cert.Kernel19Ideal.main_v1_3)) (v4 : (c : Dev Cert.Kernel19Ideal.nD) → Buf (Elt Ideal) ((c.tc : Thread Cert.Kernel19Ideal.nD Cert.Kernel19Ideal.τ).loc Cert.Kernel19Ideal.main_v1_4)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v1_0) = v0 c
          ∧ r.2.mem ((c.tc : Thread Cert.Kernel19Ideal.nD Cert.Kernel19Ideal.τ).loc Cert.Kernel19Ideal.main_v1_1) = v1 c
          ∧ r.2.mem ((c.tc : Thread Cert.Kernel19Ideal.nD Cert.Kernel19Ideal.τ).loc Cert.Kernel19Ideal.main_v1_2) = v2 c
          ∧ r.2.mem ((c.tc : Thread Cert.Kernel19Ideal.nD Cert.Kernel19Ideal.τ).loc Cert.Kernel19Ideal.main_v1_3) = v3 c
          ∧ r.2.mem ((c.tc : Thread Cert.Kernel19Ideal.nD Cert.Kernel19Ideal.τ).loc Cert.Kernel19Ideal.main_v1_4) = v4 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
          ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4)
          ∧ r.2.mem ((c.tc : Thread Cert.Kernel19Ideal.nD Cert.Kernel19Ideal.τ).loc Cert.Kernel19Ideal.main_arg5) = m ((c.tc : Thread Cert.Kernel19Ideal.nD Cert.Kernel19Ideal.τ).loc Cert.Kernel19Ideal.main_arg5))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v61) = v0 c
          ∧ r.2.mem ((c.tc : Thread Cert.Reference19Ideal.nD Cert.Reference19Ideal.τ).loc Cert.Reference19Ideal.main_v65) = v1 c
          ∧ r.2.mem ((c.tc : Thread Cert.Reference19Ideal.nD Cert.Reference19Ideal.τ).loc Cert.Reference19Ideal.main_v66) = v2 c
          ∧ r.2.mem ((c.tc : Thread Cert.Reference19Ideal.nD Cert.Reference19Ideal.τ).loc Cert.Reference19Ideal.main_v67) = v3 c
          ∧ r.2.mem ((c.tc : Thread Cert.Reference19Ideal.nD Cert.Reference19Ideal.τ).loc Cert.Reference19Ideal.main_v45) = v4 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3)
          ∧ r.2.mem ((c.tc : Thread Cert.Reference19Ideal.nD Cert.Reference19Ideal.τ).loc Cert.Reference19Ideal.main_arg4) = m' ((c.tc : Thread Cert.Reference19Ideal.nD Cert.Reference19Ideal.τ).loc Cert.Reference19Ideal.main_arg4)
          ∧ r.2.mem ((c.tc : Thread Cert.Reference19Ideal.nD Cert.Reference19Ideal.τ).loc Cert.Reference19Ideal.main_arg5) = m' ((c.tc : Thread Cert.Reference19Ideal.nD Cert.Reference19Ideal.τ).loc Cert.Reference19Ideal.main_arg5))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)) →
    ∃ (v0 : (c : Dev Cert.Kernel20Ideal.nD) → Buf (Elt Ideal) ((c.tc : Thread Cert.Kernel20Ideal.nD Cert.Kernel20Ideal.τ).loc Cert.Kernel20Ideal.main_v1)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v1) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v6) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)) →
    ∃ (v0 : (c : Dev Cert.Kernel21Ideal.nD) → Buf (Elt Ideal) ((c.tc : Thread Cert.Kernel21Ideal.nD Cert.Kernel21Ideal.τ).loc Cert.Kernel21Ideal.main_v0)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v9) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)) →
    ∃ (v0 : (c : Dev Cert.Kernel22Ideal.nD) → Buf (Elt Ideal) ((c.tc : Thread Cert.Kernel22Ideal.nD Cert.Kernel22Ideal.τ).loc Cert.Kernel22Ideal.main_v0)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0) = v0 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v4) = v0 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)) →
    ∃ (v0 : (c : Dev Cert.Kernel23Ideal.nD) → Buf (Elt Ideal) ((c.tc : Thread Cert.Kernel23Ideal.nD Cert.Kernel23Ideal.τ).loc Cert.Kernel23Ideal.main_v0)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0) = v0 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v5) = v0 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)) →
    ∃ (v0 : (c : Dev Cert.Kernel24Ideal.nD) → Buf (Elt Ideal) ((c.tc : Thread Cert.Kernel24Ideal.nD Cert.Kernel24Ideal.τ).loc Cert.Kernel24Ideal.main_v0)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0) = v0 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v5) = v0 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)
      ∧ m' ((c.tc : Thread Cert.Reference25Ideal.nD Cert.Reference25Ideal.τ).loc Cert.Reference25Ideal.main_arg3) = m ((c.tc : Thread Cert.Kernel25Ideal.nD Cert.Kernel25Ideal.τ).loc Cert.Kernel25Ideal.main_arg3)
      ∧ m' ((c.tc : Thread Cert.Reference25Ideal.nD Cert.Reference25Ideal.τ).loc Cert.Reference25Ideal.main_arg4) = m ((c.tc : Thread Cert.Kernel25Ideal.nD Cert.Kernel25Ideal.τ).loc Cert.Kernel25Ideal.main_arg4)) →
    ∃ (v0 : (c : Dev Cert.Kernel25Ideal.nD) → Buf (Elt Ideal) ((c.tc : Thread Cert.Kernel25Ideal.nD Cert.Kernel25Ideal.τ).loc Cert.Kernel25Ideal.main_v1_0)) (v1 : (c : Dev Cert.Kernel25Ideal.nD) → Buf (Elt Ideal) ((c.tc : Thread Cert.Kernel25Ideal.nD Cert.Kernel25Ideal.τ).loc Cert.Kernel25Ideal.main_v1_1)) (v2 : (c : Dev Cert.Kernel25Ideal.nD) → Buf (Elt Ideal) ((c.tc : Thread Cert.Kernel25Ideal.nD Cert.Kernel25Ideal.τ).loc Cert.Kernel25Ideal.main_v1_2)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v1_0) = v0 c
          ∧ r.2.mem ((c.tc : Thread Cert.Kernel25Ideal.nD Cert.Kernel25Ideal.τ).loc Cert.Kernel25Ideal.main_v1_1) = v1 c
          ∧ r.2.mem ((c.tc : Thread Cert.Kernel25Ideal.nD Cert.Kernel25Ideal.τ).loc Cert.Kernel25Ideal.main_v1_2) = v2 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
          ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3)
          ∧ r.2.mem ((c.tc : Thread Cert.Kernel25Ideal.nD Cert.Kernel25Ideal.τ).loc Cert.Kernel25Ideal.main_arg4) = m ((c.tc : Thread Cert.Kernel25Ideal.nD Cert.Kernel25Ideal.τ).loc Cert.Kernel25Ideal.main_arg4))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v36) = v0 c
          ∧ r.2.mem ((c.tc : Thread Cert.Reference25Ideal.nD Cert.Reference25Ideal.τ).loc Cert.Reference25Ideal.main_v37) = v1 c
          ∧ r.2.mem ((c.tc : Thread Cert.Reference25Ideal.nD Cert.Reference25Ideal.τ).loc Cert.Reference25Ideal.main_v38) = v2 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2)
          ∧ r.2.mem ((c.tc : Thread Cert.Reference25Ideal.nD Cert.Reference25Ideal.τ).loc Cert.Reference25Ideal.main_arg3) = m' ((c.tc : Thread Cert.Reference25Ideal.nD Cert.Reference25Ideal.τ).loc Cert.Reference25Ideal.main_arg3)
          ∧ r.2.mem ((c.tc : Thread Cert.Reference25Ideal.nD Cert.Reference25Ideal.τ).loc Cert.Reference25Ideal.main_arg4) = m' ((c.tc : Thread Cert.Reference25Ideal.nD Cert.Reference25Ideal.τ).loc Cert.Reference25Ideal.main_arg4))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)) →
    ∃ (v0 : (c : Dev Cert.Kernel26Ideal.nD) → Buf (Elt Ideal) ((c.tc : Thread Cert.Kernel26Ideal.nD Cert.Kernel26Ideal.τ).loc Cert.Kernel26Ideal.main_v1)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v1) = v0 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v4) = v0 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)) →
    ∃ (v0 : (c : Dev Cert.Kernel27Ideal.nD) → Buf (Elt Ideal) ((c.tc : Thread Cert.Kernel27Ideal.nD Cert.Kernel27Ideal.τ).loc Cert.Kernel27Ideal.main_v1)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v1) = v0 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v3) = v0 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)) →
    ∃ (v0 : (c : Dev Cert.Kernel28Ideal.nD) → Buf (Elt Ideal) ((c.tc : Thread Cert.Kernel28Ideal.nD Cert.Kernel28Ideal.τ).loc Cert.Kernel28Ideal.main_v0)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v0) = v0 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v12) = v0 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1))

def preserves_Kernel30_Kernel30Ideal : Prop :=
  True

def algebraic_Kernel30Ideal_Reference30Ideal [hKernel30Ideal : Cert.Kernel30Ideal.Facts] [hReference30Ideal : Cert.Reference30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg)
    (m' : (ℓ : Loc Cert.Reference30Ideal.nD Cert.Reference30Ideal.τ Cert.Reference30Ideal.sig) → Buf (Elt Ideal) ℓ) (g' : Dev Cert.Reference30Ideal.nD → PrngReg), Pre_Kernel30Ideal m →
    (∀ c : Dev Cert.Kernel30Ideal.nD,
      m' ((c.tc : Thread Cert.Reference30Ideal.nD Cert.Reference30Ideal.τ).loc Cert.Reference30Ideal.main_arg0) = m ((c.tc : Thread Cert.Kernel30Ideal.nD Cert.Kernel30Ideal.τ).loc Cert.Kernel30Ideal.main_arg0)
      ∧ m' ((c.tc : Thread Cert.Reference30Ideal.nD Cert.Reference30Ideal.τ).loc Cert.Reference30Ideal.main_arg1) = m ((c.tc : Thread Cert.Kernel30Ideal.nD Cert.Kernel30Ideal.τ).loc Cert.Kernel30Ideal.main_arg1)) →
    ∃ (v0 : (c : Dev Cert.Kernel30Ideal.nD) → Buf (Elt Ideal) ((c.tc : Thread Cert.Kernel30Ideal.nD Cert.Kernel30Ideal.τ).loc Cert.Kernel30Ideal.main_v0)),
      θ_run (Cert.Kernel30Ideal.defs (F := Ideal)) (onTc (τ := Cert.Kernel30Ideal.τ) (Cert.Kernel30Ideal.main (F := Ideal))) ⟨m, fun _ => 0, g⟩ (fun r => ∀ c : Dev Cert.Kernel30Ideal.nD,
          r.2.mem ((c.tc : Thread Cert.Kernel30Ideal.nD Cert.Kernel30Ideal.τ).loc Cert.Kernel30Ideal.main_v0) = v0 c
          ∧ r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
          ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1))
      ∧ θ_run (Cert.Reference30Ideal.defs (F := Ideal)) (onTc (τ := Cert.Reference30Ideal.τ) (Cert.Reference30Ideal.main (F := Ideal))) ⟨m', fun _ => 0, g'⟩ (fun r => ∀ c : Dev Cert.Reference30Ideal.nD,
          r.2.mem ((c.tc : Thread Cert.Reference30Ideal.nD Cert.Reference30Ideal.τ).loc Cert.Reference30Ideal.main_v70) = v0 c
          ∧ r.2.mem ((c.tc : Thread Cert.Reference30Ideal.nD Cert.Reference30Ideal.τ).loc Cert.Reference30Ideal.main_arg0) = m' ((c.tc : Thread Cert.Reference30Ideal.nD Cert.Reference30Ideal.τ).loc Cert.Reference30Ideal.main_arg0)
          ∧ r.2.mem ((c.tc : Thread Cert.Reference30Ideal.nD Cert.Reference30Ideal.τ).loc Cert.Reference30Ideal.main_arg1) = m' ((c.tc : Thread Cert.Reference30Ideal.nD Cert.Reference30Ideal.τ).loc Cert.Reference30Ideal.main_arg1))

def preserves_Kernel33_Kernel33Ideal : Prop :=
  True

def algebraic_Kernel33Ideal_Reference33Ideal [hKernel33Ideal : Cert.Kernel33Ideal.Facts] [hReference33Ideal : Cert.Reference33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg)
    (m' : (ℓ : Loc Cert.Reference33Ideal.nD Cert.Reference33Ideal.τ Cert.Reference33Ideal.sig) → Buf (Elt Ideal) ℓ) (g' : Dev Cert.Reference33Ideal.nD → PrngReg), Pre_Kernel33Ideal m →
    (∀ c : Dev Cert.Kernel33Ideal.nD,
      m' ((c.tc : Thread Cert.Reference33Ideal.nD Cert.Reference33Ideal.τ).loc Cert.Reference33Ideal.main_arg0) = m ((c.tc : Thread Cert.Kernel33Ideal.nD Cert.Kernel33Ideal.τ).loc Cert.Kernel33Ideal.main_arg0)
      ∧ m' ((c.tc : Thread Cert.Reference33Ideal.nD Cert.Reference33Ideal.τ).loc Cert.Reference33Ideal.main_arg1) = m ((c.tc : Thread Cert.Kernel33Ideal.nD Cert.Kernel33Ideal.τ).loc Cert.Kernel33Ideal.main_arg1)
      ∧ m' ((c.tc : Thread Cert.Reference33Ideal.nD Cert.Reference33Ideal.τ).loc Cert.Reference33Ideal.main_arg2) = m ((c.tc : Thread Cert.Kernel33Ideal.nD Cert.Kernel33Ideal.τ).loc Cert.Kernel33Ideal.main_arg2)
      ∧ m' ((c.tc : Thread Cert.Reference33Ideal.nD Cert.Reference33Ideal.τ).loc Cert.Reference33Ideal.main_arg3) = m ((c.tc : Thread Cert.Kernel33Ideal.nD Cert.Kernel33Ideal.τ).loc Cert.Kernel33Ideal.main_arg3)
      ∧ m' ((c.tc : Thread Cert.Reference33Ideal.nD Cert.Reference33Ideal.τ).loc Cert.Reference33Ideal.main_arg4) = m ((c.tc : Thread Cert.Kernel33Ideal.nD Cert.Kernel33Ideal.τ).loc Cert.Kernel33Ideal.main_arg4)
      ∧ m' ((c.tc : Thread Cert.Reference33Ideal.nD Cert.Reference33Ideal.τ).loc Cert.Reference33Ideal.main_arg5) = m ((c.tc : Thread Cert.Kernel33Ideal.nD Cert.Kernel33Ideal.τ).loc Cert.Kernel33Ideal.main_arg5)
      ∧ m' ((c.tc : Thread Cert.Reference33Ideal.nD Cert.Reference33Ideal.τ).loc Cert.Reference33Ideal.main_arg6) = m ((c.tc : Thread Cert.Kernel33Ideal.nD Cert.Kernel33Ideal.τ).loc Cert.Kernel33Ideal.main_arg6)) →
    ∃ (v0 : (c : Dev Cert.Kernel33Ideal.nD) → Buf (Elt Ideal) ((c.tc : Thread Cert.Kernel33Ideal.nD Cert.Kernel33Ideal.τ).loc Cert.Kernel33Ideal.main_v0_0)) (v1 : (c : Dev Cert.Kernel33Ideal.nD) → Buf (Elt Ideal) ((c.tc : Thread Cert.Kernel33Ideal.nD Cert.Kernel33Ideal.τ).loc Cert.Kernel33Ideal.main_v0_1)) (v2 : (c : Dev Cert.Kernel33Ideal.nD) → Buf (Elt Ideal) ((c.tc : Thread Cert.Kernel33Ideal.nD Cert.Kernel33Ideal.τ).loc Cert.Kernel33Ideal.main_v0_2)) (v3 : (c : Dev Cert.Kernel33Ideal.nD) → Buf (Elt Ideal) ((c.tc : Thread Cert.Kernel33Ideal.nD Cert.Kernel33Ideal.τ).loc Cert.Kernel33Ideal.main_v0_3)) (v4 : (c : Dev Cert.Kernel33Ideal.nD) → Buf (Elt Ideal) ((c.tc : Thread Cert.Kernel33Ideal.nD Cert.Kernel33Ideal.τ).loc Cert.Kernel33Ideal.main_v0_4)) (v5 : (c : Dev Cert.Kernel33Ideal.nD) → Buf (Elt Ideal) ((c.tc : Thread Cert.Kernel33Ideal.nD Cert.Kernel33Ideal.τ).loc Cert.Kernel33Ideal.main_v0_5)),
      θ_run (Cert.Kernel33Ideal.defs (F := Ideal)) (onTc (τ := Cert.Kernel33Ideal.τ) (Cert.Kernel33Ideal.main (F := Ideal))) ⟨m, fun _ => 0, g⟩ (fun r => ∀ c : Dev Cert.Kernel33Ideal.nD,
          r.2.mem ((c.tc : Thread Cert.Kernel33Ideal.nD Cert.Kernel33Ideal.τ).loc Cert.Kernel33Ideal.main_v0_0) = v0 c
          ∧ r.2.mem ((c.tc : Thread Cert.Kernel33Ideal.nD Cert.Kernel33Ideal.τ).loc Cert.Kernel33Ideal.main_v0_1) = v1 c
          ∧ r.2.mem ((c.tc : Thread Cert.Kernel33Ideal.nD Cert.Kernel33Ideal.τ).loc Cert.Kernel33Ideal.main_v0_2) = v2 c
          ∧ r.2.mem ((c.tc : Thread Cert.Kernel33Ideal.nD Cert.Kernel33Ideal.τ).loc Cert.Kernel33Ideal.main_v0_3) = v3 c
          ∧ r.2.mem ((c.tc : Thread Cert.Kernel33Ideal.nD Cert.Kernel33Ideal.τ).loc Cert.Kernel33Ideal.main_v0_4) = v4 c
          ∧ r.2.mem ((c.tc : Thread Cert.Kernel33Ideal.nD Cert.Kernel33Ideal.τ).loc Cert.Kernel33Ideal.main_v0_5) = v5 c
          ∧ r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
          ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1)
          ∧ r.2.mem ((c.tc : Thread Cert.Kernel33Ideal.nD Cert.Kernel33Ideal.τ).loc Cert.Kernel33Ideal.main_arg2) = m ((c.tc : Thread Cert.Kernel33Ideal.nD Cert.Kernel33Ideal.τ).loc Cert.Kernel33Ideal.main_arg2)
          ∧ r.2.mem ((c.tc : Thread Cert.Kernel33Ideal.nD Cert.Kernel33Ideal.τ).loc Cert.Kernel33Ideal.main_arg3) = m ((c.tc : Thread Cert.Kernel33Ideal.nD Cert.Kernel33Ideal.τ).loc Cert.Kernel33Ideal.main_arg3)
          ∧ r.2.mem ((c.tc : Thread Cert.Kernel33Ideal.nD Cert.Kernel33Ideal.τ).loc Cert.Kernel33Ideal.main_arg4) = m ((c.tc : Thread Cert.Kernel33Ideal.nD Cert.Kernel33Ideal.τ).loc Cert.Kernel33Ideal.main_arg4)
          ∧ r.2.mem ((c.tc : Thread Cert.Kernel33Ideal.nD Cert.Kernel33Ideal.τ).loc Cert.Kernel33Ideal.main_arg5) = m ((c.tc : Thread Cert.Kernel33Ideal.nD Cert.Kernel33Ideal.τ).loc Cert.Kernel33Ideal.main_arg5)
          ∧ r.2.mem ((c.tc : Thread Cert.Kernel33Ideal.nD Cert.Kernel33Ideal.τ).loc Cert.Kernel33Ideal.main_arg6) = m ((c.tc : Thread Cert.Kernel33Ideal.nD Cert.Kernel33Ideal.τ).loc Cert.Kernel33Ideal.main_arg6))
      ∧ θ_run (Cert.Reference33Ideal.defs (F := Ideal)) (onTc (τ := Cert.Reference33Ideal.τ) (Cert.Reference33Ideal.main (F := Ideal))) ⟨m', fun _ => 0, g'⟩ (fun r => ∀ c : Dev Cert.Reference33Ideal.nD,
          r.2.mem ((c.tc : Thread Cert.Reference33Ideal.nD Cert.Reference33Ideal.τ).loc Cert.Reference33Ideal.main_v32) = v0 c
          ∧ r.2.mem ((c.tc : Thread Cert.Reference33Ideal.nD Cert.Reference33Ideal.τ).loc Cert.Reference33Ideal.main_v37) = v1 c
          ∧ r.2.mem ((c.tc : Thread Cert.Reference33Ideal.nD Cert.Reference33Ideal.τ).loc Cert.Reference33Ideal.main_v42) = v2 c
          ∧ r.2.mem ((c.tc : Thread Cert.Reference33Ideal.nD Cert.Reference33Ideal.τ).loc Cert.Reference33Ideal.main_v47) = v3 c
          ∧ r.2.mem ((c.tc : Thread Cert.Reference33Ideal.nD Cert.Reference33Ideal.τ).loc Cert.Reference33Ideal.main_v52) = v4 c
          ∧ r.2.mem ((c.tc : Thread Cert.Reference33Ideal.nD Cert.Reference33Ideal.τ).loc Cert.Reference33Ideal.main_v57) = v5 c
          ∧ r.2.mem ((c.tc : Thread Cert.Reference33Ideal.nD Cert.Reference33Ideal.τ).loc Cert.Reference33Ideal.main_arg0) = m' ((c.tc : Thread Cert.Reference33Ideal.nD Cert.Reference33Ideal.τ).loc Cert.Reference33Ideal.main_arg0)
          ∧ r.2.mem ((c.tc : Thread Cert.Reference33Ideal.nD Cert.Reference33Ideal.τ).loc Cert.Reference33Ideal.main_arg1) = m' ((c.tc : Thread Cert.Reference33Ideal.nD Cert.Reference33Ideal.τ).loc Cert.Reference33Ideal.main_arg1)
          ∧ r.2.mem ((c.tc : Thread Cert.Reference33Ideal.nD Cert.Reference33Ideal.τ).loc Cert.Reference33Ideal.main_arg2) = m' ((c.tc : Thread Cert.Reference33Ideal.nD Cert.Reference33Ideal.τ).loc Cert.Reference33Ideal.main_arg2)
          ∧ r.2.mem ((c.tc : Thread Cert.Reference33Ideal.nD Cert.Reference33Ideal.τ).loc Cert.Reference33Ideal.main_arg3) = m' ((c.tc : Thread Cert.Reference33Ideal.nD Cert.Reference33Ideal.τ).loc Cert.Reference33Ideal.main_arg3)
          ∧ r.2.mem ((c.tc : Thread Cert.Reference33Ideal.nD Cert.Reference33Ideal.τ).loc Cert.Reference33Ideal.main_arg4) = m' ((c.tc : Thread Cert.Reference33Ideal.nD Cert.Reference33Ideal.τ).loc Cert.Reference33Ideal.main_arg4)
          ∧ r.2.mem ((c.tc : Thread Cert.Reference33Ideal.nD Cert.Reference33Ideal.τ).loc Cert.Reference33Ideal.main_arg5) = m' ((c.tc : Thread Cert.Reference33Ideal.nD Cert.Reference33Ideal.τ).loc Cert.Reference33Ideal.main_arg5)
          ∧ r.2.mem ((c.tc : Thread Cert.Reference33Ideal.nD Cert.Reference33Ideal.τ).loc Cert.Reference33Ideal.main_arg6) = m' ((c.tc : Thread Cert.Reference33Ideal.nD Cert.Reference33Ideal.τ).loc Cert.Reference33Ideal.main_arg6))

def preserves_Kernel34_Kernel34Ideal : Prop :=
  True

def algebraic_Kernel34Ideal_Reference34Ideal [hKernel34Ideal : Cert.Kernel34Ideal.Facts] [hReference34Ideal : Cert.Reference34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg)
    (m' : (ℓ : Loc Cert.Reference34Ideal.nD Cert.Reference34Ideal.τ Cert.Reference34Ideal.sig) → Buf (Elt Ideal) ℓ) (g' : Dev Cert.Reference34Ideal.nD → PrngReg), Pre_Kernel34Ideal m →
    (∀ c : Dev Cert.Kernel34Ideal.nD,
      m' ((c.tc : Thread Cert.Reference34Ideal.nD Cert.Reference34Ideal.τ).loc Cert.Reference34Ideal.main_arg0) = m ((c.tc : Thread Cert.Kernel34Ideal.nD Cert.Kernel34Ideal.τ).loc Cert.Kernel34Ideal.main_arg0)
      ∧ m' ((c.tc : Thread Cert.Reference34Ideal.nD Cert.Reference34Ideal.τ).loc Cert.Reference34Ideal.main_arg1) = m ((c.tc : Thread Cert.Kernel34Ideal.nD Cert.Kernel34Ideal.τ).loc Cert.Kernel34Ideal.main_arg1)
      ∧ m' ((c.tc : Thread Cert.Reference34Ideal.nD Cert.Reference34Ideal.τ).loc Cert.Reference34Ideal.main_arg2) = m ((c.tc : Thread Cert.Kernel34Ideal.nD Cert.Kernel34Ideal.τ).loc Cert.Kernel34Ideal.main_arg2)
      ∧ m' ((c.tc : Thread Cert.Reference34Ideal.nD Cert.Reference34Ideal.τ).loc Cert.Reference34Ideal.main_arg3) = m ((c.tc : Thread Cert.Kernel34Ideal.nD Cert.Kernel34Ideal.τ).loc Cert.Kernel34Ideal.main_arg3)
      ∧ m' ((c.tc : Thread Cert.Reference34Ideal.nD Cert.Reference34Ideal.τ).loc Cert.Reference34Ideal.main_arg4) = m ((c.tc : Thread Cert.Kernel34Ideal.nD Cert.Kernel34Ideal.τ).loc Cert.Kernel34Ideal.main_arg4)
      ∧ m' ((c.tc : Thread Cert.Reference34Ideal.nD Cert.Reference34Ideal.τ).loc Cert.Reference34Ideal.main_arg5) = m ((c.tc : Thread Cert.Kernel34Ideal.nD Cert.Kernel34Ideal.τ).loc Cert.Kernel34Ideal.main_arg5)
      ∧ m' ((c.tc : Thread Cert.Reference34Ideal.nD Cert.Reference34Ideal.τ).loc Cert.Reference34Ideal.main_arg6) = m ((c.tc : Thread Cert.Kernel34Ideal.nD Cert.Kernel34Ideal.τ).loc Cert.Kernel34Ideal.main_arg6)
      ∧ m' ((c.tc : Thread Cert.Reference34Ideal.nD Cert.Reference34Ideal.τ).loc Cert.Reference34Ideal.main_arg7) = m ((c.tc : Thread Cert.Kernel34Ideal.nD Cert.Kernel34Ideal.τ).loc Cert.Kernel34Ideal.main_arg7)
      ∧ m' ((c.tc : Thread Cert.Reference34Ideal.nD Cert.Reference34Ideal.τ).loc Cert.Reference34Ideal.main_arg8) = m ((c.tc : Thread Cert.Kernel34Ideal.nD Cert.Kernel34Ideal.τ).loc Cert.Kernel34Ideal.main_arg8)
      ∧ m' ((c.tc : Thread Cert.Reference34Ideal.nD Cert.Reference34Ideal.τ).loc Cert.Reference34Ideal.main_arg9) = m ((c.tc : Thread Cert.Kernel34Ideal.nD Cert.Kernel34Ideal.τ).loc Cert.Kernel34Ideal.main_arg9)
      ∧ m' ((c.tc : Thread Cert.Reference34Ideal.nD Cert.Reference34Ideal.τ).loc Cert.Reference34Ideal.main_arg10) = m ((c.tc : Thread Cert.Kernel34Ideal.nD Cert.Kernel34Ideal.τ).loc Cert.Kernel34Ideal.main_arg10)
      ∧ m' ((c.tc : Thread Cert.Reference34Ideal.nD Cert.Reference34Ideal.τ).loc Cert.Reference34Ideal.main_arg11) = m ((c.tc : Thread Cert.Kernel34Ideal.nD Cert.Kernel34Ideal.τ).loc Cert.Kernel34Ideal.main_arg11)
      ∧ m' ((c.tc : Thread Cert.Reference34Ideal.nD Cert.Reference34Ideal.τ).loc Cert.Reference34Ideal.main_arg12) = m ((c.tc : Thread Cert.Kernel34Ideal.nD Cert.Kernel34Ideal.τ).loc Cert.Kernel34Ideal.main_arg12)) →
    ∃ (v0 : (c : Dev Cert.Kernel34Ideal.nD) → Buf (Elt Ideal) ((c.tc : Thread Cert.Kernel34Ideal.nD Cert.Kernel34Ideal.τ).loc Cert.Kernel34Ideal.main_v23)),
      θ_run (Cert.Kernel34Ideal.defs (F := Ideal)) (onTc (τ := Cert.Kernel34Ideal.τ) (Cert.Kernel34Ideal.main (F := Ideal))) ⟨m, fun _ => 0, g⟩ (fun r => ∀ c : Dev Cert.Kernel34Ideal.nD,
          r.2.mem ((c.tc : Thread Cert.Kernel34Ideal.nD Cert.Kernel34Ideal.τ).loc Cert.Kernel34Ideal.main_v23) = v0 c
          ∧ r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
          ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1)
          ∧ r.2.mem ((c.tc : Thread Cert.Kernel34Ideal.nD Cert.Kernel34Ideal.τ).loc Cert.Kernel34Ideal.main_arg2) = m ((c.tc : Thread Cert.Kernel34Ideal.nD Cert.Kernel34Ideal.τ).loc Cert.Kernel34Ideal.main_arg2)
          ∧ r.2.mem ((c.tc : Thread Cert.Kernel34Ideal.nD Cert.Kernel34Ideal.τ).loc Cert.Kernel34Ideal.main_arg3) = m ((c.tc : Thread Cert.Kernel34Ideal.nD Cert.Kernel34Ideal.τ).loc Cert.Kernel34Ideal.main_arg3)
          ∧ r.2.mem ((c.tc : Thread Cert.Kernel34Ideal.nD Cert.Kernel34Ideal.τ).loc Cert.Kernel34Ideal.main_arg4) = m ((c.tc : Thread Cert.Kernel34Ideal.nD Cert.Kernel34Ideal.τ).loc Cert.Kernel34Ideal.main_arg4)
          ∧ r.2.mem ((c.tc : Thread Cert.Kernel34Ideal.nD Cert.Kernel34Ideal.τ).loc Cert.Kernel34Ideal.main_arg5) = m ((c.tc : Thread Cert.Kernel34Ideal.nD Cert.Kernel34Ideal.τ).loc Cert.Kernel34Ideal.main_arg5)
          ∧ r.2.mem ((c.tc : Thread Cert.Kernel34Ideal.nD Cert.Kernel34Ideal.τ).loc Cert.Kernel34Ideal.main_arg6) = m ((c.tc : Thread Cert.Kernel34Ideal.nD Cert.Kernel34Ideal.τ).loc Cert.Kernel34Ideal.main_arg6)
          ∧ r.2.mem ((c.tc : Thread Cert.Kernel34Ideal.nD Cert.Kernel34Ideal.τ).loc Cert.Kernel34Ideal.main_arg7) = m ((c.tc : Thread Cert.Kernel34Ideal.nD Cert.Kernel34Ideal.τ).loc Cert.Kernel34Ideal.main_arg7)
          ∧ r.2.mem ((c.tc : Thread Cert.Kernel34Ideal.nD Cert.Kernel34Ideal.τ).loc Cert.Kernel34Ideal.main_arg8) = m ((c.tc : Thread Cert.Kernel34Ideal.nD Cert.Kernel34Ideal.τ).loc Cert.Kernel34Ideal.main_arg8)
          ∧ r.2.mem ((c.tc : Thread Cert.Kernel34Ideal.nD Cert.Kernel34Ideal.τ).loc Cert.Kernel34Ideal.main_arg9) = m ((c.tc : Thread Cert.Kernel34Ideal.nD Cert.Kernel34Ideal.τ).loc Cert.Kernel34Ideal.main_arg9)
          ∧ r.2.mem ((c.tc : Thread Cert.Kernel34Ideal.nD Cert.Kernel34Ideal.τ).loc Cert.Kernel34Ideal.main_arg10) = m ((c.tc : Thread Cert.Kernel34Ideal.nD Cert.Kernel34Ideal.τ).loc Cert.Kernel34Ideal.main_arg10)
          ∧ r.2.mem ((c.tc : Thread Cert.Kernel34Ideal.nD Cert.Kernel34Ideal.τ).loc Cert.Kernel34Ideal.main_arg11) = m ((c.tc : Thread Cert.Kernel34Ideal.nD Cert.Kernel34Ideal.τ).loc Cert.Kernel34Ideal.main_arg11)
          ∧ r.2.mem ((c.tc : Thread Cert.Kernel34Ideal.nD Cert.Kernel34Ideal.τ).loc Cert.Kernel34Ideal.main_arg12) = m ((c.tc : Thread Cert.Kernel34Ideal.nD Cert.Kernel34Ideal.τ).loc Cert.Kernel34Ideal.main_arg12))
      ∧ θ_run (Cert.Reference34Ideal.defs (F := Ideal)) (onTc (τ := Cert.Reference34Ideal.τ) (Cert.Reference34Ideal.main (F := Ideal))) ⟨m', fun _ => 0, g'⟩ (fun r => ∀ c : Dev Cert.Reference34Ideal.nD,
          r.2.mem ((c.tc : Thread Cert.Reference34Ideal.nD Cert.Reference34Ideal.τ).loc Cert.Reference34Ideal.main_v69) = v0 c
          ∧ r.2.mem ((c.tc : Thread Cert.Reference34Ideal.nD Cert.Reference34Ideal.τ).loc Cert.Reference34Ideal.main_arg0) = m' ((c.tc : Thread Cert.Reference34Ideal.nD Cert.Reference34Ideal.τ).loc Cert.Reference34Ideal.main_arg0)
          ∧ r.2.mem ((c.tc : Thread Cert.Reference34Ideal.nD Cert.Reference34Ideal.τ).loc Cert.Reference34Ideal.main_arg1) = m' ((c.tc : Thread Cert.Reference34Ideal.nD Cert.Reference34Ideal.τ).loc Cert.Reference34Ideal.main_arg1)
          ∧ r.2.mem ((c.tc : Thread Cert.Reference34Ideal.nD Cert.Reference34Ideal.τ).loc Cert.Reference34Ideal.main_arg2) = m' ((c.tc : Thread Cert.Reference34Ideal.nD Cert.Reference34Ideal.τ).loc Cert.Reference34Ideal.main_arg2)
          ∧ r.2.mem ((c.tc : Thread Cert.Reference34Ideal.nD Cert.Reference34Ideal.τ).loc Cert.Reference34Ideal.main_arg3) = m' ((c.tc : Thread Cert.Reference34Ideal.nD Cert.Reference34Ideal.τ).loc Cert.Reference34Ideal.main_arg3)
          ∧ r.2.mem ((c.tc : Thread Cert.Reference34Ideal.nD Cert.Reference34Ideal.τ).loc Cert.Reference34Ideal.main_arg4) = m' ((c.tc : Thread Cert.Reference34Ideal.nD Cert.Reference34Ideal.τ).loc Cert.Reference34Ideal.main_arg4)
          ∧ r.2.mem ((c.tc : Thread Cert.Reference34Ideal.nD Cert.Reference34Ideal.τ).loc Cert.Reference34Ideal.main_arg5) = m' ((c.tc : Thread Cert.Reference34Ideal.nD Cert.Reference34Ideal.τ).loc Cert.Reference34Ideal.main_arg5)
          ∧ r.2.mem ((c.tc : Thread Cert.Reference34Ideal.nD Cert.Reference34Ideal.τ).loc Cert.Reference34Ideal.main_arg6) = m' ((c.tc : Thread Cert.Reference34Ideal.nD Cert.Reference34Ideal.τ).loc Cert.Reference34Ideal.main_arg6)
          ∧ r.2.mem ((c.tc : Thread Cert.Reference34Ideal.nD Cert.Reference34Ideal.τ).loc Cert.Reference34Ideal.main_arg7) = m' ((c.tc : Thread Cert.Reference34Ideal.nD Cert.Reference34Ideal.τ).loc Cert.Reference34Ideal.main_arg7)
          ∧ r.2.mem ((c.tc : Thread Cert.Reference34Ideal.nD Cert.Reference34Ideal.τ).loc Cert.Reference34Ideal.main_arg8) = m' ((c.tc : Thread Cert.Reference34Ideal.nD Cert.Reference34Ideal.τ).loc Cert.Reference34Ideal.main_arg8)
          ∧ r.2.mem ((c.tc : Thread Cert.Reference34Ideal.nD Cert.Reference34Ideal.τ).loc Cert.Reference34Ideal.main_arg9) = m' ((c.tc : Thread Cert.Reference34Ideal.nD Cert.Reference34Ideal.τ).loc Cert.Reference34Ideal.main_arg9)
          ∧ r.2.mem ((c.tc : Thread Cert.Reference34Ideal.nD Cert.Reference34Ideal.τ).loc Cert.Reference34Ideal.main_arg10) = m' ((c.tc : Thread Cert.Reference34Ideal.nD Cert.Reference34Ideal.τ).loc Cert.Reference34Ideal.main_arg10)
          ∧ r.2.mem ((c.tc : Thread Cert.Reference34Ideal.nD Cert.Reference34Ideal.τ).loc Cert.Reference34Ideal.main_arg11) = m' ((c.tc : Thread Cert.Reference34Ideal.nD Cert.Reference34Ideal.τ).loc Cert.Reference34Ideal.main_arg11)
          ∧ r.2.mem ((c.tc : Thread Cert.Reference34Ideal.nD Cert.Reference34Ideal.τ).loc Cert.Reference34Ideal.main_arg12) = m' ((c.tc : Thread Cert.Reference34Ideal.nD Cert.Reference34Ideal.τ).loc Cert.Reference34Ideal.main_arg12))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel30 : Cert.Kernel30.Facts) (hKernel30Ideal : Cert.Kernel30Ideal.Facts) (hReference30Ideal : Cert.Reference30Ideal.Facts) (hKernel33 : Cert.Kernel33.Facts) (hKernel33Ideal : Cert.Kernel33Ideal.Facts) (hReference33Ideal : Cert.Reference33Ideal.Facts) (hKernel34 : Cert.Kernel34.Facts) (hKernel34Ideal : Cert.Kernel34Ideal.Facts) (hReference34Ideal : Cert.Reference34Ideal.Facts) (hPre_finite_args : Cert.Pre_finite_args.Facts),
    quiescent_Kernel (hKernel := hKernel)
    ∧ quiescent_KernelIdeal (hKernelIdeal := hKernelIdeal)
    ∧ quiescent_KernelIdeal_pre_finite_args (hKernelIdeal := hKernelIdeal) (hPre_finite_args := hPre_finite_args)
    ∧ quiescent_ReferenceIdeal (hReferenceIdeal := hReferenceIdeal)
    ∧ quiescent_ReferenceIdeal_pre_finite_args (hReferenceIdeal := hReferenceIdeal) (hPre_finite_args := hPre_finite_args)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel30 (hKernel30 := hKernel30)
    ∧ quiescent_Kernel30Ideal (hKernel30Ideal := hKernel30Ideal)
    ∧ quiescent_Reference30Ideal (hReference30Ideal := hReference30Ideal)
    ∧ quiescent_Kernel33 (hKernel33 := hKernel33)
    ∧ quiescent_Kernel33Ideal (hKernel33Ideal := hKernel33Ideal)
    ∧ quiescent_Reference33Ideal (hReference33Ideal := hReference33Ideal)
    ∧ quiescent_Kernel34 (hKernel34 := hKernel34)
    ∧ quiescent_Kernel34Ideal (hKernel34Ideal := hKernel34Ideal)
    ∧ quiescent_Reference34Ideal (hReference34Ideal := hReference34Ideal)
    ∧ preserves_Kernel_KernelIdeal
    ∧ algebraic_KernelIdeal_ReferenceIdeal_pre_finite_args (hKernelIdeal := hKernelIdeal) (hReferenceIdeal := hReferenceIdeal) (hPre_finite_args := hPre_finite_args)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
    ∧ preserves_Kernel30_Kernel30Ideal
    ∧ algebraic_Kernel30Ideal_Reference30Ideal (hKernel30Ideal := hKernel30Ideal) (hReference30Ideal := hReference30Ideal)
    ∧ preserves_Kernel33_Kernel33Ideal
    ∧ algebraic_Kernel33Ideal_Reference33Ideal (hKernel33Ideal := hKernel33Ideal) (hReference33Ideal := hReference33Ideal)
    ∧ preserves_Kernel34_Kernel34Ideal
    ∧ algebraic_Kernel34Ideal_Reference34Ideal (hKernel34Ideal := hKernel34Ideal) (hReference34Ideal := hReference34Ideal)
-- ==== Pre_finite_args.lean ====
abbrev S2x16x256x128 : Shape := ⟨4, ![2, 16, 256, 128]⟩
abbrev S_ : Shape := ⟨0, ![]⟩

class Facts : Prop where
  bitsLt_bf16_f32 : FTy.bits .bf16 < FTy.bits .f32
  bcast_S_S2x16x256x128 : S_.BroadcastsInDim S2x16x256x128 (![] : Fin 0 → Fin S2x16x256x128.rank)

variable [Facts]

def fn {F : FTy → Type} [FloatOps F] (main_arg0 : FVec F S2x16x256x128 .bf16) (main_arg1 : FVec F S2x16x256x128 .bf16) (main_arg2 : FVec F S2x16x256x128 .bf16) (main_arg3 : FVec F S2x16x256x128 .bf16) (main_arg4 : FVec F S2x16x256x128 .f32) : IVec S2x16x256x128 1 × IVec S2x16x256x128 1 × IVec S2x16x256x128 1 × IVec S2x16x256x128 1 × IVec S2x16x256x128 1 :=
  let main_v0 : FVec F S2x16x256x128 .f32 := (extf .f32 · bitsLt_bf16_f32) main_arg0
  let main_v1 : FVec F S2x16x256x128 .f32 := Host.absf main_v0
  let main_cst : FVec F S_ .f32 := constant S_ .f32 0x7F800000#32
  let main_v2 : FVec F S2x16x256x128 .f32 := broadcastInDim S2x16x256x128 ![] bcast_S_S2x16x256x128 main_cst
  let main_v3 : IVec S2x16x256x128 1 := cmpf .olt main_v1 main_v2
  let main_v4 : FVec F S2x16x256x128 .f32 := (extf .f32 · bitsLt_bf16_f32) main_arg1
  let main_v5 : FVec F S2x16x256x128 .f32 := Host.absf main_v4
  let main_cst_0 : FVec F S_ .f32 := constant S_ .f32 0x7F800000#32
  let main_v6 : FVec F S2x16x256x128 .f32 := broadcastInDim S2x16x256x128 ![] bcast_S_S2x16x256x128 main_cst_0
  let main_v7 : IVec S2x16x256x128 1 := cmpf .olt main_v5 main_v6
  let main_v8 : FVec F S2x16x256x128 .f32 := (extf .f32 · bitsLt_bf16_f32) main_arg2
  let main_v9 : FVec F S2x16x256x128 .f32 := Host.absf main_v8
  let main_cst_1 : FVec F S_ .f32 := constant S_ .f32 0x7F800000#32
  let main_v10 : FVec F S2x16x256x128 .f32 := broadcastInDim S2x16x256x128 ![] bcast_S_S2x16x256x128 main_cst_1
  let main_v11 : IVec S2x16x256x128 1 := cmpf .olt main_v9 main_v10
  let main_v12 : FVec F S2x16x256x128 .f32 := (extf .f32 · bitsLt_bf16_f32) main_arg3
  let main_v13 : FVec F S2x16x256x128 .f32 := Host.absf main_v12
  let main_cst_2 : FVec F S_ .f32 := constant S_ .f32 0x7F800000#32
  let main_v14 : FVec F S2x16x256x128 .f32 := broadcastInDim S2x16x256x128 ![] bcast_S_S2x16x256x128 main_cst_2
  let main_v15 : IVec S2x16x256x128 1 := cmpf .olt main_v13 main_v14
  let main_v16 : FVec F S2x16x256x128 .f32 := Host.absf main_arg4
  let main_cst_3 : FVec F S_ .f32 := constant S_ .f32 0x7F800000#32
  let main_v17 : FVec F S2x16x256x128 .f32 := broadcastInDim S2x16x256x128 ![] bcast_S_S2x16x256x128 main_cst_3
  let main_v18 : IVec S2x16x256x128 1 := cmpf .olt main_v16 main_v17
  (main_v3, main_v7, main_v11, main_v15, main_v18)
-- ==== Kernel.lean ====
abbrev S2x16x256x128 : Shape := ⟨4, ![2, 16, 256, 128]⟩
abbrev S_ : Shape := ⟨0, ![]⟩
abbrev S1x4x256x128 : Shape := ⟨4, ![1, 4, 256, 128]⟩
abbrev S4x256x128 : Shape := ⟨3, ![4, 256, 128]⟩
abbrev S128x256 : Shape := ⟨2, ![128, 256]⟩
abbrev S1x1x128x128 : Shape := ⟨4, ![1, 1, 128, 128]⟩
abbrev S128x128 : Shape := ⟨2, ![128, 128]⟩
abbrev S256x128 : Shape := ⟨2, ![256, 128]⟩
abbrev S1x1x256x128 : Shape := ⟨4, ![1, 1, 256, 128]⟩
abbrev S256x256 : Shape := ⟨2, ![256, 256]⟩
abbrev S256 : Shape := ⟨1, ![256]⟩
abbrev S256x1 : Shape := ⟨2, ![256, 1]⟩
abbrev S128x1 : Shape := ⟨2, ![128, 1]⟩

abbrev nBuf : Space → Nat
  | .hbm => 16
  | .vmem => 16
  | .smem => 0
  | _ => 0

abbrev bufTy : (tb : Table) → Fin (tcTables nBuf tb) → BufTy
  | .hbm, ⟨0, _⟩ => ⟨S2x16x256x128, .bf16⟩
  | .hbm, ⟨1, _⟩ => ⟨S2x16x256x128, .bf16⟩
  | .hbm, ⟨2, _⟩ => ⟨S2x16x256x128, .bf16⟩
  | .hbm, ⟨3, _⟩ => ⟨S2x16x256x128, .bf16⟩
  | .hbm, ⟨4, _⟩ => ⟨S2x16x256x128, .f32⟩
  | .hbm, ⟨5, _⟩ => ⟨S2x16x256x128, .f32⟩
  | .hbm, ⟨6, _⟩ => ⟨S_, .f32⟩
  | .hbm, ⟨7, _⟩ => ⟨S2x16x256x128, .f32⟩
  | .hbm, ⟨8, _⟩ => ⟨S2x16x256x128, .f32⟩
  | .hbm, ⟨9, _⟩ => ⟨S2x16x256x128, .bf16⟩
  | .hbm, ⟨10, _⟩ => ⟨S2x16x256x128, .f32⟩
  | .hbm, ⟨11, _⟩ => ⟨S2x16x256x128, .f32⟩
  | .hbm, ⟨12, _⟩ => ⟨S2x16x256x128, .f32⟩
  | .hbm, ⟨13, _⟩ => ⟨S_, .f32⟩
  | .hbm, ⟨14, _⟩ => ⟨S2x16x256x128, .f32⟩
  | .hbm, ⟨15, _⟩ => ⟨S2x16x256x128, .f32⟩
  | .local _ .vmem, ⟨0, _⟩ => ⟨S1x4x256x128, .bf16⟩
  | .local _ .vmem, ⟨1, _⟩ => ⟨S1x4x256x128, .bf16⟩
  | .local _ .vmem, ⟨2, _⟩ => ⟨S1x4x256x128, .bf16⟩
  | .local _ .vmem, ⟨3, _⟩ => ⟨S1x4x256x128, .bf16⟩
  | .local _ .vmem, ⟨4, _⟩ => ⟨S1x4x256x128, .bf16⟩
  | .local _ .vmem, ⟨5, _⟩ => ⟨S1x4x256x128, .bf16⟩
  | .local _ .vmem, ⟨6, _⟩ => ⟨S1x4x256x128, .bf16⟩
  | .local _ .vmem, ⟨7, _⟩ => ⟨S1x4x256x128, .bf16⟩
  | .local _ .vmem, ⟨8, _⟩ => ⟨S1x4x256x128, .f32⟩
  | .local _ .vmem, ⟨9, _⟩ => ⟨S1x4x256x128, .f32⟩
  | .local _ .vmem, ⟨10, _⟩ => ⟨S1x4x256x128, .f32⟩
  | .local _ .vmem, ⟨11, _⟩ => ⟨S1x4x256x128, .f32⟩
  | .local _ .vmem, ⟨12, _⟩ => ⟨S1x4x256x128, .f32⟩
  | .local _ .vmem, ⟨13, _⟩ => ⟨S1x4x256x128, .f32⟩
  | .local _ .vmem, ⟨14, _⟩ => ⟨S1x4x256x128, .f32⟩
  | .local _ .vmem, ⟨15, _⟩ => ⟨S1x4x256x128, .f32⟩
  | _, _ => ⟨S2x16x256x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def k0_mult1 : BitVec 32 :=
  let c0_i32 : BitVec 32 := 0#32
  let c2_i32 : BitVec 32 := 2#32
  let v8 : BitVec 32 := Scalar.muli c0_i32 c2_i32
  let c0_i32_8 : BitVec 32 := 0#32
  let v9 : BitVec 32 := Scalar.addi v8 c0_i32_8
  let c128_i32 : BitVec 32 := 128#32
  let v10 : BitVec 32 := Scalar.muli v9 c128_i32
  v10
def k0_mult2 : BitVec 32 :=
  let c0_i32_10 : BitVec 32 := 0#32
  let c0_i32_9 : BitVec 32 := 0#32
  let c0_i32 : BitVec 32 := 0#32
  let c2_i32 : BitVec 32 := 2#32
  let v8 : BitVec 32 := Scalar.muli c0_i32 c2_i32
  let c0_i32_8 : BitVec 32 := 0#32
  let v9 : BitVec 32 := Scalar.addi v8 c0_i32_8
  let c128_i32 : BitVec 32 := 128#32
  let v10 : BitVec 32 := Scalar.muli v9 c128_i32
  let v11 : BitVec 32 := v10
  let c64_i32 : BitVec 32 := 64#32
  let v12 : BitVec 32 := Scalar.subi v11 c64_i32
  let v13 : BitVec 32 := Scalar.maxsi c0_i32_9 v12
  let v14 : BitVec 32 := Scalar.minsi c0_i32_10 v13
  v14
def k0_mult3 : BitVec 32 :=
  let c0_i32 : BitVec 32 := 0#32
  let c2_i32_12 : BitVec 32 := 2#32
  let v26 : BitVec 32 := Scalar.muli c0_i32 c2_i32_12
  let c1_i32 : BitVec 32 := 1#32
  let v27 : BitVec 32 := Scalar.addi v26 c1_i32
  let c128_i32_13 : BitVec 32 := 128#32
  let v28 : BitVec 32 := Scalar.muli v27 c128_i32_13
  v28
def k0_mult4 : BitVec 32 :=
  let c0_i32_16 : BitVec 32 := 0#32
  let c0_i32_15 : BitVec 32 := 0#32
  let c0_i32 : BitVec 32 := 0#32
  let c2_i32_12 : BitVec 32 := 2#32
  let v26 : BitVec 32 := Scalar.muli c0_i32 c2_i32_12
  let c1_i32 : BitVec 32 := 1#32
  let v27 : BitVec 32 := Scalar.addi v26 c1_i32
  let c128_i32_13 : BitVec 32 := 128#32
  let v28 : BitVec 32 := Scalar.muli v27 c128_i32_13
  let v29 : BitVec 32 := v28
  let c64_i32_14 : BitVec 32 := 64#32
  let v30 : BitVec 32 := Scalar.subi v29 c64_i32_14
  let v31 : BitVec 32 := Scalar.maxsi c0_i32_15 v30
  let v32 : BitVec 32 := Scalar.minsi c0_i32_16 v31
  v32
def k0_mult5 : BitVec 32 :=
  let c0_i32 : BitVec 32 := 0#32
  let c2_i32_18 : BitVec 32 := 2#32
  let v44 : BitVec 32 := Scalar.muli c0_i32 c2_i32_18
  let c0_i32_19 : BitVec 32 := 0#32
  let v45 : BitVec 32 := Scalar.addi v44 c0_i32_19
  let c128_i32_20 : BitVec 32 := 128#32
  let v46 : BitVec 32 := Scalar.muli v45 c128_i32_20
  v46
def k0_mult6 : BitVec 32 :=
  let c0_i32_23 : BitVec 32 := 0#32
  let c0_i32_22 : BitVec 32 := 0#32
  let c0_i32 : BitVec 32 := 0#32
  let c2_i32_18 : BitVec 32 := 2#32
  let v44 : BitVec 32 := Scalar.muli c0_i32 c2_i32_18
  let c0_i32_19 : BitVec 32 := 0#32
  let v45 : BitVec 32 := Scalar.addi v44 c0_i32_19
  let c128_i32_20 : BitVec 32 := 128#32
  let v46 : BitVec 32 := Scalar.muli v45 c128_i32_20
  let v47 : BitVec 32 := v46
  let c64_i32_21 : BitVec 32 := 64#32
  let v48 : BitVec 32 := Scalar.subi v47 c64_i32_21
  let v49 : BitVec 32 := Scalar.maxsi c0_i32_22 v48
  let v50 : BitVec 32 := Scalar.minsi c0_i32_23 v49
  v50
def k0_mult7 : BitVec 32 :=
  let c0_i32 : BitVec 32 := 0#32
  let c2_i32_25 : BitVec 32 := 2#32
  let v62 : BitVec 32 := Scalar.muli c0_i32 c2_i32_25
  let c1_i32_26 : BitVec 32 := 1#32
  let v63 : BitVec 32 := Scalar.addi v62 c1_i32_26
  let c128_i32_27 : BitVec 32 := 128#32
  let v64 : BitVec 32 := Scalar.muli v63 c128_i32_27
  v64
def k0_mult8 : BitVec 32 :=
  let c0_i32_30 : BitVec 32 := 0#32
  let c0_i32_29 : BitVec 32 := 0#32
  let c0_i32 : BitVec 32 := 0#32
  let c2_i32_25 : BitVec 32 := 2#32
  let v62 : BitVec 32 := Scalar.muli c0_i32 c2_i32_25
  let c1_i32_26 : BitVec 32 := 1#32
  let v63 : BitVec 32 := Scalar.addi v62 c1_i32_26
  let c128_i32_27 : BitVec 32 := 128#32
  let v64 : BitVec 32 := Scalar.muli v63 c128_i32_27
  let v65 : BitVec 32 := v64
  let c64_i32_28 : BitVec 32 := 64#32
  let v66 : BitVec 32 := Scalar.subi v65 c64_i32_28
  let v67 : BitVec 32 := Scalar.maxsi c0_i32_29 v66
  let v68 : BitVec 32 := Scalar.minsi c0_i32_30 v67
  v68
def k0_mult9 : BitVec 32 :=
  let c0_i32 : BitVec 32 := 0#32
  let c2_i32_32 : BitVec 32 := 2#32
  let v80 : BitVec 32 := Scalar.muli c0_i32 c2_i32_32
  let c0_i32_33 : BitVec 32 := 0#32
  let v81 : BitVec 32 := Scalar.addi v80 c0_i32_33
  let c128_i32_34 : BitVec 32 := 128#32
  let v82 : BitVec 32 := Scalar.muli v81 c128_i32_34
  v82
def k0_mult10 : BitVec 32 :=
  let c0_i32_37 : BitVec 32 := 0#32
  let c0_i32_36 : BitVec 32 := 0#32
  let c0_i32 : BitVec 32 := 0#32
  let c2_i32_32 : BitVec 32 := 2#32
  let v80 : BitVec 32 := Scalar.muli c0_i32 c2_i32_32
  let c0_i32_33 : BitVec 32 := 0#32
  let v81 : BitVec 32 := Scalar.addi v80 c0_i32_33
  let c128_i32_34 : BitVec 32 := 128#32
  let v82 : BitVec 32 := Scalar.muli v81 c128_i32_34
  let v83 : BitVec 32 := v82
  let c64_i32_35 : BitVec 32 := 64#32
  let v84 : BitVec 32 := Scalar.subi v83 c64_i32_35
  let v85 : BitVec 32 := Scalar.maxsi c0_i32_36 v84
  let v86 : BitVec 32 := Scalar.minsi c0_i32_37 v85
  v86
def k0_mult11 : BitVec 32 :=
  let c0_i32 : BitVec 32 := 0#32
  let c2_i32_39 : BitVec 32 := 2#32
  let v98 : BitVec 32 := Scalar.muli c0_i32 c2_i32_39
  let c1_i32_40 : BitVec 32 := 1#32
  let v99 : BitVec 32 := Scalar.addi v98 c1_i32_40
  let c128_i32_41 : BitVec 32 := 128#32
  let v100 : BitVec 32 := Scalar.muli v99 c128_i32_41
  v100
def k0_mult12 : BitVec 32 :=
  let c0_i32_44 : BitVec 32 := 0#32
  let c0_i32_43 : BitVec 32 := 0#32
  let c0_i32 : BitVec 32 := 0#32
  let c2_i32_39 : BitVec 32 := 2#32
  let v98 : BitVec 32 := Scalar.muli c0_i32 c2_i32_39
  let c1_i32_40 : BitVec 32 := 1#32
  let v99 : BitVec 32 := Scalar.addi v98 c1_i32_40
  let c128_i32_41 : BitVec 32 := 128#32
  let v100 : BitVec 32 := Scalar.muli v99 c128_i32_41
  let v101 : BitVec 32 := v100
  let c64_i32_42 : BitVec 32 := 64#32
  let v102 : BitVec 32 := Scalar.subi v101 c64_i32_42
  let v103 : BitVec 32 := Scalar.maxsi c0_i32_43 v102
  let v104 : BitVec 32 := Scalar.minsi c0_i32_44 v103
  v104
def k0_mult13 : BitVec 32 :=
  let c0_i32 : BitVec 32 := 0#32
  let c2_i32_46 : BitVec 32 := 2#32
  let v116 : BitVec 32 := Scalar.muli c0_i32 c2_i32_46
  let c0_i32_47 : BitVec 32 := 0#32
  let v117 : BitVec 32 := Scalar.addi v116 c0_i32_47
  let c128_i32_48 : BitVec 32 := 128#32
  let v118 : BitVec 32 := Scalar.muli v117 c128_i32_48
  v118
def k0_mult14 : BitVec 32 :=
  let c0_i32_51 : BitVec 32 := 0#32
  let c0_i32_50 : BitVec 32 := 0#32
  let c0_i32 : BitVec 32 := 0#32
  let c2_i32_46 : BitVec 32 := 2#32
  let v116 : BitVec 32 := Scalar.muli c0_i32 c2_i32_46
  let c0_i32_47 : BitVec 32 := 0#32
  let v117 : BitVec 32 := Scalar.addi v116 c0_i32_47
  let c128_i32_48 : BitVec 32 := 128#32
  let v118 : BitVec 32 := Scalar.muli v117 c128_i32_48
  let v119 : BitVec 32 := v118
  let c64_i32_49 : BitVec 32 := 64#32
  let v120 : BitVec 32 := Scalar.subi v119 c64_i32_49
  let v121 : BitVec 32 := Scalar.maxsi c0_i32_50 v120
  let v122 : BitVec 32 := Scalar.minsi c0_i32_51 v121
  v122
def k0_mult15 : BitVec 32 :=
  let c0_i32 : BitVec 32 := 0#32
  let c2_i32_53 : BitVec 32 := 2#32
  let v134 : BitVec 32 := Scalar.muli c0_i32 c2_i32_53
  let c1_i32_54 : BitVec 32 := 1#32
  let v135 : BitVec 32 := Scalar.addi v134 c1_i32_54
  let c128_i32_55 : BitVec 32 := 128#32
  let v136 : BitVec 32 := Scalar.muli v135 c128_i32_55
  v136
def k0_mult16 : BitVec 32 :=
  let c0_i32_58 : BitVec 32 := 0#32
  let c0_i32_57 : BitVec 32 := 0#32
  let c0_i32 : BitVec 32 := 0#32
  let c2_i32_53 : BitVec 32 := 2#32
  let v134 : BitVec 32 := Scalar.muli c0_i32 c2_i32_53
  let c1_i32_54 : BitVec 32 := 1#32
  let v135 : BitVec 32 := Scalar.addi v134 c1_i32_54
  let c128_i32_55 : BitVec 32 := 128#32
  let v136 : BitVec 32 := Scalar.muli v135 c128_i32_55
  let v137 : BitVec 32 := v136
  let c64_i32_56 : BitVec 32 := 64#32
  let v138 : BitVec 32 := Scalar.subi v137 c64_i32_56
  let v139 : BitVec 32 := Scalar.maxsi c0_i32_57 v138
  let v140 : BitVec 32 := Scalar.minsi c0_i32_58 v139
  v140
def k0_off1 (c0_i32_8 : BitVec 32) : Fin 4 → Nat :=
  let c0_60 : Index := 0#32
  let c0_61 : Index := 0#32
  let c0_i32 : BitVec 32 := 0#32
  let c2_i32 : BitVec 32 := 2#32
  let v8 : BitVec 32 := Scalar.muli c0_i32 c2_i32
  let v9 : BitVec 32 := Scalar.addi v8 c0_i32_8
  let c128_i32 : BitVec 32 := 128#32
  let v10 : BitVec 32 := Scalar.muli v9 c128_i32
  let v11 : BitVec 32 := v10
  let v152 : Index := Scalar.indexCast v11
  let c0_62 : Index := 0#32
  ![0, 0, v152.toNat, 0]
def k0_off2 (c0_i32_19 : BitVec 32) : Fin 4 → Nat :=
  let c0_70 : Index := 0#32
  let c1 : Index := 1#32
  let c0_i32 : BitVec 32 := 0#32
  let c2_i32_18 : BitVec 32 := 2#32
  let v44 : BitVec 32 := Scalar.muli c0_i32 c2_i32_18
  let v45 : BitVec 32 := Scalar.addi v44 c0_i32_19
  let c128_i32_20 : BitVec 32 := 128#32
  let v46 : BitVec 32 := Scalar.muli v45 c128_i32_20
  let v47 : BitVec 32 := v46
  let v172 : Index := Scalar.indexCast v47
  let c0_71 : Index := 0#32
  ![0, 1, v172.toNat, 0]
def k0_off3 (c0_i32_33 : BitVec 32) : Fin 4 → Nat :=
  let c0_79 : Index := 0#32
  let c2 : Index := 2#32
  let c0_i32 : BitVec 32 := 0#32
  let c2_i32_32 : BitVec 32 := 2#32
  let v80 : BitVec 32 := Scalar.muli c0_i32 c2_i32_32
  let v81 : BitVec 32 := Scalar.addi v80 c0_i32_33
  let c128_i32_34 : BitVec 32 := 128#32
  let v82 : BitVec 32 := Scalar.muli v81 c128_i32_34
  let v83 : BitVec 32 := v82
  let v192 : Index := Scalar.indexCast v83
  let c0_80 : Index := 0#32
  ![0, 2, v192.toNat, 0]
def k0_off4 (c0_i32_47 : BitVec 32) : Fin 4 → Nat :=
  let c0_88 : Index := 0#32
  let c3 : Index := 3#32
  let c0_i32 : BitVec 32 := 0#32
  let c2_i32_46 : BitVec 32 := 2#32
  let v116 : BitVec 32 := Scalar.muli c0_i32 c2_i32_46
  let v117 : BitVec 32 := Scalar.addi v116 c0_i32_47
  let c128_i32_48 : BitVec 32 := 128#32
  let v118 : BitVec 32 := Scalar.muli v117 c128_i32_48
  let v119 : BitVec 32 := v118
  let v212 : Index := Scalar.indexCast v119
  let c0_89 : Index := 0#32
  ![0, 3, v212.toNat, 0]
def k0_off5 (c0_i32_8 : BitVec 32) : Fin 4 → Nat :=
  let c0_137 : Index := 0#32
  let c0_138 : Index := 0#32
  let c0_i32_10 : BitVec 32 := 0#32
  let c0_i32_9 : BitVec 32 := 0#32
  let c0_i32 : BitVec 32 := 0#32
  let c2_i32 : BitVec 32 := 2#32
  let v8 : BitVec 32 := Scalar.muli c0_i32 c2_i32
  let v9 : BitVec 32 := Scalar.addi v8 c0_i32_8
  let c128_i32 : BitVec 32 := 128#32
  let v10 : BitVec 32 := Scalar.muli v9 c128_i32
  let v11 : BitVec 32 := v10
  let c64_i32 : BitVec 32 := 64#32
  let v12 : BitVec 32 := Scalar.subi v11 c64_i32
  let v13 : BitVec 32 := Scalar.maxsi c0_i32_9 v12
  let v14 : BitVec 32 := Scalar.minsi c0_i32_10 v13
  let v15 : BitVec 32 := v14
  let v312 : Index := Scalar.indexCast v15
  let c0_139 : Index := 0#32
  ![0, 0, v312.toNat, 0]
def k0_off6 (c0_i32_19 : BitVec 32) : Fin 4 → Nat :=
  let c0_145 : Index := 0#32
  let c1_146 : Index := 1#32
  let c0_i32_23 : BitVec 32 := 0#32
  let c0_i32_22 : BitVec 32 := 0#32
  let c0_i32 : BitVec 32 := 0#32
  let c2_i32_18 : BitVec 32 := 2#32
  let v44 : BitVec 32 := Scalar.muli c0_i32 c2_i32_18
  let v45 : BitVec 32 := Scalar.addi v44 c0_i32_19
  let c128_i32_20 : BitVec 32 := 128#32
  let v46 : BitVec 32 := Scalar.muli v45 c128_i32_20
  let v47 : BitVec 32 := v46
  let c64_i32_21 : BitVec 32 := 64#32
  let v48 : BitVec 32 := Scalar.subi v47 c64_i32_21
  let v49 : BitVec 32 := Scalar.maxsi c0_i32_22 v48
  let v50 : BitVec 32 := Scalar.minsi c0_i32_23 v49
  let v51 : BitVec 32 := v50
  let v320 : Index := Scalar.indexCast v51
  let c0_147 : Index := 0#32
  ![0, 1, v320.toNat, 0]
def k0_off7 (c0_i32_33 : BitVec 32) : Fin 4 → Nat :=
  let c0_153 : Index := 0#32
  let c2_154 : Index := 2#32
  let c0_i32_37 : BitVec 32 := 0#32
  let c0_i32_36 : BitVec 32 := 0#32
  let c0_i32 : BitVec 32 := 0#32
  let c2_i32_32 : BitVec 32 := 2#32
  let v80 : BitVec 32 := Scalar.muli c0_i32 c2_i32_32
  let v81 : BitVec 32 := Scalar.addi v80 c0_i32_33
  let c128_i32_34 : BitVec 32 := 128#32
  let v82 : BitVec 32 := Scalar.muli v81 c128_i32_34
  let v83 : BitVec 32 := v82
  let c64_i32_35 : BitVec 32 := 64#32
  let v84 : BitVec 32 := Scalar.subi v83 c64_i32_35
  let v85 : BitVec 32 := Scalar.maxsi c0_i32_36 v84
  let v86 : BitVec 32 := Scalar.minsi c0_i32_37 v85
  let v87 : BitVec 32 := v86
  let v328 : Index := Scalar.indexCast v87
  let c0_155 : Index := 0#32
  ![0, 2, v328.toNat, 0]
def k0_off8 (c0_i32_47 : BitVec 32) : Fin 4 → Nat :=
  let c0_161 : Index := 0#32
  let c3_162 : Index := 3#32
  let c0_i32_51 : BitVec 32 := 0#32
  let c0_i32_50 : BitVec 32 := 0#32
  let c0_i32 : BitVec 32 := 0#32
  let c2_i32_46 : BitVec 32 := 2#32
  let v116 : BitVec 32 := Scalar.muli c0_i32 c2_i32_46
  let v117 : BitVec 32 := Scalar.addi v116 c0_i32_47
  let c128_i32_48 : BitVec 32 := 128#32
  let v118 : BitVec 32 := Scalar.muli v117 c128_i32_48
  let v119 : BitVec 32 := v118
  let c64_i32_49 : BitVec 32 := 64#32
  let v120 : BitVec 32 := Scalar.subi v119 c64_i32_49
  let v121 : BitVec 32 := Scalar.maxsi c0_i32_50 v120
  let v122 : BitVec 32 := Scalar.minsi c0_i32_51 v121
  let v123 : BitVec 32 := v122
  let v336 : Index := Scalar.indexCast v123
  let c0_163 : Index := 0#32
  ![0, 3, v336.toNat, 0]
def cc0_transform_0 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c2_i32_3 : BitVec 32 := 2#32
  let v10 : BitVec 32 := Scalar.divsi arg0 c2_i32_3
  let c0_i32_4 : BitVec 32 := 0#32
  let v11 : BitVec 1 := Scalar.cmpi .sgt arg0 c0_i32_4
  let v12 : BitVec 32 := Scalar.extui v11
  let c0_i32_5 : BitVec 32 := 0#32
  let v13 : BitVec 1 := Scalar.cmpi .slt arg0 c0_i32_5
  let v14 : BitVec 32 := Scalar.extui v13
  let v15 : BitVec 32 := Scalar.subi v12 v14
  let c0_i32_6 : BitVec 32 := 0#32
  let v16 : BitVec 1 := Scalar.cmpi .sgt c2_i32_3 c0_i32_6
  let v17 : BitVec 32 := Scalar.extui v16
  let c0_i32_7 : BitVec 32 := 0#32
  let v18 : BitVec 1 := Scalar.cmpi .slt c2_i32_3 c0_i32_7
  let v19 : BitVec 32 := Scalar.extui v18
  let v20 : BitVec 32 := Scalar.subi v17 v19
  let v21 : BitVec 1 := Scalar.cmpi .ne v15 v20
  let v22 : BitVec 32 := Scalar.remsi arg0 c2_i32_3
  let c0_i32_8 : BitVec 32 := 0#32
  let v23 : BitVec 1 := Scalar.cmpi .ne v22 c0_i32_8
  let v24 : BitVec 1 := Scalar.andi v21 v23
  let c1_i32_9 : BitVec 32 := 1#32
  let v25 : BitVec 32 := Scalar.subi v10 c1_i32_9
  let v26 : BitVec 32 := Scalar.select v24 v25 v10
  let c0_i32_10 : BitVec 32 := 0#32
  let c0_i32_11 : BitVec 32 := 0#32
  let c0_i32_12 : BitVec 32 := 0#32
  ![v9.toNat, v26.toNat, c0_i32_10.toNat, c0_i32_11.toNat]

def cc0_transform_1 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c2_i32_3 : BitVec 32 := 2#32
  let v10 : BitVec 32 := Scalar.divsi arg0 c2_i32_3
  let c0_i32_4 : BitVec 32 := 0#32
  let v11 : BitVec 1 := Scalar.cmpi .sgt arg0 c0_i32_4
  let v12 : BitVec 32 := Scalar.extui v11
  let c0_i32_5 : BitVec 32 := 0#32
  let v13 : BitVec 1 := Scalar.cmpi .slt arg0 c0_i32_5
  let v14 : BitVec 32 := Scalar.extui v13
  let v15 : BitVec 32 := Scalar.subi v12 v14
  let c0_i32_6 : BitVec 32 := 0#32
  let v16 : BitVec 1 := Scalar.cmpi .sgt c2_i32_3 c0_i32_6
  let v17 : BitVec 32 := Scalar.extui v16
  let c0_i32_7 : BitVec 32 := 0#32
  let v18 : BitVec 1 := Scalar.cmpi .slt c2_i32_3 c0_i32_7
  let v19 : BitVec 32 := Scalar.extui v18
  let v20 : BitVec 32 := Scalar.subi v17 v19
  let v21 : BitVec 1 := Scalar.cmpi .ne v15 v20
  let v22 : BitVec 32 := Scalar.remsi arg0 c2_i32_3
  let c0_i32_8 : BitVec 32 := 0#32
  let v23 : BitVec 1 := Scalar.cmpi .ne v22 c0_i32_8
  let v24 : BitVec 1 := Scalar.andi v21 v23
  let c1_i32_9 : BitVec 32 := 1#32
  let v25 : BitVec 32 := Scalar.subi v10 c1_i32_9
  let v26 : BitVec 32 := Scalar.select v24 v25 v10
  let c0_i32_10 : BitVec 32 := 0#32
  let c0_i32_11 : BitVec 32 := 0#32
  let c0_i32_12 : BitVec 32 := 0#32
  ![v9.toNat, v26.toNat, c0_i32_10.toNat, c0_i32_11.toNat]

def cc0_transform_2 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c2_i32_3 : BitVec 32 := 2#32
  let v10 : BitVec 32 := Scalar.divsi arg0 c2_i32_3
  let c0_i32_4 : BitVec 32 := 0#32
  let v11 : BitVec 1 := Scalar.cmpi .sgt arg0 c0_i32_4
  let v12 : BitVec 32 := Scalar.extui v11
  let c0_i32_5 : BitVec 32 := 0#32
  let v13 : BitVec 1 := Scalar.cmpi .slt arg0 c0_i32_5
  let v14 : BitVec 32 := Scalar.extui v13
  let v15 : BitVec 32 := Scalar.subi v12 v14
  let c0_i32_6 : BitVec 32 := 0#32
  let v16 : BitVec 1 := Scalar.cmpi .sgt c2_i32_3 c0_i32_6
  let v17 : BitVec 32 := Scalar.extui v16
  let c0_i32_7 : BitVec 32 := 0#32
  let v18 : BitVec 1 := Scalar.cmpi .slt c2_i32_3 c0_i32_7
  let v19 : BitVec 32 := Scalar.extui v18
  let v20 : BitVec 32 := Scalar.subi v17 v19
  let v21 : BitVec 1 := Scalar.cmpi .ne v15 v20
  let v22 : BitVec 32 := Scalar.remsi arg0 c2_i32_3
  let c0_i32_8 : BitVec 32 := 0#32
  let v23 : BitVec 1 := Scalar.cmpi .ne v22 c0_i32_8
  let v24 : BitVec 1 := Scalar.andi v21 v23
  let c1_i32_9 : BitVec 32 := 1#32
  let v25 : BitVec 32 := Scalar.subi v10 c1_i32_9
  let v26 : BitVec 32 := Scalar.select v24 v25 v10
  let c0_i32_10 : BitVec 32 := 0#32
  let c0_i32_11 : BitVec 32 := 0#32
  let c0_i32_12 : BitVec 32 := 0#32
  ![v9.toNat, v26.toNat, c0_i32_10.toNat, c0_i32_11.toNat]

def cc0_transform_3 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c2_i32_3 : BitVec 32 := 2#32
  let v10 : BitVec 32 := Scalar.divsi arg0 c2_i32_3
  let c0_i32_4 : BitVec 32 := 0#32
  let v11 : BitVec 1 := Scalar.cmpi .sgt arg0 c0_i32_4
  let v12 : BitVec 32 := Scalar.extui v11
  let c0_i32_5 : BitVec 32 := 0#32
  let v13 : BitVec 1 := Scalar.cmpi .slt arg0 c0_i32_5
  let v14 : BitVec 32 := Scalar.extui v13
  let v15 : BitVec 32 := Scalar.subi v12 v14
  let c0_i32_6 : BitVec 32 := 0#32
  let v16 : BitVec 1 := Scalar.cmpi .sgt c2_i32_3 c0_i32_6
  let v17 : BitVec 32 := Scalar.extui v16
  let c0_i32_7 : BitVec 32 := 0#32
  let v18 : BitVec 1 := Scalar.cmpi .slt c2_i32_3 c0_i32_7
  let v19 : BitVec 32 := Scalar.extui v18
  let v20 : BitVec 32 := Scalar.subi v17 v19
  let v21 : BitVec 1 := Scalar.cmpi .ne v15 v20
  let v22 : BitVec 32 := Scalar.remsi arg0 c2_i32_3
  let c0_i32_8 : BitVec 32 := 0#32
  let v23 : BitVec 1 := Scalar.cmpi .ne v22 c0_i32_8
  let v24 : BitVec 1 := Scalar.andi v21 v23
  let c1_i32_9 : BitVec 32 := 1#32
  let v25 : BitVec 32 := Scalar.subi v10 c1_i32_9
  let v26 : BitVec 32 := Scalar.select v24 v25 v10
  let c0_i32_10 : BitVec 32 := 0#32
  let c0_i32_11 : BitVec 32 := 0#32
  let c0_i32_12 : BitVec 32 := 0#32
  ![v9.toNat, v26.toNat, c0_i32_10.toNat, c0_i32_11.toNat]

def cc0_transform_4 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c2_i32_3 : BitVec 32 := 2#32
  let v10 : BitVec 32 := Scalar.divsi arg0 c2_i32_3
  let c0_i32_4 : BitVec 32 := 0#32
  let v11 : BitVec 1 := Scalar.cmpi .sgt arg0 c0_i32_4
  let v12 : BitVec 32 := Scalar.extui v11
  let c0_i32_5 : BitVec 32 := 0#32
  let v13 : BitVec 1 := Scalar.cmpi .slt arg0 c0_i32_5
  let v14 : BitVec 32 := Scalar.extui v13
  let v15 : BitVec 32 := Scalar.subi v12 v14
  let c0_i32_6 : BitVec 32 := 0#32
  let v16 : BitVec 1 := Scalar.cmpi .sgt c2_i32_3 c0_i32_6
  let v17 : BitVec 32 := Scalar.extui v16
  let c0_i32_7 : BitVec 32 := 0#32
  let v18 : BitVec 1 := Scalar.cmpi .slt c2_i32_3 c0_i32_7
  let v19 : BitVec 32 := Scalar.extui v18
  let v20 : BitVec 32 := Scalar.subi v17 v19
  let v21 : BitVec 1 := Scalar.cmpi .ne v15 v20
  let v22 : BitVec 32 := Scalar.remsi arg0 c2_i32_3
  let c0_i32_8 : BitVec 32 := 0#32
  let v23 : BitVec 1 := Scalar.cmpi .ne v22 c0_i32_8
  let v24 : BitVec 1 := Scalar.andi v21 v23
  let c1_i32_9 : BitVec 32 := 1#32
  let v25 : BitVec 32 := Scalar.subi v10 c1_i32_9
  let v26 : BitVec 32 := Scalar.select v24 v25 v10
  let c0_i32_10 : BitVec 32 := 0#32
  let c0_i32_11 : BitVec 32 := 0#32
  let c0_i32_12 : BitVec 32 := 0#32
  ![v9.toNat, v26.toNat, c0_i32_10.toNat, c0_i32_11.toNat]

def cc0_transform_5 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c2_i32_3 : BitVec 32 := 2#32
  let v10 : BitVec 32 := Scalar.divsi arg0 c2_i32_3
  let c0_i32_4 : BitVec 32 := 0#32
  let v11 : BitVec 1 := Scalar.cmpi .sgt arg0 c0_i32_4
  let v12 : BitVec 32 := Scalar.extui v11
  let c0_i32_5 : BitVec 32 := 0#32
  let v13 : BitVec 1 := Scalar.cmpi .slt arg0 c0_i32_5
  let v14 : BitVec 32 := Scalar.extui v13
  let v15 : BitVec 32 := Scalar.subi v12 v14
  let c0_i32_6 : BitVec 32 := 0#32
  let v16 : BitVec 1 := Scalar.cmpi .sgt c2_i32_3 c0_i32_6
  let v17 : BitVec 32 := Scalar.extui v16
  let c0_i32_7 : BitVec 32 := 0#32
  let v18 : BitVec 1 := Scalar.cmpi .slt c2_i32_3 c0_i32_7
  let v19 : BitVec 32 := Scalar.extui v18
  let v20 : BitVec 32 := Scalar.subi v17 v19
  let v21 : BitVec 1 := Scalar.cmpi .ne v15 v20
  let v22 : BitVec 32 := Scalar.remsi arg0 c2_i32_3
  let c0_i32_8 : BitVec 32 := 0#32
  let v23 : BitVec 1 := Scalar.cmpi .ne v22 c0_i32_8
  let v24 : BitVec 1 := Scalar.andi v21 v23
  let c1_i32_9 : BitVec 32 := 1#32
  let v25 : BitVec 32 := Scalar.subi v10 c1_i32_9
  let v26 : BitVec 32 := Scalar.select v24 v25 v10
  let c0_i32_10 : BitVec 32 := 0#32
  let c0_i32_11 : BitVec 32 := 0#32
  let c0_i32_12 : BitVec 32 := 0#32
  ![v9.toNat, v26.toNat, c0_i32_10.toNat, c0_i32_11.toNat]

def cc0_transform_6 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c2_i32_3 : BitVec 32 := 2#32
  let v10 : BitVec 32 := Scalar.divsi arg0 c2_i32_3
  let c0_i32_4 : BitVec 32 := 0#32
  let v11 : BitVec 1 := Scalar.cmpi .sgt arg0 c0_i32_4
  let v12 : BitVec 32 := Scalar.extui v11
  let c0_i32_5 : BitVec 32 := 0#32
  let v13 : BitVec 1 := Scalar.cmpi .slt arg0 c0_i32_5
  let v14 : BitVec 32 := Scalar.extui v13
  let v15 : BitVec 32 := Scalar.subi v12 v14
  let c0_i32_6 : BitVec 32 := 0#32
  let v16 : BitVec 1 := Scalar.cmpi .sgt c2_i32_3 c0_i32_6
  let v17 : BitVec 32 := Scalar.extui v16
  let c0_i32_7 : BitVec 32 := 0#32
  let v18 : BitVec 1 := Scalar.cmpi .slt c2_i32_3 c0_i32_7
  let v19 : BitVec 32 := Scalar.extui v18
  let v20 : BitVec 32 := Scalar.subi v17 v19
  let v21 : BitVec 1 := Scalar.cmpi .ne v15 v20
  let v22 : BitVec 32 := Scalar.remsi arg0 c2_i32_3
  let c0_i32_8 : BitVec 32 := 0#32
  let v23 : BitVec 1 := Scalar.cmpi .ne v22 c0_i32_8
  let v24 : BitVec 1 := Scalar.andi v21 v23
  let c1_i32_9 : BitVec 32 := 1#32
  let v25 : BitVec 32 := Scalar.subi v10 c1_i32_9
  let v26 : BitVec 32 := Scalar.select v24 v25 v10
  let c0_i32_10 : BitVec 32 := 0#32
  let c0_i32_11 : BitVec 32 := 0#32
  let c0_i32_12 : BitVec 32 := 0#32
  ![v9.toNat, v26.toNat, c0_i32_10.toNat, c0_i32_11.toNat]

def cc0_transform_7 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c2_i32_3 : BitVec 32 := 2#32
  let v10 : BitVec 32 := Scalar.divsi arg0 c2_i32_3
  let c0_i32_4 : BitVec 32 := 0#32
  let v11 : BitVec 1 := Scalar.cmpi .sgt arg0 c0_i32_4
  let v12 : BitVec 32 := Scalar.extui v11
  let c0_i32_5 : BitVec 32 := 0#32
  let v13 : BitVec 1 := Scalar.cmpi .slt arg0 c0_i32_5
  let v14 : BitVec 32 := Scalar.extui v13
  let v15 : BitVec 32 := Scalar.subi v12 v14
  let c0_i32_6 : BitVec 32 := 0#32
  let v16 : BitVec 1 := Scalar.cmpi .sgt c2_i32_3 c0_i32_6
  let v17 : BitVec 32 := Scalar.extui v16
  let c0_i32_7 : BitVec 32 := 0#32
  let v18 : BitVec 1 := Scalar.cmpi .slt c2_i32_3 c0_i32_7
  let v19 : BitVec 32 := Scalar.extui v18
  let v20 : BitVec 32 := Scalar.subi v17 v19
  let v21 : BitVec 1 := Scalar.cmpi .ne v15 v20
  let v22 : BitVec 32 := Scalar.remsi arg0 c2_i32_3
  let c0_i32_8 : BitVec 32 := 0#32
  let v23 : BitVec 1 := Scalar.cmpi .ne v22 c0_i32_8
  let v24 : BitVec 1 := Scalar.andi v21 v23
  let c1_i32_9 : BitVec 32 := 1#32
  let v25 : BitVec 32 := Scalar.subi v10 c1_i32_9
  let v26 : BitVec 32 := Scalar.select v24 v25 v10
  let c0_i32_10 : BitVec 32 := 0#32
  let c0_i32_11 : BitVec 32 := 0#32
  let c0_i32_12 : BitVec 32 := 0#32
  ![v9.toNat, v26.toNat, c0_i32_10.toNat, c0_i32_11.toNat]

abbrev stage0_0 : Fin 2 → Memref sig .tc .vmem S1x4x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4x256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x4x256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x4x256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x4x256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x4x256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x4x256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x4x256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== KernelIdeal.lean ====
variable {F : FTy → Type} [FloatOps F] [Named F]
def κ : String → Option EReal := fun
  | "mask" => some ⊥
  | _ => none
-- ==== ReferenceIdeal.lean ====
abbrev S2x16x256x128 : Shape := ⟨4, ![2, 16, 256, 128]⟩
abbrev S2x16x256x2x64 : Shape := ⟨5, ![2, 16, 256, 2, 64]⟩
abbrev S2x16x2x256x64 : Shape := ⟨5, ![2, 16, 2, 256, 64]⟩
abbrev S64x256x64 : Shape := ⟨3, ![64, 256, 64]⟩
abbrev S64x256x1 : Shape := ⟨3, ![64, 256, 1]⟩
abbrev S64x256 : Shape := ⟨2, ![64, 256]⟩
abbrev S64x4x64x64 : Shape := ⟨4, ![64, 4, 64, 64]⟩
abbrev S_ : Shape := ⟨0, ![]⟩
abbrev S64x64x64 : Shape := ⟨3, ![64, 64, 64]⟩
abbrev S64x384x64 : Shape := ⟨3, ![64, 384, 64]⟩
abbrev S64x6x64x64 : Shape := ⟨4, ![64, 6, 64, 64]⟩
abbrev S64x4x192x64 : Shape := ⟨4, ![64, 4, 192, 64]⟩
abbrev S64x4x64x192 : Shape := ⟨4, ![64, 4, 64, 192]⟩
abbrev S256 : Shape := ⟨1, ![256]⟩
abbrev S4x64 : Shape := ⟨2, ![4, 64]⟩
abbrev S4x64x1 : Shape := ⟨3, ![4, 64, 1]⟩
abbrev S4 : Shape := ⟨1, ![4]⟩
abbrev S4x1x1 : Shape := ⟨3, ![4, 1, 1]⟩
abbrev S192 : Shape := ⟨1, ![192]⟩
abbrev S1x1x192 : Shape := ⟨3, ![1, 1, 192]⟩
abbrev S4x1x192 : Shape := ⟨3, ![4, 1, 192]⟩
abbrev S4x64x192 : Shape := ⟨3, ![4, 64, 192]⟩
abbrev S64x4x64 : Shape := ⟨3, ![64, 4, 64]⟩
abbrev S64x4x64x1 : Shape := ⟨4, ![64, 4, 64, 1]⟩

abbrev nBuf : Space → Nat
  | .hbm => 170
  | .vmem => 0
  | .smem => 0
  | _ => 0

abbrev hbmTy0_0 (i : Nat) : BufTy := match i % 128 with
  | 0 => ⟨S2x16x256x128, .bf16⟩
  | 1 => ⟨S2x16x256x128, .bf16⟩
  | 2 => ⟨S2x16x256x128, .bf16⟩
  | 3 => ⟨S2x16x256x128, .bf16⟩
  | 4 => ⟨S2x16x256x128, .f32⟩
  | 5 => ⟨S2x16x256x128, .f32⟩
  | 6 => ⟨S2x16x256x2x64, .f32⟩
  | 7 => ⟨S2x16x2x256x64, .f32⟩
  | 8 => ⟨S64x256x64, .f32⟩
  | 9 => ⟨S2x16x256x2x64, .f32⟩
  | 10 => ⟨S2x16x2x256x64, .f32⟩
  | 11 => ⟨S64x256x64, .f32⟩
  | 12 => ⟨S64x256x1, .f32⟩
  | 13 => ⟨S64x256, .f32⟩
  | 14 => ⟨S2x16x256x128, .f32⟩
  | 15 => ⟨S2x16x256x2x64, .f32⟩
  | 16 => ⟨S2x16x2x256x64, .f32⟩
  | 17 => ⟨S64x256x64, .f32⟩
  | 18 => ⟨S2x16x256x128, .f32⟩
  | 19 => ⟨S2x16x256x2x64, .f32⟩
  | 20 => ⟨S2x16x2x256x64, .f32⟩
  | 21 => ⟨S64x256x64, .f32⟩
  | 22 => ⟨S2x16x256x128, .f32⟩
  | 23 => ⟨S2x16x256x2x64, .f32⟩
  | 24 => ⟨S2x16x2x256x64, .f32⟩
  | 25 => ⟨S64x256x64, .f32⟩
  | 26 => ⟨S64x4x64x64, .f32⟩
  | 27 => ⟨S_, .f32⟩
  | 28 => ⟨S64x64x64, .f32⟩
  | 29 => ⟨S64x384x64, .f32⟩
  | 30 => ⟨S_, .f32⟩
  | 31 => ⟨S64x64x64, .f32⟩
  | 32 => ⟨S_, .f32⟩
  | 33 => ⟨S64x64x64, .f32⟩
  | 34 => ⟨S64x6x64x64, .f32⟩
  | 35 => ⟨S64x4x64x64, .f32⟩
  | 36 => ⟨S64x4x64x64, .f32⟩
  | 37 => ⟨S64x4x64x64, .f32⟩
  | 38 => ⟨S64x4x192x64, .f32⟩
  | 39 => ⟨S_, .f32⟩
  | 40 => ⟨S64x64x64, .f32⟩
  | 41 => ⟨S64x384x64, .f32⟩
  | 42 => ⟨S_, .f32⟩
  | 43 => ⟨S64x64x64, .f32⟩
  | 44 => ⟨S_, .f32⟩
  | 45 => ⟨S64x64x64, .f32⟩
  | 46 => ⟨S64x6x64x64, .f32⟩
  | 47 => ⟨S64x4x64x64, .f32⟩
  | 48 => ⟨S64x4x64x64, .f32⟩
  | 49 => ⟨S64x4x64x64, .f32⟩
  | 50 => ⟨S64x4x192x64, .f32⟩
  | 51 => ⟨S64x4x64x192, .f32⟩
  | 52 => ⟨S_, .f32⟩
  | 53 => ⟨S64x4x64x192, .f32⟩
  | 54 => ⟨S64x4x64x192, .f32⟩
  | 55 => ⟨S256, .i32⟩
  | 56 => ⟨S4x64, .i32⟩
  | 57 => ⟨S4x64x1, .i32⟩
  | 58 => ⟨S4, .i32⟩
  | 59 => ⟨S4x1x1, .i32⟩
  | 60 => ⟨S_, .i32⟩
  | 61 => ⟨S4x1x1, .i32⟩
  | 62 => ⟨S4x1x1, .i32⟩
  | 63 => ⟨S_, .i32⟩
  | 64 => ⟨S4x1x1, .i32⟩
  | 65 => ⟨S4x1x1, .i32⟩
  | 66 => ⟨S192, .i32⟩
  | 67 => ⟨S1x1x192, .i32⟩
  | 68 => ⟨S4x1x192, .i32⟩
  | 69 => ⟨S4x1x192, .i32⟩
  | 70 => ⟨S4x1x192, .i32⟩
  | 71 => ⟨S_, .i32⟩
  | 72 => ⟨S4x1x192, .i32⟩
  | 73 => ⟨S4x1x192, .i1⟩
  | 74 => ⟨S_, .i32⟩
  | 75 => ⟨S4x1x192, .i32⟩
  | 76 => ⟨S4x1x192, .i1⟩
  | 77 => ⟨S4x1x192, .i1⟩
  | 78 => ⟨S4x64x192, .i32⟩
  | 79 => ⟨S4x64x192, .i32⟩
  | 80 => ⟨S4x64x192, .i32⟩
  | 81 => ⟨S4x64x192, .i32⟩
  | 82 => ⟨S_, .i32⟩
  | 83 => ⟨S4x64x192, .i32⟩
  | 84 => ⟨S4x64x192, .i1⟩
  | 85 => ⟨S4x64x192, .i1⟩
  | 86 => ⟨S4x64x192, .i1⟩
  | 87 => ⟨S_, .f32⟩
  | 88 => ⟨S_, .f32⟩
  | 89 => ⟨S64x4x64x192, .i1⟩
  | 90 => ⟨S64x4x64x192, .f32⟩
  | 91 => ⟨S64x4x64x192, .f32⟩
  | 92 => ⟨S_, .f32⟩
  | 93 => ⟨S64x4x64x192, .f32⟩
  | 94 => ⟨S64x4x64x192, .f32⟩
  | 95 => ⟨S_, .f32⟩
  | 96 => ⟨S64x4x64, .f32⟩
  | 97 => ⟨S64x4x64, .f32⟩
  | 98 => ⟨S64x4x64x1, .f32⟩
  | 99 => ⟨S64x4x64x192, .f32⟩
  | 100 => ⟨S64x4x64x192, .f32⟩
  | 101 => ⟨S64x4x64x192, .f32⟩
  | 102 => ⟨S64x4x64x64, .f32⟩
  | 103 => ⟨S64x256x64, .f32⟩
  | 104 => ⟨S64x256, .f32⟩
  | 105 => ⟨S64x4x64, .f32⟩
  | 106 => ⟨S64x4x64x64, .f32⟩
  | 107 => ⟨S64x4x64x192, .f32⟩
  | 108 => ⟨S64x4x192x64, .f32⟩
  | 109 => ⟨S64x4x64x192, .f32⟩
  | 110 => ⟨S64x4x64x192, .f32⟩
  | 111 => ⟨S64x4x64x192, .f32⟩
  | 112 => ⟨S_, .f32⟩
  | 113 => ⟨S64x4x64, .f32⟩
  | 114 => ⟨S64x4x64x1, .f32⟩
  | 115 => ⟨S_, .f32⟩
  | 116 => ⟨S64x4x64, .f32⟩
  | 117 => ⟨S64x4x64, .f32⟩
  | 118 => ⟨S64x4x64, .f32⟩
  | 119 => ⟨S64x4x64x192, .f32⟩
  | 120 => ⟨S64x4x64x192, .f32⟩
  | 121 => ⟨S64x4x64x192, .f32⟩
  | 122 => ⟨S_, .f32⟩
  | 123 => ⟨S64x4x64x192, .f32⟩
  | 124 => ⟨S64x4x64x192, .f32⟩
  | 125 => ⟨S_, .f32⟩
  | 126 => ⟨S64x4x64x192, .f32⟩
  | 127 => ⟨S64x4x64x192, .f32⟩
  | _ => ⟨S2x16x256x128, .bf16⟩

abbrev hbmTy0_1 (i : Nat) : BufTy := match i % 128 with
  | 0 => ⟨S64x4x192x64, .f32⟩
  | 1 => ⟨S64x4x64x64, .f32⟩
  | 2 => ⟨S64x4x64x64, .f32⟩
  | 3 => ⟨S64x4x64x64, .f32⟩
  | 4 => ⟨S64x4x64x64, .f32⟩
  | 5 => ⟨S_, .f32⟩
  | 6 => ⟨S64x6x64x64, .f32⟩
  | 7 => ⟨S_, .f32⟩
  | 8 => ⟨S64x6x64x64, .f32⟩
  | 9 => ⟨S64x6x64x64, .f32⟩
  | 10 => ⟨S_, .f32⟩
  | 11 => ⟨S64x6x64x64, .f32⟩
  | 12 => ⟨S64x6x64x64, .f32⟩
  | 13 => ⟨S64x384x64, .f32⟩
  | 14 => ⟨S64x64x64, .f32⟩
  | 15 => ⟨S64x256x64, .f32⟩
  | 16 => ⟨S64x64x64, .f32⟩
  | 17 => ⟨S64x4x64x64, .f32⟩
  | 18 => ⟨S64x4x64x64, .f32⟩
  | 19 => ⟨S64x4x64x64, .f32⟩
  | 20 => ⟨S_, .f32⟩
  | 21 => ⟨S64x6x64x64, .f32⟩
  | 22 => ⟨S_, .f32⟩
  | 23 => ⟨S64x6x64x64, .f32⟩
  | 24 => ⟨S64x6x64x64, .f32⟩
  | 25 => ⟨S_, .f32⟩
  | 26 => ⟨S64x6x64x64, .f32⟩
  | 27 => ⟨S64x6x64x64, .f32⟩
  | 28 => ⟨S64x384x64, .f32⟩
  | 29 => ⟨S64x64x64, .f32⟩
  | 30 => ⟨S64x256x64, .f32⟩
  | 31 => ⟨S64x64x64, .f32⟩
  | 32 => ⟨S64x256x64, .f32⟩
  | 33 => ⟨S2x16x2x256x64, .f32⟩
  | 34 => ⟨S2x16x256x2x64, .f32⟩
  | 35 => ⟨S2x16x256x128, .f32⟩
  | 36 => ⟨S2x16x2x256x64, .f32⟩
  | 37 => ⟨S2x16x256x2x64, .f32⟩
  | 38 => ⟨S2x16x256x128, .f32⟩
  | 39 => ⟨S2x16x2x256x64, .f32⟩
  | 40 => ⟨S2x16x256x2x64, .f32⟩
  | 41 => ⟨S2x16x256x128, .f32⟩
  | _ => ⟨S2x16x256x128, .bf16⟩

abbrev hbmTy (i : Nat) : BufTy := match i / 128 with
  | 0 => hbmTy0_0 i
  | 1 => hbmTy0_1 i
  | _ => ⟨S2x16x256x128, .bf16⟩

abbrev bufTy : (tb : Table) → Fin (tcTables nBuf tb) → BufTy
  | .hbm, ⟨i, _⟩ => hbmTy i
  | _, _ => ⟨S2x16x256x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_cst : Ref sig .tc := ⟨.hbm, 27, rfl⟩
abbrev main_v22 : Ref sig .tc := ⟨.hbm, 28, rfl⟩
abbrev main_v23 : Ref sig .tc := ⟨.hbm, 29, rfl⟩
abbrev main_cst_0 : Ref sig .tc := ⟨.hbm, 30, rfl⟩
abbrev main_v24 : Ref sig .tc := ⟨.hbm, 31, rfl⟩
abbrev main_cst_1 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_cst_2 : Ref sig .tc := ⟨.hbm, 39, rfl⟩
abbrev main_v31 : Ref sig .tc := ⟨.hbm, 40, rfl⟩
abbrev main_v32 : Ref sig .tc := ⟨.hbm, 41, rfl⟩
abbrev main_cst_3 : Ref sig .tc := ⟨.hbm, 42, rfl⟩
abbrev main_v33 : Ref sig .tc := ⟨.hbm, 43, rfl⟩
abbrev main_cst_4 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_cst_5 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_c : Ref sig .tc := ⟨.hbm, 60, rfl⟩
abbrev main_v48 : Ref sig .tc := ⟨.hbm, 61, rfl⟩
abbrev main_v49 : Ref sig .tc := ⟨.hbm, 62, rfl⟩
abbrev main_c_6 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_c_7 : Ref sig .tc := ⟨.hbm, 71, rfl⟩
abbrev main_v57 : Ref sig .tc := ⟨.hbm, 72, rfl⟩
abbrev main_v58 : Ref sig .tc := ⟨.hbm, 73, rfl⟩
abbrev main_c_8 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_c_9 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_cst_10 : Ref sig .tc := ⟨.hbm, 87, rfl⟩
abbrev main_call0_v0 : Ref sig .tc := ⟨.hbm, 88, rfl⟩
abbrev main_v70_1 : Ref sig .tc := ⟨.hbm, 89, rfl⟩
abbrev main_call0_v2 : Ref sig .tc := ⟨.hbm, 90, rfl⟩
abbrev main_v70_0 : Ref sig .tc := ⟨.hbm, 91, rfl⟩
abbrev main_call0_cst : Ref sig .tc := ⟨.hbm, 92, rfl⟩
abbrev main_v70_2 : Ref sig .tc := ⟨.hbm, 93, rfl⟩
abbrev main_v71 : Ref sig .tc := ⟨.hbm, 94, rfl⟩
abbrev main_cst_11 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_cst_12 : Ref sig .tc := ⟨.hbm, 112, rfl⟩
abbrev main_v88 : Ref sig .tc := ⟨.hbm, 113, rfl⟩
abbrev main_v89 : Ref sig .tc := ⟨.hbm, 114, rfl⟩
abbrev main_cst_13 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_call1_cst : Ref sig .tc := ⟨.hbm, 122, rfl⟩
abbrev main_call1_v0 : Ref sig .tc := ⟨.hbm, 123, rfl⟩
abbrev main_v96 : Ref sig .tc := ⟨.hbm, 124, rfl⟩
abbrev main_cst_14 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_cst_15 : Ref sig .tc := ⟨.hbm, 133, rfl⟩
abbrev main_v104 : Ref sig .tc := ⟨.hbm, 134, rfl⟩
abbrev main_cst_16 : Ref sig .tc := ⟨.hbm, 135, rfl⟩
abbrev main_v105 : Ref sig .tc := ⟨.hbm, 136, rfl⟩
abbrev main_v106 : Ref sig .tc := ⟨.hbm, 137, rfl⟩
abbrev main_cst_17 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_cst_18 : Ref sig .tc := ⟨.hbm, 148, rfl⟩
abbrev main_v116 : Ref sig .tc := ⟨.hbm, 149, rfl⟩
abbrev main_cst_19 : Ref sig .tc := ⟨.hbm, 150, rfl⟩
abbrev main_v117 : Ref sig .tc := ⟨.hbm, 151, rfl⟩
abbrev main_v118 : Ref sig .tc := ⟨.hbm, 152, rfl⟩
abbrev main_cst_20 : Ref sig .tc := ⟨.hbm, 153, rfl⟩
abbrev main_v119 : Ref sig .tc := ⟨.hbm, 154, rfl⟩
abbrev main_v120 : Ref sig .tc := ⟨.hbm, 155, rfl⟩
abbrev main_v121 : Ref sig .tc := ⟨.hbm, 156, rfl⟩
abbrev main_v122 : Ref sig .tc := ⟨.hbm, 157, rfl⟩
abbrev main_v123 : Ref sig .tc := ⟨.hbm, 158, rfl⟩
abbrev main_v124 : Ref sig .tc := ⟨.hbm, 159, rfl⟩
abbrev main_v125 : Ref sig .tc := ⟨.hbm, 160, rfl⟩
abbrev main_v126 : Ref sig .tc := ⟨.hbm, 161, rfl⟩
abbrev main_v127 : Ref sig .tc := ⟨.hbm, 162, rfl⟩
abbrev main_v128 : Ref sig .tc := ⟨.hbm, 163, rfl⟩
abbrev main_v129 : Ref sig .tc := ⟨.hbm, 164, rfl⟩
abbrev main_v130 : Ref sig .tc := ⟨.hbm, 165, rfl⟩
abbrev main_v131 : Ref sig .tc := ⟨.hbm, 166, rfl⟩
abbrev main_v132 : Ref sig .tc := ⟨.hbm, 167, rfl⟩
abbrev main_v133 : Ref sig .tc := ⟨.hbm, 168, rfl⟩
abbrev main_v134 : Ref sig .tc := ⟨.hbm, 169, rfl⟩

abbrev nD : Nat := 1
abbrev τ : Topo := Topo.v7x

variable {F : FTy → Type} [FloatOps F]
-- ==== Kernel2.lean ====
abbrev S4096x1024 : Shape := ⟨2, ![4096, 1024]⟩
abbrev S4096x4096 : Shape := ⟨2, ![4096, 4096]⟩
abbrev S1024x4096 : Shape := ⟨2, ![1024, 4096]⟩
abbrev S1024x1024 : Shape := ⟨2, ![1024, 1024]⟩
abbrev S256x1024 : Shape := ⟨2, ![256, 1024]⟩
abbrev S4x1024x1024 : Shape := ⟨3, ![4, 1024, 1024]⟩
abbrev S4x256x1024 : Shape := ⟨3, ![4, 256, 1024]⟩
abbrev S1024x4x1024 : Shape := ⟨3, ![1024, 4, 1024]⟩
abbrev S256x4x256 : Shape := ⟨3, ![256, 4, 256]⟩
abbrev S4x256x256 : Shape := ⟨3, ![4, 256, 256]⟩
abbrev S4x64x1024 : Shape := ⟨3, ![4, 64, 1024]⟩
abbrev S4x2368x1024 : Shape := ⟨3, ![4, 2368, 1024]⟩
abbrev S1x1024x1024 : Shape := ⟨3, ![1, 1024, 1024]⟩
abbrev S8x128 : Shape := ⟨2, ![8, 128]⟩

abbrev nBuf : Space → Nat
  | .hbm => 16
  | .vmem => 9
  | .smem => 0
  | _ => 0

abbrev bufTy : (tb : Table) → Fin (tcTables nBuf tb) → BufTy
  | .hbm, ⟨0, _⟩ => ⟨S4096x1024, .bf16⟩
  | .hbm, ⟨1, _⟩ => ⟨S4096x4096, .bf16⟩
  | .hbm, ⟨2, _⟩ => ⟨S1024x4096, .f32⟩
  | .hbm, ⟨3, _⟩ => ⟨S4096x1024, .f32⟩
  | .hbm, ⟨4, _⟩ => ⟨S1024x1024, .f32⟩
  | .hbm, ⟨5, _⟩ => ⟨S256x1024, .f32⟩
  | .hbm, ⟨6, _⟩ => ⟨S4x1024x1024, .f32⟩
  | .hbm, ⟨7, _⟩ => ⟨S4x256x1024, .f32⟩
  | .hbm, ⟨8, _⟩ => ⟨S1024x4x1024, .f32⟩
  | .hbm, ⟨9, _⟩ => ⟨S4x1024x1024, .f32⟩
  | .hbm, ⟨10, _⟩ => ⟨S256x4x256, .f32⟩
  | .hbm, ⟨11, _⟩ => ⟨S4x256x256, .f32⟩
  | .hbm, ⟨12, _⟩ => ⟨S4x64x1024, .f32⟩
  | .hbm, ⟨13, _⟩ => ⟨S4x2368x1024, .f32⟩
  | .hbm, ⟨14, _⟩ => ⟨S4x2368x1024, .bf16⟩
  | .hbm, ⟨15, _⟩ => ⟨S4096x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S8x128, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 1], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  ![arg1.toNat, c1_i32.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference2Ideal.lean ====
abbrev S4096x1024 : Shape := ⟨2, ![4096, 1024]⟩
abbrev S4096x4096 : Shape := ⟨2, ![4096, 4096]⟩
abbrev S1024x4096 : Shape := ⟨2, ![1024, 4096]⟩
abbrev S1024x1024 : Shape := ⟨2, ![1024, 1024]⟩
abbrev S256x1024 : Shape := ⟨2, ![256, 1024]⟩
abbrev S_ : Shape := ⟨0, ![]⟩

abbrev nBuf : Space → Nat
  | .hbm => 27
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x4096, .bf16⟩
  | .hbm, ⟨2, _⟩ => ⟨S1024x4096, .f32⟩
  | .hbm, ⟨3, _⟩ => ⟨S4096x1024, .f32⟩
  | .hbm, ⟨4, _⟩ => ⟨S1024x1024, .f32⟩
  | .hbm, ⟨5, _⟩ => ⟨S256x1024, .f32⟩
  | .hbm, ⟨6, _⟩ => ⟨S4096x4096, .f32⟩
  | .hbm, ⟨7, _⟩ => ⟨S_, .f32⟩
  | .hbm, ⟨8, _⟩ => ⟨S4096x4096, .f32⟩
  | .hbm, ⟨9, _⟩ => ⟨S4096x4096, .f32⟩
  | .hbm, ⟨10, _⟩ => ⟨S_, .f32⟩
  | .hbm, ⟨11, _⟩ => ⟨S4096x4096, .f32⟩
  | .hbm, ⟨12, _⟩ => ⟨S4096x4096, .i1⟩
  | .hbm, ⟨13, _⟩ => ⟨S_, .f32⟩
  | .hbm, ⟨14, _⟩ => ⟨S4096x4096, .f32⟩
  | .hbm, ⟨15, _⟩ => ⟨S4096x4096, .f32⟩
  | .hbm, ⟨16, _⟩ => ⟨S_, .f32⟩
  | .hbm, ⟨17, _⟩ => ⟨S4096x4096, .f32⟩
  | .hbm, ⟨18, _⟩ => ⟨S4096x4096, .f32⟩
  | .hbm, ⟨19, _⟩ => ⟨S4096x1024, .f32⟩
  | .hbm, ⟨20, _⟩ => ⟨S4096x1024, .f32⟩
  | .hbm, ⟨21, _⟩ => ⟨S4096x4096, .f32⟩
  | .hbm, ⟨22, _⟩ => ⟨S4096x4096, .f32⟩
  | .hbm, ⟨23, _⟩ => ⟨S_, .f32⟩
  | .hbm, ⟨24, _⟩ => ⟨S4096x4096, .f32⟩
  | .hbm, ⟨25, _⟩ => ⟨S4096x4096, .f32⟩
  | .hbm, ⟨26, _⟩ => ⟨S4096x4096, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_call0_cst : Ref sig .tc := ⟨.hbm, 7, rfl⟩
abbrev main_call0_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_2 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩

abbrev nD : Nat := 1
abbrev τ : Topo := Topo.v7x

variable {F : FTy → Type} [FloatOps F]
-- ==== Kernel3.lean ====
abbrev S4x2816x1024 : Shape := ⟨3, ![4, 2816, 1024]⟩
abbrev S4096x4096 : Shape := ⟨2, ![4096, 4096]⟩
abbrev S4096x1024 : Shape := ⟨2, ![4096, 1024]⟩
abbrev S4096x512 : Shape := ⟨2, ![4096, 512]⟩
abbrev S1x512x1024 : Shape := ⟨3, ![1, 512, 1024]⟩
abbrev S8x128 : Shape := ⟨2, ![8, 128]⟩
abbrev S512x1024 : Shape := ⟨2, ![512, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4x2816x1024, .f32⟩
  | .hbm, ⟨1, _⟩ => ⟨S4096x4096, .bf16⟩
  | .hbm, ⟨2, _⟩ => ⟨S4096x1024, .bf16⟩
  | .hbm, ⟨3, _⟩ => ⟨S4x2816x1024, .f32⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S1x512x1024, .f32⟩
  | .local _ .vmem, ⟨4, _⟩ => ⟨S1x512x1024, .f32⟩
  | .local _ .vmem, ⟨5, _⟩ => ⟨S8x128, .f32⟩
  | _, _ => ⟨S4x2816x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c2_i32_10 : BitVec 32 := 2#32
  let v27 : BitVec 32 := Scalar.addi c2_i32_10 v26
  let c0_i32_11 : BitVec 32 := 0#32
  let c0_i32_12 : BitVec 32 := 0#32
  ![v16.toNat, v27.toNat, c0_i32_11.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== Reference3Ideal.lean ====
abbrev S4x2816x1024 : Shape := ⟨3, ![4, 2816, 1024]⟩
abbrev S4096x4096 : Shape := ⟨2, ![4096, 4096]⟩
abbrev S4096x1024 : Shape := ⟨2, ![4096, 1024]⟩
abbrev S_ : Shape := ⟨0, ![]⟩
abbrev S1024x4096 : Shape := ⟨2, ![1024, 4096]⟩
abbrev S4x1024x1024 : Shape := ⟨3, ![4, 1024, 1024]⟩
abbrev S4x768x1024 : Shape := ⟨3, ![4, 768, 1024]⟩

abbrev nBuf : Space → Nat
  | .hbm => 14
  | .vmem => 0
  | .smem => 0
  | _ => 0

abbrev bufTy : (tb : Table) → Fin (tcTables nBuf tb) → BufTy
  | .hbm, ⟨0, _⟩ => ⟨S4x2816x1024, .f32⟩
  | .hbm, ⟨1, _⟩ => ⟨S4096x4096, .bf16⟩
  | .hbm, ⟨2, _⟩ => ⟨S4096x1024, .bf16⟩
  | .hbm, ⟨3, _⟩ => ⟨S_, .f32⟩
  | .hbm, ⟨4, _⟩ => ⟨S4096x1024, .f32⟩
  | .hbm, ⟨5, _⟩ => ⟨S4096x4096, .f32⟩
  | .hbm, ⟨6, _⟩ => ⟨S4096x1024, .f32⟩
  | .hbm, ⟨7, _⟩ => ⟨S4096x1024, .f32⟩
  | .hbm, ⟨8, _⟩ => ⟨S1024x4096, .f32⟩
  | .hbm, ⟨9, _⟩ => ⟨S4096x1024, .f32⟩
  | .hbm, ⟨10, _⟩ => ⟨S4x1024x1024, .f32⟩
  | .hbm, ⟨11, _⟩ => ⟨S4x1024x1024, .f32⟩
  | .hbm, ⟨12, _⟩ => ⟨S4x768x1024, .f32⟩
  | .hbm, ⟨13, _⟩ => ⟨S4x2816x1024, .f32⟩
  | _, _ => ⟨S4x2816x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== Kernel4.lean ====
abbrev S4x2816x1024 : Shape := ⟨3, ![4, 2816, 1024]⟩
abbrev S4096x1024 : Shape := ⟨2, ![4096, 1024]⟩
abbrev S4096x4096 : Shape := ⟨2, ![4096, 4096]⟩
abbrev S4096x512 : Shape := ⟨2, ![4096, 512]⟩
abbrev S1x1024x512 : Shape := ⟨3, ![1, 1024, 512]⟩
abbrev S8x128 : Shape := ⟨2, ![8, 128]⟩
abbrev S1024x512 : Shape := ⟨2, ![1024, 512]⟩

abbrev nBuf : Space → Nat
  | .hbm => 4
  | .vmem => 6
  | .smem => 0
  | _ => 0

abbrev bufTy : (tb : Table) → Fin (tcTables nBuf tb) → BufTy
  | .hbm, ⟨0, _⟩ => ⟨S4x2816x1024, .f32⟩
  | .hbm, ⟨1, _⟩ => ⟨S4096x1024, .bf16⟩
  | .hbm, ⟨2, _⟩ => ⟨S4096x4096, .bf16⟩
  | .hbm, ⟨3, _⟩ => ⟨S4x2816x1024, .f32⟩
  | .local _ .vmem, ⟨0, _⟩ => ⟨S4096x1024, .bf16⟩
  | .local _ .vmem, ⟨1, _⟩ => ⟨S4096x512, .bf16⟩
  | .local _ .vmem, ⟨2, _⟩ => ⟨S4096x512, .bf16⟩
  | .local _ .vmem, ⟨3, _⟩ => ⟨S1x1024x512, .f32⟩
  | .local _ .vmem, ⟨4, _⟩ => ⟨S1x1024x512, .f32⟩
  | .local _ .vmem, ⟨5, _⟩ => ⟨S8x128, .f32⟩
  | _, _ => ⟨S4x2816x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]
-- ==== Reference4Ideal.lean ====
abbrev S4x2816x1024 : Shape := ⟨3, ![4, 2816, 1024]⟩
abbrev S4096x1024 : Shape := ⟨2, ![4096, 1024]⟩
abbrev S4096x4096 : Shape := ⟨2, ![4096, 4096]⟩
abbrev S_ : Shape := ⟨0, ![]⟩
abbrev S1024x4096 : Shape := ⟨2, ![1024, 4096]⟩
abbrev S1024x4x1024 : Shape := ⟨3, ![1024, 4, 1024]⟩
abbrev S4x1024x1024 : Shape := ⟨3, ![4, 1024, 1024]⟩
abbrev S4x1792x1024 : Shape := ⟨3, ![4, 1792, 1024]⟩

abbrev nBuf : Space → Nat
  | .hbm => 14
  | .vmem => 0
  | .smem => 0
  | _ => 0

abbrev bufTy : (tb : Table) → Fin (tcTables nBuf tb) → BufTy
  | .hbm, ⟨0, _⟩ => ⟨S4x2816x1024, .f32⟩
  | .hbm, ⟨1, _⟩ => ⟨S4096x1024, .bf16⟩
  | .hbm, ⟨2, _⟩ => ⟨S4096x4096, .bf16⟩
  | .hbm, ⟨3, _⟩ => ⟨S_, .f32⟩
  | .hbm, ⟨4, _⟩ => ⟨S1024x4096, .f32⟩
  | .hbm, ⟨5, _⟩ => ⟨S4096x1024, .f32⟩
  | .hbm, ⟨6, _⟩ => ⟨S4096x4096, .f32⟩
  | .hbm, ⟨7, _⟩ => ⟨S4096x4096, .f32⟩
  | .hbm, ⟨8, _⟩ => ⟨S4096x1024, .f32⟩
  | .hbm, ⟨9, _⟩ => ⟨S1024x4096, .f32⟩
  | .hbm, ⟨10, _⟩ => ⟨S1024x4x1024, .f32⟩
  | .hbm, ⟨11, _⟩ => ⟨S4x1024x1024, .f32⟩
  | .hbm, ⟨12, _⟩ => ⟨S4x1792x1024, .f32⟩
  | .hbm, ⟨13, _⟩ => ⟨S4x2816x1024, .f32⟩
  | _, _ => ⟨S4x2816x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== Kernel5.lean ====
abbrev S4096x3840 : Shape := ⟨2, ![4096, 3840]⟩
abbrev S4096x2048 : Shape := ⟨2, ![4096, 2048]⟩
abbrev S4096x1024 : Shape := ⟨2, ![4096, 1024]⟩
abbrev S5888x1024 : Shape := ⟨2, ![5888, 1024]⟩
abbrev S4096x640 : Shape := ⟨2, ![4096, 640]⟩
abbrev S640x1024 : Shape := ⟨2, ![640, 1024]⟩
abbrev S8x128 : Shape := ⟨2, ![8, 128]⟩
abbrev S4096x256 : Shape := ⟨2, ![4096, 256]⟩
abbrev S256x1024 : Shape := ⟨2, ![256, 1024]⟩

abbrev nBuf : Space → Nat
  | .hbm => 5
  | .vmem => 12
  | .smem => 0
  | _ => 0

abbrev bufTy : (tb : Table) → Fin (tcTables nBuf tb) → BufTy
  | .hbm, ⟨0, _⟩ => ⟨S4096x3840, .bf16⟩
  | .hbm, ⟨1, _⟩ => ⟨S4096x2048, .bf16⟩
  | .hbm, ⟨2, _⟩ => ⟨S4096x1024, .bf16⟩
  | .hbm, ⟨3, _⟩ => ⟨S5888x1024, .f32⟩
  | .hbm, ⟨4, _⟩ => ⟨S5888x1024, .f32⟩
  | .local _ .vmem, ⟨0, _⟩ => ⟨S4096x640, .bf16⟩
  | .local _ .vmem, ⟨1, _⟩ => ⟨S4096x640, .bf16⟩
  | .local _ .vmem, ⟨2, _⟩ => ⟨S4096x1024, .bf16⟩
  | .local _ .vmem, ⟨3, _⟩ => ⟨S640x1024, .f32⟩
  | .local _ .vmem, ⟨4, _⟩ => ⟨S640x1024, .f32⟩
  | .local _ .vmem, ⟨5, _⟩ => ⟨S8x128, .f32⟩
  | .local _ .vmem, ⟨6, _⟩ => ⟨S4096x256, .bf16⟩
  | .local _ .vmem, ⟨7, _⟩ => ⟨S4096x256, .bf16⟩
  | .local _ .vmem, ⟨8, _⟩ => ⟨S4096x1024, .bf16⟩
  | .local _ .vmem, ⟨9, _⟩ => ⟨S256x1024, .f32⟩
  | .local _ .vmem, ⟨10, _⟩ => ⟨S256x1024, .f32⟩
  | .local _ .vmem, ⟨11, _⟩ => ⟨S8x128, .f32⟩
  | _, _ => ⟨S4096x3840, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc1_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨3, ![6, 1, 1], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S4096x640 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S640x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev grid1 : Pipeline.Grid := ⟨3, ![8, 1, 1], ![false, false, false]⟩

def k1_cond1 (i : grid1.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c15_i32 : BitVec 32 := 15#32
  let v0 : BitVec 32 := Scalar.addi c15_i32 arg0
  let c0_i32 : BitVec 32 := 0#32
  let c0_i32_0 : BitVec 32 := 0#32
  ![v0.toNat, c0_i32.toNat]

abbrev stage1_0 : Fin 2 → Memref sig .tc .vmem S4096x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 1 → Memref sig .tc .vmem S4096x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, true, true]

abbrev stage1_2 : Fin 2 → Memref sig .tc .vmem S256x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false, false]
-- ==== Reference5Ideal.lean ====
abbrev S4096x3840 : Shape := ⟨2, ![4096, 3840]⟩
abbrev S4096x2048 : Shape := ⟨2, ![4096, 2048]⟩
abbrev S4096x1024 : Shape := ⟨2, ![4096, 1024]⟩
abbrev S4096x5888 : Shape := ⟨2, ![4096, 5888]⟩
abbrev S_ : Shape := ⟨0, ![]⟩
abbrev S1024x5888 : Shape := ⟨2, ![1024, 5888]⟩
abbrev S5888x1024 : Shape := ⟨2, ![5888, 1024]⟩

abbrev nBuf : Space → Nat
  | .hbm => 12
  | .vmem => 0
  | .smem => 0
  | _ => 0

abbrev bufTy : (tb : Table) → Fin (tcTables nBuf tb) → BufTy
  | .hbm, ⟨0, _⟩ => ⟨S4096x3840, .bf16⟩
  | .hbm, ⟨1, _⟩ => ⟨S4096x2048, .bf16⟩
  | .hbm, ⟨2, _⟩ => ⟨S4096x1024, .bf16⟩
  | .hbm, ⟨3, _⟩ => ⟨S4096x5888, .bf16⟩
  | .hbm, ⟨4, _⟩ => ⟨S_, .f32⟩
  | .hbm, ⟨5, _⟩ => ⟨S1024x5888, .f32⟩
  | .hbm, ⟨6, _⟩ => ⟨S4096x1024, .f32⟩
  | .hbm, ⟨7, _⟩ => ⟨S4096x5888, .f32⟩
  | .hbm, ⟨8, _⟩ => ⟨S4096x5888, .f32⟩
  | .hbm, ⟨9, _⟩ => ⟨S5888x1024, .f32⟩
  | .hbm, ⟨10, _⟩ => ⟨S1024x5888, .f32⟩
  | .hbm, ⟨11, _⟩ => ⟨S5888x1024, .f32⟩
  | _, _ => ⟨S4096x3840, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Kernel6.lean ====
abbrev S4096x3840 : Shape := ⟨2, ![4096, 3840]⟩
abbrev S1024x5888 : Shape := ⟨2, ![1024, 5888]⟩
abbrev S4096x1024 : Shape := ⟨2, ![4096, 1024]⟩
abbrev S512x3840 : Shape := ⟨2, ![512, 3840]⟩
abbrev S1024x3840 : Shape := ⟨2, ![1024, 3840]⟩
abbrev S512x1024 : Shape := ⟨2, ![512, 1024]⟩
abbrev S8x128 : Shape := ⟨2, ![8, 128]⟩

abbrev nBuf : Space → Nat
  | .hbm => 4
  | .vmem => 6
  | .smem => 0
  | _ => 0

abbrev bufTy : (tb : Table) → Fin (tcTables nBuf tb) → BufTy
  | .hbm, ⟨0, _⟩ => ⟨S4096x3840, .bf16⟩
  | .hbm, ⟨1, _⟩ => ⟨S1024x5888, .f32⟩
  | .hbm, ⟨2, _⟩ => ⟨S1024x5888, .bf16⟩
  | .hbm, ⟨3, _⟩ => ⟨S4096x1024, .f32⟩
  | .local _ .vmem, ⟨0, _⟩ => ⟨S512x3840, .bf16⟩
  | .local _ .vmem, ⟨1, _⟩ => ⟨S512x3840, .bf16⟩
  | .local _ .vmem, ⟨2, _⟩ => ⟨S1024x3840, .bf16⟩
  | .local _ .vmem, ⟨3, _⟩ => ⟨S512x1024, .f32⟩
  | .local _ .vmem, ⟨4, _⟩ => ⟨S512x1024, .f32⟩
  | .local _ .vmem, ⟨5, _⟩ => ⟨S8x128, .f32⟩
  | _, _ => ⟨S4096x3840, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x3840 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x3840 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S4096x3840 : Shape := ⟨2, ![4096, 3840]⟩
abbrev S1024x5888 : Shape := ⟨2, ![1024, 5888]⟩
abbrev S_ : Shape := ⟨0, ![]⟩
abbrev S4096x1024 : Shape := ⟨2, ![4096, 1024]⟩
abbrev S1024x3840 : Shape := ⟨2, ![1024, 3840]⟩

abbrev nBuf : Space → Nat
  | .hbm => 8
  | .vmem => 0
  | .smem => 0
  | _ => 0

abbrev bufTy : (tb : Table) → Fin (tcTables nBuf tb) → BufTy
  | .hbm, ⟨0, _⟩ => ⟨S4096x3840, .bf16⟩
  | .hbm, ⟨1, _⟩ => ⟨S1024x5888, .f32⟩
  | .hbm, ⟨2, _⟩ => ⟨S_, .f32⟩
  | .hbm, ⟨3, _⟩ => ⟨S4096x1024, .f32⟩
  | .hbm, ⟨4, _⟩ => ⟨S1024x3840, .f32⟩
  | .hbm, ⟨5, _⟩ => ⟨S4096x3840, .f32⟩
  | .hbm, ⟨6, _⟩ => ⟨S4096x3840, .f32⟩
  | .hbm, ⟨7, _⟩ => ⟨S4096x1024, .f32⟩
  | _, _ => ⟨S4096x3840, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel7.lean ====
abbrev S4096x1024 : Shape := ⟨2, ![4096, 1024]⟩
abbrev S1024x4096 : Shape := ⟨2, ![1024, 4096]⟩
abbrev S1024x1024 : Shape := ⟨2, ![1024, 1024]⟩
abbrev S256x1024 : Shape := ⟨2, ![256, 1024]⟩
abbrev S4x1024x1024 : Shape := ⟨3, ![4, 1024, 1024]⟩
abbrev S4x256x1024 : Shape := ⟨3, ![4, 256, 1024]⟩
abbrev S1024x4x1024 : Shape := ⟨3, ![1024, 4, 1024]⟩
abbrev S256x4x256 : Shape := ⟨3, ![256, 4, 256]⟩
abbrev S4x256x256 : Shape := ⟨3, ![4, 256, 256]⟩
abbrev S4x64x1024 : Shape := ⟨3, ![4, 64, 1024]⟩
abbrev S4x2368x1024 : Shape := ⟨3, ![4, 2368, 1024]⟩
abbrev S4096x4096 : Shape := ⟨2, ![4096, 4096]⟩
abbrev S1x1024x1024 : Shape := ⟨3, ![1, 1024, 1024]⟩
abbrev S8x128 : Shape := ⟨2, ![8, 128]⟩

abbrev nBuf : Space → Nat
  | .hbm => 16
  | .vmem => 9
  | .smem => 0
  | _ => 0

abbrev bufTy : (tb : Table) → Fin (tcTables nBuf tb) → BufTy
  | .hbm, ⟨0, _⟩ => ⟨S4096x1024, .bf16⟩
  | .hbm, ⟨1, _⟩ => ⟨S1024x4096, .f32⟩
  | .hbm, ⟨2, _⟩ => ⟨S4096x1024, .f32⟩
  | .hbm, ⟨3, _⟩ => ⟨S1024x1024, .f32⟩
  | .hbm, ⟨4, _⟩ => ⟨S256x1024, .f32⟩
  | .hbm, ⟨5, _⟩ => ⟨S4x1024x1024, .f32⟩
  | .hbm, ⟨6, _⟩ => ⟨S4x256x1024, .f32⟩
  | .hbm, ⟨7, _⟩ => ⟨S1024x4x1024, .f32⟩
  | .hbm, ⟨8, _⟩ => ⟨S4x1024x1024, .f32⟩
  | .hbm, ⟨9, _⟩ => ⟨S256x4x256, .f32⟩
  | .hbm, ⟨10, _⟩ => ⟨S4x256x256, .f32⟩
  | .hbm, ⟨11, _⟩ => ⟨S4x64x1024, .f32⟩
  | .hbm, ⟨12, _⟩ => ⟨S4x2368x1024, .f32⟩
  | .hbm, ⟨13, _⟩ => ⟨S4x2368x1024, .bf16⟩
  | .hbm, ⟨14, _⟩ => ⟨S4096x4096, .bf16⟩
  | .hbm, ⟨15, _⟩ => ⟨S4096x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S8x128, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9_0 : Ref sig .tc := ⟨.hbm, 14, rfl⟩
abbrev main_v9_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 1], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference7Ideal.lean ====
abbrev S4096x1024 : Shape := ⟨2, ![4096, 1024]⟩
abbrev S1024x4096 : Shape := ⟨2, ![1024, 4096]⟩
abbrev S1024x1024 : Shape := ⟨2, ![1024, 1024]⟩
abbrev S256x1024 : Shape := ⟨2, ![256, 1024]⟩
abbrev S4096x4096 : Shape := ⟨2, ![4096, 4096]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x4096, .f32⟩
  | .hbm, ⟨2, _⟩ => ⟨S4096x1024, .f32⟩
  | .hbm, ⟨3, _⟩ => ⟨S1024x1024, .f32⟩
  | .hbm, ⟨4, _⟩ => ⟨S256x1024, .f32⟩
  | .hbm, ⟨5, _⟩ => ⟨S4096x1024, .f32⟩
  | .hbm, ⟨6, _⟩ => ⟨S4096x4096, .f32⟩
  | .hbm, ⟨7, _⟩ => ⟨S4096x4096, .bf16⟩
  | .hbm, ⟨8, _⟩ => ⟨S_, .f32⟩
  | .hbm, ⟨9, _⟩ => ⟨S4096x4096, .f32⟩
  | .hbm, ⟨10, _⟩ => ⟨S4096x4096, .f32⟩
  | .hbm, ⟨11, _⟩ => ⟨S4096x4096, .f32⟩
  | .hbm, ⟨12, _⟩ => ⟨S4096x4096, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_call0_cst : Ref sig .tc := ⟨.hbm, 8, rfl⟩
abbrev main_call0_v0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩

abbrev nD : Nat := 1
abbrev τ : Topo := Topo.v7x

variable {F : FTy → Type} [FloatOps F]
-- ==== Kernel8.lean ====
abbrev S4096x1024 : Shape := ⟨2, ![4096, 1024]⟩
abbrev S1024x5888 : Shape := ⟨2, ![1024, 5888]⟩
abbrev S4096x1536 : Shape := ⟨2, ![4096, 1536]⟩
abbrev S1024x1024 : Shape := ⟨2, ![1024, 1024]⟩
abbrev S1024x768 : Shape := ⟨2, ![1024, 768]⟩
abbrev S8x128 : Shape := ⟨2, ![8, 128]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S1024x5888, .f32⟩
  | .hbm, ⟨2, _⟩ => ⟨S1024x5888, .bf16⟩
  | .hbm, ⟨3, _⟩ => ⟨S4096x1536, .bf16⟩
  | .local _ .vmem, ⟨0, _⟩ => ⟨S1024x1024, .bf16⟩
  | .local _ .vmem, ⟨1, _⟩ => ⟨S1024x1024, .bf16⟩
  | .local _ .vmem, ⟨2, _⟩ => ⟨S1024x768, .bf16⟩
  | .local _ .vmem, ⟨3, _⟩ => ⟨S1024x768, .bf16⟩
  | .local _ .vmem, ⟨4, _⟩ => ⟨S1024x768, .bf16⟩
  | .local _ .vmem, ⟨5, _⟩ => ⟨S1024x768, .bf16⟩
  | .local _ .vmem, ⟨6, _⟩ => ⟨S8x128, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S4096x1024 : Shape := ⟨2, ![4096, 1024]⟩
abbrev S1024x5888 : Shape := ⟨2, ![1024, 5888]⟩
abbrev S4096x5888 : Shape := ⟨2, ![4096, 5888]⟩
abbrev S4096x1536 : Shape := ⟨2, ![4096, 1536]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x5888, .f32⟩
  | .hbm, ⟨2, _⟩ => ⟨S4096x1024, .f32⟩
  | .hbm, ⟨3, _⟩ => ⟨S4096x5888, .f32⟩
  | .hbm, ⟨4, _⟩ => ⟨S4096x1536, .f32⟩
  | .hbm, ⟨5, _⟩ => ⟨S4096x1536, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel9.lean ====
abbrev S4096x1024 : Shape := ⟨2, ![4096, 1024]⟩
abbrev S1024x5888 : Shape := ⟨2, ![1024, 5888]⟩
abbrev S4096x2304 : Shape := ⟨2, ![4096, 2304]⟩
abbrev S1024x1024 : Shape := ⟨2, ![1024, 1024]⟩
abbrev S1024x768 : Shape := ⟨2, ![1024, 768]⟩
abbrev S8x128 : Shape := ⟨2, ![8, 128]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S1024x5888, .f32⟩
  | .hbm, ⟨2, _⟩ => ⟨S1024x5888, .bf16⟩
  | .hbm, ⟨3, _⟩ => ⟨S4096x2304, .f32⟩
  | .local _ .vmem, ⟨0, _⟩ => ⟨S1024x1024, .bf16⟩
  | .local _ .vmem, ⟨1, _⟩ => ⟨S1024x1024, .bf16⟩
  | .local _ .vmem, ⟨2, _⟩ => ⟨S1024x768, .bf16⟩
  | .local _ .vmem, ⟨3, _⟩ => ⟨S1024x768, .bf16⟩
  | .local _ .vmem, ⟨4, _⟩ => ⟨S1024x768, .f32⟩
  | .local _ .vmem, ⟨5, _⟩ => ⟨S1024x768, .f32⟩
  | .local _ .vmem, ⟨6, _⟩ => ⟨S8x128, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 3, 1], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg1
  let c0_i32 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S4096x1024 : Shape := ⟨2, ![4096, 1024]⟩
abbrev S1024x5888 : Shape := ⟨2, ![1024, 5888]⟩
abbrev S4096x5888 : Shape := ⟨2, ![4096, 5888]⟩
abbrev S4096x2304 : Shape := ⟨2, ![4096, 2304]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x5888, .f32⟩
  | .hbm, ⟨2, _⟩ => ⟨S4096x1024, .f32⟩
  | .hbm, ⟨3, _⟩ => ⟨S4096x5888, .f32⟩
  | .hbm, ⟨4, _⟩ => ⟨S4096x2304, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel10.lean ====
abbrev S4096x1024 : Shape := ⟨2, ![4096, 1024]⟩
abbrev S1024x5888 : Shape := ⟨2, ![1024, 5888]⟩
abbrev S1024x2048 : Shape := ⟨2, ![1024, 2048]⟩
abbrev S4096x2048 : Shape := ⟨2, ![4096, 2048]⟩
abbrev S1024x1024 : Shape := ⟨2, ![1024, 1024]⟩
abbrev S8x128 : Shape := ⟨2, ![8, 128]⟩

abbrev nBuf : Space → Nat
  | .hbm => 5
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S1024x5888, .f32⟩
  | .hbm, ⟨2, _⟩ => ⟨S1024x5888, .bf16⟩
  | .hbm, ⟨3, _⟩ => ⟨S1024x2048, .bf16⟩
  | .hbm, ⟨4, _⟩ => ⟨S4096x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S8x128, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S4096x1024 : Shape := ⟨2, ![4096, 1024]⟩
abbrev S1024x5888 : Shape := ⟨2, ![1024, 5888]⟩
abbrev S4096x5888 : Shape := ⟨2, ![4096, 5888]⟩
abbrev S4096x2048 : Shape := ⟨2, ![4096, 2048]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x5888, .f32⟩
  | .hbm, ⟨2, _⟩ => ⟨S4096x1024, .f32⟩
  | .hbm, ⟨3, _⟩ => ⟨S4096x5888, .f32⟩
  | .hbm, ⟨4, _⟩ => ⟨S4096x2048, .f32⟩
  | .hbm, ⟨5, _⟩ => ⟨S4096x2048, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel11.lean ====
abbrev S4096x4096 : Shape := ⟨2, ![4096, 4096]⟩
abbrev S4096x1024 : Shape := ⟨2, ![4096, 1024]⟩
abbrev S1x1024 : Shape := ⟨2, ![1, 1024]⟩
abbrev S1024x4096 : Shape := ⟨2, ![1024, 4096]⟩
abbrev S1024x1024 : Shape := ⟨2, ![1024, 1024]⟩
abbrev S256x1024 : Shape := ⟨2, ![256, 1024]⟩
abbrev S4x1024x1024 : Shape := ⟨3, ![4, 1024, 1024]⟩
abbrev S4x256x1024 : Shape := ⟨3, ![4, 256, 1024]⟩
abbrev S1024x4x1024 : Shape := ⟨3, ![1024, 4, 1024]⟩
abbrev S256x4x256 : Shape := ⟨3, ![256, 4, 256]⟩
abbrev S4x256x256 : Shape := ⟨3, ![4, 256, 256]⟩
abbrev S4x64x1024 : Shape := ⟨3, ![4, 64, 1024]⟩
abbrev S4x2368x1024 : Shape := ⟨3, ![4, 2368, 1024]⟩
abbrev S512x4096 : Shape := ⟨2, ![512, 4096]⟩
abbrev S512x1024 : Shape := ⟨2, ![512, 1024]⟩
abbrev S8x128 : Shape := ⟨2, ![8, 128]⟩
abbrev S1x1024x1024 : Shape := ⟨3, ![1, 1024, 1024]⟩
abbrev S512 : Shape := ⟨1, ![512]⟩
abbrev S512x1 : Shape := ⟨2, ![512, 1]⟩

abbrev nBuf : Space → Nat
  | .hbm => 18
  | .vmem => 11
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .f32⟩
  | .hbm, ⟨2, _⟩ => ⟨S1x1024, .f32⟩
  | .hbm, ⟨3, _⟩ => ⟨S1024x4096, .f32⟩
  | .hbm, ⟨4, _⟩ => ⟨S4096x1024, .f32⟩
  | .hbm, ⟨5, _⟩ => ⟨S1024x1024, .f32⟩
  | .hbm, ⟨6, _⟩ => ⟨S256x1024, .f32⟩
  | .hbm, ⟨7, _⟩ => ⟨S4x1024x1024, .f32⟩
  | .hbm, ⟨8, _⟩ => ⟨S4x256x1024, .f32⟩
  | .hbm, ⟨9, _⟩ => ⟨S1024x4x1024, .f32⟩
  | .hbm, ⟨10, _⟩ => ⟨S4x1024x1024, .f32⟩
  | .hbm, ⟨11, _⟩ => ⟨S256x4x256, .f32⟩
  | .hbm, ⟨12, _⟩ => ⟨S4x256x256, .f32⟩
  | .hbm, ⟨13, _⟩ => ⟨S4x64x1024, .f32⟩
  | .hbm, ⟨14, _⟩ => ⟨S4x2368x1024, .f32⟩
  | .hbm, ⟨15, _⟩ => ⟨S4x2368x1024, .bf16⟩
  | .hbm, ⟨16, _⟩ => ⟨S4096x1024, .f32⟩
  | .hbm, ⟨17, _⟩ => ⟨S4096x1024, .bf16⟩
  | .local _ .vmem, ⟨0, _⟩ => ⟨S512x4096, .bf16⟩
  | .local _ .vmem, ⟨1, _⟩ => ⟨S512x4096, .bf16⟩
  | .local _ .vmem, ⟨2, _⟩ => ⟨S4x1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | .local _ .vmem, ⟨10, _⟩ => ⟨S8x128, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9_0 : Ref sig .tc := ⟨.hbm, 16, rfl⟩
abbrev main_v9_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![8, 1, 1], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  ![arg2.toNat, c1_i32.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== Reference11Ideal.lean ====
abbrev S4096x4096 : Shape := ⟨2, ![4096, 4096]⟩
abbrev S4096x1024 : Shape := ⟨2, ![4096, 1024]⟩
abbrev S1x1024 : Shape := ⟨2, ![1, 1024]⟩
abbrev S1024x4096 : Shape := ⟨2, ![1024, 4096]⟩
abbrev S1024x1024 : Shape := ⟨2, ![1024, 1024]⟩
abbrev S256x1024 : Shape := ⟨2, ![256, 1024]⟩
abbrev S_ : Shape := ⟨0, ![]⟩
abbrev S4096 : Shape := ⟨1, ![4096]⟩
abbrev S4096x1 : Shape := ⟨2, ![4096, 1]⟩

abbrev nBuf : Space → Nat
  | .hbm => 26
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .f32⟩
  | .hbm, ⟨2, _⟩ => ⟨S1x1024, .f32⟩
  | .hbm, ⟨3, _⟩ => ⟨S1024x4096, .f32⟩
  | .hbm, ⟨4, _⟩ => ⟨S4096x1024, .f32⟩
  | .hbm, ⟨5, _⟩ => ⟨S1024x1024, .f32⟩
  | .hbm, ⟨6, _⟩ => ⟨S256x1024, .f32⟩
  | .hbm, ⟨7, _⟩ => ⟨S4096x4096, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S_, .f32⟩
  | .hbm, ⟨12, _⟩ => ⟨S4096, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩

abbrev nD : Nat := 1
abbrev τ : Topo := Topo.v7x

variable {F : FTy → Type} [FloatOps F]
-- ==== Kernel12.lean ====
abbrev S4096x4096 : Shape := ⟨2, ![4096, 4096]⟩
abbrev S4096x1024 : Shape := ⟨2, ![4096, 1024]⟩
abbrev S1x1024 : Shape := ⟨2, ![1, 1024]⟩
abbrev S1024x4096 : Shape := ⟨2, ![1024, 4096]⟩
abbrev S1024x1024 : Shape := ⟨2, ![1024, 1024]⟩
abbrev S256x1024 : Shape := ⟨2, ![256, 1024]⟩
abbrev S4x1024x1024 : Shape := ⟨3, ![4, 1024, 1024]⟩
abbrev S4x256x1024 : Shape := ⟨3, ![4, 256, 1024]⟩
abbrev S1024x4x1024 : Shape := ⟨3, ![1024, 4, 1024]⟩
abbrev S256x4x256 : Shape := ⟨3, ![256, 4, 256]⟩
abbrev S4x256x256 : Shape := ⟨3, ![4, 256, 256]⟩
abbrev S4x64x1024 : Shape := ⟨3, ![4, 64, 1024]⟩
abbrev S4x2368x1024 : Shape := ⟨3, ![4, 2368, 1024]⟩
abbrev S512x4096 : Shape := ⟨2, ![512, 4096]⟩
abbrev S512x1024 : Shape := ⟨2, ![512, 1024]⟩
abbrev S8x128 : Shape := ⟨2, ![8, 128]⟩
abbrev S1x1024x1024 : Shape := ⟨3, ![1, 1024, 1024]⟩
abbrev S512 : Shape := ⟨1, ![512]⟩
abbrev S512x1 : Shape := ⟨2, ![512, 1]⟩
abbrev S1024 : Shape := ⟨1, ![1024]⟩

abbrev nBuf : Space → Nat
  | .hbm => 20
  | .vmem => 14
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .f32⟩
  | .hbm, ⟨2, _⟩ => ⟨S4096x1024, .f32⟩
  | .hbm, ⟨3, _⟩ => ⟨S1x1024, .f32⟩
  | .hbm, ⟨4, _⟩ => ⟨S1024x4096, .f32⟩
  | .hbm, ⟨5, _⟩ => ⟨S4096x1024, .f32⟩
  | .hbm, ⟨6, _⟩ => ⟨S1024x1024, .f32⟩
  | .hbm, ⟨7, _⟩ => ⟨S256x1024, .f32⟩
  | .hbm, ⟨8, _⟩ => ⟨S4x1024x1024, .f32⟩
  | .hbm, ⟨9, _⟩ => ⟨S4x256x1024, .f32⟩
  | .hbm, ⟨10, _⟩ => ⟨S1024x4x1024, .f32⟩
  | .hbm, ⟨11, _⟩ => ⟨S4x1024x1024, .f32⟩
  | .hbm, ⟨12, _⟩ => ⟨S256x4x256, .f32⟩
  | .hbm, ⟨13, _⟩ => ⟨S4x256x256, .f32⟩
  | .hbm, ⟨14, _⟩ => ⟨S4x64x1024, .f32⟩
  | .hbm, ⟨15, _⟩ => ⟨S4x2368x1024, .f32⟩
  | .hbm, ⟨16, _⟩ => ⟨S4x2368x1024, .bf16⟩
  | .hbm, ⟨17, _⟩ => ⟨S4096x1024, .f32⟩
  | .hbm, ⟨18, _⟩ => ⟨S4096x1024, .bf16⟩
  | .hbm, ⟨19, _⟩ => ⟨S1x1024, .f32⟩
  | .local _ .vmem, ⟨0, _⟩ => ⟨S512x4096, .bf16⟩
  | .local _ .vmem, ⟨1, _⟩ => ⟨S512x4096, .bf16⟩
  | .local _ .vmem, ⟨2, _⟩ => ⟨S4x1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | .local _ .vmem, ⟨13, _⟩ => ⟨S8x128, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9_0 : Ref sig .tc := ⟨.hbm, 17, rfl⟩
abbrev main_v9_1 : Ref sig .tc := ⟨.hbm, 18, rfl⟩
abbrev main_v9_2 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨3, ![8, 1, 1], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c0_i32_33 : BitVec 32 := 0#32
  let v54 : BitVec 1 := Scalar.cmpi .eq arg0 c0_i32_33
  let v55 : BitVec 32 := Scalar.extui v54
  let c0_i32_34 : BitVec 32 := 0#32
  let v56 : BitVec 1 := Scalar.cmpi .ne v55 c0_i32_34
  v56

def k0_cond3 (i : grid0.Coords) : BitVec 1 :=
  let arg0 : BitVec 32 := BitVec.ofNat 32 (i 0).val
  let c0_i32_35 : BitVec 32 := 0#32
  let v57 : BitVec 1 := Scalar.cmpi .ne arg0 c0_i32_35
  let v58 : BitVec 32 := Scalar.extui v57
  let c0_i32_36 : BitVec 32 := 0#32
  let v59 : BitVec 1 := Scalar.cmpi .ne v58 c0_i32_36
  v59

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]
-- ==== Reference12Ideal.lean ====
abbrev S4096x4096 : Shape := ⟨2, ![4096, 4096]⟩
abbrev S4096x1024 : Shape := ⟨2, ![4096, 1024]⟩
abbrev S1x1024 : Shape := ⟨2, ![1, 1024]⟩
abbrev S1024x4096 : Shape := ⟨2, ![1024, 4096]⟩
abbrev S1024x1024 : Shape := ⟨2, ![1024, 1024]⟩
abbrev S256x1024 : Shape := ⟨2, ![256, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 55
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .f32⟩
  | .hbm, ⟨2, _⟩ => ⟨S4096x1024, .f32⟩
  | .hbm, ⟨3, _⟩ => ⟨S1x1024, .f32⟩
  | .hbm, ⟨4, _⟩ => ⟨S1024x4096, .f32⟩
  | .hbm, ⟨5, _⟩ => ⟨S4096x1024, .f32⟩
  | .hbm, ⟨6, _⟩ => ⟨S1024x1024, .f32⟩
  | .hbm, ⟨7, _⟩ => ⟨S256x1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x4096, .f32⟩
  | .hbm, ⟨28, _⟩ => ⟨S4096x4096, .f32⟩
  | .hbm, ⟨29, _⟩ => ⟨S4096x1024, .f32⟩
  | .hbm, ⟨30, _⟩ => ⟨S4096x1024, .f32⟩
  | .hbm, ⟨31, _⟩ => ⟨S_, .f32⟩
  | .hbm, ⟨32, _⟩ => ⟨S1024, .f32⟩
  | .hbm, ⟨33, _⟩ => ⟨S1x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S_, .f32⟩
  | .hbm, ⟨38, _⟩ => ⟨S4096, .f32⟩
  | .hbm, ⟨39, _⟩ => ⟨S4096x1, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1, .f32⟩
  | .hbm, ⟨44, _⟩ => ⟨S_, .f32⟩
  | .hbm, ⟨45, _⟩ => ⟨S4096x1, .f32⟩
  | .hbm, ⟨46, _⟩ => ⟨S4096x1, .f32⟩
  | .hbm, ⟨47, _⟩ => ⟨S_, .f32⟩
  | .hbm, ⟨48, _⟩ => ⟨S4096, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_3 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_4 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_5 : Ref sig .tc := ⟨.hbm, 44, rfl⟩
abbrev main_v30 : Ref sig .tc := ⟨.hbm, 45, rfl⟩
abbrev main_v31 : Ref sig .tc := ⟨.hbm, 46, rfl⟩
abbrev main_cst_6 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩

abbrev nD : Nat := 1
abbrev τ : Topo := Topo.v7x

variable {F : FTy → Type} [FloatOps F]
-- ==== Kernel13.lean ====
abbrev S4096x2048 : Shape := ⟨2, ![4096, 2048]⟩
abbrev S4096x1024 : Shape := ⟨2, ![4096, 1024]⟩
abbrev S1x1024 : Shape := ⟨2, ![1, 1024]⟩
abbrev S1024x5888 : Shape := ⟨2, ![1024, 5888]⟩
abbrev S1024x2048 : Shape := ⟨2, ![1024, 2048]⟩
abbrev S512x2048 : Shape := ⟨2, ![512, 2048]⟩
abbrev S512x1024 : Shape := ⟨2, ![512, 1024]⟩
abbrev S8x128 : Shape := ⟨2, ![8, 128]⟩
abbrev S512 : Shape := ⟨1, ![512]⟩
abbrev S512x1 : Shape := ⟨2, ![512, 1]⟩
abbrev S1024 : Shape := ⟨1, ![1024]⟩

abbrev nBuf : Space → Nat
  | .hbm => 10
  | .vmem => 14
  | .smem => 0
  | _ => 0

abbrev bufTy : (tb : Table) → Fin (tcTables nBuf tb) → BufTy
  | .hbm, ⟨0, _⟩ => ⟨S4096x2048, .bf16⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S1024x5888, .f32⟩
  | .hbm, ⟨6, _⟩ => ⟨S1024x5888, .bf16⟩
  | .hbm, ⟨7, _⟩ => ⟨S1024x2048, .bf16⟩
  | .hbm, ⟨8, _⟩ => ⟨S4096x1024, .f32⟩
  | .hbm, ⟨9, _⟩ => ⟨S1x1024, .f32⟩
  | .local _ .vmem, ⟨0, _⟩ => ⟨S512x2048, .bf16⟩
  | .local _ .vmem, ⟨1, _⟩ => ⟨S512x2048, .bf16⟩
  | .local _ .vmem, ⟨2, _⟩ => ⟨S1024x2048, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S1x1024, .f32⟩
  | .local _ .vmem, ⟨13, _⟩ => ⟨S8x128, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨3, ![8, 1, 1], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c0_i32_20 : BitVec 32 := 0#32
  let v39 : BitVec 1 := Scalar.cmpi .eq arg0 c0_i32_20
  let v40 : BitVec 32 := Scalar.extui v39
  let c0_i32_21 : BitVec 32 := 0#32
  let v41 : BitVec 1 := Scalar.cmpi .ne v40 c0_i32_21
  v41

def k0_cond3 (i : grid0.Coords) : BitVec 1 :=
  let arg0 : BitVec 32 := BitVec.ofNat 32 (i 0).val
  let c0_i32_22 : BitVec 32 := 0#32
  let v42 : BitVec 1 := Scalar.cmpi .ne arg0 c0_i32_22
  let v43 : BitVec 32 := Scalar.extui v42
  let c0_i32_23 : BitVec 32 := 0#32
  let v44 : BitVec 1 := Scalar.cmpi .ne v43 c0_i32_23
  v44

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]
-- ==== Reference13Ideal.lean ====
abbrev S4096x2048 : Shape := ⟨2, ![4096, 2048]⟩
abbrev S4096x1024 : Shape := ⟨2, ![4096, 1024]⟩
abbrev S1x1024 : Shape := ⟨2, ![1, 1024]⟩
abbrev S1024x5888 : Shape := ⟨2, ![1024, 5888]⟩
abbrev S_ : Shape := ⟨0, ![]⟩
abbrev S4096 : Shape := ⟨1, ![4096]⟩
abbrev S4096x1 : Shape := ⟨2, ![4096, 1]⟩
abbrev S1024x2048 : Shape := ⟨2, ![1024, 2048]⟩
abbrev S1024 : Shape := ⟨1, ![1024]⟩

abbrev nBuf : Space → Nat
  | .hbm => 54
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S1024x5888, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S1024x2048, .f32⟩
  | .hbm, ⟨26, _⟩ => ⟨S4096x2048, .f32⟩
  | .hbm, ⟨27, _⟩ => ⟨S4096x2048, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S_, .f32⟩
  | .hbm, ⟨32, _⟩ => ⟨S1024, .f32⟩
  | .hbm, ⟨33, _⟩ => ⟨S1x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S_, .f32⟩
  | .hbm, ⟨38, _⟩ => ⟨S4096, .f32⟩
  | .hbm, ⟨39, _⟩ => ⟨S4096x1, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1, .f32⟩
  | .hbm, ⟨44, _⟩ => ⟨S_, .f32⟩
  | .hbm, ⟨45, _⟩ => ⟨S4096x1, .f32⟩
  | .hbm, ⟨46, _⟩ => ⟨S4096x1, .f32⟩
  | .hbm, ⟨47, _⟩ => ⟨S_, .f32⟩
  | .hbm, ⟨48, _⟩ => ⟨S4096, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_4 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_5 : Ref sig .tc := ⟨.hbm, 44, rfl⟩
abbrev main_v32 : Ref sig .tc := ⟨.hbm, 45, rfl⟩
abbrev main_v33 : Ref sig .tc := ⟨.hbm, 46, rfl⟩
abbrev main_cst_6 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩

abbrev nD : Nat := 1
abbrev τ : Topo := Topo.v7x

variable {F : FTy → Type} [FloatOps F]
-- ==== Kernel14.lean ====
abbrev S4096x1024 : Shape := ⟨2, ![4096, 1024]⟩
abbrev S1x1024 : Shape := ⟨2, ![1, 1024]⟩
abbrev S1024x1024 : Shape := ⟨2, ![1024, 1024]⟩
abbrev S512x1024 : Shape := ⟨2, ![512, 1024]⟩
abbrev S8x128 : Shape := ⟨2, ![8, 128]⟩
abbrev S512 : Shape := ⟨1, ![512]⟩
abbrev S512x1 : Shape := ⟨2, ![512, 1]⟩
abbrev S1024 : Shape := ⟨1, ![1024]⟩

abbrev nBuf : Space → Nat
  | .hbm => 9
  | .vmem => 14
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S4096x1024, .f32⟩
  | .hbm, ⟨3, _⟩ => ⟨S1x1024, .f32⟩
  | .hbm, ⟨4, _⟩ => ⟨S1024x1024, .f32⟩
  | .hbm, ⟨5, _⟩ => ⟨S1024x1024, .bf16⟩
  | .hbm, ⟨6, _⟩ => ⟨S4096x1024, .f32⟩
  | .hbm, ⟨7, _⟩ => ⟨S4096x1024, .bf16⟩
  | .hbm, ⟨8, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | .local _ .vmem, ⟨13, _⟩ => ⟨S8x128, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨3, ![8, 1, 1], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c0_i32_20 : BitVec 32 := 0#32
  let v39 : BitVec 1 := Scalar.cmpi .eq arg0 c0_i32_20
  let v40 : BitVec 32 := Scalar.extui v39
  let c0_i32_21 : BitVec 32 := 0#32
  let v41 : BitVec 1 := Scalar.cmpi .ne v40 c0_i32_21
  v41

def k0_cond3 (i : grid0.Coords) : BitVec 1 :=
  let arg0 : BitVec 32 := BitVec.ofNat 32 (i 0).val
  let c0_i32_22 : BitVec 32 := 0#32
  let v42 : BitVec 1 := Scalar.cmpi .ne arg0 c0_i32_22
  let v43 : BitVec 32 := Scalar.extui v42
  let c0_i32_23 : BitVec 32 := 0#32
  let v44 : BitVec 1 := Scalar.cmpi .ne v43 c0_i32_23
  v44

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]
-- ==== Reference14Ideal.lean ====
abbrev S4096x1024 : Shape := ⟨2, ![4096, 1024]⟩
abbrev S1x1024 : Shape := ⟨2, ![1, 1024]⟩
abbrev S1024x1024 : Shape := ⟨2, ![1024, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 52
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S4096x1024, .f32⟩
  | .hbm, ⟨3, _⟩ => ⟨S1x1024, .f32⟩
  | .hbm, ⟨4, _⟩ => ⟨S1024x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S_, .f32⟩
  | .hbm, ⟨35, _⟩ => ⟨S4096, .f32⟩
  | .hbm, ⟨36, _⟩ => ⟨S4096x1, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1, .f32⟩
  | .hbm, ⟨41, _⟩ => ⟨S_, .f32⟩
  | .hbm, ⟨42, _⟩ => ⟨S4096x1, .f32⟩
  | .hbm, ⟨43, _⟩ => ⟨S4096x1, .f32⟩
  | .hbm, ⟨44, _⟩ => ⟨S_, .f32⟩
  | .hbm, ⟨45, _⟩ => ⟨S4096, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_5 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== Kernel15.lean ====
abbrev S4096x1024 : Shape := ⟨2, ![4096, 1024]⟩
abbrev S1x1024 : Shape := ⟨2, ![1, 1024]⟩
abbrev S1024x1024 : Shape := ⟨2, ![1024, 1024]⟩
abbrev S512x1024 : Shape := ⟨2, ![512, 1024]⟩
abbrev S8x128 : Shape := ⟨2, ![8, 128]⟩
abbrev S512 : Shape := ⟨1, ![512]⟩
abbrev S512x1 : Shape := ⟨2, ![512, 1]⟩

abbrev nBuf : Space → Nat
  | .hbm => 7
  | .vmem => 11
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S1x1024, .f32⟩
  | .hbm, ⟨3, _⟩ => ⟨S1024x1024, .f32⟩
  | .hbm, ⟨4, _⟩ => ⟨S1024x1024, .bf16⟩
  | .hbm, ⟨5, _⟩ => ⟨S4096x1024, .f32⟩
  | .hbm, ⟨6, _⟩ => ⟨S4096x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | .local _ .vmem, ⟨10, _⟩ => ⟨S8x128, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![8, 1, 1], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== Reference15Ideal.lean ====
abbrev S4096x1024 : Shape := ⟨2, ![4096, 1024]⟩
abbrev S1x1024 : Shape := ⟨2, ![1, 1024]⟩
abbrev S1024x1024 : Shape := ⟨2, ![1024, 1024]⟩
abbrev S_ : Shape := ⟨0, ![]⟩
abbrev S4096 : Shape := ⟨1, ![4096]⟩
abbrev S4096x1 : Shape := ⟨2, ![4096, 1]⟩

abbrev nBuf : Space → Nat
  | .hbm => 23
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S1x1024, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== Kernel16.lean ====
abbrev S4096x512 : Shape := ⟨2, ![4096, 512]⟩
abbrev S512x1024 : Shape := ⟨2, ![512, 1024]⟩
abbrev S4096x1024 : Shape := ⟨2, ![4096, 1024]⟩
abbrev S1024x512 : Shape := ⟨2, ![1024, 512]⟩
abbrev S1024x1024 : Shape := ⟨2, ![1024, 1024]⟩
abbrev S8x128 : Shape := ⟨2, ![8, 128]⟩

abbrev nBuf : Space → Nat
  | .hbm => 4
  | .vmem => 6
  | .smem => 0
  | _ => 0

abbrev bufTy : (tb : Table) → Fin (tcTables nBuf tb) → BufTy
  | .hbm, ⟨0, _⟩ => ⟨S4096x512, .bf16⟩
  | .hbm, ⟨1, _⟩ => ⟨S512x1024, .f32⟩
  | .hbm, ⟨2, _⟩ => ⟨S512x1024, .bf16⟩
  | .hbm, ⟨3, _⟩ => ⟨S4096x1024, .bf16⟩
  | .local _ .vmem, ⟨0, _⟩ => ⟨S1024x512, .bf16⟩
  | .local _ .vmem, ⟨1, _⟩ => ⟨S1024x512, .bf16⟩
  | .local _ .vmem, ⟨2, _⟩ => ⟨S512x1024, .bf16⟩
  | .local _ .vmem, ⟨3, _⟩ => ⟨S1024x1024, .bf16⟩
  | .local _ .vmem, ⟨4, _⟩ => ⟨S1024x1024, .bf16⟩
  | .local _ .vmem, ⟨5, _⟩ => ⟨S8x128, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference16Ideal.lean ====
abbrev S4096x512 : Shape := ⟨2, ![4096, 512]⟩
abbrev S512x1024 : Shape := ⟨2, ![512, 1024]⟩
abbrev S4096x1024 : Shape := ⟨2, ![4096, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S512x1024, .f32⟩
  | .hbm, ⟨2, _⟩ => ⟨S4096x512, .f32⟩
  | .hbm, ⟨3, _⟩ => ⟨S4096x1024, .f32⟩
  | .hbm, ⟨4, _⟩ => ⟨S4096x1024, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel17.lean ====
abbrev S4096x256 : Shape := ⟨2, ![4096, 256]⟩
abbrev S4096x2048 : Shape := ⟨2, ![4096, 2048]⟩
abbrev S4096x1024 : Shape := ⟨2, ![4096, 1024]⟩
abbrev S256x1024 : Shape := ⟨2, ![256, 1024]⟩
abbrev S512x256 : Shape := ⟨2, ![512, 256]⟩
abbrev S512x1024 : Shape := ⟨2, ![512, 1024]⟩
abbrev S8x128 : Shape := ⟨2, ![8, 128]⟩

abbrev nBuf : Space → Nat
  | .hbm => 7
  | .vmem => 14
  | .smem => 0
  | _ => 0

abbrev bufTy : (tb : Table) → Fin (tcTables nBuf tb) → BufTy
  | .hbm, ⟨0, _⟩ => ⟨S4096x256, .bf16⟩
  | .hbm, ⟨1, _⟩ => ⟨S4096x2048, .bf16⟩
  | .hbm, ⟨2, _⟩ => ⟨S4096x1024, .bf16⟩
  | .hbm, ⟨3, _⟩ => ⟨S256x1024, .f32⟩
  | .hbm, ⟨4, _⟩ => ⟨S256x1024, .bf16⟩
  | .hbm, ⟨5, _⟩ => ⟨S4096x1024, .bf16⟩
  | .hbm, ⟨6, _⟩ => ⟨S4096x1024, .bf16⟩
  | .local _ .vmem, ⟨0, _⟩ => ⟨S512x256, .bf16⟩
  | .local _ .vmem, ⟨1, _⟩ => ⟨S512x256, .bf16⟩
  | .local _ .vmem, ⟨2, _⟩ => ⟨S256x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S8x128, .f32⟩
  | _, _ => ⟨S4096x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨3, ![8, 1, 1], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![arg0.toNat, c1_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]
-- ==== Reference17Ideal.lean ====
abbrev S4096x256 : Shape := ⟨2, ![4096, 256]⟩
abbrev S4096x2048 : Shape := ⟨2, ![4096, 2048]⟩
abbrev S4096x1024 : Shape := ⟨2, ![4096, 1024]⟩
abbrev S256x1024 : Shape := ⟨2, ![256, 1024]⟩
abbrev S_ : Shape := ⟨0, ![]⟩

abbrev nBuf : Space → Nat
  | .hbm => 31
  | .vmem => 0
  | .smem => 0
  | _ => 0

abbrev bufTy : (tb : Table) → Fin (tcTables nBuf tb) → BufTy
  | .hbm, ⟨0, _⟩ => ⟨S4096x256, .bf16⟩
  | .hbm, ⟨1, _⟩ => ⟨S4096x2048, .bf16⟩
  | .hbm, ⟨2, _⟩ => ⟨S4096x1024, .bf16⟩
  | .hbm, ⟨3, _⟩ => ⟨S256x1024, .f32⟩
  | .hbm, ⟨4, _⟩ => ⟨S4096x256, .f32⟩
  | .hbm, ⟨5, _⟩ => ⟨S4096x1024, .f32⟩
  | .hbm, ⟨6, _⟩ => ⟨S4096x1024, .bf16⟩
  | .hbm, ⟨7, _⟩ => ⟨S4096x2048, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S_, .f32⟩
  | .hbm, ⟨14, _⟩ => ⟨S4096x1024, .f32⟩
  | .hbm, ⟨15, _⟩ => ⟨S4096x1024, .f32⟩
  | .hbm, ⟨16, _⟩ => ⟨S_, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S_, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .bf16⟩
  | _, _ => ⟨S4096x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_1 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩

abbrev nD : Nat := 1
abbrev τ : Topo := Topo.v7x

variable {F : FTy → Type} [FloatOps F]
-- ==== Kernel18.lean ====
abbrev S4096x256 : Shape := ⟨2, ![4096, 256]⟩
abbrev S256x1024 : Shape := ⟨2, ![256, 1024]⟩
abbrev S4096x1024 : Shape := ⟨2, ![4096, 1024]⟩
abbrev S1024x256 : Shape := ⟨2, ![1024, 256]⟩
abbrev S1024x1024 : Shape := ⟨2, ![1024, 1024]⟩
abbrev S8x128 : Shape := ⟨2, ![8, 128]⟩

abbrev nBuf : Space → Nat
  | .hbm => 4
  | .vmem => 6
  | .smem => 0
  | _ => 0

abbrev bufTy : (tb : Table) → Fin (tcTables nBuf tb) → BufTy
  | .hbm, ⟨0, _⟩ => ⟨S4096x256, .f32⟩
  | .hbm, ⟨1, _⟩ => ⟨S256x1024, .f32⟩
  | .hbm, ⟨2, _⟩ => ⟨S256x1024, .bf16⟩
  | .hbm, ⟨3, _⟩ => ⟨S4096x1024, .f32⟩
  | .local _ .vmem, ⟨0, _⟩ => ⟨S1024x256, .f32⟩
  | .local _ .vmem, ⟨1, _⟩ => ⟨S1024x256, .f32⟩
  | .local _ .vmem, ⟨2, _⟩ => ⟨S256x1024, .bf16⟩
  | .local _ .vmem, ⟨3, _⟩ => ⟨S1024x1024, .f32⟩
  | .local _ .vmem, ⟨4, _⟩ => ⟨S1024x1024, .f32⟩
  | .local _ .vmem, ⟨5, _⟩ => ⟨S8x128, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference18Ideal.lean ====
abbrev S4096x256 : Shape := ⟨2, ![4096, 256]⟩
abbrev S256x1024 : Shape := ⟨2, ![256, 1024]⟩
abbrev S4096x1024 : Shape := ⟨2, ![4096, 1024]⟩

abbrev nBuf : Space → Nat
  | .hbm => 3
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S256x1024, .f32⟩
  | .hbm, ⟨2, _⟩ => ⟨S4096x1024, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel19.lean ====
abbrev S4096x1024 : Shape := ⟨2, ![4096, 1024]⟩
abbrev S1x1024 : Shape := ⟨2, ![1, 1024]⟩
abbrev S1024x1024 : Shape := ⟨2, ![1024, 1024]⟩
abbrev S1x128 : Shape := ⟨2, ![1, 128]⟩
abbrev S512x1024 : Shape := ⟨2, ![512, 1024]⟩
abbrev S8x128 : Shape := ⟨2, ![8, 128]⟩
abbrev S512 : Shape := ⟨1, ![512]⟩
abbrev S512x1 : Shape := ⟨2, ![512, 1]⟩
abbrev S1 : Shape := ⟨1, ![1]⟩
abbrev S1x1 : Shape := ⟨2, ![1, 1]⟩
abbrev S1024 : Shape := ⟨1, ![1024]⟩

abbrev nBuf : Space → Nat
  | .hbm => 12
  | .vmem => 19
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S1024x1024, .f32⟩
  | .hbm, ⟨6, _⟩ => ⟨S1024x1024, .bf16⟩
  | .hbm, ⟨7, _⟩ => ⟨S4096x1024, .f32⟩
  | .hbm, ⟨8, _⟩ => ⟨S4096x1024, .bf16⟩
  | .hbm, ⟨9, _⟩ => ⟨S4096x1024, .bf16⟩
  | .hbm, ⟨10, _⟩ => ⟨S1x128, .f32⟩
  | .hbm, ⟨11, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S1x128, .f32⟩
  | .local _ .vmem, ⟨17, _⟩ => ⟨S1x1024, .f32⟩
  | .local _ .vmem, ⟨18, _⟩ => ⟨S8x128, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev main_v1_3 : Ref sig .tc := ⟨.hbm, 10, rfl⟩
abbrev main_v1_4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem10_0 : DmaSem sig := 17

abbrev nD : Nat := 1
abbrev τ : Topo := Topo.v7x

variable {F : FTy → Type} [FloatOps F]

abbrev grid0 : Pipeline.Grid := ⟨3, ![8, 1, 1], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c0_i32_36 : BitVec 32 := 0#32
  let v82 : BitVec 1 := Scalar.cmpi .eq arg0 c0_i32_36
  let v83 : BitVec 32 := Scalar.extui v82
  let c0_i32_37 : BitVec 32 := 0#32
  let v84 : BitVec 1 := Scalar.cmpi .ne v83 c0_i32_37
  v84

def k0_cond3 (i : grid0.Coords) : BitVec 1 :=
  let arg0 : BitVec 32 := BitVec.ofNat 32 (i 0).val
  let c0_i32_38 : BitVec 32 := 0#32
  let v85 : BitVec 1 := Scalar.cmpi .ne arg0 c0_i32_38
  let v86 : BitVec 32 := Scalar.extui v85
  let c0_i32_39 : BitVec 32 := 0#32
  let v87 : BitVec 1 := Scalar.cmpi .ne v86 c0_i32_39
  v87

def k0_cond4 (i : grid0.Coords) : BitVec 1 :=
  let arg0 : BitVec 32 := BitVec.ofNat 32 (i 0).val
  let c0_i32_40 : BitVec 32 := 0#32
  let v88 : BitVec 1 := Scalar.cmpi .eq arg0 c0_i32_40
  let v89 : BitVec 32 := Scalar.extui v88
  let c0_i32_41 : BitVec 32 := 0#32
  let v90 : BitVec 1 := Scalar.cmpi .ne v89 c0_i32_41
  v90

def k0_cond5 (i : grid0.Coords) : BitVec 1 :=
  let arg0 : BitVec 32 := BitVec.ofNat 32 (i 0).val
  let c0_i32_42 : BitVec 32 := 0#32
  let v91 : BitVec 1 := Scalar.cmpi .ne arg0 c0_i32_42
  let v92 : BitVec 32 := Scalar.extui v91
  let c0_i32_43 : BitVec 32 := 0#32
  let v93 : BitVec 1 := Scalar.cmpi .ne v92 c0_i32_43
  v93

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false, false]
-- ==== Reference19Ideal.lean ====
abbrev S4096x1024 : Shape := ⟨2, ![4096, 1024]⟩
abbrev S1x1024 : Shape := ⟨2, ![1, 1024]⟩
abbrev S1024x1024 : Shape := ⟨2, ![1024, 1024]⟩
abbrev S_ : Shape := ⟨0, ![]⟩
abbrev S4096 : Shape := ⟨1, ![4096]⟩
abbrev S4096x1 : Shape := ⟨2, ![4096, 1]⟩
abbrev S1024 : Shape := ⟨1, ![1024]⟩
abbrev S1x128 : Shape := ⟨2, ![1, 128]⟩

abbrev nBuf : Space → Nat
  | .hbm => 93
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S1024x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S_, .f32⟩
  | .hbm, ⟨11, _⟩ => ⟨S4096x1024, .f32⟩
  | .hbm, ⟨12, _⟩ => ⟨S4096x1024, .f32⟩
  | .hbm, ⟨13, _⟩ => ⟨S_, .f32⟩
  | .hbm, ⟨14, _⟩ => ⟨S4096x1024, .f32⟩
  | .hbm, ⟨15, _⟩ => ⟨S4096x1024, .f32⟩
  | .hbm, ⟨16, _⟩ => ⟨S_, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S_, .f32⟩
  | .hbm, ⟨24, _⟩ => ⟨S4096, .f32⟩
  | .hbm, ⟨25, _⟩ => ⟨S4096x1, .f32⟩
  | .hbm, ⟨26, _⟩ => ⟨S_, .f32⟩
  | .hbm, ⟨27, _⟩ => ⟨S4096x1, .f32⟩
  | .hbm, ⟨28, _⟩ => ⟨S4096x1, .f32⟩
  | .hbm, ⟨29, _⟩ => ⟨S_, .f32⟩
  | .hbm, ⟨30, _⟩ => ⟨S4096x1, .f32⟩
  | .hbm, ⟨31, _⟩ => ⟨S4096x1, .f32⟩
  | .hbm, ⟨32, _⟩ => ⟨S4096x1, .f32⟩
  | .hbm, ⟨33, _⟩ => ⟨S4096x1, .f32⟩
  | .hbm, ⟨34, _⟩ => ⟨S_, .f32⟩
  | .hbm, ⟨35, _⟩ => ⟨S4096x1, .f32⟩
  | .hbm, ⟨36, _⟩ => ⟨S4096x1, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S_, .f32⟩
  | .hbm, ⟨44, _⟩ => ⟨S4096x1024, .f32⟩
  | .hbm, ⟨45, _⟩ => ⟨S4096x1024, .f32⟩
  | .hbm, ⟨46, _⟩ => ⟨S_, .f32⟩
  | .hbm, ⟨47, _⟩ => ⟨S4096, .f32⟩
  | .hbm, ⟨48, _⟩ => ⟨S_, .f32⟩
  | .hbm, ⟨49, _⟩ => ⟨S4096, .f32⟩
  | .hbm, ⟨50, _⟩ => ⟨S4096, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S4096, .f32⟩
  | .hbm, ⟨59, _⟩ => ⟨S_, .f32⟩
  | .hbm, ⟨60, _⟩ => ⟨S4096, .f32⟩
  | .hbm, ⟨61, _⟩ => ⟨S4096, .f32⟩
  | .hbm, ⟨62, _⟩ => ⟨S4096x1024, .f32⟩
  | .hbm, ⟨63, _⟩ => ⟨S4096x1024, .f32⟩
  | .hbm, ⟨64, _⟩ => ⟨S4096x1024, .f32⟩
  | .hbm, ⟨65, _⟩ => ⟨S_, .f32⟩
  | .hbm, ⟨66, _⟩ => ⟨S1024, .f32⟩
  | .hbm, ⟨67, _⟩ => ⟨S1x1024, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S_, .f32⟩
  | .hbm, ⟨72, _⟩ => ⟨S4096, .f32⟩
  | .hbm, ⟨73, _⟩ => ⟨S4096x1, .f32⟩
  | .hbm, ⟨74, _⟩ => ⟨S4096x1024, .f32⟩
  | .hbm, ⟨75, _⟩ => ⟨S4096x1024, .f32⟩
  | .hbm, ⟨76, _⟩ => ⟨S4096x1, .f32⟩
  | .hbm, ⟨77, _⟩ => ⟨S_, .f32⟩
  | .hbm, ⟨78, _⟩ => ⟨S4096x1, .f32⟩
  | .hbm, ⟨79, _⟩ => ⟨S4096x1, .f32⟩
  | .hbm, ⟨80, _⟩ => ⟨S_, .f32⟩
  | .hbm, ⟨81, _⟩ => ⟨S4096, .f32⟩
  | .hbm, ⟨82, _⟩ => ⟨S4096x1024, .f32⟩
  | .hbm, ⟨83, _⟩ => ⟨S4096x1024, .f32⟩
  | .hbm, ⟨84, _⟩ => ⟨S4096x1024, .f32⟩
  | .hbm, ⟨85, _⟩ => ⟨S4096x1024, .f32⟩
  | .hbm, ⟨86, _⟩ => ⟨S4096x1024, .f32⟩
  | .hbm, ⟨87, _⟩ => ⟨S4096x1024, .f32⟩
  | .hbm, ⟨88, _⟩ => ⟨S4096x1024, .f32⟩
  | .hbm, ⟨89, _⟩ => ⟨S4096x1024, .f32⟩
  | .hbm, ⟨90, _⟩ => ⟨S4096x1024, .bf16⟩
  | .hbm, ⟨91, _⟩ => ⟨S4096x1024, .bf16⟩
  | .hbm, ⟨92, _⟩ => ⟨S1x128, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_cst_4 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_5 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_6 : Ref sig .tc := ⟨.hbm, 43, rfl⟩
abbrev main_v30 : Ref sig .tc := ⟨.hbm, 44, rfl⟩
abbrev main_v31 : Ref sig .tc := ⟨.hbm, 45, rfl⟩
abbrev main_cst_7 : Ref sig .tc := ⟨.hbm, 46, rfl⟩
abbrev main_v32 : Ref sig .tc := ⟨.hbm, 47, rfl⟩
abbrev main_cst_8 : Ref sig .tc := ⟨.hbm, 48, rfl⟩
abbrev main_v33 : Ref sig .tc := ⟨.hbm, 49, rfl⟩
abbrev main_v34 : Ref sig .tc := ⟨.hbm, 50, rfl⟩
abbrev main_cst_9 : Ref sig .tc := ⟨.hbm, 51, rfl⟩
abbrev main_v35 : Ref sig .tc := ⟨.hbm, 52, rfl⟩
abbrev main_cst_10 : Ref sig .tc := ⟨.hbm, 53, rfl⟩
abbrev main_v36 : Ref sig .tc := ⟨.hbm, 54, rfl⟩
abbrev main_cst_11 : Ref sig .tc := ⟨.hbm, 55, rfl⟩
abbrev main_cst_12 : Ref sig .tc := ⟨.hbm, 56, rfl⟩
abbrev main_v37 : Ref sig .tc := ⟨.hbm, 57, rfl⟩
abbrev main_v38 : Ref sig .tc := ⟨.hbm, 58, rfl⟩
abbrev main_cst_13 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_14 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_cst_15 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_cst_16 : Ref sig .tc := ⟨.hbm, 77, rfl⟩
abbrev main_v54 : Ref sig .tc := ⟨.hbm, 78, rfl⟩
abbrev main_v55 : Ref sig .tc := ⟨.hbm, 79, rfl⟩
abbrev main_cst_17 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩

abbrev nD : Nat := 1
abbrev τ : Topo := Topo.v7x

variable {F : FTy → Type} [FloatOps F]
-- ==== Kernel20.lean ====
abbrev S4096x1024 : Shape := ⟨2, ![4096, 1024]⟩
abbrev S4x2816x1024 : Shape := ⟨3, ![4, 2816, 1024]⟩
abbrev S2048x1024 : Shape := ⟨2, ![2048, 1024]⟩
abbrev S4x256x1024 : Shape := ⟨3, ![4, 256, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4x2816x1024, .f32⟩
  | .hbm, ⟨3, _⟩ => ⟨S4x256x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S4x256x1024, .f32⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c8_i32 : BitVec 32 := 8#32
  let c0_i32_0 : BitVec 32 := 0#32
  let c0_i32_1 : BitVec 32 := 0#32
  ![c0_i32.toNat, c8_i32.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S4x256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]
-- ==== Reference20Ideal.lean ====
abbrev S4096x1024 : Shape := ⟨2, ![4096, 1024]⟩
abbrev S_ : Shape := ⟨0, ![]⟩
abbrev S1024x1024 : Shape := ⟨2, ![1024, 1024]⟩
abbrev S4x256x1024 : Shape := ⟨3, ![4, 256, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S1024x1024, .f32⟩
  | .hbm, ⟨8, _⟩ => ⟨S1024x1024, .f32⟩
  | .hbm, ⟨9, _⟩ => ⟨S4x256x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel21.lean ====
abbrev S4x2816x1024 : Shape := ⟨3, ![4, 2816, 1024]⟩
abbrev S4096x1024 : Shape := ⟨2, ![4096, 1024]⟩
abbrev S1024x1024 : Shape := ⟨2, ![1024, 1024]⟩
abbrev S4x256x1024 : Shape := ⟨3, ![4, 256, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4x2816x1024, .f32⟩
  | .hbm, ⟨1, _⟩ => ⟨S4096x1024, .bf16⟩
  | .hbm, ⟨2, _⟩ => ⟨S4096x1024, .bf16⟩
  | .hbm, ⟨3, _⟩ => ⟨S4x2816x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S4x256x1024, .f32⟩
  | .local _ .vmem, ⟨5, _⟩ => ⟨S1024x1024, .f32⟩
  | _, _ => ⟨S4x2816x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c9_i32 : BitVec 32 := 9#32
  let c0_i32_0 : BitVec 32 := 0#32
  let c0_i32_1 : BitVec 32 := 0#32
  ![c0_i32.toNat, c9_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S4x256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]
-- ==== Reference21Ideal.lean ====
abbrev S4x2816x1024 : Shape := ⟨3, ![4, 2816, 1024]⟩
abbrev S4096x1024 : Shape := ⟨2, ![4096, 1024]⟩
abbrev S_ : Shape := ⟨0, ![]⟩
abbrev S1024x1024 : Shape := ⟨2, ![1024, 1024]⟩
abbrev S4x2304x1024 : Shape := ⟨3, ![4, 2304, 1024]⟩
abbrev S4x256x1024 : Shape := ⟨3, ![4, 256, 1024]⟩

abbrev nBuf : Space → Nat
  | .hbm => 14
  | .vmem => 0
  | .smem => 0
  | _ => 0

abbrev bufTy : (tb : Table) → Fin (tcTables nBuf tb) → BufTy
  | .hbm, ⟨0, _⟩ => ⟨S4x2816x1024, .f32⟩
  | .hbm, ⟨1, _⟩ => ⟨S4096x1024, .bf16⟩
  | .hbm, ⟨2, _⟩ => ⟨S4096x1024, .bf16⟩
  | .hbm, ⟨3, _⟩ => ⟨S_, .f32⟩
  | .hbm, ⟨4, _⟩ => ⟨S1024x1024, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S1024x1024, .f32⟩
  | .hbm, ⟨9, _⟩ => ⟨S1024x1024, .f32⟩
  | .hbm, ⟨10, _⟩ => ⟨S4x2304x1024, .f32⟩
  | .hbm, ⟨11, _⟩ => ⟨S4x256x1024, .f32⟩
  | .hbm, ⟨12, _⟩ => ⟨S4x256x1024, .f32⟩
  | .hbm, ⟨13, _⟩ => ⟨S4x2816x1024, .f32⟩
  | _, _ => ⟨S4x2816x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== Kernel22.lean ====
abbrev S4096x256 : Shape := ⟨2, ![4096, 256]⟩
abbrev S4096x1024 : Shape := ⟨2, ![4096, 1024]⟩
abbrev S256x1024 : Shape := ⟨2, ![256, 1024]⟩
abbrev S1024x256 : Shape := ⟨2, ![1024, 256]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x256, .f32⟩
  | .hbm, ⟨1, _⟩ => ⟨S4096x1024, .bf16⟩
  | .hbm, ⟨2, _⟩ => ⟨S256x1024, .f32⟩
  | .local _ .vmem, ⟨0, _⟩ => ⟨S1024x256, .f32⟩
  | .local _ .vmem, ⟨1, _⟩ => ⟨S1024x256, .f32⟩
  | .local _ .vmem, ⟨2, _⟩ => ⟨S1024x1024, .bf16⟩
  | .local _ .vmem, ⟨3, _⟩ => ⟨S1024x1024, .bf16⟩
  | .local _ .vmem, ⟨4, _⟩ => ⟨S256x1024, .f32⟩
  | .local _ .vmem, ⟨5, _⟩ => ⟨S256x1024, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference22Ideal.lean ====
abbrev S4096x256 : Shape := ⟨2, ![4096, 256]⟩
abbrev S4096x1024 : Shape := ⟨2, ![4096, 1024]⟩
abbrev S_ : Shape := ⟨0, ![]⟩
abbrev S256x1024 : Shape := ⟨2, ![256, 1024]⟩
abbrev S1024x256 : Shape := ⟨2, ![1024, 256]⟩

abbrev nBuf : Space → Nat
  | .hbm => 8
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4096x1024, .bf16⟩
  | .hbm, ⟨2, _⟩ => ⟨S_, .f32⟩
  | .hbm, ⟨3, _⟩ => ⟨S256x1024, .f32⟩
  | .hbm, ⟨4, _⟩ => ⟨S4096x1024, .f32⟩
  | .hbm, ⟨5, _⟩ => ⟨S4096x1024, .f32⟩
  | .hbm, ⟨6, _⟩ => ⟨S1024x256, .f32⟩
  | .hbm, ⟨7, _⟩ => ⟨S256x1024, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel23.lean ====
abbrev S4096x512 : Shape := ⟨2, ![4096, 512]⟩
abbrev S4096x1024 : Shape := ⟨2, ![4096, 1024]⟩
abbrev S512x1024 : Shape := ⟨2, ![512, 1024]⟩
abbrev S1024x512 : Shape := ⟨2, ![1024, 512]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x512, .bf16⟩
  | .hbm, ⟨1, _⟩ => ⟨S4096x1024, .bf16⟩
  | .hbm, ⟨2, _⟩ => ⟨S512x1024, .f32⟩
  | .local _ .vmem, ⟨0, _⟩ => ⟨S1024x512, .bf16⟩
  | .local _ .vmem, ⟨1, _⟩ => ⟨S1024x512, .bf16⟩
  | .local _ .vmem, ⟨2, _⟩ => ⟨S1024x1024, .bf16⟩
  | .local _ .vmem, ⟨3, _⟩ => ⟨S1024x1024, .bf16⟩
  | .local _ .vmem, ⟨4, _⟩ => ⟨S512x1024, .f32⟩
  | .local _ .vmem, ⟨5, _⟩ => ⟨S512x1024, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference23Ideal.lean ====
abbrev S4096x512 : Shape := ⟨2, ![4096, 512]⟩
abbrev S4096x1024 : Shape := ⟨2, ![4096, 1024]⟩
abbrev S_ : Shape := ⟨0, ![]⟩
abbrev S512x1024 : Shape := ⟨2, ![512, 1024]⟩
abbrev S1024x512 : Shape := ⟨2, ![1024, 512]⟩

abbrev nBuf : Space → Nat
  | .hbm => 9
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S4096x1024, .bf16⟩
  | .hbm, ⟨2, _⟩ => ⟨S_, .f32⟩
  | .hbm, ⟨3, _⟩ => ⟨S512x1024, .f32⟩
  | .hbm, ⟨4, _⟩ => ⟨S4096x512, .f32⟩
  | .hbm, ⟨5, _⟩ => ⟨S4096x1024, .f32⟩
  | .hbm, ⟨6, _⟩ => ⟨S4096x1024, .f32⟩
  | .hbm, ⟨7, _⟩ => ⟨S1024x512, .f32⟩
  | .hbm, ⟨8, _⟩ => ⟨S512x1024, .f32⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel24.lean ====
abbrev S4096x256 : Shape := ⟨2, ![4096, 256]⟩
abbrev S4096x1024 : Shape := ⟨2, ![4096, 1024]⟩
abbrev S256x1024 : Shape := ⟨2, ![256, 1024]⟩
abbrev S1024x256 : Shape := ⟨2, ![1024, 256]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x256, .bf16⟩
  | .hbm, ⟨1, _⟩ => ⟨S4096x1024, .bf16⟩
  | .hbm, ⟨2, _⟩ => ⟨S256x1024, .f32⟩
  | .local _ .vmem, ⟨0, _⟩ => ⟨S1024x256, .bf16⟩
  | .local _ .vmem, ⟨1, _⟩ => ⟨S1024x256, .bf16⟩
  | .local _ .vmem, ⟨2, _⟩ => ⟨S1024x1024, .bf16⟩
  | .local _ .vmem, ⟨3, _⟩ => ⟨S1024x1024, .bf16⟩
  | .local _ .vmem, ⟨4, _⟩ => ⟨S256x1024, .f32⟩
  | .local _ .vmem, ⟨5, _⟩ => ⟨S256x1024, .f32⟩
  | _, _ => ⟨S4096x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference24Ideal.lean ====
abbrev S4096x256 : Shape := ⟨2, ![4096, 256]⟩
abbrev S4096x1024 : Shape := ⟨2, ![4096, 1024]⟩
abbrev S_ : Shape := ⟨0, ![]⟩
abbrev S256x1024 : Shape := ⟨2, ![256, 1024]⟩
abbrev S1024x256 : Shape := ⟨2, ![1024, 256]⟩

abbrev nBuf : Space → Nat
  | .hbm => 9
  | .vmem => 0
  | .smem => 0
  | _ => 0

abbrev bufTy : (tb : Table) → Fin (tcTables nBuf tb) → BufTy
  | .hbm, ⟨0, _⟩ => ⟨S4096x256, .bf16⟩
  | .hbm, ⟨1, _⟩ => ⟨S4096x1024, .bf16⟩
  | .hbm, ⟨2, _⟩ => ⟨S_, .f32⟩
  | .hbm, ⟨3, _⟩ => ⟨S256x1024, .f32⟩
  | .hbm, ⟨4, _⟩ => ⟨S4096x256, .f32⟩
  | .hbm, ⟨5, _⟩ => ⟨S4096x1024, .f32⟩
  | .hbm, ⟨6, _⟩ => ⟨S4096x1024, .f32⟩
  | .hbm, ⟨7, _⟩ => ⟨S1024x256, .f32⟩
  | .hbm, ⟨8, _⟩ => ⟨S256x1024, .f32⟩
  | _, _ => ⟨S4096x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel25.lean ====
abbrev S4096x1024 : Shape := ⟨2, ![4096, 1024]⟩
abbrev S4096x2048 : Shape := ⟨2, ![4096, 2048]⟩
abbrev S1024x1024 : Shape := ⟨2, ![1024, 1024]⟩
abbrev S512x1024 : Shape := ⟨2, ![512, 1024]⟩
abbrev S512x2048 : Shape := ⟨2, ![512, 2048]⟩
abbrev S8x128 : Shape := ⟨2, ![8, 128]⟩

abbrev nBuf : Space → Nat
  | .hbm => 9
  | .vmem => 18
  | .smem => 0
  | _ => 0

abbrev bufTy : (tb : Table) → Fin (tcTables nBuf tb) → BufTy
  | .hbm, ⟨0, _⟩ => ⟨S4096x1024, .bf16⟩
  | .hbm, ⟨1, _⟩ => ⟨S4096x2048, .bf16⟩
  | .hbm, ⟨2, _⟩ => ⟨S4096x1024, .bf16⟩
  | .hbm, ⟨3, _⟩ => ⟨S4096x1024, .bf16⟩
  | .hbm, ⟨4, _⟩ => ⟨S1024x1024, .f32⟩
  | .hbm, ⟨5, _⟩ => ⟨S1024x1024, .bf16⟩
  | .hbm, ⟨6, _⟩ => ⟨S4096x2048, .bf16⟩
  | .hbm, ⟨7, _⟩ => ⟨S4096x1024, .bf16⟩
  | .hbm, ⟨8, _⟩ => ⟨S4096x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x2048, .bf16⟩
  | .local _ .vmem, ⟨12, _⟩ => ⟨S512x2048, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S8x128, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨3, ![8, 1, 1], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![arg0.toNat, c1_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]
-- ==== Reference25Ideal.lean ====
abbrev S4096x1024 : Shape := ⟨2, ![4096, 1024]⟩
abbrev S4096x2048 : Shape := ⟨2, ![4096, 2048]⟩
abbrev S1024x1024 : Shape := ⟨2, ![1024, 1024]⟩
abbrev S_ : Shape := ⟨0, ![]⟩

abbrev nBuf : Space → Nat
  | .hbm => 50
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x2048, .bf16⟩
  | .hbm, ⟨2, _⟩ => ⟨S4096x1024, .bf16⟩
  | .hbm, ⟨3, _⟩ => ⟨S4096x1024, .bf16⟩
  | .hbm, ⟨4, _⟩ => ⟨S1024x1024, .f32⟩
  | .hbm, ⟨5, _⟩ => ⟨S4096x2048, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S_, .f32⟩
  | .hbm, ⟨13, _⟩ => ⟨S4096x1024, .f32⟩
  | .hbm, ⟨14, _⟩ => ⟨S4096x1024, .f32⟩
  | .hbm, ⟨15, _⟩ => ⟨S_, .f32⟩
  | .hbm, ⟨16, _⟩ => ⟨S4096x1024, .f32⟩
  | .hbm, ⟨17, _⟩ => ⟨S4096x1024, .f32⟩
  | .hbm, ⟨18, _⟩ => ⟨S_, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S4096x1024, .f32⟩
  | .hbm, ⟨30, _⟩ => ⟨S4096x1024, .f32⟩
  | .hbm, ⟨31, _⟩ => ⟨S_, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x2048, .f32⟩
  | .hbm, ⟨47, _⟩ => ⟨S4096x2048, .bf16⟩
  | .hbm, ⟨48, _⟩ => ⟨S4096x1024, .bf16⟩
  | .hbm, ⟨49, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩

abbrev nD : Nat := 1
abbrev τ : Topo := Topo.v7x

variable {F : FTy → Type} [FloatOps F]
-- ==== Kernel26.lean ====
abbrev S4096x1024 : Shape := ⟨2, ![4096, 1024]⟩
abbrev S512x1024 : Shape := ⟨2, ![512, 1024]⟩
abbrev S4096x512 : Shape := ⟨2, ![4096, 512]⟩
abbrev S1024x1024 : Shape := ⟨2, ![1024, 1024]⟩
abbrev S1024x512 : Shape := ⟨2, ![1024, 512]⟩
abbrev S8x128 : Shape := ⟨2, ![8, 128]⟩

abbrev nBuf : Space → Nat
  | .hbm => 4
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S512x1024, .f32⟩
  | .hbm, ⟨2, _⟩ => ⟨S512x1024, .bf16⟩
  | .hbm, ⟨3, _⟩ => ⟨S4096x512, .bf16⟩
  | .local _ .vmem, ⟨0, _⟩ => ⟨S1024x1024, .bf16⟩
  | .local _ .vmem, ⟨1, _⟩ => ⟨S1024x1024, .bf16⟩
  | .local _ .vmem, ⟨2, _⟩ => ⟨S512x1024, .bf16⟩
  | .local _ .vmem, ⟨3, _⟩ => ⟨S1024x512, .bf16⟩
  | .local _ .vmem, ⟨4, _⟩ => ⟨S1024x512, .bf16⟩
  | .local _ .vmem, ⟨5, _⟩ => ⟨S8x128, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference26Ideal.lean ====
abbrev S4096x1024 : Shape := ⟨2, ![4096, 1024]⟩
abbrev S512x1024 : Shape := ⟨2, ![512, 1024]⟩
abbrev S_ : Shape := ⟨0, ![]⟩
abbrev S4096x512 : Shape := ⟨2, ![4096, 512]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S512x1024, .f32⟩
  | .hbm, ⟨2, _⟩ => ⟨S_, .f32⟩
  | .hbm, ⟨3, _⟩ => ⟨S4096x512, .f32⟩
  | .hbm, ⟨4, _⟩ => ⟨S4096x1024, .f32⟩
  | .hbm, ⟨5, _⟩ => ⟨S4096x1024, .f32⟩
  | .hbm, ⟨6, _⟩ => ⟨S4096x512, .f32⟩
  | .hbm, ⟨7, _⟩ => ⟨S4096x512, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel27.lean ====
abbrev S4096x1024 : Shape := ⟨2, ![4096, 1024]⟩
abbrev S256x1024 : Shape := ⟨2, ![256, 1024]⟩
abbrev S4096x256 : Shape := ⟨2, ![4096, 256]⟩
abbrev S1024x1024 : Shape := ⟨2, ![1024, 1024]⟩
abbrev S1024x256 : Shape := ⟨2, ![1024, 256]⟩
abbrev S8x128 : Shape := ⟨2, ![8, 128]⟩

abbrev nBuf : Space → Nat
  | .hbm => 4
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S256x1024, .f32⟩
  | .hbm, ⟨2, _⟩ => ⟨S256x1024, .bf16⟩
  | .hbm, ⟨3, _⟩ => ⟨S4096x256, .f32⟩
  | .local _ .vmem, ⟨0, _⟩ => ⟨S1024x1024, .bf16⟩
  | .local _ .vmem, ⟨1, _⟩ => ⟨S1024x1024, .bf16⟩
  | .local _ .vmem, ⟨2, _⟩ => ⟨S256x1024, .bf16⟩
  | .local _ .vmem, ⟨3, _⟩ => ⟨S1024x256, .f32⟩
  | .local _ .vmem, ⟨4, _⟩ => ⟨S1024x256, .f32⟩
  | .local _ .vmem, ⟨5, _⟩ => ⟨S8x128, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference27Ideal.lean ====
abbrev S4096x1024 : Shape := ⟨2, ![4096, 1024]⟩
abbrev S256x1024 : Shape := ⟨2, ![256, 1024]⟩
abbrev S_ : Shape := ⟨0, ![]⟩
abbrev S4096x256 : Shape := ⟨2, ![4096, 256]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S256x1024, .f32⟩
  | .hbm, ⟨2, _⟩ => ⟨S_, .f32⟩
  | .hbm, ⟨3, _⟩ => ⟨S4096x256, .f32⟩
  | .hbm, ⟨4, _⟩ => ⟨S4096x1024, .f32⟩
  | .hbm, ⟨5, _⟩ => ⟨S4096x1024, .f32⟩
  | .hbm, ⟨6, _⟩ => ⟨S4096x256, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel28.lean ====
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference28Ideal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 18
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel30.lean ====
abbrev S4096x1536 : Shape := ⟨2, ![4096, 1536]⟩
abbrev S8x8x64x512 : Shape := ⟨4, ![8, 8, 64, 512]⟩
abbrev S4096x512 : Shape := ⟨2, ![4096, 512]⟩
abbrev S4096x128 : Shape := ⟨2, ![4096, 128]⟩
abbrev S2x8x64x512 : Shape := ⟨4, ![2, 8, 64, 512]⟩
abbrev S64x128 : Shape := ⟨2, ![64, 128]⟩
abbrev S128x128 : Shape := ⟨2, ![128, 128]⟩
abbrev S512x128 : Shape := ⟨2, ![512, 128]⟩
abbrev S128x512 : Shape := ⟨2, ![128, 512]⟩
abbrev S1x1x64x512 : Shape := ⟨4, ![1, 1, 64, 512]⟩
abbrev S64x512 : Shape := ⟨2, ![64, 512]⟩
abbrev S128 : Shape := ⟨1, ![128]⟩
abbrev S128x1 : Shape := ⟨2, ![128, 1]⟩

abbrev nBuf : Space → Nat
  | .hbm => 3
  | .vmem => 10
  | .smem => 0
  | _ => 0

abbrev bufTy : (tb : Table) → Fin (tcTables nBuf tb) → BufTy
  | .hbm, ⟨0, _⟩ => ⟨S4096x1536, .bf16⟩
  | .hbm, ⟨1, _⟩ => ⟨S8x8x64x512, .f32⟩
  | .hbm, ⟨2, _⟩ => ⟨S4096x512, .bf16⟩
  | .local _ .vmem, ⟨0, _⟩ => ⟨S4096x128, .bf16⟩
  | .local _ .vmem, ⟨1, _⟩ => ⟨S4096x128, .bf16⟩
  | .local _ .vmem, ⟨2, _⟩ => ⟨S4096x128, .bf16⟩
  | .local _ .vmem, ⟨3, _⟩ => ⟨S4096x128, .bf16⟩
  | .local _ .vmem, ⟨4, _⟩ => ⟨S4096x128, .bf16⟩
  | .local _ .vmem, ⟨5, _⟩ => ⟨S4096x128, .bf16⟩
  | .local _ .vmem, ⟨6, _⟩ => ⟨S2x8x64x512, .f32⟩
  | .local _ .vmem, ⟨7, _⟩ => ⟨S2x8x64x512, .f32⟩
  | .local _ .vmem, ⟨8, _⟩ => ⟨S4096x128, .bf16⟩
  | .local _ .vmem, ⟨9, _⟩ => ⟨S4096x128, .bf16⟩
  | _, _ => ⟨S4096x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32 : BitVec 32 := 0#32
  let c4_i32 : BitVec 32 := 4#32
  let v0 : BitVec 32 := Scalar.addi c0_i32 c4_i32
  let c1_i32 : BitVec 32 := 1#32
  ⟨c0_i32, v0, c1_i32⟩
def k0_mult1 (k0_t1 : Fin k0_t1_loop.trips) : BitVec 32 :=
  let c56_i32 : BitVec 32 := 56#32
  let c0_i32_3 : BitVec 32 := 0#32
  let c0_i32 : BitVec 32 := 0#32
  let c1_i32 : BitVec 32 := 1#32
  let arg6 : BitVec 32 := Scf.iv c0_i32 c1_i32 k0_t1
  let c16_i32 : BitVec 32 := 16#32
  let v1 : BitVec 32 := Scalar.muli arg6 c16_i32
  let c0_i32_1 : BitVec 32 := 0#32
  let v2 : BitVec 32 := Scalar.addi v1 c0_i32_1
  let c4_i32_2 : BitVec 32 := 4#32
  let v3 : BitVec 32 := Scalar.subi v2 c4_i32_2
  let v4 : BitVec 32 := Scalar.maxsi c0_i32_3 v3
  let v5 : BitVec 32 := Scalar.minsi c56_i32 v4
  let c64_i32 : BitVec 32 := 64#32
  let v8 : BitVec 32 := Scalar.muli v5 c64_i32
  v8
def k0_mult2 (k0_t1 : Fin k0_t1_loop.trips) : BitVec 32 :=
  let c56_i32_8 : BitVec 32 := 56#32
  let c0_i32_7 : BitVec 32 := 0#32
  let c0_i32 : BitVec 32 := 0#32
  let c1_i32 : BitVec 32 := 1#32
  let arg6 : BitVec 32 := Scf.iv c0_i32 c1_i32 k0_t1
  let c16_i32_4 : BitVec 32 := 16#32
  let v10 : BitVec 32 := Scalar.muli arg6 c16_i32_4
  let c1_i32_5 : BitVec 32 := 1#32
  let v11 : BitVec 32 := Scalar.addi v10 c1_i32_5
  let c4_i32_6 : BitVec 32 := 4#32
  let v12 : BitVec 32 := Scalar.subi v11 c4_i32_6
  let v13 : BitVec 32 := Scalar.maxsi c0_i32_7 v12
  let v14 : BitVec 32 := Scalar.minsi c56_i32_8 v13
  let c64_i32_10 : BitVec 32 := 64#32
  let v17 : BitVec 32 := Scalar.muli v14 c64_i32_10
  v17
def k0_mult3 (k0_t1 : Fin k0_t1_loop.trips) : BitVec 32 :=
  let c56_i32_14 : BitVec 32 := 56#32
  let c0_i32_13 : BitVec 32 := 0#32
  let c0_i32 : BitVec 32 := 0#32
  let c1_i32 : BitVec 32 := 1#32
  let arg6 : BitVec 32 := Scf.iv c0_i32 c1_i32 k0_t1
  let c16_i32_11 : BitVec 32 := 16#32
  let v19 : BitVec 32 := Scalar.muli arg6 c16_i32_11
  let c2_i32 : BitVec 32 := 2#32
  let v20 : BitVec 32 := Scalar.addi v19 c2_i32
  let c4_i32_12 : BitVec 32 := 4#32
  let v21 : BitVec 32 := Scalar.subi v20 c4_i32_12
  let v22 : BitVec 32 := Scalar.maxsi c0_i32_13 v21
  let v23 : BitVec 32 := Scalar.minsi c56_i32_14 v22
  let c64_i32_16 : BitVec 32 := 64#32
  let v26 : BitVec 32 := Scalar.muli v23 c64_i32_16
  v26
def k0_mult4 (k0_t1 : Fin k0_t1_loop.trips) : BitVec 32 :=
  let c56_i32_20 : BitVec 32 := 56#32
  let c0_i32_19 : BitVec 32 := 0#32
  let c0_i32 : BitVec 32 := 0#32
  let c1_i32 : BitVec 32 := 1#32
  let arg6 : BitVec 32 := Scf.iv c0_i32 c1_i32 k0_t1
  let c16_i32_17 : BitVec 32 := 16#32
  let v28 : BitVec 32 := Scalar.muli arg6 c16_i32_17
  let c3_i32 : BitVec 32 := 3#32
  let v29 : BitVec 32 := Scalar.addi v28 c3_i32
  let c4_i32_18 : BitVec 32 := 4#32
  let v30 : BitVec 32 := Scalar.subi v29 c4_i32_18
  let v31 : BitVec 32 := Scalar.maxsi c0_i32_19 v30
  let v32 : BitVec 32 := Scalar.minsi c56_i32_20 v31
  let c64_i32_22 : BitVec 32 := 64#32
  let v35 : BitVec 32 := Scalar.muli v32 c64_i32_22
  v35
def k0_mult5 (k0_t1 : Fin k0_t1_loop.trips) : BitVec 32 :=
  let c56_i32_27 : BitVec 32 := 56#32
  let c0_i32_26 : BitVec 32 := 0#32
  let c0_i32 : BitVec 32 := 0#32
  let c1_i32 : BitVec 32 := 1#32
  let arg6 : BitVec 32 := Scf.iv c0_i32 c1_i32 k0_t1
  let c16_i32_23 : BitVec 32 := 16#32
  let v37 : BitVec 32 := Scalar.muli arg6 c16_i32_23
  let c4_i32_24 : BitVec 32 := 4#32
  let v38 : BitVec 32 := Scalar.addi v37 c4_i32_24
  let c4_i32_25 : BitVec 32 := 4#32
  let v39 : BitVec 32 := Scalar.subi v38 c4_i32_25
  let v40 : BitVec 32 := Scalar.maxsi c0_i32_26 v39
  let v41 : BitVec 32 := Scalar.minsi c56_i32_27 v40
  let c64_i32_29 : BitVec 32 := 64#32
  let v44 : BitVec 32 := Scalar.muli v41 c64_i32_29
  v44
def k0_mult6 (k0_t1 : Fin k0_t1_loop.trips) : BitVec 32 :=
  let c56_i32_33 : BitVec 32 := 56#32
  let c0_i32_32 : BitVec 32 := 0#32
  let c0_i32 : BitVec 32 := 0#32
  let c1_i32 : BitVec 32 := 1#32
  let arg6 : BitVec 32 := Scf.iv c0_i32 c1_i32 k0_t1
  let c16_i32_30 : BitVec 32 := 16#32
  let v46 : BitVec 32 := Scalar.muli arg6 c16_i32_30
  let c5_i32 : BitVec 32 := 5#32
  let v47 : BitVec 32 := Scalar.addi v46 c5_i32
  let c4_i32_31 : BitVec 32 := 4#32
  let v48 : BitVec 32 := Scalar.subi v47 c4_i32_31
  let v49 : BitVec 32 := Scalar.maxsi c0_i32_32 v48
  let v50 : BitVec 32 := Scalar.minsi c56_i32_33 v49
  let c64_i32_35 : BitVec 32 := 64#32
  let v53 : BitVec 32 := Scalar.muli v50 c64_i32_35
  v53
def k0_mult7 (k0_t1 : Fin k0_t1_loop.trips) : BitVec 32 :=
  let c56_i32_39 : BitVec 32 := 56#32
  let c0_i32_38 : BitVec 32 := 0#32
  let c0_i32 : BitVec 32 := 0#32
  let c1_i32 : BitVec 32 := 1#32
  let arg6 : BitVec 32 := Scf.iv c0_i32 c1_i32 k0_t1
  let c16_i32_36 : BitVec 32 := 16#32
  let v55 : BitVec 32 := Scalar.muli arg6 c16_i32_36
  let c6_i32 : BitVec 32 := 6#32
  let v56 : BitVec 32 := Scalar.addi v55 c6_i32
  let c4_i32_37 : BitVec 32 := 4#32
  let v57 : BitVec 32 := Scalar.subi v56 c4_i32_37
  let v58 : BitVec 32 := Scalar.maxsi c0_i32_38 v57
  let v59 : BitVec 32 := Scalar.minsi c56_i32_39 v58
  let c64_i32_41 : BitVec 32 := 64#32
  let v62 : BitVec 32 := Scalar.muli v59 c64_i32_41
  v62
def k0_mult8 (k0_t1 : Fin k0_t1_loop.trips) : BitVec 32 :=
  let c56_i32_46 : BitVec 32 := 56#32
  let c0_i32_45 : BitVec 32 := 0#32
  let c0_i32 : BitVec 32 := 0#32
  let c1_i32 : BitVec 32 := 1#32
  let arg6 : BitVec 32 := Scf.iv c0_i32 c1_i32 k0_t1
  let c16_i32_42 : BitVec 32 := 16#32
  let v64 : BitVec 32 := Scalar.muli arg6 c16_i32_42
  let c7_i32_43 : BitVec 32 := 7#32
  let v65 : BitVec 32 := Scalar.addi v64 c7_i32_43
  let c4_i32_44 : BitVec 32 := 4#32
  let v66 : BitVec 32 := Scalar.subi v65 c4_i32_44
  let v67 : BitVec 32 := Scalar.maxsi c0_i32_45 v66
  let v68 : BitVec 32 := Scalar.minsi c56_i32_46 v67
  let c64_i32_48 : BitVec 32 := 64#32
  let v71 : BitVec 32 := Scalar.muli v68 c64_i32_48
  v71
def k0_mult9 (k0_t1 : Fin k0_t1_loop.trips) : BitVec 32 :=
  let c56_i32_52 : BitVec 32 := 56#32
  let c0_i32_51 : BitVec 32 := 0#32
  let c0_i32 : BitVec 32 := 0#32
  let c1_i32 : BitVec 32 := 1#32
  let arg6 : BitVec 32 := Scf.iv c0_i32 c1_i32 k0_t1
  let c16_i32_49 : BitVec 32 := 16#32
  let v73 : BitVec 32 := Scalar.muli arg6 c16_i32_49
  let c8_i32 : BitVec 32 := 8#32
  let v74 : BitVec 32 := Scalar.addi v73 c8_i32
  let c4_i32_50 : BitVec 32 := 4#32
  let v75 : BitVec 32 := Scalar.subi v74 c4_i32_50
  let v76 : BitVec 32 := Scalar.maxsi c0_i32_51 v75
  let v77 : BitVec 32 := Scalar.minsi c56_i32_52 v76
  let c64_i32_54 : BitVec 32 := 64#32
  let v80 : BitVec 32 := Scalar.muli v77 c64_i32_54
  v80
def k0_mult10 (k0_t1 : Fin k0_t1_loop.trips) : BitVec 32 :=
  let c56_i32_58 : BitVec 32 := 56#32
  let c0_i32_57 : BitVec 32 := 0#32
  let c0_i32 : BitVec 32 := 0#32
  let c1_i32 : BitVec 32 := 1#32
  let arg6 : BitVec 32 := Scf.iv c0_i32 c1_i32 k0_t1
  let c16_i32_55 : BitVec 32 := 16#32
  let v82 : BitVec 32 := Scalar.muli arg6 c16_i32_55
  let c9_i32 : BitVec 32 := 9#32
  let v83 : BitVec 32 := Scalar.addi v82 c9_i32
  let c4_i32_56 : BitVec 32 := 4#32
  let v84 : BitVec 32 := Scalar.subi v83 c4_i32_56
  let v85 : BitVec 32 := Scalar.maxsi c0_i32_57 v84
  let v86 : BitVec 32 := Scalar.minsi c56_i32_58 v85
  let c64_i32_60 : BitVec 32 := 64#32
  let v89 : BitVec 32 := Scalar.muli v86 c64_i32_60
  v89
def k0_mult11 (k0_t1 : Fin k0_t1_loop.trips) : BitVec 32 :=
  let c56_i32_64 : BitVec 32 := 56#32
  let c0_i32_63 : BitVec 32 := 0#32
  let c0_i32 : BitVec 32 := 0#32
  let c1_i32 : BitVec 32 := 1#32
  let arg6 : BitVec 32 := Scf.iv c0_i32 c1_i32 k0_t1
  let c16_i32_61 : BitVec 32 := 16#32
  let v91 : BitVec 32 := Scalar.muli arg6 c16_i32_61
  let c10_i32 : BitVec 32 := 10#32
  let v92 : BitVec 32 := Scalar.addi v91 c10_i32
  let c4_i32_62 : BitVec 32 := 4#32
  let v93 : BitVec 32 := Scalar.subi v92 c4_i32_62
  let v94 : BitVec 32 := Scalar.maxsi c0_i32_63 v93
  let v95 : BitVec 32 := Scalar.minsi c56_i32_64 v94
  let c64_i32_66 : BitVec 32 := 64#32
  let v98 : BitVec 32 := Scalar.muli v95 c64_i32_66
  v98
def k0_mult12 (k0_t1 : Fin k0_t1_loop.trips) : BitVec 32 :=
  let c56_i32_70 : BitVec 32 := 56#32
  let c0_i32_69 : BitVec 32 := 0#32
  let c0_i32 : BitVec 32 := 0#32
  let c1_i32 : BitVec 32 := 1#32
  let arg6 : BitVec 32 := Scf.iv c0_i32 c1_i32 k0_t1
  let c16_i32_67 : BitVec 32 := 16#32
  let v100 : BitVec 32 := Scalar.muli arg6 c16_i32_67
  let c11_i32 : BitVec 32 := 11#32
  let v101 : BitVec 32 := Scalar.addi v100 c11_i32
  let c4_i32_68 : BitVec 32 := 4#32
  let v102 : BitVec 32 := Scalar.subi v101 c4_i32_68
  let v103 : BitVec 32 := Scalar.maxsi c0_i32_69 v102
  let v104 : BitVec 32 := Scalar.minsi c56_i32_70 v103
  let c64_i32_72 : BitVec 32 := 64#32
  let v107 : BitVec 32 := Scalar.muli v104 c64_i32_72
  v107
def k0_mult13 (k0_t1 : Fin k0_t1_loop.trips) : BitVec 32 :=
  let c56_i32_76 : BitVec 32 := 56#32
  let c0_i32_75 : BitVec 32 := 0#32
  let c0_i32 : BitVec 32 := 0#32
  let c1_i32 : BitVec 32 := 1#32
  let arg6 : BitVec 32 := Scf.iv c0_i32 c1_i32 k0_t1
  let c16_i32_73 : BitVec 32 := 16#32
  let v109 : BitVec 32 := Scalar.muli arg6 c16_i32_73
  let c12_i32 : BitVec 32 := 12#32
  let v110 : BitVec 32 := Scalar.addi v109 c12_i32
  let c4_i32_74 : BitVec 32 := 4#32
  let v111 : BitVec 32 := Scalar.subi v110 c4_i32_74
  let v112 : BitVec 32 := Scalar.maxsi c0_i32_75 v111
  let v113 : BitVec 32 := Scalar.minsi c56_i32_76 v112
  let c64_i32_78 : BitVec 32 := 64#32
  let v116 : BitVec 32 := Scalar.muli v113 c64_i32_78
  v116
def k0_mult14 (k0_t1 : Fin k0_t1_loop.trips) : BitVec 32 :=
  let c56_i32_82 : BitVec 32 := 56#32
  let c0_i32_81 : BitVec 32 := 0#32
  let c0_i32 : BitVec 32 := 0#32
  let c1_i32 : BitVec 32 := 1#32
  let arg6 : BitVec 32 := Scf.iv c0_i32 c1_i32 k0_t1
  let c16_i32_79 : BitVec 32 := 16#32
  let v118 : BitVec 32 := Scalar.muli arg6 c16_i32_79
  let c13_i32 : BitVec 32 := 13#32
  let v119 : BitVec 32 := Scalar.addi v118 c13_i32
  let c4_i32_80 : BitVec 32 := 4#32
  let v120 : BitVec 32 := Scalar.subi v119 c4_i32_80
  let v121 : BitVec 32 := Scalar.maxsi c0_i32_81 v120
  let v122 : BitVec 32 := Scalar.minsi c56_i32_82 v121
  let c64_i32_84 : BitVec 32 := 64#32
  let v125 : BitVec 32 := Scalar.muli v122 c64_i32_84
  v125
def k0_mult15 (k0_t1 : Fin k0_t1_loop.trips) : BitVec 32 :=
  let c56_i32_88 : BitVec 32 := 56#32
  let c0_i32_87 : BitVec 32 := 0#32
  let c0_i32 : BitVec 32 := 0#32
  let c1_i32 : BitVec 32 := 1#32
  let arg6 : BitVec 32 := Scf.iv c0_i32 c1_i32 k0_t1
  let c16_i32_85 : BitVec 32 := 16#32
  let v127 : BitVec 32 := Scalar.muli arg6 c16_i32_85
  let c14_i32 : BitVec 32 := 14#32
  let v128 : BitVec 32 := Scalar.addi v127 c14_i32
  let c4_i32_86 : BitVec 32 := 4#32
  let v129 : BitVec 32 := Scalar.subi v128 c4_i32_86
  let v130 : BitVec 32 := Scalar.maxsi c0_i32_87 v129
  let v131 : BitVec 32 := Scalar.minsi c56_i32_88 v130
  let c64_i32_90 : BitVec 32 := 64#32
  let v134 : BitVec 32 := Scalar.muli v131 c64_i32_90
  v134
def k0_mult16 (k0_t1 : Fin k0_t1_loop.trips) : BitVec 32 :=
  let c56_i32_94 : BitVec 32 := 56#32
  let c0_i32_93 : BitVec 32 := 0#32
  let c0_i32 : BitVec 32 := 0#32
  let c1_i32 : BitVec 32 := 1#32
  let arg6 : BitVec 32 := Scf.iv c0_i32 c1_i32 k0_t1
  let c16_i32_91 : BitVec 32 := 16#32
  let v136 : BitVec 32 := Scalar.muli arg6 c16_i32_91
  let c15_i32 : BitVec 32 := 15#32
  let v137 : BitVec 32 := Scalar.addi v136 c15_i32
  let c4_i32_92 : BitVec 32 := 4#32
  let v138 : BitVec 32 := Scalar.subi v137 c4_i32_92
  let v139 : BitVec 32 := Scalar.maxsi c0_i32_93 v138
  let v140 : BitVec 32 := Scalar.minsi c56_i32_94 v139
  let c64_i32_96 : BitVec 32 := 64#32
  let v143 : BitVec 32 := Scalar.muli v140 c64_i32_96
  v143
def k0_mult17 (k0_t1 : Fin k0_t1_loop.trips) : BitVec 32 :=
  let c0_i32 : BitVec 32 := 0#32
  let c1_i32 : BitVec 32 := 1#32
  let arg6 : BitVec 32 := Scf.iv c0_i32 c1_i32 k0_t1
  let c16_i32_97 : BitVec 32 := 16#32
  let v145 : BitVec 32 := Scalar.muli arg6 c16_i32_97
  let c0_i32_98 : BitVec 32 := 0#32
  let v146 : BitVec 32 := Scalar.addi v145 c0_i32_98
  let c64_i32_99 : BitVec 32 := 64#32
  let v147 : BitVec 32 := Scalar.muli v146 c64_i32_99
  v147
def k0_mult18 (k0_t1 : Fin k0_t1_loop.trips) : BitVec 32 :=
  let c0_i32 : BitVec 32 := 0#32
  let c1_i32 : BitVec 32 := 1#32
  let arg6 : BitVec 32 := Scf.iv c0_i32 c1_i32 k0_t1
  let c16_i32_100 : BitVec 32 := 16#32
  let v149 : BitVec 32 := Scalar.muli arg6 c16_i32_100
  let c1_i32_101 : BitVec 32 := 1#32
  let v150 : BitVec 32 := Scalar.addi v149 c1_i32_101
  let c64_i32_102 : BitVec 32 := 64#32
  let v151 : BitVec 32 := Scalar.muli v150 c64_i32_102
  v151
def k0_mult19 (k0_t1 : Fin k0_t1_loop.trips) : BitVec 32 :=
  let c0_i32 : BitVec 32 := 0#32
  let c1_i32 : BitVec 32 := 1#32
  let arg6 : BitVec 32 := Scf.iv c0_i32 c1_i32 k0_t1
  let c16_i32_103 : BitVec 32 := 16#32
  let v153 : BitVec 32 := Scalar.muli arg6 c16_i32_103
  let c2_i32_104 : BitVec 32 := 2#32
  let v154 : BitVec 32 := Scalar.addi v153 c2_i32_104
  let c64_i32_105 : BitVec 32 := 64#32
  let v155 : BitVec 32 := Scalar.muli v154 c64_i32_105
  v155
def k0_mult20 (k0_t1 : Fin k0_t1_loop.trips) : BitVec 32 :=
  let c0_i32 : BitVec 32 := 0#32
  let c1_i32 : BitVec 32 := 1#32
  let arg6 : BitVec 32 := Scf.iv c0_i32 c1_i32 k0_t1
  let c16_i32_106 : BitVec 32 := 16#32
  let v157 : BitVec 32 := Scalar.muli arg6 c16_i32_106
  let c3_i32_107 : BitVec 32 := 3#32
  let v158 : BitVec 32 := Scalar.addi v157 c3_i32_107
  let c64_i32_108 : BitVec 32 := 64#32
  let v159 : BitVec 32 := Scalar.muli v158 c64_i32_108
  v159
def k0_mult21 (k0_t1 : Fin k0_t1_loop.trips) : BitVec 32 :=
  let c0_i32 : BitVec 32 := 0#32
  let c1_i32 : BitVec 32 := 1#32
  let arg6 : BitVec 32 := Scf.iv c0_i32 c1_i32 k0_t1
  let c16_i32_109 : BitVec 32 := 16#32
  let v161 : BitVec 32 := Scalar.muli arg6 c16_i32_109
  let c4_i32_110 : BitVec 32 := 4#32
  let v162 : BitVec 32 := Scalar.addi v161 c4_i32_110
  let c64_i32_111 : BitVec 32 := 64#32
  let v163 : BitVec 32 := Scalar.muli v162 c64_i32_111
  v163
def k0_mult22 (k0_t1 : Fin k0_t1_loop.trips) : BitVec 32 :=
  let c0_i32 : BitVec 32 := 0#32
  let c1_i32 : BitVec 32 := 1#32
  let arg6 : BitVec 32 := Scf.iv c0_i32 c1_i32 k0_t1
  let c16_i32_112 : BitVec 32 := 16#32
  let v165 : BitVec 32 := Scalar.muli arg6 c16_i32_112
  let c5_i32_113 : BitVec 32 := 5#32
  let v166 : BitVec 32 := Scalar.addi v165 c5_i32_113
  let c64_i32_114 : BitVec 32 := 64#32
  let v167 : BitVec 32 := Scalar.muli v166 c64_i32_114
  v167
def k0_mult23 (k0_t1 : Fin k0_t1_loop.trips) : BitVec 32 :=
  let c0_i32 : BitVec 32 := 0#32
  let c1_i32 : BitVec 32 := 1#32
  let arg6 : BitVec 32 := Scf.iv c0_i32 c1_i32 k0_t1
  let c16_i32_115 : BitVec 32 := 16#32
  let v169 : BitVec 32 := Scalar.muli arg6 c16_i32_115
  let c6_i32_116 : BitVec 32 := 6#32
  let v170 : BitVec 32 := Scalar.addi v169 c6_i32_116
  let c64_i32_117 : BitVec 32 := 64#32
  let v171 : BitVec 32 := Scalar.muli v170 c64_i32_117
  v171
def k0_mult24 (k0_t1 : Fin k0_t1_loop.trips) : BitVec 32 :=
  let c0_i32 : BitVec 32 := 0#32
  let c1_i32 : BitVec 32 := 1#32
  let arg6 : BitVec 32 := Scf.iv c0_i32 c1_i32 k0_t1
  let c16_i32_118 : BitVec 32 := 16#32
  let v173 : BitVec 32 := Scalar.muli arg6 c16_i32_118
  let c7_i32_119 : BitVec 32 := 7#32
  let v174 : BitVec 32 := Scalar.addi v173 c7_i32_119
  let c64_i32_120 : BitVec 32 := 64#32
  let v175 : BitVec 32 := Scalar.muli v174 c64_i32_120
  v175
def k0_mult25 (k0_t1 : Fin k0_t1_loop.trips) : BitVec 32 :=
  let c0_i32 : BitVec 32 := 0#32
  let c1_i32 : BitVec 32 := 1#32
  let arg6 : BitVec 32 := Scf.iv c0_i32 c1_i32 k0_t1
  let c16_i32_121 : BitVec 32 := 16#32
  let v177 : BitVec 32 := Scalar.muli arg6 c16_i32_121
  let c8_i32_122 : BitVec 32 := 8#32
  let v178 : BitVec 32 := Scalar.addi v177 c8_i32_122
  let c64_i32_123 : BitVec 32 := 64#32
  let v179 : BitVec 32 := Scalar.muli v178 c64_i32_123
  v179
def k0_mult26 (k0_t1 : Fin k0_t1_loop.trips) : BitVec 32 :=
  let c0_i32 : BitVec 32 := 0#32
  let c1_i32 : BitVec 32 := 1#32
  let arg6 : BitVec 32 := Scf.iv c0_i32 c1_i32 k0_t1
  let c16_i32_124 : BitVec 32 := 16#32
  let v181 : BitVec 32 := Scalar.muli arg6 c16_i32_124
  let c9_i32_125 : BitVec 32 := 9#32
  let v182 : BitVec 32 := Scalar.addi v181 c9_i32_125
  let c64_i32_126 : BitVec 32 := 64#32
  let v183 : BitVec 32 := Scalar.muli v182 c64_i32_126
  v183
def k0_mult27 (k0_t1 : Fin k0_t1_loop.trips) : BitVec 32 :=
  let c0_i32 : BitVec 32 := 0#32
  let c1_i32 : BitVec 32 := 1#32
  let arg6 : BitVec 32 := Scf.iv c0_i32 c1_i32 k0_t1
  let c16_i32_127 : BitVec 32 := 16#32
  let v185 : BitVec 32 := Scalar.muli arg6 c16_i32_127
  let c10_i32_128 : BitVec 32 := 10#32
  let v186 : BitVec 32 := Scalar.addi v185 c10_i32_128
  let c64_i32_129 : BitVec 32 := 64#32
  let v187 : BitVec 32 := Scalar.muli v186 c64_i32_129
  v187
def k0_mult28 (k0_t1 : Fin k0_t1_loop.trips) : BitVec 32 :=
  let c0_i32 : BitVec 32 := 0#32
  let c1_i32 : BitVec 32 := 1#32
  let arg6 : BitVec 32 := Scf.iv c0_i32 c1_i32 k0_t1
  let c16_i32_130 : BitVec 32 := 16#32
  let v189 : BitVec 32 := Scalar.muli arg6 c16_i32_130
  let c11_i32_131 : BitVec 32 := 11#32
  let v190 : BitVec 32 := Scalar.addi v189 c11_i32_131
  let c64_i32_132 : BitVec 32 := 64#32
  let v191 : BitVec 32 := Scalar.muli v190 c64_i32_132
  v191
def k0_mult29 (k0_t1 : Fin k0_t1_loop.trips) : BitVec 32 :=
  let c0_i32 : BitVec 32 := 0#32
  let c1_i32 : BitVec 32 := 1#32
  let arg6 : BitVec 32 := Scf.iv c0_i32 c1_i32 k0_t1
  let c16_i32_133 : BitVec 32 := 16#32
  let v193 : BitVec 32 := Scalar.muli arg6 c16_i32_133
  let c12_i32_134 : BitVec 32 := 12#32
  let v194 : BitVec 32 := Scalar.addi v193 c12_i32_134
  let c64_i32_135 : BitVec 32 := 64#32
  let v195 : BitVec 32 := Scalar.muli v194 c64_i32_135
  v195
def k0_mult30 (k0_t1 : Fin k0_t1_loop.trips) : BitVec 32 :=
  let c0_i32 : BitVec 32 := 0#32
  let c1_i32 : BitVec 32 := 1#32
  let arg6 : BitVec 32 := Scf.iv c0_i32 c1_i32 k0_t1
  let c16_i32_136 : BitVec 32 := 16#32
  let v197 : BitVec 32 := Scalar.muli arg6 c16_i32_136
  let c13_i32_137 : BitVec 32 := 13#32
  let v198 : BitVec 32 := Scalar.addi v197 c13_i32_137
  let c64_i32_138 : BitVec 32 := 64#32
  let v199 : BitVec 32 := Scalar.muli v198 c64_i32_138
  v199
def k0_mult31 (k0_t1 : Fin k0_t1_loop.trips) : BitVec 32 :=
  let c0_i32 : BitVec 32 := 0#32
  let c1_i32 : BitVec 32 := 1#32
  let arg6 : BitVec 32 := Scf.iv c0_i32 c1_i32 k0_t1
  let c16_i32_139 : BitVec 32 := 16#32
  let v201 : BitVec 32 := Scalar.muli arg6 c16_i32_139
  let c14_i32_140 : BitVec 32 := 14#32
  let v202 : BitVec 32 := Scalar.addi v201 c14_i32_140
  let c64_i32_141 : BitVec 32 := 64#32
  let v203 : BitVec 32 := Scalar.muli v202 c64_i32_141
  v203
def k0_mult32 (k0_t1 : Fin k0_t1_loop.trips) : BitVec 32 :=
  let c0_i32 : BitVec 32 := 0#32
  let c1_i32 : BitVec 32 := 1#32
  let arg6 : BitVec 32 := Scf.iv c0_i32 c1_i32 k0_t1
  let c16_i32_142 : BitVec 32 := 16#32
  let v205 : BitVec 32 := Scalar.muli arg6 c16_i32_142
  let c15_i32_143 : BitVec 32 := 15#32
  let v206 : BitVec 32 := Scalar.addi v205 c15_i32_143
  let c64_i32_144 : BitVec 32 := 64#32
  let v207 : BitVec 32 := Scalar.muli v206 c64_i32_144
  v207
def k0_off1 (k0_t1 : Fin k0_t1_loop.trips) (c0_i32_98 : BitVec 32) : Fin 2 → Nat :=
  let c0_i32 : BitVec 32 := 0#32
  let c1_i32 : BitVec 32 := 1#32
  let arg6 : BitVec 32 := Scf.iv c0_i32 c1_i32 k0_t1
  let c16_i32_97 : BitVec 32 := 16#32
  let v145 : BitVec 32 := Scalar.muli arg6 c16_i32_97
  let v146 : BitVec 32 := Scalar.addi v145 c0_i32_98
  let c64_i32_99 : BitVec 32 := 64#32
  let v147 : BitVec 32 := Scalar.muli v146 c64_i32_99
  let v148 : BitVec 32 := v147
  let v209 : Index := Scalar.indexCast v148
  let c0 : Index := 0#32
  ![v209.toNat, 0]
def k0_off2 (k0_t1 : Fin k0_t1_loop.trips) (c0_i32_1 : BitVec 32) : Fin 2 → Nat :=
  let c56_i32 : BitVec 32 := 56#32
  let c0_i32_3 : BitVec 32 := 0#32
  let c0_i32 : BitVec 32 := 0#32
  let c1_i32 : BitVec 32 := 1#32
  let arg6 : BitVec 32 := Scf.iv c0_i32 c1_i32 k0_t1
  let c16_i32 : BitVec 32 := 16#32
  let v1 : BitVec 32 := Scalar.muli arg6 c16_i32
  let v2 : BitVec 32 := Scalar.addi v1 c0_i32_1
  let c4_i32_2 : BitVec 32 := 4#32
  let v3 : BitVec 32 := Scalar.subi v2 c4_i32_2
  let v4 : BitVec 32 := Scalar.maxsi c0_i32_3 v3
  let v5 : BitVec 32 := Scalar.minsi c56_i32 v4
  let c64_i32 : BitVec 32 := 64#32
  let v8 : BitVec 32 := Scalar.muli v5 c64_i32
  let v9 : BitVec 32 := v8
  let v220 : Index := Scalar.indexCast v9
  let c0_147 : Index := 0#32
  ![v220.toNat, 0]
def k0_off3 (k0_t1 : Fin k0_t1_loop.trips) (c0_i32_1 : BitVec 32) : Fin 4 → Nat :=
  let c0_239 : Index := 0#32
  let c56_i32 : BitVec 32 := 56#32
  let c0_i32_3 : BitVec 32 := 0#32
  let c0_i32 : BitVec 32 := 0#32
  let c1_i32 : BitVec 32 := 1#32
  let arg6 : BitVec 32 := Scf.iv c0_i32 c1_i32 k0_t1
  let c16_i32 : BitVec 32 := 16#32
  let v1 : BitVec 32 := Scalar.muli arg6 c16_i32
  let v2 : BitVec 32 := Scalar.addi v1 c0_i32_1
  let c4_i32_2 : BitVec 32 := 4#32
  let v3 : BitVec 32 := Scalar.subi v2 c4_i32_2
  let v4 : BitVec 32 := Scalar.maxsi c0_i32_3 v3
  let v5 : BitVec 32 := Scalar.minsi c56_i32 v4
  let v6 : BitVec 32 := Scalar.subi v5 v2
  let c7_i32 : BitVec 32 := 7#32
  let v7 : BitVec 32 := Scalar.addi v6 c7_i32
  let v433 : Index := Scalar.indexCast v7
  let c0_240 : Index := 0#32
  let c0_241 : Index := 0#32
  ![0, v433.toNat, 0, 0]
def k0_off4 (k0_t1 : Fin k0_t1_loop.trips) (c0_i32_1 : BitVec 32) : Fin 4 → Nat :=
  let c1 : Index := 1#32
  let c56_i32 : BitVec 32 := 56#32
  let c0_i32_3 : BitVec 32 := 0#32
  let c0_i32 : BitVec 32 := 0#32
  let c1_i32 : BitVec 32 := 1#32
  let arg6 : BitVec 32 := Scf.iv c0_i32 c1_i32 k0_t1
  let c16_i32 : BitVec 32 := 16#32
  let v1 : BitVec 32 := Scalar.muli arg6 c16_i32
  let v2 : BitVec 32 := Scalar.addi v1 c0_i32_1
  let c4_i32_2 : BitVec 32 := 4#32
  let v3 : BitVec 32 := Scalar.subi v2 c4_i32_2
  let v4 : BitVec 32 := Scalar.maxsi c0_i32_3 v3
  let v5 : BitVec 32 := Scalar.minsi c56_i32 v4
  let v6 : BitVec 32 := Scalar.subi v5 v2
  let c7_i32 : BitVec 32 := 7#32
  let v7 : BitVec 32 := Scalar.addi v6 c7_i32
  let v436 : Index := Scalar.indexCast v7
  let c0_242 : Index := 0#32
  let c0_243 : Index := 0#32
  ![1, v436.toNat, 0, 0]
def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

abbrev stage0_0 : Fin 2 → Memref sig .tc .vmem S4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x8x64x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4096x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference30Ideal.lean ====
abbrev S4096x1536 : Shape := ⟨2, ![4096, 1536]⟩
abbrev S8x8x64x512 : Shape := ⟨4, ![8, 8, 64, 512]⟩
abbrev S4096x512 : Shape := ⟨2, ![4096, 512]⟩
abbrev S4096x8x64 : Shape := ⟨3, ![4096, 8, 64]⟩
abbrev S8x4096x64 : Shape := ⟨3, ![8, 4096, 64]⟩
abbrev S64 : Shape := ⟨1, ![64]⟩
abbrev S_ : Shape := ⟨0, ![]⟩
abbrev S64x1 : Shape := ⟨2, ![64, 1]⟩
abbrev S8 : Shape := ⟨1, ![8]⟩
abbrev S1x8 : Shape := ⟨2, ![1, 8]⟩
abbrev S64x8 : Shape := ⟨2, ![64, 8]⟩
abbrev S8x64x64x512 : Shape := ⟨4, ![8, 64, 64, 512]⟩
abbrev S8x64x64x64 : Shape := ⟨4, ![8, 64, 64, 64]⟩
abbrev S64x8x1 : Shape := ⟨3, ![64, 8, 1]⟩
abbrev S8x64x8x64x64 : Shape := ⟨5, ![8, 64, 8, 64, 64]⟩
abbrev S8x64x512x64 : Shape := ⟨4, ![8, 64, 512, 64]⟩
abbrev S8x64x64 : Shape := ⟨3, ![8, 64, 64]⟩
abbrev S8x64x64x1 : Shape := ⟨4, ![8, 64, 64, 1]⟩

abbrev nBuf : Space → Nat
  | .hbm => 92
  | .vmem => 0
  | .smem => 0
  | _ => 0

abbrev bufTy : (tb : Table) → Fin (tcTables nBuf tb) → BufTy
  | .hbm, ⟨0, _⟩ => ⟨S4096x1536, .bf16⟩
  | .hbm, ⟨1, _⟩ => ⟨S8x8x64x512, .f32⟩
  | .hbm, ⟨2, _⟩ => ⟨S4096x1536, .f32⟩
  | .hbm, ⟨3, _⟩ => ⟨S4096x512, .f32⟩
  | .hbm, ⟨4, _⟩ => ⟨S4096x512, .f32⟩
  | .hbm, ⟨5, _⟩ => ⟨S4096x512, .f32⟩
  | .hbm, ⟨6, _⟩ => ⟨S4096x8x64, .f32⟩
  | .hbm, ⟨7, _⟩ => ⟨S8x4096x64, .f32⟩
  | .hbm, ⟨8, _⟩ => ⟨S4096x8x64, .f32⟩
  | .hbm, ⟨9, _⟩ => ⟨S8x4096x64, .f32⟩
  | .hbm, ⟨10, _⟩ => ⟨S4096x8x64, .f32⟩
  | .hbm, ⟨11, _⟩ => ⟨S8x4096x64, .f32⟩
  | .hbm, ⟨12, _⟩ => ⟨S64, .i32⟩
  | .hbm, ⟨13, _⟩ => ⟨S_, .i32⟩
  | .hbm, ⟨14, _⟩ => ⟨S64, .i32⟩
  | .hbm, ⟨15, _⟩ => ⟨S64, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S64, .i32⟩
  | .hbm, ⟨20, _⟩ => ⟨S64, .i32⟩
  | .hbm, ⟨21, _⟩ => ⟨S_, .i32⟩
  | .hbm, ⟨22, _⟩ => ⟨S64, .i32⟩
  | .hbm, ⟨23, _⟩ => ⟨S64, .i32⟩
  | .hbm, ⟨24, _⟩ => ⟨S64x1, .i32⟩
  | .hbm, ⟨25, _⟩ => ⟨S8, .i32⟩
  | .hbm, ⟨26, _⟩ => ⟨S1x8, .i32⟩
  | .hbm, ⟨27, _⟩ => ⟨S64x8, .i32⟩
  | .hbm, ⟨28, _⟩ => ⟨S64x8, .i32⟩
  | .hbm, ⟨29, _⟩ => ⟨S64x8, .i32⟩
  | .hbm, ⟨30, _⟩ => ⟨S64x1, .i32⟩
  | .hbm, ⟨31, _⟩ => ⟨S64, .i32⟩
  | .hbm, ⟨32, _⟩ => ⟨S64, .i32⟩
  | .hbm, ⟨33, _⟩ => ⟨S_, .i32⟩
  | .hbm, ⟨34, _⟩ => ⟨S64, .i32⟩
  | .hbm, ⟨35, _⟩ => ⟨S64, .i32⟩
  | .hbm, ⟨36, _⟩ => ⟨S_, .i32⟩
  | .hbm, ⟨37, _⟩ => ⟨S64, .i32⟩
  | .hbm, ⟨38, _⟩ => ⟨S64, .i1⟩
  | .hbm, ⟨39, _⟩ => ⟨S_, .i32⟩
  | .hbm, ⟨40, _⟩ => ⟨S64, .i32⟩
  | .hbm, ⟨41, _⟩ => ⟨S64, .i32⟩
  | .hbm, ⟨42, _⟩ => ⟨S64, .i32⟩
  | .hbm, ⟨43, _⟩ => ⟨S64x1, .i32⟩
  | .hbm, ⟨44, _⟩ => ⟨S8x64x64x512, .f32⟩
  | .hbm, ⟨45, _⟩ => ⟨S_, .f32⟩
  | .hbm, ⟨46, _⟩ => ⟨S8x4096x64, .f32⟩
  | .hbm, ⟨47, _⟩ => ⟨S8x4096x64, .f32⟩
  | .hbm, ⟨48, _⟩ => ⟨S8x64x64x64, .f32⟩
  | .hbm, ⟨49, _⟩ => ⟨S8x64x64x64, .f32⟩
  | .hbm, ⟨50, _⟩ => ⟨S_, .i32⟩
  | .hbm, ⟨51, _⟩ => ⟨S64x8, .i32⟩
  | .hbm, ⟨52, _⟩ => ⟨S64x8, .i1⟩
  | .hbm, ⟨53, _⟩ => ⟨S_, .i32⟩
  | .hbm, ⟨54, _⟩ => ⟨S64x8, .i32⟩
  | .hbm, ⟨55, _⟩ => ⟨S64x8, .i32⟩
  | .hbm, ⟨56, _⟩ => ⟨S64x8, .i32⟩
  | .hbm, ⟨57, _⟩ => ⟨S64x8x1, .i32⟩
  | .hbm, ⟨58, _⟩ => ⟨S8x64x8x64x64, .f32⟩
  | .hbm, ⟨59, _⟩ => ⟨S8x64x512x64, .f32⟩
  | .hbm, ⟨60, _⟩ => ⟨S8x64x64x64, .f32⟩
  | .hbm, ⟨61, _⟩ => ⟨S_, .i32⟩
  | .hbm, ⟨62, _⟩ => ⟨S64x8, .i32⟩
  | .hbm, ⟨63, _⟩ => ⟨S64x8, .i1⟩
  | .hbm, ⟨64, _⟩ => ⟨S_, .i32⟩
  | .hbm, ⟨65, _⟩ => ⟨S64x8, .i32⟩
  | .hbm, ⟨66, _⟩ => ⟨S64x8, .i32⟩
  | .hbm, ⟨67, _⟩ => ⟨S64x8, .i32⟩
  | .hbm, ⟨68, _⟩ => ⟨S64x8x1, .i32⟩
  | .hbm, ⟨69, _⟩ => ⟨S8x64x8x64x64, .f32⟩
  | .hbm, ⟨70, _⟩ => ⟨S8x64x512x64, .f32⟩
  | .hbm, ⟨71, _⟩ => ⟨S8x64x64x512, .f32⟩
  | .hbm, ⟨72, _⟩ => ⟨S8x64x64x512, .f32⟩
  | .hbm, ⟨73, _⟩ => ⟨S_, .f32⟩
  | .hbm, ⟨74, _⟩ => ⟨S8x64x64, .f32⟩
  | .hbm, ⟨75, _⟩ => ⟨S_, .f32⟩
  | .hbm, ⟨76, _⟩ => ⟨S8x64x64, .f32⟩
  | .hbm, ⟨77, _⟩ => ⟨S8x64x64, .f32⟩
  | .hbm, ⟨78, _⟩ => ⟨S8x64x64x1, .f32⟩
  | .hbm, ⟨79, _⟩ => ⟨S8x64x64x512, .f32⟩
  | .hbm, ⟨80, _⟩ => ⟨S8x64x64x512, .f32⟩
  | .hbm, ⟨81, _⟩ => ⟨S8x64x64x512, .f32⟩
  | .hbm, ⟨82, _⟩ => ⟨S_, .f32⟩
  | .hbm, ⟨83, _⟩ => ⟨S8x64x64, .f32⟩
  | .hbm, ⟨84, _⟩ => ⟨S8x64x64x1, .f32⟩
  | .hbm, ⟨85, _⟩ => ⟨S8x64x64x512, .f32⟩
  | .hbm, ⟨86, _⟩ => ⟨S8x64x64x512, .f32⟩
  | .hbm, ⟨87, _⟩ => ⟨S8x64x64x64, .f32⟩
  | .hbm, ⟨88, _⟩ => ⟨S8x4096x64, .f32⟩
  | .hbm, ⟨89, _⟩ => ⟨S4096x8x64, .f32⟩
  | .hbm, ⟨90, _⟩ => ⟨S4096x512, .f32⟩
  | .hbm, ⟨91, _⟩ => ⟨S4096x512, .bf16⟩
  | _, _ => ⟨S4096x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_c : Ref sig .tc := ⟨.hbm, 13, rfl⟩
abbrev main_v11 : Ref sig .tc := ⟨.hbm, 14, rfl⟩
abbrev main_v12 : Ref sig .tc := ⟨.hbm, 15, rfl⟩
abbrev main_c_0 : Ref sig .tc := ⟨.hbm, 16, rfl⟩
abbrev main_c_1 : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_c_2 : Ref sig .tc := ⟨.hbm, 33, rfl⟩
abbrev main_v23 : Ref sig .tc := ⟨.hbm, 34, rfl⟩
abbrev main_v24 : Ref sig .tc := ⟨.hbm, 35, rfl⟩
abbrev main_c_3 : Ref sig .tc := ⟨.hbm, 36, rfl⟩
abbrev main_v25 : Ref sig .tc := ⟨.hbm, 37, rfl⟩
abbrev main_v26 : Ref sig .tc := ⟨.hbm, 38, rfl⟩
abbrev main_c_4 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_c_5 : Ref sig .tc := ⟨.hbm, 50, rfl⟩
abbrev main_v36 : Ref sig .tc := ⟨.hbm, 51, rfl⟩
abbrev main_v37 : Ref sig .tc := ⟨.hbm, 52, rfl⟩
abbrev main_c_6 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_c_7 : Ref sig .tc := ⟨.hbm, 61, rfl⟩
abbrev main_v45 : Ref sig .tc := ⟨.hbm, 62, rfl⟩
abbrev main_v46 : Ref sig .tc := ⟨.hbm, 63, rfl⟩
abbrev main_c_8 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_cst_9 : Ref sig .tc := ⟨.hbm, 73, rfl⟩
abbrev main_v55 : Ref sig .tc := ⟨.hbm, 74, rfl⟩
abbrev main_cst_10 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_cst_11 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩

abbrev nD : Nat := 1
abbrev τ : Topo := Topo.v7x

variable {F : FTy → Type} [FloatOps F]
-- ==== Kernel33.lean ====
abbrev S4096x256 : Shape := ⟨2, ![4096, 256]⟩
abbrev S2x1x4096x128 : Shape := ⟨4, ![2, 1, 4096, 128]⟩
abbrev S2x4x1024x128 : Shape := ⟨4, ![2, 4, 1024, 128]⟩
abbrev S2x16x256x128 : Shape := ⟨4, ![2, 16, 256, 128]⟩
abbrev S512x256 : Shape := ⟨2, ![512, 256]⟩
abbrev S2x1x512x128 : Shape := ⟨4, ![2, 1, 512, 128]⟩
abbrev S2x4x128x128 : Shape := ⟨4, ![2, 4, 128, 128]⟩
abbrev S2x16x32x128 : Shape := ⟨4, ![2, 16, 32, 128]⟩
abbrev S512x128 : Shape := ⟨2, ![512, 128]⟩
abbrev S512 : Shape := ⟨1, ![512]⟩
abbrev S512x1 : Shape := ⟨2, ![512, 1]⟩
abbrev S1x1x512x128 : Shape := ⟨4, ![1, 1, 512, 128]⟩
abbrev S128x128 : Shape := ⟨2, ![128, 128]⟩
abbrev S1x1x128x128 : Shape := ⟨4, ![1, 1, 128, 128]⟩
abbrev S32x128 : Shape := ⟨2, ![32, 128]⟩
abbrev S1x1x32x128 : Shape := ⟨4, ![1, 1, 32, 128]⟩

abbrev nBuf : Space → Nat
  | .hbm => 13
  | .vmem => 27
  | .smem => 0
  | _ => 0

abbrev bufTy : (tb : Table) → Fin (tcTables nBuf tb) → BufTy
  | .hbm, ⟨0, _⟩ => ⟨S4096x256, .f32⟩
  | .hbm, ⟨1, _⟩ => ⟨S4096x256, .f32⟩
  | .hbm, ⟨2, _⟩ => ⟨S4096x256, .f32⟩
  | .hbm, ⟨3, _⟩ => ⟨S4096x256, .f32⟩
  | .hbm, ⟨4, _⟩ => ⟨S4096x256, .f32⟩
  | .hbm, ⟨5, _⟩ => ⟨S4096x256, .f32⟩
  | .hbm, ⟨6, _⟩ => ⟨S4096x256, .f32⟩
  | .hbm, ⟨7, _⟩ => ⟨S2x1x4096x128, .bf16⟩
  | .hbm, ⟨8, _⟩ => ⟨S2x4x1024x128, .bf16⟩
  | .hbm, ⟨9, _⟩ => ⟨S2x16x256x128, .bf16⟩
  | .hbm, ⟨10, _⟩ => ⟨S2x1x4096x128, .f32⟩
  | .hbm, ⟨11, _⟩ => ⟨S2x4x1024x128, .f32⟩
  | .hbm, ⟨12, _⟩ => ⟨S2x16x256x128, .f32⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S512x256, .f32⟩
  | .local _ .vmem, ⟨7, _⟩ => ⟨S512x256, .f32⟩
  | .local _ .vmem, ⟨8, _⟩ => ⟨S512x256, .f32⟩
  | .local _ .vmem, ⟨9, _⟩ => ⟨S512x256, .f32⟩
  | .local _ .vmem, ⟨10, _⟩ => ⟨S512x256, .f32⟩
  | .local _ .vmem, ⟨11, _⟩ => ⟨S512x256, .f32⟩
  | .local _ .vmem, ⟨12, _⟩ => ⟨S512x256, .f32⟩
  | .local _ .vmem, ⟨13, _⟩ => ⟨S512x256, .f32⟩
  | .local _ .vmem, ⟨14, _⟩ => ⟨S2x1x512x128, .bf16⟩
  | .local _ .vmem, ⟨15, _⟩ => ⟨S2x1x512x128, .bf16⟩
  | .local _ .vmem, ⟨16, _⟩ => ⟨S2x4x128x128, .bf16⟩
  | .local _ .vmem, ⟨17, _⟩ => ⟨S2x4x128x128, .bf16⟩
  | .local _ .vmem, ⟨18, _⟩ => ⟨S2x16x32x128, .bf16⟩
  | .local _ .vmem, ⟨19, _⟩ => ⟨S2x16x32x128, .bf16⟩
  | .local _ .vmem, ⟨20, _⟩ => ⟨S2x1x512x128, .f32⟩
  | .local _ .vmem, ⟨21, _⟩ => ⟨S2x1x512x128, .f32⟩
  | .local _ .vmem, ⟨22, _⟩ => ⟨S2x4x128x128, .f32⟩
  | .local _ .vmem, ⟨23, _⟩ => ⟨S2x4x128x128, .f32⟩
  | .local _ .vmem, ⟨24, _⟩ => ⟨S2x16x32x128, .f32⟩
  | .local _ .vmem, ⟨25, _⟩ => ⟨S2x16x32x128, .f32⟩
  | .local _ .vmem, ⟨26, _⟩ => ⟨S512x128, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v0_4 : Ref sig .tc := ⟨.hbm, 11, rfl⟩
abbrev main_v0_5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_scratch0 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_8 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_9 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_10 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_11 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_12 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2x1x512x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2x4x128x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2x16x32x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2x1x512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S2x4x128x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S2x16x32x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference33Ideal.lean ====
abbrev S4096x256 : Shape := ⟨2, ![4096, 256]⟩
abbrev S4096x4x64 : Shape := ⟨3, ![4096, 4, 64]⟩
abbrev S_ : Shape := ⟨0, ![]⟩
abbrev S4096x4 : Shape := ⟨2, ![4096, 4]⟩
abbrev S4096x4x1 : Shape := ⟨3, ![4096, 4, 1]⟩
abbrev S4096x1x2x128 : Shape := ⟨4, ![4096, 1, 2, 128]⟩
abbrev S2x1x4096x128 : Shape := ⟨4, ![2, 1, 4096, 128]⟩
abbrev S1024x4x2x128 : Shape := ⟨4, ![1024, 4, 2, 128]⟩
abbrev S2x4x1024x128 : Shape := ⟨4, ![2, 4, 1024, 128]⟩
abbrev S256x16x2x128 : Shape := ⟨4, ![256, 16, 2, 128]⟩
abbrev S2x16x256x128 : Shape := ⟨4, ![2, 16, 256, 128]⟩

abbrev nBuf : Space → Nat
  | .hbm => 69
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4096x256, .f32⟩
  | .hbm, ⟨2, _⟩ => ⟨S4096x256, .f32⟩
  | .hbm, ⟨3, _⟩ => ⟨S4096x256, .f32⟩
  | .hbm, ⟨4, _⟩ => ⟨S4096x256, .f32⟩
  | .hbm, ⟨5, _⟩ => ⟨S4096x256, .f32⟩
  | .hbm, ⟨6, _⟩ => ⟨S4096x256, .f32⟩
  | .hbm, ⟨7, _⟩ => ⟨S4096x4x64, .f32⟩
  | .hbm, ⟨8, _⟩ => ⟨S4096x4x64, .f32⟩
  | .hbm, ⟨9, _⟩ => ⟨S4096x4x64, .f32⟩
  | .hbm, ⟨10, _⟩ => ⟨S4096x4x64, .f32⟩
  | .hbm, ⟨11, _⟩ => ⟨S4096x4x64, .f32⟩
  | .hbm, ⟨12, _⟩ => ⟨S4096x4x64, .f32⟩
  | .hbm, ⟨13, _⟩ => ⟨S_, .f32⟩
  | .hbm, ⟨14, _⟩ => ⟨S4096x4, .f32⟩
  | .hbm, ⟨15, _⟩ => ⟨S4096x4x1, .f32⟩
  | .hbm, ⟨16, _⟩ => ⟨S4096x4x64, .f32⟩
  | .hbm, ⟨17, _⟩ => ⟨S4096x4x64, .f32⟩
  | .hbm, ⟨18, _⟩ => ⟨S4096x4x64, .f32⟩
  | .hbm, ⟨19, _⟩ => ⟨S_, .f32⟩
  | .hbm, ⟨20, _⟩ => ⟨S4096x4, .f32⟩
  | .hbm, ⟨21, _⟩ => ⟨S4096x4x1, .f32⟩
  | .hbm, ⟨22, _⟩ => ⟨S4096x4x64, .f32⟩
  | .hbm, ⟨23, _⟩ => ⟨S4096x4x64, .f32⟩
  | .hbm, ⟨24, _⟩ => ⟨S4096x4x64, .f32⟩
  | .hbm, ⟨25, _⟩ => ⟨S_, .f32⟩
  | .hbm, ⟨26, _⟩ => ⟨S4096x4, .f32⟩
  | .hbm, ⟨27, _⟩ => ⟨S4096x4x1, .f32⟩
  | .hbm, ⟨28, _⟩ => ⟨S4096x4x64, .f32⟩
  | .hbm, ⟨29, _⟩ => ⟨S4096x4x64, .f32⟩
  | .hbm, ⟨30, _⟩ => ⟨S_, .f32⟩
  | .hbm, ⟨31, _⟩ => ⟨S4096x4x64, .f32⟩
  | .hbm, ⟨32, _⟩ => ⟨S4096x4x64, .f32⟩
  | .hbm, ⟨33, _⟩ => ⟨S4096x4x64, .f32⟩
  | .hbm, ⟨34, _⟩ => ⟨S4096x4x64, .f32⟩
  | .hbm, ⟨35, _⟩ => ⟨S4096x4x64, .f32⟩
  | .hbm, ⟨36, _⟩ => ⟨S4096x4x64, .f32⟩
  | .hbm, ⟨37, _⟩ => ⟨S4096x4x64, .f32⟩
  | .hbm, ⟨38, _⟩ => ⟨S4096x4x64, .f32⟩
  | .hbm, ⟨39, _⟩ => ⟨S4096x4x64, .f32⟩
  | .hbm, ⟨40, _⟩ => ⟨S4096x4x64, .f32⟩
  | .hbm, ⟨41, _⟩ => ⟨S4096x4x64, .bf16⟩
  | .hbm, ⟨42, _⟩ => ⟨S4096x1x2x128, .bf16⟩
  | .hbm, ⟨43, _⟩ => ⟨S2x1x4096x128, .bf16⟩
  | .hbm, ⟨44, _⟩ => ⟨S4096x4x64, .f32⟩
  | .hbm, ⟨45, _⟩ => ⟨S4096x4x64, .f32⟩
  | .hbm, ⟨46, _⟩ => ⟨S4096x4x64, .bf16⟩
  | .hbm, ⟨47, _⟩ => ⟨S1024x4x2x128, .bf16⟩
  | .hbm, ⟨48, _⟩ => ⟨S2x4x1024x128, .bf16⟩
  | .hbm, ⟨49, _⟩ => ⟨S4096x4x64, .f32⟩
  | .hbm, ⟨50, _⟩ => ⟨S4096x4x64, .f32⟩
  | .hbm, ⟨51, _⟩ => ⟨S4096x4x64, .bf16⟩
  | .hbm, ⟨52, _⟩ => ⟨S256x16x2x128, .bf16⟩
  | .hbm, ⟨53, _⟩ => ⟨S2x16x256x128, .bf16⟩
  | .hbm, ⟨54, _⟩ => ⟨S4096x4x64, .f32⟩
  | .hbm, ⟨55, _⟩ => ⟨S4096x4x64, .f32⟩
  | .hbm, ⟨56, _⟩ => ⟨S4096x4x64, .f32⟩
  | .hbm, ⟨57, _⟩ => ⟨S4096x1x2x128, .f32⟩
  | .hbm, ⟨58, _⟩ => ⟨S2x1x4096x128, .f32⟩
  | .hbm, ⟨59, _⟩ => ⟨S4096x4x64, .f32⟩
  | .hbm, ⟨60, _⟩ => ⟨S4096x4x64, .f32⟩
  | .hbm, ⟨61, _⟩ => ⟨S4096x4x64, .f32⟩
  | .hbm, ⟨62, _⟩ => ⟨S1024x4x2x128, .f32⟩
  | .hbm, ⟨63, _⟩ => ⟨S2x4x1024x128, .f32⟩
  | .hbm, ⟨64, _⟩ => ⟨S4096x4x64, .f32⟩
  | .hbm, ⟨65, _⟩ => ⟨S4096x4x64, .f32⟩
  | .hbm, ⟨66, _⟩ => ⟨S4096x4x64, .f32⟩
  | .hbm, ⟨67, _⟩ => ⟨S256x16x2x128, .f32⟩
  | .hbm, ⟨68, _⟩ => ⟨S2x16x256x128, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_1 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_2 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩

abbrev nD : Nat := 1
abbrev τ : Topo := Topo.v7x

variable {F : FTy → Type} [FloatOps F]
-- ==== Kernel34.lean ====
abbrev S4096x512 : Shape := ⟨2, ![4096, 512]⟩
abbrev S2x1x4096x128 : Shape := ⟨4, ![2, 1, 4096, 128]⟩
abbrev S2x4x1024x128 : Shape := ⟨4, ![2, 4, 1024, 128]⟩
abbrev S2x16x256x128 : Shape := ⟨4, ![2, 16, 256, 128]⟩
abbrev S4096 : Shape := ⟨1, ![4096]⟩
abbrev S32 : Shape := ⟨1, ![32]⟩
abbrev S_ : Shape := ⟨0, ![]⟩
abbrev S4096x1 : Shape := ⟨2, ![4096, 1]⟩
abbrev S1x32 : Shape := ⟨2, ![1, 32]⟩
abbrev S4096x32 : Shape := ⟨2, ![4096, 32]⟩
abbrev S4096x64 : Shape := ⟨2, ![4096, 64]⟩
abbrev S1x4096x1x64 : Shape := ⟨4, ![1, 4096, 1, 64]⟩
abbrev S1x4096x2x64 : Shape := ⟨4, ![1, 4096, 2, 64]⟩
abbrev S4096x128 : Shape := ⟨2, ![4096, 128]⟩
abbrev S4096x3840 : Shape := ⟨2, ![4096, 3840]⟩
abbrev S512x512 : Shape := ⟨2, ![512, 512]⟩
abbrev S2x1x512x128 : Shape := ⟨4, ![2, 1, 512, 128]⟩
abbrev S2x4x128x128 : Shape := ⟨4, ![2, 4, 128, 128]⟩
abbrev S2x16x32x128 : Shape := ⟨4, ![2, 16, 32, 128]⟩
abbrev S512x128 : Shape := ⟨2, ![512, 128]⟩
abbrev S512x3840 : Shape := ⟨2, ![512, 3840]⟩
abbrev S1x1x512x128 : Shape := ⟨4, ![1, 1, 512, 128]⟩
abbrev S1x1x128x128 : Shape := ⟨4, ![1, 1, 128, 128]⟩
abbrev S128x128 : Shape := ⟨2, ![128, 128]⟩
abbrev S1x1x32x128 : Shape := ⟨4, ![1, 1, 32, 128]⟩
abbrev S32x128 : Shape := ⟨2, ![32, 128]⟩

abbrev nBuf : Space → Nat
  | .hbm => 39
  | .vmem => 31
  | .smem => 0
  | _ => 0

abbrev bufTy : (tb : Table) → Fin (tcTables nBuf tb) → BufTy
  | .hbm, ⟨0, _⟩ => ⟨S4096x512, .bf16⟩
  | .hbm, ⟨1, _⟩ => ⟨S4096x512, .bf16⟩
  | .hbm, ⟨2, _⟩ => ⟨S4096x512, .bf16⟩
  | .hbm, ⟨3, _⟩ => ⟨S2x1x4096x128, .f32⟩
  | .hbm, ⟨4, _⟩ => ⟨S2x1x4096x128, .f32⟩
  | .hbm, ⟨5, _⟩ => ⟨S2x1x4096x128, .f32⟩
  | .hbm, ⟨6, _⟩ => ⟨S2x4x1024x128, .f32⟩
  | .hbm, ⟨7, _⟩ => ⟨S2x4x1024x128, .f32⟩
  | .hbm, ⟨8, _⟩ => ⟨S2x4x1024x128, .f32⟩
  | .hbm, ⟨9, _⟩ => ⟨S2x16x256x128, .f32⟩
  | .hbm, ⟨10, _⟩ => ⟨S2x16x256x128, .f32⟩
  | .hbm, ⟨11, _⟩ => ⟨S2x16x256x128, .f32⟩
  | .hbm, ⟨12, _⟩ => ⟨S4096, .i32⟩
  | .hbm, ⟨13, _⟩ => ⟨S32, .f32⟩
  | .hbm, ⟨14, _⟩ => ⟨S32, .f32⟩
  | .hbm, ⟨15, _⟩ => ⟨S_, .f32⟩
  | .hbm, ⟨16, _⟩ => ⟨S32, .f32⟩
  | .hbm, ⟨17, _⟩ => ⟨S32, .f32⟩
  | .hbm, ⟨18, _⟩ => ⟨S_, .f32⟩
  | .hbm, ⟨19, _⟩ => ⟨S32, .f32⟩
  | .hbm, ⟨20, _⟩ => ⟨S32, .f32⟩
  | .hbm, ⟨21, _⟩ => ⟨S4096, .f32⟩
  | .hbm, ⟨22, _⟩ => ⟨S4096x1, .f32⟩
  | .hbm, ⟨23, _⟩ => ⟨S1x32, .f32⟩
  | .hbm, ⟨24, _⟩ => ⟨S4096x32, .f32⟩
  | .hbm, ⟨25, _⟩ => ⟨S4096x32, .f32⟩
  | .hbm, ⟨26, _⟩ => ⟨S4096x32, .f32⟩
  | .hbm, ⟨27, _⟩ => ⟨S4096x32, .f32⟩
  | .hbm, ⟨28, _⟩ => ⟨S4096x32, .f32⟩
  | .hbm, ⟨29, _⟩ => ⟨S4096x64, .f32⟩
  | .hbm, ⟨30, _⟩ => ⟨S1x4096x1x64, .f32⟩
  | .hbm, ⟨31, _⟩ => ⟨S1x4096x2x64, .f32⟩
  | .hbm, ⟨32, _⟩ => ⟨S4096x128, .f32⟩
  | .hbm, ⟨33, _⟩ => ⟨S4096x32, .f32⟩
  | .hbm, ⟨34, _⟩ => ⟨S4096x64, .f32⟩
  | .hbm, ⟨35, _⟩ => ⟨S1x4096x1x64, .f32⟩
  | .hbm, ⟨36, _⟩ => ⟨S1x4096x2x64, .f32⟩
  | .hbm, ⟨37, _⟩ => ⟨S4096x128, .f32⟩
  | .hbm, ⟨38, _⟩ => ⟨S4096x3840, .bf16⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S2x1x512x128, .f32⟩
  | .local _ .vmem, ⟨7, _⟩ => ⟨S2x1x512x128, .f32⟩
  | .local _ .vmem, ⟨8, _⟩ => ⟨S2x1x512x128, .f32⟩
  | .local _ .vmem, ⟨9, _⟩ => ⟨S2x1x512x128, .f32⟩
  | .local _ .vmem, ⟨10, _⟩ => ⟨S2x1x512x128, .f32⟩
  | .local _ .vmem, ⟨11, _⟩ => ⟨S2x1x512x128, .f32⟩
  | .local _ .vmem, ⟨12, _⟩ => ⟨S2x4x128x128, .f32⟩
  | .local _ .vmem, ⟨13, _⟩ => ⟨S2x4x128x128, .f32⟩
  | .local _ .vmem, ⟨14, _⟩ => ⟨S2x4x128x128, .f32⟩
  | .local _ .vmem, ⟨15, _⟩ => ⟨S2x4x128x128, .f32⟩
  | .local _ .vmem, ⟨16, _⟩ => ⟨S2x4x128x128, .f32⟩
  | .local _ .vmem, ⟨17, _⟩ => ⟨S2x4x128x128, .f32⟩
  | .local _ .vmem, ⟨18, _⟩ => ⟨S2x16x32x128, .f32⟩
  | .local _ .vmem, ⟨19, _⟩ => ⟨S2x16x32x128, .f32⟩
  | .local _ .vmem, ⟨20, _⟩ => ⟨S2x16x32x128, .f32⟩
  | .local _ .vmem, ⟨21, _⟩ => ⟨S2x16x32x128, .f32⟩
  | .local _ .vmem, ⟨22, _⟩ => ⟨S2x16x32x128, .f32⟩
  | .local _ .vmem, ⟨23, _⟩ => ⟨S2x16x32x128, .f32⟩
  | .local _ .vmem, ⟨24, _⟩ => ⟨S512x128, .f32⟩
  | .local _ .vmem, ⟨25, _⟩ => ⟨S512x128, .f32⟩
  | .local _ .vmem, ⟨26, _⟩ => ⟨S512x128, .f32⟩
  | .local _ .vmem, ⟨27, _⟩ => ⟨S512x128, .f32⟩
  | .local _ .vmem, ⟨28, _⟩ => ⟨S512x3840, .bf16⟩
  | .local _ .vmem, ⟨29, _⟩ => ⟨S512x3840, .bf16⟩
  | .local _ .vmem, ⟨30, _⟩ => ⟨S512x128, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_cst : Ref sig .tc := ⟨.hbm, 15, rfl⟩
abbrev main_v2 : Ref sig .tc := ⟨.hbm, 16, rfl⟩
abbrev main_v3 : Ref sig .tc := ⟨.hbm, 17, rfl⟩
abbrev main_cst_0 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_scratch0 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_8 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_9 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_10 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_11 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x1x512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2x1x512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2x1x512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2x4x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2x4x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2x4x128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2x16x32x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2x16x32x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S2x16x32x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x3840 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== Reference34Ideal.lean ====
abbrev S4096x512 : Shape := ⟨2, ![4096, 512]⟩
abbrev S2x1x4096x128 : Shape := ⟨4, ![2, 1, 4096, 128]⟩
abbrev S2x4x1024x128 : Shape := ⟨4, ![2, 4, 1024, 128]⟩
abbrev S2x16x256x128 : Shape := ⟨4, ![2, 16, 256, 128]⟩
abbrev S4096 : Shape := ⟨1, ![4096]⟩
abbrev S32 : Shape := ⟨1, ![32]⟩
abbrev S_ : Shape := ⟨0, ![]⟩
abbrev S4096x1x1 : Shape := ⟨3, ![4096, 1, 1]⟩
abbrev S1x1x32 : Shape := ⟨3, ![1, 1, 32]⟩
abbrev S4096x1x32 : Shape := ⟨3, ![4096, 1, 32]⟩
abbrev S4096x1x2x128 : Shape := ⟨4, ![4096, 1, 2, 128]⟩
abbrev S4096x4x64 : Shape := ⟨3, ![4096, 4, 64]⟩
abbrev S1024x4x2x128 : Shape := ⟨4, ![1024, 4, 2, 128]⟩
abbrev S256x16x2x128 : Shape := ⟨4, ![256, 16, 2, 128]⟩
abbrev S4096x12x64 : Shape := ⟨3, ![4096, 12, 64]⟩
abbrev S4096x12x32 : Shape := ⟨3, ![4096, 12, 32]⟩
abbrev S4096x768 : Shape := ⟨2, ![4096, 768]⟩
abbrev S4096x3840 : Shape := ⟨2, ![4096, 3840]⟩

abbrev nBuf : Space → Nat
  | .hbm => 86
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S4096x512, .bf16⟩
  | .hbm, ⟨2, _⟩ => ⟨S4096x512, .bf16⟩
  | .hbm, ⟨3, _⟩ => ⟨S2x1x4096x128, .f32⟩
  | .hbm, ⟨4, _⟩ => ⟨S2x1x4096x128, .f32⟩
  | .hbm, ⟨5, _⟩ => ⟨S2x1x4096x128, .f32⟩
  | .hbm, ⟨6, _⟩ => ⟨S2x4x1024x128, .f32⟩
  | .hbm, ⟨7, _⟩ => ⟨S2x4x1024x128, .f32⟩
  | .hbm, ⟨8, _⟩ => ⟨S2x4x1024x128, .f32⟩
  | .hbm, ⟨9, _⟩ => ⟨S2x16x256x128, .f32⟩
  | .hbm, ⟨10, _⟩ => ⟨S2x16x256x128, .f32⟩
  | .hbm, ⟨11, _⟩ => ⟨S2x16x256x128, .f32⟩
  | .hbm, ⟨12, _⟩ => ⟨S4096, .i32⟩
  | .hbm, ⟨13, _⟩ => ⟨S32, .f32⟩
  | .hbm, ⟨14, _⟩ => ⟨S32, .f32⟩
  | .hbm, ⟨15, _⟩ => ⟨S_, .f32⟩
  | .hbm, ⟨16, _⟩ => ⟨S32, .f32⟩
  | .hbm, ⟨17, _⟩ => ⟨S32, .f32⟩
  | .hbm, ⟨18, _⟩ => ⟨S_, .f32⟩
  | .hbm, ⟨19, _⟩ => ⟨S32, .f32⟩
  | .hbm, ⟨20, _⟩ => ⟨S32, .f32⟩
  | .hbm, ⟨21, _⟩ => ⟨S4096, .f32⟩
  | .hbm, ⟨22, _⟩ => ⟨S4096x1x1, .f32⟩
  | .hbm, ⟨23, _⟩ => ⟨S1x1x32, .f32⟩
  | .hbm, ⟨24, _⟩ => ⟨S4096x1x32, .f32⟩
  | .hbm, ⟨25, _⟩ => ⟨S4096x1x32, .f32⟩
  | .hbm, ⟨26, _⟩ => ⟨S4096x1x32, .f32⟩
  | .hbm, ⟨27, _⟩ => ⟨S4096x1x32, .f32⟩
  | .hbm, ⟨28, _⟩ => ⟨S4096x1x32, .f32⟩
  | .hbm, ⟨29, _⟩ => ⟨S4096x1x2x128, .f32⟩
  | .hbm, ⟨30, _⟩ => ⟨S4096x4x64, .f32⟩
  | .hbm, ⟨31, _⟩ => ⟨S1024x4x2x128, .f32⟩
  | .hbm, ⟨32, _⟩ => ⟨S4096x4x64, .f32⟩
  | .hbm, ⟨33, _⟩ => ⟨S256x16x2x128, .f32⟩
  | .hbm, ⟨34, _⟩ => ⟨S4096x4x64, .f32⟩
  | .hbm, ⟨35, _⟩ => ⟨S4096x12x64, .f32⟩
  | .hbm, ⟨36, _⟩ => ⟨S4096x12x32, .f32⟩
  | .hbm, ⟨37, _⟩ => ⟨S4096x12x32, .f32⟩
  | .hbm, ⟨38, _⟩ => ⟨S4096x12x32, .f32⟩
  | .hbm, ⟨39, _⟩ => ⟨S4096x12x32, .f32⟩
  | .hbm, ⟨40, _⟩ => ⟨S4096x12x32, .f32⟩
  | .hbm, ⟨41, _⟩ => ⟨S4096x12x32, .f32⟩
  | .hbm, ⟨42, _⟩ => ⟨S4096x12x32, .f32⟩
  | .hbm, ⟨43, _⟩ => ⟨S4096x12x32, .f32⟩
  | .hbm, ⟨44, _⟩ => ⟨S4096x12x32, .f32⟩
  | .hbm, ⟨45, _⟩ => ⟨S4096x12x32, .f32⟩
  | .hbm, ⟨46, _⟩ => ⟨S4096x12x32, .f32⟩
  | .hbm, ⟨47, _⟩ => ⟨S4096x12x32, .f32⟩
  | .hbm, ⟨48, _⟩ => ⟨S4096x12x64, .f32⟩
  | .hbm, ⟨49, _⟩ => ⟨S_, .f32⟩
  | .hbm, ⟨50, _⟩ => ⟨S4096x12x64, .f32⟩
  | .hbm, ⟨51, _⟩ => ⟨S4096x12x64, .f32⟩
  | .hbm, ⟨52, _⟩ => ⟨S4096x1x2x128, .f32⟩
  | .hbm, ⟨53, _⟩ => ⟨S4096x4x64, .f32⟩
  | .hbm, ⟨54, _⟩ => ⟨S1024x4x2x128, .f32⟩
  | .hbm, ⟨55, _⟩ => ⟨S4096x4x64, .f32⟩
  | .hbm, ⟨56, _⟩ => ⟨S256x16x2x128, .f32⟩
  | .hbm, ⟨57, _⟩ => ⟨S4096x4x64, .f32⟩
  | .hbm, ⟨58, _⟩ => ⟨S4096x12x64, .f32⟩
  | .hbm, ⟨59, _⟩ => ⟨S4096x12x32, .f32⟩
  | .hbm, ⟨60, _⟩ => ⟨S4096x12x32, .f32⟩
  | .hbm, ⟨61, _⟩ => ⟨S4096x12x32, .f32⟩
  | .hbm, ⟨62, _⟩ => ⟨S4096x12x32, .f32⟩
  | .hbm, ⟨63, _⟩ => ⟨S4096x12x32, .f32⟩
  | .hbm, ⟨64, _⟩ => ⟨S4096x12x32, .f32⟩
  | .hbm, ⟨65, _⟩ => ⟨S4096x12x32, .f32⟩
  | .hbm, ⟨66, _⟩ => ⟨S4096x12x32, .f32⟩
  | .hbm, ⟨67, _⟩ => ⟨S4096x12x32, .f32⟩
  | .hbm, ⟨68, _⟩ => ⟨S4096x12x32, .f32⟩
  | .hbm, ⟨69, _⟩ => ⟨S4096x12x32, .f32⟩
  | .hbm, ⟨70, _⟩ => ⟨S4096x12x32, .f32⟩
  | .hbm, ⟨71, _⟩ => ⟨S4096x12x64, .f32⟩
  | .hbm, ⟨72, _⟩ => ⟨S4096x1x2x128, .f32⟩
  | .hbm, ⟨73, _⟩ => ⟨S4096x4x64, .f32⟩
  | .hbm, ⟨74, _⟩ => ⟨S1024x4x2x128, .f32⟩
  | .hbm, ⟨75, _⟩ => ⟨S4096x4x64, .f32⟩
  | .hbm, ⟨76, _⟩ => ⟨S256x16x2x128, .f32⟩
  | .hbm, ⟨77, _⟩ => ⟨S4096x4x64, .f32⟩
  | .hbm, ⟨78, _⟩ => ⟨S4096x12x64, .f32⟩
  | .hbm, ⟨79, _⟩ => ⟨S4096x768, .f32⟩
  | .hbm, ⟨80, _⟩ => ⟨S4096x768, .bf16⟩
  | .hbm, ⟨81, _⟩ => ⟨S4096x768, .f32⟩
  | .hbm, ⟨82, _⟩ => ⟨S4096x768, .bf16⟩
  | .hbm, ⟨83, _⟩ => ⟨S4096x768, .f32⟩
  | .hbm, ⟨84, _⟩ => ⟨S4096x768, .bf16⟩
  | .hbm, ⟨85, _⟩ => ⟨S4096x3840, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_cst : Ref sig .tc := ⟨.hbm, 15, rfl⟩
abbrev main_v2 : Ref sig .tc := ⟨.hbm, 16, rfl⟩
abbrev main_v3 : Ref sig .tc := ⟨.hbm, 17, rfl⟩
abbrev main_cst_0 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_1 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩

abbrev nD : Nat := 1
abbrev τ : Topo := Topo.v7x

variable {F : FTy → Type} [FloatOps F]
-- ==== Proof.Band.Block.lean ====
/-
  One block of the dilated-attention gradient, as the kernel's body computes it: 128 query rows of one residue of one
  pair of heads against the residue's 256 keys. The two heads of a pair share the 128 lanes, so the block stacks the
  query rows twice, each copy with the other head's lanes at zero. Stated over any float instance.
-/
module

public import proofs.«01_k».proof.Proof.Gen.KernelIdeal.Frame
public import Idealize.ShloMosaic.Lib.Pointwise
public import Idealize.ShloMosaic.Lib.Pipeline.ValueKit.Tiles

@[expose] public section

set_option maxRecDepth 16384

noncomputable section

namespace Cert.KernelIdeal.Band

open Idealize.ShloMosaic Idealize.ShloMosaic.TcCoe
open Cert.KernelIdeal.Gen

variable {F : FTy → Type} [FloatOps F] [Named F]

/-- The keys a query row may see: the query of row `a`, counted from `q0`, and key `b` are at most 64 apart. -/
def near (q0 k0 : BitVec 32) : IVec S128x256 1 :=
  cmpi .sle (absi (subi (addi (broadcast S128x256 q0) (iota .tc S128x256 32 [0] iota_S128x256_d0_w32))
    (addi (broadcast S128x256 k0) (iota .tc S128x256 32 [1] iota_S128x256_d1_w32)))) (broadcast S128x256 64#32)

/-- The lanes of a pair's first head. -/
def firstHead : IVec S128x128 1 := cmpi .slt (iota .tc S128x128 32 [1] iota_S128x128_d1_w32) (broadcast S128x128 64#32)

/-- 128 rows of a pair, stacked twice: the first copy keeps the first head's lanes, the second the second head's. -/
def stack (x : Vec F S1x1x128x128 .bf16) : FVec F S256x128 .bf16 :=
  concatenate S256x128 0
    [⟨S128x128, select firstHead (shapeCast S128x128 x shapeCasts_S1x1x128x128_S128x128) (broadcast S128x128 (Scalar.ofBits .bf16 0x0000#16))⟩,
     ⟨S128x128, select firstHead (broadcast S128x128 (Scalar.ofBits .bf16 0x0000#16)) (shapeCast S128x128 x shapeCasts_S1x1x128x128_S128x128)⟩]
    concatenates_S128x128_S128x128_S256x128_d0

/-- Stacked rows against all keys. -/
def against (a : FVec F S256x128 .bf16) (k : Vec F S1x1x256x128 .bf16) : FVec F S256x256 .f32 :=
  matmul dot_S256x128_S256x128_S256x256_1_1_0_0_n_n none a (shapeCast S256x128 k shapeCasts_S1x1x256x128_S256x128)
    (constant S256x256 .f32 0x00000000#32)

/-- A column repeated along its row. -/
def alongRow (x : FVec F S256 .f32) : FVec F S256x256 .f32 :=
  broadcastTo S256x256 (shapeCast S256x1 x shapeCasts_S256_S256x1) broadcasts_S256x1_S256x256

/-- The scores with the far keys at the mask constant. -/
def masked (w : IVec S128x256 1) (s : FVec F S256x256 .f32) : FVec F S256x256 .f32 :=
  select (concatenate S256x256 0 [⟨S128x256, w⟩, ⟨S128x256, w⟩] concatenates_S128x256_S128x256_S256x256_d0) s
    (broadcast S256x256 (Named.named κ "mask" 0xF149F2CA#32))

/-- The exponentials of the masked scores less their row's largest. -/
def expo (x : FVec F S256x256 .f32) : FVec F S256x256 .f32 :=
  exp (subf x (alongRow (multiReduction .maximumf [1] S256 x 0xFF800000#32 reduces_S256x256_S256 (.inl rfl) rfl)))

def rowSum (x : FVec F S256x256 .f32) : FVec F S256x256 .f32 :=
  alongRow (multiReduction .add [1] S256 x 0x00000000#32 reduces_S256x256_S256 (.inl rfl) rfl)

/-- The softmax weights. -/
def weights (w : IVec S128x256 1) (s : FVec F S256x256 .f32) : FVec F S256x256 .f32 :=
  divf (expo (masked w s)) (rowSum (expo (masked w s)))

/-- The log-denominators' cotangents of the two heads, stacked: lanes 0 and 64 of the rows. -/
def stackCol (x : Vec F S1x1x128x128 .f32) : FVec F S256x1 .f32 :=
  concatenate S256x1 0
    [⟨S128x1, extractStridedSlice S128x1 ![0, 0] (shapeCast S128x128 x shapeCasts_S1x1x128x128_S128x128) slices_S128x128_o0_0_S128x1⟩,
     ⟨S128x1, extractStridedSlice S128x1 ![0, 64] (shapeCast S128x128 x shapeCasts_S1x1x128x128_S128x128) slices_S128x128_o0_64_S128x1⟩]
    concatenates_S128x1_S128x1_S256x1_d0

/-- The scores' cotangents. -/
def scoreCot (p dp : FVec F S256x256 .f32) (dl : FVec F S256x1 .f32) : FVec F S256x256 .f32 :=
  mulf p (addf (subf dp (rowSum (mulf dp p))) (broadcastTo S256x256 dl broadcasts_S256x1_S256x256))

/-- A transposed product: the keys' side of a gradient. -/
def onKeys (p : FVec F S256x256 .f32) (a : FVec F S256x128 .bf16) : FVec F S256x128 .f32 :=
  matmul dot_S256x256_S256x128_S256x128_0_0_1_1_n_n none (truncf .bf16 p bitsLt_bf16_f32) a (constant S256x128 .f32 0x00000000#32)

/-- The queries' side of a gradient, the two heads still stacked. -/
def onQueries (p : FVec F S256x256 .f32) (k : Vec F S1x1x256x128 .bf16) : FVec F S256x128 .f32 :=
  matmul dot_S256x256_S256x128_S256x128_1_0_0_1_n_n none (truncf .bf16 p bitsLt_bf16_f32)
    (shapeCast S256x128 k shapeCasts_S1x1x256x128_S256x128) (constant S256x128 .f32 0x00000000#32)

/-- The stack undone: each head's lanes from its own copy. -/
def unstack (x : FVec F S256x128 .f32) : FVec F S1x1x128x128 .f32 :=
  shapeCast S1x1x128x128 (select firstHead (extractStridedSlice S128x128 ![0, 0] x slices_S256x128_o0_0_S128x128)
    (extractStridedSlice S128x128 ![128, 0] x slices_S256x128_o128_0_S128x128)) shapeCasts_S128x128_S1x1x128x128

/-- An accumulator with `x` added. -/
def plus (acc : Vec F S1x1x256x128 .f32) (x : FVec F S256x128 .f32) : FVec F S1x1x256x128 .f32 :=
  shapeCast S1x1x256x128 (addf (shapeCast S256x128 acc shapeCasts_S1x1x256x128_S256x128) x) shapeCasts_S256x128_S1x1x256x128

/-! ## The blocks of a tile -/

/-- The query rows of block `u` of residue `r`. -/
abbrev rowsRect (r : Fin 4) (u : Fin 2) : Rect S1x4x256x128 :=
  Rect.unit ![0, r.val, 128 * u.val, 0] S1x1x128x128.size (by
    have := r.isLt; have := u.isLt
    intro a; fin_cases a <;> simp [S1x4x256x128, S1x1x128x128] <;> omega)

/-- All rows of residue `r`. -/
abbrev keysRect (r : Fin 4) : Rect S1x4x256x128 :=
  Rect.unit ![0, r.val, 0, 0] S1x1x256x128.size (by
    have := r.isLt
    intro a; fin_cases a <;> simp [S1x4x256x128, S1x1x256x128] <;> omega)

variable (x0 x1 x2 x3 : Vec F S1x4x256x128 .bf16) (x4 : Vec F S1x4x256x128 .f32)

def qBlk (r : Fin 4) (u : Fin 2) : FVec F S256x128 .bf16 := stack (View.ld x0 (rowsRect r u))
def doBlk (r : Fin 4) (u : Fin 2) : FVec F S256x128 .bf16 := stack (View.ld x3 (rowsRect r u))

def pBlk (r : Fin 4) (u : Fin 2) : FVec F S256x256 .f32 :=
  weights (near (BitVec.ofNat 32 (128 * u.val)) 0#32) (against (qBlk x0 r u) (View.ld x1 (keysRect r)))

def dsBlk (r : Fin 4) (u : Fin 2) : FVec F S256x256 .f32 :=
  scoreCot (pBlk x0 x1 r u) (against (doBlk x3 r u) (View.ld x2 (keysRect r))) (stackCol (View.ld x4 (rowsRect r u)))

def dqBlk (r : Fin 4) (u : Fin 2) : FVec F S1x1x128x128 .f32 :=
  unstack (onQueries (dsBlk x0 x1 x2 x3 x4 r u) (View.ld x1 (keysRect r)))

def dkBlk (r : Fin 4) (u : Fin 2) : FVec F S256x128 .f32 := onKeys (dsBlk x0 x1 x2 x3 x4 r u) (qBlk x0 r u)
def dvBlk (r : Fin 4) (u : Fin 2) : FVec F S256x128 .f32 := onKeys (pBlk x0 x1 r u) (doBlk x3 r u)

/-- The zero a gradient of a key or a value starts from. -/
def zeroKeys : Vec F S1x1x256x128 .f32 := fun _ => Scalar.ofBits .f32 0x00000000#32

/-- The tile's gradient of the queries. -/
def dqTile : Vec F S1x4x256x128 .f32 := fun j =>
  dqBlk x0 x1 x2 x3 x4 (j 1) ⟨(j 2).val / 128, by have := (j 2).isLt; simp [S1x4x256x128] at this; omega⟩
    (ix4 0 0 ⟨(j 2).val % 128, Nat.mod_lt _ (by decide)⟩ (j 3))

/-- The tile's gradient of the keys: the two blocks' contributions added to zero. -/
def dkTile : Vec F S1x4x256x128 .f32 := fun j =>
  plus (plus zeroKeys (dkBlk x0 x1 x2 x3 x4 (j 1) 0)) (dkBlk x0 x1 x2 x3 x4 (j 1) 1) (ix4 0 0 (j 2) (j 3))

/-- The tile's gradient of the values. -/
def dvTile : Vec F S1x4x256x128 .f32 := fun j =>
  plus (plus zeroKeys (dvBlk x0 x1 x3 (j 1) 0)) (dvBlk x0 x1 x3 (j 1) 1) (ix4 0 0 (j 2) (j 3))

theorem dqTile_emb (r : Fin 4) (u : Fin 2) (x : (rowsRect r u).shape.Idx) :
    dqTile x0 x1 x2 x3 x4 ((rowsRect r u).emb x) = dqBlk x0 x1 x2 x3 x4 r u x := by
  have e0 : (x 0).val < 1 := (x 0).isLt
  have e1 : (x 1).val < 1 := (x 1).isLt
  have e2 : (x 2).val < 128 := (x 2).isLt
  have v1 : ((rowsRect r u).emb x 1).val = r.val + 1 * (x 1).val := rfl
  have v2 : ((rowsRect r u).emb x 2).val = 128 * u.val + 1 * (x 2).val := rfl
  have v3 : ((rowsRect r u).emb x 3).val = 0 + 1 * (x 3).val := rfl
  have h1 : (rowsRect r u).emb x 1 = r := Fin.ext (by omega)
  have h2 : ∀ h, (⟨((rowsRect r u).emb x 2).val / 128, h⟩ : Fin 2) = u := fun h => Fin.ext (by simp only [v2]; omega)
  unfold dqTile
  rw [h1, h2]
  refine congrArg _ (funext fun a => ?_)
  fin_cases a
  · exact Fin.ext (by show 0 = (x 0).val; omega)
  · exact Fin.ext (by show 0 = (x 1).val; omega)
  · exact Fin.ext (by show ((rowsRect r u).emb x 2).val % 128 = (x 2).val; omega)
  · exact Fin.ext (by show ((rowsRect r u).emb x 3).val = (x 3).val; omega)

/-- A stored block of the queries' gradient, wherever it holds an index, has the tile's entry. -/
theorem dqTile_at (r : Fin 4) (u : Fin 2) (w : (rowsRect r u).shape.Idx → Elt F .f32) (hw : w = dqBlk x0 x1 x2 x3 x4 r u) (y : S1x4x256x128.Idx) :
    View.RectAt y (rowsRect r u) w (dqTile x0 x1 x2 x3 x4 y) := by
  intro x hx
  rw [← hx, hw, dqTile_emb]

/-- An index of residue `r`'s rows, by its row and lane. -/
theorem keysRect_emb (r : Fin 4) (x : (keysRect r).shape.Idx) :
    (keysRect r).emb x 1 = r ∧ ix4 (n0 := 1) (n1 := 1) (n2 := 256) (n3 := 128) 0 0 ((keysRect r).emb x 2) ((keysRect r).emb x 3) = x := by
  have e0 : (x 0).val < 1 := (x 0).isLt
  have e1 : (x 1).val < 1 := (x 1).isLt
  have v1 : ((keysRect r).emb x 1).val = r.val + 1 * (x 1).val := rfl
  have v2 : ((keysRect r).emb x 2).val = 0 + 1 * (x 2).val := rfl
  have v3 : ((keysRect r).emb x 3).val = 0 + 1 * (x 3).val := rfl
  refine ⟨Fin.ext (by omega), funext fun a => ?_⟩
  fin_cases a
  · exact Fin.ext (by show 0 = (x 0).val; omega)
  · exact Fin.ext (by show 0 = (x 1).val; omega)
  · exact Fin.ext (by show ((keysRect r).emb x 2).val = (x 2).val; omega)
  · exact Fin.ext (by show ((keysRect r).emb x 3).val = (x 3).val; omega)

theorem dkTile_emb (r : Fin 4) (x : (keysRect r).shape.Idx) :
    dkTile x0 x1 x2 x3 x4 ((keysRect r).emb x)
      = plus (plus zeroKeys (dkBlk x0 x1 x2 x3 x4 r 0)) (dkBlk x0 x1 x2 x3 x4 r 1) x := by
  unfold dkTile
  rw [(keysRect_emb r x).1, (keysRect_emb r x).2]

theorem dvTile_emb (r : Fin 4) (x : (keysRect r).shape.Idx) :
    dvTile x0 x1 x3 ((keysRect r).emb x) = plus (plus zeroKeys (dvBlk x0 x1 x3 r 0)) (dvBlk x0 x1 x3 r 1) x := by
  unfold dvTile
  rw [(keysRect_emb r x).1, (keysRect_emb r x).2]

/-! ## Two accumulated blocks per residue, over a zeroed tile -/

/-- A tile of zeros. -/
def zeroTile : FVec F S1x4x256x128 .f32 :=
  shapeCast S1x4x256x128 (broadcast S4x256x128 (Scalar.ofBits .f32 0x00000000#32)) shapeCasts_S4x256x128_S1x4x256x128

/-- The whole tile. -/
abbrev wholeRect : Rect S1x4x256x128 := Rect.unit ![0, 0, 0, 0] S1x4x256x128.size inb_S1x4x256x128_S1x4x256x128_0_0_0_0

section Stores

variable {sp : Space} (v : View sig .tc sp S1x4x256x128 .f32) (L : List (View.Piece (Elt F) S1x4x256x128 .f32))

theorem keysRect_disjoint {r r' : Fin 4} (h : r ≠ r') : Disjoint (keysRect r').set (keysRect r).set := by
  refine Rect.unit_disjoint (1 : Fin 4) ?_
  have hv : r.val ≠ r'.val := fun e => h (Fin.ext e)
  show r'.val + 1 ≤ r.val ∨ r.val + 1 ≤ r'.val
  omega

theorem keysRect_out {r r' : Fin 4} (h : r ≠ r') (x : (keysRect r).shape.Idx) : (keysRect r).emb x ∉ (keysRect r').set := by
  rw [Rect.mem_set_unit]
  intro hall
  have e1 : (x 1).val < 1 := (x 1).isLt
  have v1 : ((keysRect r).emb x 1).val = r.val + 1 * (x 1).val := rfl
  have h1 : r'.val ≤ ((keysRect r).emb x 1).val ∧ ((keysRect r).emb x 1).val < r'.val + 1 := hall 1
  exact h (Fin.ext (by omega))

/-- The zeroed tile, read at a residue. -/
theorem read_fill (r : Fin 4) : v.readCov [⟨wholeRect, zeroTile⟩] (keysRect r).toLoadRect = zeroKeys (F := F) := by
  rw [View.readCov_eq_canon']
  funext j
  have hj : (keysRect r).toLoadRect.idx j = wholeRect.emb ((keysRect r).emb j) := by
    funext a
    apply Fin.ext
    have e : (wholeRect.emb ((keysRect r).emb j) a).val = (![0, 0, 0, 0] : Fin 4 → ℕ) a + 1 * ((keysRect r).emb j a).val := rfl
    rw [e]
    show ((keysRect r).emb j a).val = _
    fin_cases a <;> simp
  rw [hj, View.canon_cons_emb]
  rfl

/-- A store at another residue leaves a residue zero. -/
theorem read_skip {r r' : Fin 4} (h : r ≠ r') (w : (keysRect r').shape.Idx → Elt F .f32)
    (hL : v.readCov L (keysRect r).toLoadRect = zeroKeys (F := F)) :
    v.readCov (⟨keysRect r', w⟩ :: L) (keysRect r).toLoadRect = zeroKeys (F := F) :=
  (View.readCov_cons_of_disjoint v ⟨keysRect r', w⟩ L (keysRect r).toLoadRect (keysRect_disjoint h)).trans hL

/-- The second block's store, in terms of what the residue held before the first. -/
theorem store_two (r : Fin 4) (a b : FVec F S256x128 .f32) (hL : v.readCov L (keysRect r).toLoadRect = zeroKeys (F := F)) :
    plus (v.readCov (⟨keysRect r, plus (v.readCov L (keysRect r).toLoadRect) a⟩ :: L) (keysRect r).toLoadRect) b
      = plus (plus zeroKeys a) b := by
  rw [View.readCov_cons_toLoadRect, hL]

/-- The tile after two stores per residue, in the order the body makes them: at each index its residue's second store. -/
theorem tile_of_stores (a b : Fin 4 → (keysRect 0).shape.Idx → Elt F .f32) (t : Fin 4 → (keysRect 0).shape.Idx → Elt F .f32)
    (h : ∀ r, b r = t r) (f : v.ty.Contents (Elt F)) (Y : Vec F S1x4x256x128 .f32) (hY : ∀ r x, Y ((keysRect r).emb x) = t r x) :
    v.read (Elt F) (v.writes (Elt F) f
      [⟨keysRect 3, b 3⟩, ⟨keysRect 3, a 3⟩, ⟨keysRect 2, b 2⟩, ⟨keysRect 2, a 2⟩, ⟨keysRect 1, b 1⟩, ⟨keysRect 1, a 1⟩,
        ⟨keysRect 0, b 0⟩, ⟨keysRect 0, a 0⟩, ⟨wholeRect, zeroTile⟩]) = Y := by
  refine (View.read_writes_eq_canon _ _ _ (View.cover_of_wholeMem _ ?_)).trans (funext fun j => ?_)
  · iterate 8 apply View.Piece.wholeMem_cons
    exact View.Piece.wholeMem_here rfl
  · obtain ⟨r, x, hx⟩ : ∃ (r : Fin 4) (x : (keysRect r).shape.Idx), (keysRect r).emb x = j := by
      refine ⟨j 1, ix4 (n0 := 1) (n1 := 1) (n2 := 256) (n3 := 128) 0 0 (j 2) (j 3), funext fun a => Fin.ext ?_⟩
      have h0 : (j 0).val < 1 := (j 0).isLt
      fin_cases a
      · show 0 + 1 * 0 = (j 0).val; omega
      · show (j 1).val + 1 * 0 = (j 1).val; omega
      · show 0 + 1 * (j 2).val = (j 2).val; omega
      · show 0 + 1 * (j 3).val = (j 3).val; omega
    subst hx
    have out : ∀ r' : Fin 4, r ≠ r' → ∀ w L', View.canon ((⟨keysRect r', w⟩ : View.Piece (Elt F) S1x4x256x128 .f32) :: L') ((keysRect r).emb x) = View.canon L' ((keysRect r).emb x) := fun r' hr w L' =>
      View.canon_cons_of_not_mem _ _ (keysRect_out hr x)
    rw [hY, ← h]
    fin_cases r
    · rw [out 3 (by decide), out 3 (by decide), out 2 (by decide), out 2 (by decide), out 1 (by decide), out 1 (by decide)]
      exact View.canon_cons_emb _ _ _ _
    · rw [out 3 (by decide), out 3 (by decide), out 2 (by decide), out 2 (by decide)]
      exact View.canon_cons_emb _ _ _ _
    · rw [out 3 (by decide), out 3 (by decide)]
      exact View.canon_cons_emb _ _ _ _
    · exact View.canon_cons_emb _ _ _ _

/-- The same with the eight stored vectors given one by one. -/
theorem tile_of_eight (t : Fin 4 → (keysRect 0).shape.Idx → Elt F .f32) (f : v.ty.Contents (Elt F)) (Y : Vec F S1x4x256x128 .f32)
    (hY : ∀ r x, Y ((keysRect r).emb x) = t r x) (a0 a1 a2 a3 b0 b1 b2 b3 : (keysRect 0).shape.Idx → Elt F .f32)
    (h0 : b0 = t 0) (h1 : b1 = t 1) (h2 : b2 = t 2) (h3 : b3 = t 3) :
    v.read (Elt F) (v.writes (Elt F) f
      [⟨keysRect 3, b3⟩, ⟨keysRect 3, a3⟩, ⟨keysRect 2, b2⟩, ⟨keysRect 2, a2⟩, ⟨keysRect 1, b1⟩, ⟨keysRect 1, a1⟩,
        ⟨keysRect 0, b0⟩, ⟨keysRect 0, a0⟩, ⟨wholeRect, zeroTile⟩]) = Y :=
  tile_of_stores v ![a0, a1, a2, a3] ![b0, b1, b2, b3] t
    (fun r => by fin_cases r <;> first | exact h0 | exact h1 | exact h2 | exact h3) f Y hY

end Stores

end Cert.KernelIdeal.Band
-- ==== Proof.Band.Body.lean ====
module

public import proofs.«01_k».proof.Proof.Gen.KernelIdeal.Frame
public import proofs.«01_k».proof.Proof.Gen.KernelIdeal.Skeleton
public import proofs.«01_k».proof.Proof.Band.Block

@[expose] public section

set_option maxRecDepth 16384

noncomputable section

namespace Cert.KernelIdeal.Band

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 1456000 in
theorem run0 (c : Dev nD) (i : grid0.Coords) (arg1 : Memref sig .tc .vmem S1x4x256x128 .bf16) (harg1 : arg1.IsWhole) (arg2 : Memref sig .tc .vmem S1x4x256x128 .bf16) (harg2 : arg2.IsWhole) (arg3 : Memref sig .tc .vmem S1x4x256x128 .bf16) (harg3 : arg3.IsWhole) (arg4 : Memref sig .tc .vmem S1x4x256x128 .bf16) (harg4 : arg4.IsWhole) (arg5 : Memref sig .tc .vmem S1x4x256x128 .f32) (harg5 : arg5.IsWhole) (arg6 : Memref sig .tc .vmem S1x4x256x128 .f32) (harg6 : arg6.IsWhole) (arg7 : Memref sig .tc .vmem S1x4x256x128 .f32) (harg7 : arg7.IsWhole) (arg8 : Memref sig .tc .vmem S1x4x256x128 .f32) (harg8 : arg8.IsWhole)
    (x0 : Vec F S1x4x256x128 .bf16) (x1 : Vec F S1x4x256x128 .bf16) (x2 : Vec F S1x4x256x128 .bf16) (x3 : Vec F S1x4x256x128 .bf16) (x4 : Vec F S1x4x256x128 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (owns (c : Thread nD τ) arg6 fullShare (dqTile x0 x1 x2 x3 x4)) ∗ (owns (c : Thread nD τ) arg7 fullShare (dkTile x0 x1 x2 x3 x4)) ∗ (owns (c : Thread nD τ) arg8 fullShare (dvTile x0 x1 x3))) -∗ K ⟨⟩))
          ⊢ wp frame (wpE (defs₀ (F := F)) Variants.none c none) E (cc0_band_bwd_g2 i arg1 harg1 arg2 harg2 arg3 harg3 arg4 harg4 arg5 harg5 arg6 harg6 arg7 harg7 arg8 harg8) K := by
    intro E K
    simp only [cc0_band_bwd_g2_eq_skeleton]; unfold cc0_band_bwd_g2_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
    obtain rfl := harg1.eq_unread hf0; obtain rfl := harg2.eq_unread hf1; obtain rfl := harg3.eq_unread hf2; obtain rfl := harg4.eq_unread hf3; obtain rfl := harg5.eq_unread hf4
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; swap; · iexact H5
      ipureintro
      refine (View.read_writes_eq_canon _ _ _ (View.cover_of_tiled_head _ _ _ rfl)).trans (funext fun j => ?_)
      refine View.canon_eq_of_allAt _ _ _ (View.cover_of_tiled_head _ _ _ rfl j) ?_
      refine View.allAt_cons _ _ _ (dqTile_at x0 x1 x2 x3 x4 3 1 _ (by sl_unfold_words; simp only [View.readAt_eq_ld, hf0, hf1, hf2, hf3, hf4]; rfl) j) ?_
      refine View.allAt_cons _ _ _ (dqTile_at x0 x1 x2 x3 x4 3 0 _ (by sl_unfold_words; simp only [View.readAt_eq_ld, hf0, hf1, hf2, hf3, hf4]; rfl) j) ?_
      refine View.allAt_cons _ _ _ (dqTile_at x0 x1 x2 x3 x4 2 1 _ (by sl_unfold_words; simp only [View.readAt_eq_ld, hf0, hf1, hf2, hf3, hf4]; rfl) j) ?_
      refine View.allAt_cons _ _ _ (dqTile_at x0 x1 x2 x3 x4 2 0 _ (by sl_unfold_words; simp only [View.readAt_eq_ld, hf0, hf1, hf2, hf3, hf4]; rfl) j) ?_
      refine View.allAt_cons _ _ _ (dqTile_at x0 x1 x2 x3 x4 1 1 _ (by sl_unfold_words; simp only [View.readAt_eq_ld, hf0, hf1, hf2, hf3, hf4]; rfl) j) ?_
      refine View.allAt_cons _ _ _ (dqTile_at x0 x1 x2 x3 x4 1 0 _ (by sl_unfold_words; simp only [View.readAt_eq_ld, hf0, hf1, hf2, hf3, hf4]; rfl) j) ?_
      refine View.allAt_cons _ _ _ (dqTile_at x0 x1 x2 x3 x4 0 1 _ (by sl_unfold_words; simp only [View.readAt_eq_ld, hf0, hf1, hf2, hf3, hf4]; rfl) j) ?_
      refine View.allAt_cons _ _ _ (dqTile_at x0 x1 x2 x3 x4 0 0 _ (by sl_unfold_words; simp only [View.readAt_eq_ld, hf0, hf1, hf2, hf3, hf4]; rfl) j) ?_
      exact View.allAt_nil _ _
    isplitl [H6]
    · iexists _; isplitr; swap; · iexact H6
      ipureintro
      refine tile_of_eight arg7.view _ _ _ (fun r x => dkTile_emb x0 x1 x2 x3 x4 r x) _ _ _ _ _ _ _ _ ?_ ?_ ?_ ?_
      · sl_unfold_words
        simp only [View.readAt_eq_ld, hf0, hf1, hf2, hf3, hf4]
        exact store_two arg7.view _ 0 _ _ (read_fill arg7.view 0)
      · sl_unfold_words
        simp only [View.readAt_eq_ld, hf0, hf1, hf2, hf3, hf4]
        exact store_two arg7.view _ 1 _ _ (read_skip arg7.view _ (r := 1) (r' := 0) (by decide) _ (read_skip arg7.view _ (r := 1) (r' := 0) (by decide) _ (read_fill arg7.view 1)))
      · sl_unfold_words
        simp only [View.readAt_eq_ld, hf0, hf1, hf2, hf3, hf4]
        exact store_two arg7.view _ 2 _ _ (read_skip arg7.view _ (r := 2) (r' := 1) (by decide) _ (read_skip arg7.view _ (r := 2) (r' := 1) (by decide) _ (read_skip arg7.view _ (r := 2) (r' := 0) (by decide) _ (read_skip arg7.view _ (r := 2) (r' := 0) (by decide) _ (read_fill arg7.view 2)))))
      · sl_unfold_words
        simp only [View.readAt_eq_ld, hf0, hf1, hf2, hf3, hf4]
        exact store_two arg7.view _ 3 _ _ (read_skip arg7.view _ (r := 3) (r' := 2) (by decide) _ (read_skip arg7.view _ (r := 3) (r' := 2) (by decide) _ (read_skip arg7.view _ (r := 3) (r' := 1) (by decide) _ (read_skip arg7.view _ (r := 3) (r' := 1) (by decide) _ (read_skip arg7.view _ (r := 3) (r' := 0) (by decide) _ (read_skip arg7.view _ (r := 3) (r' := 0) (by decide) _ (read_fill arg7.view 3)))))))
    iexists _; isplitr; swap; · iexact H7
    ipureintro
    refine tile_of_eight arg8.view _ _ _ (fun r x => dvTile_emb x0 x1 x3 r x) _ _ _ _ _ _ _ _ ?_ ?_ ?_ ?_
    · sl_unfold_words
      simp only [View.readAt_eq_ld, hf0, hf1, hf2, hf3, hf4]
      exact store_two arg8.view _ 0 _ _ (read_fill arg8.view 0)
    · sl_unfold_words
      simp only [View.readAt_eq_ld, hf0, hf1, hf2, hf3, hf4]
      exact store_two arg8.view _ 1 _ _ (read_skip arg8.view _ (r := 1) (r' := 0) (by decide) _ (read_skip arg8.view _ (r := 1) (r' := 0) (by decide) _ (read_fill arg8.view 1)))
    · sl_unfold_words
      simp only [View.readAt_eq_ld, hf0, hf1, hf2, hf3, hf4]
      exact store_two arg8.view _ 2 _ _ (read_skip arg8.view _ (r := 2) (r' := 1) (by decide) _ (read_skip arg8.view _ (r := 2) (r' := 1) (by decide) _ (read_skip arg8.view _ (r := 2) (r' := 0) (by decide) _ (read_skip arg8.view _ (r := 2) (r' := 0) (by decide) _ (read_fill arg8.view 2)))))
    · sl_unfold_words
      simp only [View.readAt_eq_ld, hf0, hf1, hf2, hf3, hf4]
      exact store_two arg8.view _ 3 _ _ (read_skip arg8.view _ (r := 3) (r' := 2) (by decide) _ (read_skip arg8.view _ (r := 3) (r' := 2) (by decide) _ (read_skip arg8.view _ (r := 3) (r' := 1) (by decide) _ (read_skip arg8.view _ (r := 3) (r' := 1) (by decide) _ (read_skip arg8.view _ (r := 3) (r' := 0) (by decide) _ (read_skip arg8.view _ (r := 3) (r' := 0) (by decide) _ (read_fill arg8.view 3)))))))

end Cert.KernelIdeal.Band
-- ==== Proof.Band.Run.lean ====
module

public import proofs.«01_k».proof.Proof.Band.Body
public import Idealize.ShloMosaic.Lib.Claim

@[expose] public section

set_option maxRecDepth 16384

noncomputable section

/-! # The launch of the gradient of dilated banded attention

The pipeline's proof data (each output's staging buffer holds its tile after the body), the body obligation from the
body's triple `run0`, and the run of @main: it terminates, leaves every array at what the proof data computes, every
other buffer as the host lines leave it, and every semaphore counter at zero. -/

namespace Cert.KernelIdeal.Band

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The proof data on core `c`: arrays as the region finds them; after the body at point `t` the five inputs' buffers
    hold their blocks and the three outputs' the tiles of those blocks; nothing owed; full shares. -/
def dats (_ : Fin 1) (c : Dev nD) : Dat τ (Elt F) Unit ℕ (UR sig nD τ) ℕ cfg0 c where
  A w := V m c (Pipeline.arrRef spec0 w)
  after w t := match w with
    | 0 => iblk m c 0 t
    | 1 => iblk m c 1 t
    | 2 => iblk m c 2 t
    | 3 => iblk m c 3 t
    | 4 => iblk m c 4 t
    | 5 => dqTile (iblk m c 0 t) (iblk m c 1 t) (iblk m c 2 t) (iblk m c 3 t) (iblk m c 4 t)
    | 6 => dkTile (iblk m c 0 t) (iblk m c 1 t) (iblk m c 2 t) (iblk m c 3 t) (iblk m c 4 t)
    | 7 => dvTile (iblk m c 0 t) (iblk m c 1 t) (iblk m c 3 t)
    | ⟨_ + 8, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t
    = dqTile (iblk m c 0 t) (iblk m c 1 t) (iblk m c 2 t) (iblk m c 3 t) (iblk m c 4 t) := by dsimp only [dats]
theorem after_6 (c : Dev nD) (t : Fin cfg0.N) : (dats m 0 c).after 6 t
    = dkTile (iblk m c 0 t) (iblk m c 1 t) (iblk m c 2 t) (iblk m c 3 t) (iblk m c 4 t) := by dsimp only [dats]
theorem after_7 (c : Dev nD) (t : Fin cfg0.N) : (dats m 0 c).after 7 t
    = dvTile (iblk m c 0 t) (iblk m c 1 t) (iblk m c 3 t) := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at any point: its inputs' buffers hold their blocks, so `run0` applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (run0 c (grid0.coords t) _ _ _ _ _ _ _ _ _ _ _ _ _ _ _ _ (iblk m c 0 t) (iblk m c 1 t) (iblk m c 2 t) (iblk m c 3 t) (iblk m c 4 t) Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_row (t : Fin cfg0.N) :
    defs₀ (F := F) .tc cfg0.body (cfg0.bodyArgs t (cfg0.slots t)) = bodyAt0 t := by
  unfold defs₀; rw [Defs.onTc_tc]

theorem body_obligation (c : Dev nD) :
    BodyObligation (dats (F := F) m 0 c) (defs₀ (F := F)) Variants.none () Set.univ := fun t => by
  rw [bigSep_W0, bigSep_W0, body_row]
  exact triple_restated (sound_body m c t) rfl .rfl fun _ => .rfl

set_option backward.isDefEq.respectTransparency.types false in
set_option maxHeartbeats 800000 in
/-- Every run of @main ends, at the contents the proof data computes and with every semaphore counter at zero. -/
theorem run_main : θ_run defs (onTc (τ := τ) (main (F := F))) (s₀ m ρ) (fun r =>
    (Pipeline.FramePost cfgs (dats m) 0 (Pipeline.afterTail₀ cfgs (dats m) 0 (V0 m) [hostOps1])) r
      ∧ r.2.sem = fun _ => 0) :=
  Pipeline.θ_run_frame_around (Q' := _) cfgs (dats m) (0 : Fin 1) launch0 defs₀ Variants.none m ρ main
    (hbody := fun c => (body_obligation m c).loose)  (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- @main ends with its five arguments as they were and every semaphore counter at zero. -/
theorem frame : θ_run defs (onTc (τ := τ) (main (F := F))) ⟨m, fun _ => 0, ρ⟩ (fun r =>
    (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
    ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.KernelIdeal.Band

end
-- ==== Proof.Band.Spec.lean ====
/-
  The gradient of banded attention over the reals: one head, 256 positions of 64 lanes, a query seeing the keys at most
  64 positions away. `q` is the already scaled query; `a` the cotangent of the outputs, `l` that of the logarithms of the
  denominators.
-/
module

public import Mathlib.Analysis.SpecialFunctions.Exp
public import Mathlib.Data.EReal.Operations

@[expose] public section

noncomputable section

namespace Cert.Band

/-- Rows of one head. -/
abbrev Rows := Fin 256 → Fin 64 → ℝ

/-- Positions at most 64 apart. -/
abbrev Near (i j : ℕ) : Prop := i ≤ j + 64 ∧ j ≤ i + 64

/-- Rows against rows. -/
def dots (q k : Rows) (i j : Fin 256) : ℝ := ∑ d, q i d * k j d

/-- The unnormalized weights. -/
def raw (q k : Rows) (i j : Fin 256) : ℝ := if Near i j then Real.exp (dots q k i j) else 0

/-- Their sum over the keys, -/
def total (q k : Rows) (i : Fin 256) : ℝ := ∑ j, raw q k i j

/-- and the weights. -/
def weight (q k : Rows) (i j : Fin 256) : ℝ := raw q k i j / total q k i

/-- The cotangent of the scores. -/
def cot (q k v a : Rows) (l : Fin 256 → ℝ) (i j : Fin 256) : ℝ :=
  weight q k i j * (dots a v i j - ∑ m, dots a v i m * weight q k i m + l i)

/-- The gradient of the scaled queries, -/
def gradQ (q k v a : Rows) (l : Fin 256 → ℝ) (i : Fin 256) (d : Fin 64) : ℝ := ∑ j, cot q k v a l i j * k j d

/-- of the keys, -/
def gradK (q k v a : Rows) (l : Fin 256 → ℝ) (j : Fin 256) (d : Fin 64) : ℝ := ∑ i, cot q k v a l i j * q i d

/-- and of the values. -/
def gradV (q k a : Rows) (j : Fin 256) (d : Fin 64) : ℝ := ∑ i, weight q k i j * a i d

theorem raw_nonneg (q k : Rows) (i j : Fin 256) : 0 ≤ raw q k i j := by
  unfold raw; split
  · exact (Real.exp_pos _).le
  · exact le_rfl

/-- A query sees itself. -/
theorem total_pos (q k : Rows) (i : Fin 256) : 0 < total q k i := by
  refine lt_of_lt_of_le ?_ (Finset.single_le_sum (fun j _ => raw_nonneg q k i j) (Finset.mem_univ i))
  unfold raw
  rw [if_pos ⟨by omega, by omega⟩]
  exact Real.exp_pos _

/-- Subtracting a constant from the scores leaves the weights. -/
theorem weight_shift (q k : Rows) (m : ℝ) (i j : Fin 256) :
    (if Near i j then Real.exp (dots q k i j - m) else 0) / (∑ n : Fin 256, if Near i n then Real.exp (dots q k i n - m) else 0)
      = weight q k i j := by
  have h (n : Fin 256) : (if Near i n then Real.exp (dots q k i n - m) else 0) = Real.exp (-m) * raw q k i n := by
    unfold raw
    split
    · rw [← Real.exp_add]; congr 1; ring
    · rw [mul_zero]
  simp only [h]
  rw [← Finset.mul_sum, mul_div_mul_left _ _ (Real.exp_pos _).ne']
  rfl

end Cert.Band

end
-- ==== Proof.Band.Words.lean ====
/-
  The index words of the mask: comparisons of 32-bit words that hold small integers.
-/
module

public import Idealize.ShloMosaic.PureOps.Vector
public import Idealize.ShloMosaic.Lib.WordCmp
public import proofs.«01_k».proof.Proof.Band.Spec

@[expose] public section

namespace Cert.Band

open Idealize.ShloMosaic Idealize.ShloMosaic.WordCmp

/-- A difference of small words, read as an integer. -/
theorem toInt_sub_small (x y : BitVec 32) (p q : ℤ) (hx : x.toInt = p) (hy : y.toInt = q) (hp : -100000 ≤ p ∧ p ≤ 100000)
    (hq : -100000 ≤ q ∧ q ≤ 100000) : (IntOp.subi x y).toInt = p - q := by
  unfold IntOp.subi
  rw [BitVec.toInt_sub, hx, hy]
  exact Int.bmod_eq_of_le (by omega) (by omega)

theorem toInt_add_small (x y : BitVec 32) (p q : ℤ) (hx : x.toInt = p) (hy : y.toInt = q) (hp : -100000 ≤ p ∧ p ≤ 100000)
    (hq : -100000 ≤ q ∧ q ≤ 100000) : (IntOp.addi x y).toInt = p + q := by
  unfold IntOp.addi
  rw [BitVec.toInt_add, hx, hy]
  exact Int.bmod_eq_of_le (by omega) (by omega)

theorem toInt_ofNat_small (a : ℕ) (h : a ≤ 100000) : (BitVec.ofNat 32 a).toInt = a :=
  toInt_ofNat_of_lt (by omega)

/-- The magnitude of a small word is at most 64 when the integer's is. -/
theorem absi_le (x : BitVec 32) (z : ℤ) (hx : x.toInt = z) (hz : -100000 ≤ z ∧ z ≤ 100000) :
    IntOp.cmpi .sle (IntOp.absi x) 64#32 = 1#1 ↔ -64 ≤ z ∧ z ≤ 64 := by
  rw [cmpi_sle_eq, ofBool_decide_eq_one_iff, show (64#32 : BitVec 32).toInt = 64 from rfl]
  unfold IntOp.absi
  rw [BitVec.msb_eq_toInt]
  by_cases h : x.toInt < 0
  · rw [if_pos (by simpa using h), BitVec.toInt_neg, hx, Int.bmod_eq_of_le (by omega) (by omega)]
    omega
  · rw [if_neg (by simpa using h), hx]
    omega

end Cert.Band
-- ==== Proof.Band.Blocks.lean ====
module

public import proofs.«01_k».proof.Proof.Band.Words
public import proofs.«01_k».proof.Proof.Band.Spec
public import Idealize.ShloMosaic.Lib.Pointwise

@[expose] public section

noncomputable section

/-! # A sequence in four blocks, its keys in bands

Block `b` holds the 64 queries from 64 b, and its band the 192 keys from 64 b - 64: entry (b, c) is key 64 b + c - 64. -/

namespace Cert.Band

open Idealize.ShloMosaic

/-- Query `i` of block `b`. -/
def queryAt (b : Fin 4) (i : Fin 64) : Fin 256 := ⟨64 * b.val + i.val, by omega⟩

/-- Whether entry (b, c) of a band is a key of the sequence. -/
abbrev IsKey (b : Fin 4) (c : Fin 192) : Prop := 64 ≤ 64 * b.val + c.val ∧ 64 * b.val + c.val < 320

/-- Whether entry `c` is near query `i` of the block. -/
abbrev InBand (i : Fin 64) (c : Fin 192) : Prop := i.val ≤ c.val ∧ c.val ≤ i.val + 128

/-- A function of the keys, in a band: zero where the sequence has no key. -/
def atKey (f : Fin 256 → ℝ) (b : Fin 4) (c : Fin 192) : ℝ :=
  if h : IsKey b c then f ⟨64 * b.val + c.val - 64, by have := h.1; have := h.2; omega⟩ else 0

theorem atKey_mul (f g : Fin 256 → ℝ) (b : Fin 4) (c : Fin 192) : atKey f b c * atKey g b c = atKey (fun j => f j * g j) b c := by
  unfold atKey; split <;> simp

theorem atKey_mul_right (f : Fin 256 → ℝ) (x : ℝ) (b : Fin 4) (c : Fin 192) : atKey f b c * x = atKey (fun j => f j * x) b c := by
  unfold atKey; split <;> simp

theorem atKey_mul_left (f : Fin 256 → ℝ) (x : ℝ) (b : Fin 4) (c : Fin 192) : x * atKey f b c = atKey (fun j => x * f j) b c := by
  unfold atKey; split <;> simp

theorem atKey_sum {n : ℕ} (f : Fin n → Fin 256 → ℝ) (b : Fin 4) (c : Fin 192) :
    ∑ d, atKey (f d) b c = atKey (fun j => ∑ d, f d j) b c := by
  unfold atKey; split <;> simp

theorem atKey_of (f : Fin 256 → ℝ) {b : Fin 4} {c : Fin 192} (h : IsKey b c) : atKey f b c = f ⟨64 * b.val + c.val - 64, by omega⟩ := dif_pos h

theorem near_key {b : Fin 4} {c : Fin 192} (h : IsKey b c) (i : Fin 64) :
    Near (queryAt b i).val (64 * b.val + c.val - 64) ↔ InBand i c := by
  unfold Near InBand queryAt; simp only; omega

/-- A function zero away from a query is zero where the band is not near it. -/
theorem atKey_far {f : Fin 256 → ℝ} {b : Fin 4} {i : Fin 64} {c : Fin 192} (hf : ∀ j, ¬ Near (queryAt b i).val j.val → f j = 0)
    (h : ¬ (IsKey b c ∧ InBand i c)) : atKey f b c = 0 := by
  unfold atKey
  split
  · rename_i hk
    exact hf _ fun hn => h ⟨hk, (near_key hk i).1 hn⟩
  · rfl

theorem raw_far (q k : Rows) (i j : Fin 256) (h : ¬ Near i.val j.val) : raw q k i j = 0 := if_neg h
theorem weight_far (q k : Rows) (i j : Fin 256) (h : ¬ Near i.val j.val) : weight q k i j = 0 := by
  unfold weight; rw [raw_far q k i j h, zero_div]
theorem cot_far (q k v a : Rows) (l : Fin 256 → ℝ) (i j : Fin 256) (h : ¬ Near i.val j.val) : cot q k v a l i j = 0 := by
  unfold cot; rw [weight_far q k i j h, zero_mul]

/-- A band holds every key near its queries, once. -/
theorem sum_atKey (f : Fin 256 → ℝ) (b : Fin 4) (i : Fin 64) (hf : ∀ j, ¬ Near (queryAt b i).val j.val → f j = 0) :
    ∑ c, atKey f b c = ∑ j, f j := by
  have hk (c : Fin 192) (h : atKey f b c ≠ 0) : IsKey b c := by
    by_contra hn
    exact h (by unfold atKey; rw [dif_neg hn])
  refine Finset.sum_bij_ne_zero (fun c _ h => ⟨64 * b.val + c.val - 64, by have := hk c h; omega⟩) (fun _ _ _ => Finset.mem_univ _) ?_ ?_ ?_
  · intro c _ hc c' _ hc' e
    have := hk c hc
    have := hk c' hc'
    have := congrArg Fin.val e
    exact Fin.ext (by simp only at this; omega)
  · intro j _ hj
    have hn : Near (queryAt b i).val j.val := by
      by_contra h
      exact hj (hf j h)
    obtain ⟨h1, h2⟩ := hn
    simp only [queryAt] at h1 h2
    have hc : IsKey b ⟨j.val + 64 - 64 * b.val, by omega⟩ := ⟨by simp only; omega, by simp only; omega⟩
    have e : (⟨64 * b.val + (j.val + 64 - 64 * b.val) - 64, by omega⟩ : Fin 256) = j := Fin.ext (by simp only; omega)
    refine ⟨⟨j.val + 64 - 64 * b.val, by omega⟩, Finset.mem_univ _, ?_, e⟩
    unfold atKey
    rw [dif_pos hc]
    exact fun h => hj ((congrArg f e).symm.trans h)
  · intro c _ hc
    unfold atKey
    rw [dif_pos (hk c hc)]

/-- A sum over a sequence, block by block. -/
theorem sum_blocks (g : Fin 256 → ℝ) : ∑ i, g i
    = (∑ i, g (queryAt 0 i)) + (∑ i, g (queryAt 1 i)) + (∑ i, g (queryAt 2 i)) + ∑ i, g (queryAt 3 i) := by
  rw [Fin.sum_univ_two_halves 128 128 rfl, Fin.sum_univ_two_halves 64 64 rfl, Fin.sum_univ_two_halves 64 64 rfl, ← add_assoc]
  rfl

/-- What the three blocks whose bands hold key `j` add up to. -/
theorem sum_near (g : Fin 256 → ℝ) (j : Fin 256) (hg : ∀ i, ¬ Near i.val j.val → g i = 0) :
    ((if h : 2 ≤ j.val / 64 + 1 then ∑ i, g (queryAt ⟨j.val / 64 + 1 - 2, by omega⟩ i) else 0)
      + ∑ i, g (queryAt ⟨j.val / 64 + 1 - 1, by omega⟩ i))
      + (if h : j.val / 64 + 1 < 4 then ∑ i, g (queryAt ⟨j.val / 64 + 1, h⟩ i) else 0) = ∑ i, g i := by
  rw [sum_blocks]
  have far (b : Fin 4) (h : b.val + 1 < j.val / 64 ∨ j.val / 64 + 1 < b.val) : ∑ i, g (queryAt b i) = 0 :=
    Finset.sum_eq_zero fun i _ => hg _ fun hn => by
      obtain ⟨h1, h2⟩ := hn
      simp only [queryAt] at h1 h2
      omega
  have hb : j.val / 64 = 0 ∨ j.val / 64 = 1 ∨ j.val / 64 = 2 ∨ j.val / 64 = 3 := by omega
  rcases hb with e | e | e | e
  · rw [far 2 (by rw [e]; decide), far 3 (by rw [e]; decide)]
    simp only [e]
    simp
  · rw [far 3 (by rw [e]; decide)]
    simp only [e]
    simp
  · rw [far 0 (by rw [e]; decide)]
    simp only [e]
    simp
  · rw [far 0 (by rw [e]; decide), far 1 (by rw [e]; decide)]
    simp only [e]
    simp

/-- The index words of a band: whether entry (b, c) is a key of the sequence within 64 of query `i` of the block. -/
theorem band_word (b : Fin 4) (i : Fin 64) (c : Fin 192) :
    IntOp.andi
      (IntOp.andi
        (IntOp.cmpi .sge (IntOp.addi (IntOp.subi (IntOp.muli (BitVec.ofNat 32 b.val) 64#32) 64#32) (BitVec.ofNat 32 c.val)) 0#32)
        (IntOp.cmpi .slt (IntOp.addi (IntOp.subi (IntOp.muli (BitVec.ofNat 32 b.val) 64#32) 64#32) (BitVec.ofNat 32 c.val)) 256#32))
      (IntOp.cmpi .sle
        (IntOp.absi (IntOp.subi (BitVec.ofNat 32 (b.val * 64 + i.val))
          (IntOp.addi (IntOp.subi (IntOp.muli (BitVec.ofNat 32 b.val) 64#32) 64#32) (BitVec.ofNat 32 c.val)))) 64#32) = 1#1
      ↔ IsKey b c ∧ InBand i c := by
  have one (x y : BitVec 1) : IntOp.andi x y = 1#1 ↔ x = 1#1 ∧ y = 1#1 := by revert x y; decide
  have h0 : (IntOp.subi (IntOp.muli (BitVec.ofNat 32 b.val) 64#32) 64#32).toInt = (64 * b.val : ℤ) - 64 := by
    revert b; decide
  have h1 : (IntOp.addi (IntOp.subi (IntOp.muli (BitVec.ofNat 32 b.val) 64#32) 64#32) (BitVec.ofNat 32 c.val)).toInt = (64 * b.val : ℤ) - 64 + c.val :=
    toInt_add_small _ _ _ _ h0 (toInt_ofNat_small _ (by omega)) (by omega) (by omega)
  rw [one, one, absi_le _ (((b.val * 64 + i.val : ℕ) : ℤ) - ((64 * b.val : ℤ) - 64 + c.val))
    (toInt_sub_small _ _ _ _ (toInt_ofNat_small _ (by omega)) h1 (by omega) (by omega)) (by omega),
    WordCmp.cmpi_sge_eq, WordCmp.cmpi_slt_eq, WordCmp.ofBool_decide_eq_one_iff, WordCmp.ofBool_decide_eq_one_iff, h1,
    show (0#32 : BitVec 32).toInt = 0 from rfl, show (256#32 : BitVec 32).toInt = 256 from rfl]
  unfold IsKey InBand
  omega

end Cert.Band

end
-- ==== Proof.Band.KernelValue.lean ====
/-
  One block of the kernel's body at real inputs, over the extended reals: each operation keeps real entries real, and its
  entries are written out.
-/
module

public import proofs.«01_k».proof.Proof.Band.Block
public import proofs.«01_k».proof.Proof.Band.Words
public import Idealize.ShloMosaic.PureOps.Ideal
public import Idealize.ShloMosaic.Lib.Tactic.CleanTypes

@[expose] public section

set_option maxRecDepth 16384

noncomputable section

namespace Cert.KernelIdeal.Band

open Idealize.ShloMosaic Idealize.ShloMosaic.TcCoe Idealize.ShloMosaic.WordCmp
open Cert.KernelIdeal.Gen

/-- Real entries, as extended reals. -/
abbrev re {ι : Type} (x : ι → ℝ) : ι → EReal := fun i => ((x i : ℝ) : EReal)

/-- A matrix by its entries. -/
def mat {a b : ℕ} (f : Fin a → Fin b → ℝ) : (⟨2, ![a, b]⟩ : Shape).Idx → ℝ := fun j => f (j 0) (j 1)

theorem mat_at {a b : ℕ} (f : Fin a → Fin b → ℝ) (i : Fin a) (j : Fin b) : mat f (ix2 i j) = f i j := rfl

theorem coe_sum {ι : Type} (s : Finset ι) (f : ι → ℝ) : ((∑ i ∈ s, f i : ℝ) : EReal) = ∑ i ∈ s, (f i : EReal) :=
  map_sum (⟨⟨(↑), rfl⟩, EReal.coe_add⟩ : ℝ →+ EReal) f s

/-- The stacked rows. -/
def stackR (y : S1x1x128x128.Idx → ℝ) : S256x128.Idx → ℝ := fun j =>
  if h : (j 0).val < 128 then if (j 1).val < 64 then y (ix4 0 0 ⟨(j 0).val, h⟩ (j 1)) else 0
  else if (j 1).val < 64 then 0 else y (ix4 0 0 ⟨(j 0).val - 128, by have := (j 0).isLt; simp [S256x128] at this; omega⟩ (j 1))

/-- A choice by a comparison of a lane with 64. -/
theorem select_first {α : Type} (l : Fin 128) (x y : α) :
    Scalar.select (IntOp.cmpi .slt (BitVec.ofNat 32 l.val) 64#32) x y = if l.val < 64 then x else y := by
  have h : IntOp.cmpi .slt (BitVec.ofNat 32 l.val) 64#32 = 1 ↔ l.val < 64 := by
    rw [cmpi_slt_ofNat (by omega) (by omega)]
    exact ofBool_decide_eq_one_iff _
  unfold Scalar.select
  exact if_congr h rfl rfl

theorem stack_re (y : S1x1x128x128.Idx → ℝ) : stack (F := Ideal) (re y) = re (stackR y) := by
  funext j
  idx_vars j
  pointwise [stack, firstHead, re, stackR]
  simp only [select_first]
  split_ifs <;> rfl

theorem against_re (a : S256x128.Idx → ℝ) (k : S1x1x256x128.Idx → ℝ) :
    against (F := Ideal) (re a) (re k) = re (mat fun i j => ∑ l : Fin 128, a (ix2 i l) * k (ix4 0 0 j l)) := by
  funext j
  idx_vars j
  pointwise [against, re, mat]
  simp only [coe_sum, EReal.coe_mul]

theorem near_iff (u : Fin 2) (a : Fin 128) (b : Fin 256) :
    near (BitVec.ofNat 32 (128 * u.val)) 0#32 (ix2 a b) = 1#1 ↔ Cert.Band.Near (128 * u.val + a.val) b.val := by
  pointwise [near]
  rw [Band.absi_le _ ((128 * u.val + a.val : ℕ) - b.val : ℤ)
    (Band.toInt_sub_small _ _ _ _
      ((Band.toInt_add_small _ _ _ _ (Band.toInt_ofNat_small _ (by omega)) (Band.toInt_ofNat_small _ (by omega)) (by omega) (by omega)).trans (by push_cast; rfl))
      ((Band.toInt_add_small _ _ 0 _ rfl (Band.toInt_ofNat_small _ (by omega)) (by omega) (by omega)).trans (zero_add _))
      (by omega) (by omega)) (by omega)]
  unfold Band.Near
  omega

theorem stackCol_re (y : S1x1x128x128.Idx → ℝ) : stackCol (F := Ideal) (re y) = re (mat fun i _ =>
    if h : i.val < 128 then y (ix4 0 0 ⟨i.val, h⟩ 0) else y (ix4 0 0 ⟨i.val - 128, by omega⟩ 64)) := by
  funext j
  idx_vars j
  pointwise [stackCol, re, mat]
  split_ifs <;> rfl

theorem onKeys_re (p : S256x256.Idx → ℝ) (a : S256x128.Idx → ℝ) :
    onKeys (F := Ideal) (re p) (re a) = re (mat fun i j => ∑ n : Fin 256, p (ix2 n i) * a (ix2 n j)) := by
  funext j
  idx_vars j
  pointwise [onKeys, re, mat]
  simp only [coe_sum, EReal.coe_mul]

theorem onQueries_re (p : S256x256.Idx → ℝ) (k : S1x1x256x128.Idx → ℝ) :
    onQueries (F := Ideal) (re p) (re k) = re (mat fun i j => ∑ n : Fin 256, p (ix2 i n) * k (ix4 0 0 n j)) := by
  funext j
  idx_vars j
  pointwise [onQueries, re, mat]
  simp only [coe_sum, EReal.coe_mul]

theorem unstack_re (x : S256x128.Idx → ℝ) (i l : Fin 128) : unstack (F := Ideal) (re x) (ix4 0 0 i l) =
    ((if l.val < 64 then x (ix2 ⟨i.val, by omega⟩ l) else x (ix2 ⟨128 + i.val, by omega⟩ l) : ℝ) : EReal) := by
  pointwise [unstack, firstHead, re]
  simp only [select_first]
  split_ifs <;> rfl

theorem scoreCot_re (p dp : S256x256.Idx → ℝ) (l : S256x1.Idx → ℝ) :
    scoreCot (F := Ideal) (re p) (re dp) (re l) = re (mat fun i j =>
      p (ix2 i j) * (dp (ix2 i j) - ∑ n : Fin 256, dp (ix2 i n) * p (ix2 i n) + l (ix2 i 0))) := by
  funext j
  idx_vars j
  pointwise [scoreCot, rowSum, alongRow, re, mat]
  simp only [coe_sum, EReal.coe_mul, EReal.coe_add, EReal.coe_sub]

theorem plus_twice_re (x y : S256x128.Idx → ℝ) (j : Fin 256) (l : Fin 128) :
    plus (F := Ideal) (plus (zeroKeys (F := Ideal)) (re x)) (re y) (ix4 0 0 j l) = ((0 + x (ix2 j l) + y (ix2 j l) : ℝ) : EReal) := by
  have h (i : S1x1x256x128.Idx) : zeroKeys (F := Ideal) i = ((0 : ℝ) : EReal) := (Ideal.ofBits_zero_f32).trans EReal.coe_zero.symm
  pointwise [plus, re]
  rw [h, EReal.coe_add, EReal.coe_zero, zero_add]

theorem ofBits_neg_inf : Ideal.ofBits FTy.f32 0xFF800000#32 = ⊥ := by
  simp [Ideal.ofBits, Ideal.ieee]

/-- Reals divide as reals, off zero. -/
theorem div_re (a b : ℝ) (h : b ≠ 0) : Ideal.div (a : EReal) (b : EReal) = ((a / b : ℝ) : EReal) := by
  unfold Ideal.div
  rw [if_neg (by exact_mod_cast h), div_eq_mul_inv, EReal.coe_mul, EReal.coe_inv]

/-- The largest of finitely many entries, each real or −∞ and one of them real, is real. -/
theorem fold_max_real {n : ℕ} (f : Fin n → EReal) (hf : ∀ i, f i = ⊥ ∨ ∃ r : ℝ, f i = r) (i : Fin n) (hi : ∃ r : ℝ, f i = r) :
    ∃ r : ℝ, Finset.univ.fold max ⊥ f = r := by
  have e : Finset.univ.fold max ⊥ f = Finset.univ.sup f := rfl
  rw [e]
  obtain ⟨k, _, hk⟩ := Finset.exists_mem_eq_sup Finset.univ ⟨i, Finset.mem_univ i⟩ f
  rcases hf k with h | h
  · exfalso
    have h1 : f i ≤ Finset.univ.sup f := Finset.le_sup (Finset.mem_univ i)
    rw [hk, h] at h1
    obtain ⟨r, hr⟩ := hi
    rw [hr] at h1
    exact absurd (le_bot_iff.mp h1) (EReal.coe_ne_bot r)
  · rw [hk]; exact h

/-- The mask of the stacked rows. -/
theorem stacked_near (u : Fin 2) (a b : Fin 256) :
    concatenate S256x256 0 [⟨S128x256, near (BitVec.ofNat 32 (128 * u.val)) 0#32⟩, ⟨S128x256, near (BitVec.ofNat 32 (128 * u.val)) 0#32⟩]
      concatenates_S128x256_S128x256_S256x256_d0 (ix2 a b) = 1#1 ↔ Cert.Band.Near (128 * u.val + a.val % 128) b.val := by
  generalize hw : near (BitVec.ofNat 32 (128 * u.val)) 0#32 = w
  pointwise
  split
  · rename_i h
    rw [← hw, near_iff]
    simp only
    rw [Nat.mod_eq_of_lt h]
  · rename_i h
    rw [← hw, near_iff]
    simp only
    rw [show a.val % 128 = a.val - 128 by omega]

theorem weights_re (u : Fin 2) (s : S256x256.Idx → ℝ) : ∃ m : Fin 256 → ℝ,
    weights (F := Ideal) (near (BitVec.ofNat 32 (128 * u.val)) 0#32) (re s) = re (mat fun i j =>
      (if Cert.Band.Near (128 * u.val + i.val % 128) j.val then Real.exp (s (ix2 i j) - m i) else 0)
        / ∑ n : Fin 256, if Cert.Band.Near (128 * u.val + i.val % 128) n.val then Real.exp (s (ix2 i n) - m i) else 0) := by
  have hx : ∃ x : S256x256.Idx → EReal, masked (F := Ideal) (near (BitVec.ofNat 32 (128 * u.val)) 0#32) (re s) = x
      ∧ ∀ a b, x (ix2 a b) = if Cert.Band.Near (128 * u.val + a.val % 128) b.val then ((s (ix2 a b) : ℝ) : EReal) else ⊥ := by
    refine ⟨_, rfl, fun a b => ?_⟩
    unfold masked select Scalar.select
    exact if_congr (stacked_near u a b) rfl rfl
  obtain ⟨x, hx1, hx2⟩ := hx
  have hm (a : Fin 256) : ∃ m : ℝ, Finset.univ.fold max ⊥ (fun n : Fin 256 => x (ix2 a n)) = m := by
    refine fold_max_real _ (fun n => ?_) ⟨128 * u.val + a.val % 128, by omega⟩ ⟨s (ix2 a ⟨128 * u.val + a.val % 128, by omega⟩), ?_⟩
    · simp only [hx2]
      split
      · exact .inr ⟨_, rfl⟩
      · exact .inl rfl
    · simp only [hx2]
      exact if_pos ⟨by omega, by omega⟩
  choose m hm using hm
  refine ⟨m, ?_⟩
  have hexp : expo (F := Ideal) x = re (mat fun i j =>
      if Cert.Band.Near (128 * u.val + i.val % 128) j.val then Real.exp (s (ix2 i j) - m i) else 0) := by
    funext j
    idx_vars j
    pointwise [expo, alongRow, re, mat]
    rw [ofBits_neg_inf, hm, hx2]
    split
    · rw [← EReal.coe_sub, Ideal.exp_coe]
    · rw [EReal.bot_sub, Ideal.exp_bot, EReal.coe_zero]
  unfold weights
  rw [hx1, hexp]
  funext j
  idx_vars j
  pointwise [rowSum, alongRow, re, mat]
  rw [← coe_sum, div_re _ _ (ne_of_gt ?_)]
  refine lt_of_lt_of_le ?_ (Finset.single_le_sum (fun n _ => ?_) (Finset.mem_univ (⟨128 * u.val + j0.val % 128, by omega⟩ : Fin 256)))
  · rw [if_pos ⟨by simp only; omega, by simp only; omega⟩]
    exact Real.exp_pos _
  · split
    · exact (Real.exp_pos _).le
    · exact le_rfl

/-! ## A block's entries, by head -/

/-- Head `h` of residue `r` of a tile. -/
def head (x : S1x4x256x128.Idx → ℝ) (r : Fin 4) (h : Fin 2) : Cert.Band.Rows := fun i d => x (ix4 0 r i ⟨64 * h.val + d.val, by omega⟩)

/-- The head and the query of a stacked row. -/
def headOf (a : Fin 256) : Fin 2 := ⟨a.val / 128, by omega⟩
def queryOf (u : Fin 2) (a : Fin 256) : Fin 256 := ⟨128 * u.val + a.val % 128, by omega⟩

/-- A block's rows and a residue's rows. -/
def rowsOf (x : S1x4x256x128.Idx → ℝ) (r : Fin 4) (u : Fin 2) : S1x1x128x128.Idx → ℝ := fun i => x ((rowsRect r u).emb i)
def keysOf (x : S1x4x256x128.Idx → ℝ) (r : Fin 4) : S1x1x256x128.Idx → ℝ := fun i => x ((keysRect r).emb i)

theorem ld_rows (x : S1x4x256x128.Idx → ℝ) (r : Fin 4) (u : Fin 2) :
    View.ld (Val := Elt Ideal) (e' := .bf16) (re x) (rowsRect r u) = (re (rowsOf x r u) : S1x1x128x128.Idx → EReal) := rfl
theorem ld_rows' (x : S1x4x256x128.Idx → ℝ) (r : Fin 4) (u : Fin 2) :
    View.ld (Val := Elt Ideal) (e' := .f32) (re x) (rowsRect r u) = (re (rowsOf x r u) : S1x1x128x128.Idx → EReal) := rfl
theorem ld_keys (x : S1x4x256x128.Idx → ℝ) (r : Fin 4) :
    View.ld (Val := Elt Ideal) (e' := .bf16) (re x) (keysRect r) = (re (keysOf x r) : S1x1x256x128.Idx → EReal) := rfl

theorem rowsOf_at (x : S1x4x256x128.Idx → ℝ) (r : Fin 4) (u : Fin 2) (i l : Fin 128) (q : Fin 256) (h : 128 * u.val + i.val = q.val) :
    rowsOf x r u (ix4 0 0 i l) = x (ix4 0 r q l) := by
  refine congrArg x (funext fun b => ?_)
  fin_cases b
  · rfl
  · exact Fin.ext (by show r.val + 1 * 0 = r.val; omega)
  · exact Fin.ext (by show 128 * u.val + 1 * i.val = q.val; omega)
  · exact Fin.ext (by show 0 + 1 * l.val = l.val; omega)

theorem keysOf_at (x : S1x4x256x128.Idx → ℝ) (r : Fin 4) (n : Fin 256) (l : Fin 128) :
    keysOf x r (ix4 0 0 n l) = x (ix4 0 r n l) := by
  refine congrArg x (funext fun b => ?_)
  fin_cases b
  · rfl
  · exact Fin.ext (by show r.val + 1 * 0 = r.val; omega)
  · exact Fin.ext (by show 0 + 1 * n.val = n.val; omega)
  · exact Fin.ext (by show 0 + 1 * l.val = l.val; omega)

/-- The rows a block stacks, at an index. -/
theorem stackR_at (x : S1x4x256x128.Idx → ℝ) (r : Fin 4) (u : Fin 2) (a : Fin 256) (l : Fin 128) :
    stackR (rowsOf x r u) (ix2 a l)
      = if headOf a = ⟨l.val / 64, by omega⟩ then x (ix4 0 r (queryOf u a) l) else 0 := by
  unfold stackR
  by_cases ha : a.val < 128
  · rw [dif_pos (show (ix2 a l 0).val < 128 from ha)]
    by_cases hl : l.val < 64
    · rw [if_pos (show (ix2 a l 1).val < 64 from hl), if_pos (Fin.ext (by show a.val / 128 = l.val / 64; omega))]
      exact rowsOf_at x r u _ _ _ (by show 128 * u.val + a.val = 128 * u.val + a.val % 128; omega)
    · rw [if_neg (show ¬ (ix2 a l 1).val < 64 from hl), if_neg (fun h => by have := congrArg Fin.val h; simp only [headOf] at this; omega)]
  · rw [dif_neg (show ¬ (ix2 a l 0).val < 128 from ha)]
    by_cases hl : l.val < 64
    · rw [if_pos (show (ix2 a l 1).val < 64 from hl), if_neg (fun h => by have := congrArg Fin.val h; simp only [headOf] at this; omega)]
    · rw [if_neg (show ¬ (ix2 a l 1).val < 64 from hl), if_pos (Fin.ext (by show a.val / 128 = l.val / 64; omega))]
      exact rowsOf_at x r u _ _ _ (by show 128 * u.val + (a.val - 128) = 128 * u.val + a.val % 128; omega)

/-- A sum over the lanes that keeps one head's. -/
theorem sum_lanes (h : Fin 2) (f : Fin 128 → ℝ) :
    (∑ l : Fin 128, if h = ⟨l.val / 64, by omega⟩ then f l else 0) = ∑ d : Fin 64, f ⟨64 * h.val + d.val, by omega⟩ := by
  rw [Fin.sum_univ_two_halves 64 64 rfl]
  have e0 (d : Fin 64) : d.val / 64 = 0 := by omega
  have e1 (d : Fin 64) : (64 + d.val) / 64 = 1 := by omega
  fin_cases h
  · rw [Finset.sum_eq_zero (s := Finset.univ) (f := fun d : Fin 64 => if (_ : Fin 2) = _ then f ⟨64 + d.val, _⟩ else 0)
      (fun d _ => if_neg (fun h => by have := congrArg Fin.val h; simp only at this; omega)), add_zero]
    exact Finset.sum_congr rfl fun d _ => by
      rw [if_pos (Fin.ext (e0 d).symm)]
      exact congrArg f (Fin.ext (by simp))
  · rw [Finset.sum_eq_zero (s := Finset.univ) (f := fun d : Fin 64 => if (_ : Fin 2) = _ then f ⟨d.val, _⟩ else 0)
      (fun d _ => if_neg (fun h => by have := congrArg Fin.val h; simp only at this; omega)), zero_add]
    exact Finset.sum_congr rfl fun d _ => by
      rw [if_pos (Fin.ext (e1 d).symm)]
      exact congrArg f (Fin.ext (by simp))

variable (x0 x1 x2 x3 x4 : S1x4x256x128.Idx → ℝ)

/-- Stacked rows against the keys: each against its own head's lanes. -/
theorem against_blk (r : Fin 4) (u : Fin 2) (x k : S1x4x256x128.Idx → ℝ) :
    against (F := Ideal) (stack (re (rowsOf x r u))) (re (keysOf k r))
      = re (mat fun a j => Cert.Band.dots (head x r (headOf a)) (head k r (headOf a)) (queryOf u a) j) := by
  rw [stack_re, against_re]
  refine congrArg (fun f => re (mat f)) (funext fun a => funext fun j => ?_)
  simp only [stackR_at, keysOf_at, ite_mul, zero_mul]
  exact sum_lanes _ _

theorem pBlk_re (r : Fin 4) (u : Fin 2) : pBlk (F := Ideal) (re x0) (re x1) r u = re (mat fun a j =>
    Cert.Band.weight (head x0 r (headOf a)) (head x1 r (headOf a)) (queryOf u a) j) := by
  unfold pBlk qBlk
  rw [ld_rows, ld_keys, against_blk]
  obtain ⟨m, hm⟩ := weights_re u (mat fun a j => Cert.Band.dots (head x0 r (headOf a)) (head x1 r (headOf a)) (queryOf u a) j)
  rw [hm]
  refine congrArg (fun f => re (mat f)) (funext fun a => funext fun j => ?_)
  exact Cert.Band.weight_shift _ _ (m a) (queryOf u a) j

/-- The column of the denominators' cotangents of a head. -/
def col (x : S1x4x256x128.Idx → ℝ) (r : Fin 4) (h : Fin 2) : Fin 256 → ℝ := fun i => x (ix4 0 r i ⟨64 * h.val, by omega⟩)

theorem dsBlk_re (r : Fin 4) (u : Fin 2) : dsBlk (F := Ideal) (re x0) (re x1) (re x2) (re x3) (re x4) r u = re (mat fun a j =>
    Cert.Band.cot (head x0 r (headOf a)) (head x1 r (headOf a)) (head x2 r (headOf a)) (head x3 r (headOf a))
      (col x4 r (headOf a)) (queryOf u a) j) := by
  unfold dsBlk doBlk
  rw [ld_rows, ld_rows', ld_keys, against_blk, pBlk_re, stackCol_re, scoreCot_re]
  refine congrArg (fun f => re (mat f)) (funext fun a => funext fun j => ?_)
  unfold Cert.Band.cot
  simp only [mat_at]
  have hl : (if h : a.val < 128 then rowsOf x4 r u (ix4 0 0 ⟨a.val, h⟩ 0) else rowsOf x4 r u (ix4 0 0 ⟨a.val - 128, by omega⟩ 64))
      = col x4 r (headOf a) (queryOf u a) := by
    split
    · rename_i h
      rw [rowsOf_at _ _ _ _ _ (queryOf u a) (by show 128 * u.val + a.val = 128 * u.val + a.val % 128; omega)]
      exact congrArg (fun l => x4 (ix4 0 r _ l)) (Fin.ext (by show 0 = 64 * (a.val / 128); omega))
    · rename_i h
      rw [rowsOf_at _ _ _ _ _ (queryOf u a) (by show 128 * u.val + (a.val - 128) = 128 * u.val + a.val % 128; omega)]
      exact congrArg (fun l => x4 (ix4 0 r _ l)) (Fin.ext (by show 64 = 64 * (a.val / 128); omega))
  rw [hl]

/-- The head of a lane and its lane within it. -/
def laneHead (l : Fin 128) : Fin 2 := ⟨l.val / 64, by omega⟩
def laneIn (l : Fin 128) : Fin 64 := ⟨l.val % 64, by omega⟩

theorem head_lane (x : S1x4x256x128.Idx → ℝ) (r : Fin 4) (i : Fin 256) (l : Fin 128) :
    x (ix4 0 r i l) = head x r (laneHead l) i (laneIn l) := by
  unfold head laneHead laneIn
  exact congrArg (fun l => x (ix4 0 r i l)) (Fin.ext (by simp only; omega))

/-- The gradient of a tile's queries. -/
theorem dqTile_re (p : Fin 1) (r : Fin 4) (i : Fin 256) (l : Fin 128) :
    dqTile (F := Ideal) (re x0) (re x1) (re x2) (re x3) (re x4) (ix4 p r i l)
      = ((Cert.Band.gradQ (head x0 r (laneHead l)) (head x1 r (laneHead l)) (head x2 r (laneHead l)) (head x3 r (laneHead l))
          (col x4 r (laneHead l)) i (laneIn l) : ℝ) : EReal) := by
  have key (a : Fin 256) (u : Fin 2) (hu : u.val = i.val / 128) (ha : a.val % 128 = i.val % 128) (hh : a.val / 128 = l.val / 64) :
      (∑ n : Fin 256, Cert.Band.cot (head x0 r (headOf a)) (head x1 r (headOf a)) (head x2 r (headOf a)) (head x3 r (headOf a))
        (col x4 r (headOf a)) (queryOf u a) n * keysOf x1 r (ix4 0 0 n l))
      = Cert.Band.gradQ (head x0 r (laneHead l)) (head x1 r (laneHead l)) (head x2 r (laneHead l)) (head x3 r (laneHead l))
          (col x4 r (laneHead l)) i (laneIn l) := by
    have h1 : headOf a = laneHead l := Fin.ext hh
    have h2 : queryOf u a = i := Fin.ext (by show 128 * u.val + a.val % 128 = i.val; omega)
    rw [h1, h2]
    unfold Cert.Band.gradQ
    exact Finset.sum_congr rfl fun n _ => by rw [keysOf_at]; exact congrArg _ (head_lane x1 r n l)
  show dqBlk (F := Ideal) (re x0) (re x1) (re x2) (re x3) (re x4) r ⟨i.val / 128, by omega⟩ (ix4 0 0 ⟨i.val % 128, by omega⟩ l) = _
  unfold dqBlk
  rw [dsBlk_re, ld_keys, onQueries_re, unstack_re]
  refine congrArg _ ?_
  simp only [mat_at]
  split
  · exact key ⟨i.val % 128, by omega⟩ ⟨i.val / 128, by omega⟩ rfl (by simp only; omega) (by simp only; omega)
  · exact key ⟨128 + i.val % 128, by omega⟩ ⟨i.val / 128, by omega⟩ rfl (by simp only; omega) (by simp only; omega)

/-- The keys' side of one block: the stacked rows of the lane's head alone. -/
theorem onKeys_blk (r : Fin 4) (u : Fin 2) (x : S1x4x256x128.Idx → ℝ) (c : Fin 2 → Fin 256 → Fin 256 → ℝ) :
    onKeys (F := Ideal) (re (mat fun a j => c (headOf a) (queryOf u a) j)) (stack (re (rowsOf x r u)))
      = re (mat fun j l => ∑ n : Fin 128, c (laneHead l) ⟨128 * u.val + n.val, by omega⟩ j
          * head x r (laneHead l) ⟨128 * u.val + n.val, by omega⟩ (laneIn l)) := by
  rw [stack_re, onKeys_re]
  refine congrArg (fun f => re (mat f)) (funext fun j => funext fun l => ?_)
  simp only [mat_at, stackR_at]
  rw [Fin.sum_univ_two_halves 128 128 rfl]
  have q0 (n : Fin 128) (h : n.val < 256) : queryOf u ⟨n.val, h⟩ = ⟨128 * u.val + n.val, by omega⟩ := Fin.ext (by simp only [queryOf]; omega)
  have q1 (n : Fin 128) (h : 128 + n.val < 256) : queryOf u ⟨128 + n.val, h⟩ = ⟨128 * u.val + n.val, by omega⟩ := Fin.ext (by simp only [queryOf]; omega)
  have h0 (n : Fin 128) (h : n.val < 256) : headOf ⟨n.val, h⟩ = 0 := Fin.ext (by show n.val / 128 = 0; omega)
  have h1 (n : Fin 128) (h : 128 + n.val < 256) : headOf ⟨128 + n.val, h⟩ = 1 := Fin.ext (by show (128 + n.val) / 128 = 1; omega)
  simp only [q0, q1, h0, h1]
  rw [show (⟨l.val / 64, by omega⟩ : Fin 2) = laneHead l from rfl]
  generalize hh : laneHead l = h
  have e (n : Fin 128) : x (ix4 0 r ⟨128 * u.val + n.val, by omega⟩ l) = head x r h ⟨128 * u.val + n.val, by omega⟩ (laneIn l) := by
    rw [← hh]; exact head_lane x r _ l
  fin_cases h
  · simp [e]
  · simp [e]

/-- Two blocks' sums are one over all queries. -/
theorem two_blocks (f : Fin 256 → ℝ) :
    0 + (∑ n : Fin 128, f ⟨128 * (0 : Fin 2).val + n.val, by simp; omega⟩) + (∑ n : Fin 128, f ⟨128 * (1 : Fin 2).val + n.val, by simp; omega⟩)
      = ∑ i, f i := by
  rw [Fin.sum_univ_two_halves 128 128 rfl, zero_add]
  exact congrArg (· + _) (Finset.sum_congr rfl fun n _ => congrArg f (Fin.ext (by simp)))

theorem dkTile_re (p : Fin 1) (r : Fin 4) (j : Fin 256) (l : Fin 128) :
    dkTile (F := Ideal) (re x0) (re x1) (re x2) (re x3) (re x4) (ix4 p r j l)
      = ((Cert.Band.gradK (head x0 r (laneHead l)) (head x1 r (laneHead l)) (head x2 r (laneHead l)) (head x3 r (laneHead l))
          (col x4 r (laneHead l)) j (laneIn l) : ℝ) : EReal) := by
  have blk (u : Fin 2) := onKeys_blk r u x0 fun h => Cert.Band.cot (head x0 r h) (head x1 r h) (head x2 r h) (head x3 r h) (col x4 r h)
  show plus (F := Ideal) (plus (zeroKeys (F := Ideal)) (dkBlk (re x0) (re x1) (re x2) (re x3) (re x4) r 0)) (dkBlk (re x0) (re x1) (re x2) (re x3) (re x4) r 1) (ix4 0 0 j l) = _
  unfold dkBlk qBlk
  rw [dsBlk_re, dsBlk_re, ld_rows, ld_rows, blk, blk, plus_twice_re]
  refine congrArg _ ?_
  simp only [mat_at]
  exact two_blocks fun i => Cert.Band.cot (head x0 r (laneHead l)) (head x1 r (laneHead l)) (head x2 r (laneHead l)) (head x3 r (laneHead l))
    (col x4 r (laneHead l)) i j * head x0 r (laneHead l) i (laneIn l)

theorem dvTile_re (p : Fin 1) (r : Fin 4) (j : Fin 256) (l : Fin 128) :
    dvTile (F := Ideal) (re x0) (re x1) (re x3) (ix4 p r j l)
      = ((Cert.Band.gradV (head x0 r (laneHead l)) (head x1 r (laneHead l)) (head x3 r (laneHead l)) j (laneIn l) : ℝ) : EReal) := by
  have blk (u : Fin 2) := onKeys_blk r u x3 fun h => Cert.Band.weight (head x0 r h) (head x1 r h)
  show plus (F := Ideal) (plus (zeroKeys (F := Ideal)) (dvBlk (re x0) (re x1) (re x3) r 0)) (dvBlk (re x0) (re x1) (re x3) r 1) (ix4 0 0 j l) = _
  unfold dvBlk doBlk
  rw [pBlk_re, pBlk_re, ld_rows, ld_rows, blk, blk, plus_twice_re]
  refine congrArg _ ?_
  simp only [mat_at]
  exact two_blocks fun i => Cert.Band.weight (head x0 r (laneHead l)) (head x1 r (laneHead l)) i j * head x3 r (laneHead l) i (laneIn l)

end Cert.KernelIdeal.Band

end
-- ==== Proof.Band.KernelResult.lean ====
module

public import proofs.«01_k».proof.Proof.Band.Run
public import proofs.«01_k».proof.Proof.Band.KernelValue
public import Idealize.ShloMosaic.Lib.Pipeline.ValueKit.Geometry

@[expose] public section

set_option maxRecDepth 16384

noncomputable section

/-! # The arrays the kernel leaves, at real arguments

Each of the eight tiles holds four residues of one pair of heads, so a head's rows lie within one tile, and the tiles'
gradients are the heads' gradients. -/

namespace Cert.KernelIdeal.Band

open Idealize.ShloMosaic Idealize.ShloMosaic.TcCoe
open Idealize.SL.Sem
open Cert.KernelIdeal.Gen

/-- An array of all heads, of real entries. -/
abbrev Arr := S2x16x256x128.Idx → ℝ

/-- One head's rows, -/
def headAt (x : Arr) (p : Fin 2) (r : Fin 16) (h : Fin 2) : Cert.Band.Rows := fun i d => x (ix4 p r i ⟨64 * h.val + d.val, by omega⟩)
/-- and one head's column, held in its first lane. -/
def colAt (x : Arr) (p : Fin 2) (r : Fin 16) (h : Fin 2) : Fin 256 → ℝ := fun i => x (ix4 p r i ⟨64 * h.val, by omega⟩)

/-- The gradients of all heads. -/
def dQ (q k v a l : Arr) : Arr := fun j =>
  Cert.Band.gradQ (headAt q (j 0) (j 1) (laneHead (j 3))) (headAt k (j 0) (j 1) (laneHead (j 3))) (headAt v (j 0) (j 1) (laneHead (j 3)))
    (headAt a (j 0) (j 1) (laneHead (j 3))) (colAt l (j 0) (j 1) (laneHead (j 3))) (j 2) (laneIn (j 3))
def dK (q k v a l : Arr) : Arr := fun j =>
  Cert.Band.gradK (headAt q (j 0) (j 1) (laneHead (j 3))) (headAt k (j 0) (j 1) (laneHead (j 3))) (headAt v (j 0) (j 1) (laneHead (j 3)))
    (headAt a (j 0) (j 1) (laneHead (j 3))) (colAt l (j 0) (j 1) (laneHead (j 3))) (j 2) (laneIn (j 3))
def dV (q k a : Arr) : Arr := fun j =>
  Cert.Band.gradV (headAt q (j 0) (j 1) (laneHead (j 3))) (headAt k (j 0) (j 1) (laneHead (j 3)))
    (headAt a (j 0) (j 1) (laneHead (j 3))) (j 2) (laneIn (j 3))

/-! ## The tiles -/

theorem index_0 : ∀ t : Fin cfg0.N, win0_0.index t = ![t.val % 2, t.val / 2, 0, 0] := (by decide +kernel : ∀ t : Fin grid0.N, _)
theorem index_1 : ∀ t : Fin cfg0.N, win0_1.index t = ![t.val % 2, t.val / 2, 0, 0] := (by decide +kernel : ∀ t : Fin grid0.N, _)
theorem index_2 : ∀ t : Fin cfg0.N, win0_2.index t = ![t.val % 2, t.val / 2, 0, 0] := (by decide +kernel : ∀ t : Fin grid0.N, _)
theorem index_3 : ∀ t : Fin cfg0.N, win0_3.index t = ![t.val % 2, t.val / 2, 0, 0] := (by decide +kernel : ∀ t : Fin grid0.N, _)
theorem index_4 : ∀ t : Fin cfg0.N, win0_4.index t = ![t.val % 2, t.val / 2, 0, 0] := (by decide +kernel : ∀ t : Fin grid0.N, _)
theorem index_5 : ∀ t : Fin cfg0.N, win0_5.index t = ![t.val % 2, t.val / 2, 0, 0] := (by decide +kernel : ∀ t : Fin grid0.N, _)
theorem index_6 : ∀ t : Fin cfg0.N, win0_6.index t = ![t.val % 2, t.val / 2, 0, 0] := (by decide +kernel : ∀ t : Fin grid0.N, _)
theorem index_7 : ∀ t : Fin cfg0.N, win0_7.index t = ![t.val % 2, t.val / 2, 0, 0] := (by decide +kernel : ∀ t : Fin grid0.N, _)

/-- The pair and the residue of a tile's row. -/
def pairOf (t : Fin cfg0.N) : Fin 2 := ⟨t.val % 2, by omega⟩
def resOf (t : Fin cfg0.N) (r : Fin 4) : Fin 16 := ⟨4 * (t.val / 2) + r.val, by have := t.isLt; have h : cfg0.N = 8 := N_0; omega⟩

/-- A tile of an array. -/
def tile (x : Arr) (t : Fin cfg0.N) : S1x4x256x128.Idx → ℝ := fun i => x (ix4 (pairOf t) (resOf t (i 1)) (i 2) (i 3))

theorem head_tile (x : Arr) (t : Fin cfg0.N) (r : Fin 4) (h : Fin 2) : head (tile x t) r h = headAt x (pairOf t) (resOf t r) h := rfl
theorem col_tile (x : Arr) (t : Fin cfg0.N) (r : Fin 4) (h : Fin 2) : col (tile x t) r h = colAt x (pairOf t) (resOf t r) h := rfl

variable (m : (ℓ : Loc nD τ sig) → Buf (Elt Ideal) ℓ) (ρ : Dev nD → PrngReg) (c : Dev nD)

theorem iblk_0 (x : Arr) (h : V m c main_v3 = re x) (t : Fin cfg0.N) : iblk m c 0 t = (re (tile x t) : S1x4x256x128.Idx → EReal) := by
  funext y
  blk_simp [iblk]
  rw [h]
  refine congrArg (fun i => ((x i : ℝ) : EReal)) ?_
  blk_ext [index_0, pairOf, resOf]

theorem iblk_1 (x : Arr) (h : V m c main_arg1 = re x) (t : Fin cfg0.N) : iblk m c 1 t = (re (tile x t) : S1x4x256x128.Idx → EReal) := by
  funext y
  blk_simp [iblk]
  rw [h]
  refine congrArg (fun i => ((x i : ℝ) : EReal)) ?_
  blk_ext [index_1, pairOf, resOf]

theorem iblk_2 (x : Arr) (h : V m c main_arg2 = re x) (t : Fin cfg0.N) : iblk m c 2 t = (re (tile x t) : S1x4x256x128.Idx → EReal) := by
  funext y
  blk_simp [iblk]
  rw [h]
  refine congrArg (fun i => ((x i : ℝ) : EReal)) ?_
  blk_ext [index_2, pairOf, resOf]

theorem iblk_3 (x : Arr) (h : V m c main_arg3 = re x) (t : Fin cfg0.N) : iblk m c 3 t = (re (tile x t) : S1x4x256x128.Idx → EReal) := by
  funext y
  blk_simp [iblk]
  rw [h]
  refine congrArg (fun i => ((x i : ℝ) : EReal)) ?_
  blk_ext [index_3, pairOf, resOf]

theorem iblk_4 (x : Arr) (h : V m c main_arg4 = re x) (t : Fin cfg0.N) : iblk m c 4 t = (re (tile x t) : S1x4x256x128.Idx → EReal) := by
  funext y
  blk_simp [iblk]
  rw [h]
  refine congrArg (fun i => ((x i : ℝ) : EReal)) ?_
  blk_ext [index_4, pairOf, resOf]

/-! ## The arrays after the run -/

variable {q k v a l : Arr} (hq : V m c main_v3 = re q) (hk : V m c main_arg1 = re k) (hv : V m c main_arg2 = re v)
  (ha : V m c main_arg3 = re a) (hl : V m c main_arg4 = re l)

/-- Where a tile's element lies in the array. -/
def place (t : Fin cfg0.N) (y : S1x4x256x128.Idx) : S2x16x256x128.Idx := ix4 (pairOf t) (resOf t (y 1)) (y 2) (y 3)

include hq hk hv ha hl in
theorem final_dq : (dats m 0 c).arrAt 5 cfg0.N = re (dQ q k v a l) := by
  refine (dats m 0 c).arrAt_eq_of_covers 5 _ (by decide +kernel) fun t hf y => ?_
  blk_simp
  rw [after_5, iblk_0 m c _ hq t, iblk_1 m c _ hk t, iblk_2 m c _ hv t, iblk_3 m c _ ha t, iblk_4 m c _ hl t]
  rw [show (win0_5.blk t).view.emb y = place t y by blk_ext [index_5, place, pairOf, resOf]]
  obtain ⟨p, r, i, d, rfl⟩ : ∃ (p : Fin 1) (r : Fin 4) (i : Fin 256) (d : Fin 128), y = ix4 p r i d :=
    ⟨y 0, y 1, y 2, y 3, funext fun b => by fin_cases b <;> rfl⟩
  exact dqTile_re (tile q t) (tile k t) (tile v t) (tile a t) (tile l t) p r i d

include hq hk hv ha hl in
theorem final_dk : (dats m 0 c).arrAt 6 cfg0.N = re (dK q k v a l) := by
  refine (dats m 0 c).arrAt_eq_of_covers 6 _ (by decide +kernel) fun t hf y => ?_
  blk_simp
  rw [after_6, iblk_0 m c _ hq t, iblk_1 m c _ hk t, iblk_2 m c _ hv t, iblk_3 m c _ ha t, iblk_4 m c _ hl t]
  rw [show (win0_6.blk t).view.emb y = place t y by blk_ext [index_6, place, pairOf, resOf]]
  obtain ⟨p, r, i, d, rfl⟩ : ∃ (p : Fin 1) (r : Fin 4) (i : Fin 256) (d : Fin 128), y = ix4 p r i d :=
    ⟨y 0, y 1, y 2, y 3, funext fun b => by fin_cases b <;> rfl⟩
  exact dkTile_re (tile q t) (tile k t) (tile v t) (tile a t) (tile l t) p r i d

include hq hk ha in
theorem final_dv : (dats m 0 c).arrAt 7 cfg0.N = re (dV q k a) := by
  refine (dats m 0 c).arrAt_eq_of_covers 7 _ (by decide +kernel) fun t hf y => ?_
  blk_simp
  rw [after_7, iblk_0 m c _ hq t, iblk_1 m c _ hk t, iblk_3 m c _ ha t]
  rw [show (win0_7.blk t).view.emb y = place t y by blk_ext [index_7, place, pairOf, resOf]]
  obtain ⟨p, r, i, d, rfl⟩ : ∃ (p : Fin 1) (r : Fin 4) (i : Fin 256) (d : Fin 128), y = ix4 p r i d :=
    ⟨y 0, y 1, y 2, y 3, funext fun b => by fin_cases b <;> rfl⟩
  exact dvTile_re (tile q t) (tile k t) (tile a t) p r i d

/-! ## The host lines before the call -/

/-- The scaled queries. -/
def eighth (x : Arr) : Arr := fun i => x i * (1 / 8)

theorem ofBits_eighth : Ideal.ofBits FTy.f32 0x3E000000#32 = ((1 / 8 : ℝ) : EReal) := by
  simp [Ideal.ofBits, Ideal.ieee, -EReal.coe_mul]; norm_num

theorem entry_q (x : Arr) (h : m ((c : Thread nD τ).loc main_arg0) = (re x : S2x16x256x128.Idx → EReal)) : V m c main_v3 = re (eighth x) := by
  simp only [V, V0, hostOps0, List.flatten_cons, List.flatten_nil, List.append_nil, List.cons_append, List.nil_append]
  after_results
  rw [h]
  funext j
  idx_vars j
  pointwise [re, eighth]
  rw [ofBits_eighth, EReal.coe_mul]

theorem run_value : θ_run defs (onTc (τ := τ) (main (F := Ideal))) (s₀ m ρ) (fun r => ∀ c : Dev nD, ∀ q k v a l : Arr,
    m ((c : Thread nD τ).loc main_arg0) = (re q : S2x16x256x128.Idx → EReal) →
    m ((c : Thread nD τ).loc main_arg1) = (re k : S2x16x256x128.Idx → EReal) →
    m ((c : Thread nD τ).loc main_arg2) = (re v : S2x16x256x128.Idx → EReal) →
    m ((c : Thread nD τ).loc main_arg3) = (re a : S2x16x256x128.Idx → EReal) →
    m ((c : Thread nD τ).loc main_arg4) = (re l : S2x16x256x128.Idx → EReal) →
    r.2.mem ((c : Thread nD τ).loc main_v6) = (re (eighth (dQ (eighth q) k v a l)) : S2x16x256x128.Idx → EReal)
    ∧ r.2.mem ((c : Thread nD τ).loc main_v4_1) = (re (dK (eighth q) k v a l) : S2x16x256x128.Idx → EReal)
    ∧ r.2.mem ((c : Thread nD τ).loc main_v4_2) = (re (dV (eighth q) k a) : S2x16x256x128.Idx → EReal)) := by
  refine (θ_run defs _ _).mono (fun r h c q k v a l h0 h1 h2 h3 h4 => ?_) (run_main m ρ)
  have e0 := entry_q m c q h0
  have e1 := (V_main_arg1 m c).trans h1
  have e2 := (V_main_arg2 m c).trans h2
  have e3 := (V_main_arg3 m c).trans h3
  have e4 := (V_main_arg4 m c).trans h4
  refine ⟨?_, ((h.1 c).1 6).trans (final_dk m c e0 e1 e2 e3 e4), ((h.1 c).1 7).trans (final_dv m c e0 e1 e3)⟩
  refine ((h.1 c).2 main_v6 (Pipeline.mem_restRefs_of main_v6 (by decide) (by decide))).trans ?_
  unfold Pipeline.afterTail₀
  simp only [hostOps1, List.flatten_cons, List.flatten_nil, List.append_nil, List.cons_append, List.nil_append]
  after_results
  have e : Pipeline.withArrays (cfgs 0).spec c (V0 m c) (fun w => (dats m 0 c).arrAt w (cfgs 0).N) (Proc.tc.devRef main_v4_0)
      = (re (dQ (eighth q) k v a l) : S2x16x256x128.Idx → EReal) :=
    (Pipeline.withArrays_arr spec0 launch0.win.arr_inj c (V0 m c) (fun w => (dats m 0 c).arrAt w cfg0.N) 5).trans (final_dq m c e0 e1 e2 e3 e4)
  rw [e]
  funext j
  idx_vars j
  pointwise [re, eighth]
  rw [ofBits_eighth, EReal.coe_mul]

end Cert.KernelIdeal.Band

end
-- ==== Proof.Band.RefValue.lean ====
module

public import proofs.«01_k».proof.Proof.Band.Blocks
public import proofs.«01_k».proof.Proof.Band.KernelResult
public import proofs.«01_k».proof.Proof.Gen.ReferenceIdeal.Run

@[expose] public section

set_option maxRecDepth 16384

noncomputable section

/-! # The reference's arrays, at real arguments

The reference cuts a sequence into four blocks of 64 queries and gives each block the 192 keys from one block before it
to one block after it, zeros where the sequence has none. Entry (b, c) of such a band is key 64 b + c - 64. -/

namespace Cert.ReferenceIdeal.Band

open Idealize.ShloMosaic Idealize.ShloMosaic.TcCoe Idealize.ShloMosaic.WordCmp
open Idealize.ShloMosaic.StableHlo
open Cert.ReferenceIdeal Cert.ReferenceIdeal.Gen Cert.ReferenceIdeal.Value
open Cert.Band (near_key atKey_of atKey_far raw_far weight_far cot_far atKey_mul atKey_mul_left atKey_mul_right atKey_sum sum_atKey sum_near queryAt IsKey InBand atKey Near dots raw total weight cot gradQ gradK gradV)
open Cert.KernelIdeal.Band (re coe_sum Arr headAt colAt laneHead laneIn dQ dK dV eighth ofBits_neg_inf ofBits_eighth div_re)

/-- The rows of sequence `n`, of the 64 of two pairs, 16 residues and two heads. -/
def seq (x : Arr) (n : Fin 64) : Cert.Band.Rows := headAt x ⟨n.val / 32, by omega⟩ ⟨n.val / 2 % 16, by omega⟩ ⟨n.val % 2, by omega⟩
def seqCol (x : Arr) (n : Fin 64) : Fin 256 → ℝ := colAt x ⟨n.val / 32, by omega⟩ ⟨n.val / 2 % 16, by omega⟩ ⟨n.val % 2, by omega⟩

variable (V0 : Valuation τ sig (Elt Ideal)) {q k v a l : Arr}
  (hq : V0 (Proc.devRef .tc main_arg0) = (re q : S2x16x256x128.Idx → EReal))
  (hk : V0 (Proc.devRef .tc main_arg1) = (re k : S2x16x256x128.Idx → EReal))
  (hv : V0 (Proc.devRef .tc main_arg2) = (re v : S2x16x256x128.Idx → EReal))
  (ha : V0 (Proc.devRef .tc main_arg3) = (re a : S2x16x256x128.Idx → EReal))
  (hl : V0 (Proc.devRef .tc main_arg4) = (re l : S2x16x256x128.Idx → EReal))

include hq in
theorem v21_at (n : Fin 64) (b : Fin 4) (i d : Fin 64) : res_main_v21 V0 (ix4 n b i d) = ((seq q n (queryAt b i) d : ℝ) : EReal) := by
  unfold res_main_v21
  rw [hq]
  clean_types
  pointwise [re]
  refine congrArg (fun i => ((q i : ℝ) : EReal)) (congr_arg₂ (ix4 _ _) ?_ ?_) <;> refine Fin.ext ?_ <;> simp only [queryAt] <;> omega

include ha in
theorem v82_at (n : Fin 64) (b : Fin 4) (i d : Fin 64) : res_main_v82 V0 (ix4 n b i d) = ((seq a n (queryAt b i) d : ℝ) : EReal) := by
  unfold res_main_v82
  rw [ha]
  clean_types
  pointwise [re]
  refine congrArg (fun i => ((a i : ℝ) : EReal)) (congr_arg₂ (ix4 _ _) ?_ ?_) <;> refine Fin.ext ?_ <;> simp only [queryAt] <;> omega

/-- A padded sequence in blocks. -/
def padded (x : Arr) (n : Fin 64) (t : ℕ) (d : Fin 64) : EReal :=
  if h : t < 64 then 0 else if h : t - 64 < 256 then ((seq x n ⟨t - 64, h⟩ d : ℝ) : EReal) else 0

theorem padded_key (x : Arr) (n : Fin 64) (b : Fin 4) (c : Fin 192) (t : ℕ) (ht : t = 64 * b.val + c.val) (d : Fin 64) :
    padded x n t d = ((atKey (fun j => seq x n j d) b c : ℝ) : EReal) := by
  subst ht
  unfold padded atKey IsKey
  by_cases h1 : 64 * b.val + c.val < 64
  · rw [dif_pos h1, dif_neg (by omega)]; rfl
  · by_cases h2 : 64 * b.val + c.val - 64 < 256
    · rw [dif_neg h1, dif_pos h2, dif_pos ⟨by omega, by omega⟩]
    · rw [dif_neg h1, dif_neg h2, dif_neg (by omega)]; rfl

include hk in
theorem v26_at (n : Fin 64) (b : Fin 6) (i d : Fin 64) : res_main_v26 V0 (ix4 n b i d) = padded k n (b.val * 64 + i.val) d := by
  unfold res_main_v26 res_main_v22
  rw [hk]
  clean_types
  pointwise [re]
  unfold padded
  congr! 2
  refine congrArg (fun i => ((k i : ℝ) : EReal)) (congr_arg₂ (ix4 _ _) ?_ ?_) <;> refine Fin.ext ?_ <;> simp only [queryAt] <;> omega

include hv in
theorem v35_at (n : Fin 64) (b : Fin 6) (i d : Fin 64) : res_main_v35 V0 (ix4 n b i d) = padded v n (b.val * 64 + i.val) d := by
  unfold res_main_v35 res_main_v31
  rw [hv]
  clean_types
  pointwise [re]
  unfold padded
  congr! 2
  refine congrArg (fun i => ((v i : ℝ) : EReal)) (congr_arg₂ (ix4 _ _) ?_ ?_) <;> refine Fin.ext ?_ <;> simp only [queryAt] <;> omega

include hk in
theorem v30_at (n : Fin 64) (b : Fin 4) (c : Fin 192) (d : Fin 64) :
    res_main_v30 V0 (ix4 n b c d) = ((atKey (fun j => seq k n j d) b c : ℝ) : EReal) := by
  rw [← padded_key k n b c _ rfl d]
  unfold res_main_v30
  clean_types
  pointwise
  simp only [v26_at V0 hk]
  split_ifs <;> exact congrArg (padded k n · d) (by omega)

include hv in
theorem v39_at (n : Fin 64) (b : Fin 4) (c : Fin 192) (d : Fin 64) :
    res_main_v39 V0 (ix4 n b c d) = ((atKey (fun j => seq v n j d) b c : ℝ) : EReal) := by
  rw [← padded_key v n b c _ rfl d]
  unfold res_main_v39
  clean_types
  pointwise
  simp only [v35_at V0 hv]
  split_ifs <;> exact congrArg (padded v n · d) (by omega)

theorem valid_at (n : Fin 64) (b : Fin 4) (i : Fin 64) (c : Fin 192) :
    (res_main_v70_1 V0 : IVec S64x4x64x192 1) (ix4 n b i c) = 1#1 ↔ IsKey b c ∧ InBand i c := by
  rw [← Cert.Band.band_word]
  unfold res_main_v70_1 res_main_v56
  clean_types
  pointwise

/-- The scores' scale, on the queries. -/
theorem dots_eighth (q k : Arr) (n : Fin 64) (i j : Fin 256) : dots (seq q n) (seq k n) i j * (1 / 8) = dots (seq (eighth q) n) (seq k n) i j := by
  unfold dots
  rw [Finset.sum_mul]
  exact Finset.sum_congr rfl fun d _ => by show _ = (seq q n i d * (1 / 8)) * _; ring

include hq hk in
theorem v70_at (n : Fin 64) (b : Fin 4) (i : Fin 64) (c : Fin 192) : res_main_v70_0 V0 (ix4 n b i c)
    = if IsKey b c ∧ InBand i c then ((atKey (dots (seq (eighth q) n) (seq k n) (queryAt b i)) b c : ℝ) : EReal) else ⊥ := by
  unfold res_main_v70_0
  clean_types
  pointwise
  simp only [v21_at V0 hq, v30_at V0 hk]
  rw [show id (constant (F := Ideal) S_ FTy.f32 0xFF800000#32) ix0 = ⊥ from ofBits_neg_inf, ofBits_eighth]
  simp only [← EReal.coe_mul, ← coe_sum]
  unfold Scalar.select
  refine if_congr (valid_at V0 n b i c) (congrArg _ ?_) rfl
  simp only [atKey_mul_left]
  rw [atKey_sum, atKey_mul_right]
  exact congrArg (atKey · b c) (funext fun j => dots_eighth q k n _ j)

include hq hk in
theorem v71_at (n : Fin 64) (b : Fin 4) (i : Fin 64) (c : Fin 192) : res_main_v71 V0 (ix4 n b i c)
    = ((atKey (raw (seq (eighth q) n) (seq k n) (queryAt b i)) b c : ℝ) : EReal) := by
  unfold res_main_v71
  clean_types
  pointwise
  rw [v70_at V0 hq hk]
  by_cases h : IsKey b c ∧ InBand i c
  · rw [if_pos h, atKey_of _ h.1, atKey_of _ h.1]
    unfold raw
    rw [if_pos ((near_key h.1 i).2 h.2)]
    rfl
  · rw [if_neg h, atKey_far (raw_far _ _ _) h]
    rfl

include hq hk in
theorem v72_at (n : Fin 64) (b : Fin 4) (i : Fin 64) : res_main_v72 V0 (ix3 n b i)
    = ((total (seq (eighth q) n) (seq k n) (queryAt b i) : ℝ) : EReal) := by
  unfold res_main_v72
  clean_types
  pointwise
  simp only [v71_at V0 hq hk]
  rw [← coe_sum, sum_atKey _ b i (raw_far _ _ _)]
  rfl

include hq hk in
theorem v73_at (n : Fin 64) (b : Fin 4) (i : Fin 64) : res_main_v73 V0 (ix3 n b i)
    = ((Real.log (total (seq (eighth q) n) (seq k n) (queryAt b i)) : ℝ) : EReal) := by
  unfold res_main_v73
  clean_types
  pointwise
  rw [v72_at V0 hq hk]
  exact if_neg (not_le.2 (Cert.Band.total_pos _ _ _))

include hq hk in
theorem v77_at (n : Fin 64) (b : Fin 4) (i : Fin 64) (c : Fin 192) : res_main_v77 V0 (ix4 n b i c)
    = ((atKey (weight (seq (eighth q) n) (seq k n) (queryAt b i)) b c : ℝ) : EReal) := by
  unfold res_main_v77
  clean_types
  pointwise
  rw [v70_at V0 hq hk, v73_at V0 hq hk]
  by_cases h : IsKey b c ∧ InBand i c
  · rw [if_pos h, atKey_of _ h.1, atKey_of _ h.1]
    unfold weight raw
    rw [if_pos ((near_key h.1 i).2 h.2), ← EReal.coe_sub]
    refine congrArg (fun x : ℝ => (x : EReal)) ?_
    rw [Real.exp_sub, Real.exp_log (Cert.Band.total_pos _ _ _)]
  · rw [if_neg h, atKey_far (weight_far _ _ _) h]
    rfl

include hq hk ha in
theorem v84_at (n : Fin 64) (b : Fin 4) (c : Fin 192) (d : Fin 64) : res_main_v84 V0 (ix4 n b c d)
    = ((atKey (fun j => ∑ i, weight (seq (eighth q) n) (seq k n) (queryAt b i) j * seq a n (queryAt b i) d) b c : ℝ) : EReal) := by
  unfold res_main_v84
  clean_types
  pointwise
  simp only [v82_at V0 ha, v77_at V0 hq hk, ← EReal.coe_mul, ← coe_sum, atKey_mul_left]
  rw [atKey_sum]
  simp only [mul_comm]

include hq hk hv ha in
theorem v86_at (n : Fin 64) (b : Fin 4) (i : Fin 64) (c : Fin 192) : res_main_v86 V0 (ix4 n b i c)
    = ((atKey (fun j => dots (seq a n) (seq v n) (queryAt b i) j * weight (seq (eighth q) n) (seq k n) (queryAt b i) j) b c : ℝ) : EReal) := by
  unfold res_main_v86
  clean_types
  pointwise
  simp only [v82_at V0 ha, v39_at V0 hv, v77_at V0 hq hk, ← EReal.coe_mul, ← coe_sum, atKey_mul_left]
  rw [atKey_sum, ← atKey_mul_left, atKey_mul]
  rfl

include hq hk hv ha hl in
theorem v98_at (n : Fin 64) (b : Fin 4) (i : Fin 64) (c : Fin 192) : res_main_v98 V0 (ix4 n b i c)
    = ((atKey (fun j => cot (seq (eighth q) n) (seq k n) (seq v n) (seq a n) (seqCol l n) (queryAt b i) j * (1 / 8)) b c : ℝ) : EReal) := by
  unfold res_main_v98
  rw [hl]
  clean_types
  pointwise [re]
  rw [Fin.sum_univ_one, ofBits_eighth, v72_at V0 hq hk, v71_at V0 hq hk]
  simp only [v86_at V0 hq hk hv ha, ← EReal.coe_neg, ← coe_sum]
  rw [Finset.sum_neg_distrib, sum_atKey _ b i (fun j h => by rw [weight_far _ _ _ _ h, mul_zero]),
    ← EReal.coe_add, div_re _ _ (Cert.Band.total_pos _ _ _).ne', ← EReal.coe_mul, ← EReal.coe_add, ← EReal.coe_mul]
  unfold Scalar.select
  by_cases h : IsKey b c ∧ InBand i c
  · refine (if_pos ((valid_at V0 n b i c).2 h)).trans (congrArg (fun x : ℝ => (x : EReal)) ?_)
    simp only [atKey_of _ h.1]
    unfold cot
    rw [show l (ix4 ⟨n.val / 32, by omega⟩ ⟨n.val / 2 % 16, by omega⟩ ⟨b.val * 64 + i.val, by omega⟩ ⟨n.val % 2 * 64, by omega⟩)
        = seqCol l n (queryAt b i) from
      congrArg₂ (fun s t => l (ix4 ⟨n.val / 32, by omega⟩ ⟨n.val / 2 % 16, by omega⟩ s t))
        (Fin.ext (by simp only [queryAt]; omega)) (Fin.ext (Nat.mul_comm _ _))]
    unfold weight
    ring
  · refine (if_neg fun h' => h ((valid_at V0 n b i c).1 h')).trans (congrArg (fun x : ℝ => (x : EReal)) (atKey_far ?_ h).symm)
    intro j hj
    rw [cot_far _ _ _ _ _ _ _ hj, zero_mul]

include hq hk hv ha hl in
theorem v99_at (n : Fin 64) (b : Fin 4) (c : Fin 192) (d : Fin 64) : res_main_v99 V0 (ix4 n b c d)
    = ((atKey (fun j => ∑ i, cot (seq (eighth q) n) (seq k n) (seq v n) (seq a n) (seqCol l n) (queryAt b i) j
        * seq (eighth q) n (queryAt b i) d) b c : ℝ) : EReal) := by
  unfold res_main_v99
  clean_types
  pointwise
  simp only [v21_at V0 hq, v98_at V0 hq hk hv ha hl, ← EReal.coe_mul, ← coe_sum, atKey_mul_right]
  rw [atKey_sum]
  refine congrArg (fun f => ((atKey f b c : ℝ) : EReal)) (funext fun j => Finset.sum_congr rfl fun i _ => ?_)
  unfold seq headAt eighth
  ring

/-- Three shifted bands put over one another hold, at a key, the sum over all queries. -/
theorem overlap (g : Fin 256 → Fin 256 → ℝ) (hg : ∀ i j, ¬ Near i.val j.val → g i j = 0) (j : Fin 256) :
    (((if h : (2 ≤ (64 + j.val) / 64 ∧ (64 + j.val) / 64 - 2 < 4) ∧ (64 + j.val) % 64 < 64 then
          ((atKey (fun j' => ∑ i, g (queryAt ⟨(64 + j.val) / 64 - 2, h.1.2⟩ i) j') ⟨(64 + j.val) / 64 - 2, h.1.2⟩
            ⟨128 + (64 + j.val) % 64, by omega⟩ : ℝ) : EReal)
        else 0) +
        if h : (1 ≤ (64 + j.val) / 64 ∧ (64 + j.val) / 64 - 1 < 4) ∧ (64 + j.val) % 64 < 64 then
          ((atKey (fun j' => ∑ i, g (queryAt ⟨(64 + j.val) / 64 - 1, h.1.2⟩ i) j') ⟨(64 + j.val) / 64 - 1, h.1.2⟩
            ⟨64 + (64 + j.val) % 64, by omega⟩ : ℝ) : EReal)
        else 0) +
      if h : (64 + j.val) / 64 < 4 ∧ (64 + j.val) % 64 < 64 then
        ((atKey (fun j' => ∑ i, g (queryAt ⟨(64 + j.val) / 64, h.1⟩ i) j') ⟨(64 + j.val) / 64, h.1⟩
            ⟨(64 + j.val) % 64, by omega⟩ : ℝ) : EReal)
      else 0) = ((∑ i, g i j : ℝ) : EReal) := by
  have key : ∀ (b : Fin 4) (c : Fin 192), 64 * b.val + c.val = 64 + j.val →
      atKey (fun j => ∑ i, g (queryAt b i) j) b c = ∑ i, g (queryAt b i) j := fun b c h => by
    rw [atKey_of _ (by unfold IsKey; omega)]
    exact congrArg (fun j => ∑ i, g (queryAt b i) j) (Fin.ext (by simp only; omega))
  rw [← sum_near (fun i => g i j) j (fun i h => hg i j h)]
  simp only [EReal.coe_add]
  refine congrArg₂ (· + ·) (congrArg₂ (· + ·) ?_ ?_) ?_
  · split <;> rename_i h
    · rw [dif_pos (by omega), key _ _ (by simp only; omega)]
      exact congrArg _ (Finset.sum_congr rfl fun i _ => congrArg (fun b => g (queryAt b i) j) (Fin.ext (by simp only; omega)))
    · rw [dif_neg (by omega)]
      rfl
  · rw [dif_pos (by omega), key _ _ (by simp only; omega)]
    exact congrArg _ (Finset.sum_congr rfl fun i _ => congrArg (fun b => g (queryAt b i) j) (Fin.ext (by simp only; omega)))
  · split <;> rename_i h
    · rw [dif_pos (by omega), key _ _ (by simp only; omega)]
      exact congrArg _ (Finset.sum_congr rfl fun i _ => congrArg (fun b => g (queryAt b i) j) (Fin.ext (by simp only; omega)))
    · rw [dif_neg (by omega)]
      rfl

include hq hk ha in
theorem v109_at (n : Fin 64) (j : Fin 256) (d : Fin 64) : res_main_v109 V0 (ix3 n ⟨64 + j.val, by omega⟩ d)
    = ((gradV (seq (eighth q) n) (seq k n) (seq a n) j d : ℝ) : EReal) := by
  unfold res_main_v109
  clean_types
  pointwise
  simp only [v84_at V0 hq hk ha]
  exact overlap (fun i j => weight (seq (eighth q) n) (seq k n) i j * seq a n i d)
    (fun i j h => by simp only [weight_far _ _ _ _ h, zero_mul]) j

include hq hk hv ha hl in
theorem v121_at (n : Fin 64) (j : Fin 256) (d : Fin 64) : res_main_v121 V0 (ix3 n ⟨64 + j.val, by omega⟩ d)
    = ((gradK (seq (eighth q) n) (seq k n) (seq v n) (seq a n) (seqCol l n) j d : ℝ) : EReal) := by
  unfold res_main_v121
  clean_types
  pointwise
  simp only [v99_at V0 hq hk hv ha hl]
  exact overlap (fun i j => cot (seq (eighth q) n) (seq k n) (seq v n) (seq a n) (seqCol l n) i j * seq (eighth q) n i d)
    (fun i j h => by simp only [cot_far _ _ _ _ _ _ _ h, zero_mul]) j

/-- The sequence of a plane, a row and a head. -/
def seqOf (p : Fin 2) (r : Fin 16) (h : Fin 2) : Fin 64 := ⟨p.val * 32 + r.val * 2 + h.val, by omega⟩

theorem seq_of (x : Arr) (p : Fin 2) (r : Fin 16) (h : Fin 2) : seq x (seqOf p r h) = headAt x p r h := by
  unfold seq seqOf
  congr 1 <;> exact Fin.ext (by simp only; omega)

theorem seqCol_of (x : Arr) (p : Fin 2) (r : Fin 16) (h : Fin 2) : seqCol x (seqOf p r h) = colAt x p r h := by
  unfold seqCol seqOf
  congr 1 <;> exact Fin.ext (by simp only; omega)

include hq hk hv ha hl in
theorem result_q : (shapeCast S2x16x256x128 (transpose S2x16x256x2x64 [0, 1, 3, 2, 4] (shapeCast S2x16x2x256x64 (shapeCast S64x256x64 (Host.dotGeneral (φ₁ := .f32) (φ₂ := .f32) dot_S64x4x64x192_S64x4x192x64_S64x4x64x64_3_2_2_3_01_01 none (res_main_v98 V0) (res_main_v30 V0)) shapeCasts_S64x4x64x64_S64x256x64) shapeCasts_S64x256x64_S2x16x2x256x64) transposes_S2x16x2x256x64_S2x16x256x2x64_0_1_3_2_4) shapeCasts_S2x16x256x2x64_S2x16x256x128 : S2x16x256x128.Idx → EReal)
    = re (eighth (dQ (eighth q) k v a l)) := by
  funext j
  idx_vars j
  clean_types
  pointwise [re]
  simp only [v98_at V0 hq hk hv ha hl, v30_at V0 hk, ← EReal.coe_mul, ← coe_sum, atKey_mul]
  have hj : queryAt ⟨j2.val / 64, by omega⟩ ⟨j2.val % 64, by omega⟩ = j2 := Fin.ext (by simp only [queryAt]; omega)
  refine congrArg (fun x : ℝ => (x : EReal)) ?_
  rw [sum_atKey _ _ ⟨j2.val % 64, by omega⟩ (fun j h => by rw [cot_far _ _ _ _ _ _ _ h, zero_mul, zero_mul]), hj]
  change ∑ j, cot (seq (eighth q) (seqOf j0 j1 (laneHead j3))) (seq k (seqOf j0 j1 (laneHead j3))) (seq v (seqOf j0 j1 (laneHead j3)))
    (seq a (seqOf j0 j1 (laneHead j3))) (seqCol l (seqOf j0 j1 (laneHead j3))) j2 j * (1 / 8)
      * seq k (seqOf j0 j1 (laneHead j3)) j (laneIn j3) = _
  simp only [seq_of, seqCol_of]
  unfold eighth dQ gradQ
  rw [Finset.sum_mul]
  refine Finset.sum_congr rfl fun j _ => ?_
  simp only [ix4_0, ix4_1, ix4_2, ix4_3]
  ring

include hq hk hv ha hl in
theorem result_k : (shapeCast S2x16x256x128 (transpose S2x16x256x2x64 [0, 1, 3, 2, 4] (shapeCast S2x16x2x256x64 (extractStridedSlice S64x256x64 ![0, 64, 0] (res_main_v121 V0) slices_S64x384x64_S64x256x64_0_64_0) shapeCasts_S64x256x64_S2x16x2x256x64) transposes_S2x16x2x256x64_S2x16x256x2x64_0_1_3_2_4) shapeCasts_S2x16x256x2x64_S2x16x256x128 : S2x16x256x128.Idx → EReal)
    = re (dK (eighth q) k v a l) := by
  funext j
  idx_vars j
  clean_types
  pointwise [re]
  refine (v121_at V0 hq hk hv ha hl (seqOf j0 j1 (laneHead j3)) j2 (laneIn j3)).trans (congrArg (fun x : ℝ => (x : EReal)) ?_)
  simp only [seq_of, seqCol_of]
  rfl

include hq hk ha in
theorem result_v : (shapeCast S2x16x256x128 (transpose S2x16x256x2x64 [0, 1, 3, 2, 4] (shapeCast S2x16x2x256x64 (extractStridedSlice S64x256x64 ![0, 64, 0] (res_main_v109 V0) slices_S64x384x64_S64x256x64_0_64_0) shapeCasts_S64x256x64_S2x16x2x256x64) transposes_S2x16x2x256x64_S2x16x256x2x64_0_1_3_2_4) shapeCasts_S2x16x256x2x64_S2x16x256x128 : S2x16x256x128.Idx → EReal)
    = re (dV (eighth q) k a) := by
  funext j
  idx_vars j
  clean_types
  pointwise [re]
  refine (v109_at V0 hq hk ha (seqOf j0 j1 (laneHead j3)) j2 (laneIn j3)).trans (congrArg (fun x : ℝ => (x : EReal)) ?_)
  simp only [seq_of, seqCol_of]
  rfl

/-- The reference's run on real arguments. -/
theorem run_value (m : (ℓ : Loc nD τ sig) → Buf (Elt Ideal) ℓ) (ρ : Dev nD → PrngReg) :
    θ_run defs (onTc (τ := τ) (main (F := Ideal))) ⟨m, fun _ => 0, ρ⟩ (fun r => ∀ c : Dev nD, ∀ q k v a l : Arr,
      m ((c : Thread nD τ).loc main_arg0) = (re q : S2x16x256x128.Idx → EReal) →
      m ((c : Thread nD τ).loc main_arg1) = (re k : S2x16x256x128.Idx → EReal) →
      m ((c : Thread nD τ).loc main_arg2) = (re v : S2x16x256x128.Idx → EReal) →
      m ((c : Thread nD τ).loc main_arg3) = (re a : S2x16x256x128.Idx → EReal) →
      m ((c : Thread nD τ).loc main_arg4) = (re l : S2x16x256x128.Idx → EReal) →
      r.2.mem ((c : Thread nD τ).loc main_v128) = (re (eighth (dQ (eighth q) k v a l)) : S2x16x256x128.Idx → EReal)
      ∧ r.2.mem ((c : Thread nD τ).loc main_v131) = (re (dK (eighth q) k v a l) : S2x16x256x128.Idx → EReal)
      ∧ r.2.mem ((c : Thread nD τ).loc main_v134) = (re (dV (eighth q) k a) : S2x16x256x128.Idx → EReal)) := by
  refine (θ_run defs _ _).mono (fun r h c q k v a l h0 h1 h2 h3 h4 => ?_) (ReferenceIdeal.Value.run (F := Ideal) m ρ)
  obtain ⟨r0, r1, r2, _⟩ := h c
  exact ⟨r0.trans (result_q (launchContents m c) h0 h1 h2 h3 h4), r1.trans (result_k (launchContents m c) h0 h1 h2 h3 h4),
    r2.trans (result_v (launchContents m c) h0 h1 h3)⟩

end Cert.ReferenceIdeal.Band

end
-- ==== Proof.Band.Finite.lean ====
/- What the precondition says: every entry of the five arguments is a real number. -/
module

public import proofs.«01_k».proof.Defs
public import proofs.«01_k».proof.Proof.Band.KernelResult

@[expose] public section

noncomputable section

namespace Cert.Pre_finite_args.Band

open Idealize.ShloMosaic Idealize.ShloMosaic.TcCoe
open Cert.KernelIdeal.Band (re Arr)

instance facts : Cert.Pre_finite_args.Facts := ⟨by decide, by decide⟩

/-- A value whose size is below infinity is a real number. -/
theorem real_of_test (x : EReal) (h : Ideal.cmp .olt (max x (-x)) (Ideal.ofBits .f32 0x7F800000#32) = 1#1) : ((x.toReal : ℝ) : EReal) = x := by
  have e : Ideal.ofBits .f32 0x7F800000#32 = ⊤ := by
    simp [Ideal.ofBits, Ideal.ieee]
  rw [e] at h
  have lt : max x (-x) < ⊤ := by
    by_contra hn
    have : Ideal.cmp .olt (max x (-x)) ⊤ = 0#1 := by
      unfold Ideal.cmp
      simp [hn]
    rw [this] at h
    exact absurd h (by decide)
  refine EReal.coe_toReal (fun ht => ?_) (fun hb => ?_)
  · subst ht; exact absurd lt (by simp)
  · subst hb; exact absurd lt (by simp)

theorem real_of_all (x : S2x16x256x128.Idx → EReal)
    (h : (cmpf (F := Ideal) .olt (Host.absf (F := Ideal) (φ := .f32) x) (broadcastInDim S2x16x256x128 ![] Facts.bcast_S_S2x16x256x128 (constant S_ .f32 0x7F800000#32)) : IVec S2x16x256x128 1) = fun _ => 1#1) :
    x = (re (fun j => (x j).toReal : Arr) : S2x16x256x128.Idx → EReal) := by
  funext j
  have e := congrFun h j
  exact (real_of_test (x j) e).symm

theorem real_args (q k v a l : S2x16x256x128.Idx → EReal)
    (h : (Cert.Pre_finite_args.fn (F := Ideal) q k v a l).1 = (fun _ => 1#1)
      ∧ (Cert.Pre_finite_args.fn (F := Ideal) q k v a l).2.1 = (fun _ => 1#1)
      ∧ (Cert.Pre_finite_args.fn (F := Ideal) q k v a l).2.2.1 = (fun _ => 1#1)
      ∧ (Cert.Pre_finite_args.fn (F := Ideal) q k v a l).2.2.2.1 = (fun _ => 1#1)
      ∧ (Cert.Pre_finite_args.fn (F := Ideal) q k v a l).2.2.2.2 = (fun _ => 1#1)) :
    ∃ q' k' v' a' l' : Arr, q = (re q' : S2x16x256x128.Idx → EReal) ∧ k = (re k' : S2x16x256x128.Idx → EReal)
      ∧ v = (re v' : S2x16x256x128.Idx → EReal) ∧ a = (re a' : S2x16x256x128.Idx → EReal) ∧ l = (re l' : S2x16x256x128.Idx → EReal) :=
  ⟨_, _, _, _, _, real_of_all q h.1, real_of_all k h.2.1, real_of_all v h.2.2.1, real_of_all a h.2.2.2.1, real_of_all l h.2.2.2.2⟩

end Cert.Pre_finite_args.Band

end
-- ==== Proof.Products.DMlpDown.lean ====
module

public import proofs.«01_k».proof.Defs
public import proofs.«01_k».proof.Proof.Gen.Kernel2Ideal.Value
public import proofs.«01_k».proof.Proof.Gen.Reference2Ideal.Run
public import Idealize.ShloMosaic.Lib.Pipeline.ValueKit

@[expose] public section

set_option maxRecDepth 16384

noncomputable section

/-! # The gradient of the first product of the channel mixer

The cotangent goes through the second weight and is multiplied with twice the positive part of the first product. -/

namespace Cert.Kernel2Ideal.Product

open Idealize.ShloMosaic Idealize.ShloMosaic.TcCoe
open Cert.Kernel2Ideal Cert.Kernel2Ideal.Gen

/-- The gradient at a token and a hiddenGrad unit. -/
def hiddenGrad (dh : S4096x1024.Idx → EReal) (u : S4096x4096.Idx → EReal) (w : S4096x1024.Idx → EReal) : S4096x4096.Idx → EReal := fun i =>
  (∑ k : Fin 1024, dh (ix2 (i 0) k) * w (ix2 (i 1) k)) * (2 * max (u i) 0)

theorem index_0 : ∀ t : Fin cfg0.N, win0_0.index t = ![t.val / 4, 0] := (by decide +kernel : ∀ t : Fin grid0.N, _)
theorem index_1 : ∀ t : Fin cfg0.N, win0_1.index t = ![t.val % 4, 1, 0] := (by decide +kernel : ∀ t : Fin grid0.N, _)
theorem index_2 : ∀ t : Fin cfg0.N, win0_2.index t = ![t.val / 4, t.val % 4] := (by decide +kernel : ∀ t : Fin grid0.N, _)
theorem index_3 : ∀ t : Fin cfg0.N, win0_3.index t = ![t.val / 4, t.val % 4] := (by decide +kernel : ∀ t : Fin grid0.N, _)

variable (m : (ℓ : Loc nD τ sig) → Buf (Elt Ideal) ℓ) (c : Dev nD)

set_option maxHeartbeats 1100000 in
/-- The packed weights. -/
theorem packed_eq : V m c main_v8 = (truncf .bf16 (concatenate S4x2368x1024 1 [⟨S4x1024x1024, transpose S4x1024x1024 [1, 0, 2] (shapeCast S1024x4x1024 (m ((c : Thread nD τ).loc main_arg2)) shapeCasts_S1024x4096_S1024x4x1024) transposes_S1024x4x1024_S4x1024x1024_1_0_2⟩,
    ⟨S4x1024x1024, shapeCast S4x1024x1024 (m ((c : Thread nD τ).loc main_arg3)) shapeCasts_S4096x1024_S4x1024x1024⟩,
    ⟨S4x256x1024, shapeCast S4x256x1024 (m ((c : Thread nD τ).loc main_arg4)) shapeCasts_S1024x1024_S4x256x1024⟩,
    ⟨S4x64x1024, shapeCast S4x64x1024 (transpose S4x256x256 [1, 0, 2] (shapeCast S256x4x256 (m ((c : Thread nD τ).loc main_arg5)) shapeCasts_S256x1024_S256x4x256) transposes_S256x4x256_S4x256x256_1_0_2) shapeCasts_S4x256x256_S4x64x1024⟩]
    concatenates_S4x1024x1024_S4x1024x1024_S4x256x1024_S4x64x1024_S4x2368x1024_d1 : FVec Ideal S4x2368x1024 .f32) bitsLt_bf16_f32 : FVec Ideal S4x2368x1024 .bf16) := by
  simp only [V, hostOps0, List.flatten_cons, List.flatten_nil, List.append_nil, List.cons_append, List.nil_append]
  after_results <;> rfl

/-- Rows 1024 to 2047 of the four parts set on top of each other are the second part. -/
theorem second_part (w0 w1 : FVec Ideal S4x1024x1024 .f32) (w2 : FVec Ideal S4x256x1024 .f32) (w3 : FVec Ideal S4x64x1024 .f32) (p : Fin 4) (r d : Fin 1024) :
    (truncf .bf16 (concatenate S4x2368x1024 1 [⟨S4x1024x1024, w0⟩, ⟨S4x1024x1024, w1⟩, ⟨S4x256x1024, w2⟩, ⟨S4x64x1024, w3⟩]
      concatenates_S4x1024x1024_S4x1024x1024_S4x256x1024_S4x64x1024_S4x2368x1024_d1 : FVec Ideal S4x2368x1024 .f32) bitsLt_bf16_f32 : FVec Ideal S4x2368x1024 .bf16)
      (ix3 p ⟨1024 + r.val, by omega⟩ d) = w1 (ix3 p r d) := by
  pointwise []

theorem rows_of_chip (w : FVec Ideal S4096x1024 .f32) (p : Fin 4) (r d : Fin 1024) :
    shapeCast S4x1024x1024 w shapeCasts_S4096x1024_S4x1024x1024 (ix3 p r d) = w (ix2 ⟨p.val * 1024 + r.val, by omega⟩ d) := by
  pointwise []

/-- The second weight's rows in the packed weights. -/
theorem packed (p : Fin 4) (r d : Fin 1024) :
    (V m c main_v8 : S4x2368x1024.Idx → EReal) (ix3 p ⟨1024 + r.val, by omega⟩ d) = V m c main_arg3 (ix2 ⟨p.val * 1024 + r.val, by omega⟩ d) := by
  rw [packed_eq, V_main_arg3]
  exact (second_part _ _ _ _ p r d).trans (rows_of_chip _ p r d)

/-- The window of the packed weights, at an index. -/
theorem weight (t : Fin cfg0.N) (r k : Fin 1024) :
    X0_1 m c t (ix3 0 r k) = V m c main_arg3 (ix2 ⟨t.val % 4 * 1024 + r.val, by omega⟩ k) := by
  have ht : t.val < 16 := t.isLt
  unfold X0_1 Pipeline.Window.fill
  rw [dif_pos (moved0_1 t _)]
  refine Eq.trans ?_ (packed m c ⟨t.val % 4, by omega⟩ r k)
  blk_simp [iblk]
  refine congrArg _ ?_
  blk_ext [index_1]

theorem two_eq : (Ideal.ofBits FTy.f32 1073741824#32 : EReal) = 2 := by
  rw [show Ideal.ofBits FTy.f32 1073741824#32 = ((2 : ℝ) : EReal) by simp [Ideal.ofBits, Ideal.ieee, -EReal.coe_mul]; norm_num]
  rfl

/-- The result of the call. -/
theorem final : (dats m 0 c).arrAt 3 cfg0.N = hiddenGrad (V m c main_arg0) (V m c main_arg1) (V m c main_arg3) := by
  refine (dats m 0 c).arrAt_eq_of_covers 3 _ (by decide +kernel) (fun t hf y => ?_)
  blk_simp
  rw [after0_3]
  unfold outsAt0
  frame_out
  have ht : t.val < 16 := t.isLt
  obtain ⟨r, d, rfl⟩ : ∃ (r : Fin 1024) (d : Fin 1024), y = ix2 r d :=
    ⟨y 0, y 1, funext fun b => by fin_cases b <;> rfl⟩
  rw [show ((View.whole main_v9).slice (win0_3.rect t)).emb (ix2 r d) = ix2 ⟨t.val / 4 * 1024 + r.val, by omega⟩ ⟨t.val % 4 * 1024 + d.val, by omega⟩ by blk_ext [index_3]]
  pointwise [k0_pay1, hiddenGrad]
  rw [two_eq]
  refine congrArg₂ (fun a b : EReal => a * (2 * max b 0)) (Finset.sum_congr rfl fun k _ => congrArg₂ (fun a b : EReal => a * b) ?_ (weight m c t d k)) ?_
  · blk_simp [iblk]
    refine congrArg _ ?_
    blk_ext [index_0]
  · blk_simp [iblk]
    refine congrArg _ ?_
    blk_ext [index_2]

end Cert.Kernel2Ideal.Product

namespace Cert.Reference2Ideal.Product

open Idealize.ShloMosaic Idealize.ShloMosaic.TcCoe
open Cert.Reference2Ideal Cert.Reference2Ideal.Gen
open Cert.Kernel2Ideal.Product (hiddenGrad)

theorem result (dh : FVec Ideal S4096x1024 .bf16) (u : FVec Ideal S4096x4096 .bf16) (w : FVec Ideal S4096x1024 .f32) :
    (truncf .bf16 (select (cmpf .ogt (extf .f32 u bitsLt_bf16_f32) (broadcastInDim S4096x4096 ![] bcast_S_S4096x4096 (constant S_ .f32 0x00000000#32))) (mulf (Host.dotGeneral (φ₁ := .f32) (φ₂ := .f32) dot_S4096x1024_S4096x1024_S4096x4096_1_1_0_0_n_n none (extf .f32 dh bitsLt_bf16_f32) w) (mulf (broadcastInDim S4096x4096 ![] bcast_S_S4096x4096 (constant S_ .f32 0x40000000#32)) (maximumf (extf .f32 u bitsLt_bf16_f32) (broadcastInDim S4096x4096 ![] bcast_S_S4096x4096 (constant S_ .f32 0x00000000#32))))) (broadcastInDim S4096x4096 ![] bcast_S_S4096x4096 (constant S_ .f32 0x00000000#32))) bitsLt_bf16_f32 : FVec Ideal S4096x4096 .bf16) = hiddenGrad dh u w := by
  funext i
  idx_vars i
  pointwise [hiddenGrad]
  rw [Kernel2Ideal.Product.two_eq]
  split_ifs with h
  · rfl
  · rw [max_eq_right (not_lt.mp h), mul_zero, mul_zero]

/-- From the same arguments the call and the reference leave the same gradient. -/
theorem same : Cert.algebraic_Kernel2Ideal_Reference2Ideal := fun m g m' g' _ hargs => by
  refine ⟨fun c => hiddenGrad (m (c.tc.loc Kernel2Ideal.main_arg0))
    (m (c.tc.loc Kernel2Ideal.main_arg1))
    (m (c.tc.loc Kernel2Ideal.main_arg3)), ?_, ?_⟩
  · refine (θ_run Kernel2Ideal.defs _ _).mono (fun r h c => ⟨(h c).1.trans ?_, (h c).2⟩) (Kernel2Ideal.Value.run_blocks m g)
    rw [Kernel2Ideal.Product.final, Kernel2Ideal.Gen.V_main_arg0, Kernel2Ideal.Gen.V_main_arg1, Kernel2Ideal.Gen.V_main_arg3]
  · refine (θ_run Reference2Ideal.defs _ _).mono (fun r h c => ⟨(h c).1.trans ?_, (h c).2⟩) (Reference2Ideal.Value.run (F := Ideal) m' g')
    obtain ⟨a0, a1, a2, a3, _⟩ := hargs c
    exact (result _ _ _).trans (by rw [a0, a1, a3])

end Cert.Reference2Ideal.Product

end
-- ==== Proof.Products.GMlpDown.lean ====
module

public import proofs.«01_k».proof.Defs
public import proofs.«01_k».proof.Proof.Gen.Kernel3Ideal.Value
public import proofs.«01_k».proof.Proof.Gen.Reference3Ideal.Run
public import Idealize.ShloMosaic.Lib.Pipeline.ValueKit

@[expose] public section

set_option maxRecDepth 16384

noncomputable section

/-! # The gradient of the second weight of the channel mixer

Row r of chip p's 1024 rows is the product of column 1024 p + r of the activations with the cotangent, summed over the
tokens. The other rows of the buffer stay as they were. -/

namespace Cert.Kernel3Ideal.Product

open Idealize.ShloMosaic Idealize.ShloMosaic.TcCoe
open Cert.Kernel3Ideal Cert.Kernel3Ideal.Gen

/-- The buffer with the gradient stored among its rows. -/
def stored (b : S4x2816x1024.Idx → EReal) (x : S4096x4096.Idx → EReal) (dy : S4096x1024.Idx → EReal) : S4x2816x1024.Idx → EReal := fun i =>
  if h : 1024 ≤ (i 1).val ∧ (i 1).val < 2048 then
    ∑ k : Fin 4096, x (ix2 k ⟨(i 0).val * 1024 + ((i 1).val - 1024), by have h0 : (i 0).val < 4 := (i 0).isLt; omega⟩) * dy (ix2 k (i 2))
  else b i

theorem index_0 : ∀ t : Fin cfg0.N, win0_0.index t = ![0, t.val] := (by decide +kernel : ∀ t : Fin grid0.N, _)
theorem index_1 : ∀ t : Fin cfg0.N, win0_1.index t = ![0, 0] := (by decide +kernel : ∀ t : Fin grid0.N, _)
theorem index_2 : ∀ t : Fin cfg0.N, win0_2.index t = ![t.val / 2, 2 + t.val % 2, 0] := (by decide +kernel : ∀ t : Fin grid0.N, _)

variable (m : (ℓ : Loc nD τ sig) → Buf (Elt Ideal) ℓ) (c : Dev nD)

theorem start : V m c main_v0 = V m c main_arg0 := by
  simp only [V, hostOps0, List.flatten_cons, List.flatten_nil, List.append_nil, List.cons_append, List.nil_append]
  after_results
  rfl

/-- The buffer after the call. -/
theorem final : (dats m 0 c).arrAt 2 cfg0.N = stored (V m c main_arg0) (V m c main_arg1) (V m c main_arg2) := by
  refine (dats m 0 c).arrAt_eq_of_coversWhere_of_agree 2 _ (fun β => 2 ≤ β (1 : Fin _) ∧ β (1 : Fin _) < 4) (by decide +kernel)
    (fun t hf y => ?_) (fun j hj => ?_)
  · blk_simp
    rw [after0_2]
    unfold outsAt0
    frame_out
    have ht : t.val < 8 := t.isLt
    obtain ⟨p, r, d, hy⟩ : ∃ (p : Fin 1) (r : Fin 512) (d : Fin 1024), (win0 2).xinj (grid0.coords t) y = ix3 p r d :=
      ⟨(win0 2).xinj (grid0.coords t) y 0, (win0 2).xinj (grid0.coords t) y 1, (win0 2).xinj (grid0.coords t) y 2, funext fun b => by fin_cases b <;> rfl⟩
    have h0 : (y 0).val = p.val := congrArg Fin.val (congrFun hy 0)
    have h1 : (y 1).val = r.val := congrArg Fin.val (congrFun hy 1)
    have h2 : (y 2).val = d.val := congrArg Fin.val (congrFun hy 2)
    rw [hy, show ((View.whole main_v0).slice (win0_2.rect t)).emb y = ix3 ⟨t.val / 2, by omega⟩ ⟨(2 + t.val % 2) * 512 + r.val, by omega⟩ d by blk_ext [index_2]]
    pointwise [k0_pay1, stored]
    rw [dif_pos (by constructor <;> (show _ <;> omega))]
    refine (Finset.sum_congr rfl fun k _ => ?_ : (_ : EReal) = _)
    blk_simp [iblk]
    congr 2
    · blk_ext [index_0]
    · blk_ext [index_1]
  · blk_simp [Pipeline.Window.cell_apply] at hj
    rw [A_eq]
    show V m c main_v0 _ = _
    rw [start]
    unfold stored
    rw [dif_neg]
    · intro h
      have h' : 1024 ≤ (j 1).val ∧ (j 1).val < 2048 := h
      omega

end Cert.Kernel3Ideal.Product

namespace Cert.Reference3Ideal.Product

open Idealize.ShloMosaic Idealize.ShloMosaic.TcCoe
open Cert.Reference3Ideal Cert.Reference3Ideal.Gen
open Cert.Kernel3Ideal.Product (stored)

theorem result (b : FVec Ideal S4x2816x1024 .f32) (x : FVec Ideal S4096x4096 .bf16) (dy : FVec Ideal S4096x1024 .bf16) :
    (concatenate S4x2816x1024 1 [⟨S4x1024x1024, ((extractStridedSlice S4x1024x1024 ![0, 0, 0] b slices_S4x2816x1024_S4x1024x1024_0_0_0) : (⟨S4x1024x1024, .f32⟩ : BufTy).Contents (Elt Ideal))⟩, ⟨S4x1024x1024, ((shapeCast _ (transpose S4096x1024 [1, 0] (Host.dotGeneral (φ₁ := .f32) (φ₂ := .f32) dot_S4096x1024_S4096x4096_S1024x4096_0_0_1_1_n_n none (extf .f32 dy bitsLt_bf16_f32) (extf .f32 x bitsLt_bf16_f32)) transposes_S1024x4096_S4096x1024_1_0) shapeCasts_S4096x1024_S4x1024x1024) : (⟨S4x1024x1024, .f32⟩ : BufTy).Contents (Elt Ideal))⟩, ⟨S4x768x1024, ((extractStridedSlice S4x768x1024 ![0, 2048, 0] b slices_S4x2816x1024_S4x768x1024_0_2048_0) : (⟨S4x768x1024, .f32⟩ : BufTy).Contents (Elt Ideal))⟩] concatenates_S4x1024x1024_S4x1024x1024_S4x768x1024_S4x2816x1024_d1 : (⟨S4x2816x1024, .f32⟩ : BufTy).Contents (Elt Ideal)) = stored b x dy := by
  funext i
  idx_vars i
  pointwise [stored]
  by_cases h1 : i1.val < 1024
  · rw [dif_pos h1, dif_neg (by omega)]
  rw [dif_neg h1]
  by_cases h2 : i1.val - 1024 < 1024
  · rw [dif_pos h2, dif_pos ⟨by omega, by omega⟩]
    exact Finset.sum_congr rfl fun k _ => mul_comm _ _
  · rw [dif_neg h2, dif_neg (by omega)]
    refine congrArg (fun r => b (ix3 i0 r i2)) (Fin.ext ?_)
    show 2048 + (i1.val - 1024 - 1024) = i1.val
    omega

/-- From the same arguments the call and the reference leave the same buffer. -/
theorem same : Cert.algebraic_Kernel3Ideal_Reference3Ideal := fun m g m' g' _ hargs => by
  refine ⟨fun c => stored (m (c.tc.loc Kernel3Ideal.main_arg0))
    (m (c.tc.loc Kernel3Ideal.main_arg1))
    (m (c.tc.loc Kernel3Ideal.main_arg2)), ?_, ?_⟩
  · refine (θ_run Kernel3Ideal.defs _ _).mono (fun r h c => ⟨(h c).1.trans ?_, (h c).2⟩) (Kernel3Ideal.Value.run_blocks m g)
    rw [Kernel3Ideal.Product.final, Kernel3Ideal.Gen.V_main_arg0, Kernel3Ideal.Gen.V_main_arg1, Kernel3Ideal.Gen.V_main_arg2]
  · refine (θ_run Reference3Ideal.defs _ _).mono (fun r h c => ⟨(h c).1.trans ?_, (h c).2⟩) (Reference3Ideal.Value.run (F := Ideal) m' g')
    obtain ⟨a0, a1, a2⟩ := hargs c
    exact (result _ _ _).trans (by rw [a0, a1, a2])

end Cert.Reference3Ideal.Product

end
-- ==== Proof.Products.GMlpUp.lean ====
module

public import proofs.«01_k».proof.Defs
public import proofs.«01_k».proof.Proof.Gen.Kernel4Ideal.Value
public import proofs.«01_k».proof.Proof.Gen.Reference4Ideal.Run
public import Idealize.ShloMosaic.Lib.Pipeline.ValueKit

@[expose] public section

set_option maxRecDepth 16384

noncomputable section

/-! # The gradient of the first weight of the channel mixer

Column n of chip p's part is the product of the normalised input with column 1024 p + n of the cotangent, summed over the
tokens; it fills the chip's first 1024 rows. The other rows of the buffer stay as they were. -/

namespace Cert.Kernel4Ideal.Product

open Idealize.ShloMosaic Idealize.ShloMosaic.TcCoe
open Cert.Kernel4Ideal Cert.Kernel4Ideal.Gen

/-- The buffer with the gradient stored among its rows. -/
def stored (b : S4x2816x1024.Idx → EReal) (x : S4096x1024.Idx → EReal) (dy : S4096x4096.Idx → EReal) : S4x2816x1024.Idx → EReal := fun i =>
  if h : (i 1).val < 1024 then
    ∑ k : Fin 4096, x (ix2 k ⟨(i 1).val, h⟩) * dy (ix2 k ⟨(i 0).val * 1024 + (i 2).val, by have h0 : (i 0).val < 4 := (i 0).isLt; have h2 : (i 2).val < 1024 := (i 2).isLt; omega⟩)
  else b i

theorem index_0 : ∀ t : Fin cfg0.N, win0_0.index t = ![0, 0] := (by decide +kernel : ∀ t : Fin grid0.N, _)
theorem index_1 : ∀ t : Fin cfg0.N, win0_1.index t = ![0, t.val] := (by decide +kernel : ∀ t : Fin grid0.N, _)
theorem index_2 : ∀ t : Fin cfg0.N, win0_2.index t = ![t.val / 2, 0, t.val % 2] := (by decide +kernel : ∀ t : Fin grid0.N, _)

variable (m : (ℓ : Loc nD τ sig) → Buf (Elt Ideal) ℓ) (c : Dev nD)

theorem start : V m c main_v0 = V m c main_arg0 := by
  simp only [V, hostOps0, List.flatten_cons, List.flatten_nil, List.append_nil, List.cons_append, List.nil_append]
  after_results
  rfl

/-- The buffer after the call. -/
theorem final : (dats m 0 c).arrAt 2 cfg0.N = stored (V m c main_arg0) (V m c main_arg1) (V m c main_arg2) := by
  refine (dats m 0 c).arrAt_eq_of_coversWhere_of_agree 2 _ (fun β => β (1 : Fin _) = 0) (by decide +kernel)
    (fun t hf y => ?_) (fun j hj => ?_)
  · blk_simp
    rw [after0_2]
    unfold outsAt0
    frame_out
    have ht : t.val < 8 := t.isLt
    obtain ⟨p, r, d, hy⟩ : ∃ (p : Fin 1) (r : Fin 1024) (d : Fin 512), (win0 2).xinj (grid0.coords t) y = ix3 p r d :=
      ⟨(win0 2).xinj (grid0.coords t) y 0, (win0 2).xinj (grid0.coords t) y 1, (win0 2).xinj (grid0.coords t) y 2, funext fun b => by fin_cases b <;> rfl⟩
    have h0 : (y 0).val = p.val := congrArg Fin.val (congrFun hy 0)
    have h1 : (y 1).val = r.val := congrArg Fin.val (congrFun hy 1)
    have h2 : (y 2).val = d.val := congrArg Fin.val (congrFun hy 2)
    rw [hy, show ((View.whole main_v0).slice (win0_2.rect t)).emb y = ix3 ⟨t.val / 2, by omega⟩ ⟨r.val, by omega⟩ ⟨t.val % 2 * 512 + d.val, by omega⟩ by blk_ext [index_2]]
    pointwise [k0_pay1, stored]
    refine (Finset.sum_congr rfl fun k _ => ?_ : (_ : EReal) = _)
    blk_simp [iblk]
    congr 2
    · blk_ext [index_0]
    · blk_ext [index_1]
  · blk_simp [Pipeline.Window.cell_apply] at hj
    rw [A_eq]
    show V m c main_v0 _ = _
    rw [start]
    unfold stored
    rw [dif_neg]
    · intro h
      have h' : (j 1).val < 1024 := h
      omega

end Cert.Kernel4Ideal.Product

namespace Cert.Reference4Ideal.Product

open Idealize.ShloMosaic Idealize.ShloMosaic.TcCoe
open Cert.Reference4Ideal Cert.Reference4Ideal.Gen
open Cert.Kernel4Ideal.Product (stored)

theorem result (b : FVec Ideal S4x2816x1024 .f32) (x : FVec Ideal S4096x1024 .bf16) (dy : FVec Ideal S4096x4096 .bf16) :
    (concatenate S4x2816x1024 1 [⟨S4x1024x1024, (transpose S4x1024x1024 [1, 0, 2] (shapeCast _ (transpose S1024x4096 [1, 0] (Host.dotGeneral (φ₁ := .f32) (φ₂ := .f32) dot_S4096x4096_S4096x1024_S4096x1024_0_0_1_1_n_n none (extf .f32 dy bitsLt_bf16_f32) (extf .f32 x bitsLt_bf16_f32)) transposes_S4096x1024_S1024x4096_1_0) shapeCasts_S1024x4096_S1024x4x1024) transposes_S1024x4x1024_S4x1024x1024_1_0_2)⟩, ⟨S4x1792x1024, (extractStridedSlice S4x1792x1024 ![0, 1024, 0] b slices_S4x2816x1024_S4x1792x1024_0_1024_0)⟩] concatenates_S4x1024x1024_S4x1792x1024_S4x2816x1024_d1 : FVec Ideal S4x2816x1024 .f32) = stored b x dy := by
  funext i
  idx_vars i
  pointwise [stored]
  by_cases h1 : i1.val < 1024
  · rw [dif_pos h1, dif_pos h1]
    exact Finset.sum_congr rfl fun k _ => mul_comm _ _
  · rw [dif_neg h1, dif_neg h1]
    refine congrArg (fun r => b (ix3 i0 r i2)) (Fin.ext ?_)
    show 1024 + (i1.val - 1024) = i1.val
    omega

/-- From the same arguments the call and the reference leave the same buffer. -/
theorem same : Cert.algebraic_Kernel4Ideal_Reference4Ideal := fun m g m' g' _ hargs => by
  refine ⟨fun c => stored (m (c.tc.loc Kernel4Ideal.main_arg0))
    (m (c.tc.loc Kernel4Ideal.main_arg1))
    (m (c.tc.loc Kernel4Ideal.main_arg2)), ?_, ?_⟩
  · refine (θ_run Kernel4Ideal.defs _ _).mono (fun r h c => ⟨(h c).1.trans ?_, (h c).2⟩) (Kernel4Ideal.Value.run_blocks m g)
    rw [Kernel4Ideal.Product.final, Kernel4Ideal.Gen.V_main_arg0, Kernel4Ideal.Gen.V_main_arg1, Kernel4Ideal.Gen.V_main_arg2]
  · refine (θ_run Reference4Ideal.defs _ _).mono (fun r h c => ⟨(h c).1.trans ?_, (h c).2⟩) (Reference4Ideal.Value.run (F := Ideal) m' g')
    obtain ⟨a0, a1, a2⟩ := hargs c
    exact (result _ _ _).trans (by rw [a0, a1, a2])

end Cert.Reference4Ideal.Product

end
-- ==== Proof.Products.GIn.lean ====
module

public import proofs.«01_k».proof.Defs
public import proofs.«01_k».proof.Proof.Gen.Kernel5Ideal.Frame
public import proofs.«01_k».proof.Proof.Gen.Reference5Ideal.Run
public import Idealize.ShloMosaic.Lib.Pipeline.ValueKit

@[expose] public section

set_option maxRecDepth 16384

noncomputable section

/-! # The gradient of the projections into the token mixer

Two calls one after the other: the first stores the rows of queries, keys and values, the second adds the rows of the
gates to the same array. -/

namespace Cert.Kernel5Ideal.Product

open Idealize.ShloMosaic Idealize.ShloMosaic.TcCoe Idealize.ShloMosaic.Tactic
open Idealize.SL Idealize.SL.RA Idealize.SL.BI
open scoped Idealize.SL.BI
open Idealize.ShloMosaic.Rounds
open Idealize.SL.BI.BIBase Idealize.SL.BI.Laws Idealize.SL.ProofMode Idealize.SL.Sem
open Cert.Kernel5Ideal Cert.Kernel5Ideal.Gen

/-- The cotangents of the two projections side by side, at a token and a column. -/
def beside (q : S4096x3840.Idx → EReal) (g : S4096x2048.Idx → EReal) (k : Fin 4096) (n : Fin 5888) : EReal :=
  if h : n.val < 3840 then q (ix2 k ⟨n.val, h⟩) else g (ix2 k ⟨n.val - 3840, by omega⟩)

/-- The gradient: over the tokens the cotangents times the input of the projections. -/
def gradient (q : S4096x3840.Idx → EReal) (g : S4096x2048.Idx → EReal) (a : S4096x1024.Idx → EReal) : S5888x1024.Idx → EReal := fun i =>
  ∑ k : Fin 4096, beside q g k (i 0) * a (ix2 k (i 1))

/-- The gradient's first rows over what a buffer holds. -/
def early (b : S5888x1024.Idx → EReal) (q : S4096x3840.Idx → EReal) (a : S4096x1024.Idx → EReal) : S5888x1024.Idx → EReal := fun i =>
  if h : (i 0).val < 3840 then ∑ k : Fin 4096, q (ix2 k ⟨(i 0).val, h⟩) * a (ix2 k (i 1)) else b i

/-- The gradient's last rows over what a buffer holds. -/
def late (b : S5888x1024.Idx → EReal) (g : S4096x2048.Idx → EReal) (a : S4096x1024.Idx → EReal) : S5888x1024.Idx → EReal := fun i =>
  if h : (i 0).val < 3840 then b i
  else ∑ k : Fin 4096, g (ix2 k ⟨(i 0).val - 3840, by have h0 : (i 0).val < 5888 := (i 0).isLt; omega⟩) * a (ix2 k (i 1))

theorem both (b : S5888x1024.Idx → EReal) (q : S4096x3840.Idx → EReal) (g : S4096x2048.Idx → EReal) (a : S4096x1024.Idx → EReal) :
    late (early b q a) g a = gradient q g a := by
  funext i
  unfold late early gradient beside
  by_cases h : (i 0).val < 3840
  · rw [dif_pos h, dif_pos h]
    exact Finset.sum_congr rfl fun k _ => by rw [dif_pos h]
  · rw [dif_neg h]
    exact Finset.sum_congr rfl fun k _ => by rw [dif_neg h]

theorem early_row (b : S5888x1024.Idx → EReal) (q : S4096x3840.Idx → EReal) (a : S4096x1024.Idx → EReal) (n : Fin 5888) (d : Fin 1024)
    (h : n.val < 3840) : early b q a (ix2 n d) = ∑ k : Fin 4096, q (ix2 k ⟨n.val, h⟩) * a (ix2 k d) := dif_pos h

theorem late_row (b : S5888x1024.Idx → EReal) (g : S4096x2048.Idx → EReal) (a : S4096x1024.Idx → EReal) (n : Fin 5888) (p : Fin 2048) (d : Fin 1024)
    (h : n.val = 3840 + p.val) : late b g a (ix2 n d) = ∑ k : Fin 4096, g (ix2 k p) * a (ix2 k d) := by
  refine (dif_neg (show ¬ n.val < 3840 by omega)).trans (Finset.sum_congr rfl fun k _ => ?_)
  refine congrArg (fun p => g (ix2 k p) * a (ix2 k d)) (Fin.ext ?_)
  show n.val - 3840 = p.val
  omega

theorem index0_0 : ∀ t : Fin cfg0.N, win0_0.index t = ![0, t.val] := (by decide +kernel : ∀ t : Fin grid0.N, _)
theorem index0_1 : ∀ t : Fin cfg0.N, win0_1.index t = ![0, 0] := (by decide +kernel : ∀ t : Fin grid0.N, _)
theorem index0_2 : ∀ t : Fin cfg0.N, win0_2.index t = ![t.val, 0] := (by decide +kernel : ∀ t : Fin grid0.N, _)
theorem index1_0 : ∀ t : Fin cfg1.N, win1_0.index t = ![0, t.val] := (by decide +kernel : ∀ t : Fin grid1.N, _)
theorem index1_1 : ∀ t : Fin cfg1.N, win1_1.index t = ![0, 0] := (by decide +kernel : ∀ t : Fin grid1.N, _)
theorem index1_2 : ∀ t : Fin cfg1.N, win1_2.index t = ![15 + t.val, 0] := (by decide +kernel : ∀ t : Fin grid1.N, _)

section Contents
variable (V : (c : Dev nD) → (b : Ref sig .tc) → Buf (Elt Ideal) ((c : Thread nD τ).loc b)) (c : Dev nD)

/-- What the first call leaves. -/
theorem final0 : (dat0 V c).arrAt 2 cfg0.N = early (V c main_v0) (V c main_arg0) (V c main_arg2) := by
  refine (dat0 V c).arrAt_eq_of_coversWhere_of_agree 2 _ (fun β => β (0 : Fin _) < 6) (by decide +kernel)
    (fun t hf y => ?_) (fun j hj => ?_)
  · blk_simp
    rw [after0_2]
    unfold outsAt0
    frame_out
    have ht : t.val < 6 := t.isLt
    obtain ⟨r, d, hy⟩ : ∃ (r : Fin 640) (d : Fin 1024), (win0 2).xinj (grid0.coords t) y = ix2 r d :=
      ⟨(win0 2).xinj (grid0.coords t) y 0, (win0 2).xinj (grid0.coords t) y 1, funext fun b => by fin_cases b <;> rfl⟩
    have h0 : (y 0).val = r.val := congrArg Fin.val (congrFun hy 0)
    have h1 : (y 1).val = d.val := congrArg Fin.val (congrFun hy 1)
    rw [hy, show ((View.whole main_v0).slice (win0_2.rect t)).emb y = ix2 ⟨t.val * 640 + r.val, by omega⟩ ⟨d.val, by omega⟩ by blk_ext [index0_2]]
    refine Eq.trans ?_ (early_row _ _ _ _ d (show t.val * 640 + r.val < 3840 by omega)).symm
    pointwise [k0_pay1]
    refine (Finset.sum_congr rfl fun k _ => congrArg₂ (fun a b : EReal => a * b) ?_ ?_ : (_ : EReal) = _)
    · blk_simp [iblk0]
      refine congrArg _ ?_
      blk_ext [index0_0]
    · blk_simp [iblk0]
      refine congrArg _ ?_
      blk_ext [index0_1]
  · blk_simp [Pipeline.Window.cell_apply] at hj
    rw [A_eq0]
    unfold early
    rw [dif_neg]
    · intro h
      have h' : (j 0).val < 3840 := h
      omega

/-- What the second call leaves. -/
theorem final1 : (dat1 V c).arrAt 2 cfg1.N = late (V c main_v1) (V c main_arg1) (V c main_arg2) := by
  refine (dat1 V c).arrAt_eq_of_coversWhere_of_agree 2 _ (fun β => 15 ≤ β (0 : Fin _)) (by decide +kernel)
    (fun t hf y => ?_) (fun j hj => ?_)
  · blk_simp
    rw [after1_2]
    unfold outsAt1
    frame_out
    have ht : t.val < 8 := t.isLt
    obtain ⟨r, d, rfl⟩ : ∃ (r : Fin 256) (d : Fin 1024), y = ix2 r d :=
      ⟨y 0, y 1, funext fun b => by fin_cases b <;> rfl⟩
    rw [show ((View.whole main_v1).slice (win1_2.rect t)).emb (ix2 r d) = ix2 ⟨3840 + (t.val * 256 + r.val), by omega⟩ ⟨d.val, by omega⟩ by blk_ext [index1_2]]
    refine Eq.trans ?_ (late_row _ _ _ _ ⟨t.val * 256 + r.val, by omega⟩ d rfl).symm
    pointwise [k1_pay1]
    refine (Finset.sum_congr rfl fun k _ => congrArg₂ (fun a b : EReal => a * b) ?_ ?_ : (_ : EReal) = _)
    · blk_simp [iblk1]
      refine congrArg _ ?_
      blk_ext [index1_0]
    · blk_simp [iblk1]
      refine congrArg _ ?_
      blk_ext [index1_1]
  · blk_simp [Pipeline.Window.cell_apply] at hj
    rw [A_eq1]
    unfold late
    rw [dif_pos]
    · show (j 0).val < 3840
      omega

end Contents

variable (m : (ℓ : Loc nD τ sig) → Buf (Elt Ideal) ℓ) (ρ : Dev nD → PrngReg)

/-- The second call starts from a copy of what the first one left. -/
theorem between (c : Dev nD) : V2 m ρ c main_v1 = V1 m ρ c main_v0 := by
  show StableHlo.after hostOps1 (W1 m ρ c) _ = _
  simp only [hostOps1]
  after_results
  rfl

/-- The array at the end. -/
theorem left (c : Dev nD) : W3 m ρ c (Proc.devRef .tc main_v1) =
    gradient (m ((c : Thread nD τ).loc main_arg0)) (m ((c : Thread nD τ).loc main_arg1)) (m ((c : Thread nD τ).loc main_arg2)) := by
  refine (W3_arr m ρ c 2).trans ?_
  rw [final1, between]
  rw [show V2 m ρ c main_arg1 = m ((c : Thread nD τ).loc main_arg1) from W2_args m ρ c main_arg1 (by decide),
    show V2 m ρ c main_arg2 = m ((c : Thread nD τ).loc main_arg2) from W2_args m ρ c main_arg2 (by decide),
    show V1 m ρ c main_v0 = (dat0 (V0 m ρ) c).arrAt 2 cfg0.N from W1_arr m ρ c 2, final0]
  exact both _ _ _ _

set_option backward.isDefEq.respectTransparency.types false in
/-- The run: every execution ends with the array at the gradient and the arguments as they were. -/
theorem run : θ_run defs (onTc (τ := τ) (main (F := Ideal))) ⟨m, fun _ => 0, ρ⟩ (fun r => ∀ c : Dev nD,
      r.2.mem ((c.tc : Thread nD τ).loc main_v1) =
        gradient (m ((c : Thread nD τ).loc main_arg0)) (m ((c : Thread nD τ).loc main_arg1)) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h _ => fun c =>
      ⟨(h c _ (mem_uc main_v1 (by decide))).trans (left m ρ c),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c)⟩)

end Cert.Kernel5Ideal.Product

namespace Cert.Reference5Ideal.Product

open Idealize.ShloMosaic Idealize.ShloMosaic.TcCoe
open Cert.Reference5Ideal Cert.Reference5Ideal.Gen
open Cert.Kernel5Ideal.Product (gradient beside)

theorem result (q : FVec Ideal S4096x3840 .bf16) (g : FVec Ideal S4096x2048 .bf16) (a : FVec Ideal S4096x1024 .bf16) :
    (transpose S5888x1024 [1, 0] (transpose S1024x5888 [1, 0] (Host.dotGeneral (φ₁ := .f32) (φ₂ := .f32) dot_S4096x5888_S4096x1024_S5888x1024_0_0_1_1_n_n none
      (extf .f32 (concatenate S4096x5888 1 [⟨S4096x3840, q⟩, ⟨S4096x2048, g⟩] concatenates_S4096x3840_S4096x2048_S4096x5888_d1) bitsLt_bf16_f32)
      (extf .f32 a bitsLt_bf16_f32)) transposes_S5888x1024_S1024x5888_1_0) transposes_S1024x5888_S5888x1024_1_0 : FVec Ideal S5888x1024 .f32) = gradient q g a := by
  funext i
  idx_vars i
  pointwise [gradient, beside]

/-- From the same arguments the calls and the reference leave the same gradient. -/
theorem same : Cert.algebraic_Kernel5Ideal_Reference5Ideal := fun m g m' g' _ hargs => by
  refine ⟨fun c => gradient (m (c.tc.loc Kernel5Ideal.main_arg0))
    (m (c.tc.loc Kernel5Ideal.main_arg1))
    (m (c.tc.loc Kernel5Ideal.main_arg2)), ?_, ?_⟩
  · exact Kernel5Ideal.Product.run m g
  · refine (θ_run Reference5Ideal.defs _ _).mono (fun r h c => ⟨(h c).1.trans ?_, (h c).2⟩) (Reference5Ideal.Value.run (F := Ideal) m' g')
    obtain ⟨a0, a1, a2⟩ := hargs c
    exact (result _ _ _).trans (by rw [a0, a1, a2])

end Cert.Reference5Ideal.Product

end
-- ==== Proof.Products.DInQkv.lean ====
module

public import proofs.«01_k».proof.Defs
public import proofs.«01_k».proof.Proof.Gen.Kernel6Ideal.Value
public import proofs.«01_k».proof.Proof.Gen.Reference6Ideal.Run
public import Idealize.ShloMosaic.Lib.Pipeline.ValueKit

@[expose] public section

set_option maxRecDepth 16384

noncomputable section

/-! # The gradient of the normalised input through the heads' columns

The cotangent of the first 3840 columns of the input projection times the transpose of these columns of the weight. -/

namespace Cert.Kernel6Ideal.Product

open Idealize.ShloMosaic Idealize.ShloMosaic.TcCoe
open Cert.Kernel6Ideal Cert.Kernel6Ideal.Gen

/-- The gradient at a token and a feature. -/
def through (dz : S4096x3840.Idx → EReal) (w : S1024x5888.Idx → EReal) : S4096x1024.Idx → EReal := fun i =>
  ∑ k : Fin 3840, dz (ix2 (i 0) k) * w (ix2 (i 1) ⟨k.val, by omega⟩)

theorem index_0 : ∀ t : Fin cfg0.N, win0_0.index t = ![t.val, 0] := (by decide +kernel : ∀ t : Fin grid0.N, _)
theorem index_1 : ∀ t : Fin cfg0.N, win0_1.index t = ![0, 0] := (by decide +kernel : ∀ t : Fin grid0.N, _)
theorem index_2 : ∀ t : Fin cfg0.N, win0_2.index t = ![t.val, 0] := (by decide +kernel : ∀ t : Fin grid0.N, _)

variable (m : (ℓ : Loc nD τ sig) → Buf (Elt Ideal) ℓ) (c : Dev nD)

theorem start : (V m c main_v0 : S1024x5888.Idx → EReal) = m ((c : Thread nD τ).loc main_arg1) := by
  simp only [V, hostOps0, List.flatten_cons, List.flatten_nil, List.append_nil, List.cons_append, List.nil_append]
  after_results
  rfl

/-- The window of the weight, at an index. -/
theorem weight (t : Fin cfg0.N) (r : Fin 1024) (k : Fin 3840) :
    X0_1 m c t (ix2 r k) = V m c main_arg1 (ix2 r ⟨k.val, by omega⟩) := by
  unfold X0_1 Pipeline.Window.fill
  rw [dif_pos (moved0_1 t _)]
  rw [V_main_arg1, ← start m c]
  blk_simp [iblk]
  refine congrArg _ ?_
  blk_ext [index_1]

/-- The result of the call. -/
theorem final : (dats m 0 c).arrAt 2 cfg0.N = through (V m c main_arg0) (V m c main_arg1) := by
  refine (dats m 0 c).arrAt_eq_of_covers 2 _ (by decide +kernel) (fun t hf y => ?_)
  blk_simp
  rw [after0_2]
  unfold outsAt0
  frame_out
  have ht : t.val < 8 := t.isLt
  obtain ⟨r, d, rfl⟩ : ∃ (r : Fin 512) (d : Fin 1024), y = ix2 r d :=
    ⟨y 0, y 1, funext fun b => by fin_cases b <;> rfl⟩
  rw [show ((View.whole main_v1).slice (win0_2.rect t)).emb (ix2 r d) = ix2 ⟨t.val * 512 + r.val, by omega⟩ ⟨d.val, by omega⟩ by blk_ext [index_2]]
  pointwise [k0_pay1, through]
  refine (Finset.sum_congr rfl fun k _ => congrArg₂ (fun a b : EReal => a * b) ?_ ?_ : (_ : EReal) = _)
  · blk_simp [iblk]
    refine congrArg _ ?_
    blk_ext [index_0]
  · exact (weight m c t d k)

end Cert.Kernel6Ideal.Product

namespace Cert.Reference6Ideal.Product

open Idealize.ShloMosaic Idealize.ShloMosaic.TcCoe
open Cert.Reference6Ideal Cert.Reference6Ideal.Gen
open Cert.Kernel6Ideal.Product (through)

theorem result (a : FVec Ideal S4096x3840 .bf16) (w : FVec Ideal S1024x5888 .f32) :
    (Host.dotGeneral (φ₁ := .f32) (φ₂ := .f32) dot_S4096x3840_S1024x3840_S4096x1024_1_1_0_0_n_n none (extf .f32 a bitsLt_bf16_f32) (extractStridedSlice S1024x3840 ![0, 0] w slices_S1024x5888_S1024x3840_0_0) : FVec Ideal S4096x1024 .f32) = through a w := by
  funext i
  idx_vars i
  pointwise [through]

/-- From the same arguments the call and the reference leave the same result. -/
theorem same : Cert.algebraic_Kernel6Ideal_Reference6Ideal := fun m g m' g' _ hargs => by
  refine ⟨fun c => through (m (c.tc.loc Kernel6Ideal.main_arg0))
    (m (c.tc.loc Kernel6Ideal.main_arg1)), ?_, ?_⟩
  · refine (θ_run Kernel6Ideal.defs _ _).mono (fun r h c => ⟨(h c).1.trans ?_, (h c).2⟩) (Kernel6Ideal.Value.run_blocks m g)
    rw [Kernel6Ideal.Product.final, Kernel6Ideal.Gen.V_main_arg0, Kernel6Ideal.Gen.V_main_arg1]
  · refine (θ_run Reference6Ideal.defs _ _).mono (fun r h c => ⟨(h c).1.trans ?_, (h c).2⟩) (Reference6Ideal.Value.run (F := Ideal) m' g')
    obtain ⟨a0, a1⟩ := hargs c
    exact (result _ _).trans (by rw [a0, a1])

end Cert.Reference6Ideal.Product

end
-- ==== Proof.Products.MlpUp.lean ====
module

public import proofs.«01_k».proof.Defs
public import proofs.«01_k».proof.Proof.Gen.Kernel7Ideal.Value
public import proofs.«01_k».proof.Proof.Gen.Reference7Ideal.Run
public import Idealize.ShloMosaic.Lib.Pipeline.ValueKit

@[expose] public section

set_option maxRecDepth 16384

noncomputable section

/-! # The first product of the channel mixer and its activation

The normalised input times the first weight, and the square of the positive part of this product. -/

namespace Cert.Kernel7Ideal.Product

open Idealize.ShloMosaic Idealize.ShloMosaic.TcCoe
open Cert.Kernel7Ideal Cert.Kernel7Ideal.Gen

/-- The product at a token and a hidden unit. -/
def raised (a : S4096x1024.Idx → EReal) (w : S1024x4096.Idx → EReal) : S4096x4096.Idx → EReal := fun i =>
  ∑ k : Fin 1024, a (ix2 (i 0) k) * w (ix2 k (i 1))

/-- Its activation. -/
def active (a : S4096x1024.Idx → EReal) (w : S1024x4096.Idx → EReal) : S4096x4096.Idx → EReal := fun i =>
  max (raised a w i) 0 * max (raised a w i) 0

theorem index_0 : ∀ t : Fin cfg0.N, win0_0.index t = ![t.val / 4, 0] := (by decide +kernel : ∀ t : Fin grid0.N, _)
theorem index_1 : ∀ t : Fin cfg0.N, win0_1.index t = ![t.val % 4, 0, 0] := (by decide +kernel : ∀ t : Fin grid0.N, _)
theorem index_2 : ∀ t : Fin cfg0.N, win0_2.index t = ![t.val / 4, t.val % 4] := (by decide +kernel : ∀ t : Fin grid0.N, _)
theorem index_3 : ∀ t : Fin cfg0.N, win0_3.index t = ![t.val / 4, t.val % 4] := (by decide +kernel : ∀ t : Fin grid0.N, _)

variable (m : (ℓ : Loc nD τ sig) → Buf (Elt Ideal) ℓ) (c : Dev nD)

set_option maxHeartbeats 1100000 in
/-- The packed weights. -/
theorem packed_eq : V m c main_v8 = (truncf .bf16 (concatenate S4x2368x1024 1 [⟨S4x1024x1024, transpose S4x1024x1024 [1, 0, 2] (shapeCast S1024x4x1024 (m ((c : Thread nD τ).loc main_arg1)) shapeCasts_S1024x4096_S1024x4x1024) transposes_S1024x4x1024_S4x1024x1024_1_0_2⟩,
    ⟨S4x1024x1024, shapeCast S4x1024x1024 (m ((c : Thread nD τ).loc main_arg2)) shapeCasts_S4096x1024_S4x1024x1024⟩,
    ⟨S4x256x1024, shapeCast S4x256x1024 (m ((c : Thread nD τ).loc main_arg3)) shapeCasts_S1024x1024_S4x256x1024⟩,
    ⟨S4x64x1024, shapeCast S4x64x1024 (transpose S4x256x256 [1, 0, 2] (shapeCast S256x4x256 (m ((c : Thread nD τ).loc main_arg4)) shapeCasts_S256x1024_S256x4x256) transposes_S256x4x256_S4x256x256_1_0_2) shapeCasts_S4x256x256_S4x64x1024⟩]
    concatenates_S4x1024x1024_S4x1024x1024_S4x256x1024_S4x64x1024_S4x2368x1024_d1 : FVec Ideal S4x2368x1024 .f32) bitsLt_bf16_f32 : FVec Ideal S4x2368x1024 .bf16) := by
  simp only [V, hostOps0, List.flatten_cons, List.flatten_nil, List.append_nil, List.cons_append, List.nil_append]
  after_results <;> rfl

/-- The first 1024 rows of the four parts set on top of each other are the first part. -/
theorem first_part (w0 w1 : FVec Ideal S4x1024x1024 .f32) (w2 : FVec Ideal S4x256x1024 .f32) (w3 : FVec Ideal S4x64x1024 .f32) (p : Fin 4) (r d : Fin 1024) :
    (truncf .bf16 (concatenate S4x2368x1024 1 [⟨S4x1024x1024, w0⟩, ⟨S4x1024x1024, w1⟩, ⟨S4x256x1024, w2⟩, ⟨S4x64x1024, w3⟩]
      concatenates_S4x1024x1024_S4x1024x1024_S4x256x1024_S4x64x1024_S4x2368x1024_d1 : FVec Ideal S4x2368x1024 .f32) bitsLt_bf16_f32 : FVec Ideal S4x2368x1024 .bf16)
      (ix3 p ⟨r.val, by omega⟩ d) = w0 (ix3 p r d) := by
  pointwise []

theorem columns_of_chip (w : FVec Ideal S1024x4096 .f32) (p : Fin 4) (r d : Fin 1024) :
    transpose S4x1024x1024 [1, 0, 2] (shapeCast S1024x4x1024 w shapeCasts_S1024x4096_S1024x4x1024) transposes_S1024x4x1024_S4x1024x1024_1_0_2 (ix3 p r d) = w (ix2 r ⟨p.val * 1024 + d.val, by omega⟩) := by
  pointwise []

/-- The first weight's columns in the packed weights. -/
theorem packed (p : Fin 4) (r d : Fin 1024) :
    (V m c main_v8 : S4x2368x1024.Idx → EReal) (ix3 p ⟨r.val, by omega⟩ d) = V m c main_arg1 (ix2 r ⟨p.val * 1024 + d.val, by omega⟩) := by
  rw [packed_eq, V_main_arg1]
  exact (first_part _ _ _ _ p r d).trans (columns_of_chip _ p r d)

/-- The window of the packed weights, at an index. -/
theorem weight (t : Fin cfg0.N) (k r : Fin 1024) :
    X0_1 m c t (ix3 0 k r) = V m c main_arg1 (ix2 k ⟨t.val % 4 * 1024 + r.val, by omega⟩) := by
  have ht : t.val < 16 := t.isLt
  unfold X0_1 Pipeline.Window.fill
  rw [dif_pos (moved0_1 t _)]
  refine Eq.trans ?_ (packed m c ⟨t.val % 4, by omega⟩ k r)
  blk_simp [iblk]
  refine congrArg _ ?_
  blk_ext [index_1]

/-- The product after the call. -/
theorem final_up : (dats m 0 c).arrAt 2 cfg0.N = raised (V m c main_arg0) (V m c main_arg1) := by
  refine (dats m 0 c).arrAt_eq_of_covers 2 _ (by decide +kernel) (fun t hf y => ?_)
  blk_simp
  rw [after0_2]
  unfold outsAt0
  frame_out
  have ht : t.val < 16 := t.isLt
  obtain ⟨r, d, rfl⟩ : ∃ (r : Fin 1024) (d : Fin 1024), y = ix2 r d :=
    ⟨y 0, y 1, funext fun b => by fin_cases b <;> rfl⟩
  rw [show ((View.whole main_v9_0).slice (win0_2.rect t)).emb (ix2 r d) = ix2 ⟨t.val / 4 * 1024 + r.val, by omega⟩ ⟨t.val % 4 * 1024 + d.val, by omega⟩ by blk_ext [index_2]]
  pointwise [k0_pay2, k0_pay1, raised]
  refine (Finset.sum_congr rfl fun k _ => congrArg₂ (fun a b : EReal => a * b) ?_ ?_ : (_ : EReal) = _)
  · blk_simp [iblk]
    refine congrArg _ ?_
    blk_ext [index_0]
  · exact weight m c t k d

/-- The activation after the call. -/
theorem final_act : (dats m 0 c).arrAt 3 cfg0.N = active (V m c main_arg0) (V m c main_arg1) := by
  refine (dats m 0 c).arrAt_eq_of_covers 3 _ (by decide +kernel) (fun t hf y => ?_)
  blk_simp
  rw [after0_3]
  unfold outsAt0
  frame_out
  have ht : t.val < 16 := t.isLt
  obtain ⟨r, d, rfl⟩ : ∃ (r : Fin 1024) (d : Fin 1024), y = ix2 r d :=
    ⟨y 0, y 1, funext fun b => by fin_cases b <;> rfl⟩
  rw [show ((View.whole main_v9_1).slice (win0_3.rect t)).emb (ix2 r d) = ix2 ⟨t.val / 4 * 1024 + r.val, by omega⟩ ⟨t.val % 4 * 1024 + d.val, by omega⟩ by blk_ext [index_3]]
  pointwise [k0_pay3, k0_pay1, active, raised]
  refine congrArg (fun s : EReal => max s 0 * max s 0) (Finset.sum_congr rfl fun k _ => congrArg₂ (fun a b : EReal => a * b) ?_ ?_)
  · blk_simp [iblk]
    refine congrArg _ ?_
    blk_ext [index_0]
  · exact weight m c t k d

end Cert.Kernel7Ideal.Product

namespace Cert.Reference7Ideal.Product

open Idealize.ShloMosaic Idealize.ShloMosaic.TcCoe
open Cert.Reference7Ideal Cert.Reference7Ideal.Gen
open Cert.Kernel7Ideal.Product (raised active)

variable (a : FVec Ideal S4096x1024 .bf16) (w : FVec Ideal S1024x4096 .f32)

theorem result_up :
    (truncf .bf16 (Host.dotGeneral (φ₁ := .f32) (φ₂ := .f32) dot_S4096x1024_S1024x4096_S4096x4096_1_0_0_1_n_n none (extf .f32 a bitsLt_bf16_f32) w) bitsLt_bf16_f32 : FVec Ideal S4096x4096 .bf16) = raised a w := by
  funext i
  idx_vars i
  pointwise [raised]

theorem result_act :
    (truncf .bf16 (mulf (maximumf (Host.dotGeneral (φ₁ := .f32) (φ₂ := .f32) dot_S4096x1024_S1024x4096_S4096x4096_1_0_0_1_n_n none (extf .f32 a bitsLt_bf16_f32) w) (broadcastInDim S4096x4096 ![] bcast_S_S4096x4096 (constant S_ .f32 0x00000000#32))) (maximumf (Host.dotGeneral (φ₁ := .f32) (φ₂ := .f32) dot_S4096x1024_S1024x4096_S4096x4096_1_0_0_1_n_n none (extf .f32 a bitsLt_bf16_f32) w) (broadcastInDim S4096x4096 ![] bcast_S_S4096x4096 (constant S_ .f32 0x00000000#32)))) bitsLt_bf16_f32 : FVec Ideal S4096x4096 .bf16) = active a w := by
  funext i
  idx_vars i
  pointwise [active, raised]

/-- From the same arguments the call and the reference leave the same product and activation. -/
theorem same : Cert.algebraic_Kernel7Ideal_Reference7Ideal := fun m g m' g' _ hargs => by
  refine ⟨fun c => raised (m (c.tc.loc Kernel7Ideal.main_arg0))
    (m (c.tc.loc Kernel7Ideal.main_arg1)),
    fun c => active (m (c.tc.loc Kernel7Ideal.main_arg0))
    (m (c.tc.loc Kernel7Ideal.main_arg1)), ?_, ?_⟩
  · refine (θ_run Kernel7Ideal.defs _ _).mono (fun r h c => ⟨(h c).1.trans ?_, (h c).2.1.trans ?_, (h c).2.2⟩) (Kernel7Ideal.Value.run_blocks m g)
    · rw [Kernel7Ideal.Product.final_up, Kernel7Ideal.Gen.V_main_arg0, Kernel7Ideal.Gen.V_main_arg1]
    · rw [Kernel7Ideal.Product.final_act, Kernel7Ideal.Gen.V_main_arg0, Kernel7Ideal.Gen.V_main_arg1]
  · refine (θ_run Reference7Ideal.defs _ _).mono (fun r h c => ⟨(h c).1.trans ?_, (h c).2.1.trans ?_, (h c).2.2⟩) (Reference7Ideal.Value.run (F := Ideal) m' g')
    all_goals obtain ⟨a0, a1, _⟩ := hargs c
    · exact (result_up _ _).trans (by rw [a0, a1])
    · exact (result_act _ _).trans (by rw [a0, a1])

end Cert.Reference7Ideal.Product

end
-- ==== Proof.Products.InNa.lean ====
module

public import proofs.«01_k».proof.Defs
public import proofs.«01_k».proof.Proof.Gen.Kernel8Ideal.Value
public import proofs.«01_k».proof.Proof.Gen.Reference8Ideal.Run
public import Idealize.ShloMosaic.Lib.Pipeline.ValueKit

@[expose] public section

set_option maxRecDepth 16384

noncomputable section

/-! # The input projection, the columns of the neighbourhood heads

The normalised input times the first 1536 columns of the weight. -/

namespace Cert.Kernel8Ideal.Product

open Idealize.ShloMosaic Idealize.ShloMosaic.TcCoe
open Cert.Kernel8Ideal Cert.Kernel8Ideal.Gen

/-- The product at a token and a column. -/
def columns (a : S4096x1024.Idx → EReal) (w : S1024x5888.Idx → EReal) : S4096x1536.Idx → EReal := fun i =>
  ∑ k : Fin 1024, a (ix2 (i 0) k) * w (ix2 k ⟨(i 1).val, by have h1 : (i 1).val < 1536 := (i 1).isLt; omega⟩)

theorem index_0 : ∀ t : Fin cfg0.N, win0_0.index t = ![t.val / 2, 0] := (by decide +kernel : ∀ t : Fin grid0.N, _)
theorem index_1 : ∀ t : Fin cfg0.N, win0_1.index t = ![0, t.val % 2] := (by decide +kernel : ∀ t : Fin grid0.N, _)
theorem index_2 : ∀ t : Fin cfg0.N, win0_2.index t = ![t.val / 2, t.val % 2] := (by decide +kernel : ∀ t : Fin grid0.N, _)

variable (m : (ℓ : Loc nD τ sig) → Buf (Elt Ideal) ℓ) (c : Dev nD)

theorem start : (V m c main_v0 : S1024x5888.Idx → EReal) = m ((c : Thread nD τ).loc main_arg1) := by
  simp only [V, hostOps0, List.flatten_cons, List.flatten_nil, List.append_nil, List.cons_append, List.nil_append]
  after_results
  rfl

/-- The window of the weight, at an index. -/
theorem weight (t : Fin cfg0.N) (k : Fin 1024) (r : Fin 768) :
    X0_1 m c t (ix2 k r) = V m c main_arg1 (ix2 k ⟨(t.val % 2 * 768 + r.val), by omega⟩) := by
  have ht : t.val < 8 := t.isLt
  unfold X0_1 Pipeline.Window.fill
  rw [dif_pos (moved0_1 t _)]
  rw [V_main_arg1, ← start m c]
  blk_simp [iblk]
  refine congrArg _ ?_
  blk_ext [index_1]

/-- The result of the call. -/
theorem final : (dats m 0 c).arrAt 2 cfg0.N = columns (V m c main_arg0) (V m c main_arg1) := by
  refine (dats m 0 c).arrAt_eq_of_covers 2 _ (by decide +kernel) (fun t hf y => ?_)
  blk_simp
  rw [after0_2]
  unfold outsAt0
  frame_out
  have ht : t.val < 8 := t.isLt
  obtain ⟨r, d, rfl⟩ : ∃ (r : Fin 1024) (d : Fin 768), y = ix2 r d :=
    ⟨y 0, y 1, funext fun b => by fin_cases b <;> rfl⟩
  rw [show ((View.whole main_v1).slice (win0_2.rect t)).emb (ix2 r d) = ix2 ⟨t.val / 2 * 1024 + r.val, by omega⟩ ⟨t.val % 2 * 768 + d.val, by omega⟩ by blk_ext [index_2]]
  pointwise [k0_pay1, columns]
  refine (Finset.sum_congr rfl fun k _ => congrArg₂ (fun a b : EReal => a * b) ?_ ?_ : (_ : EReal) = _)
  · blk_simp [iblk]
    refine congrArg _ ?_
    blk_ext [index_0]
  · exact (weight m c t k d)

end Cert.Kernel8Ideal.Product

namespace Cert.Reference8Ideal.Product

open Idealize.ShloMosaic Idealize.ShloMosaic.TcCoe
open Cert.Reference8Ideal Cert.Reference8Ideal.Gen
open Cert.Kernel8Ideal.Product (columns)

theorem result (a : FVec Ideal S4096x1024 .bf16) (w : FVec Ideal S1024x5888 .f32) :
    (truncf .bf16 (extractStridedSlice S4096x1536 ![0, 0] (Host.dotGeneral (φ₁ := .f32) (φ₂ := .f32) dot_S4096x1024_S1024x5888_S4096x5888_1_0_0_1_n_n none (extf .f32 a bitsLt_bf16_f32) w) slices_S4096x5888_S4096x1536_0_0) bitsLt_bf16_f32 : FVec Ideal S4096x1536 .bf16) = columns a w := by
  funext i
  idx_vars i
  pointwise [columns]

/-- From the same arguments the call and the reference leave the same result. -/
theorem same : Cert.algebraic_Kernel8Ideal_Reference8Ideal := fun m g m' g' _ hargs => by
  refine ⟨fun c => columns (m (c.tc.loc Kernel8Ideal.main_arg0))
    (m (c.tc.loc Kernel8Ideal.main_arg1)), ?_, ?_⟩
  · refine (θ_run Kernel8Ideal.defs _ _).mono (fun r h c => ⟨(h c).1.trans ?_, (h c).2⟩) (Kernel8Ideal.Value.run_blocks m g)
    rw [Kernel8Ideal.Product.final, Kernel8Ideal.Gen.V_main_arg0, Kernel8Ideal.Gen.V_main_arg1]
  · refine (θ_run Reference8Ideal.defs _ _).mono (fun r h c => ⟨(h c).1.trans ?_, (h c).2⟩) (Reference8Ideal.Value.run (F := Ideal) m' g')
    obtain ⟨a0, a1⟩ := hargs c
    exact (result _ _).trans (by rw [a0, a1])

end Cert.Reference8Ideal.Product

end
-- ==== Proof.Products.InDil.lean ====
module

public import proofs.«01_k».proof.Defs
public import proofs.«01_k».proof.Proof.Gen.Kernel9Ideal.Value
public import proofs.«01_k».proof.Proof.Gen.Reference9Ideal.Run
public import Idealize.ShloMosaic.Lib.Pipeline.ValueKit

@[expose] public section

set_option maxRecDepth 16384

noncomputable section

/-! # The input projection, the columns of the dilated heads

The normalised input times columns 1536 to 3839 of the weight. -/

namespace Cert.Kernel9Ideal.Product

open Idealize.ShloMosaic Idealize.ShloMosaic.TcCoe
open Cert.Kernel9Ideal Cert.Kernel9Ideal.Gen

/-- The product at a token and a column. -/
def columns (a : S4096x1024.Idx → EReal) (w : S1024x5888.Idx → EReal) : S4096x2304.Idx → EReal := fun i =>
  ∑ k : Fin 1024, a (ix2 (i 0) k) * w (ix2 k ⟨1536 + (i 1).val, by have h1 : (i 1).val < 2304 := (i 1).isLt; omega⟩)

theorem index_0 : ∀ t : Fin cfg0.N, win0_0.index t = ![t.val / 3, 0] := (by decide +kernel : ∀ t : Fin grid0.N, _)
theorem index_1 : ∀ t : Fin cfg0.N, win0_1.index t = ![0, 2 + t.val % 3] := (by decide +kernel : ∀ t : Fin grid0.N, _)
theorem index_2 : ∀ t : Fin cfg0.N, win0_2.index t = ![t.val / 3, t.val % 3] := (by decide +kernel : ∀ t : Fin grid0.N, _)

variable (m : (ℓ : Loc nD τ sig) → Buf (Elt Ideal) ℓ) (c : Dev nD)

theorem start : (V m c main_v0 : S1024x5888.Idx → EReal) = m ((c : Thread nD τ).loc main_arg1) := by
  simp only [V, hostOps0, List.flatten_cons, List.flatten_nil, List.append_nil, List.cons_append, List.nil_append]
  after_results
  rfl

/-- The window of the weight, at an index. -/
theorem weight (t : Fin cfg0.N) (k : Fin 1024) (r : Fin 768) :
    X0_1 m c t (ix2 k r) = V m c main_arg1 (ix2 k ⟨1536 + (t.val % 3 * 768 + r.val), by omega⟩) := by
  have ht : t.val < 12 := t.isLt
  unfold X0_1 Pipeline.Window.fill
  rw [dif_pos (moved0_1 t _)]
  rw [V_main_arg1, ← start m c]
  blk_simp [iblk]
  refine congrArg _ ?_
  blk_ext [index_1]

/-- The result of the call. -/
theorem final : (dats m 0 c).arrAt 2 cfg0.N = columns (V m c main_arg0) (V m c main_arg1) := by
  refine (dats m 0 c).arrAt_eq_of_covers 2 _ (by decide +kernel) (fun t hf y => ?_)
  blk_simp
  rw [after0_2]
  unfold outsAt0
  frame_out
  have ht : t.val < 12 := t.isLt
  obtain ⟨r, d, rfl⟩ : ∃ (r : Fin 1024) (d : Fin 768), y = ix2 r d :=
    ⟨y 0, y 1, funext fun b => by fin_cases b <;> rfl⟩
  rw [show ((View.whole main_v1).slice (win0_2.rect t)).emb (ix2 r d) = ix2 ⟨t.val / 3 * 1024 + r.val, by omega⟩ ⟨t.val % 3 * 768 + d.val, by omega⟩ by blk_ext [index_2]]
  pointwise [k0_pay1, columns]
  refine (Finset.sum_congr rfl fun k _ => congrArg₂ (fun a b : EReal => a * b) ?_ ?_ : (_ : EReal) = _)
  · blk_simp [iblk]
    refine congrArg _ ?_
    blk_ext [index_0]
  · exact (weight m c t k d)

end Cert.Kernel9Ideal.Product

namespace Cert.Reference9Ideal.Product

open Idealize.ShloMosaic Idealize.ShloMosaic.TcCoe
open Cert.Reference9Ideal Cert.Reference9Ideal.Gen
open Cert.Kernel9Ideal.Product (columns)

theorem result (a : FVec Ideal S4096x1024 .bf16) (w : FVec Ideal S1024x5888 .f32) :
    (extractStridedSlice S4096x2304 ![0, 1536] (Host.dotGeneral (φ₁ := .f32) (φ₂ := .f32) dot_S4096x1024_S1024x5888_S4096x5888_1_0_0_1_n_n none (extf .f32 a bitsLt_bf16_f32) w) slices_S4096x5888_S4096x2304_0_1536 : FVec Ideal S4096x2304 .f32) = columns a w := by
  funext i
  idx_vars i
  pointwise [columns]

/-- From the same arguments the call and the reference leave the same result. -/
theorem same : Cert.algebraic_Kernel9Ideal_Reference9Ideal := fun m g m' g' _ hargs => by
  refine ⟨fun c => columns (m (c.tc.loc Kernel9Ideal.main_arg0))
    (m (c.tc.loc Kernel9Ideal.main_arg1)), ?_, ?_⟩
  · refine (θ_run Kernel9Ideal.defs _ _).mono (fun r h c => ⟨(h c).1.trans ?_, (h c).2⟩) (Kernel9Ideal.Value.run_blocks m g)
    rw [Kernel9Ideal.Product.final, Kernel9Ideal.Gen.V_main_arg0, Kernel9Ideal.Gen.V_main_arg1]
  · refine (θ_run Reference9Ideal.defs _ _).mono (fun r h c => ⟨(h c).1.trans ?_, (h c).2⟩) (Reference9Ideal.Value.run (F := Ideal) m' g')
    obtain ⟨a0, a1⟩ := hargs c
    exact (result _ _).trans (by rw [a0, a1])

end Cert.Reference9Ideal.Product

end
-- ==== Proof.Products.InGates.lean ====
module

public import proofs.«01_k».proof.Defs
public import proofs.«01_k».proof.Proof.Gen.Kernel10Ideal.Value
public import proofs.«01_k».proof.Proof.Gen.Reference10Ideal.Run
public import Idealize.ShloMosaic.Lib.Pipeline.ValueKit

@[expose] public section

set_option maxRecDepth 16384

noncomputable section

/-! # The input projection, the columns of the gates

The normalised input times the last 2048 columns of the weight. -/

namespace Cert.Kernel10Ideal.Product

open Idealize.ShloMosaic Idealize.ShloMosaic.TcCoe
open Cert.Kernel10Ideal Cert.Kernel10Ideal.Gen

/-- The product at a token and a column. -/
def columns (a : S4096x1024.Idx → EReal) (w : S1024x5888.Idx → EReal) : S4096x2048.Idx → EReal := fun i =>
  ∑ k : Fin 1024, a (ix2 (i 0) k) * w (ix2 k ⟨3840 + (i 1).val, by have h1 : (i 1).val < 2048 := (i 1).isLt; omega⟩)

theorem index_0 : ∀ t : Fin cfg0.N, win0_0.index t = ![t.val / 2, 0] := (by decide +kernel : ∀ t : Fin grid0.N, _)
theorem index_1 : ∀ t : Fin cfg0.N, win0_1.index t = ![0, t.val % 2] := (by decide +kernel : ∀ t : Fin grid0.N, _)
theorem index_2 : ∀ t : Fin cfg0.N, win0_2.index t = ![t.val / 2, t.val % 2] := (by decide +kernel : ∀ t : Fin grid0.N, _)

variable (m : (ℓ : Loc nD τ sig) → Buf (Elt Ideal) ℓ) (c : Dev nD)

theorem start : (V m c main_v1 : S1024x2048.Idx → EReal) = fun i => m ((c : Thread nD τ).loc main_arg1) (ix2 (i 0) ⟨3840 + (i 1).val, by have h1 : (i 1).val < 2048 := (i 1).isLt; omega⟩) := by
  simp only [V, hostOps0, List.flatten_cons, List.flatten_nil, List.append_nil, List.cons_append, List.nil_append]
  after_results
  funext i
  idx_vars i
  pointwise []

/-- The window of the weight, at an index. -/
theorem weight (t : Fin cfg0.N) (k : Fin 1024) (r : Fin 1024) :
    iblk m c 1 t (ix2 k r) = V m c main_arg1 (ix2 k ⟨3840 + (t.val % 2 * 1024 + r.val), by omega⟩) := by
  have ht : t.val < 8 := t.isLt
  rw [V_main_arg1]
  refine Eq.trans ?_ (congrFun (start m c) (ix2 k ⟨t.val % 2 * 1024 + r.val, by omega⟩))
  blk_simp [iblk]
  refine congrArg _ ?_
  blk_ext [index_1]

/-- The result of the call. -/
theorem final : (dats m 0 c).arrAt 2 cfg0.N = columns (V m c main_arg0) (V m c main_arg1) := by
  refine (dats m 0 c).arrAt_eq_of_covers 2 _ (by decide +kernel) (fun t hf y => ?_)
  blk_simp
  rw [after0_2]
  unfold outsAt0
  frame_out
  have ht : t.val < 8 := t.isLt
  obtain ⟨r, d, rfl⟩ : ∃ (r : Fin 1024) (d : Fin 1024), y = ix2 r d :=
    ⟨y 0, y 1, funext fun b => by fin_cases b <;> rfl⟩
  rw [show ((View.whole main_v2).slice (win0_2.rect t)).emb (ix2 r d) = ix2 ⟨t.val / 2 * 1024 + r.val, by omega⟩ ⟨t.val % 2 * 1024 + d.val, by omega⟩ by blk_ext [index_2]]
  pointwise [k0_pay1, columns]
  refine (Finset.sum_congr rfl fun k _ => congrArg₂ (fun a b : EReal => a * b) ?_ ?_ : (_ : EReal) = _)
  · blk_simp [iblk]
    refine congrArg _ ?_
    blk_ext [index_0]
  · exact (weight m c t k d)

end Cert.Kernel10Ideal.Product

namespace Cert.Reference10Ideal.Product

open Idealize.ShloMosaic Idealize.ShloMosaic.TcCoe
open Cert.Reference10Ideal Cert.Reference10Ideal.Gen
open Cert.Kernel10Ideal.Product (columns)

theorem result (a : FVec Ideal S4096x1024 .bf16) (w : FVec Ideal S1024x5888 .f32) :
    (truncf .bf16 (extractStridedSlice S4096x2048 ![0, 3840] (Host.dotGeneral (φ₁ := .f32) (φ₂ := .f32) dot_S4096x1024_S1024x5888_S4096x5888_1_0_0_1_n_n none (extf .f32 a bitsLt_bf16_f32) w) slices_S4096x5888_S4096x2048_0_3840) bitsLt_bf16_f32 : FVec Ideal S4096x2048 .bf16) = columns a w := by
  funext i
  idx_vars i
  pointwise [columns]

/-- From the same arguments the call and the reference leave the same result. -/
theorem same : Cert.algebraic_Kernel10Ideal_Reference10Ideal := fun m g m' g' _ hargs => by
  refine ⟨fun c => columns (m (c.tc.loc Kernel10Ideal.main_arg0))
    (m (c.tc.loc Kernel10Ideal.main_arg1)), ?_, ?_⟩
  · refine (θ_run Kernel10Ideal.defs _ _).mono (fun r h c => ⟨(h c).1.trans ?_, (h c).2⟩) (Kernel10Ideal.Value.run_blocks m g)
    rw [Kernel10Ideal.Product.final, Kernel10Ideal.Gen.V_main_arg0, Kernel10Ideal.Gen.V_main_arg1]
  · refine (θ_run Reference10Ideal.defs _ _).mono (fun r h c => ⟨(h c).1.trans ?_, (h c).2⟩) (Reference10Ideal.Value.run (F := Ideal) m' g')
    obtain ⟨a0, a1⟩ := hargs c
    exact (result _ _).trans (by rw [a0, a1])

end Cert.Reference10Ideal.Product

end
-- ==== Proof.Products.Norm.lean ====
module

public import proofs.«01_k».proof.Defs
public import Idealize.ShloMosaic.Lib.Pipeline.ValueKit

@[expose] public section

noncomputable section

/-! # The gradient of the root-mean-square norm of one row

A row `h` is divided by the root of the mean of its squares plus a small number. The gradient with respect to the row is
written in two ways: through the scaled row, and through the derivative of the reciprocal root. They agree for all
extended reals: where the mean of the squares is infinite the reciprocal root is zero, and otherwise it is a positive
real number, which can be multiplied into a sum. -/

namespace Cert.Norm

open Idealize.ShloMosaic

/-- The mean of the squares of a row plus the small number. -/
def level (h : Fin 1024 → EReal) : EReal :=
  Ideal.div (∑ k, h k * h k) (Ideal.ofBits FTy.f32 1149239296#32) + Ideal.ofBits FTy.f32 897988541#32

/-- The gradient with respect to an entry of the row, through the scaled row. -/
def grad (h e : Fin 1024 → EReal) (j : Fin 1024) : EReal :=
  Ideal.rsqrt (level h) * (e j - h j * Ideal.rsqrt (level h) * Ideal.div (∑ k, e k * (h k * Ideal.rsqrt (level h))) (Ideal.ofBits FTy.f32 1149239296#32))

/-- The derivative of the reciprocal root, carried back to the squares. -/
def back (h e : Fin 1024 → EReal) : EReal :=
  Ideal.div ((∑ k, h k * e k) * (Ideal.ofBits FTy.f32 3204448256#32 * Ideal.div (Ideal.rsqrt (level h)) (level h))) (Ideal.ofBits FTy.f32 1149239296#32)

theorem width_eq : (Ideal.ofBits FTy.f32 1149239296#32 : EReal) = ((1024 : ℝ) : EReal) := by
  simp [Ideal.ofBits, Ideal.ieee, -EReal.coe_mul]; norm_num

theorem half_eq : (Ideal.ofBits FTy.f32 3204448256#32 : EReal) = ((-(1 / 2) : ℝ) : EReal) := by
  simp [Ideal.ofBits, Ideal.ieee, -EReal.coe_mul]; norm_num

theorem small_eq : ∃ x : ℝ, 0 < x ∧ (Ideal.ofBits FTy.f32 897988541#32 : EReal) = (x : EReal) := by
  refine ⟨_, ?_, by simp [Ideal.ofBits, Ideal.ieee, -EReal.coe_mul]; rfl⟩
  norm_num

theorem div_real (y : EReal) (x : ℝ) (hx : x ≠ 0) : Ideal.div y (x : EReal) = y * ((x⁻¹ : ℝ) : EReal) := by
  rw [Ideal.div, if_neg (by exact_mod_cast hx), EReal.coe_inv]

theorem div_width (y : EReal) : Ideal.div y (Ideal.ofBits FTy.f32 1149239296#32) = y * (((1024 : ℝ)⁻¹ : ℝ) : EReal) := by
  rw [width_eq, div_real _ _ (by norm_num)]

theorem square_nonneg (x : EReal) : 0 ≤ x * x := by
  rcases le_total 0 x with h | h
  · exact mul_nonneg h h
  · have h' : 0 ≤ -x := by rwa [EReal.neg_nonneg]
    have := mul_nonneg h' h'
    rwa [neg_mul_neg] at this

/-- The mean of the squares plus the small number is infinite or a positive real number. -/
theorem level_cases (h : Fin 1024 → EReal) : level h = ⊤ ∨ ∃ x : ℝ, 0 < x ∧ level h = (x : EReal) := by
  obtain ⟨s, hs, he⟩ := small_eq
  unfold level
  rw [he, div_width]
  have h0 : (0 : EReal) ≤ (∑ k, h k * h k) * (((1024 : ℝ)⁻¹ : ℝ) : EReal) :=
    mul_nonneg (Finset.sum_nonneg fun k _ => square_nonneg _) (by exact_mod_cast (by norm_num : (0 : ℝ) ≤ (1024 : ℝ)⁻¹))
  generalize (∑ k, h k * h k) * (((1024 : ℝ)⁻¹ : ℝ) : EReal) = y at h0
  induction y using EReal.rec with
  | bot => exact absurd h0 (by simp)
  | top => exact Or.inl (EReal.top_add_coe s)
  | coe a =>
    have ha : (0 : ℝ) ≤ a := by exact_mod_cast h0
    exact Or.inr ⟨a + s, by linarith, (EReal.coe_add a s).symm⟩

/-- A nonnegative real number is multiplied into a sum. -/
theorem sum_mul_real {n : ℕ} (f : Fin n → EReal) (r : ℝ) (hr : 0 ≤ r) : (∑ k, f k * (r : EReal)) = (∑ k, f k) * (r : EReal) := by
  have key : ∀ s : Finset (Fin n), (∑ k ∈ s, f k * (r : EReal)) = (∑ k ∈ s, f k) * (r : EReal) := fun s => by
    induction s using Finset.induction_on with
    | empty => simp
    | insert a s ha ih =>
      rw [Finset.sum_insert ha, Finset.sum_insert ha, ih,
        EReal.right_distrib_of_nonneg_of_ne_top (by exact_mod_cast hr) (EReal.coe_ne_top r)]
  exact key _

/-- The two ways of writing the gradient agree. -/
theorem grad_eq (h e : Fin 1024 → EReal) (x : EReal) (j : Fin 1024) :
    x + grad h e j = ((x + e j * Ideal.rsqrt (level h)) + h j * back h e) + back h e * h j := by
  unfold grad back
  rcases level_cases h with hv | ⟨v, hv0, hv⟩
  · rw [hv, show Ideal.rsqrt ⊤ = 0 from rfl, show Ideal.div 0 ⊤ = 0 by simp [Ideal.div], div_width, div_width]
    simp
  · have hr : Ideal.rsqrt (v : EReal) = (((Real.sqrt v)⁻¹ : ℝ) : EReal) := by
      show (if v < 0 then (⊥ : EReal) else if v = 0 then ⊤ else _) = _
      rw [if_neg (not_lt.mpr hv0.le), if_neg hv0.ne']
    rw [hv, hr, div_real _ v hv0.ne']
    set ρ : ℝ := (Real.sqrt v)⁻¹ with hρ
    have hρ0 : 0 ≤ ρ := inv_nonneg.mpr (Real.sqrt_nonneg v)
    have hvρ : v⁻¹ = ρ * ρ := by
      rw [hρ, ← mul_inv, Real.mul_self_sqrt hv0.le]
    rw [div_width, div_width, half_eq, hvρ]
    have hsum : (∑ k, e k * (h k * (ρ : EReal))) = (∑ k, h k * e k) * (ρ : EReal) := by
      rw [← sum_mul_real _ ρ hρ0]
      exact Finset.sum_congr rfl fun k _ => by rw [← mul_assoc, mul_comm (e k)]
    rw [hsum]
    generalize (∑ k, h k * e k) = T
    generalize h j = a
    generalize e j = b
    have hc : 0 ≤ ρ * (ρ * ρ) * (1024 : ℝ)⁻¹ * (1 / 2) := by positivity
    have hS : T * (((-(1 / 2) : ℝ) : EReal) * ((ρ : EReal) * ((ρ * ρ : ℝ) : EReal))) * (((1024 : ℝ)⁻¹ : ℝ) : EReal)
        = -(T * ((ρ * (ρ * ρ) * (1024 : ℝ)⁻¹ * (1 / 2) : ℝ) : EReal)) := by
      rw [mul_assoc, ← EReal.coe_mul, ← EReal.coe_mul, ← EReal.coe_mul, ← mul_neg, ← EReal.coe_neg]
      congr 2
      ring
    have hK : (ρ : EReal) * (a * (ρ : EReal) * (T * (ρ : EReal) * (((1024 : ℝ)⁻¹ : ℝ) : EReal)))
        = (a * T) * ((ρ * (ρ * ρ) * (1024 : ℝ)⁻¹ * (1 / 2) + ρ * (ρ * ρ) * (1024 : ℝ)⁻¹ * (1 / 2) : ℝ) : EReal) := by
      rw [show ρ * (ρ * ρ) * (1024 : ℝ)⁻¹ * (1 / 2) + ρ * (ρ * ρ) * (1024 : ℝ)⁻¹ * (1 / 2) = ρ * (ρ * (ρ * (1024 : ℝ)⁻¹)) by ring,
        EReal.coe_mul, EReal.coe_mul, EReal.coe_mul]
      ac_rfl
    rw [hS, sub_eq_add_neg, EReal.left_distrib_of_nonneg_of_ne_top (by exact_mod_cast hρ0) (EReal.coe_ne_top ρ), mul_neg, hK,
      EReal.coe_add, ← neg_mul, EReal.left_distrib_of_nonneg (by exact_mod_cast hc) (by exact_mod_cast hc), mul_comm b, ← add_assoc, ← add_assoc,
      mul_neg, neg_mul, neg_mul, mul_comm (T * _) a, mul_assoc a T]

/-- The gradient with respect to the gain of the norm at an entry, over rows with cotangents `d`. -/
def gain {n : ℕ} (h d : Fin n → Fin 1024 → EReal) (j : Fin 1024) : EReal :=
  ∑ i, d i j * (h i j * Ideal.rsqrt (level (h i)))

/-- The gain's gradient over 4096 rows in eight parts of 512 rows. -/
theorem gain_parts {N : ℕ} (hN : N = 8) (h d : Fin 4096 → Fin 1024 → EReal) (j : Fin 1024) :
    (∑ p : Fin N, gain (fun (n : Fin 512) k => h ⟨p.val * 512 + n.val, by omega⟩ k) (fun n k => d ⟨p.val * 512 + n.val, by omega⟩ k) j) = gain h d j := by
  subst hN
  exact Fin.sum_mul_add_fin (S := 8) (n := 512) (fun i : Fin 4096 => d i j * (h i j * Ideal.rsqrt (level (h i))))

end Cert.Norm

end
-- ==== Proof.Products.MlpDown.lean ====
module

public import proofs.«01_k».proof.Proof.Products.Norm
public import proofs.«01_k».proof.Proof.Gen.Kernel11Ideal.Value
public import proofs.«01_k».proof.Proof.Gen.Reference11Ideal.Run

@[expose] public section

set_option maxRecDepth 16384

noncomputable section

/-! # The second product of the channel mixer, the residual and the next norm

The activation times the second weight is added to the residual stream. The stream is kept, and scaled by the reciprocal
root of the mean of its squares and by a gain. -/

namespace Cert.Kernel11Ideal.Product

open Idealize.ShloMosaic Idealize.ShloMosaic.TcCoe
open Cert.Kernel11Ideal Cert.Kernel11Ideal.Gen

/-- The residual stream after the channel mixer. -/
def stream (u : S4096x4096.Idx → EReal) (x : S4096x1024.Idx → EReal) (w : S4096x1024.Idx → EReal) : S4096x1024.Idx → EReal := fun i =>
  x i + ∑ k : Fin 4096, u (ix2 (i 0) k) * w (ix2 k (i 1))

/-- The normalised stream. -/
def scaled (u : S4096x4096.Idx → EReal) (x : S4096x1024.Idx → EReal) (g : S1x1024.Idx → EReal) (w : S4096x1024.Idx → EReal) : S4096x1024.Idx → EReal := fun i =>
  stream u x w (ix2 (i 0) (i 1)) * Ideal.rsqrt (Norm.level fun k => stream u x w (ix2 (i 0) k)) * g (ix2 0 (i 1))

/-- The four products of a grid point and the residual, over variables. -/
theorem four_products (a0 a1 a2 a3 : FVec Ideal S512x1024 .bf16) (b0 b1 b2 b3 : FVec Ideal S1x1024x1024 .bf16) (x : FVec Ideal S512x1024 .f32) (r : Fin 512) (j : Fin 1024) :
    (k0_pay2 (F := Ideal) a0 b0 a1 b1 a2 b2 a3 b3 x : S512x1024.Idx → EReal) (ix2 r j)
      = x (ix2 r j) + ((∑ k : Fin 1024, a0 (ix2 r k) * b0 (ix3 0 k j)) + (∑ k : Fin 1024, a1 (ix2 r k) * b1 (ix3 0 k j))
        + (∑ k : Fin 1024, a2 (ix2 r k) * b2 (ix3 0 k j)) + (∑ k : Fin 1024, a3 (ix2 r k) * b3 (ix3 0 k j))) := by
  pointwise [k0_pay2]

theorem stored_scaled (a0 a1 a2 a3 : FVec Ideal S512x1024 .bf16) (b0 b1 b2 b3 : FVec Ideal S1x1024x1024 .bf16) (x : FVec Ideal S512x1024 .f32) (g : FVec Ideal S1x1024 .f32) (r : Fin 512) (j : Fin 1024) :
    (k0_pay1 (F := Ideal) g (k0_pay2 a0 b0 a1 b1 a2 b2 a3 b3 x) (k0_pay3 a0 b0 a1 b1 a2 b2 a3 b3 x) : S512x1024.Idx → EReal) (ix2 r j)
      = (k0_pay2 (F := Ideal) a0 b0 a1 b1 a2 b2 a3 b3 x : S512x1024.Idx → EReal) (ix2 r j)
        * Ideal.rsqrt (Norm.level fun k => (k0_pay2 (F := Ideal) a0 b0 a1 b1 a2 b2 a3 b3 x : S512x1024.Idx → EReal) (ix2 r k)) * g (ix2 0 j) := by
  unfold k0_pay3
  generalize k0_pay2 (F := Ideal) a0 b0 a1 b1 a2 b2 a3 b3 x = d
  pointwise [k0_pay1, Norm.level]

/-- A sum over 4096 indices in four parts of 1024. -/
theorem sum_four (f : Fin 4096 → EReal) :
    (∑ k : Fin 4096, f k) = (∑ k : Fin 1024, f ⟨k.val, by omega⟩) + (∑ k : Fin 1024, f ⟨1024 + k.val, by omega⟩)
      + (∑ k : Fin 1024, f ⟨2048 + k.val, by omega⟩) + (∑ k : Fin 1024, f ⟨3072 + k.val, by omega⟩) := by
  rw [← Fin.sum_mul_add_fin (S := 4) (n := 1024) f, Fin.sum_univ_four]
  rfl

theorem index_0 : ∀ t : Fin cfg0.N, win0_0.index t = ![t.val, 0] := (by decide +kernel : ∀ t : Fin grid0.N, _)
theorem index_1 : ∀ t : Fin cfg0.N, win0_1.index t = ![0, 1, 0] := (by decide +kernel : ∀ t : Fin grid0.N, _)
theorem index_2 : ∀ t : Fin cfg0.N, win0_2.index t = ![t.val, 0] := (by decide +kernel : ∀ t : Fin grid0.N, _)
theorem index_3 : ∀ t : Fin cfg0.N, win0_3.index t = ![0, 0] := (by decide +kernel : ∀ t : Fin grid0.N, _)
theorem index_4 : ∀ t : Fin cfg0.N, win0_4.index t = ![t.val, 0] := (by decide +kernel : ∀ t : Fin grid0.N, _)
theorem index_5 : ∀ t : Fin cfg0.N, win0_5.index t = ![t.val, 0] := (by decide +kernel : ∀ t : Fin grid0.N, _)

variable (m : (ℓ : Loc nD τ sig) → Buf (Elt Ideal) ℓ) (c : Dev nD)

set_option maxHeartbeats 1100000 in
/-- The packed weights. -/
theorem packed_eq : V m c main_v8 = (truncf .bf16 (concatenate S4x2368x1024 1 [⟨S4x1024x1024, transpose S4x1024x1024 [1, 0, 2] (shapeCast S1024x4x1024 (m ((c : Thread nD τ).loc main_arg3)) shapeCasts_S1024x4096_S1024x4x1024) transposes_S1024x4x1024_S4x1024x1024_1_0_2⟩,
    ⟨S4x1024x1024, shapeCast S4x1024x1024 (m ((c : Thread nD τ).loc main_arg4)) shapeCasts_S4096x1024_S4x1024x1024⟩,
    ⟨S4x256x1024, shapeCast S4x256x1024 (m ((c : Thread nD τ).loc main_arg5)) shapeCasts_S1024x1024_S4x256x1024⟩,
    ⟨S4x64x1024, shapeCast S4x64x1024 (transpose S4x256x256 [1, 0, 2] (shapeCast S256x4x256 (m ((c : Thread nD τ).loc main_arg6)) shapeCasts_S256x1024_S256x4x256) transposes_S256x4x256_S4x256x256_1_0_2) shapeCasts_S4x256x256_S4x64x1024⟩]
    concatenates_S4x1024x1024_S4x1024x1024_S4x256x1024_S4x64x1024_S4x2368x1024_d1 : FVec Ideal S4x2368x1024 .f32) bitsLt_bf16_f32 : FVec Ideal S4x2368x1024 .bf16) := by
  simp only [V, hostOps0, List.flatten_cons, List.flatten_nil, List.append_nil, List.cons_append, List.nil_append]
  after_results <;> rfl

/-- Rows 1024 to 2047 of the four parts set on top of each other are the second part. -/
theorem second_part (w0 w1 : FVec Ideal S4x1024x1024 .f32) (w2 : FVec Ideal S4x256x1024 .f32) (w3 : FVec Ideal S4x64x1024 .f32) (p : Fin 4) (r d : Fin 1024) :
    (truncf .bf16 (concatenate S4x2368x1024 1 [⟨S4x1024x1024, w0⟩, ⟨S4x1024x1024, w1⟩, ⟨S4x256x1024, w2⟩, ⟨S4x64x1024, w3⟩]
      concatenates_S4x1024x1024_S4x1024x1024_S4x256x1024_S4x64x1024_S4x2368x1024_d1 : FVec Ideal S4x2368x1024 .f32) bitsLt_bf16_f32 : FVec Ideal S4x2368x1024 .bf16)
      (ix3 p ⟨1024 + r.val, by omega⟩ d) = w1 (ix3 p r d) := by
  pointwise []

theorem rows_of_chip (w : FVec Ideal S4096x1024 .f32) (p : Fin 4) (r d : Fin 1024) :
    shapeCast S4x1024x1024 w shapeCasts_S4096x1024_S4x1024x1024 (ix3 p r d) = w (ix2 ⟨p.val * 1024 + r.val, by omega⟩ d) := by
  pointwise []

/-- The second weight's rows in the packed weights. -/
theorem packed (p : Fin 4) (r d : Fin 1024) :
    (V m c main_v8 : S4x2368x1024.Idx → EReal) (ix3 p ⟨1024 + r.val, by omega⟩ d) = V m c main_arg4 (ix2 ⟨p.val * 1024 + r.val, by omega⟩ d) := by
  rw [packed_eq, V_main_arg4]
  exact (second_part _ _ _ _ p r d).trans (rows_of_chip _ p r d)

/-- The window of the packed weights, at an index. -/
theorem weight (t : Fin cfg0.N) (p : Fin 4) (k r : Fin 1024) :
    X0_1 m c t (ix3 p k r) = V m c main_arg4 (ix2 ⟨p.val * 1024 + k.val, by omega⟩ r) := by
  unfold X0_1 Pipeline.Window.fill
  rw [dif_pos (moved0_1 t _)]
  refine Eq.trans ?_ (packed m c p k r)
  blk_simp [iblk]
  refine congrArg _ ?_
  blk_ext [index_1]

theorem tokens (t : Fin cfg0.N) (r : Fin 512) (k : Fin 4096) :
    (iblk m c 0 t : S512x4096.Idx → EReal) (ix2 r k) = V m c main_arg0 (ix2 ⟨t.val * 512 + r.val, by have ht : t.val < 8 := t.isLt; omega⟩ k) := by
  blk_simp [iblk]
  refine congrArg _ ?_
  blk_ext [index_0]

/-- Columns of a block from an offset on. -/
theorem columns (x : S512x4096.Idx → EReal) (o : ℕ) (h : ∀ a : Fin S512x4096.rank, (![0, o] : Fin 2 → ℕ) a + (![512, 1024] : Fin 2 → ℕ) a ≤ S512x4096.size a) (r : Fin 512) (k : Fin 1024) (ho : o + k.val < 4096) :
    View.ld (Val := Elt Ideal) (e' := .bf16) x (Rect.unit (s := S512x4096) ![0, o] ![512, 1024] h) (ix2 r k) = x (ix2 r ⟨o + k.val, ho⟩) := by
  refine congrArg x (funext fun b => Fin.ext ?_)
  fin_cases b <;> refine (Rect.idx_unit_val _ _ _ _ _).trans ?_ <;> simp

/-- A part of a packed block. -/
theorem part_of (x : S4x1024x1024.Idx → EReal) (p : Fin 4) (h : ∀ a : Fin S4x1024x1024.rank, (![p.val, 0, 0] : Fin 3 → ℕ) a + (![1, 1024, 1024] : Fin 3 → ℕ) a ≤ S4x1024x1024.size a) (j k : Fin 1024) :
    View.ld (Val := Elt Ideal) (e' := .bf16) x (Rect.unit (s := S4x1024x1024) ![p.val, 0, 0] ![1, 1024, 1024] h) (ix3 0 j k) = x (ix3 p j k) := by
  refine congrArg x (funext fun b => Fin.ext ?_)
  fin_cases b <;> refine (Rect.idx_unit_val _ _ _ _ _).trans ?_ <;> simp

/-- The residual stream of a grid point. -/
def block (t : Fin cfg0.N) : FVec Ideal S512x1024 .f32 :=
  k0_pay2 (F := Ideal)
    (View.ld (iblk m c 0 t) (Rect.unit ![0, 0] ![512, 1024] inb_S512x4096_S512x1024_0_0))
    (View.ld (X0_1 m c t) (Rect.unit ![0, 0, 0] ![1, 1024, 1024] inb_S4x1024x1024_S1x1024x1024_0_0_0))
    (View.ld (iblk m c 0 t) (Rect.unit ![0, 1024] ![512, 1024] inb_S512x4096_S512x1024_0_1024))
    (View.ld (X0_1 m c t) (Rect.unit ![1, 0, 0] ![1, 1024, 1024] inb_S4x1024x1024_S1x1024x1024_1_0_0))
    (View.ld (iblk m c 0 t) (Rect.unit ![0, 2048] ![512, 1024] inb_S512x4096_S512x1024_0_2048))
    (View.ld (X0_1 m c t) (Rect.unit ![2, 0, 0] ![1, 1024, 1024] inb_S4x1024x1024_S1x1024x1024_2_0_0))
    (View.ld (iblk m c 0 t) (Rect.unit ![0, 3072] ![512, 1024] inb_S512x4096_S512x1024_0_3072))
    (View.ld (X0_1 m c t) (Rect.unit ![3, 0, 0] ![1, 1024, 1024] inb_S4x1024x1024_S1x1024x1024_3_0_0))
    (iblk m c 2 t)

theorem block_apply (t : Fin cfg0.N) (r : Fin 512) (j : Fin 1024) :
    block m c t (ix2 r j) = stream (V m c main_arg0) (V m c main_arg1) (V m c main_arg4) (ix2 ⟨t.val * 512 + r.val, by have ht : t.val < 8 := t.isLt; omega⟩ j) := by
  unfold block
  refine (four_products _ _ _ _ _ _ _ _ _ r j).trans ?_
  refine Eq.trans ?_ (congrArg₂ (fun a b : EReal => a + b) (Eq.refl (V m c main_arg1 (ix2 ⟨t.val * 512 + r.val, by have ht : t.val < 8 := t.isLt; omega⟩ j))) (sum_four _).symm)
  refine congrArg₂ (fun a b : EReal => a + b) ?_ (congrArg₂ (fun a b : EReal => a + b) (congrArg₂ (fun a b : EReal => a + b) (congrArg₂ (fun a b : EReal => a + b) ?_ ?_) ?_) ?_)
  · blk_simp [iblk]
    refine congrArg _ ?_
    blk_ext [index_2]
  · refine (Finset.sum_congr rfl fun k _ => congrArg₂ (fun a b : EReal => a * b) ?_ ?_ : (_ : EReal) = _)
    · exact (columns _ 0 _ r k (by omega)).trans ((tokens m c t r ⟨0 + k.val, by omega⟩).trans (congrArg _ (by blk_ext [])))
    · exact (part_of _ 0 _ k j).trans ((weight m c t 0 k j).trans (congrArg _ (by blk_ext [])))
  · refine (Finset.sum_congr rfl fun k _ => congrArg₂ (fun a b : EReal => a * b) ?_ ?_ : (_ : EReal) = _)
    · exact (columns _ 1024 _ r k (by omega)).trans ((tokens m c t r ⟨1024 + k.val, by omega⟩).trans (congrArg _ (by blk_ext [])))
    · exact (part_of _ 1 _ k j).trans ((weight m c t 1 k j).trans (congrArg _ (by blk_ext [])))
  · refine (Finset.sum_congr rfl fun k _ => congrArg₂ (fun a b : EReal => a * b) ?_ ?_ : (_ : EReal) = _)
    · exact (columns _ 2048 _ r k (by omega)).trans ((tokens m c t r ⟨2048 + k.val, by omega⟩).trans (congrArg _ (by blk_ext [])))
    · exact (part_of _ 2 _ k j).trans ((weight m c t 2 k j).trans (congrArg _ (by blk_ext [])))
  · refine (Finset.sum_congr rfl fun k _ => congrArg₂ (fun a b : EReal => a * b) ?_ ?_ : (_ : EReal) = _)
    · exact (columns _ 3072 _ r k (by omega)).trans ((tokens m c t r ⟨3072 + k.val, by omega⟩).trans (congrArg _ (by blk_ext [])))
    · exact (part_of _ 3 _ k j).trans ((weight m c t 3 k j).trans (congrArg _ (by blk_ext [])))

/-- The residual stream after the call. -/
theorem final_stream : (dats m 0 c).arrAt 4 cfg0.N = stream (V m c main_arg0) (V m c main_arg1) (V m c main_arg4) := by
  refine (dats m 0 c).arrAt_eq_of_covers 4 _ (by decide +kernel) (fun t hf y => ?_)
  blk_simp
  rw [after0_4]
  unfold outsAt0
  frame_out
  have ht : t.val < 8 := t.isLt
  obtain ⟨r, d, rfl⟩ : ∃ (r : Fin 512) (d : Fin 1024), y = ix2 r d :=
    ⟨y 0, y 1, funext fun b => by fin_cases b <;> rfl⟩
  rw [show ((View.whole main_v9_0).slice (win0_4.rect t)).emb (ix2 r d) = ix2 ⟨t.val * 512 + r.val, by omega⟩ d by blk_ext [index_4]]
  exact block_apply m c t r d

/-- The normalised stream after the call. -/
theorem final_scaled : (dats m 0 c).arrAt 5 cfg0.N = scaled (V m c main_arg0) (V m c main_arg1) (V m c main_arg2) (V m c main_arg4) := by
  refine (dats m 0 c).arrAt_eq_of_covers 5 _ (by decide +kernel) (fun t hf y => ?_)
  blk_simp
  rw [after0_5]
  unfold outsAt0
  frame_out
  have ht : t.val < 8 := t.isLt
  obtain ⟨r, d, rfl⟩ : ∃ (r : Fin 512) (d : Fin 1024), y = ix2 r d :=
    ⟨y 0, y 1, funext fun b => by fin_cases b <;> rfl⟩
  rw [show ((View.whole main_v9_1).slice (win0_5.rect t)).emb (ix2 r d) = ix2 ⟨t.val * 512 + r.val, by omega⟩ d by blk_ext [index_5]]
  refine (stored_scaled _ _ _ _ _ _ _ _ _ _ r d).trans ?_
  refine congrArg₂ (fun a b : EReal => a * b) (congrArg₂ (fun a b : EReal => a * b) (block_apply m c t r d)
    (congrArg (fun h => Ideal.rsqrt (Norm.level h)) (funext fun k => block_apply m c t r k))) ?_
  blk_simp [iblk]
  refine congrArg _ ?_
  blk_ext [index_3]

end Cert.Kernel11Ideal.Product

namespace Cert.Reference11Ideal.Product

open Idealize.ShloMosaic Idealize.ShloMosaic.TcCoe
open Cert.Reference11Ideal Cert.Reference11Ideal.Gen
open Cert.Kernel11Ideal.Product (stream scaled)

theorem result_stream (u : FVec Ideal S4096x4096 .bf16) (x w : FVec Ideal S4096x1024 .f32) :
    (addf x (Host.dotGeneral (φ₁ := .f32) (φ₂ := .f32) dot_S4096x4096_S4096x1024_S4096x1024_1_0_0_1_n_n none (extf .f32 u bitsLt_bf16_f32) w) : FVec Ideal S4096x1024 .f32) = stream u x w := by
  funext i
  idx_vars i
  pointwise [stream]

theorem result_scaled (h : FVec Ideal S4096x1024 .f32) (g : FVec Ideal S1x1024 .f32) (r : Fin 4096) (j : Fin 1024) :
    (truncf .bf16 (mulf (mulf h (broadcastInDim S4096x1024 ![0, 1] bcast_S4096x1_S4096x1024_0_1 (Host.rsqrt (addf (Host.divf (broadcastInDim S4096x1 ![0] bcast_S4096_S4096x1_0 (Host.reduceAdd (mulf h h) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1024 ![0, 1] bcast_S1x1024_S4096x1024_0_1 g)) bitsLt_bf16_f32 : FVec Ideal S4096x1024 .bf16) (ix2 r j)
      = h (ix2 r j) * Ideal.rsqrt (Norm.level fun k => h (ix2 r k)) * g (ix2 0 j) := by
  pointwise [Norm.level]

/-- From the same arguments the call and the reference leave the same stream and its normalised copy. -/
theorem same : Cert.algebraic_Kernel11Ideal_Reference11Ideal := fun m g m' g' _ hargs => by
  refine ⟨fun c => stream (m (c.tc.loc Kernel11Ideal.main_arg0)) (m (c.tc.loc Kernel11Ideal.main_arg1)) (m (c.tc.loc Kernel11Ideal.main_arg4)),
    fun c => scaled (m (c.tc.loc Kernel11Ideal.main_arg0)) (m (c.tc.loc Kernel11Ideal.main_arg1)) (m (c.tc.loc Kernel11Ideal.main_arg2)) (m (c.tc.loc Kernel11Ideal.main_arg4)), ?_, ?_⟩
  · refine (θ_run Kernel11Ideal.defs _ _).mono (fun r h c => ⟨(h c).1.trans ?_, (h c).2.1.trans ?_, (h c).2.2⟩) (Kernel11Ideal.Value.run_blocks m g)
    · rw [Kernel11Ideal.Product.final_stream, Kernel11Ideal.Gen.V_main_arg0, Kernel11Ideal.Gen.V_main_arg1, Kernel11Ideal.Gen.V_main_arg4]
    · rw [Kernel11Ideal.Product.final_scaled, Kernel11Ideal.Gen.V_main_arg0, Kernel11Ideal.Gen.V_main_arg1, Kernel11Ideal.Gen.V_main_arg2, Kernel11Ideal.Gen.V_main_arg4]
  · refine (θ_run Reference11Ideal.defs _ _).mono (fun r h c => ⟨(h c).1.trans ?_, (h c).2.1.trans ?_, (h c).2.2⟩) (Reference11Ideal.Value.run (F := Ideal) m' g')
    all_goals obtain ⟨a0, a1, a2, a3, a4, _⟩ := hargs c
    · exact (result_stream _ _ _).trans (by rw [a0, a1, a4])
    · funext i
      obtain ⟨p, j, rfl⟩ : ∃ (p : Fin 4096) (j : Fin 1024), i = ix2 p j := ⟨i 0, i 1, funext fun b => by fin_cases b <;> rfl⟩
      refine (result_scaled _ _ p j).trans ?_
      rw [result_stream, a0, a1, a2, a4]
      rfl

end Cert.Reference11Ideal.Product

end
-- ==== Proof.Products.DMlpUp.lean ====
module

public import proofs.«01_k».proof.Proof.Products.Norm
public import proofs.«01_k».proof.Proof.Gen.Kernel12Ideal.Value
public import proofs.«01_k».proof.Proof.Gen.Reference12Ideal.Run

@[expose] public section

set_option maxRecDepth 16384

noncomputable section

/-! # The gradient of the channel mixer's input and of its norm

The cotangent goes back through the first weight, then through the root-mean-square norm in front of it, and is added to
the cotangent of the residual. The gain's gradient is summed over all tokens. -/

namespace Cert.Kernel12Ideal.Product

open Idealize.ShloMosaic Idealize.ShloMosaic.TcCoe
open Cert.Kernel12Ideal Cert.Kernel12Ideal.Gen

/-- The cotangent of the normalised input at a token and a channel. -/
def normed (u : S4096x4096.Idx → EReal) (w : S1024x4096.Idx → EReal) : S4096x1024.Idx → EReal := fun i =>
  ∑ k : Fin 4096, u (ix2 (i 0) k) * w (ix2 (i 1) k)

/-- The gradient of the residual stream at a token and a channel. -/
def stream (u : S4096x4096.Idx → EReal) (x h : S4096x1024.Idx → EReal) (g : S1x1024.Idx → EReal) (w : S1024x4096.Idx → EReal) : S4096x1024.Idx → EReal := fun i =>
  x i + Norm.grad (fun k => h (ix2 (i 0) k)) (fun k => normed u w (ix2 (i 0) k) * g (ix2 0 k)) (i 1)

/-- The gradient of the norm's gain. -/
def gains (u : S4096x4096.Idx → EReal) (h : S4096x1024.Idx → EReal) (w : S1024x4096.Idx → EReal) : S1x1024.Idx → EReal := fun i =>
  Norm.gain (fun (n : Fin 4096) k => h (ix2 n k)) (fun n k => normed u w (ix2 n k)) (i 1)

/-! ## The stored values, at an index -/

theorem stored_stream (d x h : FVec Ideal S512x1024 .f32) (g : FVec Ideal S1x1024 .f32) (r : Fin 512) (j : Fin 1024) :
    k0_pay4 d x h g (k0_pay8 h) (Scalar.ofBits .f32 0x358637BD#32) (ix2 r j)
      = x (ix2 r j) + Norm.grad (fun k => h (ix2 r k)) (fun k => d (ix2 r k) * g (ix2 0 k)) j := by
  pointwise [k0_pay4, k0_pay2, k0_pay1, k0_pay8, Norm.grad, Norm.level]

theorem stored_gain (d h : FVec Ideal S512x1024 .f32) (j : Fin 1024) :
    k0_pay3 d h (k0_pay8 h) (Scalar.ofBits .f32 0x358637BD#32) (ix2 0 j)
      = Norm.gain (fun (n : Fin 512) k => h (ix2 n k)) (fun n k => d (ix2 n k)) j := by
  pointwise [k0_pay3, k0_pay2, k0_pay1, k0_pay8, Norm.gain, Norm.level]

theorem added_gain (d h : FVec Ideal S512x1024 .f32) (a : FVec Ideal S1x1024 .f32) (j : Fin 1024) :
    k0_pay6 d h (k0_pay8 h) (Scalar.ofBits .f32 0x358637BD#32) a (ix2 0 j)
      = a (ix2 0 j) + k0_pay3 d h (k0_pay8 h) (Scalar.ofBits .f32 0x358637BD#32) (ix2 0 j) := by
  pointwise [k0_pay6]

/-- A sum over 4096 indices in four parts of 1024. -/
theorem sum_four (f : Fin 4096 → EReal) :
    (∑ k : Fin 4096, f k) = (∑ k : Fin 1024, f ⟨k.val, by omega⟩) + (∑ k : Fin 1024, f ⟨1024 + k.val, by omega⟩)
      + (∑ k : Fin 1024, f ⟨2048 + k.val, by omega⟩) + (∑ k : Fin 1024, f ⟨3072 + k.val, by omega⟩) := by
  rw [← Fin.sum_mul_add_fin (S := 4) (n := 1024) f, Fin.sum_univ_four]
  rfl

theorem index_0 : ∀ t : Fin cfg0.N, win0_0.index t = ![t.val, 0] := (by decide +kernel : ∀ t : Fin grid0.N, _)
theorem index_1 : ∀ t : Fin cfg0.N, win0_1.index t = ![0, 0, 0] := (by decide +kernel : ∀ t : Fin grid0.N, _)
theorem index_2 : ∀ t : Fin cfg0.N, win0_2.index t = ![t.val, 0] := (by decide +kernel : ∀ t : Fin grid0.N, _)
theorem index_3 : ∀ t : Fin cfg0.N, win0_3.index t = ![t.val, 0] := (by decide +kernel : ∀ t : Fin grid0.N, _)
theorem index_4 : ∀ t : Fin cfg0.N, win0_4.index t = ![0, 0] := (by decide +kernel : ∀ t : Fin grid0.N, _)
theorem index_5 : ∀ t : Fin cfg0.N, win0_5.index t = ![t.val, 0] := (by decide +kernel : ∀ t : Fin grid0.N, _)
theorem index_6 : ∀ t : Fin cfg0.N, win0_6.index t = ![t.val, 0] := (by decide +kernel : ∀ t : Fin grid0.N, _)
theorem index_7 : ∀ t : Fin cfg0.N, win0_7.index t = ![0, 0] := (by decide +kernel : ∀ t : Fin grid0.N, _)

variable (m : (ℓ : Loc nD τ sig) → Buf (Elt Ideal) ℓ) (c : Dev nD)

set_option maxHeartbeats 1100000 in
/-- The packed weights. -/
theorem packed_eq : V m c main_v8 = (truncf .bf16 (concatenate S4x2368x1024 1 [⟨S4x1024x1024, transpose S4x1024x1024 [1, 0, 2] (shapeCast S1024x4x1024 (m ((c : Thread nD τ).loc main_arg4)) shapeCasts_S1024x4096_S1024x4x1024) transposes_S1024x4x1024_S4x1024x1024_1_0_2⟩,
    ⟨S4x1024x1024, shapeCast S4x1024x1024 (m ((c : Thread nD τ).loc main_arg5)) shapeCasts_S4096x1024_S4x1024x1024⟩,
    ⟨S4x256x1024, shapeCast S4x256x1024 (m ((c : Thread nD τ).loc main_arg6)) shapeCasts_S1024x1024_S4x256x1024⟩,
    ⟨S4x64x1024, shapeCast S4x64x1024 (transpose S4x256x256 [1, 0, 2] (shapeCast S256x4x256 (m ((c : Thread nD τ).loc main_arg7)) shapeCasts_S256x1024_S256x4x256) transposes_S256x4x256_S4x256x256_1_0_2) shapeCasts_S4x256x256_S4x64x1024⟩]
    concatenates_S4x1024x1024_S4x1024x1024_S4x256x1024_S4x64x1024_S4x2368x1024_d1 : FVec Ideal S4x2368x1024 .f32) bitsLt_bf16_f32 : FVec Ideal S4x2368x1024 .bf16) := by
  simp only [V, hostOps0, List.flatten_cons, List.flatten_nil, List.append_nil, List.cons_append, List.nil_append]
  after_results <;> rfl

/-- The first 1024 rows of the four parts set on top of each other are the first part. -/
theorem first_part (w0 w1 : FVec Ideal S4x1024x1024 .f32) (w2 : FVec Ideal S4x256x1024 .f32) (w3 : FVec Ideal S4x64x1024 .f32) (p : Fin 4) (r d : Fin 1024) :
    (truncf .bf16 (concatenate S4x2368x1024 1 [⟨S4x1024x1024, w0⟩, ⟨S4x1024x1024, w1⟩, ⟨S4x256x1024, w2⟩, ⟨S4x64x1024, w3⟩]
      concatenates_S4x1024x1024_S4x1024x1024_S4x256x1024_S4x64x1024_S4x2368x1024_d1 : FVec Ideal S4x2368x1024 .f32) bitsLt_bf16_f32 : FVec Ideal S4x2368x1024 .bf16)
      (ix3 p ⟨r.val, by omega⟩ d) = w0 (ix3 p r d) := by
  pointwise []

theorem columns_of_chip (w : FVec Ideal S1024x4096 .f32) (p : Fin 4) (r d : Fin 1024) :
    transpose S4x1024x1024 [1, 0, 2] (shapeCast S1024x4x1024 w shapeCasts_S1024x4096_S1024x4x1024) transposes_S1024x4x1024_S4x1024x1024_1_0_2 (ix3 p r d) = w (ix2 r ⟨p.val * 1024 + d.val, by omega⟩) := by
  pointwise []

/-- The first weight's columns in the packed weights. -/
theorem packed (p : Fin 4) (r d : Fin 1024) :
    (V m c main_v8 : S4x2368x1024.Idx → EReal) (ix3 p ⟨r.val, by omega⟩ d) = V m c main_arg4 (ix2 r ⟨p.val * 1024 + d.val, by omega⟩) := by
  rw [packed_eq, V_main_arg4]
  exact (first_part _ _ _ _ p r d).trans (columns_of_chip _ p r d)

/-- The window of the packed weights, at an index. -/
theorem weight (t : Fin cfg0.N) (p : Fin 4) (k r : Fin 1024) :
    X0_1 m c t (ix3 p k r) = V m c main_arg4 (ix2 k ⟨p.val * 1024 + r.val, by omega⟩) := by
  unfold X0_1 Pipeline.Window.fill
  rw [dif_pos (moved0_1 t _)]
  refine Eq.trans ?_ (packed m c p k r)
  blk_simp [iblk]
  refine congrArg _ ?_
  blk_ext [index_1]

/-- The cotangent of the normalised input at a grid point. -/
def cotangent (t : Fin cfg0.N) : FVec Ideal S512x1024 .f32 :=
  k0_pay7 (View.ld (iblk m c 0 t) (Rect.unit ![0, 0] ![512, 1024] inb_S512x4096_S512x1024_0_0))
    (View.ld (X0_1 m c t) (Rect.unit ![0, 0, 0] ![1, 1024, 1024] inb_S4x1024x1024_S1x1024x1024_0_0_0))
    (View.ld (iblk m c 0 t) (Rect.unit ![0, 1024] ![512, 1024] inb_S512x4096_S512x1024_0_1024))
    (View.ld (X0_1 m c t) (Rect.unit ![1, 0, 0] ![1, 1024, 1024] inb_S4x1024x1024_S1x1024x1024_1_0_0))
    (View.ld (iblk m c 0 t) (Rect.unit ![0, 2048] ![512, 1024] inb_S512x4096_S512x1024_0_2048))
    (View.ld (X0_1 m c t) (Rect.unit ![2, 0, 0] ![1, 1024, 1024] inb_S4x1024x1024_S1x1024x1024_2_0_0))
    (View.ld (iblk m c 0 t) (Rect.unit ![0, 3072] ![512, 1024] inb_S512x4096_S512x1024_0_3072))
    (View.ld (X0_1 m c t) (Rect.unit ![3, 0, 0] ![1, 1024, 1024] inb_S4x1024x1024_S1x1024x1024_3_0_0))

/-- The four products of a grid point over variables. -/
theorem four_products (a0 a1 a2 a3 : FVec Ideal S512x1024 .bf16) (b0 b1 b2 b3 : FVec Ideal S1x1024x1024 .bf16) (r : Fin 512) (j : Fin 1024) :
    (k0_pay7 (F := Ideal) a0 b0 a1 b1 a2 b2 a3 b3 : S512x1024.Idx → EReal) (ix2 r j)
      = (∑ k : Fin 1024, a0 (ix2 r k) * b0 (ix3 0 j k)) + (∑ k : Fin 1024, a1 (ix2 r k) * b1 (ix3 0 j k))
        + (∑ k : Fin 1024, a2 (ix2 r k) * b2 (ix3 0 j k)) + (∑ k : Fin 1024, a3 (ix2 r k) * b3 (ix3 0 j k)) := by
  pointwise [k0_pay7]

theorem tokens (t : Fin cfg0.N) (r : Fin 512) (k : Fin 4096) :
    (iblk m c 0 t : S512x4096.Idx → EReal) (ix2 r k) = V m c main_arg0 (ix2 ⟨t.val * 512 + r.val, by have ht : t.val < 8 := t.isLt; omega⟩ k) := by
  blk_simp [iblk]
  refine congrArg _ ?_
  blk_ext [index_0]

/-- Columns of a block from an offset on. -/
theorem columns (x : S512x4096.Idx → EReal) (o : ℕ) (h : ∀ a : Fin S512x4096.rank, (![0, o] : Fin 2 → ℕ) a + (![512, 1024] : Fin 2 → ℕ) a ≤ S512x4096.size a) (r : Fin 512) (k : Fin 1024) (ho : o + k.val < 4096) :
    View.ld (Val := Elt Ideal) (e' := .bf16) x (Rect.unit (s := S512x4096) ![0, o] ![512, 1024] h) (ix2 r k) = x (ix2 r ⟨o + k.val, ho⟩) := by
  refine congrArg x (funext fun b => Fin.ext ?_)
  fin_cases b <;> refine (Rect.idx_unit_val _ _ _ _ _).trans ?_ <;> simp

/-- A part of a packed block. -/
theorem part_of (x : S4x1024x1024.Idx → EReal) (p : Fin 4) (h : ∀ a : Fin S4x1024x1024.rank, (![p.val, 0, 0] : Fin 3 → ℕ) a + (![1, 1024, 1024] : Fin 3 → ℕ) a ≤ S4x1024x1024.size a) (j k : Fin 1024) :
    View.ld (Val := Elt Ideal) (e' := .bf16) x (Rect.unit (s := S4x1024x1024) ![p.val, 0, 0] ![1, 1024, 1024] h) (ix3 0 j k) = x (ix3 p j k) := by
  refine congrArg x (funext fun b => Fin.ext ?_)
  fin_cases b <;> refine (Rect.idx_unit_val _ _ _ _ _).trans ?_ <;> simp

theorem cotangent_apply (t : Fin cfg0.N) (r : Fin 512) (j : Fin 1024) :
    cotangent m c t (ix2 r j) = normed (V m c main_arg0) (V m c main_arg4) (ix2 ⟨t.val * 512 + r.val, by have ht : t.val < 8 := t.isLt; omega⟩ j) := by
  unfold cotangent
  refine (four_products _ _ _ _ _ _ _ _ r j).trans ?_
  refine Eq.trans ?_ (sum_four _).symm
  refine congrArg₂ (fun a b : EReal => a + b) (congrArg₂ (fun a b : EReal => a + b) (congrArg₂ (fun a b : EReal => a + b) ?_ ?_) ?_) ?_
  · refine (Finset.sum_congr rfl fun k _ => congrArg₂ (fun a b : EReal => a * b) ?_ ?_ : (_ : EReal) = _)
    · exact (columns _ 0 _ r k (by omega)).trans ((tokens m c t r ⟨0 + k.val, by omega⟩).trans (congrArg _ (by blk_ext [])))
    · exact (part_of _ 0 _ j k).trans ((weight m c t 0 j k).trans (congrArg _ (by blk_ext [])))
  · refine (Finset.sum_congr rfl fun k _ => congrArg₂ (fun a b : EReal => a * b) ?_ ?_ : (_ : EReal) = _)
    · exact (columns _ 1024 _ r k (by omega)).trans ((tokens m c t r ⟨1024 + k.val, by omega⟩).trans (congrArg _ (by blk_ext [])))
    · exact (part_of _ 1 _ j k).trans ((weight m c t 1 j k).trans (congrArg _ (by blk_ext [])))
  · refine (Finset.sum_congr rfl fun k _ => congrArg₂ (fun a b : EReal => a * b) ?_ ?_ : (_ : EReal) = _)
    · exact (columns _ 2048 _ r k (by omega)).trans ((tokens m c t r ⟨2048 + k.val, by omega⟩).trans (congrArg _ (by blk_ext [])))
    · exact (part_of _ 2 _ j k).trans ((weight m c t 2 j k).trans (congrArg _ (by blk_ext [])))
  · refine (Finset.sum_congr rfl fun k _ => congrArg₂ (fun a b : EReal => a * b) ?_ ?_ : (_ : EReal) = _)
    · exact (columns _ 3072 _ r k (by omega)).trans ((tokens m c t r ⟨3072 + k.val, by omega⟩).trans (congrArg _ (by blk_ext [])))
    · exact (part_of _ 3 _ j k).trans ((weight m c t 3 j k).trans (congrArg _ (by blk_ext [])))

theorem inputs (t : Fin cfg0.N) (r : Fin 512) (k : Fin 1024) :
    (iblk m c 3 t : S512x1024.Idx → EReal) (ix2 r k) = V m c main_arg2 (ix2 ⟨t.val * 512 + r.val, by have ht : t.val < 8 := t.isLt; omega⟩ k) := by
  blk_simp [iblk]
  refine congrArg _ ?_
  blk_ext [index_3]

theorem stored_block (t : Fin cfg0.N) (r : Fin 512) (j : Fin 1024) :
    k0_pay4 (cotangent m c t) (iblk m c 2 t) (iblk m c 3 t) (iblk m c 4 t) (k0_pay8 (iblk m c 3 t)) (Scalar.ofBits .f32 0x358637BD#32) (ix2 r j)
      = stream (V m c main_arg0) (V m c main_arg1) (V m c main_arg2) (V m c main_arg3) (V m c main_arg4) (ix2 ⟨t.val * 512 + r.val, by have ht : t.val < 8 := t.isLt; omega⟩ j) := by
  refine (stored_stream _ _ _ _ r j).trans ?_
  refine congrArg₂ (fun a b : EReal => a + b) ?_ (congrArg₂ (fun h e => Norm.grad h e j) (funext fun k => ?_) (funext fun k => congrArg₂ (fun a b : EReal => a * b) ?_ ?_))
  · blk_simp [iblk]
    refine congrArg _ ?_
    blk_ext [index_2]
  · exact inputs m c t r k
  · exact cotangent_apply m c t r k
  · blk_simp [iblk]
    refine congrArg _ ?_
    blk_ext [index_4]

/-- The gradient of the residual stream after the call. -/
theorem final_stream : (dats m 0 c).arrAt 5 cfg0.N = stream (V m c main_arg0) (V m c main_arg1) (V m c main_arg2) (V m c main_arg3) (V m c main_arg4) := by
  refine (dats m 0 c).arrAt_eq_of_covers 5 _ (by decide +kernel) (fun t hf y => ?_)
  blk_simp
  rw [after0_5]
  have ht : t.val < 8 := t.isLt
  obtain ⟨r, d, rfl⟩ : ∃ (r : Fin 512) (d : Fin 1024), y = ix2 r d :=
    ⟨y 0, y 1, funext fun b => by fin_cases b <;> rfl⟩
  rw [show ((View.whole main_v9_0).slice (win0_5.rect t)).emb (ix2 r d) = ix2 ⟨t.val * 512 + r.val, by omega⟩ d by blk_ext [index_5]]
  by_cases h : t.val % 8 = 0
  · rw [outsAt0_A m c t h (by omega)]
    frame_out
    exact stored_block m c t r d
  · rw [outsAt0_B m c t h (by omega)]
    frame_out
    exact stored_block m c t r d

/-- Its copy in the lower precision. -/
theorem final_copy : (dats m 0 c).arrAt 6 cfg0.N = stream (V m c main_arg0) (V m c main_arg1) (V m c main_arg2) (V m c main_arg3) (V m c main_arg4) := by
  refine (dats m 0 c).arrAt_eq_of_covers 6 _ (by decide +kernel) (fun t hf y => ?_)
  blk_simp
  rw [after0_6]
  have ht : t.val < 8 := t.isLt
  obtain ⟨r, d, rfl⟩ : ∃ (r : Fin 512) (d : Fin 1024), y = ix2 r d :=
    ⟨y 0, y 1, funext fun b => by fin_cases b <;> rfl⟩
  rw [show ((View.whole main_v9_1).slice (win0_6.rect t)).emb (ix2 r d) = ix2 ⟨t.val * 512 + r.val, by omega⟩ d by blk_ext [index_6]]
  by_cases h : t.val % 8 = 0
  · rw [outsAt0_A m c t h (by omega)]
    frame_out
    exact stored_block m c t r d
  · rw [outsAt0_B m c t h (by omega)]
    frame_out
    exact stored_block m c t r d

/-- What a grid point adds to the gain's gradient. -/
theorem stored_sum (t : Fin cfg0.N) (j : Fin 1024) :
    k0_pay3 (cotangent m c t) (iblk m c 3 t) (k0_pay8 (iblk m c 3 t)) (Scalar.ofBits .f32 0x358637BD#32) (ix2 0 j)
      = Norm.gain (fun (n : Fin 512) k => V m c main_arg2 (ix2 ⟨t.val * 512 + n.val, by have ht : t.val < 8 := t.isLt; omega⟩ k))
        (fun n k => normed (V m c main_arg0) (V m c main_arg4) (ix2 ⟨t.val * 512 + n.val, by have ht : t.val < 8 := t.isLt; omega⟩ k)) j := by
  refine (stored_gain _ _ j).trans ?_
  exact congrArg₂ (fun h d => Norm.gain h d j) (funext fun n => funext fun k => inputs m c t n k) (funext fun n => funext fun k => cotangent_apply m c t n k)

/-- The gain's gradient after the call. -/
theorem final_gain : (dats m 0 c).arrAt 7 cfg0.N = gains (V m c main_arg0) (V m c main_arg2) (V m c main_arg4) := by
  refine (dats m 0 c).arrAt_eq_of_covers 7 _ (by decide +kernel) (fun t hf y => ?_)
  have ht : t.val < 8 := t.isLt
  have hlast : t.val % 8 = 7 := (flush0_7 t).mp hf
  blk_simp
  rw [after0_7]
  obtain ⟨d, rfl⟩ : ∃ d : Fin 1024, y = ix2 0 d :=
    ⟨y 1, funext fun b => by fin_cases b; exact Subsingleton.elim (α := Fin 1) _ _; rfl⟩
  rw [show ((View.whole main_v9_2).slice (win0_7.rect t)).emb (ix2 0 d) = ix2 0 d by blk_ext [index_7]]
  rw [Pipeline.eq_sum_fin_of_reset_step_apply_last (fun n h => (outsAt0 m c n h).2.2) 8 (fun _ => (0 : EReal))
    (fun t i => k0_pay3 (cotangent m c t) (iblk m c 3 t) (k0_pay8 (iblk m c 3 t)) (Scalar.ofBits .f32 0x358637BD#32) i)
    (fun t h j => by
      have ht : t.val < 8 := t.isLt
      rw [outsAt0_A m c t h (by omega)]
      frame_out
      exact (zero_add _).symm)
    (fun t h j => by
      have ht : t.val < 8 := t.isLt
      rw [outsAt0_B m c t h (by omega)]
      frame_out
      obtain ⟨d, rfl⟩ : ∃ d : Fin 1024, j = ix2 0 d :=
        ⟨j 1, funext fun b => by fin_cases b; exact Subsingleton.elim (α := Fin 1) _ _; rfl⟩
      exact added_gain _ _ _ d)
    (le_of_eq N_0) t ((show t.val + 1 = 8 by omega).trans N_0.symm) (ix2 0 d), zero_add]
  refine (Finset.sum_congr rfl fun p _ => stored_sum m c p d).trans ?_
  exact Norm.gain_parts N_0 (fun i k => V m c main_arg2 (ix2 i k)) (fun i k => normed (V m c main_arg0) (V m c main_arg4) (ix2 i k)) d

end Cert.Kernel12Ideal.Product

namespace Cert.Reference12Ideal.Product

open Idealize.ShloMosaic Idealize.ShloMosaic.TcCoe
open Cert.Kernel12Ideal.Gen (V_main_arg0 V_main_arg1 V_main_arg2 V_main_arg3 V_main_arg4)
open Cert.Reference12Ideal Cert.Reference12Ideal.Gen
open Cert.Kernel12Ideal.Product (normed stream gains)

theorem result_normed (u : FVec Ideal S4096x4096 .bf16) (w : FVec Ideal S1024x4096 .f32) :
    (Host.dotGeneral (φ₁ := .f32) (φ₂ := .f32) dot_S4096x4096_S1024x4096_S4096x1024_1_1_0_0_n_n none (extf .f32 u bitsLt_bf16_f32) w : FVec Ideal S4096x1024 .f32) = normed u w := by
  funext i
  idx_vars i
  pointwise [normed]

variable (d x h : FVec Ideal S4096x1024 .f32) (g : FVec Ideal S1x1024 .f32)

theorem result_stream (r : Fin 4096) (j : Fin 1024) :
    (addf (addf (addf x (mulf (mulf d (broadcastInDim S4096x1024 ![0, 1] bcast_S1x1024_S4096x1024_0_1 g)) (broadcastInDim S4096x1024 ![0, 1] bcast_S4096x1_S4096x1024_0_1 (Host.rsqrt (addf (Host.divf (broadcastInDim S4096x1 ![0] bcast_S4096_S4096x1_0 (Host.reduceAdd (mulf h h) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32))))))) (mulf h (broadcastInDim S4096x1024 ![0] bcast_S4096_S4096x1024_0 (Host.reduceAdd (Host.divf (mulf (shapeCast S4096x1 (Host.reduceAdd (mulf h (mulf d (broadcastInDim S4096x1024 ![0, 1] bcast_S1x1024_S4096x1024_0_1 g))) (constant S_ .f32 0x00000000#32) reducesTo_S4096x1024_S4096_d1 h_S_) shapeCasts_S4096_S4096x1) (mulf (broadcastInDim S4096x1 ![] bcast_S_S4096x1 (constant S_ .f32 0xBF000000#32)) (Host.divf (Host.rsqrt (addf (Host.divf (broadcastInDim S4096x1 ![0] bcast_S4096_S4096x1_0 (Host.reduceAdd (mulf h h) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))) (addf (Host.divf (broadcastInDim S4096x1 ![0] bcast_S4096_S4096x1_0 (Host.reduceAdd (mulf h h) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1 ![] bcast_S_S4096x1 (constant S_ .f32 0x44800000#32))) (constant S_ .f32 0x00000000#32) reducesTo_S4096x1_S4096_d1 h_S_)))) (mulf (broadcastInDim S4096x1024 ![0] bcast_S4096_S4096x1024_0 (Host.reduceAdd (Host.divf (mulf (shapeCast S4096x1 (Host.reduceAdd (mulf h (mulf d (broadcastInDim S4096x1024 ![0, 1] bcast_S1x1024_S4096x1024_0_1 g))) (constant S_ .f32 0x00000000#32) reducesTo_S4096x1024_S4096_d1 h_S_) shapeCasts_S4096_S4096x1) (mulf (broadcastInDim S4096x1 ![] bcast_S_S4096x1 (constant S_ .f32 0xBF000000#32)) (Host.divf (Host.rsqrt (addf (Host.divf (broadcastInDim S4096x1 ![0] bcast_S4096_S4096x1_0 (Host.reduceAdd (mulf h h) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))) (addf (Host.divf (broadcastInDim S4096x1 ![0] bcast_S4096_S4096x1_0 (Host.reduceAdd (mulf h h) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1 ![] bcast_S_S4096x1 (constant S_ .f32 0x44800000#32))) (constant S_ .f32 0x00000000#32) reducesTo_S4096x1_S4096_d1 h_S_)) h) : FVec Ideal S4096x1024 .f32) (ix2 r j)
      = x (ix2 r j) + Norm.grad (fun k => h (ix2 r k)) (fun k => d (ix2 r k) * g (ix2 0 k)) j := by
  refine Eq.trans ?_ (Norm.grad_eq _ _ _ j).symm
  pointwise [Norm.back, Norm.level]
  simp only [Fin.sum_univ_one]

theorem result_gain (j : Fin 1024) :
    (shapeCast S1x1024 (Host.reduceAdd (mulf (mulf h (broadcastInDim S4096x1024 ![0, 1] bcast_S4096x1_S4096x1024_0_1 (Host.rsqrt (addf (Host.divf (broadcastInDim S4096x1 ![0] bcast_S4096_S4096x1_0 (Host.reduceAdd (mulf h h) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) d) (constant S_ .f32 0x00000000#32) reducesTo_S4096x1024_S1024_d0 h_S_) shapeCasts_S1024_S1x1024 : FVec Ideal S1x1024 .f32) (ix2 0 j)
      = Norm.gain (fun (n : Fin 4096) k => h (ix2 n k)) (fun n k => d (ix2 n k)) j := by
  pointwise [Norm.gain, Norm.level]
  exact Finset.sum_congr rfl fun n _ => mul_comm _ _

/-- From the same arguments the call and the reference leave the same gradients. -/
theorem same : Cert.algebraic_Kernel12Ideal_Reference12Ideal := fun m g m' g' _ hargs => by
  refine ⟨fun c => stream (m (c.tc.loc Kernel12Ideal.main_arg0))
    (m (c.tc.loc Kernel12Ideal.main_arg1))
    (m (c.tc.loc Kernel12Ideal.main_arg2))
    (m (c.tc.loc Kernel12Ideal.main_arg3))
    (m (c.tc.loc Kernel12Ideal.main_arg4)),
    fun c => stream (m (c.tc.loc Kernel12Ideal.main_arg0))
    (m (c.tc.loc Kernel12Ideal.main_arg1))
    (m (c.tc.loc Kernel12Ideal.main_arg2))
    (m (c.tc.loc Kernel12Ideal.main_arg3))
    (m (c.tc.loc Kernel12Ideal.main_arg4)),
    fun c => gains (m (c.tc.loc Kernel12Ideal.main_arg0))
    (m (c.tc.loc Kernel12Ideal.main_arg2))
    (m (c.tc.loc Kernel12Ideal.main_arg4)), ?_, ?_⟩
  · refine (θ_run Kernel12Ideal.defs _ _).mono (fun r h c => ⟨(h c).1.trans ?_, (h c).2.1.trans ?_, (h c).2.2.1.trans ?_, (h c).2.2.2⟩) (Kernel12Ideal.Value.run_blocks m g)
    · rw [Kernel12Ideal.Product.final_stream, V_main_arg0, V_main_arg1, V_main_arg2, V_main_arg3, V_main_arg4]
    · rw [Kernel12Ideal.Product.final_copy, V_main_arg0, V_main_arg1, V_main_arg2, V_main_arg3, V_main_arg4]
    · rw [Kernel12Ideal.Product.final_gain, V_main_arg0, V_main_arg2, V_main_arg4]
  · refine (θ_run Reference12Ideal.defs _ _).mono (fun r h c => ⟨(h c).1.trans ?_, (h c).2.1.trans ?_, (h c).2.2.1.trans ?_, (h c).2.2.2⟩) (Reference12Ideal.Value.run (F := Ideal) m' g')
    all_goals obtain ⟨a0, a1, a2, a3, a4, _⟩ := hargs c
    · funext i
      obtain ⟨p, j, rfl⟩ : ∃ (p : Fin 4096) (j : Fin 1024), i = ix2 p j := ⟨i 0, i 1, funext fun b => by fin_cases b <;> rfl⟩
      unfold Reference12Ideal.Value.res_main_v37
      refine (result_stream _ _ _ _ p j).trans ?_
      rw [result_normed, a0, a1, a2, a3, a4]
      rfl
    · funext i
      obtain ⟨p, j, rfl⟩ : ∃ (p : Fin 4096) (j : Fin 1024), i = ix2 p j := ⟨i 0, i 1, funext fun b => by fin_cases b <;> rfl⟩
      unfold Reference12Ideal.Value.res_main_v38
      refine (result_stream _ _ _ _ p j).trans ?_
      rw [result_normed, a0, a1, a2, a3, a4]
      rfl
    · funext i
      obtain ⟨j, rfl⟩ : ∃ j : Fin 1024, i = ix2 0 j := ⟨i 1, funext fun b => by fin_cases b; exact Subsingleton.elim (α := Fin 1) _ _; rfl⟩
      refine (result_gain _ _ j).trans ?_
      rw [result_normed, a0, a2, a4]
      rfl

end Cert.Reference12Ideal.Product

end
-- ==== Proof.Products.DInGates.lean ====
module

public import proofs.«01_k».proof.Proof.Products.Norm
public import proofs.«01_k».proof.Proof.Gen.Kernel13Ideal.Value
public import proofs.«01_k».proof.Proof.Gen.Reference13Ideal.Run

@[expose] public section

set_option maxRecDepth 16384

noncomputable section

/-! # The gradient of the token mixer's input and of its norm

The cotangent of the gates goes back through their columns of the weight and is added to the cotangent from the other
columns. The sum goes back through the root-mean-square norm in front of the token mixer and is added to the cotangent
of the residual. The gain's gradient is summed over all tokens. -/

namespace Cert.Kernel13Ideal.Product

open Idealize.ShloMosaic Idealize.ShloMosaic.TcCoe
open Cert.Kernel13Ideal Cert.Kernel13Ideal.Gen

/-- The cotangent of the normalised input at a token and a channel. -/
def normed (z : S4096x2048.Idx → EReal) (a : S4096x1024.Idx → EReal) (w : S1024x5888.Idx → EReal) : S4096x1024.Idx → EReal := fun i =>
  (∑ k : Fin 2048, z (ix2 (i 0) k) * w (ix2 (i 1) ⟨3840 + k.val, by omega⟩)) + a i

/-- The gradient of the residual stream at a token and a channel. -/
def stream (z : S4096x2048.Idx → EReal) (a x h : S4096x1024.Idx → EReal) (g : S1x1024.Idx → EReal) (w : S1024x5888.Idx → EReal) : S4096x1024.Idx → EReal := fun i =>
  x i + Norm.grad (fun k => h (ix2 (i 0) k)) (fun k => normed z a w (ix2 (i 0) k) * g (ix2 0 k)) (i 1)

/-- The gradient of the norm's gain. -/
def gains (z : S4096x2048.Idx → EReal) (a h : S4096x1024.Idx → EReal) (w : S1024x5888.Idx → EReal) : S1x1024.Idx → EReal := fun i =>
  Norm.gain (fun (n : Fin 4096) k => h (ix2 n k)) (fun n k => normed z a w (ix2 n k)) (i 1)

/-! ## The stored values, at an index -/

theorem stored_normed (z : FVec Ideal S512x2048 .bf16) (w : FVec Ideal S1024x2048 .bf16) (a : FVec Ideal S512x1024 .f32) (r : Fin 512) (j : Fin 1024) :
    (k0_pay2 (F := Ideal) z w a : S512x1024.Idx → EReal) (ix2 r j) = (∑ k : Fin 2048, z (ix2 r k) * w (ix2 j k)) + a (ix2 r j) := by
  pointwise [k0_pay2]

theorem stored_stream (z : FVec Ideal S512x2048 .bf16) (w : FVec Ideal S1024x2048 .bf16) (a x h : FVec Ideal S512x1024 .f32) (g : FVec Ideal S1x1024 .f32) (r : Fin 512) (j : Fin 1024) :
    (k0_pay6 (F := Ideal) z w a x h g : S512x1024.Idx → EReal) (ix2 r j)
      = x (ix2 r j) + Norm.grad (fun k => h (ix2 r k)) (fun k => (k0_pay2 (F := Ideal) z w a : S512x1024.Idx → EReal) (ix2 r k) * g (ix2 0 k)) j := by
  unfold k0_pay6
  generalize k0_pay2 (F := Ideal) z w a = d
  pointwise [k0_pay4, k0_pay3, Norm.grad, Norm.level]

theorem stored_gain (z : FVec Ideal S512x2048 .bf16) (w : FVec Ideal S1024x2048 .bf16) (a h : FVec Ideal S512x1024 .f32) (j : Fin 1024) :
    (k0_pay5 (F := Ideal) z w a h : S1x1024.Idx → EReal) (ix2 0 j)
      = Norm.gain (fun (n : Fin 512) k => h (ix2 n k)) (fun n k => (k0_pay2 (F := Ideal) z w a : S512x1024.Idx → EReal) (ix2 n k)) j := by
  unfold k0_pay5
  generalize k0_pay2 (F := Ideal) z w a = d
  pointwise [k0_pay4, k0_pay3, Norm.gain, Norm.level]

theorem added_gain (s b : FVec Ideal S1x1024 .f32) (j : Fin 1024) :
    (k0_pay1 (F := Ideal) s b : S1x1024.Idx → EReal) (ix2 0 j) = b (ix2 0 j) + s (ix2 0 j) := by
  pointwise [k0_pay1]

theorem index_0 : ∀ t : Fin cfg0.N, win0_0.index t = ![t.val, 0] := (by decide +kernel : ∀ t : Fin grid0.N, _)
theorem index_1 : ∀ t : Fin cfg0.N, win0_1.index t = ![0, 0] := (by decide +kernel : ∀ t : Fin grid0.N, _)
theorem index_2 : ∀ t : Fin cfg0.N, win0_2.index t = ![t.val, 0] := (by decide +kernel : ∀ t : Fin grid0.N, _)
theorem index_3 : ∀ t : Fin cfg0.N, win0_3.index t = ![t.val, 0] := (by decide +kernel : ∀ t : Fin grid0.N, _)
theorem index_4 : ∀ t : Fin cfg0.N, win0_4.index t = ![t.val, 0] := (by decide +kernel : ∀ t : Fin grid0.N, _)
theorem index_5 : ∀ t : Fin cfg0.N, win0_5.index t = ![0, 0] := (by decide +kernel : ∀ t : Fin grid0.N, _)
theorem index_6 : ∀ t : Fin cfg0.N, win0_6.index t = ![t.val, 0] := (by decide +kernel : ∀ t : Fin grid0.N, _)
theorem index_7 : ∀ t : Fin cfg0.N, win0_7.index t = ![0, 0] := (by decide +kernel : ∀ t : Fin grid0.N, _)

variable (m : (ℓ : Loc nD τ sig) → Buf (Elt Ideal) ℓ) (c : Dev nD)

theorem start : (V m c main_v1 : S1024x2048.Idx → EReal) = fun i => m ((c : Thread nD τ).loc main_arg5) (ix2 (i 0) ⟨3840 + (i 1).val, by have h1 : (i 1).val < 2048 := (i 1).isLt; omega⟩) := by
  simp only [V, hostOps0, List.flatten_cons, List.flatten_nil, List.append_nil, List.cons_append, List.nil_append]
  after_results
  funext i
  idx_vars i
  pointwise []

/-- The window of the weight, at an index. -/
theorem weight (t : Fin cfg0.N) (j : Fin 1024) (k : Fin 2048) :
    iblk m c 1 t (ix2 j k) = V m c main_arg5 (ix2 j ⟨3840 + k.val, by omega⟩) := by
  rw [V_main_arg5]
  refine Eq.trans ?_ (congrFun (start m c) (ix2 j k))
  blk_simp [iblk]
  refine congrArg _ ?_
  blk_ext [index_1]

theorem inputs (t : Fin cfg0.N) (r : Fin 512) (k : Fin 1024) :
    (iblk m c 4 t : S512x1024.Idx → EReal) (ix2 r k) = V m c main_arg3 (ix2 ⟨t.val * 512 + r.val, by have ht : t.val < 8 := t.isLt; omega⟩ k) := by
  blk_simp [iblk]
  refine congrArg _ ?_
  blk_ext [index_4]

theorem cotangent_apply (t : Fin cfg0.N) (r : Fin 512) (j : Fin 1024) :
    (k0_pay2 (F := Ideal) (iblk m c 0 t) (iblk m c 1 t) (iblk m c 2 t) : S512x1024.Idx → EReal) (ix2 r j)
      = normed (V m c main_arg0) (V m c main_arg1) (V m c main_arg5) (ix2 ⟨t.val * 512 + r.val, by have ht : t.val < 8 := t.isLt; omega⟩ j) := by
  refine (stored_normed _ _ _ r j).trans ?_
  refine congrArg₂ (fun a b : EReal => a + b) (Finset.sum_congr rfl fun k _ => congrArg₂ (fun a b : EReal => a * b) ?_ (weight m c t j k)) ?_
  · blk_simp [iblk]
    refine congrArg _ ?_
    blk_ext [index_0]
  · blk_simp [iblk]
    refine congrArg _ ?_
    blk_ext [index_2]

theorem stored_block (t : Fin cfg0.N) (r : Fin 512) (j : Fin 1024) :
    (k0_pay6 (F := Ideal) (iblk m c 0 t) (iblk m c 1 t) (iblk m c 2 t) (iblk m c 3 t) (iblk m c 4 t) (iblk m c 5 t) : S512x1024.Idx → EReal) (ix2 r j)
      = stream (V m c main_arg0) (V m c main_arg1) (V m c main_arg2) (V m c main_arg3) (V m c main_arg4) (V m c main_arg5) (ix2 ⟨t.val * 512 + r.val, by have ht : t.val < 8 := t.isLt; omega⟩ j) := by
  refine (stored_stream _ _ _ _ _ _ r j).trans ?_
  refine congrArg₂ (fun a b : EReal => a + b) ?_ (congrArg₂ (fun h e => Norm.grad h e j) (funext fun k => ?_) (funext fun k => congrArg₂ (fun a b : EReal => a * b) ?_ ?_))
  · blk_simp [iblk]
    refine congrArg _ ?_
    blk_ext [index_3]
  · exact inputs m c t r k
  · exact cotangent_apply m c t r k
  · blk_simp [iblk]
    refine congrArg _ ?_
    blk_ext [index_5]

/-- The gradient of the residual stream after the call. -/
theorem final_stream : (dats m 0 c).arrAt 6 cfg0.N = stream (V m c main_arg0) (V m c main_arg1) (V m c main_arg2) (V m c main_arg3) (V m c main_arg4) (V m c main_arg5) := by
  refine (dats m 0 c).arrAt_eq_of_covers 6 _ (by decide +kernel) (fun t hf y => ?_)
  blk_simp
  rw [after0_6]
  have ht : t.val < 8 := t.isLt
  obtain ⟨r, d, rfl⟩ : ∃ (r : Fin 512) (d : Fin 1024), y = ix2 r d :=
    ⟨y 0, y 1, funext fun b => by fin_cases b <;> rfl⟩
  rw [show ((View.whole main_v2_0).slice (win0_6.rect t)).emb (ix2 r d) = ix2 ⟨t.val * 512 + r.val, by omega⟩ d by blk_ext [index_6]]
  by_cases h : t.val % 8 = 0
  · rw [outsAt0_A m c t h (by omega)]
    frame_out
    exact stored_block m c t r d
  · rw [outsAt0_B m c t h (by omega)]
    frame_out
    exact stored_block m c t r d

/-- What a grid point adds to the gain's gradient. -/
theorem stored_sum (t : Fin cfg0.N) (j : Fin 1024) :
    (k0_pay5 (F := Ideal) (iblk m c 0 t) (iblk m c 1 t) (iblk m c 2 t) (iblk m c 4 t) : S1x1024.Idx → EReal) (ix2 0 j)
      = Norm.gain (fun (n : Fin 512) k => V m c main_arg3 (ix2 ⟨t.val * 512 + n.val, by have ht : t.val < 8 := t.isLt; omega⟩ k))
        (fun n k => normed (V m c main_arg0) (V m c main_arg1) (V m c main_arg5) (ix2 ⟨t.val * 512 + n.val, by have ht : t.val < 8 := t.isLt; omega⟩ k)) j := by
  refine (stored_gain _ _ _ _ j).trans ?_
  exact congrArg₂ (fun h d => Norm.gain h d j) (funext fun n => funext fun k => inputs m c t n k) (funext fun n => funext fun k => cotangent_apply m c t n k)

/-- The gain's gradient after the call. -/
theorem final_gain : (dats m 0 c).arrAt 7 cfg0.N = gains (V m c main_arg0) (V m c main_arg1) (V m c main_arg3) (V m c main_arg5) := by
  refine (dats m 0 c).arrAt_eq_of_covers 7 _ (by decide +kernel) (fun t hf y => ?_)
  have ht : t.val < 8 := t.isLt
  have hlast : t.val % 8 = 7 := (flush0_7 t).mp hf
  blk_simp
  rw [after0_7]
  obtain ⟨d, rfl⟩ : ∃ d : Fin 1024, y = ix2 0 d :=
    ⟨y 1, funext fun b => by fin_cases b; exact Subsingleton.elim (α := Fin 1) _ _; rfl⟩
  rw [show ((View.whole main_v2_1).slice (win0_7.rect t)).emb (ix2 0 d) = ix2 0 d by blk_ext [index_7]]
  rw [Pipeline.eq_sum_fin_of_reset_step_apply_last (fun n h => (outsAt0 m c n h).2) 8 (fun _ => (0 : EReal))
    (fun t i => (k0_pay5 (F := Ideal) (iblk m c 0 t) (iblk m c 1 t) (iblk m c 2 t) (iblk m c 4 t) : S1x1024.Idx → EReal) i)
    (fun t h j => by
      have ht : t.val < 8 := t.isLt
      rw [outsAt0_A m c t h (by omega)]
      frame_out
      exact (zero_add _).symm)
    (fun t h j => by
      have ht : t.val < 8 := t.isLt
      rw [outsAt0_B m c t h (by omega)]
      frame_out
      obtain ⟨d, rfl⟩ : ∃ d : Fin 1024, j = ix2 0 d :=
        ⟨j 1, funext fun b => by fin_cases b; exact Subsingleton.elim (α := Fin 1) _ _; rfl⟩
      exact added_gain _ _ d)
    (le_of_eq N_0) t ((show t.val + 1 = 8 by omega).trans N_0.symm) (ix2 0 d), zero_add]
  refine (Finset.sum_congr rfl fun p _ => stored_sum m c p d).trans ?_
  exact Norm.gain_parts N_0 (fun i k => V m c main_arg3 (ix2 i k)) (fun i k => normed (V m c main_arg0) (V m c main_arg1) (V m c main_arg5) (ix2 i k)) d

end Cert.Kernel13Ideal.Product

namespace Cert.Reference13Ideal.Product

open Idealize.ShloMosaic Idealize.ShloMosaic.TcCoe
open Cert.Kernel13Ideal.Gen (V_main_arg0 V_main_arg1 V_main_arg2 V_main_arg3 V_main_arg4 V_main_arg5)
open Cert.Reference13Ideal Cert.Reference13Ideal.Gen
open Cert.Kernel13Ideal.Product (normed stream gains)

theorem result_normed (z : FVec Ideal S4096x2048 .bf16) (a : FVec Ideal S4096x1024 .f32) (w : FVec Ideal S1024x5888 .f32) :
    (addf a (Host.dotGeneral (φ₁ := .f32) (φ₂ := .f32) dot_S4096x2048_S1024x2048_S4096x1024_1_1_0_0_n_n none (extf .f32 z bitsLt_bf16_f32) (extractStridedSlice S1024x2048 ![0, 3840] w slices_S1024x5888_S1024x2048_0_3840)) : FVec Ideal S4096x1024 .f32) = normed z a w := by
  funext i
  idx_vars i
  pointwise [normed]
  exact add_comm _ _

variable (d x h : FVec Ideal S4096x1024 .f32) (g : FVec Ideal S1x1024 .f32)

theorem result_stream (r : Fin 4096) (j : Fin 1024) :
    (addf (addf (addf x (mulf (mulf d (broadcastInDim S4096x1024 ![0, 1] bcast_S1x1024_S4096x1024_0_1 g)) (broadcastInDim S4096x1024 ![0, 1] bcast_S4096x1_S4096x1024_0_1 (Host.rsqrt (addf (Host.divf (broadcastInDim S4096x1 ![0] bcast_S4096_S4096x1_0 (Host.reduceAdd (mulf h h) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32))))))) (mulf h (broadcastInDim S4096x1024 ![0] bcast_S4096_S4096x1024_0 (Host.reduceAdd (Host.divf (mulf (shapeCast S4096x1 (Host.reduceAdd (mulf h (mulf d (broadcastInDim S4096x1024 ![0, 1] bcast_S1x1024_S4096x1024_0_1 g))) (constant S_ .f32 0x00000000#32) reducesTo_S4096x1024_S4096_d1 h_S_) shapeCasts_S4096_S4096x1) (mulf (broadcastInDim S4096x1 ![] bcast_S_S4096x1 (constant S_ .f32 0xBF000000#32)) (Host.divf (Host.rsqrt (addf (Host.divf (broadcastInDim S4096x1 ![0] bcast_S4096_S4096x1_0 (Host.reduceAdd (mulf h h) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))) (addf (Host.divf (broadcastInDim S4096x1 ![0] bcast_S4096_S4096x1_0 (Host.reduceAdd (mulf h h) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1 ![] bcast_S_S4096x1 (constant S_ .f32 0x44800000#32))) (constant S_ .f32 0x00000000#32) reducesTo_S4096x1_S4096_d1 h_S_)))) (mulf (broadcastInDim S4096x1024 ![0] bcast_S4096_S4096x1024_0 (Host.reduceAdd (Host.divf (mulf (shapeCast S4096x1 (Host.reduceAdd (mulf h (mulf d (broadcastInDim S4096x1024 ![0, 1] bcast_S1x1024_S4096x1024_0_1 g))) (constant S_ .f32 0x00000000#32) reducesTo_S4096x1024_S4096_d1 h_S_) shapeCasts_S4096_S4096x1) (mulf (broadcastInDim S4096x1 ![] bcast_S_S4096x1 (constant S_ .f32 0xBF000000#32)) (Host.divf (Host.rsqrt (addf (Host.divf (broadcastInDim S4096x1 ![0] bcast_S4096_S4096x1_0 (Host.reduceAdd (mulf h h) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))) (addf (Host.divf (broadcastInDim S4096x1 ![0] bcast_S4096_S4096x1_0 (Host.reduceAdd (mulf h h) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1 ![] bcast_S_S4096x1 (constant S_ .f32 0x44800000#32))) (constant S_ .f32 0x00000000#32) reducesTo_S4096x1_S4096_d1 h_S_)) h) : FVec Ideal S4096x1024 .f32) (ix2 r j)
      = x (ix2 r j) + Norm.grad (fun k => h (ix2 r k)) (fun k => d (ix2 r k) * g (ix2 0 k)) j := by
  refine Eq.trans ?_ (Norm.grad_eq _ _ _ j).symm
  pointwise [Norm.back, Norm.level]
  simp only [Fin.sum_univ_one]

theorem result_gain (j : Fin 1024) :
    (shapeCast S1x1024 (Host.reduceAdd (mulf (mulf h (broadcastInDim S4096x1024 ![0, 1] bcast_S4096x1_S4096x1024_0_1 (Host.rsqrt (addf (Host.divf (broadcastInDim S4096x1 ![0] bcast_S4096_S4096x1_0 (Host.reduceAdd (mulf h h) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) d) (constant S_ .f32 0x00000000#32) reducesTo_S4096x1024_S1024_d0 h_S_) shapeCasts_S1024_S1x1024 : FVec Ideal S1x1024 .f32) (ix2 0 j)
      = Norm.gain (fun (n : Fin 4096) k => h (ix2 n k)) (fun n k => d (ix2 n k)) j := by
  pointwise [Norm.gain, Norm.level]
  exact Finset.sum_congr rfl fun n _ => mul_comm _ _

/-- From the same arguments the call and the reference leave the same gradients. -/
theorem same : Cert.algebraic_Kernel13Ideal_Reference13Ideal := fun m g m' g' _ hargs => by
  refine ⟨fun c => stream (m (c.tc.loc Kernel13Ideal.main_arg0)) (m (c.tc.loc Kernel13Ideal.main_arg1)) (m (c.tc.loc Kernel13Ideal.main_arg2)) (m (c.tc.loc Kernel13Ideal.main_arg3)) (m (c.tc.loc Kernel13Ideal.main_arg4)) (m (c.tc.loc Kernel13Ideal.main_arg5)),
    fun c => gains (m (c.tc.loc Kernel13Ideal.main_arg0)) (m (c.tc.loc Kernel13Ideal.main_arg1)) (m (c.tc.loc Kernel13Ideal.main_arg3)) (m (c.tc.loc Kernel13Ideal.main_arg5)), ?_, ?_⟩
  · refine (θ_run Kernel13Ideal.defs _ _).mono (fun r h c => ⟨(h c).1.trans ?_, (h c).2.1.trans ?_, (h c).2.2⟩) (Kernel13Ideal.Value.run_blocks m g)
    · rw [Kernel13Ideal.Product.final_stream, V_main_arg0, V_main_arg1, V_main_arg2, V_main_arg3, V_main_arg4, V_main_arg5]
    · rw [Kernel13Ideal.Product.final_gain, V_main_arg0, V_main_arg1, V_main_arg3, V_main_arg5]
  · refine (θ_run Reference13Ideal.defs _ _).mono (fun r h c => ⟨(h c).1.trans ?_, (h c).2.1.trans ?_, (h c).2.2⟩) (Reference13Ideal.Value.run (F := Ideal) m' g')
    all_goals obtain ⟨a0, a1, a2, a3, a4, a5⟩ := hargs c
    · funext i
      obtain ⟨p, j, rfl⟩ : ∃ (p : Fin 4096) (j : Fin 1024), i = ix2 p j := ⟨i 0, i 1, funext fun b => by fin_cases b <;> rfl⟩
      unfold Reference13Ideal.Value.res_main_v39
      refine (result_stream _ _ _ _ p j).trans ?_
      rw [result_normed, a0, a1, a2, a3, a4, a5]
      rfl
    · funext i
      obtain ⟨j, rfl⟩ : ∃ j : Fin 1024, i = ix2 0 j := ⟨i 1, funext fun b => by fin_cases b; exact Subsingleton.elim (α := Fin 1) _ _; rfl⟩
      refine (result_gain _ _ j).trans ?_
      rw [result_normed, a0, a1, a3, a5]
      rfl

end Cert.Reference13Ideal.Product

end
-- ==== Proof.Products.DPleGate.lean ====
module

public import proofs.«01_k».proof.Proof.Products.Norm
public import proofs.«01_k».proof.Proof.Gen.Kernel14Ideal.Value
public import proofs.«01_k».proof.Proof.Gen.Reference14Ideal.Run

@[expose] public section

set_option maxRecDepth 16384

noncomputable section

/-! # The gradient of the embedding gate's input and of its norm

The cotangent of the gate's products goes back through the weight, then through the root-mean-square norm in front of the
gate, and is added to the cotangent of the residual. The sum is stored twice. The gain's gradient is summed over all
tokens. -/

namespace Cert.Kernel14Ideal.Product

open Idealize.ShloMosaic Idealize.ShloMosaic.TcCoe
open Cert.Kernel14Ideal Cert.Kernel14Ideal.Gen

/-- The cotangent of the normalised input at a token and a channel. -/
def normed (z : S4096x1024.Idx → EReal) (w : S1024x1024.Idx → EReal) : S4096x1024.Idx → EReal := fun i =>
  ∑ k : Fin 1024, z (ix2 (i 0) k) * w (ix2 (i 1) k)

/-- The gradient of the residual stream at a token and a channel. -/
def stream (z x h : S4096x1024.Idx → EReal) (g : S1x1024.Idx → EReal) (w : S1024x1024.Idx → EReal) : S4096x1024.Idx → EReal := fun i =>
  x i + Norm.grad (fun k => h (ix2 (i 0) k)) (fun k => normed z w (ix2 (i 0) k) * g (ix2 0 k)) (i 1)

/-- The gradient of the norm's gain. -/
def gains (z h : S4096x1024.Idx → EReal) (w : S1024x1024.Idx → EReal) : S1x1024.Idx → EReal := fun i =>
  Norm.gain (fun (n : Fin 4096) k => h (ix2 n k)) (fun n k => normed z w (ix2 n k)) (i 1)

/-! ## The stored values, at an index -/

theorem stored_normed (z : FVec Ideal S512x1024 .bf16) (w : FVec Ideal S1024x1024 .bf16) (r : Fin 512) (j : Fin 1024) :
    (k0_pay2 (F := Ideal) z w : S512x1024.Idx → EReal) (ix2 r j) = ∑ k : Fin 1024, z (ix2 r k) * w (ix2 j k) := by
  pointwise [k0_pay2]

theorem stored_stream (z : FVec Ideal S512x1024 .bf16) (w : FVec Ideal S1024x1024 .bf16) (x h : FVec Ideal S512x1024 .f32) (g : FVec Ideal S1x1024 .f32) (r : Fin 512) (j : Fin 1024) :
    (k0_pay6 (F := Ideal) z w x h g : S512x1024.Idx → EReal) (ix2 r j)
      = x (ix2 r j) + Norm.grad (fun k => h (ix2 r k)) (fun k => (k0_pay2 (F := Ideal) z w : S512x1024.Idx → EReal) (ix2 r k) * g (ix2 0 k)) j := by
  unfold k0_pay6
  generalize k0_pay2 (F := Ideal) z w = d
  pointwise [k0_pay4, k0_pay3, Norm.grad, Norm.level]

theorem copy (z : FVec Ideal S512x1024 .bf16) (w : FVec Ideal S1024x1024 .bf16) (x h : FVec Ideal S512x1024 .f32) (g : FVec Ideal S1x1024 .f32) (r : Fin 512) (j : Fin 1024) :
    (k0_pay7 (F := Ideal) z w x h g : S512x1024.Idx → EReal) (ix2 r j) = (k0_pay6 (F := Ideal) z w x h g : S512x1024.Idx → EReal) (ix2 r j) := by
  unfold k0_pay7
  generalize k0_pay6 (F := Ideal) z w x h g = d
  pointwise []

theorem stored_gain (z : FVec Ideal S512x1024 .bf16) (w : FVec Ideal S1024x1024 .bf16) (h : FVec Ideal S512x1024 .f32) (j : Fin 1024) :
    (k0_pay5 (F := Ideal) z w h : S1x1024.Idx → EReal) (ix2 0 j)
      = Norm.gain (fun (n : Fin 512) k => h (ix2 n k)) (fun n k => (k0_pay2 (F := Ideal) z w : S512x1024.Idx → EReal) (ix2 n k)) j := by
  unfold k0_pay5
  generalize k0_pay2 (F := Ideal) z w = d
  pointwise [k0_pay4, k0_pay3, Norm.gain, Norm.level]

theorem added_gain (s b : FVec Ideal S1x1024 .f32) (j : Fin 1024) :
    (k0_pay1 (F := Ideal) s b : S1x1024.Idx → EReal) (ix2 0 j) = b (ix2 0 j) + s (ix2 0 j) := by
  pointwise [k0_pay1]

theorem index_0 : ∀ t : Fin cfg0.N, win0_0.index t = ![t.val, 0] := (by decide +kernel : ∀ t : Fin grid0.N, _)
theorem index_1 : ∀ t : Fin cfg0.N, win0_1.index t = ![0, 0] := (by decide +kernel : ∀ t : Fin grid0.N, _)
theorem index_2 : ∀ t : Fin cfg0.N, win0_2.index t = ![t.val, 0] := (by decide +kernel : ∀ t : Fin grid0.N, _)
theorem index_3 : ∀ t : Fin cfg0.N, win0_3.index t = ![t.val, 0] := (by decide +kernel : ∀ t : Fin grid0.N, _)
theorem index_4 : ∀ t : Fin cfg0.N, win0_4.index t = ![0, 0] := (by decide +kernel : ∀ t : Fin grid0.N, _)
theorem index_5 : ∀ t : Fin cfg0.N, win0_5.index t = ![t.val, 0] := (by decide +kernel : ∀ t : Fin grid0.N, _)
theorem index_6 : ∀ t : Fin cfg0.N, win0_6.index t = ![t.val, 0] := (by decide +kernel : ∀ t : Fin grid0.N, _)
theorem index_7 : ∀ t : Fin cfg0.N, win0_7.index t = ![0, 0] := (by decide +kernel : ∀ t : Fin grid0.N, _)

variable (m : (ℓ : Loc nD τ sig) → Buf (Elt Ideal) ℓ) (c : Dev nD)

theorem start : (V m c main_v0 : S1024x1024.Idx → EReal) = m ((c : Thread nD τ).loc main_arg4) := by
  simp only [V, hostOps0, List.flatten_cons, List.flatten_nil, List.append_nil, List.cons_append, List.nil_append]
  after_results
  rfl

/-- The window of the weight, at an index. -/
theorem weight (t : Fin cfg0.N) (j k : Fin 1024) :
    iblk m c 1 t (ix2 j k) = V m c main_arg4 (ix2 j k) := by
  rw [V_main_arg4, ← start m c]
  blk_simp [iblk]
  refine congrArg _ ?_
  blk_ext [index_1]

theorem inputs (t : Fin cfg0.N) (r : Fin 512) (k : Fin 1024) :
    (iblk m c 3 t : S512x1024.Idx → EReal) (ix2 r k) = V m c main_arg2 (ix2 ⟨t.val * 512 + r.val, by have ht : t.val < 8 := t.isLt; omega⟩ k) := by
  blk_simp [iblk]
  refine congrArg _ ?_
  blk_ext [index_3]

theorem cotangent_apply (t : Fin cfg0.N) (r : Fin 512) (j : Fin 1024) :
    (k0_pay2 (F := Ideal) (iblk m c 0 t) (iblk m c 1 t) : S512x1024.Idx → EReal) (ix2 r j)
      = normed (V m c main_arg0) (V m c main_arg4) (ix2 ⟨t.val * 512 + r.val, by have ht : t.val < 8 := t.isLt; omega⟩ j) := by
  refine (stored_normed _ _ r j).trans ?_
  refine Finset.sum_congr rfl fun k _ => congrArg₂ (fun a b : EReal => a * b) ?_ (weight m c t j k)
  blk_simp [iblk]
  refine congrArg _ ?_
  blk_ext [index_0]

theorem stored_block (t : Fin cfg0.N) (r : Fin 512) (j : Fin 1024) :
    (k0_pay6 (F := Ideal) (iblk m c 0 t) (iblk m c 1 t) (iblk m c 2 t) (iblk m c 3 t) (iblk m c 4 t) : S512x1024.Idx → EReal) (ix2 r j)
      = stream (V m c main_arg0) (V m c main_arg1) (V m c main_arg2) (V m c main_arg3) (V m c main_arg4) (ix2 ⟨t.val * 512 + r.val, by have ht : t.val < 8 := t.isLt; omega⟩ j) := by
  refine (stored_stream _ _ _ _ _ r j).trans ?_
  refine congrArg₂ (fun a b : EReal => a + b) ?_ (congrArg₂ (fun h e => Norm.grad h e j) (funext fun k => ?_) (funext fun k => congrArg₂ (fun a b : EReal => a * b) ?_ ?_))
  · blk_simp [iblk]
    refine congrArg _ ?_
    blk_ext [index_2]
  · exact inputs m c t r k
  · exact cotangent_apply m c t r k
  · blk_simp [iblk]
    refine congrArg _ ?_
    blk_ext [index_4]

/-- The gradient of the residual stream after the call. -/
theorem final_stream : (dats m 0 c).arrAt 5 cfg0.N = stream (V m c main_arg0) (V m c main_arg1) (V m c main_arg2) (V m c main_arg3) (V m c main_arg4) := by
  refine (dats m 0 c).arrAt_eq_of_covers 5 _ (by decide +kernel) (fun t hf y => ?_)
  blk_simp
  rw [after0_5]
  have ht : t.val < 8 := t.isLt
  obtain ⟨r, d, rfl⟩ : ∃ (r : Fin 512) (d : Fin 1024), y = ix2 r d :=
    ⟨y 0, y 1, funext fun b => by fin_cases b <;> rfl⟩
  rw [show ((View.whole main_v1_0).slice (win0_5.rect t)).emb (ix2 r d) = ix2 ⟨t.val * 512 + r.val, by omega⟩ d by blk_ext [index_5]]
  by_cases h : t.val % 8 = 0
  · rw [outsAt0_A m c t h (by omega)]
    frame_out
    exact stored_block m c t r d
  · rw [outsAt0_B m c t h (by omega)]
    frame_out
    exact stored_block m c t r d

/-- The stored copy of the gradient after the call. -/
theorem final_copy : (dats m 0 c).arrAt 6 cfg0.N = stream (V m c main_arg0) (V m c main_arg1) (V m c main_arg2) (V m c main_arg3) (V m c main_arg4) := by
  refine (dats m 0 c).arrAt_eq_of_covers 6 _ (by decide +kernel) (fun t hf y => ?_)
  blk_simp
  rw [after0_6]
  have ht : t.val < 8 := t.isLt
  obtain ⟨r, d, rfl⟩ : ∃ (r : Fin 512) (d : Fin 1024), y = ix2 r d :=
    ⟨y 0, y 1, funext fun b => by fin_cases b <;> rfl⟩
  rw [show ((View.whole main_v1_1).slice (win0_6.rect t)).emb (ix2 r d) = ix2 ⟨t.val * 512 + r.val, by omega⟩ d by blk_ext [index_6]]
  by_cases h : t.val % 8 = 0
  · rw [outsAt0_A m c t h (by omega)]
    frame_out
    exact (copy _ _ _ _ _ r d).trans (stored_block m c t r d)
  · rw [outsAt0_B m c t h (by omega)]
    frame_out
    exact (copy _ _ _ _ _ r d).trans (stored_block m c t r d)

/-- What a grid point adds to the gain's gradient. -/
theorem stored_sum (t : Fin cfg0.N) (j : Fin 1024) :
    (k0_pay5 (F := Ideal) (iblk m c 0 t) (iblk m c 1 t) (iblk m c 3 t) : S1x1024.Idx → EReal) (ix2 0 j)
      = Norm.gain (fun (n : Fin 512) k => V m c main_arg2 (ix2 ⟨t.val * 512 + n.val, by have ht : t.val < 8 := t.isLt; omega⟩ k))
        (fun n k => normed (V m c main_arg0) (V m c main_arg4) (ix2 ⟨t.val * 512 + n.val, by have ht : t.val < 8 := t.isLt; omega⟩ k)) j := by
  refine (stored_gain _ _ _ j).trans ?_
  exact congrArg₂ (fun h d => Norm.gain h d j) (funext fun n => funext fun k => inputs m c t n k) (funext fun n => funext fun k => cotangent_apply m c t n k)

/-- The gain's gradient after the call. -/
theorem final_gain : (dats m 0 c).arrAt 7 cfg0.N = gains (V m c main_arg0) (V m c main_arg2) (V m c main_arg4) := by
  refine (dats m 0 c).arrAt_eq_of_covers 7 _ (by decide +kernel) (fun t hf y => ?_)
  have ht : t.val < 8 := t.isLt
  have hlast : t.val % 8 = 7 := (flush0_7 t).mp hf
  blk_simp
  rw [after0_7]
  obtain ⟨d, rfl⟩ : ∃ d : Fin 1024, y = ix2 0 d :=
    ⟨y 1, funext fun b => by fin_cases b; exact Subsingleton.elim (α := Fin 1) _ _; rfl⟩
  rw [show ((View.whole main_v1_2).slice (win0_7.rect t)).emb (ix2 0 d) = ix2 0 d by blk_ext [index_7]]
  rw [Pipeline.eq_sum_fin_of_reset_step_apply_last (fun n h => (outsAt0 m c n h).2.2) 8 (fun _ => (0 : EReal))
    (fun t i => (k0_pay5 (F := Ideal) (iblk m c 0 t) (iblk m c 1 t) (iblk m c 3 t) : S1x1024.Idx → EReal) i)
    (fun t h j => by
      have ht : t.val < 8 := t.isLt
      rw [outsAt0_A m c t h (by omega)]
      frame_out
      exact (zero_add _).symm)
    (fun t h j => by
      have ht : t.val < 8 := t.isLt
      rw [outsAt0_B m c t h (by omega)]
      frame_out
      obtain ⟨d, rfl⟩ : ∃ d : Fin 1024, j = ix2 0 d :=
        ⟨j 1, funext fun b => by fin_cases b; exact Subsingleton.elim (α := Fin 1) _ _; rfl⟩
      exact added_gain _ _ d)
    (le_of_eq N_0) t ((show t.val + 1 = 8 by omega).trans N_0.symm) (ix2 0 d), zero_add]
  refine (Finset.sum_congr rfl fun p _ => stored_sum m c p d).trans ?_
  exact Norm.gain_parts N_0 (fun i k => V m c main_arg2 (ix2 i k)) (fun i k => normed (V m c main_arg0) (V m c main_arg4) (ix2 i k)) d

end Cert.Kernel14Ideal.Product

namespace Cert.Reference14Ideal.Product

open Idealize.ShloMosaic Idealize.ShloMosaic.TcCoe
open Cert.Kernel14Ideal.Gen (V_main_arg0 V_main_arg1 V_main_arg2 V_main_arg3 V_main_arg4)
open Cert.Reference14Ideal Cert.Reference14Ideal.Gen
open Cert.Kernel14Ideal.Product (normed stream gains)

theorem result_normed (z : FVec Ideal S4096x1024 .bf16) (w : FVec Ideal S1024x1024 .f32) :
    (Host.dotGeneral (φ₁ := .f32) (φ₂ := .f32) dot_S4096x1024_S1024x1024_S4096x1024_1_1_0_0_n_n none (extf .f32 z bitsLt_bf16_f32) w : FVec Ideal S4096x1024 .f32) = normed z w := by
  funext i
  idx_vars i
  pointwise [normed]

variable (d x h : FVec Ideal S4096x1024 .f32) (g : FVec Ideal S1x1024 .f32)

theorem result_stream (r : Fin 4096) (j : Fin 1024) :
    (addf (addf (addf x (mulf (mulf d (broadcastInDim S4096x1024 ![0, 1] bcast_S1x1024_S4096x1024_0_1 g)) (broadcastInDim S4096x1024 ![0, 1] bcast_S4096x1_S4096x1024_0_1 (Host.rsqrt (addf (Host.divf (broadcastInDim S4096x1 ![0] bcast_S4096_S4096x1_0 (Host.reduceAdd (mulf h h) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32))))))) (mulf h (broadcastInDim S4096x1024 ![0] bcast_S4096_S4096x1024_0 (Host.reduceAdd (Host.divf (mulf (shapeCast S4096x1 (Host.reduceAdd (mulf h (mulf d (broadcastInDim S4096x1024 ![0, 1] bcast_S1x1024_S4096x1024_0_1 g))) (constant S_ .f32 0x00000000#32) reducesTo_S4096x1024_S4096_d1 h_S_) shapeCasts_S4096_S4096x1) (mulf (broadcastInDim S4096x1 ![] bcast_S_S4096x1 (constant S_ .f32 0xBF000000#32)) (Host.divf (Host.rsqrt (addf (Host.divf (broadcastInDim S4096x1 ![0] bcast_S4096_S4096x1_0 (Host.reduceAdd (mulf h h) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))) (addf (Host.divf (broadcastInDim S4096x1 ![0] bcast_S4096_S4096x1_0 (Host.reduceAdd (mulf h h) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1 ![] bcast_S_S4096x1 (constant S_ .f32 0x44800000#32))) (constant S_ .f32 0x00000000#32) reducesTo_S4096x1_S4096_d1 h_S_)))) (mulf (broadcastInDim S4096x1024 ![0] bcast_S4096_S4096x1024_0 (Host.reduceAdd (Host.divf (mulf (shapeCast S4096x1 (Host.reduceAdd (mulf h (mulf d (broadcastInDim S4096x1024 ![0, 1] bcast_S1x1024_S4096x1024_0_1 g))) (constant S_ .f32 0x00000000#32) reducesTo_S4096x1024_S4096_d1 h_S_) shapeCasts_S4096_S4096x1) (mulf (broadcastInDim S4096x1 ![] bcast_S_S4096x1 (constant S_ .f32 0xBF000000#32)) (Host.divf (Host.rsqrt (addf (Host.divf (broadcastInDim S4096x1 ![0] bcast_S4096_S4096x1_0 (Host.reduceAdd (mulf h h) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))) (addf (Host.divf (broadcastInDim S4096x1 ![0] bcast_S4096_S4096x1_0 (Host.reduceAdd (mulf h h) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1 ![] bcast_S_S4096x1 (constant S_ .f32 0x44800000#32))) (constant S_ .f32 0x00000000#32) reducesTo_S4096x1_S4096_d1 h_S_)) h) : FVec Ideal S4096x1024 .f32) (ix2 r j)
      = x (ix2 r j) + Norm.grad (fun k => h (ix2 r k)) (fun k => d (ix2 r k) * g (ix2 0 k)) j := by
  refine Eq.trans ?_ (Norm.grad_eq _ _ _ j).symm
  pointwise [Norm.back, Norm.level]
  simp only [Fin.sum_univ_one]

theorem result_gain (j : Fin 1024) :
    (shapeCast S1x1024 (Host.reduceAdd (mulf (mulf h (broadcastInDim S4096x1024 ![0, 1] bcast_S4096x1_S4096x1024_0_1 (Host.rsqrt (addf (Host.divf (broadcastInDim S4096x1 ![0] bcast_S4096_S4096x1_0 (Host.reduceAdd (mulf h h) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) d) (constant S_ .f32 0x00000000#32) reducesTo_S4096x1024_S1024_d0 h_S_) shapeCasts_S1024_S1x1024 : FVec Ideal S1x1024 .f32) (ix2 0 j)
      = Norm.gain (fun (n : Fin 4096) k => h (ix2 n k)) (fun n k => d (ix2 n k)) j := by
  pointwise [Norm.gain, Norm.level]
  exact Finset.sum_congr rfl fun n _ => mul_comm _ _

/-- From the same arguments the call and the reference leave the same gradients. -/
theorem same : Cert.algebraic_Kernel14Ideal_Reference14Ideal := fun m g m' g' _ hargs => by
  refine ⟨fun c => stream (m (c.tc.loc Kernel14Ideal.main_arg0)) (m (c.tc.loc Kernel14Ideal.main_arg1)) (m (c.tc.loc Kernel14Ideal.main_arg2)) (m (c.tc.loc Kernel14Ideal.main_arg3)) (m (c.tc.loc Kernel14Ideal.main_arg4)),
    fun c => stream (m (c.tc.loc Kernel14Ideal.main_arg0)) (m (c.tc.loc Kernel14Ideal.main_arg1)) (m (c.tc.loc Kernel14Ideal.main_arg2)) (m (c.tc.loc Kernel14Ideal.main_arg3)) (m (c.tc.loc Kernel14Ideal.main_arg4)),
    fun c => gains (m (c.tc.loc Kernel14Ideal.main_arg0)) (m (c.tc.loc Kernel14Ideal.main_arg2)) (m (c.tc.loc Kernel14Ideal.main_arg4)), ?_, ?_⟩
  · refine (θ_run Kernel14Ideal.defs _ _).mono (fun r h c => ⟨(h c).1.trans ?_, (h c).2.1.trans ?_, (h c).2.2.1.trans ?_, (h c).2.2.2⟩) (Kernel14Ideal.Value.run_blocks m g)
    · rw [Kernel14Ideal.Product.final_stream, V_main_arg0, V_main_arg1, V_main_arg2, V_main_arg3, V_main_arg4]
    · rw [Kernel14Ideal.Product.final_copy, V_main_arg0, V_main_arg1, V_main_arg2, V_main_arg3, V_main_arg4]
    · rw [Kernel14Ideal.Product.final_gain, V_main_arg0, V_main_arg2, V_main_arg4]
  · refine (θ_run Reference14Ideal.defs _ _).mono (fun r h c => ⟨(h c).1.trans ?_, (h c).2.1.trans ?_, (h c).2.2.1.trans ?_, (h c).2.2.2⟩) (Reference14Ideal.Value.run (F := Ideal) m' g')
    all_goals obtain ⟨a0, a1, a2, a3, a4⟩ := hargs c
    · funext i
      obtain ⟨p, j, rfl⟩ : ∃ (p : Fin 4096) (j : Fin 1024), i = ix2 p j := ⟨i 0, i 1, funext fun b => by fin_cases b <;> rfl⟩
      unfold Reference14Ideal.Value.res_main_v37
      refine (result_stream _ _ _ _ p j).trans ?_
      rw [result_normed, a0, a1, a2, a3, a4]
      rfl
    · funext i
      obtain ⟨p, j, rfl⟩ : ∃ (p : Fin 4096) (j : Fin 1024), i = ix2 p j := ⟨i 0, i 1, funext fun b => by fin_cases b <;> rfl⟩
      unfold Reference14Ideal.Value.res_main_v38
      refine (result_stream _ _ _ _ p j).trans ?_
      rw [result_normed, a0, a1, a2, a3, a4]
      rfl
    · funext i
      obtain ⟨j, rfl⟩ : ∃ j : Fin 1024, i = ix2 0 j := ⟨i 1, funext fun b => by fin_cases b; exact Subsingleton.elim (α := Fin 1) _ _; rfl⟩
      refine (result_gain _ _ j).trans ?_
      rw [result_normed, a0, a2, a4]
      rfl

end Cert.Reference14Ideal.Product

end
-- ==== Proof.Products.OutProj.lean ====
module

public import proofs.«01_k».proof.Proof.Products.Norm
public import proofs.«01_k».proof.Proof.Gen.Kernel15Ideal.Value
public import proofs.«01_k».proof.Proof.Gen.Reference15Ideal.Run
public import Idealize.ShloMosaic.Lib.Pipeline.ValueKit

@[expose] public section

set_option maxRecDepth 16384

noncomputable section

/-! # The output projection, the residual and the next norm

The mixed branches times the output weight are added to the residual stream. The stream is kept, and scaled by the
reciprocal root of the mean of its squares and by a gain. -/

namespace Cert.Kernel15Ideal.Product

open Idealize.ShloMosaic Idealize.ShloMosaic.TcCoe
open Cert.Kernel15Ideal Cert.Kernel15Ideal.Gen

/-- The residual stream after the token mixer. -/
def stream (u x : S4096x1024.Idx → EReal) (w : S1024x1024.Idx → EReal) : S4096x1024.Idx → EReal := fun i =>
  x i + ∑ k : Fin 1024, u (ix2 (i 0) k) * w (ix2 k (i 1))

/-- The normalised stream. -/
def scaled (u x : S4096x1024.Idx → EReal) (g : S1x1024.Idx → EReal) (w : S1024x1024.Idx → EReal) : S4096x1024.Idx → EReal := fun i =>
  stream u x w (ix2 (i 0) (i 1)) * Ideal.rsqrt (Norm.level fun k => stream u x w (ix2 (i 0) k)) * g (ix2 0 (i 1))

theorem stored_stream (u : FVec Ideal S512x1024 .bf16) (w : FVec Ideal S1024x1024 .bf16) (x : FVec Ideal S512x1024 .f32) (r : Fin 512) (j : Fin 1024) :
    (k0_pay1 (F := Ideal) u w x : S512x1024.Idx → EReal) (ix2 r j) = x (ix2 r j) + ∑ k : Fin 1024, u (ix2 r k) * w (ix2 k j) := by
  pointwise [k0_pay1]

theorem stored_scaled (u : FVec Ideal S512x1024 .bf16) (w : FVec Ideal S1024x1024 .bf16) (x : FVec Ideal S512x1024 .f32) (g : FVec Ideal S1x1024 .f32) (r : Fin 512) (j : Fin 1024) :
    (k0_pay2 (F := Ideal) u w x g : S512x1024.Idx → EReal) (ix2 r j)
      = (k0_pay1 (F := Ideal) u w x : S512x1024.Idx → EReal) (ix2 r j)
        * Ideal.rsqrt (Norm.level fun k => (k0_pay1 (F := Ideal) u w x : S512x1024.Idx → EReal) (ix2 r k)) * g (ix2 0 j) := by
  unfold k0_pay2
  generalize k0_pay1 (F := Ideal) u w x = d
  pointwise [Norm.level]

theorem index_0 : ∀ t : Fin cfg0.N, win0_0.index t = ![t.val, 0] := (by decide +kernel : ∀ t : Fin grid0.N, _)
theorem index_1 : ∀ t : Fin cfg0.N, win0_1.index t = ![0, 0] := (by decide +kernel : ∀ t : Fin grid0.N, _)
theorem index_2 : ∀ t : Fin cfg0.N, win0_2.index t = ![t.val, 0] := (by decide +kernel : ∀ t : Fin grid0.N, _)
theorem index_3 : ∀ t : Fin cfg0.N, win0_3.index t = ![0, 0] := (by decide +kernel : ∀ t : Fin grid0.N, _)
theorem index_4 : ∀ t : Fin cfg0.N, win0_4.index t = ![t.val, 0] := (by decide +kernel : ∀ t : Fin grid0.N, _)
theorem index_5 : ∀ t : Fin cfg0.N, win0_5.index t = ![t.val, 0] := (by decide +kernel : ∀ t : Fin grid0.N, _)

variable (m : (ℓ : Loc nD τ sig) → Buf (Elt Ideal) ℓ) (c : Dev nD)

theorem start : (V m c main_v0 : S1024x1024.Idx → EReal) = m ((c : Thread nD τ).loc main_arg3) := by
  simp only [V, hostOps0, List.flatten_cons, List.flatten_nil, List.append_nil, List.cons_append, List.nil_append]
  after_results
  rfl

/-- The window of the weight, at an index. -/
theorem weight (t : Fin cfg0.N) (k j : Fin 1024) :
    iblk m c 1 t (ix2 k j) = V m c main_arg3 (ix2 k j) := by
  rw [V_main_arg3, ← start m c]
  blk_simp [iblk]
  refine congrArg _ ?_
  blk_ext [index_1]

theorem block_apply (t : Fin cfg0.N) (r : Fin 512) (j : Fin 1024) :
    (k0_pay1 (F := Ideal) (iblk m c 0 t) (iblk m c 1 t) (iblk m c 2 t) : S512x1024.Idx → EReal) (ix2 r j)
      = stream (V m c main_arg0) (V m c main_arg1) (V m c main_arg3) (ix2 ⟨t.val * 512 + r.val, by have ht : t.val < 8 := t.isLt; omega⟩ j) := by
  refine (stored_stream _ _ _ r j).trans ?_
  refine congrArg₂ (fun a b : EReal => a + b) ?_ (Finset.sum_congr rfl fun k _ => congrArg₂ (fun a b : EReal => a * b) ?_ (weight m c t k j))
  · blk_simp [iblk]
    refine congrArg _ ?_
    blk_ext [index_2]
  · blk_simp [iblk]
    refine congrArg _ ?_
    blk_ext [index_0]

/-- The residual stream after the call. -/
theorem final_stream : (dats m 0 c).arrAt 4 cfg0.N = stream (V m c main_arg0) (V m c main_arg1) (V m c main_arg3) := by
  refine (dats m 0 c).arrAt_eq_of_covers 4 _ (by decide +kernel) (fun t hf y => ?_)
  blk_simp
  rw [after0_4]
  unfold outsAt0
  frame_out
  have ht : t.val < 8 := t.isLt
  obtain ⟨r, d, rfl⟩ : ∃ (r : Fin 512) (d : Fin 1024), y = ix2 r d :=
    ⟨y 0, y 1, funext fun b => by fin_cases b <;> rfl⟩
  rw [show ((View.whole main_v1_0).slice (win0_4.rect t)).emb (ix2 r d) = ix2 ⟨t.val * 512 + r.val, by omega⟩ d by blk_ext [index_4]]
  exact block_apply m c t r d

/-- The normalised stream after the call. -/
theorem final_scaled : (dats m 0 c).arrAt 5 cfg0.N = scaled (V m c main_arg0) (V m c main_arg1) (V m c main_arg2) (V m c main_arg3) := by
  refine (dats m 0 c).arrAt_eq_of_covers 5 _ (by decide +kernel) (fun t hf y => ?_)
  blk_simp
  rw [after0_5]
  unfold outsAt0
  frame_out
  have ht : t.val < 8 := t.isLt
  obtain ⟨r, d, rfl⟩ : ∃ (r : Fin 512) (d : Fin 1024), y = ix2 r d :=
    ⟨y 0, y 1, funext fun b => by fin_cases b <;> rfl⟩
  rw [show ((View.whole main_v1_1).slice (win0_5.rect t)).emb (ix2 r d) = ix2 ⟨t.val * 512 + r.val, by omega⟩ d by blk_ext [index_5]]
  refine (stored_scaled _ _ _ _ r d).trans ?_
  refine congrArg₂ (fun a b : EReal => a * b) (congrArg₂ (fun a b : EReal => a * b) (block_apply m c t r d)
    (congrArg (fun h => Ideal.rsqrt (Norm.level h)) (funext fun k => block_apply m c t r k))) ?_
  blk_simp [iblk]
  refine congrArg _ ?_
  blk_ext [index_3]

end Cert.Kernel15Ideal.Product

namespace Cert.Reference15Ideal.Product

open Idealize.ShloMosaic Idealize.ShloMosaic.TcCoe
open Cert.Reference15Ideal Cert.Reference15Ideal.Gen
open Cert.Kernel15Ideal.Product (stream scaled)

theorem result_stream (u : FVec Ideal S4096x1024 .bf16) (x : FVec Ideal S4096x1024 .f32) (w : FVec Ideal S1024x1024 .f32) :
    (addf x (Host.dotGeneral (φ₁ := .f32) (φ₂ := .f32) dot_S4096x1024_S1024x1024_S4096x1024_1_0_0_1_n_n none (extf .f32 u bitsLt_bf16_f32) w) : FVec Ideal S4096x1024 .f32) = stream u x w := by
  funext i
  idx_vars i
  pointwise [stream]

theorem result_scaled (h : FVec Ideal S4096x1024 .f32) (g : FVec Ideal S1x1024 .f32) (r : Fin 4096) (j : Fin 1024) :
    (truncf .bf16 (mulf (mulf h (broadcastInDim S4096x1024 ![0, 1] bcast_S4096x1_S4096x1024_0_1 (Host.rsqrt (addf (Host.divf (broadcastInDim S4096x1 ![0] bcast_S4096_S4096x1_0 (Host.reduceAdd (mulf h h) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1024 ![0, 1] bcast_S1x1024_S4096x1024_0_1 g)) bitsLt_bf16_f32 : FVec Ideal S4096x1024 .bf16) (ix2 r j)
      = h (ix2 r j) * Ideal.rsqrt (Norm.level fun k => h (ix2 r k)) * g (ix2 0 j) := by
  pointwise [Norm.level]

/-- From the same arguments the call and the reference leave the same stream and its normalised copy. -/
theorem same : Cert.algebraic_Kernel15Ideal_Reference15Ideal := fun m g m' g' _ hargs => by
  refine ⟨fun c => stream (m (c.tc.loc Kernel15Ideal.main_arg0)) (m (c.tc.loc Kernel15Ideal.main_arg1)) (m (c.tc.loc Kernel15Ideal.main_arg3)),
    fun c => scaled (m (c.tc.loc Kernel15Ideal.main_arg0)) (m (c.tc.loc Kernel15Ideal.main_arg1)) (m (c.tc.loc Kernel15Ideal.main_arg2)) (m (c.tc.loc Kernel15Ideal.main_arg3)), ?_, ?_⟩
  · refine (θ_run Kernel15Ideal.defs _ _).mono (fun r h c => ⟨(h c).1.trans ?_, (h c).2.1.trans ?_, (h c).2.2⟩) (Kernel15Ideal.Value.run_blocks m g)
    · rw [Kernel15Ideal.Product.final_stream, Kernel15Ideal.Gen.V_main_arg0, Kernel15Ideal.Gen.V_main_arg1, Kernel15Ideal.Gen.V_main_arg3]
    · rw [Kernel15Ideal.Product.final_scaled, Kernel15Ideal.Gen.V_main_arg0, Kernel15Ideal.Gen.V_main_arg1, Kernel15Ideal.Gen.V_main_arg2, Kernel15Ideal.Gen.V_main_arg3]
  · refine (θ_run Reference15Ideal.defs _ _).mono (fun r h c => ⟨(h c).1.trans ?_, (h c).2.1.trans ?_, (h c).2.2⟩) (Reference15Ideal.Value.run (F := Ideal) m' g')
    all_goals obtain ⟨a0, a1, a2, a3⟩ := hargs c
    · exact (result_stream _ _ _).trans (by rw [a0, a1, a3])
    · funext i
      obtain ⟨p, j, rfl⟩ : ∃ (p : Fin 4096) (j : Fin 1024), i = ix2 p j := ⟨i 0, i 1, funext fun b => by fin_cases b <;> rfl⟩
      refine (result_scaled _ _ p j).trans ?_
      rw [result_stream, a0, a1, a2, a3]
      rfl

end Cert.Reference15Ideal.Product

end
-- ==== Proof.Products.Parts.lean ====
module

public import proofs.«01_k».proof.Defs
public import Idealize.ShloMosaic.Lib.Pipeline.ValueKit

@[expose] public section

noncomputable section

/-! # Sums over the tokens in parts -/

namespace Cert.Parts

/-- A sum over 4096 tokens in four parts of 1024 tokens. -/
theorem four {N : ℕ} (hN : N = 4) (f : Fin 4096 → EReal) :
    (∑ p : Fin N, ∑ n : Fin 1024, f ⟨p.val * 1024 + n.val, by omega⟩) = ∑ n, f n := by
  subst hN
  exact Fin.sum_mul_add_fin (S := 4) (n := 1024) f

/-- A sum over 4096 tokens in two parts of 2048 tokens. -/
theorem two {N : ℕ} (hN : N = 2) (f : Fin 4096 → EReal) :
    (∑ p : Fin N, ∑ n : Fin 2048, f ⟨p.val * 2048 + n.val, by omega⟩) = ∑ n, f n := by
  subst hN
  exact Fin.sum_mul_add_fin (S := 2) (n := 2048) f

/-- A sum over 4096 tokens in eight parts of 512 tokens. -/
theorem eight {N : ℕ} (hN : N = 8) (f : Fin 4096 → EReal) :
    (∑ p : Fin N, ∑ n : Fin 512, f ⟨p.val * 512 + n.val, by omega⟩) = ∑ n, f n := by
  subst hN
  exact Fin.sum_mul_add_fin (S := 8) (n := 512) f

end Cert.Parts

end
-- ==== Proof.Products.BranchNa.lean ====
module

public import proofs.«01_k».proof.Proof.Products.Parts
public import proofs.«01_k».proof.Proof.Gen.Kernel16Ideal.Value
public import proofs.«01_k».proof.Proof.Gen.Reference16Ideal.Run
public import Idealize.ShloMosaic.Lib.Pipeline.ValueKit

@[expose] public section

set_option maxRecDepth 16384

noncomputable section

/-! # The branch of the neighbourhood attention

The attention's output times its weight. -/

namespace Cert.Kernel16Ideal.Product

open Idealize.ShloMosaic Idealize.ShloMosaic.TcCoe
open Cert.Kernel16Ideal Cert.Kernel16Ideal.Gen

/-- The product at a token and a channel. -/
def branch (a : S4096x512.Idx → EReal) (w : S512x1024.Idx → EReal) : S4096x1024.Idx → EReal := fun i =>
  ∑ k : Fin 512, a (ix2 (i 0) k) * w (ix2 k (i 1))

theorem index_0 : ∀ t : Fin cfg0.N, win0_0.index t = ![t.val, 0] := (by decide +kernel : ∀ t : Fin grid0.N, _)
theorem index_1 : ∀ t : Fin cfg0.N, win0_1.index t = ![0, 0] := (by decide +kernel : ∀ t : Fin grid0.N, _)
theorem index_2 : ∀ t : Fin cfg0.N, win0_2.index t = ![t.val, 0] := (by decide +kernel : ∀ t : Fin grid0.N, _)

variable (m : (ℓ : Loc nD τ sig) → Buf (Elt Ideal) ℓ) (c : Dev nD)

theorem start : (V m c main_v0 : S512x1024.Idx → EReal) = m ((c : Thread nD τ).loc main_arg1) := by
  simp only [V, hostOps0, List.flatten_cons, List.flatten_nil, List.append_nil, List.cons_append, List.nil_append]
  after_results
  rfl

theorem weight (t : Fin cfg0.N) (x : Fin 512) (y : Fin 1024) :
    iblk m c 1 t (ix2 x y) = V m c main_arg1 (ix2 x y) := by
  rw [V_main_arg1, ← start m c]
  blk_simp [iblk]
  refine congrArg _ ?_
  blk_ext [index_1]

/-- The result of the call. -/
theorem final : (dats m 0 c).arrAt 2 cfg0.N = branch (V m c main_arg0) (V m c main_arg1) := by
  refine (dats m 0 c).arrAt_eq_of_covers 2 _ (by decide +kernel) (fun t hf y => ?_)
  blk_simp
  rw [after0_2]
  unfold outsAt0
  frame_out
  have ht : t.val < 4 := t.isLt
  obtain ⟨r, d, rfl⟩ : ∃ (r : Fin 1024) (d : Fin 1024), y = ix2 r d :=
    ⟨y 0, y 1, funext fun b => by fin_cases b <;> rfl⟩
  rw [show ((View.whole main_v1).slice (win0_2.rect t)).emb (ix2 r d) = ix2 ⟨t.val * 1024 + r.val, by omega⟩ d by blk_ext [index_2]]
  pointwise [k0_pay1, branch]
  refine (Finset.sum_congr rfl fun k _ => congrArg₂ (fun a b : EReal => a * b) ?_ ?_ : (_ : EReal) = _)
  · blk_simp [iblk]
    refine congrArg _ ?_
    blk_ext [index_0]
  · exact weight m c t k d

end Cert.Kernel16Ideal.Product

namespace Cert.Reference16Ideal.Product

open Idealize.ShloMosaic Idealize.ShloMosaic.TcCoe
open Cert.Reference16Ideal Cert.Reference16Ideal.Gen
open Cert.Kernel16Ideal.Product (branch)

theorem result (a : FVec Ideal S4096x512 .bf16) (w : FVec Ideal S512x1024 .f32) :
    (truncf .bf16 (Host.dotGeneral (φ₁ := .f32) (φ₂ := .f32) dot_S4096x512_S512x1024_S4096x1024_1_0_0_1_n_n none (extf .f32 a bitsLt_bf16_f32) w) bitsLt_bf16_f32 : FVec Ideal S4096x1024 .bf16) = branch a w := by
  funext i
  idx_vars i
  pointwise [branch]

/-- From the same arguments the call and the reference leave the same result. -/
theorem same : Cert.algebraic_Kernel16Ideal_Reference16Ideal := fun m g m' g' _ hargs => by
  refine ⟨fun c => branch (m (c.tc.loc Kernel16Ideal.main_arg0))
    (m (c.tc.loc Kernel16Ideal.main_arg1)), ?_, ?_⟩
  · refine (θ_run Kernel16Ideal.defs _ _).mono (fun r h c => ⟨(h c).1.trans ?_, (h c).2⟩) (Kernel16Ideal.Value.run_blocks m g)
    rw [Kernel16Ideal.Product.final, Kernel16Ideal.Gen.V_main_arg0, Kernel16Ideal.Gen.V_main_arg1]
  · refine (θ_run Reference16Ideal.defs _ _).mono (fun r h c => ⟨(h c).1.trans ?_, (h c).2⟩) (Reference16Ideal.Value.run (F := Ideal) m' g')
    obtain ⟨a0, a1⟩ := hargs c
    exact (result _ _).trans (by rw [a0, a1])

end Cert.Reference16Ideal.Product

end
-- ==== Proof.Products.Gate.lean ====
module

public import proofs.«01_k».proof.Defs
public import Idealize.ShloMosaic.Lib.Pipeline.ValueKit

@[expose] public section

noncomputable section

/-! # The logistic gate

One over one plus the exponential of the negated argument, the negation written as a difference from zero or as such. -/

namespace Cert.Gate

open Idealize.ShloMosaic

/-- How far a gate is open. -/
def opened (x : EReal) : EReal := Ideal.div 1 (1 + Ideal.exp (-x))

theorem opened_of_sub (x : EReal) : Ideal.div 1 (1 + Ideal.exp (0 - x)) = opened x := by
  rw [zero_sub, opened]

/-- What the derivative of the gate makes of a product, in the two orders in which it is written. -/
theorem slope (d u s : EReal) : d * u * s * (1 - s) = d * u * (s * (1 - s)) := mul_assoc _ _ _

end Cert.Gate

end
-- ==== Proof.Products.BranchDil.lean ====
module

public import proofs.«01_k».proof.Proof.Products.Gate
public import proofs.«01_k».proof.Proof.Gen.Kernel17Ideal.Value
public import proofs.«01_k».proof.Proof.Gen.Reference17Ideal.Run
public import Idealize.ShloMosaic.Lib.Pipeline.ValueKit

@[expose] public section

set_option maxRecDepth 16384

noncomputable section

/-! # The dilated branch and the mix of the two branches

The dilated attention's output times the branch's weight is kept, and the two branches are added, each through its gate. -/

namespace Cert.Kernel17Ideal.Product

open Idealize.ShloMosaic Idealize.ShloMosaic.TcCoe
open Cert.Kernel17Ideal Cert.Kernel17Ideal.Gen
open Cert.Gate (opened opened_of_sub)

/-- The dilated branch at a token and a channel. -/
def branch (y : S4096x256.Idx → EReal) (w : S256x1024.Idx → EReal) : S4096x1024.Idx → EReal := fun i =>
  ∑ k : Fin 256, y (ix2 (i 0) k) * w (ix2 k (i 1))

/-- The two branches through their gates. -/
def mixed (y : S4096x256.Idx → EReal) (z : S4096x2048.Idx → EReal) (u : S4096x1024.Idx → EReal) (w : S256x1024.Idx → EReal) : S4096x1024.Idx → EReal := fun i =>
  opened (z (ix2 (i 0) ⟨(i 1).val, by have h1 : (i 1).val < 1024 := (i 1).isLt; omega⟩)) * u (ix2 (i 0) (i 1))
    + opened (z (ix2 (i 0) ⟨1024 + (i 1).val, by have h1 : (i 1).val < 1024 := (i 1).isLt; omega⟩)) * branch y w (ix2 (i 0) (i 1))

theorem stored_branch (y : FVec Ideal S512x256 .bf16) (w : FVec Ideal S256x1024 .bf16) (r : Fin 512) (j : Fin 1024) :
    (k0_pay1 (F := Ideal) y w : S512x1024.Idx → EReal) (ix2 r j) = ∑ k : Fin 256, y (ix2 r k) * w (ix2 k j) := by
  pointwise [k0_pay1]

theorem stored_mixed (y : FVec Ideal S512x256 .bf16) (w : FVec Ideal S256x1024 .bf16) (a b u : FVec Ideal S512x1024 .bf16) (r : Fin 512) (j : Fin 1024) :
    (k0_pay2 (F := Ideal) y w a b u : S512x1024.Idx → EReal) (ix2 r j)
      = opened (a (ix2 r j)) * u (ix2 r j) + opened (b (ix2 r j)) * (k0_pay1 (F := Ideal) y w : S512x1024.Idx → EReal) (ix2 r j) := by
  unfold k0_pay2
  generalize k0_pay1 (F := Ideal) y w = d
  pointwise []
  exact congrArg₂ (fun p q : EReal => p * u (ix2 r j) + q * d (ix2 r j)) (opened_of_sub _) (opened_of_sub _)

theorem index_0 : ∀ t : Fin cfg0.N, win0_0.index t = ![t.val, 0] := (by decide +kernel : ∀ t : Fin grid0.N, _)
theorem index_1 : ∀ t : Fin cfg0.N, win0_1.index t = ![0, 0] := (by decide +kernel : ∀ t : Fin grid0.N, _)
theorem index_2 : ∀ t : Fin cfg0.N, win0_2.index t = ![t.val, 0] := (by decide +kernel : ∀ t : Fin grid0.N, _)
theorem index_3 : ∀ t : Fin cfg0.N, win0_3.index t = ![t.val, 1] := (by decide +kernel : ∀ t : Fin grid0.N, _)
theorem index_4 : ∀ t : Fin cfg0.N, win0_4.index t = ![t.val, 0] := (by decide +kernel : ∀ t : Fin grid0.N, _)
theorem index_5 : ∀ t : Fin cfg0.N, win0_5.index t = ![t.val, 0] := (by decide +kernel : ∀ t : Fin grid0.N, _)
theorem index_6 : ∀ t : Fin cfg0.N, win0_6.index t = ![t.val, 0] := (by decide +kernel : ∀ t : Fin grid0.N, _)

variable (m : (ℓ : Loc nD τ sig) → Buf (Elt Ideal) ℓ) (c : Dev nD)

theorem start : (V m c main_v0 : S256x1024.Idx → EReal) = m ((c : Thread nD τ).loc main_arg3) := by
  simp only [V, hostOps0, List.flatten_cons, List.flatten_nil, List.append_nil, List.cons_append, List.nil_append]
  after_results
  rfl

/-- The window of the weight, at an index. -/
theorem weight (t : Fin cfg0.N) (k : Fin 256) (j : Fin 1024) :
    iblk m c 1 t (ix2 k j) = V m c main_arg3 (ix2 k j) := by
  rw [V_main_arg3, ← start m c]
  blk_simp [iblk]
  refine congrArg _ ?_
  blk_ext [index_1]

theorem outputs (t : Fin cfg0.N) (r : Fin 512) (j : Fin 256) :
    (iblk m c 0 t : S512x256.Idx → EReal) (ix2 r j) = V m c main_arg0 (ix2 ⟨t.val * 512 + r.val, by have ht : t.val < 8 := t.isLt; omega⟩ j) := by
  blk_simp [iblk]
  refine congrArg _ ?_
  blk_ext [index_0]

theorem first_gate (t : Fin cfg0.N) (r : Fin 512) (j : Fin 1024) :
    (iblk m c 2 t : S512x1024.Idx → EReal) (ix2 r j) = V m c main_arg1 (ix2 ⟨t.val * 512 + r.val, by have ht : t.val < 8 := t.isLt; omega⟩ ⟨j.val, by omega⟩) := by
  blk_simp [iblk]
  refine congrArg _ ?_
  blk_ext [index_2]

theorem second_gate (t : Fin cfg0.N) (r : Fin 512) (j : Fin 1024) :
    (iblk m c 3 t : S512x1024.Idx → EReal) (ix2 r j) = V m c main_arg1 (ix2 ⟨t.val * 512 + r.val, by have ht : t.val < 8 := t.isLt; omega⟩ ⟨1024 + j.val, by omega⟩) := by
  blk_simp [iblk]
  refine congrArg _ ?_
  blk_ext [index_3]

theorem first_branch (t : Fin cfg0.N) (r : Fin 512) (j : Fin 1024) :
    (iblk m c 4 t : S512x1024.Idx → EReal) (ix2 r j) = V m c main_arg2 (ix2 ⟨t.val * 512 + r.val, by have ht : t.val < 8 := t.isLt; omega⟩ j) := by
  blk_simp [iblk]
  refine congrArg _ ?_
  blk_ext [index_4]

theorem branch_apply (t : Fin cfg0.N) (r : Fin 512) (j : Fin 1024) :
    (k0_pay1 (F := Ideal) (iblk m c 0 t) (iblk m c 1 t) : S512x1024.Idx → EReal) (ix2 r j) = branch (V m c main_arg0) (V m c main_arg3) (ix2 ⟨t.val * 512 + r.val, by have ht : t.val < 8 := t.isLt; omega⟩ j) :=
  (stored_branch _ _ r j).trans (Finset.sum_congr rfl fun k _ => congrArg₂ (fun a b : EReal => a * b) (outputs m c t r k) (weight m c t k j))

/-- The dilated branch after the call. -/
theorem final_branch : (dats m 0 c).arrAt 5 cfg0.N = branch (V m c main_arg0) (V m c main_arg3) := by
  refine (dats m 0 c).arrAt_eq_of_covers 5 _ (by decide +kernel) (fun t hf y => ?_)
  blk_simp
  rw [after0_5]
  unfold outsAt0
  frame_out
  have ht : t.val < 8 := t.isLt
  obtain ⟨r, d, rfl⟩ : ∃ (r : Fin 512) (d : Fin 1024), y = ix2 r d :=
    ⟨y 0, y 1, funext fun b => by fin_cases b <;> rfl⟩
  rw [show ((View.whole main_v1_0).slice (win0_5.rect t)).emb (ix2 r d) = ix2 ⟨t.val * 512 + r.val, by omega⟩ d by blk_ext [index_5]]
  exact branch_apply m c t r d

/-- The mix of the branches after the call. -/
theorem final_mixed : (dats m 0 c).arrAt 6 cfg0.N = mixed (V m c main_arg0) (V m c main_arg1) (V m c main_arg2) (V m c main_arg3) := by
  refine (dats m 0 c).arrAt_eq_of_covers 6 _ (by decide +kernel) (fun t hf y => ?_)
  blk_simp
  rw [after0_6]
  unfold outsAt0
  frame_out
  have ht : t.val < 8 := t.isLt
  obtain ⟨r, d, rfl⟩ : ∃ (r : Fin 512) (d : Fin 1024), y = ix2 r d :=
    ⟨y 0, y 1, funext fun b => by fin_cases b <;> rfl⟩
  rw [show ((View.whole main_v1_1).slice (win0_6.rect t)).emb (ix2 r d) = ix2 ⟨t.val * 512 + r.val, by omega⟩ d by blk_ext [index_6]]
  refine (stored_mixed _ _ _ _ _ r d).trans ?_
  exact congrArg₂ (fun a b : EReal => a + b)
    (congrArg₂ (fun a b : EReal => a * b) (congrArg opened (first_gate m c t r d)) (first_branch m c t r d))
    (congrArg₂ (fun a b : EReal => a * b) (congrArg opened (second_gate m c t r d)) (branch_apply m c t r d))

end Cert.Kernel17Ideal.Product

namespace Cert.Reference17Ideal.Product

open Idealize.ShloMosaic Idealize.ShloMosaic.TcCoe
open Cert.Reference17Ideal Cert.Reference17Ideal.Gen
open Cert.Kernel17Ideal.Product (branch mixed)
open Cert.Gate (opened)

theorem result_branch (y : FVec Ideal S4096x256 .bf16) (w : FVec Ideal S256x1024 .f32) :
    (Host.dotGeneral (φ₁ := .f32) (φ₂ := .f32) dot_S4096x256_S256x1024_S4096x1024_1_0_0_1_n_n none (extf .f32 y bitsLt_bf16_f32) w : FVec Ideal S4096x1024 .f32) = branch y w := by
  funext i
  idx_vars i
  pointwise [branch]

theorem kept (d : FVec Ideal S4096x1024 .f32) : (truncf .bf16 d bitsLt_bf16_f32 : FVec Ideal S4096x1024 .bf16) = d := by
  funext i
  idx_vars i
  pointwise []

theorem result_mixed (z : FVec Ideal S4096x2048 .bf16) (u : FVec Ideal S4096x1024 .bf16) (d : FVec Ideal S4096x1024 .f32) (r : Fin 4096) (j : Fin 1024) :
    (truncf .bf16 (addf (mulf (Host.divf (broadcastInDim S4096x1024 ![] bcast_S_S4096x1024 (constant S_ .f32 0x3F800000#32)) (addf (broadcastInDim S4096x1024 ![] bcast_S_S4096x1024 (constant S_ .f32 0x3F800000#32)) (Host.exp (Host.negf (extractStridedSlice S4096x1024 ![0, 0] (extf .f32 z bitsLt_bf16_f32) slices_S4096x2048_S4096x1024_0_0))))) (extf .f32 u bitsLt_bf16_f32)) (mulf (Host.divf (broadcastInDim S4096x1024 ![] bcast_S_S4096x1024 (constant S_ .f32 0x3F800000#32)) (addf (broadcastInDim S4096x1024 ![] bcast_S_S4096x1024 (constant S_ .f32 0x3F800000#32)) (Host.exp (Host.negf (extractStridedSlice S4096x1024 ![0, 1024] (extf .f32 z bitsLt_bf16_f32) slices_S4096x2048_S4096x1024_0_1024))))) d)) bitsLt_bf16_f32 : FVec Ideal S4096x1024 .bf16) (ix2 r j)
      = opened (z (ix2 r ⟨j.val, by omega⟩)) * u (ix2 r j) + opened (z (ix2 r ⟨1024 + j.val, by omega⟩)) * d (ix2 r j) := by
  pointwise [opened]

/-- From the same arguments the call and the reference leave the same branch and the same mix. -/
theorem same : Cert.algebraic_Kernel17Ideal_Reference17Ideal := fun m g m' g' _ hargs => by
  refine ⟨fun c => branch (m (c.tc.loc Kernel17Ideal.main_arg0)) (m (c.tc.loc Kernel17Ideal.main_arg3)),
    fun c => mixed (m (c.tc.loc Kernel17Ideal.main_arg0)) (m (c.tc.loc Kernel17Ideal.main_arg1)) (m (c.tc.loc Kernel17Ideal.main_arg2)) (m (c.tc.loc Kernel17Ideal.main_arg3)), ?_, ?_⟩
  · refine (θ_run Kernel17Ideal.defs _ _).mono (fun r h c => ⟨(h c).1.trans ?_, (h c).2.1.trans ?_, (h c).2.2⟩) (Kernel17Ideal.Value.run_blocks m g)
    · rw [Kernel17Ideal.Product.final_branch, Kernel17Ideal.Gen.V_main_arg0, Kernel17Ideal.Gen.V_main_arg3]
    · rw [Kernel17Ideal.Product.final_mixed, Kernel17Ideal.Gen.V_main_arg0, Kernel17Ideal.Gen.V_main_arg1, Kernel17Ideal.Gen.V_main_arg2, Kernel17Ideal.Gen.V_main_arg3]
  · refine (θ_run Reference17Ideal.defs _ _).mono (fun r h c => ⟨(h c).1.trans ?_, (h c).2.1.trans ?_, (h c).2.2⟩) (Reference17Ideal.Value.run (F := Ideal) m' g')
    all_goals obtain ⟨a0, a1, a2, a3⟩ := hargs c
    · exact (kept _).trans ((result_branch _ _).trans (by rw [a0, a3]))
    · funext i
      obtain ⟨p, j, rfl⟩ : ∃ (p : Fin 4096) (j : Fin 1024), i = ix2 p j := ⟨i 0, i 1, funext fun b => by fin_cases b <;> rfl⟩
      refine (result_mixed _ _ _ p j).trans ?_
      rw [result_branch, a0, a1, a2, a3]
      rfl

end Cert.Reference17Ideal.Product

end
-- ==== Proof.Products.PleProj.lean ====
module

public import proofs.«01_k».proof.Proof.Products.Parts
public import proofs.«01_k».proof.Proof.Gen.Kernel18Ideal.Value
public import proofs.«01_k».proof.Proof.Gen.Reference18Ideal.Run
public import Idealize.ShloMosaic.Lib.Pipeline.ValueKit

@[expose] public section

set_option maxRecDepth 16384

noncomputable section

/-! # The input embedding of the layer

The embedding of each token times its weight. -/

namespace Cert.Kernel18Ideal.Product

open Idealize.ShloMosaic Idealize.ShloMosaic.TcCoe
open Cert.Kernel18Ideal Cert.Kernel18Ideal.Gen

/-- The product at a token and a channel. -/
def embedding (a : S4096x256.Idx → EReal) (w : S256x1024.Idx → EReal) : S4096x1024.Idx → EReal := fun i =>
  ∑ k : Fin 256, a (ix2 (i 0) k) * w (ix2 k (i 1))

theorem index_0 : ∀ t : Fin cfg0.N, win0_0.index t = ![t.val, 0] := (by decide +kernel : ∀ t : Fin grid0.N, _)
theorem index_1 : ∀ t : Fin cfg0.N, win0_1.index t = ![0, 0] := (by decide +kernel : ∀ t : Fin grid0.N, _)
theorem index_2 : ∀ t : Fin cfg0.N, win0_2.index t = ![t.val, 0] := (by decide +kernel : ∀ t : Fin grid0.N, _)

variable (m : (ℓ : Loc nD τ sig) → Buf (Elt Ideal) ℓ) (c : Dev nD)

theorem start : (V m c main_v0 : S256x1024.Idx → EReal) = m ((c : Thread nD τ).loc main_arg1) := by
  simp only [V, hostOps0, List.flatten_cons, List.flatten_nil, List.append_nil, List.cons_append, List.nil_append]
  after_results
  rfl

theorem weight (t : Fin cfg0.N) (x : Fin 256) (y : Fin 1024) :
    iblk m c 1 t (ix2 x y) = V m c main_arg1 (ix2 x y) := by
  rw [V_main_arg1, ← start m c]
  blk_simp [iblk]
  refine congrArg _ ?_
  blk_ext [index_1]

/-- The result of the call. -/
theorem final : (dats m 0 c).arrAt 2 cfg0.N = embedding (V m c main_arg0) (V m c main_arg1) := by
  refine (dats m 0 c).arrAt_eq_of_covers 2 _ (by decide +kernel) (fun t hf y => ?_)
  blk_simp
  rw [after0_2]
  unfold outsAt0
  frame_out
  have ht : t.val < 4 := t.isLt
  obtain ⟨r, d, rfl⟩ : ∃ (r : Fin 1024) (d : Fin 1024), y = ix2 r d :=
    ⟨y 0, y 1, funext fun b => by fin_cases b <;> rfl⟩
  rw [show ((View.whole main_v1).slice (win0_2.rect t)).emb (ix2 r d) = ix2 ⟨t.val * 1024 + r.val, by omega⟩ d by blk_ext [index_2]]
  pointwise [k0_pay1, embedding]
  refine (Finset.sum_congr rfl fun k _ => congrArg₂ (fun a b : EReal => a * b) ?_ ?_ : (_ : EReal) = _)
  · blk_simp [iblk]
    refine congrArg _ ?_
    blk_ext [index_0]
  · exact weight m c t k d

end Cert.Kernel18Ideal.Product

namespace Cert.Reference18Ideal.Product

open Idealize.ShloMosaic Idealize.ShloMosaic.TcCoe
open Cert.Reference18Ideal Cert.Reference18Ideal.Gen
open Cert.Kernel18Ideal.Product (embedding)

theorem result (a : FVec Ideal S4096x256 .f32) (w : FVec Ideal S256x1024 .f32) :
    (Host.dotGeneral (φ₁ := .f32) (φ₂ := .f32) dot_S4096x256_S256x1024_S4096x1024_1_0_0_1_n_n none a w : FVec Ideal S4096x1024 .f32) = embedding a w := by
  funext i
  idx_vars i
  pointwise [embedding]

/-- From the same arguments the call and the reference leave the same result. -/
theorem same : Cert.algebraic_Kernel18Ideal_Reference18Ideal := fun m g m' g' _ hargs => by
  refine ⟨fun c => embedding (m (c.tc.loc Kernel18Ideal.main_arg0))
    (m (c.tc.loc Kernel18Ideal.main_arg1)), ?_, ?_⟩
  · refine (θ_run Kernel18Ideal.defs _ _).mono (fun r h c => ⟨(h c).1.trans ?_, (h c).2⟩) (Kernel18Ideal.Value.run_blocks m g)
    rw [Kernel18Ideal.Product.final, Kernel18Ideal.Gen.V_main_arg0, Kernel18Ideal.Gen.V_main_arg1]
  · refine (θ_run Reference18Ideal.defs _ _).mono (fun r h c => ⟨(h c).1.trans ?_, (h c).2⟩) (Reference18Ideal.Value.run (F := Ideal) m' g')
    obtain ⟨a0, a1⟩ := hargs c
    exact (result _ _).trans (by rw [a0, a1])

end Cert.Reference18Ideal.Product

end
-- ==== Proof.Products.LossHead.lean ====
module

public import proofs.«01_k».proof.Proof.Products.Norm
public import proofs.«01_k».proof.Proof.Products.Gate
public import proofs.«01_k».proof.Proof.Products.Parts
public import proofs.«01_k».proof.Proof.Gen.Kernel19Ideal.Value
public import proofs.«01_k».proof.Proof.Gen.Reference19Ideal.Run

@[expose] public section

set_option maxRecDepth 16384

noncomputable section

/-! # The embedding gate, the last norm and the loss, with their gradients

A token's embedding opens a gate on the residual stream. The sum is normed and compared with the target; half the mean of
the squared differences is the token's loss. The gradient of the loss goes back through the norm to the residual stream,
and from there to the gate's products and to the projected embedding. The loss and the gain's gradient are summed over
all tokens. -/

namespace Cert.LossHead

open Idealize.ShloMosaic

variable (a : Fin 1024 → EReal) (w : Fin 1024 → Fin 1024 → EReal) (h p y g : Fin 1024 → EReal)

/-- How far a token's gate is open at a channel. -/
def gate (j : Fin 1024) : EReal := Gate.opened (∑ k, a k * w k j)

/-- The residual stream after the gate. -/
def stream (j : Fin 1024) : EReal := h j + gate a w j * p j

/-- The difference between the normed stream and the target. -/
def miss (j : Fin 1024) : EReal :=
  stream a w h p j * Ideal.rsqrt (Norm.level (stream a w h p)) * g j - y j

/-- The mean of the squared differences. -/
def missed : EReal := Ideal.div (∑ k, miss a w h p y g k * miss a w h p y g k) (Ideal.ofBits FTy.f32 1149239296#32)

/-- The cotangent of the normed stream. -/
def cotangent (j : Fin 1024) : EReal := miss a w h p y g j * Ideal.ofBits FTy.f32 981467136#32

/-- The gradient with respect to the stream. -/
def grad (j : Fin 1024) : EReal := Norm.grad (stream a w h p) (fun k => cotangent a w h p y g k * g k) j

/-- The gradient with respect to the gate's products. -/
def products (j : Fin 1024) : EReal := grad a w h p y g j * p j * gate a w j * (1 - gate a w j)

/-- The gradient with respect to the projected embedding. -/
def projected (j : Fin 1024) : EReal := grad a w h p y g j * gate a w j

theorem half_eq : (Ideal.ofBits FTy.f32 1056964608#32 : EReal) = ((1 / 2 : ℝ) : EReal) := by
  simp [Ideal.ofBits, Ideal.ieee, -EReal.coe_mul]; norm_num

theorem two_eq : (Ideal.ofBits FTy.f32 1073741824#32 : EReal) = ((2 : ℝ) : EReal) := by
  simp [Ideal.ofBits, Ideal.ieee, -EReal.coe_mul]; norm_num

theorem part_eq : (Ideal.ofBits FTy.f32 981467136#32 : EReal) = (((1024 : ℝ)⁻¹ : ℝ) : EReal) := by
  simp [Ideal.ofBits, Ideal.ieee, -EReal.coe_mul]; norm_num

/-- Half of a 1024th of twice a difference is a 1024th of it. -/
theorem scaled (x : EReal) :
    Ideal.div (Ideal.ofBits FTy.f32 1056964608#32 * 1) (Ideal.ofBits FTy.f32 1149239296#32) * (Ideal.ofBits FTy.f32 1073741824#32 * x)
      = x * Ideal.ofBits FTy.f32 981467136#32 := by
  rw [Norm.div_width, half_eq, two_eq, part_eq, mul_one, ← mul_assoc, ← EReal.coe_mul, ← EReal.coe_mul, mul_comm x]
  congr 2
  norm_num

/-- Half the sum over the tokens, in eight parts. -/
theorem halves {N : ℕ} (hN : N = 8) (f : Fin 4096 → EReal) :
    (∑ q : Fin N, Ideal.ofBits FTy.f32 1056964608#32 * ∑ n : Fin 512, f ⟨q.val * 512 + n.val, by omega⟩) = Ideal.ofBits FTy.f32 1056964608#32 * ∑ n, f n := by
  rw [half_eq, ← Parts.eight hN f, mul_comm, ← Norm.sum_mul_real _ _ (by norm_num)]
  exact Finset.sum_congr rfl fun q _ => mul_comm _ _

end Cert.LossHead

namespace Cert.Kernel19Ideal.Product

open Idealize.ShloMosaic Idealize.ShloMosaic.TcCoe
open Cert.Kernel19Ideal Cert.Kernel19Ideal.Gen

/-- A token's row. -/
def row (x : S4096x1024.Idx → EReal) (n : Fin 4096) : Fin 1024 → EReal := fun k => x (ix2 n k)

/-- The weight, by input and output channel. -/
def weight (w : S1024x1024.Idx → EReal) : Fin 1024 → Fin 1024 → EReal := fun k j => w (ix2 k j)

/-- The gain, by channel. -/
def gain (g : S1x1024.Idx → EReal) : Fin 1024 → EReal := fun k => g (ix2 0 k)

section Results

variable (a h p y : S4096x1024.Idx → EReal) (g : S1x1024.Idx → EReal) (w : S1024x1024.Idx → EReal)

/-- The gradient with respect to the residual stream. -/
def grads : S4096x1024.Idx → EReal := fun i =>
  LossHead.grad (row a (i 0)) (weight w) (row h (i 0)) (row p (i 0)) (row y (i 0)) (gain g) (i 1)

/-- The gradient with respect to the gate's products. -/
def products : S4096x1024.Idx → EReal := fun i =>
  LossHead.products (row a (i 0)) (weight w) (row h (i 0)) (row p (i 0)) (row y (i 0)) (gain g) (i 1)

/-- The gradient with respect to the projected embedding. -/
def projected : S4096x1024.Idx → EReal := fun i =>
  LossHead.projected (row a (i 0)) (weight w) (row h (i 0)) (row p (i 0)) (row y (i 0)) (gain g) (i 1)

/-- The loss, in every lane. -/
def loss : S1x128.Idx → EReal := fun _ =>
  Ideal.ofBits FTy.f32 1056964608#32 * ∑ n : Fin 4096, LossHead.missed (row a n) (weight w) (row h n) (row p n) (row y n) (gain g)

/-- The gradient with respect to the norm's gain. -/
def gains : S1x1024.Idx → EReal := fun i =>
  Norm.gain (fun n : Fin 4096 => LossHead.stream (row a n) (weight w) (row h n) (row p n))
    (fun n => LossHead.cotangent (row a n) (weight w) (row h n) (row p n) (row y n) (gain g)) (i 1)

end Results

/-! ## The stored values, at an index -/

section Stored

variable (a : FVec Ideal S512x1024 .bf16) (w : FVec Ideal S1024x1024 .bf16) (h p y : FVec Ideal S512x1024 .f32) (g : FVec Ideal S1x1024 .f32)

theorem stored_gate (r : Fin 512) (j : Fin 1024) :
    (k0_pay3 (F := Ideal) a w : S512x1024.Idx → EReal) (ix2 r j) = LossHead.gate (fun k => a (ix2 r k)) (fun k j => w (ix2 k j)) j := by
  refine Eq.trans ?_ (Gate.opened_of_sub _)
  pointwise [k0_pay3]

theorem stored_stream (r : Fin 512) (j : Fin 1024) :
    (k0_pay4 (F := Ideal) a w h p : S512x1024.Idx → EReal) (ix2 r j)
      = LossHead.stream (fun k => a (ix2 r k)) (fun k j => w (ix2 k j)) (fun k => h (ix2 r k)) (fun k => p (ix2 r k)) j := by
  unfold k0_pay4 LossHead.stream
  rw [← stored_gate a w r j]
  generalize k0_pay3 (F := Ideal) a w = s
  pointwise []

theorem stored_miss (r : Fin 512) (j : Fin 1024) :
    (k0_pay5 (F := Ideal) a w h p y g : S512x1024.Idx → EReal) (ix2 r j)
      = LossHead.miss (fun k => a (ix2 r k)) (fun k j => w (ix2 k j)) (fun k => h (ix2 r k)) (fun k => p (ix2 r k)) (fun k => y (ix2 r k)) (fun k => g (ix2 0 k)) j := by
  have e : LossHead.stream (fun k => a (ix2 r k)) (fun k j => w (ix2 k j)) (fun k => h (ix2 r k)) (fun k => p (ix2 r k))
      = fun k => (k0_pay4 (F := Ideal) a w h p : S512x1024.Idx → EReal) (ix2 r k) := funext fun k => (stored_stream a w h p r k).symm
  unfold k0_pay5 LossHead.miss
  rw [e]
  generalize k0_pay4 (F := Ideal) a w h p = s
  pointwise [Norm.level]

theorem stored_missed :
    (k0_pay6 (F := Ideal) a w h p y g : S1x1.Idx → EReal) (ix2 0 0)
      = ∑ r : Fin 512, LossHead.missed (fun k => a (ix2 r k)) (fun k j => w (ix2 k j)) (fun k => h (ix2 r k)) (fun k => p (ix2 r k)) (fun k => y (ix2 r k)) (fun k => g (ix2 0 k)) := by
  unfold k0_pay6 LossHead.missed
  simp only [← stored_miss a w h p y g]
  generalize k0_pay5 (F := Ideal) a w h p y g = s
  pointwise []

theorem stored_half (x : FVec Ideal S1x1 .f32) (b : Ideal .f32) (l : Fin 128) :
    (k0_pay12 (F := Ideal) x b : S1x128.Idx → EReal) (ix2 0 l) = (b : EReal) * x (ix2 0 0) := by
  pointwise [k0_pay12]

theorem stored_grad (s d : FVec Ideal S512x1024 .f32) (r : Fin 512) (j : Fin 1024) :
    (k0_pay10 (F := Ideal) g s d : S512x1024.Idx → EReal) (ix2 r j)
      = Norm.grad (fun k => s (ix2 r k)) (fun k => d (ix2 r k) * Ideal.ofBits FTy.f32 981467136#32 * g (ix2 0 k)) j := by
  pointwise [k0_pay10, k0_pay9, k0_pay8, k0_pay7, Norm.grad, Norm.level]

theorem stored_gain (s d : FVec Ideal S512x1024 .f32) (j : Fin 1024) :
    (k0_pay11 (F := Ideal) s d : S1x1024.Idx → EReal) (ix2 0 j)
      = Norm.gain (fun (n : Fin 512) k => s (ix2 n k)) (fun n k => d (ix2 n k) * Ideal.ofBits FTy.f32 981467136#32) j := by
  pointwise [k0_pay11, k0_pay9, k0_pay8, k0_pay7, Norm.gain, Norm.level]

theorem stored_products (o s d : FVec Ideal S512x1024 .f32) (r : Fin 512) (j : Fin 1024) :
    (k0_pay13 (F := Ideal) p g o s d : S512x1024.Idx → EReal) (ix2 r j)
      = (k0_pay10 (F := Ideal) g s d : S512x1024.Idx → EReal) (ix2 r j) * p (ix2 r j) * o (ix2 r j) * (1 - o (ix2 r j)) := by
  unfold k0_pay13
  generalize k0_pay10 (F := Ideal) g s d = e
  pointwise []

theorem stored_projected (o s d : FVec Ideal S512x1024 .f32) (r : Fin 512) (j : Fin 1024) :
    (k0_pay14 (F := Ideal) g o s d : S512x1024.Idx → EReal) (ix2 r j)
      = (k0_pay10 (F := Ideal) g s d : S512x1024.Idx → EReal) (ix2 r j) * o (ix2 r j) := by
  unfold k0_pay14
  generalize k0_pay10 (F := Ideal) g s d = e
  pointwise []

theorem added_loss (s b : FVec Ideal S1x128 .f32) (l : Fin 128) :
    (k0_pay1 (F := Ideal) s b : S1x128.Idx → EReal) (ix2 0 l) = b (ix2 0 l) + s (ix2 0 l) := by
  pointwise [k0_pay1]

theorem added_gain (s b : FVec Ideal S1x1024 .f32) (j : Fin 1024) :
    (k0_pay2 (F := Ideal) s b : S1x1024.Idx → EReal) (ix2 0 j) = b (ix2 0 j) + s (ix2 0 j) := by
  pointwise [k0_pay2]

theorem block_grad (r : Fin 512) (j : Fin 1024) :
    (k0_pay10 (F := Ideal) g (k0_pay4 (F := Ideal) a w h p) (k0_pay5 (F := Ideal) a w h p y g) : S512x1024.Idx → EReal) (ix2 r j)
      = LossHead.grad (fun k => a (ix2 r k)) (fun k j => w (ix2 k j)) (fun k => h (ix2 r k)) (fun k => p (ix2 r k)) (fun k => y (ix2 r k)) (fun k => g (ix2 0 k)) j := by
  refine (stored_grad g _ _ r j).trans ?_
  unfold LossHead.grad LossHead.cotangent
  simp only [stored_stream a w h p, stored_miss a w h p y g]

theorem block_products (r : Fin 512) (j : Fin 1024) :
    (k0_pay13 (F := Ideal) p g (k0_pay3 (F := Ideal) a w) (k0_pay4 (F := Ideal) a w h p) (k0_pay5 (F := Ideal) a w h p y g) : S512x1024.Idx → EReal) (ix2 r j)
      = LossHead.products (fun k => a (ix2 r k)) (fun k j => w (ix2 k j)) (fun k => h (ix2 r k)) (fun k => p (ix2 r k)) (fun k => y (ix2 r k)) (fun k => g (ix2 0 k)) j := by
  refine (stored_products p g _ _ _ r j).trans ?_
  rw [block_grad, stored_gate]
  rfl

theorem block_projected (r : Fin 512) (j : Fin 1024) :
    (k0_pay14 (F := Ideal) g (k0_pay3 (F := Ideal) a w) (k0_pay4 (F := Ideal) a w h p) (k0_pay5 (F := Ideal) a w h p y g) : S512x1024.Idx → EReal) (ix2 r j)
      = LossHead.projected (fun k => a (ix2 r k)) (fun k j => w (ix2 k j)) (fun k => h (ix2 r k)) (fun k => p (ix2 r k)) (fun k => y (ix2 r k)) (fun k => g (ix2 0 k)) j := by
  refine (stored_projected g _ _ _ r j).trans ?_
  rw [block_grad, stored_gate]
  rfl

theorem block_gain (j : Fin 1024) :
    (k0_pay11 (F := Ideal) (k0_pay4 (F := Ideal) a w h p) (k0_pay5 (F := Ideal) a w h p y g) : S1x1024.Idx → EReal) (ix2 0 j)
      = Norm.gain (fun r : Fin 512 => LossHead.stream (fun k => a (ix2 r k)) (fun k j => w (ix2 k j)) (fun k => h (ix2 r k)) (fun k => p (ix2 r k)))
        (fun r => LossHead.cotangent (fun k => a (ix2 r k)) (fun k j => w (ix2 k j)) (fun k => h (ix2 r k)) (fun k => p (ix2 r k)) (fun k => y (ix2 r k)) (fun k => g (ix2 0 k))) j := by
  refine (stored_gain _ _ j).trans ?_
  unfold LossHead.cotangent
  simp only [stored_stream a w h p, stored_miss a w h p y g]

theorem block_loss (l : Fin 128) :
    (k0_pay12 (F := Ideal) (k0_pay6 (F := Ideal) a w h p y g) (Scalar.ofBits .f32 0x3F000000#32) : S1x128.Idx → EReal) (ix2 0 l)
      = Ideal.ofBits FTy.f32 1056964608#32 * ∑ r : Fin 512, LossHead.missed (fun k => a (ix2 r k)) (fun k j => w (ix2 k j)) (fun k => h (ix2 r k)) (fun k => p (ix2 r k)) (fun k => y (ix2 r k)) (fun k => g (ix2 0 k)) :=
  (stored_half _ _ l).trans (congrArg (fun x : EReal => Ideal.ofBits FTy.f32 1056964608#32 * x) (stored_missed a w h p y g))

end Stored

theorem index_0 : ∀ t : Fin cfg0.N, win0_0.index t = ![t.val, 0] := (by decide +kernel : ∀ t : Fin grid0.N, _)
theorem index_1 : ∀ t : Fin cfg0.N, win0_1.index t = ![0, 0] := (by decide +kernel : ∀ t : Fin grid0.N, _)
theorem index_2 : ∀ t : Fin cfg0.N, win0_2.index t = ![t.val, 0] := (by decide +kernel : ∀ t : Fin grid0.N, _)
theorem index_3 : ∀ t : Fin cfg0.N, win0_3.index t = ![t.val, 0] := (by decide +kernel : ∀ t : Fin grid0.N, _)
theorem index_4 : ∀ t : Fin cfg0.N, win0_4.index t = ![t.val, 0] := (by decide +kernel : ∀ t : Fin grid0.N, _)
theorem index_5 : ∀ t : Fin cfg0.N, win0_5.index t = ![0, 0] := (by decide +kernel : ∀ t : Fin grid0.N, _)
theorem index_6 : ∀ t : Fin cfg0.N, win0_6.index t = ![t.val, 0] := (by decide +kernel : ∀ t : Fin grid0.N, _)
theorem index_7 : ∀ t : Fin cfg0.N, win0_7.index t = ![t.val, 0] := (by decide +kernel : ∀ t : Fin grid0.N, _)
theorem index_8 : ∀ t : Fin cfg0.N, win0_8.index t = ![t.val, 0] := (by decide +kernel : ∀ t : Fin grid0.N, _)
theorem index_9 : ∀ t : Fin cfg0.N, win0_9.index t = ![0, 0] := (by decide +kernel : ∀ t : Fin grid0.N, _)
theorem index_10 : ∀ t : Fin cfg0.N, win0_10.index t = ![0, 0] := (by decide +kernel : ∀ t : Fin grid0.N, _)

variable (m : (ℓ : Loc nD τ sig) → Buf (Elt Ideal) ℓ) (c : Dev nD)

theorem start : (V m c main_v0 : S1024x1024.Idx → EReal) = m ((c : Thread nD τ).loc main_arg5) := by
  simp only [V, hostOps0, List.flatten_cons, List.flatten_nil, List.append_nil, List.cons_append, List.nil_append]
  after_results
  rfl

/-- The window of the weight, at an index. -/
theorem weight_apply (t : Fin cfg0.N) (k j : Fin 1024) :
    (iblk m c 1 t : S1024x1024.Idx → EReal) (ix2 k j) = V m c main_arg5 (ix2 k j) := by
  rw [V_main_arg5, ← start m c]
  blk_simp [iblk]
  refine congrArg _ ?_
  blk_ext [index_1]

theorem input_0 (t : Fin cfg0.N) (r : Fin 512) (k : Fin 1024) :
    (iblk m c 0 t : S512x1024.Idx → EReal) (ix2 r k) = V m c main_arg0 (ix2 ⟨t.val * 512 + r.val, by have ht : t.val < 8 := t.isLt; omega⟩ k) := by
  blk_simp [iblk]
  refine congrArg _ ?_
  blk_ext [index_0]

theorem input_2 (t : Fin cfg0.N) (r : Fin 512) (k : Fin 1024) :
    (iblk m c 2 t : S512x1024.Idx → EReal) (ix2 r k) = V m c main_arg1 (ix2 ⟨t.val * 512 + r.val, by have ht : t.val < 8 := t.isLt; omega⟩ k) := by
  blk_simp [iblk]
  refine congrArg _ ?_
  blk_ext [index_2]

theorem input_3 (t : Fin cfg0.N) (r : Fin 512) (k : Fin 1024) :
    (iblk m c 3 t : S512x1024.Idx → EReal) (ix2 r k) = V m c main_arg2 (ix2 ⟨t.val * 512 + r.val, by have ht : t.val < 8 := t.isLt; omega⟩ k) := by
  blk_simp [iblk]
  refine congrArg _ ?_
  blk_ext [index_3]

theorem input_4 (t : Fin cfg0.N) (r : Fin 512) (k : Fin 1024) :
    (iblk m c 4 t : S512x1024.Idx → EReal) (ix2 r k) = V m c main_arg3 (ix2 ⟨t.val * 512 + r.val, by have ht : t.val < 8 := t.isLt; omega⟩ k) := by
  blk_simp [iblk]
  refine congrArg _ ?_
  blk_ext [index_4]

theorem gain_apply (t : Fin cfg0.N) (k : Fin 1024) :
    (iblk m c 5 t : S1x1024.Idx → EReal) (ix2 0 k) = V m c main_arg4 (ix2 0 k) := by
  blk_simp [iblk]
  refine congrArg _ ?_
  blk_ext [index_5]

/-- What is made of a grid point's rows is made of the tokens' rows. -/
theorem at_token {α : Sort*} (f : (Fin 1024 → EReal) → (Fin 1024 → Fin 1024 → EReal) → (Fin 1024 → EReal) → (Fin 1024 → EReal) → (Fin 1024 → EReal) → (Fin 1024 → EReal) → α)
    (t : Fin cfg0.N) (r : Fin 512) (n : Fin 4096) (hn : n.val = t.val * 512 + r.val) :
    f (fun k => (iblk m c 0 t : S512x1024.Idx → EReal) (ix2 r k)) (fun k j => (iblk m c 1 t : S1024x1024.Idx → EReal) (ix2 k j))
        (fun k => (iblk m c 2 t : S512x1024.Idx → EReal) (ix2 r k)) (fun k => (iblk m c 3 t : S512x1024.Idx → EReal) (ix2 r k))
        (fun k => (iblk m c 4 t : S512x1024.Idx → EReal) (ix2 r k)) (fun k => (iblk m c 5 t : S1x1024.Idx → EReal) (ix2 0 k))
      = f (row (V m c main_arg0) n) (weight (V m c main_arg5)) (row (V m c main_arg1) n) (row (V m c main_arg2) n) (row (V m c main_arg3) n) (gain (V m c main_arg4)) := by
  have hb : t.val * 512 + r.val < 4096 := hn ▸ n.isLt
  have hq : (⟨t.val * 512 + r.val, hb⟩ : Fin 4096) = n := Fin.ext hn.symm
  rw [← hq]
  rw [show (fun k => (iblk m c 0 t : S512x1024.Idx → EReal) (ix2 r k)) = row (V m c main_arg0) _ from funext fun k => input_0 m c t r k,
    show (fun k j => (iblk m c 1 t : S1024x1024.Idx → EReal) (ix2 k j)) = weight (V m c main_arg5) from funext fun k => funext fun j => weight_apply m c t k j,
    show (fun k => (iblk m c 2 t : S512x1024.Idx → EReal) (ix2 r k)) = row (V m c main_arg1) _ from funext fun k => input_2 m c t r k,
    show (fun k => (iblk m c 3 t : S512x1024.Idx → EReal) (ix2 r k)) = row (V m c main_arg2) _ from funext fun k => input_3 m c t r k,
    show (fun k => (iblk m c 4 t : S512x1024.Idx → EReal) (ix2 r k)) = row (V m c main_arg3) _ from funext fun k => input_4 m c t r k,
    show (fun k => (iblk m c 5 t : S1x1024.Idx → EReal) (ix2 0 k)) = gain (V m c main_arg4) from funext fun k => gain_apply m c t k]

/-- The residual stream's gradient after the call. -/
theorem final_grads : (dats m 0 c).arrAt 6 cfg0.N = grads (V m c main_arg0) (V m c main_arg1) (V m c main_arg2) (V m c main_arg3) (V m c main_arg4) (V m c main_arg5) := by
  refine (dats m 0 c).arrAt_eq_of_covers 6 _ (by decide +kernel) (fun t hf y => ?_)
  blk_simp
  rw [after0_6]
  have ht : t.val < 8 := t.isLt
  obtain ⟨r, d, rfl⟩ : ∃ (r : Fin 512) (d : Fin 1024), y = ix2 r d :=
    ⟨y 0, y 1, funext fun b => by fin_cases b <;> rfl⟩
  rw [show ((View.whole main_v1_0).slice (win0_6.rect t)).emb (ix2 r d) = ix2 ⟨t.val * 512 + r.val, by omega⟩ d by blk_ext [index_6]]
  have key := at_token m c (fun a w h p y g => LossHead.grad a w h p y g d) t r ⟨t.val * 512 + r.val, by omega⟩ rfl
  by_cases h : t.val % 8 = 0
  · rw [outsAt0_A m c t h (by omega) h (by omega)]
    frame_out
    exact (block_grad _ _ _ _ _ _ r d).trans key
  · rw [outsAt0_B m c t h (by omega) h (by omega)]
    frame_out
    exact (block_grad _ _ _ _ _ _ r d).trans key

/-- The gradient of the gate's products after the call. -/
theorem final_products : (dats m 0 c).arrAt 7 cfg0.N = products (V m c main_arg0) (V m c main_arg1) (V m c main_arg2) (V m c main_arg3) (V m c main_arg4) (V m c main_arg5) := by
  refine (dats m 0 c).arrAt_eq_of_covers 7 _ (by decide +kernel) (fun t hf y => ?_)
  blk_simp
  rw [after0_7]
  have ht : t.val < 8 := t.isLt
  obtain ⟨r, d, rfl⟩ : ∃ (r : Fin 512) (d : Fin 1024), y = ix2 r d :=
    ⟨y 0, y 1, funext fun b => by fin_cases b <;> rfl⟩
  rw [show ((View.whole main_v1_1).slice (win0_7.rect t)).emb (ix2 r d) = ix2 ⟨t.val * 512 + r.val, by omega⟩ d by blk_ext [index_7]]
  have key := at_token m c (fun a w h p y g => LossHead.products a w h p y g d) t r ⟨t.val * 512 + r.val, by omega⟩ rfl
  by_cases h : t.val % 8 = 0
  · rw [outsAt0_A m c t h (by omega) h (by omega)]
    frame_out
    exact (block_products _ _ _ _ _ _ r d).trans key
  · rw [outsAt0_B m c t h (by omega) h (by omega)]
    frame_out
    exact (block_products _ _ _ _ _ _ r d).trans key

/-- The gradient of the projected embedding after the call. -/
theorem final_projected : (dats m 0 c).arrAt 8 cfg0.N = projected (V m c main_arg0) (V m c main_arg1) (V m c main_arg2) (V m c main_arg3) (V m c main_arg4) (V m c main_arg5) := by
  refine (dats m 0 c).arrAt_eq_of_covers 8 _ (by decide +kernel) (fun t hf y => ?_)
  blk_simp
  rw [after0_8]
  have ht : t.val < 8 := t.isLt
  obtain ⟨r, d, rfl⟩ : ∃ (r : Fin 512) (d : Fin 1024), y = ix2 r d :=
    ⟨y 0, y 1, funext fun b => by fin_cases b <;> rfl⟩
  rw [show ((View.whole main_v1_2).slice (win0_8.rect t)).emb (ix2 r d) = ix2 ⟨t.val * 512 + r.val, by omega⟩ d by blk_ext [index_8]]
  have key := at_token m c (fun a w h p y g => LossHead.projected a w h p y g d) t r ⟨t.val * 512 + r.val, by omega⟩ rfl
  by_cases h : t.val % 8 = 0
  · rw [outsAt0_A m c t h (by omega) h (by omega)]
    frame_out
    exact (block_projected _ _ _ _ _ _ r d).trans key
  · rw [outsAt0_B m c t h (by omega) h (by omega)]
    frame_out
    exact (block_projected _ _ _ _ _ _ r d).trans key

/-- The loss after the call. -/
theorem final_loss : (dats m 0 c).arrAt 9 cfg0.N = loss (V m c main_arg0) (V m c main_arg1) (V m c main_arg2) (V m c main_arg3) (V m c main_arg4) (V m c main_arg5) := by
  refine (dats m 0 c).arrAt_eq_of_covers 9 _ (by decide +kernel) (fun t hf y => ?_)
  have ht : t.val < 8 := t.isLt
  have hlast : t.val % 8 = 7 := (flush0_9 t).mp hf
  blk_simp
  rw [after0_9]
  obtain ⟨l, rfl⟩ : ∃ l : Fin 128, y = ix2 0 l :=
    ⟨y 1, funext fun b => by fin_cases b; exact Subsingleton.elim (α := Fin 1) _ _; rfl⟩
  rw [show ((View.whole main_v1_3).slice (win0_9.rect t)).emb (ix2 0 l) = ix2 0 l by blk_ext [index_9]]
  rw [Pipeline.eq_sum_fin_of_reset_step_apply_last (fun n h => (outsAt0 m c n h).2.2.2.1) 8 (fun _ => (0 : EReal))
    (fun t i => (k0_pay12 (F := Ideal) (k0_pay6 (F := Ideal) (iblk m c 0 t) (iblk m c 1 t) (iblk m c 2 t) (iblk m c 3 t) (iblk m c 4 t) (iblk m c 5 t)) (Scalar.ofBits .f32 0x3F000000#32) : S1x128.Idx → EReal) i)
    (fun t h j => by
      have ht : t.val < 8 := t.isLt
      rw [outsAt0_A m c t h (by omega) h (by omega)]
      frame_out
      exact (zero_add _).symm)
    (fun t h j => by
      have ht : t.val < 8 := t.isLt
      rw [outsAt0_B m c t h (by omega) h (by omega)]
      frame_out
      obtain ⟨d, rfl⟩ : ∃ d : Fin 128, j = ix2 0 d :=
        ⟨j 1, funext fun b => by fin_cases b; exact Subsingleton.elim (α := Fin 1) _ _; rfl⟩
      exact added_loss _ _ d)
    (le_of_eq N_0) t ((show t.val + 1 = 8 by omega).trans N_0.symm) (ix2 0 l), zero_add]
  refine (Finset.sum_congr rfl fun q _ => (block_loss _ _ _ _ _ _ l).trans (congrArg (fun x : EReal => Ideal.ofBits FTy.f32 1056964608#32 * x)
    (Finset.sum_congr rfl fun r _ => at_token m c LossHead.missed q r ⟨q.val * 512 + r.val, by have hq : q.val < 8 := q.isLt; omega⟩ rfl))).trans ?_
  exact LossHead.halves N_0 (fun n => LossHead.missed (row (V m c main_arg0) n) (weight (V m c main_arg5)) (row (V m c main_arg1) n) (row (V m c main_arg2) n) (row (V m c main_arg3) n) (gain (V m c main_arg4)))

/-- The gain's gradient after the call. -/
theorem final_gains : (dats m 0 c).arrAt 10 cfg0.N = gains (V m c main_arg0) (V m c main_arg1) (V m c main_arg2) (V m c main_arg3) (V m c main_arg4) (V m c main_arg5) := by
  refine (dats m 0 c).arrAt_eq_of_covers 10 _ (by decide +kernel) (fun t hf y => ?_)
  have ht : t.val < 8 := t.isLt
  have hlast : t.val % 8 = 7 := (flush0_10 t).mp hf
  blk_simp
  rw [after0_10]
  obtain ⟨d, rfl⟩ : ∃ d : Fin 1024, y = ix2 0 d :=
    ⟨y 1, funext fun b => by fin_cases b; exact Subsingleton.elim (α := Fin 1) _ _; rfl⟩
  rw [show ((View.whole main_v1_4).slice (win0_10.rect t)).emb (ix2 0 d) = ix2 0 d by blk_ext [index_10]]
  rw [Pipeline.eq_sum_fin_of_reset_step_apply_last (fun n h => (outsAt0 m c n h).2.2.2.2) 8 (fun _ => (0 : EReal))
    (fun t i => (k0_pay11 (F := Ideal) (k0_pay4 (F := Ideal) (iblk m c 0 t) (iblk m c 1 t) (iblk m c 2 t) (iblk m c 3 t)) (k0_pay5 (F := Ideal) (iblk m c 0 t) (iblk m c 1 t) (iblk m c 2 t) (iblk m c 3 t) (iblk m c 4 t) (iblk m c 5 t)) : S1x1024.Idx → EReal) i)
    (fun t h j => by
      have ht : t.val < 8 := t.isLt
      rw [outsAt0_A m c t h (by omega) h (by omega)]
      frame_out
      exact (zero_add _).symm)
    (fun t h j => by
      have ht : t.val < 8 := t.isLt
      rw [outsAt0_B m c t h (by omega) h (by omega)]
      frame_out
      obtain ⟨d, rfl⟩ : ∃ d : Fin 1024, j = ix2 0 d :=
        ⟨j 1, funext fun b => by fin_cases b; exact Subsingleton.elim (α := Fin 1) _ _; rfl⟩
      exact added_gain _ _ d)
    (le_of_eq N_0) t ((show t.val + 1 = 8 by omega).trans N_0.symm) (ix2 0 d), zero_add]
  refine (Finset.sum_congr rfl fun q _ => (block_gain _ _ _ _ _ _ d).trans (congrArg₂ (fun s e => Norm.gain s e d)
    (funext fun r => at_token m c (fun a w h p y g => LossHead.stream a w h p) q r ⟨q.val * 512 + r.val, by have hq : q.val < 8 := q.isLt; omega⟩ rfl)
    (funext fun r => at_token m c LossHead.cotangent q r ⟨q.val * 512 + r.val, by have hq : q.val < 8 := q.isLt; omega⟩ rfl))).trans ?_
  exact Norm.gain_parts N_0 (fun n => LossHead.stream (row (V m c main_arg0) n) (weight (V m c main_arg5)) (row (V m c main_arg1) n) (row (V m c main_arg2) n))
    (fun n => LossHead.cotangent (row (V m c main_arg0) n) (weight (V m c main_arg5)) (row (V m c main_arg1) n) (row (V m c main_arg2) n) (row (V m c main_arg3) n) (gain (V m c main_arg4))) d

end Cert.Kernel19Ideal.Product

namespace Cert.Reference19Ideal.Product

open Idealize.ShloMosaic Idealize.ShloMosaic.TcCoe
open Cert.Kernel19Ideal.Gen (V_main_arg0 V_main_arg1 V_main_arg2 V_main_arg3 V_main_arg4 V_main_arg5)
open Cert.Reference19Ideal Cert.Reference19Ideal.Gen
open Cert.Kernel19Ideal.Product (row weight gain grads products projected loss gains)

/-- The gates of all tokens. -/
def gates (a : S4096x1024.Idx → EReal) (w : S1024x1024.Idx → EReal) : FVec Ideal S4096x1024 .f32 := fun i =>
  LossHead.gate (row a (i 0)) (weight w) (i 1)

/-- The residual stream of all tokens. -/
def streams (a : S4096x1024.Idx → EReal) (w : S1024x1024.Idx → EReal) (h p : S4096x1024.Idx → EReal) : FVec Ideal S4096x1024 .f32 := fun i =>
  LossHead.stream (row a (i 0)) (weight w) (row h (i 0)) (row p (i 0)) (i 1)

/-- The differences of all tokens from the target. -/
def misses (a : S4096x1024.Idx → EReal) (w : S1024x1024.Idx → EReal) (h p y : S4096x1024.Idx → EReal) (g : S1x1024.Idx → EReal) : FVec Ideal S4096x1024 .f32 := fun i =>
  LossHead.miss (row a (i 0)) (weight w) (row h (i 0)) (row p (i 0)) (row y (i 0)) (gain g) (i 1)

/-- The cotangents of all tokens. -/
def cotangents (a : S4096x1024.Idx → EReal) (w : S1024x1024.Idx → EReal) (h p y : S4096x1024.Idx → EReal) (g : S1x1024.Idx → EReal) : FVec Ideal S4096x1024 .f32 := fun i =>
  LossHead.cotangent (row a (i 0)) (weight w) (row h (i 0)) (row p (i 0)) (row y (i 0)) (gain g) (i 1)

theorem result_gates (a : FVec Ideal S4096x1024 .bf16) (w : FVec Ideal S1024x1024 .f32) :
    ((Host.divf (broadcastInDim S4096x1024 ![] bcast_S_S4096x1024 (constant S_ .f32 0x3F800000#32)) (addf (broadcastInDim S4096x1024 ![] bcast_S_S4096x1024 (constant S_ .f32 0x3F800000#32)) (Host.exp (Host.negf (Host.dotGeneral (φ₁ := .f32) (φ₂ := .f32) dot_S4096x1024_S1024x1024_S4096x1024_1_0_0_1_n_n none (extf .f32 a bitsLt_bf16_f32) w))))) : FVec Ideal S4096x1024 .f32) = gates a w := by
  funext i
  idx_vars i
  pointwise [gates, LossHead.gate, Gate.opened, row, weight]

theorem result_streams (a : FVec Ideal S4096x1024 .bf16) (w : FVec Ideal S1024x1024 .f32) (h p : FVec Ideal S4096x1024 .f32) :
    (addf h (mulf (gates a w) p) : FVec Ideal S4096x1024 .f32) = streams a w h p := by
  funext i
  idx_vars i
  pointwise [gates, streams, LossHead.stream, row]

theorem miss_apply (s y : FVec Ideal S4096x1024 .f32) (g : FVec Ideal S1x1024 .f32) (n : Fin 4096) (j : Fin 1024) :
    ((subf (mulf (mulf s (broadcastInDim S4096x1024 ![0, 1] bcast_S4096x1_S4096x1024_0_1 (Host.rsqrt (addf (Host.divf (broadcastInDim S4096x1 ![0] bcast_S4096_S4096x1_0 (Host.reduceAdd (mulf s s) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1024 ![0, 1] bcast_S1x1024_S4096x1024_0_1 g)) y) : FVec Ideal S4096x1024 .f32) (ix2 n j)
      = s (ix2 n j) * Ideal.rsqrt (Norm.level (fun k => s (ix2 n k))) * g (ix2 0 j) - y (ix2 n j) := by
  pointwise [Norm.level]

theorem result_misses (a : FVec Ideal S4096x1024 .bf16) (w : FVec Ideal S1024x1024 .f32) (h p y : FVec Ideal S4096x1024 .f32) (g : FVec Ideal S1x1024 .f32) :
    ((subf (mulf (mulf (streams a w h p) (broadcastInDim S4096x1024 ![0, 1] bcast_S4096x1_S4096x1024_0_1 (Host.rsqrt (addf (Host.divf (broadcastInDim S4096x1 ![0] bcast_S4096_S4096x1_0 (Host.reduceAdd (mulf (streams a w h p) (streams a w h p)) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1024 ![0, 1] bcast_S1x1024_S4096x1024_0_1 g)) y) : FVec Ideal S4096x1024 .f32) = misses a w h p y g := by
  funext i
  obtain ⟨n, j, rfl⟩ : ∃ (n : Fin 4096) (j : Fin 1024), i = ix2 n j := ⟨i 0, i 1, funext fun b => by fin_cases b <;> rfl⟩
  exact (miss_apply _ _ _ n j).trans rfl

theorem cotangent_apply (d : FVec Ideal S4096x1024 .f32) (n : Fin 4096) (j : Fin 1024) :
    ((mulf (broadcastInDim S4096x1024 ![0] bcast_S4096_S4096x1024_0 (Host.divf (broadcastInDim S4096 ![] bcast_S_S4096 (mulf (constant S_ .f32 0x3F000000#32) (constant S_ .f32 0x3F800000#32))) (broadcastInDim S4096 ![] bcast_S_S4096 (constant S_ .f32 0x44800000#32)))) (mulf (broadcastInDim S4096x1024 ![] bcast_S_S4096x1024 (constant S_ .f32 0x40000000#32)) d)) : FVec Ideal S4096x1024 .f32) (ix2 n j) = d (ix2 n j) * Ideal.ofBits FTy.f32 981467136#32 := by
  refine Eq.trans ?_ (LossHead.scaled _)
  pointwise []

theorem result_cotangents (a : FVec Ideal S4096x1024 .bf16) (w : FVec Ideal S1024x1024 .f32) (h p y : FVec Ideal S4096x1024 .f32) (g : FVec Ideal S1x1024 .f32) :
    ((mulf (broadcastInDim S4096x1024 ![0] bcast_S4096_S4096x1024_0 (Host.divf (broadcastInDim S4096 ![] bcast_S_S4096 (mulf (constant S_ .f32 0x3F000000#32) (constant S_ .f32 0x3F800000#32))) (broadcastInDim S4096 ![] bcast_S_S4096 (constant S_ .f32 0x44800000#32)))) (mulf (broadcastInDim S4096x1024 ![] bcast_S_S4096x1024 (constant S_ .f32 0x40000000#32)) (misses a w h p y g))) : FVec Ideal S4096x1024 .f32) = cotangents a w h p y g := by
  funext i
  obtain ⟨n, j, rfl⟩ : ∃ (n : Fin 4096) (j : Fin 1024), i = ix2 n j := ⟨i 0, i 1, funext fun b => by fin_cases b <;> rfl⟩
  exact (cotangent_apply _ n j).trans rfl

theorem grad_apply (s e : FVec Ideal S4096x1024 .f32) (g : FVec Ideal S1x1024 .f32) (n : Fin 4096) (j : Fin 1024) :
    ((addf (addf (mulf (mulf e (broadcastInDim S4096x1024 ![0, 1] bcast_S1x1024_S4096x1024_0_1 g)) (broadcastInDim S4096x1024 ![0, 1] bcast_S4096x1_S4096x1024_0_1 (Host.rsqrt (addf (Host.divf (broadcastInDim S4096x1 ![0] bcast_S4096_S4096x1_0 (Host.reduceAdd (mulf s s) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (mulf s (broadcastInDim S4096x1024 ![0] bcast_S4096_S4096x1024_0 (Host.reduceAdd (Host.divf (mulf (shapeCast S4096x1 (Host.reduceAdd (mulf s (mulf e (broadcastInDim S4096x1024 ![0, 1] bcast_S1x1024_S4096x1024_0_1 g))) (constant S_ .f32 0x00000000#32) reducesTo_S4096x1024_S4096_d1 h_S_) shapeCasts_S4096_S4096x1) (mulf (broadcastInDim S4096x1 ![] bcast_S_S4096x1 (constant S_ .f32 0xBF000000#32)) (Host.divf (Host.rsqrt (addf (Host.divf (broadcastInDim S4096x1 ![0] bcast_S4096_S4096x1_0 (Host.reduceAdd (mulf s s) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))) (addf (Host.divf (broadcastInDim S4096x1 ![0] bcast_S4096_S4096x1_0 (Host.reduceAdd (mulf s s) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1 ![] bcast_S_S4096x1 (constant S_ .f32 0x44800000#32))) (constant S_ .f32 0x00000000#32) reducesTo_S4096x1_S4096_d1 h_S_)))) (mulf (broadcastInDim S4096x1024 ![0] bcast_S4096_S4096x1024_0 (Host.reduceAdd (Host.divf (mulf (shapeCast S4096x1 (Host.reduceAdd (mulf s (mulf e (broadcastInDim S4096x1024 ![0, 1] bcast_S1x1024_S4096x1024_0_1 g))) (constant S_ .f32 0x00000000#32) reducesTo_S4096x1024_S4096_d1 h_S_) shapeCasts_S4096_S4096x1) (mulf (broadcastInDim S4096x1 ![] bcast_S_S4096x1 (constant S_ .f32 0xBF000000#32)) (Host.divf (Host.rsqrt (addf (Host.divf (broadcastInDim S4096x1 ![0] bcast_S4096_S4096x1_0 (Host.reduceAdd (mulf s s) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))) (addf (Host.divf (broadcastInDim S4096x1 ![0] bcast_S4096_S4096x1_0 (Host.reduceAdd (mulf s s) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1 ![] bcast_S_S4096x1 (constant S_ .f32 0x44800000#32))) (constant S_ .f32 0x00000000#32) reducesTo_S4096x1_S4096_d1 h_S_)) s)) : FVec Ideal S4096x1024 .f32) (ix2 n j)
      = Norm.grad (fun k => s (ix2 n k)) (fun k => e (ix2 n k) * g (ix2 0 k)) j := by
  refine Eq.trans ?_ ((Norm.grad_eq _ _ 0 j).symm.trans (zero_add _))
  rw [zero_add]
  pointwise [Norm.back, Norm.level]
  simp only [Fin.sum_univ_one]

variable (a : FVec Ideal S4096x1024 .bf16) (w : FVec Ideal S1024x1024 .f32) (h p y : FVec Ideal S4096x1024 .f32) (g : FVec Ideal S1x1024 .f32)

theorem result_grads :
    ((addf (addf (mulf (mulf (cotangents a w h p y g) (broadcastInDim S4096x1024 ![0, 1] bcast_S1x1024_S4096x1024_0_1 g)) (broadcastInDim S4096x1024 ![0, 1] bcast_S4096x1_S4096x1024_0_1 (Host.rsqrt (addf (Host.divf (broadcastInDim S4096x1 ![0] bcast_S4096_S4096x1_0 (Host.reduceAdd (mulf (streams a w h p) (streams a w h p)) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (mulf (streams a w h p) (broadcastInDim S4096x1024 ![0] bcast_S4096_S4096x1024_0 (Host.reduceAdd (Host.divf (mulf (shapeCast S4096x1 (Host.reduceAdd (mulf (streams a w h p) (mulf (cotangents a w h p y g) (broadcastInDim S4096x1024 ![0, 1] bcast_S1x1024_S4096x1024_0_1 g))) (constant S_ .f32 0x00000000#32) reducesTo_S4096x1024_S4096_d1 h_S_) shapeCasts_S4096_S4096x1) (mulf (broadcastInDim S4096x1 ![] bcast_S_S4096x1 (constant S_ .f32 0xBF000000#32)) (Host.divf (Host.rsqrt (addf (Host.divf (broadcastInDim S4096x1 ![0] bcast_S4096_S4096x1_0 (Host.reduceAdd (mulf (streams a w h p) (streams a w h p)) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))) (addf (Host.divf (broadcastInDim S4096x1 ![0] bcast_S4096_S4096x1_0 (Host.reduceAdd (mulf (streams a w h p) (streams a w h p)) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1 ![] bcast_S_S4096x1 (constant S_ .f32 0x44800000#32))) (constant S_ .f32 0x00000000#32) reducesTo_S4096x1_S4096_d1 h_S_)))) (mulf (broadcastInDim S4096x1024 ![0] bcast_S4096_S4096x1024_0 (Host.reduceAdd (Host.divf (mulf (shapeCast S4096x1 (Host.reduceAdd (mulf (streams a w h p) (mulf (cotangents a w h p y g) (broadcastInDim S4096x1024 ![0, 1] bcast_S1x1024_S4096x1024_0_1 g))) (constant S_ .f32 0x00000000#32) reducesTo_S4096x1024_S4096_d1 h_S_) shapeCasts_S4096_S4096x1) (mulf (broadcastInDim S4096x1 ![] bcast_S_S4096x1 (constant S_ .f32 0xBF000000#32)) (Host.divf (Host.rsqrt (addf (Host.divf (broadcastInDim S4096x1 ![0] bcast_S4096_S4096x1_0 (Host.reduceAdd (mulf (streams a w h p) (streams a w h p)) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))) (addf (Host.divf (broadcastInDim S4096x1 ![0] bcast_S4096_S4096x1_0 (Host.reduceAdd (mulf (streams a w h p) (streams a w h p)) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1 ![] bcast_S_S4096x1 (constant S_ .f32 0x44800000#32))) (constant S_ .f32 0x00000000#32) reducesTo_S4096x1_S4096_d1 h_S_)) (streams a w h p))) : FVec Ideal S4096x1024 .f32) = grads a h p y g w := by
  funext i
  obtain ⟨n, j, rfl⟩ : ∃ (n : Fin 4096) (j : Fin 1024), i = ix2 n j := ⟨i 0, i 1, funext fun b => by fin_cases b <;> rfl⟩
  exact (grad_apply _ _ _ n j).trans rfl

theorem products_apply (e o : FVec Ideal S4096x1024 .f32) (n : Fin 4096) (j : Fin 1024) :
    (truncf .bf16 (mulf (mulf e p) (mulf o (subf (broadcastInDim S4096x1024 ![] bcast_S_S4096x1024 (constant S_ .f32 0x3F800000#32)) o))) bitsLt_bf16_f32 : FVec Ideal S4096x1024 .bf16) (ix2 n j)
      = e (ix2 n j) * p (ix2 n j) * o (ix2 n j) * (1 - o (ix2 n j)) := by
  refine Eq.trans ?_ (Gate.slope _ _ _).symm
  pointwise []

theorem result_products :
    (truncf .bf16 (mulf (mulf (grads a h p y g w : FVec Ideal S4096x1024 .f32) p) (mulf (gates a w) (subf (broadcastInDim S4096x1024 ![] bcast_S_S4096x1024 (constant S_ .f32 0x3F800000#32)) (gates a w)))) bitsLt_bf16_f32 : FVec Ideal S4096x1024 .bf16) = products a h p y g w := by
  funext i
  obtain ⟨n, j, rfl⟩ : ∃ (n : Fin 4096) (j : Fin 1024), i = ix2 n j := ⟨i 0, i 1, funext fun b => by fin_cases b <;> rfl⟩
  exact (products_apply _ _ _ n j).trans rfl

theorem projected_apply (e o : FVec Ideal S4096x1024 .f32) (n : Fin 4096) (j : Fin 1024) :
    (truncf .bf16 (mulf o e) bitsLt_bf16_f32 : FVec Ideal S4096x1024 .bf16) (ix2 n j) = e (ix2 n j) * o (ix2 n j) := by
  refine Eq.trans ?_ (mul_comm _ _)
  pointwise []

theorem result_projected :
    (truncf .bf16 (mulf (gates a w) (grads a h p y g w : FVec Ideal S4096x1024 .f32)) bitsLt_bf16_f32 : FVec Ideal S4096x1024 .bf16) = projected a h p y g w := by
  funext i
  obtain ⟨n, j, rfl⟩ : ∃ (n : Fin 4096) (j : Fin 1024), i = ix2 n j := ⟨i 0, i 1, funext fun b => by fin_cases b <;> rfl⟩
  exact (projected_apply _ _ n j).trans rfl

theorem loss_apply (d : FVec Ideal S4096x1024 .f32) (l : Fin 128) :
    (broadcastInDim S1x128 ![] bcast_S_S1x128 (mulf (constant S_ .f32 0x3F000000#32) (Host.reduceAdd (Host.divf (Host.reduceAdd (mulf d d) (constant S_ .f32 0x00000000#32) reducesTo_S4096x1024_S4096_d1 h_S_) (broadcastInDim S4096 ![] bcast_S_S4096 (constant S_ .f32 0x44800000#32))) (constant S_ .f32 0x00000000#32) reducesTo_S4096_S_d0 h_S_)) : FVec Ideal S1x128 .f32) (ix2 0 l)
      = Ideal.ofBits FTy.f32 1056964608#32 * ∑ n : Fin 4096, Ideal.div (∑ k : Fin 1024, d (ix2 n k) * d (ix2 n k)) (Ideal.ofBits FTy.f32 1149239296#32) := by
  pointwise []

theorem result_loss :
    (broadcastInDim S1x128 ![] bcast_S_S1x128 (mulf (constant S_ .f32 0x3F000000#32) (Host.reduceAdd (Host.divf (Host.reduceAdd (mulf (misses a w h p y g) (misses a w h p y g)) (constant S_ .f32 0x00000000#32) reducesTo_S4096x1024_S4096_d1 h_S_) (broadcastInDim S4096 ![] bcast_S_S4096 (constant S_ .f32 0x44800000#32))) (constant S_ .f32 0x00000000#32) reducesTo_S4096_S_d0 h_S_)) : FVec Ideal S1x128 .f32) = loss a h p y g w := by
  funext i
  obtain ⟨l, rfl⟩ : ∃ l : Fin 128, i = ix2 0 l := ⟨i 1, funext fun b => by fin_cases b; exact Subsingleton.elim (α := Fin 1) _ _; rfl⟩
  exact (loss_apply _ l).trans rfl

theorem gain_apply (s e : FVec Ideal S4096x1024 .f32) (j : Fin 1024) :
    (shapeCast S1x1024 (Host.reduceAdd (mulf (mulf s (broadcastInDim S4096x1024 ![0, 1] bcast_S4096x1_S4096x1024_0_1 (Host.rsqrt (addf (Host.divf (broadcastInDim S4096x1 ![0] bcast_S4096_S4096x1_0 (Host.reduceAdd (mulf s s) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) e) (constant S_ .f32 0x00000000#32) reducesTo_S4096x1024_S1024_d0 h_S_) shapeCasts_S1024_S1x1024 : FVec Ideal S1x1024 .f32) (ix2 0 j)
      = Norm.gain (fun (n : Fin 4096) k => s (ix2 n k)) (fun n k => e (ix2 n k)) j := by
  pointwise [Norm.gain, Norm.level]
  exact Finset.sum_congr rfl fun n _ => mul_comm _ _

theorem result_gains :
    (shapeCast S1x1024 (Host.reduceAdd (mulf (mulf (streams a w h p) (broadcastInDim S4096x1024 ![0, 1] bcast_S4096x1_S4096x1024_0_1 (Host.rsqrt (addf (Host.divf (broadcastInDim S4096x1 ![0] bcast_S4096_S4096x1_0 (Host.reduceAdd (mulf (streams a w h p) (streams a w h p)) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (cotangents a w h p y g)) (constant S_ .f32 0x00000000#32) reducesTo_S4096x1024_S1024_d0 h_S_) shapeCasts_S1024_S1x1024 : FVec Ideal S1x1024 .f32) = gains a h p y g w := by
  funext i
  obtain ⟨j, rfl⟩ : ∃ j : Fin 1024, i = ix2 0 j := ⟨i 1, funext fun b => by fin_cases b; exact Subsingleton.elim (α := Fin 1) _ _; rfl⟩
  exact (gain_apply _ _ j).trans rfl

section
variable (m : (ℓ : Loc nD τ sig) → Buf (Elt Ideal) ℓ) (c : Dev nD) (a : FVec Ideal S4096x1024 .bf16) (h p y : FVec Ideal S4096x1024 .f32) (g : FVec Ideal S1x1024 .f32) (w : FVec Ideal S1024x1024 .f32)
    (e0 : m (c.tc.loc main_arg0) = a) (e1 : m (c.tc.loc main_arg1) = h) (e2 : m (c.tc.loc main_arg2) = p) (e3 : m (c.tc.loc main_arg3) = y) (e4 : m (c.tc.loc main_arg4) = g) (e5 : m (c.tc.loc main_arg5) = w)
include e0 e1 e2 e3 e4 e5

theorem made_grads :
    Reference19Ideal.Value.res_main_v61 m c = grads a h p y g w := by
  unfold Reference19Ideal.Value.res_main_v61
  rw [e0, e1, e2, e3, e4, e5, result_gates, result_streams, result_misses, result_cotangents, result_grads]

theorem made_products :
    Reference19Ideal.Value.res_main_v65 m c = products a h p y g w := by
  unfold Reference19Ideal.Value.res_main_v65
  rw [e0, e1, e2, e3, e4, e5, result_gates, result_streams, result_misses, result_cotangents, result_grads, result_products]

theorem made_projected :
    Reference19Ideal.Value.res_main_v66 m c = projected a h p y g w := by
  unfold Reference19Ideal.Value.res_main_v66
  rw [e0, e1, e2, e3, e4, e5, result_gates, result_streams, result_misses, result_cotangents, result_grads, result_projected]

theorem made_loss :
    Reference19Ideal.Value.res_main_v67 m c = loss a h p y g w := by
  unfold Reference19Ideal.Value.res_main_v67
  rw [e0, e1, e2, e3, e4, e5, result_gates, result_streams, result_misses, result_loss]

theorem made_gains :
    Reference19Ideal.Value.res_main_v45 m c = gains a h p y g w := by
  unfold Reference19Ideal.Value.res_main_v45
  rw [e0, e1, e2, e3, e4, e5, result_gates, result_streams, result_misses, result_cotangents]
  exact result_gains _ _ _ _ _ _

end

/-- From the same arguments the call and the reference leave the same gradients and the same loss. -/
theorem same : Cert.algebraic_Kernel19Ideal_Reference19Ideal := fun m g m' g' _ hargs => by
  refine ⟨fun c => grads (m (c.tc.loc Kernel19Ideal.main_arg0)) (m (c.tc.loc Kernel19Ideal.main_arg1)) (m (c.tc.loc Kernel19Ideal.main_arg2)) (m (c.tc.loc Kernel19Ideal.main_arg3)) (m (c.tc.loc Kernel19Ideal.main_arg4)) (m (c.tc.loc Kernel19Ideal.main_arg5)), fun c => products (m (c.tc.loc Kernel19Ideal.main_arg0)) (m (c.tc.loc Kernel19Ideal.main_arg1)) (m (c.tc.loc Kernel19Ideal.main_arg2)) (m (c.tc.loc Kernel19Ideal.main_arg3)) (m (c.tc.loc Kernel19Ideal.main_arg4)) (m (c.tc.loc Kernel19Ideal.main_arg5)), fun c => projected (m (c.tc.loc Kernel19Ideal.main_arg0)) (m (c.tc.loc Kernel19Ideal.main_arg1)) (m (c.tc.loc Kernel19Ideal.main_arg2)) (m (c.tc.loc Kernel19Ideal.main_arg3)) (m (c.tc.loc Kernel19Ideal.main_arg4)) (m (c.tc.loc Kernel19Ideal.main_arg5)), fun c => loss (m (c.tc.loc Kernel19Ideal.main_arg0)) (m (c.tc.loc Kernel19Ideal.main_arg1)) (m (c.tc.loc Kernel19Ideal.main_arg2)) (m (c.tc.loc Kernel19Ideal.main_arg3)) (m (c.tc.loc Kernel19Ideal.main_arg4)) (m (c.tc.loc Kernel19Ideal.main_arg5)), fun c => gains (m (c.tc.loc Kernel19Ideal.main_arg0)) (m (c.tc.loc Kernel19Ideal.main_arg1)) (m (c.tc.loc Kernel19Ideal.main_arg2)) (m (c.tc.loc Kernel19Ideal.main_arg3)) (m (c.tc.loc Kernel19Ideal.main_arg4)) (m (c.tc.loc Kernel19Ideal.main_arg5)), ?_, ?_⟩
  · refine (θ_run Kernel19Ideal.defs _ _).mono (fun r h c => ⟨(h c).1.trans ?_, (h c).2.1.trans ?_, (h c).2.2.1.trans ?_, (h c).2.2.2.1.trans ?_, (h c).2.2.2.2.1.trans ?_, (h c).2.2.2.2.2⟩) (Kernel19Ideal.Value.run_blocks m g)
    · rw [Kernel19Ideal.Product.final_grads, V_main_arg0, V_main_arg1, V_main_arg2, V_main_arg3, V_main_arg4, V_main_arg5]
    · rw [Kernel19Ideal.Product.final_products, V_main_arg0, V_main_arg1, V_main_arg2, V_main_arg3, V_main_arg4, V_main_arg5]
    · rw [Kernel19Ideal.Product.final_projected, V_main_arg0, V_main_arg1, V_main_arg2, V_main_arg3, V_main_arg4, V_main_arg5]
    · rw [Kernel19Ideal.Product.final_loss, V_main_arg0, V_main_arg1, V_main_arg2, V_main_arg3, V_main_arg4, V_main_arg5]
    · rw [Kernel19Ideal.Product.final_gains, V_main_arg0, V_main_arg1, V_main_arg2, V_main_arg3, V_main_arg4, V_main_arg5]
  · refine (θ_run Reference19Ideal.defs _ _).mono (fun r h c => ⟨(h c).1.trans ?_, (h c).2.1.trans ?_, (h c).2.2.1.trans ?_, (h c).2.2.2.1.trans ?_, (h c).2.2.2.2.1.trans ?_, (h c).2.2.2.2.2⟩) (Reference19Ideal.Value.run (F := Ideal) m' g')
    all_goals obtain ⟨a0, a1, a2, a3, a4, a5⟩ := hargs c
    · exact (made_grads m' c _ _ _ _ _ _ a0 a1 a2 a3 a4 a5)
    · exact (made_products m' c _ _ _ _ _ _ a0 a1 a2 a3 a4 a5)
    · exact (made_projected m' c _ _ _ _ _ _ a0 a1 a2 a3 a4 a5)
    · exact (made_loss m' c _ _ _ _ _ _ a0 a1 a2 a3 a4 a5)
    · exact (made_gains m' c _ _ _ _ _ _ a0 a1 a2 a3 a4 a5)

end Cert.Reference19Ideal.Product

end
-- ==== Proof.Products.GPleGate.lean ====
module

public import proofs.«01_k».proof.Proof.Products.Parts
public import proofs.«01_k».proof.Proof.Gen.Kernel20Ideal.Frame
public import proofs.«01_k».proof.Proof.Gen.Reference20Ideal.Run
public import Idealize.ShloMosaic.Lib.Pipeline.ValueKit

@[expose] public section

set_option maxRecDepth 16384

noncomputable section

/-! # The gradient of the embedding gate's weight

Column r of the normalised stream times the cotangent of the gate, summed over the tokens in two parts. The sum is carried
from the first part to the second; at the end its 1024 rows are stored as 256 rows of each of the four chips, and these
rows are the call's result. -/

namespace Cert.Kernel20Ideal.Product

open Idealize.ShloMosaic Idealize.ShloMosaic.TcCoe
open Cert.Kernel20Ideal Cert.Kernel20Ideal.Gen

/-- What a token adds to an entry. -/
def term (a d : S4096x1024.Idx → EReal) (r j : Fin 1024) (n : Fin 4096) : EReal :=
  a (ix2 n r) * d (ix2 n j)

/-- The gradient, chip by chip. -/
def gradient (a d : S4096x1024.Idx → EReal) : S4x256x1024.Idx → EReal := fun i =>
  ∑ n : Fin 4096, term a d ⟨(i 0).val * 256 + (i 1).val, by have h0 : (i 0).val < 4 := (i 0).isLt; have h1 : (i 1).val < 256 := (i 1).isLt; omega⟩ (i 2) n

/-- A buffer with the gradient stored among its rows. -/
def stored (b : S4x2816x1024.Idx → EReal) (a d : S4096x1024.Idx → EReal) : S4x2816x1024.Idx → EReal := fun i =>
  if h : 2048 ≤ (i 1).val ∧ (i 1).val < 2304 then
    gradient a d (ix3 (i 0) ⟨(i 1).val - 2048, by omega⟩ (i 2))
  else b i

/-- What a part of the tokens adds to an entry. -/
def part (a d : S2048x1024.Idx → EReal) (i : S1024x1024.Idx) : EReal :=
  ∑ n : Fin 2048, a (ix2 n (i 0)) * d (ix2 n (i 1))

theorem nothing (i : S1024x1024.Idx) : (k0_pay1 (F := Ideal) : S1024x1024.Idx → EReal) i = 0 := by
  idx_vars i
  pointwise [k0_pay1]

theorem added (s : FVec Ideal S1024x1024 .f32) (a d : FVec Ideal S2048x1024 .bf16) (i : S1024x1024.Idx) :
    (k0_pay2 (F := Ideal) s a d : S1024x1024.Idx → EReal) i = s i + part a d i := by
  idx_vars i
  pointwise [k0_pay2, part]

theorem split (s : FVec Ideal S1024x1024 .f32) (p : Fin 4) (r : Fin 256) (j : Fin 1024) :
    (k0_pay3 (F := Ideal) s : S4x256x1024.Idx → EReal) (ix3 p r j) = s (ix2 ⟨p.val * 256 + r.val, by omega⟩ j) := by
  pointwise [k0_pay3]

theorem index_0 : ∀ t : Fin cfg0.N, win0_0.index t = ![t.val, 0] := (by decide +kernel : ∀ t : Fin grid0.N, _)
theorem index_1 : ∀ t : Fin cfg0.N, win0_1.index t = ![t.val, 0] := (by decide +kernel : ∀ t : Fin grid0.N, _)
theorem index_2 : ∀ t : Fin cfg0.N, win0_2.index t = ![0, 8, 0] := (by decide +kernel : ∀ t : Fin grid0.N, _)

variable (m : (ℓ : Loc nD τ sig) → Buf (Elt Ideal) ℓ) (c : Dev nD)

theorem part_eq (t : Fin cfg0.N) (r j : Fin 1024) :
    part (iblk m c 0 t) (iblk m c 1 t) (ix2 r j) = ∑ n : Fin 2048, term (V m c main_arg0) (V m c main_arg1) r j ⟨t.val * 2048 + n.val, by have ht : t.val < 2 := t.isLt; omega⟩ := by
  refine Finset.sum_congr rfl fun n _ => congrArg₂ (fun a b : EReal => a * b) ?_ ?_
  · blk_simp [iblk]
    refine congrArg _ ?_
    blk_ext [index_0]
  · blk_simp [iblk]
    refine congrArg _ ?_
    blk_ext [index_1]

/-- At the last point the block written back is the carried sum. -/
theorem carried (t : Fin cfg0.N) (h0 : ¬t.val % 2 = 0) (h1 : t.val % 2 = 1) :
    (outsAt0 m c t.val t.isLt).1 = k0_pay3 (F := Ideal) (outsAt0 m c t.val t.isLt).2 := by
  rw [outsAt0_B m c t h0 h1]
  frame_out

/-- The carried sum at the last point. -/
theorem whole (t : Fin cfg0.N) (h1 : t.val % 2 = 1) (r d : Fin 1024) :
    ((outsAt0 m c t.val t.isLt).2 : S1024x1024.Idx → EReal) (ix2 r d) = ∑ n, term (V m c main_arg0) (V m c main_arg1) r d n := by
  have ht : t.val < 2 := t.isLt
  rw [Pipeline.eq_sum_fin_of_reset_step_apply_last (fun n h => (outsAt0 m c n h).2) 2 (fun _ => (0 : EReal))
    (fun t i => part (iblk m c 0 t) (iblk m c 1 t) i)
    (fun t h j => by
      rw [outsAt0_A m c t h (by omega)]
      frame_out
      exact (added _ _ _ j).trans (congrArg₂ (fun a b : EReal => a + b) (nothing j) rfl))
    (fun t h j => by
      rw [outsAt0_B m c t h (by omega)]
      frame_out
      exact (added _ _ _ j).trans (congrArg₂ (fun a b : EReal => a + b) (congrFun (Memref.IsWhole.read_unread (Memref.isWhole_whole cc0_scratch0) _) j) rfl))
    (le_of_eq N_0) t ((show t.val + 1 = 2 by omega).trans N_0.symm) (ix2 r d), zero_add]
  exact (Finset.sum_congr rfl fun p _ => part_eq m c p r d).trans (Parts.two N_0 (term (V m c main_arg0) (V m c main_arg1) r d))

/-- The array after the call: the gradient among rows that were not written. -/
theorem final : (dats m 0 c).arrAt 2 cfg0.N = stored (V m c main_v0) (V m c main_arg0) (V m c main_arg1) := by
  refine (dats m 0 c).arrAt_eq_of_coversWhere_of_agree 2 _ (fun β => β (1 : Fin _) = 8) (by decide +kernel)
    (fun t hf y => ?_) (fun j hj => ?_)
  · have ht : t.val < 2 := t.isLt
    have hlast : t.val % 2 = 1 := (flush0_2 t).mp hf
    blk_simp
    rw [after0_2, carried m c t (by omega) hlast]
    obtain ⟨p, r, d, rfl⟩ : ∃ (p : Fin 4) (r : Fin 256) (d : Fin 1024), y = ix3 p r d :=
      ⟨y 0, y 1, y 2, funext fun b => by fin_cases b <;> rfl⟩
    rw [show ((View.whole main_v0).slice (win0_2.rect t)).emb (ix3 p r d) = ix3 p ⟨8 * 256 + r.val, by omega⟩ d by blk_ext [index_2]]
    refine (split _ p r d).trans ((whole m c t hlast _ d).trans ?_)
    unfold stored
    rw [dif_pos ⟨show 2048 ≤ 8 * 256 + r.val by omega, show 8 * 256 + r.val < 2304 by omega⟩]
    refine Finset.sum_congr rfl fun n _ => congrArg (fun q => term (V m c main_arg0) (V m c main_arg1) q d n) (Fin.ext ?_)
    show p.val * 256 + r.val = p.val * 256 + (8 * 256 + r.val - 2048)
    omega
  · blk_simp [Pipeline.Window.cell_apply] at hj
    rw [A_eq]
    show V m c main_v0 _ = _
    unfold stored
    rw [dif_neg]
    · intro h
      have h' : 2048 ≤ (j 1).val ∧ (j 1).val < 2304 := h
      omega

theorem arrays_differ : Function.Injective (Pipeline.arrRef spec0) := by decide

/-- The rows that are returned. -/
theorem returned : Pipeline.afterTail₀ cfgs (dats m) 0 (V0 m) [hostOps1] c main_v1 = gradient (V m c main_arg0) (V m c main_arg1) := by
  unfold Pipeline.afterTail₀
  simp only [hostOps1, List.flatten_cons, List.flatten_nil, List.append_nil, List.cons_append, List.nil_append]
  after_results
  have e : Pipeline.withArrays (cfgs 0).spec c (V0 m c) (fun w => (dats m 0 c).arrAt w (cfgs 0).N) (Proc.devRef .tc main_v0) = stored (V m c main_v0) (V m c main_arg0) (V m c main_arg1) :=
    (Pipeline.withArrays_arr spec0 arrays_differ c (V0 m c) _ 2).trans (final m c)
  refine (congrArg (fun b : S4x2816x1024.Idx → EReal => extractStridedSlice S4x256x1024 ![0, 2048, 0] b slices_S4x2816x1024_S4x256x1024_0_2048_0) e).trans ?_
  funext i
  idx_vars i
  pointwise [stored]
  rw [dif_pos (by omega)]

end Cert.Kernel20Ideal.Product

namespace Cert.Reference20Ideal.Product

open Idealize.ShloMosaic Idealize.ShloMosaic.TcCoe
open Cert.Kernel20Ideal.Gen (A_eq dats V_main_arg0 V_main_arg1)
open Cert.Reference20Ideal Cert.Reference20Ideal.Gen
open Cert.Kernel20Ideal.Product (gradient term)

theorem result (a d : FVec Ideal S4096x1024 .bf16) :
    (shapeCast S4x256x1024 (transpose S1024x1024 [1, 0] (Host.dotGeneral (φ₁ := .f32) (φ₂ := .f32) dot_S4096x1024_S4096x1024_S1024x1024_0_0_1_1_n_n none (extf .f32 d bitsLt_bf16_f32) (extf .f32 a bitsLt_bf16_f32)) transposes_S1024x1024_S1024x1024_1_0) shapeCasts_S1024x1024_S4x256x1024 : S4x256x1024.Idx → EReal) = gradient a d := by
  funext i
  idx_vars i
  pointwise [gradient, term]
  exact Finset.sum_congr rfl fun k _ => mul_comm _ _

/-- From the same arguments the call and the reference return the same rows. -/
theorem same : Cert.algebraic_Kernel20Ideal_Reference20Ideal := fun m g m' g' _ hargs => by
  refine ⟨fun c => gradient (m (c.tc.loc Kernel20Ideal.main_arg0))
    (m (c.tc.loc Kernel20Ideal.main_arg1)), ?_, ?_⟩
  · refine (θ_run Kernel20Ideal.defs _ _).mono (fun r h c => ⟨((h c).2 Kernel20Ideal.main_v1 (Pipeline.mem_restRefs_of Kernel20Ideal.main_v1 (by decide) (by decide))).trans ?_,
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩) (Kernel20Ideal.Gen.run_main m g)
    rw [Kernel20Ideal.Product.returned, V_main_arg0, V_main_arg1]
  · refine (θ_run Reference20Ideal.defs _ _).mono (fun r h c => ⟨(h c).1.trans ?_, (h c).2⟩) (Reference20Ideal.Value.run (F := Ideal) m' g')
    obtain ⟨a0, a1⟩ := hargs c
    exact (result _ _).trans (by rw [a0, a1])

end Cert.Reference20Ideal.Product

end
-- ==== Proof.Products.GOutProj.lean ====
module

public import proofs.«01_k».proof.Proof.Products.Parts
public import proofs.«01_k».proof.Proof.Gen.Kernel21Ideal.Value
public import proofs.«01_k».proof.Proof.Gen.Reference21Ideal.Run
public import Idealize.ShloMosaic.Lib.Pipeline.ValueKit

@[expose] public section

set_option maxRecDepth 16384

noncomputable section

/-! # The gradient of the output projection's weight

Column r of the mixed branches times the cotangent, summed over the tokens in four parts. The sum is carried from part to
part; at the end its 1024 rows are stored as 256 rows of each of the four chips, and the other rows of the buffer stay as
they were. -/

namespace Cert.Kernel21Ideal.Product

open Idealize.ShloMosaic Idealize.ShloMosaic.TcCoe
open Cert.Kernel21Ideal Cert.Kernel21Ideal.Gen

/-- What a token adds to an entry. -/
def term (a d : S4096x1024.Idx → EReal) (r j : Fin 1024) (n : Fin 4096) : EReal :=
  a (ix2 n r) * d (ix2 n j)

/-- The buffer with the gradient stored among its rows. -/
def stored (b : S4x2816x1024.Idx → EReal) (a d : S4096x1024.Idx → EReal) : S4x2816x1024.Idx → EReal := fun i =>
  if h : 2304 ≤ (i 1).val ∧ (i 1).val < 2560 then
    ∑ n : Fin 4096, term a d ⟨(i 0).val * 256 + ((i 1).val - 2304), by have h0 : (i 0).val < 4 := (i 0).isLt; omega⟩ (i 2) n
  else b i

/-- What a part of the tokens adds to an entry. -/
def part (a d : S1024x1024.Idx → EReal) (i : S1024x1024.Idx) : EReal :=
  ∑ n : Fin 1024, a (ix2 n (i 0)) * d (ix2 n (i 1))

theorem nothing (i : S1024x1024.Idx) : (k0_pay1 (F := Ideal) : S1024x1024.Idx → EReal) i = 0 := by
  idx_vars i
  pointwise [k0_pay1]

theorem added (s : FVec Ideal S1024x1024 .f32) (a d : FVec Ideal S1024x1024 .bf16) (i : S1024x1024.Idx) :
    (k0_pay2 (F := Ideal) s a d : S1024x1024.Idx → EReal) i = s i + part a d i := by
  idx_vars i
  pointwise [k0_pay2, part]

theorem split (s : FVec Ideal S1024x1024 .f32) (p : Fin 4) (r : Fin 256) (j : Fin 1024) :
    (k0_pay3 (F := Ideal) s : S4x256x1024.Idx → EReal) (ix3 p r j) = s (ix2 ⟨p.val * 256 + r.val, by omega⟩ j) := by
  pointwise [k0_pay3]

theorem index_0 : ∀ t : Fin cfg0.N, win0_0.index t = ![t.val, 0] := (by decide +kernel : ∀ t : Fin grid0.N, _)
theorem index_1 : ∀ t : Fin cfg0.N, win0_1.index t = ![t.val, 0] := (by decide +kernel : ∀ t : Fin grid0.N, _)
theorem index_2 : ∀ t : Fin cfg0.N, win0_2.index t = ![0, 9, 0] := (by decide +kernel : ∀ t : Fin grid0.N, _)

variable (m : (ℓ : Loc nD τ sig) → Buf (Elt Ideal) ℓ) (c : Dev nD)

theorem start : V m c main_v0 = V m c main_arg0 := by
  simp only [V, hostOps0, List.flatten_cons, List.flatten_nil, List.append_nil, List.cons_append, List.nil_append]
  after_results
  rfl

theorem part_eq (t : Fin cfg0.N) (r j : Fin 1024) :
    part (iblk m c 0 t) (iblk m c 1 t) (ix2 r j) = ∑ n : Fin 1024, term (V m c main_arg1) (V m c main_arg2) r j ⟨t.val * 1024 + n.val, by have ht : t.val < 4 := t.isLt; omega⟩ := by
  refine Finset.sum_congr rfl fun n _ => congrArg₂ (fun a b : EReal => a * b) ?_ ?_
  · blk_simp [iblk]
    refine congrArg _ ?_
    blk_ext [index_0]
  · blk_simp [iblk]
    refine congrArg _ ?_
    blk_ext [index_1]

/-- At the last point the block written back is the carried sum. -/
theorem carried (t : Fin cfg0.N) (h0 : ¬t.val % 4 = 0) (h1 : t.val % 4 = 3) :
    (outsAt0 m c t.val t.isLt).1 = k0_pay3 (F := Ideal) (outsAt0 m c t.val t.isLt).2 := by
  rw [outsAt0_C m c t h0 h1]
  frame_out

/-- The carried sum at the last point. -/
theorem whole (t : Fin cfg0.N) (h1 : t.val % 4 = 3) (r d : Fin 1024) :
    ((outsAt0 m c t.val t.isLt).2 : S1024x1024.Idx → EReal) (ix2 r d) = ∑ n, term (V m c main_arg1) (V m c main_arg2) r d n := by
  have ht : t.val < 4 := t.isLt
  rw [Pipeline.eq_sum_fin_of_reset_step_apply_last (fun n h => (outsAt0 m c n h).2) 4 (fun _ => (0 : EReal))
    (fun t i => part (iblk m c 0 t) (iblk m c 1 t) i)
    (fun t h j => by
      rw [outsAt0_A m c t h (by omega)]
      frame_out
      exact (added _ _ _ j).trans (congrArg₂ (fun a b : EReal => a + b) (nothing j) rfl))
    (fun t h j => by
      by_cases h1 : t.val % 4 = 3
      · rw [outsAt0_C m c t h h1]
        frame_out
        exact (added _ _ _ j).trans (congrArg₂ (fun a b : EReal => a + b) (congrFun (Memref.IsWhole.read_unread (Memref.isWhole_whole cc0_scratch0) _) j) rfl)
      · rw [outsAt0_B m c t h h1]
        frame_out
        exact (added _ _ _ j).trans (congrArg₂ (fun a b : EReal => a + b) (congrFun (Memref.IsWhole.read_unread (Memref.isWhole_whole cc0_scratch0) _) j) rfl))
    (le_of_eq N_0) t ((show t.val + 1 = 4 by omega).trans N_0.symm) (ix2 r d), zero_add]
  exact (Finset.sum_congr rfl fun p _ => part_eq m c p r d).trans (Parts.four N_0 (term (V m c main_arg1) (V m c main_arg2) r d))

/-- The buffer after the call. -/
theorem final : (dats m 0 c).arrAt 2 cfg0.N = stored (V m c main_arg0) (V m c main_arg1) (V m c main_arg2) := by
  refine (dats m 0 c).arrAt_eq_of_coversWhere_of_agree 2 _ (fun β => β (1 : Fin _) = 9) (by decide +kernel)
    (fun t hf y => ?_) (fun j hj => ?_)
  · have ht : t.val < 4 := t.isLt
    have hlast : t.val % 4 = 3 := (flush0_2 t).mp hf
    blk_simp
    rw [after0_2, carried m c t (by omega) hlast]
    obtain ⟨p, r, d, rfl⟩ : ∃ (p : Fin 4) (r : Fin 256) (d : Fin 1024), y = ix3 p r d :=
      ⟨y 0, y 1, y 2, funext fun b => by fin_cases b <;> rfl⟩
    rw [show ((View.whole main_v0).slice (win0_2.rect t)).emb (ix3 p r d) = ix3 p ⟨9 * 256 + r.val, by omega⟩ d by blk_ext [index_2]]
    refine (split _ p r d).trans ((whole m c t hlast _ d).trans ?_)
    unfold stored
    rw [dif_pos ⟨show 2304 ≤ 9 * 256 + r.val by omega, show 9 * 256 + r.val < 2560 by omega⟩]
    refine Finset.sum_congr rfl fun n _ => congrArg (fun q => term (V m c main_arg1) (V m c main_arg2) q d n) (Fin.ext ?_)
    show p.val * 256 + r.val = p.val * 256 + (9 * 256 + r.val - 2304)
    omega
  · blk_simp [Pipeline.Window.cell_apply] at hj
    rw [A_eq]
    show V m c main_v0 _ = _
    rw [start]
    unfold stored
    rw [dif_neg]
    · intro h
      have h' : 2304 ≤ (j 1).val ∧ (j 1).val < 2560 := h
      omega

end Cert.Kernel21Ideal.Product

namespace Cert.Reference21Ideal.Product

open Idealize.ShloMosaic Idealize.ShloMosaic.TcCoe
open Cert.Reference21Ideal Cert.Reference21Ideal.Gen
open Cert.Kernel21Ideal.Product (stored term)

theorem result (b : FVec Ideal S4x2816x1024 .f32) (a d : FVec Ideal S4096x1024 .bf16) :
    ((concatenate S4x2816x1024 1 [⟨S4x2304x1024, ((extractStridedSlice S4x2304x1024 ![0, 0, 0] b slices_S4x2816x1024_S4x2304x1024_0_0_0) : (⟨S4x2304x1024, .f32⟩ : BufTy).Contents (Elt Ideal))⟩, ⟨S4x256x1024, ((shapeCast _ (transpose S1024x1024 [1, 0] (Host.dotGeneral (φ₁ := .f32) (φ₂ := .f32) dot_S4096x1024_S4096x1024_S1024x1024_0_0_1_1_n_n none (extf .f32 d bitsLt_bf16_f32) (extf .f32 a bitsLt_bf16_f32)) transposes_S1024x1024_S1024x1024_1_0) shapeCasts_S1024x1024_S4x256x1024) : (⟨S4x256x1024, .f32⟩ : BufTy).Contents (Elt Ideal))⟩, ⟨S4x256x1024, ((extractStridedSlice S4x256x1024 ![0, 2560, 0] b slices_S4x2816x1024_S4x256x1024_0_2560_0) : (⟨S4x256x1024, .f32⟩ : BufTy).Contents (Elt Ideal))⟩] concatenates_S4x2304x1024_S4x256x1024_S4x256x1024_S4x2816x1024_d1 : (⟨S4x2816x1024, .f32⟩ : BufTy).Contents (Elt Ideal))) = stored b a d := by
  funext i
  idx_vars i
  pointwise [stored, term]
  by_cases h1 : i1.val < 2304
  · rw [dif_pos h1, dif_neg (by omega)]
  rw [dif_neg h1]
  by_cases h2 : i1.val - 2304 < 256
  · rw [dif_pos h2, dif_pos ⟨by omega, by omega⟩]
    exact Finset.sum_congr rfl fun k _ => mul_comm _ _
  · rw [dif_neg h2, dif_neg (by omega)]
    refine congrArg (fun r => b (ix3 i0 r i2)) (Fin.ext ?_)
    show 2560 + (i1.val - 2304 - 256) = i1.val
    omega

/-- From the same arguments the call and the reference leave the same buffer. -/
theorem same : Cert.algebraic_Kernel21Ideal_Reference21Ideal := fun m g m' g' _ hargs => by
  refine ⟨fun c => stored (m (c.tc.loc Kernel21Ideal.main_arg0))
    (m (c.tc.loc Kernel21Ideal.main_arg1))
    (m (c.tc.loc Kernel21Ideal.main_arg2)), ?_, ?_⟩
  · refine (θ_run Kernel21Ideal.defs _ _).mono (fun r h c => ⟨(h c).1.trans ?_, (h c).2⟩) (Kernel21Ideal.Value.run_blocks m g)
    rw [Kernel21Ideal.Product.final, Kernel21Ideal.Gen.V_main_arg0, Kernel21Ideal.Gen.V_main_arg1, Kernel21Ideal.Gen.V_main_arg2]
  · refine (θ_run Reference21Ideal.defs _ _).mono (fun r h c => ⟨(h c).1.trans ?_, (h c).2⟩) (Reference21Ideal.Value.run (F := Ideal) m' g')
    obtain ⟨a0, a1, a2⟩ := hargs c
    exact (result _ _ _).trans (by rw [a0, a1, a2])

end Cert.Reference21Ideal.Product

end
-- ==== Proof.Products.GPleProj.lean ====
module

public import proofs.«01_k».proof.Proof.Products.Parts
public import proofs.«01_k».proof.Proof.Gen.Kernel22Ideal.Value
public import proofs.«01_k».proof.Proof.Gen.Reference22Ideal.Run
public import Idealize.ShloMosaic.Lib.Pipeline.ValueKit

@[expose] public section

set_option maxRecDepth 16384

noncomputable section

/-! # The gradient of the input embedding's weight

Column r of the inputs times the cotangent, summed over the tokens in four parts. The sum is carried from part to part. -/

namespace Cert.Kernel22Ideal.Product

open Idealize.ShloMosaic Idealize.ShloMosaic.TcCoe
open Cert.Kernel22Ideal Cert.Kernel22Ideal.Gen

/-- The gradient of the weight: the sum over the tokens. -/
def gradient (a : S4096x256.Idx → EReal) (d : S4096x1024.Idx → EReal) : S256x1024.Idx → EReal := fun i =>
  ∑ n : Fin 4096, a (ix2 n (i 0)) * d (ix2 n (i 1))

/-- What a token adds to an entry. -/
def term (a : S4096x256.Idx → EReal) (d : S4096x1024.Idx → EReal) (r : Fin 256) (j : Fin 1024) (n : Fin 4096) : EReal :=
  a (ix2 n r) * d (ix2 n j)

/-- What a part of the tokens adds to an entry. -/
def part (a : S1024x256.Idx → EReal) (d : S1024x1024.Idx → EReal) (i : S256x1024.Idx) : EReal :=
  ∑ n : Fin 1024, a (ix2 n (i 0)) * d (ix2 n (i 1))

theorem nothing (i : S256x1024.Idx) : (k0_pay1 (F := Ideal) : S256x1024.Idx → EReal) i = 0 := by
  idx_vars i
  pointwise [k0_pay1]

theorem added (s : FVec Ideal S256x1024 .f32) (a : FVec Ideal S1024x256 .f32) (d : FVec Ideal S1024x1024 .bf16) (i : S256x1024.Idx) :
    (k0_pay2 (F := Ideal) s a d : S256x1024.Idx → EReal) i = s i + part a d i := by
  idx_vars i
  pointwise [k0_pay2, part]

theorem index_0 : ∀ t : Fin cfg0.N, win0_0.index t = ![t.val, 0] := (by decide +kernel : ∀ t : Fin grid0.N, _)
theorem index_1 : ∀ t : Fin cfg0.N, win0_1.index t = ![t.val, 0] := (by decide +kernel : ∀ t : Fin grid0.N, _)
theorem index_2 : ∀ t : Fin cfg0.N, win0_2.index t = ![0, 0] := (by decide +kernel : ∀ t : Fin grid0.N, _)

variable (m : (ℓ : Loc nD τ sig) → Buf (Elt Ideal) ℓ) (c : Dev nD)

theorem part_eq (t : Fin cfg0.N) (r : Fin 256) (j : Fin 1024) :
    part (iblk m c 0 t) (iblk m c 1 t) (ix2 r j) = ∑ n : Fin 1024, term (V m c main_arg0) (V m c main_arg1) r j ⟨t.val * 1024 + n.val, by have ht : t.val < 4 := t.isLt; omega⟩ := by
  refine Finset.sum_congr rfl fun n _ => congrArg₂ (fun a b : EReal => a * b) ?_ ?_
  · blk_simp [iblk]
    refine congrArg _ ?_
    blk_ext [index_0]
  · blk_simp [iblk]
    refine congrArg _ ?_
    blk_ext [index_1]

/-- At the last point the block written back is the carried sum. -/
theorem carried (t : Fin cfg0.N) (h0 : ¬t.val % 4 = 0) (h1 : t.val % 4 = 3) :
    (outsAt0 m c t.val t.isLt).1 = (outsAt0 m c t.val t.isLt).2 := by
  rw [outsAt0_C m c t h0 h1]
  frame_out

/-- The gradient after the call. -/
theorem final : (dats m 0 c).arrAt 2 cfg0.N = gradient (V m c main_arg0) (V m c main_arg1) := by
  refine (dats m 0 c).arrAt_eq_of_covers 2 _ (by decide +kernel) (fun t hf y => ?_)
  have ht : t.val < 4 := t.isLt
  have hlast : t.val % 4 = 3 := (flush0_2 t).mp hf
  blk_simp
  rw [after0_2, carried m c t (by omega) hlast]
  obtain ⟨r, d, rfl⟩ : ∃ (r : Fin 256) (d : Fin 1024), y = ix2 r d :=
    ⟨y 0, y 1, funext fun b => by fin_cases b <;> rfl⟩
  rw [show ((View.whole main_v0).slice (win0_2.rect t)).emb (ix2 r d) = ix2 r d by blk_ext [index_2]]
  rw [Pipeline.eq_sum_fin_of_reset_step_apply_last (fun n h => (outsAt0 m c n h).2) 4 (fun _ => (0 : EReal))
    (fun t i => part (iblk m c 0 t) (iblk m c 1 t) i)
    (fun t h j => by
      rw [outsAt0_A m c t h (by omega)]
      frame_out
      exact (added _ _ _ j).trans (congrArg₂ (fun a b : EReal => a + b) (nothing j) rfl))
    (fun t h j => by
      by_cases h1 : t.val % 4 = 3
      · rw [outsAt0_C m c t h h1]
        frame_out
        exact (added _ _ _ j).trans (congrArg₂ (fun a b : EReal => a + b) (congrFun (Memref.IsWhole.read_unread (Memref.isWhole_whole cc0_scratch0) _) j) rfl)
      · rw [outsAt0_B m c t h h1]
        frame_out
        exact (added _ _ _ j).trans (congrArg₂ (fun a b : EReal => a + b) (congrFun (Memref.IsWhole.read_unread (Memref.isWhole_whole cc0_scratch0) _) j) rfl))
    (le_of_eq N_0) t ((show t.val + 1 = 4 by omega).trans N_0.symm) (ix2 r d), zero_add]
  exact (Finset.sum_congr rfl fun p _ => part_eq m c p r d).trans (Parts.four N_0 (term (V m c main_arg0) (V m c main_arg1) r d))

end Cert.Kernel22Ideal.Product

namespace Cert.Reference22Ideal.Product

open Idealize.ShloMosaic Idealize.ShloMosaic.TcCoe
open Cert.Reference22Ideal Cert.Reference22Ideal.Gen
open Cert.Kernel22Ideal.Product (gradient)

theorem result (a : FVec Ideal S4096x256 .f32) (d : FVec Ideal S4096x1024 .bf16) :
    (transpose S256x1024 [1, 0] (Host.dotGeneral (φ₁ := .f32) (φ₂ := .f32) dot_S4096x1024_S4096x256_S1024x256_0_0_1_1_n_n none (extf .f32 d bitsLt_bf16_f32) a) transposes_S1024x256_S256x1024_1_0 : FVec Ideal S256x1024 .f32) = gradient a d := by
  funext i
  idx_vars i
  pointwise [gradient]
  exact Finset.sum_congr rfl fun k _ => mul_comm _ _

/-- From the same arguments the call and the reference leave the same gradient. -/
theorem same : Cert.algebraic_Kernel22Ideal_Reference22Ideal := fun m g m' g' _ hargs => by
  refine ⟨fun c => gradient (m (c.tc.loc Kernel22Ideal.main_arg0))
    (m (c.tc.loc Kernel22Ideal.main_arg1)), ?_, ?_⟩
  · refine (θ_run Kernel22Ideal.defs _ _).mono (fun r h c => ⟨(h c).1.trans ?_, (h c).2⟩) (Kernel22Ideal.Value.run_blocks m g)
    rw [Kernel22Ideal.Product.final, Kernel22Ideal.Gen.V_main_arg0, Kernel22Ideal.Gen.V_main_arg1]
  · refine (θ_run Reference22Ideal.defs _ _).mono (fun r h c => ⟨(h c).1.trans ?_, (h c).2⟩) (Reference22Ideal.Value.run (F := Ideal) m' g')
    obtain ⟨a0, a1⟩ := hargs c
    exact (result _ _).trans (by rw [a0, a1])

end Cert.Reference22Ideal.Product

end
-- ==== Proof.Products.GBranchNa.lean ====
module

public import proofs.«01_k».proof.Proof.Products.Parts
public import proofs.«01_k».proof.Proof.Gen.Kernel23Ideal.Value
public import proofs.«01_k».proof.Proof.Gen.Reference23Ideal.Run
public import Idealize.ShloMosaic.Lib.Pipeline.ValueKit

@[expose] public section

set_option maxRecDepth 16384

noncomputable section

/-! # The gradient of the weight of the neighbourhood attention's branch

Column r of the inputs times the cotangent, summed over the tokens in four parts. The sum is carried from part to part. -/

namespace Cert.Kernel23Ideal.Product

open Idealize.ShloMosaic Idealize.ShloMosaic.TcCoe
open Cert.Kernel23Ideal Cert.Kernel23Ideal.Gen

/-- The gradient of the weight: the sum over the tokens. -/
def gradient (a : S4096x512.Idx → EReal) (d : S4096x1024.Idx → EReal) : S512x1024.Idx → EReal := fun i =>
  ∑ n : Fin 4096, a (ix2 n (i 0)) * d (ix2 n (i 1))

/-- What a token adds to an entry. -/
def term (a : S4096x512.Idx → EReal) (d : S4096x1024.Idx → EReal) (r : Fin 512) (j : Fin 1024) (n : Fin 4096) : EReal :=
  a (ix2 n r) * d (ix2 n j)

/-- What a part of the tokens adds to an entry. -/
def part (a : S1024x512.Idx → EReal) (d : S1024x1024.Idx → EReal) (i : S512x1024.Idx) : EReal :=
  ∑ n : Fin 1024, a (ix2 n (i 0)) * d (ix2 n (i 1))

theorem nothing (i : S512x1024.Idx) : (k0_pay1 (F := Ideal) : S512x1024.Idx → EReal) i = 0 := by
  idx_vars i
  pointwise [k0_pay1]

theorem added (s : FVec Ideal S512x1024 .f32) (a : FVec Ideal S1024x512 .bf16) (d : FVec Ideal S1024x1024 .bf16) (i : S512x1024.Idx) :
    (k0_pay2 (F := Ideal) s a d : S512x1024.Idx → EReal) i = s i + part a d i := by
  idx_vars i
  pointwise [k0_pay2, part]

theorem index_0 : ∀ t : Fin cfg0.N, win0_0.index t = ![t.val, 0] := (by decide +kernel : ∀ t : Fin grid0.N, _)
theorem index_1 : ∀ t : Fin cfg0.N, win0_1.index t = ![t.val, 0] := (by decide +kernel : ∀ t : Fin grid0.N, _)
theorem index_2 : ∀ t : Fin cfg0.N, win0_2.index t = ![0, 0] := (by decide +kernel : ∀ t : Fin grid0.N, _)

variable (m : (ℓ : Loc nD τ sig) → Buf (Elt Ideal) ℓ) (c : Dev nD)

theorem part_eq (t : Fin cfg0.N) (r : Fin 512) (j : Fin 1024) :
    part (iblk m c 0 t) (iblk m c 1 t) (ix2 r j) = ∑ n : Fin 1024, term (V m c main_arg0) (V m c main_arg1) r j ⟨t.val * 1024 + n.val, by have ht : t.val < 4 := t.isLt; omega⟩ := by
  refine Finset.sum_congr rfl fun n _ => congrArg₂ (fun a b : EReal => a * b) ?_ ?_
  · blk_simp [iblk]
    refine congrArg _ ?_
    blk_ext [index_0]
  · blk_simp [iblk]
    refine congrArg _ ?_
    blk_ext [index_1]

/-- At the last point the block written back is the carried sum. -/
theorem carried (t : Fin cfg0.N) (h0 : ¬t.val % 4 = 0) (h1 : t.val % 4 = 3) :
    (outsAt0 m c t.val t.isLt).1 = (outsAt0 m c t.val t.isLt).2 := by
  rw [outsAt0_C m c t h0 h1]
  frame_out

/-- The gradient after the call. -/
theorem final : (dats m 0 c).arrAt 2 cfg0.N = gradient (V m c main_arg0) (V m c main_arg1) := by
  refine (dats m 0 c).arrAt_eq_of_covers 2 _ (by decide +kernel) (fun t hf y => ?_)
  have ht : t.val < 4 := t.isLt
  have hlast : t.val % 4 = 3 := (flush0_2 t).mp hf
  blk_simp
  rw [after0_2, carried m c t (by omega) hlast]
  obtain ⟨r, d, rfl⟩ : ∃ (r : Fin 512) (d : Fin 1024), y = ix2 r d :=
    ⟨y 0, y 1, funext fun b => by fin_cases b <;> rfl⟩
  rw [show ((View.whole main_v0).slice (win0_2.rect t)).emb (ix2 r d) = ix2 r d by blk_ext [index_2]]
  rw [Pipeline.eq_sum_fin_of_reset_step_apply_last (fun n h => (outsAt0 m c n h).2) 4 (fun _ => (0 : EReal))
    (fun t i => part (iblk m c 0 t) (iblk m c 1 t) i)
    (fun t h j => by
      rw [outsAt0_A m c t h (by omega)]
      frame_out
      exact (added _ _ _ j).trans (congrArg₂ (fun a b : EReal => a + b) (nothing j) rfl))
    (fun t h j => by
      by_cases h1 : t.val % 4 = 3
      · rw [outsAt0_C m c t h h1]
        frame_out
        exact (added _ _ _ j).trans (congrArg₂ (fun a b : EReal => a + b) (congrFun (Memref.IsWhole.read_unread (Memref.isWhole_whole cc0_scratch0) _) j) rfl)
      · rw [outsAt0_B m c t h h1]
        frame_out
        exact (added _ _ _ j).trans (congrArg₂ (fun a b : EReal => a + b) (congrFun (Memref.IsWhole.read_unread (Memref.isWhole_whole cc0_scratch0) _) j) rfl))
    (le_of_eq N_0) t ((show t.val + 1 = 4 by omega).trans N_0.symm) (ix2 r d), zero_add]
  exact (Finset.sum_congr rfl fun p _ => part_eq m c p r d).trans (Parts.four N_0 (term (V m c main_arg0) (V m c main_arg1) r d))

end Cert.Kernel23Ideal.Product

namespace Cert.Reference23Ideal.Product

open Idealize.ShloMosaic Idealize.ShloMosaic.TcCoe
open Cert.Reference23Ideal Cert.Reference23Ideal.Gen
open Cert.Kernel23Ideal.Product (gradient)

theorem result (a : FVec Ideal S4096x512 .bf16) (d : FVec Ideal S4096x1024 .bf16) :
    (transpose S512x1024 [1, 0] (Host.dotGeneral (φ₁ := .f32) (φ₂ := .f32) dot_S4096x1024_S4096x512_S1024x512_0_0_1_1_n_n none (extf .f32 d bitsLt_bf16_f32) (extf .f32 a bitsLt_bf16_f32)) transposes_S1024x512_S512x1024_1_0 : FVec Ideal S512x1024 .f32) = gradient a d := by
  funext i
  idx_vars i
  pointwise [gradient]
  exact Finset.sum_congr rfl fun k _ => mul_comm _ _

/-- From the same arguments the call and the reference leave the same gradient. -/
theorem same : Cert.algebraic_Kernel23Ideal_Reference23Ideal := fun m g m' g' _ hargs => by
  refine ⟨fun c => gradient (m (c.tc.loc Kernel23Ideal.main_arg0))
    (m (c.tc.loc Kernel23Ideal.main_arg1)), ?_, ?_⟩
  · refine (θ_run Kernel23Ideal.defs _ _).mono (fun r h c => ⟨(h c).1.trans ?_, (h c).2⟩) (Kernel23Ideal.Value.run_blocks m g)
    rw [Kernel23Ideal.Product.final, Kernel23Ideal.Gen.V_main_arg0, Kernel23Ideal.Gen.V_main_arg1]
  · refine (θ_run Reference23Ideal.defs _ _).mono (fun r h c => ⟨(h c).1.trans ?_, (h c).2⟩) (Reference23Ideal.Value.run (F := Ideal) m' g')
    obtain ⟨a0, a1⟩ := hargs c
    exact (result _ _).trans (by rw [a0, a1])

end Cert.Reference23Ideal.Product

end
-- ==== Proof.Products.GBranchDil.lean ====
module

public import proofs.«01_k».proof.Proof.Products.Parts
public import proofs.«01_k».proof.Proof.Gen.Kernel24Ideal.Value
public import proofs.«01_k».proof.Proof.Gen.Reference24Ideal.Run
public import Idealize.ShloMosaic.Lib.Pipeline.ValueKit

@[expose] public section

set_option maxRecDepth 16384

noncomputable section

/-! # The gradient of the weight of the dilated attention's branch

Column r of the inputs times the cotangent, summed over the tokens in four parts. The sum is carried from part to part. -/

namespace Cert.Kernel24Ideal.Product

open Idealize.ShloMosaic Idealize.ShloMosaic.TcCoe
open Cert.Kernel24Ideal Cert.Kernel24Ideal.Gen

/-- The gradient of the weight: the sum over the tokens. -/
def gradient (a : S4096x256.Idx → EReal) (d : S4096x1024.Idx → EReal) : S256x1024.Idx → EReal := fun i =>
  ∑ n : Fin 4096, a (ix2 n (i 0)) * d (ix2 n (i 1))

/-- What a token adds to an entry. -/
def term (a : S4096x256.Idx → EReal) (d : S4096x1024.Idx → EReal) (r : Fin 256) (j : Fin 1024) (n : Fin 4096) : EReal :=
  a (ix2 n r) * d (ix2 n j)

/-- What a part of the tokens adds to an entry. -/
def part (a : S1024x256.Idx → EReal) (d : S1024x1024.Idx → EReal) (i : S256x1024.Idx) : EReal :=
  ∑ n : Fin 1024, a (ix2 n (i 0)) * d (ix2 n (i 1))

theorem nothing (i : S256x1024.Idx) : (k0_pay1 (F := Ideal) : S256x1024.Idx → EReal) i = 0 := by
  idx_vars i
  pointwise [k0_pay1]

theorem added (s : FVec Ideal S256x1024 .f32) (a : FVec Ideal S1024x256 .bf16) (d : FVec Ideal S1024x1024 .bf16) (i : S256x1024.Idx) :
    (k0_pay2 (F := Ideal) s a d : S256x1024.Idx → EReal) i = s i + part a d i := by
  idx_vars i
  pointwise [k0_pay2, part]

theorem index_0 : ∀ t : Fin cfg0.N, win0_0.index t = ![t.val, 0] := (by decide +kernel : ∀ t : Fin grid0.N, _)
theorem index_1 : ∀ t : Fin cfg0.N, win0_1.index t = ![t.val, 0] := (by decide +kernel : ∀ t : Fin grid0.N, _)
theorem index_2 : ∀ t : Fin cfg0.N, win0_2.index t = ![0, 0] := (by decide +kernel : ∀ t : Fin grid0.N, _)

variable (m : (ℓ : Loc nD τ sig) → Buf (Elt Ideal) ℓ) (c : Dev nD)

theorem part_eq (t : Fin cfg0.N) (r : Fin 256) (j : Fin 1024) :
    part (iblk m c 0 t) (iblk m c 1 t) (ix2 r j) = ∑ n : Fin 1024, term (V m c main_arg0) (V m c main_arg1) r j ⟨t.val * 1024 + n.val, by have ht : t.val < 4 := t.isLt; omega⟩ := by
  refine Finset.sum_congr rfl fun n _ => congrArg₂ (fun a b : EReal => a * b) ?_ ?_
  · blk_simp [iblk]
    refine congrArg _ ?_
    blk_ext [index_0]
  · blk_simp [iblk]
    refine congrArg _ ?_
    blk_ext [index_1]

/-- At the last point the block written back is the carried sum. -/
theorem carried (t : Fin cfg0.N) (h0 : ¬t.val % 4 = 0) (h1 : t.val % 4 = 3) :
    (outsAt0 m c t.val t.isLt).1 = (outsAt0 m c t.val t.isLt).2 := by
  rw [outsAt0_C m c t h0 h1]
  frame_out

/-- The gradient after the call. -/
theorem final : (dats m 0 c).arrAt 2 cfg0.N = gradient (V m c main_arg0) (V m c main_arg1) := by
  refine (dats m 0 c).arrAt_eq_of_covers 2 _ (by decide +kernel) (fun t hf y => ?_)
  have ht : t.val < 4 := t.isLt
  have hlast : t.val % 4 = 3 := (flush0_2 t).mp hf
  blk_simp
  rw [after0_2, carried m c t (by omega) hlast]
  obtain ⟨r, d, rfl⟩ : ∃ (r : Fin 256) (d : Fin 1024), y = ix2 r d :=
    ⟨y 0, y 1, funext fun b => by fin_cases b <;> rfl⟩
  rw [show ((View.whole main_v0).slice (win0_2.rect t)).emb (ix2 r d) = ix2 r d by blk_ext [index_2]]
  rw [Pipeline.eq_sum_fin_of_reset_step_apply_last (fun n h => (outsAt0 m c n h).2) 4 (fun _ => (0 : EReal))
    (fun t i => part (iblk m c 0 t) (iblk m c 1 t) i)
    (fun t h j => by
      rw [outsAt0_A m c t h (by omega)]
      frame_out
      exact (added _ _ _ j).trans (congrArg₂ (fun a b : EReal => a + b) (nothing j) rfl))
    (fun t h j => by
      by_cases h1 : t.val % 4 = 3
      · rw [outsAt0_C m c t h h1]
        frame_out
        exact (added _ _ _ j).trans (congrArg₂ (fun a b : EReal => a + b) (congrFun (Memref.IsWhole.read_unread (Memref.isWhole_whole cc0_scratch0) _) j) rfl)
      · rw [outsAt0_B m c t h h1]
        frame_out
        exact (added _ _ _ j).trans (congrArg₂ (fun a b : EReal => a + b) (congrFun (Memref.IsWhole.read_unread (Memref.isWhole_whole cc0_scratch0) _) j) rfl))
    (le_of_eq N_0) t ((show t.val + 1 = 4 by omega).trans N_0.symm) (ix2 r d), zero_add]
  exact (Finset.sum_congr rfl fun p _ => part_eq m c p r d).trans (Parts.four N_0 (term (V m c main_arg0) (V m c main_arg1) r d))

end Cert.Kernel24Ideal.Product

namespace Cert.Reference24Ideal.Product

open Idealize.ShloMosaic Idealize.ShloMosaic.TcCoe
open Cert.Reference24Ideal Cert.Reference24Ideal.Gen
open Cert.Kernel24Ideal.Product (gradient)

theorem result (a : FVec Ideal S4096x256 .bf16) (d : FVec Ideal S4096x1024 .bf16) :
    (transpose S256x1024 [1, 0] (Host.dotGeneral (φ₁ := .f32) (φ₂ := .f32) dot_S4096x1024_S4096x256_S1024x256_0_0_1_1_n_n none (extf .f32 d bitsLt_bf16_f32) (extf .f32 a bitsLt_bf16_f32)) transposes_S1024x256_S256x1024_1_0 : FVec Ideal S256x1024 .f32) = gradient a d := by
  funext i
  idx_vars i
  pointwise [gradient]
  exact Finset.sum_congr rfl fun k _ => mul_comm _ _

/-- From the same arguments the call and the reference leave the same gradient. -/
theorem same : Cert.algebraic_Kernel24Ideal_Reference24Ideal := fun m g m' g' _ hargs => by
  refine ⟨fun c => gradient (m (c.tc.loc Kernel24Ideal.main_arg0))
    (m (c.tc.loc Kernel24Ideal.main_arg1)), ?_, ?_⟩
  · refine (θ_run Kernel24Ideal.defs _ _).mono (fun r h c => ⟨(h c).1.trans ?_, (h c).2⟩) (Kernel24Ideal.Value.run_blocks m g)
    rw [Kernel24Ideal.Product.final, Kernel24Ideal.Gen.V_main_arg0, Kernel24Ideal.Gen.V_main_arg1]
  · refine (θ_run Reference24Ideal.defs _ _).mono (fun r h c => ⟨(h c).1.trans ?_, (h c).2⟩) (Reference24Ideal.Value.run (F := Ideal) m' g')
    obtain ⟨a0, a1⟩ := hargs c
    exact (result _ _).trans (by rw [a0, a1])

end Cert.Reference24Ideal.Product

end
-- ==== Proof.Products.DOutProj.lean ====
module

public import proofs.«01_k».proof.Proof.Products.Gate
public import proofs.«01_k».proof.Proof.Gen.Kernel25Ideal.Value
public import proofs.«01_k».proof.Proof.Gen.Reference25Ideal.Run
public import Idealize.ShloMosaic.Lib.Pipeline.ValueKit

@[expose] public section

set_option maxRecDepth 16384

noncomputable section

/-! # The gradients of the gates and of the branches

The cotangent of the token mixer's output goes back through the output weight. Times each gate it is the cotangent of the
gate's branch; times the branch and the slope of the gate it is the cotangent of the gate. -/

namespace Cert.Kernel25Ideal.Product

open Idealize.ShloMosaic Idealize.ShloMosaic.TcCoe
open Cert.Kernel25Ideal Cert.Kernel25Ideal.Gen
open Cert.Gate (opened opened_of_sub)

/-- The cotangent of the mix at a token and a channel. -/
def back (x : S4096x1024.Idx → EReal) (w : S1024x1024.Idx → EReal) : S4096x1024.Idx → EReal := fun i =>
  ∑ k : Fin 1024, x (ix2 (i 0) k) * w (ix2 (i 1) k)

/-- The cotangents of the two gates, side by side. -/
def gates (x : S4096x1024.Idx → EReal) (z : S4096x2048.Idx → EReal) (u v : S4096x1024.Idx → EReal) (w : S1024x1024.Idx → EReal) : S4096x2048.Idx → EReal := fun i =>
  if h : (i 1).val < 1024 then
    back x w (ix2 (i 0) ⟨(i 1).val, h⟩) * u (ix2 (i 0) ⟨(i 1).val, h⟩) * opened (z (ix2 (i 0) ⟨(i 1).val, by omega⟩)) * (1 - opened (z (ix2 (i 0) ⟨(i 1).val, by omega⟩)))
  else
    back x w (ix2 (i 0) ⟨(i 1).val - 1024, by have h1 : (i 1).val < 2048 := (i 1).isLt; omega⟩) * v (ix2 (i 0) ⟨(i 1).val - 1024, by have h1 : (i 1).val < 2048 := (i 1).isLt; omega⟩)
      * opened (z (ix2 (i 0) ⟨1024 + ((i 1).val - 1024), by have h1 : (i 1).val < 2048 := (i 1).isLt; omega⟩)) * (1 - opened (z (ix2 (i 0) ⟨1024 + ((i 1).val - 1024), by have h1 : (i 1).val < 2048 := (i 1).isLt; omega⟩)))

/-- The cotangent of the first branch. -/
def first (x : S4096x1024.Idx → EReal) (z : S4096x2048.Idx → EReal) (w : S1024x1024.Idx → EReal) : S4096x1024.Idx → EReal := fun i =>
  back x w (ix2 (i 0) (i 1)) * opened (z (ix2 (i 0) ⟨(i 1).val, by have h1 : (i 1).val < 1024 := (i 1).isLt; omega⟩))

/-- The cotangent of the second branch. -/
def second (x : S4096x1024.Idx → EReal) (z : S4096x2048.Idx → EReal) (w : S1024x1024.Idx → EReal) : S4096x1024.Idx → EReal := fun i =>
  back x w (ix2 (i 0) (i 1)) * opened (z (ix2 (i 0) ⟨1024 + (i 1).val, by have h1 : (i 1).val < 1024 := (i 1).isLt; omega⟩))

theorem stored_back (x : FVec Ideal S512x1024 .bf16) (w : FVec Ideal S1024x1024 .bf16) (r : Fin 512) (j : Fin 1024) :
    (k0_pay4 (F := Ideal) x w : S512x1024.Idx → EReal) (ix2 r j) = ∑ k : Fin 1024, x (ix2 r k) * w (ix2 j k) := by
  pointwise [k0_pay4]

theorem gate_first (a : FVec Ideal S512x1024 .bf16) (r : Fin 512) (j : Fin 1024) :
    (k0_pay5 (F := Ideal) a : S512x1024.Idx → EReal) (ix2 r j) = opened (a (ix2 r j)) := by
  pointwise [k0_pay5]
  exact opened_of_sub _

theorem gate_second (a : FVec Ideal S512x1024 .bf16) (r : Fin 512) (j : Fin 1024) :
    (k0_pay6 (F := Ideal) a : S512x1024.Idx → EReal) (ix2 r j) = opened (a (ix2 r j)) := by
  pointwise [k0_pay6]
  exact opened_of_sub _

theorem stored_low (x : FVec Ideal S512x1024 .bf16) (w : FVec Ideal S1024x1024 .bf16) (a b u v : FVec Ideal S512x1024 .bf16) (r : Fin 512) (j : Fin 2048) (h : j.val < 1024) :
    (k0_pay1 (F := Ideal) (k0_pay7 x w a b u v) : S512x2048.Idx → EReal) (ix2 r j)
      = (k0_pay4 (F := Ideal) x w : S512x1024.Idx → EReal) (ix2 r ⟨j.val, h⟩) * u (ix2 r ⟨j.val, h⟩)
        * (k0_pay5 (F := Ideal) a : S512x1024.Idx → EReal) (ix2 r ⟨j.val, h⟩) * (1 - (k0_pay5 (F := Ideal) a : S512x1024.Idx → EReal) (ix2 r ⟨j.val, h⟩)) := by
  unfold k0_pay7
  generalize k0_pay4 (F := Ideal) x w = d
  generalize k0_pay5 (F := Ideal) a = p
  generalize k0_pay6 (F := Ideal) b = q
  pointwise [k0_pay1]
  rw [dif_pos h]

theorem stored_high (x : FVec Ideal S512x1024 .bf16) (w : FVec Ideal S1024x1024 .bf16) (a b u v : FVec Ideal S512x1024 .bf16) (r : Fin 512) (j : Fin 2048) (h : ¬j.val < 1024) :
    (k0_pay1 (F := Ideal) (k0_pay7 x w a b u v) : S512x2048.Idx → EReal) (ix2 r j)
      = (k0_pay4 (F := Ideal) x w : S512x1024.Idx → EReal) (ix2 r ⟨j.val - 1024, by omega⟩) * v (ix2 r ⟨j.val - 1024, by omega⟩)
        * (k0_pay6 (F := Ideal) b : S512x1024.Idx → EReal) (ix2 r ⟨j.val - 1024, by omega⟩) * (1 - (k0_pay6 (F := Ideal) b : S512x1024.Idx → EReal) (ix2 r ⟨j.val - 1024, by omega⟩)) := by
  unfold k0_pay7
  generalize k0_pay4 (F := Ideal) x w = d
  generalize k0_pay5 (F := Ideal) a = p
  generalize k0_pay6 (F := Ideal) b = q
  pointwise [k0_pay1]
  rw [dif_neg h]

theorem stored_first (x : FVec Ideal S512x1024 .bf16) (w : FVec Ideal S1024x1024 .bf16) (a : FVec Ideal S512x1024 .bf16) (r : Fin 512) (j : Fin 1024) :
    (k0_pay2 (F := Ideal) (k0_pay8 x w a) : S512x1024.Idx → EReal) (ix2 r j)
      = (k0_pay4 (F := Ideal) x w : S512x1024.Idx → EReal) (ix2 r j) * (k0_pay5 (F := Ideal) a : S512x1024.Idx → EReal) (ix2 r j) := by
  unfold k0_pay8
  generalize k0_pay4 (F := Ideal) x w = d
  generalize k0_pay5 (F := Ideal) a = p
  pointwise [k0_pay2]

theorem stored_second (x : FVec Ideal S512x1024 .bf16) (w : FVec Ideal S1024x1024 .bf16) (a : FVec Ideal S512x1024 .bf16) (r : Fin 512) (j : Fin 1024) :
    (k0_pay3 (F := Ideal) (k0_pay9 x w a) : S512x1024.Idx → EReal) (ix2 r j)
      = (k0_pay4 (F := Ideal) x w : S512x1024.Idx → EReal) (ix2 r j) * (k0_pay6 (F := Ideal) a : S512x1024.Idx → EReal) (ix2 r j) := by
  unfold k0_pay9
  generalize k0_pay4 (F := Ideal) x w = d
  generalize k0_pay6 (F := Ideal) a = p
  pointwise [k0_pay3]

theorem index_0 : ∀ t : Fin cfg0.N, win0_0.index t = ![t.val, 0] := (by decide +kernel : ∀ t : Fin grid0.N, _)
theorem index_1 : ∀ t : Fin cfg0.N, win0_1.index t = ![0, 0] := (by decide +kernel : ∀ t : Fin grid0.N, _)
theorem index_2 : ∀ t : Fin cfg0.N, win0_2.index t = ![t.val, 0] := (by decide +kernel : ∀ t : Fin grid0.N, _)
theorem index_3 : ∀ t : Fin cfg0.N, win0_3.index t = ![t.val, 1] := (by decide +kernel : ∀ t : Fin grid0.N, _)
theorem index_4 : ∀ t : Fin cfg0.N, win0_4.index t = ![t.val, 0] := (by decide +kernel : ∀ t : Fin grid0.N, _)
theorem index_5 : ∀ t : Fin cfg0.N, win0_5.index t = ![t.val, 0] := (by decide +kernel : ∀ t : Fin grid0.N, _)
theorem index_6 : ∀ t : Fin cfg0.N, win0_6.index t = ![t.val, 0] := (by decide +kernel : ∀ t : Fin grid0.N, _)
theorem index_7 : ∀ t : Fin cfg0.N, win0_7.index t = ![t.val, 0] := (by decide +kernel : ∀ t : Fin grid0.N, _)
theorem index_8 : ∀ t : Fin cfg0.N, win0_8.index t = ![t.val, 0] := (by decide +kernel : ∀ t : Fin grid0.N, _)

variable (m : (ℓ : Loc nD τ sig) → Buf (Elt Ideal) ℓ) (c : Dev nD)

theorem start : (V m c main_v0 : S1024x1024.Idx → EReal) = m ((c : Thread nD τ).loc main_arg4) := by
  simp only [V, hostOps0, List.flatten_cons, List.flatten_nil, List.append_nil, List.cons_append, List.nil_append]
  after_results
  rfl

/-- The window of the weight, at an index. -/
theorem weight (t : Fin cfg0.N) (k : Fin 1024) (j : Fin 1024) :
    iblk m c 1 t (ix2 k j) = V m c main_arg4 (ix2 k j) := by
  rw [V_main_arg4, ← start m c]
  blk_simp [iblk]
  refine congrArg _ ?_
  blk_ext [index_1]

theorem cotangent (t : Fin cfg0.N) (r : Fin 512) (j : Fin 1024) :
    (iblk m c 0 t : S512x1024.Idx → EReal) (ix2 r j) = V m c main_arg0 (ix2 ⟨t.val * 512 + r.val, by have ht : t.val < 8 := t.isLt; omega⟩ j) := by
  blk_simp [iblk]
  refine congrArg _ ?_
  blk_ext [index_0]

theorem first_gate (t : Fin cfg0.N) (r : Fin 512) (j : Fin 1024) :
    (iblk m c 2 t : S512x1024.Idx → EReal) (ix2 r j) = V m c main_arg1 (ix2 ⟨t.val * 512 + r.val, by have ht : t.val < 8 := t.isLt; omega⟩ ⟨j.val, by omega⟩) := by
  blk_simp [iblk]
  refine congrArg _ ?_
  blk_ext [index_2]

theorem second_gate (t : Fin cfg0.N) (r : Fin 512) (j : Fin 1024) :
    (iblk m c 3 t : S512x1024.Idx → EReal) (ix2 r j) = V m c main_arg1 (ix2 ⟨t.val * 512 + r.val, by have ht : t.val < 8 := t.isLt; omega⟩ ⟨1024 + j.val, by omega⟩) := by
  blk_simp [iblk]
  refine congrArg _ ?_
  blk_ext [index_3]

theorem first_branch (t : Fin cfg0.N) (r : Fin 512) (j : Fin 1024) :
    (iblk m c 4 t : S512x1024.Idx → EReal) (ix2 r j) = V m c main_arg2 (ix2 ⟨t.val * 512 + r.val, by have ht : t.val < 8 := t.isLt; omega⟩ j) := by
  blk_simp [iblk]
  refine congrArg _ ?_
  blk_ext [index_4]

theorem second_branch (t : Fin cfg0.N) (r : Fin 512) (j : Fin 1024) :
    (iblk m c 5 t : S512x1024.Idx → EReal) (ix2 r j) = V m c main_arg3 (ix2 ⟨t.val * 512 + r.val, by have ht : t.val < 8 := t.isLt; omega⟩ j) := by
  blk_simp [iblk]
  refine congrArg _ ?_
  blk_ext [index_5]

theorem back_apply (t : Fin cfg0.N) (r : Fin 512) (j : Fin 1024) :
    (k0_pay4 (F := Ideal) (iblk m c 0 t) (iblk m c 1 t) : S512x1024.Idx → EReal) (ix2 r j) = back (V m c main_arg0) (V m c main_arg4) (ix2 ⟨t.val * 512 + r.val, by have ht : t.val < 8 := t.isLt; omega⟩ j) :=
  (stored_back _ _ r j).trans (Finset.sum_congr rfl fun k _ => congrArg₂ (fun a b : EReal => a * b) (cotangent m c t r k) (weight m c t j k))

/-- The cotangents of the gates after the call. -/
theorem final_gates : (dats m 0 c).arrAt 6 cfg0.N = gates (V m c main_arg0) (V m c main_arg1) (V m c main_arg2) (V m c main_arg3) (V m c main_arg4) := by
  refine (dats m 0 c).arrAt_eq_of_covers 6 _ (by decide +kernel) (fun t hf y => ?_)
  blk_simp
  rw [after0_6]
  unfold outsAt0
  frame_out
  have ht : t.val < 8 := t.isLt
  obtain ⟨r, d, rfl⟩ : ∃ (r : Fin 512) (d : Fin 2048), y = ix2 r d :=
    ⟨y 0, y 1, funext fun b => by fin_cases b <;> rfl⟩
  rw [show ((View.whole main_v1_0).slice (win0_6.rect t)).emb (ix2 r d) = ix2 ⟨t.val * 512 + r.val, by omega⟩ d by blk_ext [index_6]]
  unfold gates
  by_cases h : d.val < 1024
  · refine (stored_low _ _ _ _ _ _ r d h).trans (Eq.trans ?_ (dif_pos h).symm)
    exact congrArg₂ (fun a b : EReal => a * b)
      (congrArg₂ (fun a b : EReal => a * b) (congrArg₂ (fun a b : EReal => a * b) (back_apply m c t r _) (first_branch m c t r _)) ((gate_first _ r _).trans (congrArg opened (first_gate m c t r _))))
      (congrArg (fun a : EReal => 1 - a) ((gate_first _ r _).trans (congrArg opened (first_gate m c t r _))))
  · refine (stored_high _ _ _ _ _ _ r d h).trans (Eq.trans ?_ (dif_neg h).symm)
    exact congrArg₂ (fun a b : EReal => a * b)
      (congrArg₂ (fun a b : EReal => a * b) (congrArg₂ (fun a b : EReal => a * b) (back_apply m c t r _) (second_branch m c t r _)) ((gate_second _ r _).trans (congrArg opened (second_gate m c t r _))))
      (congrArg (fun a : EReal => 1 - a) ((gate_second _ r _).trans (congrArg opened (second_gate m c t r _))))

/-- The cotangent of the first branch after the call. -/
theorem final_first : (dats m 0 c).arrAt 7 cfg0.N = first (V m c main_arg0) (V m c main_arg1) (V m c main_arg4) := by
  refine (dats m 0 c).arrAt_eq_of_covers 7 _ (by decide +kernel) (fun t hf y => ?_)
  blk_simp
  rw [after0_7]
  unfold outsAt0
  frame_out
  have ht : t.val < 8 := t.isLt
  obtain ⟨r, d, rfl⟩ : ∃ (r : Fin 512) (d : Fin 1024), y = ix2 r d :=
    ⟨y 0, y 1, funext fun b => by fin_cases b <;> rfl⟩
  rw [show ((View.whole main_v1_1).slice (win0_7.rect t)).emb (ix2 r d) = ix2 ⟨t.val * 512 + r.val, by omega⟩ d by blk_ext [index_7]]
  refine (stored_first _ _ _ r d).trans ?_
  exact congrArg₂ (fun a b : EReal => a * b) (back_apply m c t r d) ((gate_first _ r d).trans (congrArg opened (first_gate m c t r d)))

/-- The cotangent of the second branch after the call. -/
theorem final_second : (dats m 0 c).arrAt 8 cfg0.N = second (V m c main_arg0) (V m c main_arg1) (V m c main_arg4) := by
  refine (dats m 0 c).arrAt_eq_of_covers 8 _ (by decide +kernel) (fun t hf y => ?_)
  blk_simp
  rw [after0_8]
  unfold outsAt0
  frame_out
  have ht : t.val < 8 := t.isLt
  obtain ⟨r, d, rfl⟩ : ∃ (r : Fin 512) (d : Fin 1024), y = ix2 r d :=
    ⟨y 0, y 1, funext fun b => by fin_cases b <;> rfl⟩
  rw [show ((View.whole main_v1_2).slice (win0_8.rect t)).emb (ix2 r d) = ix2 ⟨t.val * 512 + r.val, by omega⟩ d by blk_ext [index_8]]
  refine (stored_second _ _ _ r d).trans ?_
  exact congrArg₂ (fun a b : EReal => a * b) (back_apply m c t r d) ((gate_second _ r d).trans (congrArg opened (second_gate m c t r d)))

end Cert.Kernel25Ideal.Product

namespace Cert.Reference25Ideal.Product

open Idealize.ShloMosaic Idealize.ShloMosaic.TcCoe
open Cert.Kernel25Ideal.Gen (V_main_arg0 V_main_arg1 V_main_arg2 V_main_arg3 V_main_arg4)
open Cert.Reference25Ideal Cert.Reference25Ideal.Gen
open Cert.Kernel25Ideal.Product (back gates first second)
open Cert.Gate (opened slope)

theorem result_back (x : FVec Ideal S4096x1024 .bf16) (w : FVec Ideal S1024x1024 .f32) :
    (Host.dotGeneral (φ₁ := .f32) (φ₂ := .f32) dot_S4096x1024_S1024x1024_S4096x1024_1_1_0_0_n_n none (extf .f32 x bitsLt_bf16_f32) w : FVec Ideal S4096x1024 .f32) = back x w := by
  funext i
  idx_vars i
  pointwise [back]

variable (d : FVec Ideal S4096x1024 .f32) (z : FVec Ideal S4096x2048 .bf16) (u v : FVec Ideal S4096x1024 .bf16)

theorem result_gates (r : Fin 4096) (j : Fin 2048) :
    (truncf .bf16 (concatenate S4096x2048 1 [⟨S4096x1024, (mulf (mulf d (extf .f32 u bitsLt_bf16_f32)) (mulf (Host.divf (broadcastInDim S4096x1024 ![] bcast_S_S4096x1024 (constant S_ .f32 0x3F800000#32)) (addf (broadcastInDim S4096x1024 ![] bcast_S_S4096x1024 (constant S_ .f32 0x3F800000#32)) (Host.exp (Host.negf (extractStridedSlice S4096x1024 ![0, 0] (extf .f32 z bitsLt_bf16_f32) slices_S4096x2048_S4096x1024_0_0))))) (subf (broadcastInDim S4096x1024 ![] bcast_S_S4096x1024 (constant S_ .f32 0x3F800000#32)) (Host.divf (broadcastInDim S4096x1024 ![] bcast_S_S4096x1024 (constant S_ .f32 0x3F800000#32)) (addf (broadcastInDim S4096x1024 ![] bcast_S_S4096x1024 (constant S_ .f32 0x3F800000#32)) (Host.exp (Host.negf (extractStridedSlice S4096x1024 ![0, 0] (extf .f32 z bitsLt_bf16_f32) slices_S4096x2048_S4096x1024_0_0))))))))⟩, ⟨S4096x1024, (mulf (mulf d (extf .f32 v bitsLt_bf16_f32)) (mulf (Host.divf (broadcastInDim S4096x1024 ![] bcast_S_S4096x1024 (constant S_ .f32 0x3F800000#32)) (addf (broadcastInDim S4096x1024 ![] bcast_S_S4096x1024 (constant S_ .f32 0x3F800000#32)) (Host.exp (Host.negf (extractStridedSlice S4096x1024 ![0, 1024] (extf .f32 z bitsLt_bf16_f32) slices_S4096x2048_S4096x1024_0_1024))))) (subf (broadcastInDim S4096x1024 ![] bcast_S_S4096x1024 (constant S_ .f32 0x3F800000#32)) (Host.divf (broadcastInDim S4096x1024 ![] bcast_S_S4096x1024 (constant S_ .f32 0x3F800000#32)) (addf (broadcastInDim S4096x1024 ![] bcast_S_S4096x1024 (constant S_ .f32 0x3F800000#32)) (Host.exp (Host.negf (extractStridedSlice S4096x1024 ![0, 1024] (extf .f32 z bitsLt_bf16_f32) slices_S4096x2048_S4096x1024_0_1024))))))))⟩] concatenates_S4096x1024_S4096x1024_S4096x2048_d1) bitsLt_bf16_f32 : FVec Ideal S4096x2048 .bf16) (ix2 r j)
      = if h : j.val < 1024 then
          d (ix2 r ⟨j.val, h⟩) * u (ix2 r ⟨j.val, h⟩) * opened (z (ix2 r ⟨j.val, by omega⟩)) * (1 - opened (z (ix2 r ⟨j.val, by omega⟩)))
        else
          d (ix2 r ⟨j.val - 1024, by omega⟩) * v (ix2 r ⟨j.val - 1024, by omega⟩) * opened (z (ix2 r ⟨1024 + (j.val - 1024), by omega⟩)) * (1 - opened (z (ix2 r ⟨1024 + (j.val - 1024), by omega⟩))) := by
  pointwise [opened]
  by_cases h : j.val < 1024
  · rw [dif_pos h, dif_pos h]
    exact (slope _ _ _).symm
  · rw [dif_neg h, dif_neg h]
    exact (slope _ _ _).symm

theorem result_first (r : Fin 4096) (j : Fin 1024) :
    (truncf .bf16 (mulf (Host.divf (broadcastInDim S4096x1024 ![] bcast_S_S4096x1024 (constant S_ .f32 0x3F800000#32)) (addf (broadcastInDim S4096x1024 ![] bcast_S_S4096x1024 (constant S_ .f32 0x3F800000#32)) (Host.exp (Host.negf (extractStridedSlice S4096x1024 ![0, 0] (extf .f32 z bitsLt_bf16_f32) slices_S4096x2048_S4096x1024_0_0))))) d) bitsLt_bf16_f32 : FVec Ideal S4096x1024 .bf16) (ix2 r j) = d (ix2 r j) * opened (z (ix2 r ⟨j.val, by omega⟩)) := by
  pointwise [opened]
  exact mul_comm _ _

theorem result_second (r : Fin 4096) (j : Fin 1024) :
    (truncf .bf16 (mulf (Host.divf (broadcastInDim S4096x1024 ![] bcast_S_S4096x1024 (constant S_ .f32 0x3F800000#32)) (addf (broadcastInDim S4096x1024 ![] bcast_S_S4096x1024 (constant S_ .f32 0x3F800000#32)) (Host.exp (Host.negf (extractStridedSlice S4096x1024 ![0, 1024] (extf .f32 z bitsLt_bf16_f32) slices_S4096x2048_S4096x1024_0_1024))))) d) bitsLt_bf16_f32 : FVec Ideal S4096x1024 .bf16) (ix2 r j) = d (ix2 r j) * opened (z (ix2 r ⟨1024 + j.val, by omega⟩)) := by
  pointwise [opened]
  exact mul_comm _ _

/-- From the same arguments the call and the reference leave the same cotangents. -/
theorem same : Cert.algebraic_Kernel25Ideal_Reference25Ideal := fun m g m' g' _ hargs => by
  refine ⟨fun c => gates (m (c.tc.loc Kernel25Ideal.main_arg0)) (m (c.tc.loc Kernel25Ideal.main_arg1)) (m (c.tc.loc Kernel25Ideal.main_arg2)) (m (c.tc.loc Kernel25Ideal.main_arg3)) (m (c.tc.loc Kernel25Ideal.main_arg4)),
    fun c => first (m (c.tc.loc Kernel25Ideal.main_arg0)) (m (c.tc.loc Kernel25Ideal.main_arg1)) (m (c.tc.loc Kernel25Ideal.main_arg4)),
    fun c => second (m (c.tc.loc Kernel25Ideal.main_arg0)) (m (c.tc.loc Kernel25Ideal.main_arg1)) (m (c.tc.loc Kernel25Ideal.main_arg4)), ?_, ?_⟩
  · refine (θ_run Kernel25Ideal.defs _ _).mono (fun r h c => ⟨(h c).1.trans ?_, (h c).2.1.trans ?_, (h c).2.2.1.trans ?_, (h c).2.2.2⟩) (Kernel25Ideal.Value.run_blocks m g)
    · rw [Kernel25Ideal.Product.final_gates, V_main_arg0, V_main_arg1, V_main_arg2, V_main_arg3, V_main_arg4]
    · rw [Kernel25Ideal.Product.final_first, V_main_arg0, V_main_arg1, V_main_arg4]
    · rw [Kernel25Ideal.Product.final_second, V_main_arg0, V_main_arg1, V_main_arg4]
  · refine (θ_run Reference25Ideal.defs _ _).mono (fun r h c => ⟨(h c).1.trans ?_, (h c).2.1.trans ?_, (h c).2.2.1.trans ?_, (h c).2.2.2⟩) (Reference25Ideal.Value.run (F := Ideal) m' g')
    all_goals obtain ⟨a0, a1, a2, a3, a4⟩ := hargs c
    · funext i
      obtain ⟨p, j, rfl⟩ : ∃ (p : Fin 4096) (j : Fin 2048), i = ix2 p j := ⟨i 0, i 1, funext fun b => by fin_cases b <;> rfl⟩
      refine (result_gates _ _ _ _ p j).trans ?_
      rw [result_back, a0, a1, a2, a3, a4]
      rfl
    · funext i
      obtain ⟨p, j, rfl⟩ : ∃ (p : Fin 4096) (j : Fin 1024), i = ix2 p j := ⟨i 0, i 1, funext fun b => by fin_cases b <;> rfl⟩
      refine (result_first _ _ p j).trans ?_
      rw [result_back, a0, a1, a4]
      rfl
    · funext i
      obtain ⟨p, j, rfl⟩ : ∃ (p : Fin 4096) (j : Fin 1024), i = ix2 p j := ⟨i 0, i 1, funext fun b => by fin_cases b <;> rfl⟩
      refine (result_second _ _ p j).trans ?_
      rw [result_back, a0, a1, a4]
      rfl

end Cert.Reference25Ideal.Product

end
-- ==== Proof.Products.DBranchNa.lean ====
module

public import proofs.«01_k».proof.Proof.Products.Parts
public import proofs.«01_k».proof.Proof.Gen.Kernel26Ideal.Value
public import proofs.«01_k».proof.Proof.Gen.Reference26Ideal.Run
public import Idealize.ShloMosaic.Lib.Pipeline.ValueKit

@[expose] public section

set_option maxRecDepth 16384

noncomputable section

/-! # The gradient of the output of the neighbourhood attention

The cotangent of the branch goes back through its weight. -/

namespace Cert.Kernel26Ideal.Product

open Idealize.ShloMosaic Idealize.ShloMosaic.TcCoe
open Cert.Kernel26Ideal Cert.Kernel26Ideal.Gen

/-- The gradient at a token and an entry of the heads. -/
def back (a : S4096x1024.Idx → EReal) (w : S512x1024.Idx → EReal) : S4096x512.Idx → EReal := fun i =>
  ∑ k : Fin 1024, a (ix2 (i 0) k) * w (ix2 (i 1) k)

theorem index_0 : ∀ t : Fin cfg0.N, win0_0.index t = ![t.val, 0] := (by decide +kernel : ∀ t : Fin grid0.N, _)
theorem index_1 : ∀ t : Fin cfg0.N, win0_1.index t = ![0, 0] := (by decide +kernel : ∀ t : Fin grid0.N, _)
theorem index_2 : ∀ t : Fin cfg0.N, win0_2.index t = ![t.val, 0] := (by decide +kernel : ∀ t : Fin grid0.N, _)

variable (m : (ℓ : Loc nD τ sig) → Buf (Elt Ideal) ℓ) (c : Dev nD)

theorem start : (V m c main_v0 : S512x1024.Idx → EReal) = m ((c : Thread nD τ).loc main_arg1) := by
  simp only [V, hostOps0, List.flatten_cons, List.flatten_nil, List.append_nil, List.cons_append, List.nil_append]
  after_results
  rfl

theorem weight (t : Fin cfg0.N) (x : Fin 512) (y : Fin 1024) :
    iblk m c 1 t (ix2 x y) = V m c main_arg1 (ix2 x y) := by
  rw [V_main_arg1, ← start m c]
  blk_simp [iblk]
  refine congrArg _ ?_
  blk_ext [index_1]

/-- The result of the call. -/
theorem final : (dats m 0 c).arrAt 2 cfg0.N = back (V m c main_arg0) (V m c main_arg1) := by
  refine (dats m 0 c).arrAt_eq_of_covers 2 _ (by decide +kernel) (fun t hf y => ?_)
  blk_simp
  rw [after0_2]
  unfold outsAt0
  frame_out
  have ht : t.val < 4 := t.isLt
  obtain ⟨r, d, rfl⟩ : ∃ (r : Fin 1024) (d : Fin 512), y = ix2 r d :=
    ⟨y 0, y 1, funext fun b => by fin_cases b <;> rfl⟩
  rw [show ((View.whole main_v1).slice (win0_2.rect t)).emb (ix2 r d) = ix2 ⟨t.val * 1024 + r.val, by omega⟩ d by blk_ext [index_2]]
  pointwise [k0_pay1, back]
  refine (Finset.sum_congr rfl fun k _ => congrArg₂ (fun a b : EReal => a * b) ?_ ?_ : (_ : EReal) = _)
  · blk_simp [iblk]
    refine congrArg _ ?_
    blk_ext [index_0]
  · exact weight m c t d k

end Cert.Kernel26Ideal.Product

namespace Cert.Reference26Ideal.Product

open Idealize.ShloMosaic Idealize.ShloMosaic.TcCoe
open Cert.Reference26Ideal Cert.Reference26Ideal.Gen
open Cert.Kernel26Ideal.Product (back)

theorem result (a : FVec Ideal S4096x1024 .bf16) (w : FVec Ideal S512x1024 .f32) :
    (truncf .bf16 (Host.dotGeneral (φ₁ := .f32) (φ₂ := .f32) dot_S4096x1024_S512x1024_S4096x512_1_1_0_0_n_n none (extf .f32 a bitsLt_bf16_f32) w) bitsLt_bf16_f32 : FVec Ideal S4096x512 .bf16) = back a w := by
  funext i
  idx_vars i
  pointwise [back]

/-- From the same arguments the call and the reference leave the same result. -/
theorem same : Cert.algebraic_Kernel26Ideal_Reference26Ideal := fun m g m' g' _ hargs => by
  refine ⟨fun c => back (m (c.tc.loc Kernel26Ideal.main_arg0))
    (m (c.tc.loc Kernel26Ideal.main_arg1)), ?_, ?_⟩
  · refine (θ_run Kernel26Ideal.defs _ _).mono (fun r h c => ⟨(h c).1.trans ?_, (h c).2⟩) (Kernel26Ideal.Value.run_blocks m g)
    rw [Kernel26Ideal.Product.final, Kernel26Ideal.Gen.V_main_arg0, Kernel26Ideal.Gen.V_main_arg1]
  · refine (θ_run Reference26Ideal.defs _ _).mono (fun r h c => ⟨(h c).1.trans ?_, (h c).2⟩) (Reference26Ideal.Value.run (F := Ideal) m' g')
    obtain ⟨a0, a1⟩ := hargs c
    exact (result _ _).trans (by rw [a0, a1])

end Cert.Reference26Ideal.Product

end
-- ==== Proof.Products.DBranchDil.lean ====
module

public import proofs.«01_k».proof.Proof.Products.Parts
public import proofs.«01_k».proof.Proof.Gen.Kernel27Ideal.Value
public import proofs.«01_k».proof.Proof.Gen.Reference27Ideal.Run
public import Idealize.ShloMosaic.Lib.Pipeline.ValueKit

@[expose] public section

set_option maxRecDepth 16384

noncomputable section

/-! # The gradient of the output of the dilated attention

The cotangent of the branch goes back through its weight. -/

namespace Cert.Kernel27Ideal.Product

open Idealize.ShloMosaic Idealize.ShloMosaic.TcCoe
open Cert.Kernel27Ideal Cert.Kernel27Ideal.Gen

/-- The gradient at a token and an entry of the heads. -/
def back (a : S4096x1024.Idx → EReal) (w : S256x1024.Idx → EReal) : S4096x256.Idx → EReal := fun i =>
  ∑ k : Fin 1024, a (ix2 (i 0) k) * w (ix2 (i 1) k)

theorem index_0 : ∀ t : Fin cfg0.N, win0_0.index t = ![t.val, 0] := (by decide +kernel : ∀ t : Fin grid0.N, _)
theorem index_1 : ∀ t : Fin cfg0.N, win0_1.index t = ![0, 0] := (by decide +kernel : ∀ t : Fin grid0.N, _)
theorem index_2 : ∀ t : Fin cfg0.N, win0_2.index t = ![t.val, 0] := (by decide +kernel : ∀ t : Fin grid0.N, _)

variable (m : (ℓ : Loc nD τ sig) → Buf (Elt Ideal) ℓ) (c : Dev nD)

theorem start : (V m c main_v0 : S256x1024.Idx → EReal) = m ((c : Thread nD τ).loc main_arg1) := by
  simp only [V, hostOps0, List.flatten_cons, List.flatten_nil, List.append_nil, List.cons_append, List.nil_append]
  after_results
  rfl

theorem weight (t : Fin cfg0.N) (x : Fin 256) (y : Fin 1024) :
    iblk m c 1 t (ix2 x y) = V m c main_arg1 (ix2 x y) := by
  rw [V_main_arg1, ← start m c]
  blk_simp [iblk]
  refine congrArg _ ?_
  blk_ext [index_1]

/-- The result of the call. -/
theorem final : (dats m 0 c).arrAt 2 cfg0.N = back (V m c main_arg0) (V m c main_arg1) := by
  refine (dats m 0 c).arrAt_eq_of_covers 2 _ (by decide +kernel) (fun t hf y => ?_)
  blk_simp
  rw [after0_2]
  unfold outsAt0
  frame_out
  have ht : t.val < 4 := t.isLt
  obtain ⟨r, d, rfl⟩ : ∃ (r : Fin 1024) (d : Fin 256), y = ix2 r d :=
    ⟨y 0, y 1, funext fun b => by fin_cases b <;> rfl⟩
  rw [show ((View.whole main_v1).slice (win0_2.rect t)).emb (ix2 r d) = ix2 ⟨t.val * 1024 + r.val, by omega⟩ d by blk_ext [index_2]]
  pointwise [k0_pay1, back]
  refine (Finset.sum_congr rfl fun k _ => congrArg₂ (fun a b : EReal => a * b) ?_ ?_ : (_ : EReal) = _)
  · blk_simp [iblk]
    refine congrArg _ ?_
    blk_ext [index_0]
  · exact weight m c t d k

end Cert.Kernel27Ideal.Product

namespace Cert.Reference27Ideal.Product

open Idealize.ShloMosaic Idealize.ShloMosaic.TcCoe
open Cert.Reference27Ideal Cert.Reference27Ideal.Gen
open Cert.Kernel27Ideal.Product (back)

theorem result (a : FVec Ideal S4096x1024 .bf16) (w : FVec Ideal S256x1024 .f32) :
    (Host.dotGeneral (φ₁ := .f32) (φ₂ := .f32) dot_S4096x1024_S256x1024_S4096x256_1_1_0_0_n_n none (extf .f32 a bitsLt_bf16_f32) w : FVec Ideal S4096x256 .f32) = back a w := by
  funext i
  idx_vars i
  pointwise [back]

/-- From the same arguments the call and the reference leave the same result. -/
theorem same : Cert.algebraic_Kernel27Ideal_Reference27Ideal := fun m g m' g' _ hargs => by
  refine ⟨fun c => back (m (c.tc.loc Kernel27Ideal.main_arg0))
    (m (c.tc.loc Kernel27Ideal.main_arg1)), ?_, ?_⟩
  · refine (θ_run Kernel27Ideal.defs _ _).mono (fun r h c => ⟨(h c).1.trans ?_, (h c).2⟩) (Kernel27Ideal.Value.run_blocks m g)
    rw [Kernel27Ideal.Product.final, Kernel27Ideal.Gen.V_main_arg0, Kernel27Ideal.Gen.V_main_arg1]
  · refine (θ_run Reference27Ideal.defs _ _).mono (fun r h c => ⟨(h c).1.trans ?_, (h c).2⟩) (Reference27Ideal.Value.run (F := Ideal) m' g')
    obtain ⟨a0, a1⟩ := hargs c
    exact (result _ _).trans (by rw [a0, a1])

end Cert.Reference27Ideal.Product

end
-- ==== Proof.Products.NormMix.lean ====
module

public import proofs.«01_k».proof.Proof.Products.Norm
public import proofs.«01_k».proof.Proof.Gen.Kernel28Ideal.Value
public import proofs.«01_k».proof.Proof.Gen.Reference28Ideal.Run

@[expose] public section

set_option maxRecDepth 16384

noncomputable section

/-! # The norm of the stream before the token mixer

Every row is scaled by the reciprocal root of the mean of its squares and by a gain. -/

namespace Cert.Kernel28Ideal.Product

open Idealize.ShloMosaic Idealize.ShloMosaic.TcCoe
open Cert.Kernel28Ideal Cert.Kernel28Ideal.Gen

/-- The normalised stream. -/
def scaled (x : S4096x1024.Idx → EReal) (g : S1x1024.Idx → EReal) : S4096x1024.Idx → EReal := fun i =>
  x (ix2 (i 0) (i 1)) * Ideal.rsqrt (Norm.level fun k => x (ix2 (i 0) k)) * g (ix2 0 (i 1))

theorem stored_scaled (x : FVec Ideal S512x1024 .f32) (g : FVec Ideal S1x1024 .f32) (r : Fin 512) (j : Fin 1024) :
    (k0_pay1 (F := Ideal) x g : S512x1024.Idx → EReal) (ix2 r j) = x (ix2 r j) * Ideal.rsqrt (Norm.level fun k => x (ix2 r k)) * g (ix2 0 j) := by
  pointwise [k0_pay1, Norm.level]

theorem index_0 : ∀ t : Fin cfg0.N, win0_0.index t = ![t.val, 0] := (by decide +kernel : ∀ t : Fin grid0.N, _)
theorem index_1 : ∀ t : Fin cfg0.N, win0_1.index t = ![0, 0] := (by decide +kernel : ∀ t : Fin grid0.N, _)
theorem index_2 : ∀ t : Fin cfg0.N, win0_2.index t = ![t.val, 0] := (by decide +kernel : ∀ t : Fin grid0.N, _)

variable (m : (ℓ : Loc nD τ sig) → Buf (Elt Ideal) ℓ) (c : Dev nD)

theorem tokens (t : Fin cfg0.N) (r : Fin 512) (k : Fin 1024) :
    (iblk m c 0 t : S512x1024.Idx → EReal) (ix2 r k) = V m c main_arg0 (ix2 ⟨t.val * 512 + r.val, by have ht : t.val < 8 := t.isLt; omega⟩ k) := by
  blk_simp [iblk]
  refine congrArg _ ?_
  blk_ext [index_0]

/-- The normalised stream after the call. -/
theorem final_scaled : (dats m 0 c).arrAt 2 cfg0.N = scaled (V m c main_arg0) (V m c main_arg1) := by
  refine (dats m 0 c).arrAt_eq_of_covers 2 _ (by decide +kernel) (fun t hf y => ?_)
  blk_simp
  rw [after0_2]
  frame_out
  have ht : t.val < 8 := t.isLt
  obtain ⟨r, d, rfl⟩ : ∃ (r : Fin 512) (d : Fin 1024), y = ix2 r d :=
    ⟨y 0, y 1, funext fun b => by fin_cases b <;> rfl⟩
  rw [show ((View.whole main_v0).slice (win0_2.rect t)).emb (ix2 r d) = ix2 ⟨t.val * 512 + r.val, by omega⟩ d by blk_ext [index_2]]
  refine (stored_scaled _ _ r d).trans ?_
  refine congrArg₂ (fun a b : EReal => a * b) (congrArg₂ (fun a b : EReal => a * b) (tokens m c t r d)
    (congrArg (fun h => Ideal.rsqrt (Norm.level h)) (funext fun k => tokens m c t r k))) ?_
  blk_simp [iblk]
  refine congrArg _ ?_
  blk_ext [index_1]

end Cert.Kernel28Ideal.Product

namespace Cert.Reference28Ideal.Product

open Idealize.ShloMosaic Idealize.ShloMosaic.TcCoe
open Cert.Reference28Ideal Cert.Reference28Ideal.Gen
open Cert.Kernel28Ideal.Product (scaled)

theorem result_scaled (h : FVec Ideal S4096x1024 .f32) (g : FVec Ideal S1x1024 .f32) :
    (truncf .bf16 (mulf (mulf h (broadcastInDim S4096x1024 ![0, 1] bcast_S4096x1_S4096x1024_0_1 (Host.rsqrt (addf (Host.divf (broadcastInDim S4096x1 ![0] bcast_S4096_S4096x1_0 (Host.reduceAdd (mulf h h) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1024 ![0, 1] bcast_S1x1024_S4096x1024_0_1 g)) bitsLt_bf16_f32 : FVec Ideal S4096x1024 .bf16)
      = scaled h g := by
  funext i
  obtain ⟨p, j, rfl⟩ : ∃ (p : Fin 4096) (j : Fin 1024), i = ix2 p j := ⟨i 0, i 1, funext fun b => by fin_cases b <;> rfl⟩
  pointwise [scaled, Norm.level]

/-- From the same arguments the call and the reference leave the same normalised stream. -/
theorem same : Cert.algebraic_Kernel28Ideal_Reference28Ideal := fun m g m' g' _ hargs => by
  refine ⟨fun c => scaled (m (c.tc.loc Kernel28Ideal.main_arg0)) (m (c.tc.loc Kernel28Ideal.main_arg1)), ?_, ?_⟩
  · refine (θ_run Kernel28Ideal.defs _ _).mono (fun r h c => ⟨(h c).1.trans ?_, (h c).2⟩) (Kernel28Ideal.Value.run_blocks m g)
    rw [Kernel28Ideal.Product.final_scaled, Kernel28Ideal.Gen.V_main_arg0, Kernel28Ideal.Gen.V_main_arg1]
  · refine (θ_run Reference28Ideal.defs _ _).mono (fun r h c => ⟨(h c).1.trans ?_, (h c).2⟩) (Reference28Ideal.Value.run (F := Ideal) m' g')
    obtain ⟨a0, a1⟩ := hargs c
    exact (result_scaled _ _).trans (by rw [a0, a1])

end Cert.Reference28Ideal.Product

end
-- ==== Proof.Near.Block.lean ====
module

public import proofs.«01_k».proof.Proof.Gen.Kernel30Ideal.Frame
public import Idealize.ShloMosaic.Lib.Pointwise
public import Idealize.ShloMosaic.Lib.Pipeline.ValueKit.Tiles

@[expose] public section

set_option maxRecDepth 16384

noncomputable section

/-! # One row of the grid in the neighbourhood attention, as the kernel's body computes it

64 queries of a pair of heads against the 512 keys of the eight rows around them. The two heads of a pair share the 128
lanes, so the queries are stacked twice, each copy with the other head's lanes at zero. Stated over any float instance. -/

namespace Cert.Kernel30Ideal.Near

open Idealize.ShloMosaic Idealize.ShloMosaic.TcCoe
open Cert.Kernel30Ideal Cert.Kernel30Ideal.Gen

variable {F : FTy → Type} [FloatOps F]

/-- The lanes of a pair's first head. -/
def firstHead : IVec S64x128 1 := cmpi .slt (iota .tc S64x128 32 [1] iota_S64x128_d1_w32) (broadcast S64x128 64#32)

/-- The scaled queries. -/
def reduced (q : Vec F S64x128 .bf16) : FVec F S64x128 .bf16 := mulf q (broadcast S64x128 (Scalar.ofBits .bf16 0x3E00#16))

/-- The scaled queries, stacked twice: the first copy keeps the first head's lanes, the second the second head's. -/
def stack (q : Vec F S64x128 .bf16) : FVec F S128x128 .bf16 :=
  concatenate S128x128 0
    [⟨S64x128, select firstHead (reduced q) (broadcast S64x128 (Scalar.ofBits .bf16 0x0000#16))⟩,
     ⟨S64x128, select firstHead (broadcast S64x128 (Scalar.ofBits .bf16 0x0000#16)) (reduced q)⟩]
    concatenates_S64x128_S64x128_S128x128_d0

/-- The scores with the two heads' table entries. -/
def scores (q : Vec F S64x128 .bf16) (k : Vec F S512x128 .bf16) (b0 b1 : Vec F S1x1x64x512 .f32) : FVec F S128x512 .f32 :=
  addf (matmul dot_S128x128_S512x128_S128x512_1_1_0_0_n_n none (stack q) k (constant S128x512 .f32 0x00000000#32))
    (concatenate S128x512 0 [⟨S64x512, shapeCast S64x512 b0 shapeCasts_S1x1x64x512_S64x512⟩, ⟨S64x512, shapeCast S64x512 b1 shapeCasts_S1x1x64x512_S64x512⟩]
      concatenates_S64x512_S64x512_S128x512_d0)

/-- A column repeated along its row. -/
def alongRow (x : FVec F S128 .f32) : FVec F S128x512 .f32 :=
  broadcastTo S128x512 (shapeCast S128x1 x shapeCasts_S128_S128x1) broadcasts_S128x1_S128x512

/-- The exponentials of the scores less their row's largest. -/
def expo (x : FVec F S128x512 .f32) : FVec F S128x512 .f32 :=
  exp (subf x (alongRow (multiReduction .maximumf [1] S128 x 0xFF800000#32 reduces_S128x512_S128 (.inl rfl) rfl)))

/-- The exponentials over their row's sum. -/
def overSum (e : FVec F S128x512 .f32) : FVec F S128x512 .f32 :=
  divf e (alongRow (multiReduction .add [1] S128 e 0x00000000#32 reduces_S128x512_S128 (.inl rfl) rfl))

/-- The weights on the values, the two heads still stacked. -/
def mixed (p : FVec F S128x512 .f32) (v : Vec F S512x128 .bf16) : FVec F S128x128 .f32 :=
  matmul dot_S128x512_S512x128_S128x128_1_0_0_1_n_n none (truncf .bf16 p bitsLt_bf16_f32) v (constant S128x128 .f32 0x00000000#32)

/-- The stack undone: each head's lanes from its own copy. -/
def unstack (x : FVec F S128x128 .f32) : FVec F S64x128 .bf16 :=
  truncf .bf16 (select firstHead (extractStridedSlice S64x128 ![0, 0] x slices_S128x128_o0_0_S64x128)
    (extractStridedSlice S64x128 ![64, 0] x slices_S128x128_o64_0_S64x128)) bitsLt_bf16_f32

/-- The row's outputs. -/
def block (q : Vec F S64x128 .bf16) (k v : Vec F S512x128 .bf16) (b0 b1 : Vec F S1x1x64x512 .f32) : FVec F S64x128 .bf16 :=
  unstack (mixed (overSum (expo (scores q k b0 b1))) v)

/-! ## The rows of a tile -/

/-- The queries of row `16 k + u`, its keys and its entries of the two heads' tables. -/
abbrev rowsRect (k : Fin k0_t1_loop.trips) (u : Fin 16) : Rect S4096x128 :=
  Rect.unit (s := S4096x128) (k0_off1 k (BitVec.ofNat 32 u.val)) S64x128.size (k0_off1_inb k u)
abbrev keysRect (k : Fin k0_t1_loop.trips) (u : Fin 16) : Rect S4096x128 :=
  Rect.unit (s := S4096x128) (k0_off2 k (BitVec.ofNat 32 u.val)) S512x128.size (k0_off2_inb k u)
abbrev firstTab (k : Fin k0_t1_loop.trips) (u : Fin 16) : Rect S2x8x64x512 :=
  Rect.unit (s := S2x8x64x512) (k0_off3 k (BitVec.ofNat 32 u.val)) S1x1x64x512.size (k0_off3_inb k u)
abbrev secondTab (k : Fin k0_t1_loop.trips) (u : Fin 16) : Rect S2x8x64x512 :=
  Rect.unit (s := S2x8x64x512) (k0_off4 k (BitVec.ofNat 32 u.val)) S1x1x64x512.size (k0_off4_inb k u)

variable (x0 x1 x2 : Vec F S4096x128 .bf16) (x3 : Vec F S2x8x64x512 .f32)

def yBlk (k : Fin k0_t1_loop.trips) (u : Fin 16) : FVec F S64x128 .bf16 :=
  block (View.ld x0 (rowsRect k u)) (View.ld x1 (keysRect k u)) (View.ld x2 (keysRect k u)) (View.ld x3 (firstTab k u)) (View.ld x3 (secondTab k u))

/-- The tile: row by row. -/
def tile : Vec F S4096x128 .bf16 := fun y =>
  yBlk x0 x1 x2 x3 ⟨(y 0).val / 1024, by have h : (y 0).val < 4096 := (y 0).isLt; show (y 0).val / 1024 < 4; omega⟩
    ⟨(y 0).val / 64 % 16, Nat.mod_lt _ (by decide)⟩ (ix2 ⟨(y 0).val % 64, Nat.mod_lt _ (by decide)⟩ (y 1))

theorem off1_eq : ∀ (k : Fin k0_t1_loop.trips) (u : Fin 16), k0_off1 k (BitVec.ofNat 32 u.val) = ![(16 * k.val + u.val) * 64, 0] := by
  decide +kernel
theorem off2_eq : ∀ (k : Fin k0_t1_loop.trips) (u : Fin 16), k0_off2 k (BitVec.ofNat 32 u.val) = ![min 56 (16 * k.val + u.val - 4) * 64, 0] := by
  decide +kernel
theorem off3_eq : ∀ (k : Fin k0_t1_loop.trips) (u : Fin 16), k0_off3 k (BitVec.ofNat 32 u.val) = ![0, min 56 (16 * k.val + u.val - 4) + 7 - (16 * k.val + u.val), 0, 0] := by
  decide +kernel
theorem off4_eq : ∀ (k : Fin k0_t1_loop.trips) (u : Fin 16), k0_off4 k (BitVec.ofNat 32 u.val) = ![1, min 56 (16 * k.val + u.val - 4) + 7 - (16 * k.val + u.val), 0, 0] := by
  decide +kernel

theorem tile_emb (k : Fin k0_t1_loop.trips) (u : Fin 16) (x : (rowsRect k u).shape.Idx) :
    tile x0 x1 x2 x3 ((rowsRect k u).emb x) = yBlk x0 x1 x2 x3 k u x := by
  have e0 : (x 0).val < 64 := (x 0).isLt
  have hk : k.val < 4 := k.isLt
  have v0 : ((rowsRect k u).emb x 0).val = (16 * k.val + u.val) * 64 + 1 * (x 0).val := by
    refine (Rect.idx_unit_val _ _ _ _ _).trans ?_
    simp [off1_eq]
  have v1 : ((rowsRect k u).emb x 1).val = (x 1).val := by
    refine (Rect.idx_unit_val _ _ _ _ _).trans ?_
    simp [off1_eq]
  have h1 : ∀ h, (⟨((rowsRect k u).emb x 0).val / 1024, h⟩ : Fin k0_t1_loop.trips) = k := fun h => Fin.ext (by simp only [v0]; omega)
  have h2 : ∀ h, (⟨((rowsRect k u).emb x 0).val / 64 % 16, h⟩ : Fin 16) = u := fun h => Fin.ext (by simp only [v0]; omega)
  unfold tile
  rw [h1, h2]
  refine congrArg _ (funext fun a => ?_)
  fin_cases a
  · exact Fin.ext (by show ((rowsRect k u).emb x 0).val % 64 = (x 0).val; omega)
  · exact Fin.ext v1

/-- A stored row, wherever it holds an index, has the tile's entry. -/
theorem tile_at (k : Fin k0_t1_loop.trips) (u : Fin 16) (w : (rowsRect k u).shape.Idx → Elt F .bf16) (hw : w = yBlk x0 x1 x2 x3 k u) (y : S4096x128.Idx) :
    View.RectAt y (rowsRect k u) w (tile x0 x1 x2 x3 y) := by
  intro x hx
  rw [← hx, hw, tile_emb]

end Cert.Kernel30Ideal.Near

end
-- ==== Proof.Near.Body.lean ====
module

public import proofs.«01_k».proof.Proof.Near.Block

@[expose] public section

set_option maxRecDepth 16384

noncomputable section

namespace Cert.Kernel30Ideal.Near

open Idealize.ShloMosaic Idealize.ShloMosaic.TcCoe Idealize.ShloMosaic.Tactic
open Cert.Kernel30Ideal Cert.Kernel30Ideal.Gen

variable {F : FTy → Type} [FloatOps F]

set_option maxHeartbeats 4000000 in
/-- One trip's stores: sixteen rows of the tile. -/
theorem trip_at (c : Dev nD) (i : grid0.Coords) (arg1 : Memref sig .tc .vmem S4096x128 .bf16) (harg1 : arg1.IsWhole) (arg2 : Memref sig .tc .vmem S4096x128 .bf16) (harg2 : arg2.IsWhole) (arg3 : Memref sig .tc .vmem S4096x128 .bf16) (harg3 : arg3.IsWhole) (arg4 : Memref sig .tc .vmem S2x8x64x512 .f32) (harg4 : arg4.IsWhole) (arg5 : Memref sig .tc .vmem S4096x128 .bf16) (harg5 : arg5.IsWhole)
    (x0 x1 x2 : Vec F S4096x128 .bf16) (x3 : Vec F S2x8x64x512 .f32)
    (X1 : BufTy.Contents (Elt F) arg1.view.ty) (X2 : BufTy.Contents (Elt F) arg2.view.ty) (X3 : BufTy.Contents (Elt F) arg3.view.ty) (X4 : BufTy.Contents (Elt F) arg4.view.ty)
    (h1 : arg1.view.read (Elt F) X1 = x0) (h2 : arg2.view.read (Elt F) X2 = x1) (h3 : arg3.view.read (Elt F) X3 = x2) (h4 : arg4.view.read (Elt F) X4 = x3)
    (k : Fin k0_t1_loop.trips) (y : S4096x128.Idx) :
    View.AllAt (tripL_k0_t1 (F := F) Variants.none c none i arg1 harg1 arg2 harg2 arg3 harg3 arg4 harg4 arg5 harg5 X1 X2 X3 X4 k) y (tile x0 x1 x2 x3 y) := by
  unfold tripL_k0_t1 trip_k0_t1
  refine View.allAt_cons _ _ _ (tile_at x0 x1 x2 x3 k 15 _ (by sl_unfold_words; simp only [View.readAt_eq_ld, h1, h2, h3, h4]; rfl) y) ?_
  refine View.allAt_cons _ _ _ (tile_at x0 x1 x2 x3 k 14 _ (by sl_unfold_words; simp only [View.readAt_eq_ld, h1, h2, h3, h4]; rfl) y) ?_
  refine View.allAt_cons _ _ _ (tile_at x0 x1 x2 x3 k 13 _ (by sl_unfold_words; simp only [View.readAt_eq_ld, h1, h2, h3, h4]; rfl) y) ?_
  refine View.allAt_cons _ _ _ (tile_at x0 x1 x2 x3 k 12 _ (by sl_unfold_words; simp only [View.readAt_eq_ld, h1, h2, h3, h4]; rfl) y) ?_
  refine View.allAt_cons _ _ _ (tile_at x0 x1 x2 x3 k 11 _ (by sl_unfold_words; simp only [View.readAt_eq_ld, h1, h2, h3, h4]; rfl) y) ?_
  refine View.allAt_cons _ _ _ (tile_at x0 x1 x2 x3 k 10 _ (by sl_unfold_words; simp only [View.readAt_eq_ld, h1, h2, h3, h4]; rfl) y) ?_
  refine View.allAt_cons _ _ _ (tile_at x0 x1 x2 x3 k 9 _ (by sl_unfold_words; simp only [View.readAt_eq_ld, h1, h2, h3, h4]; rfl) y) ?_
  refine View.allAt_cons _ _ _ (tile_at x0 x1 x2 x3 k 8 _ (by sl_unfold_words; simp only [View.readAt_eq_ld, h1, h2, h3, h4]; rfl) y) ?_
  refine View.allAt_cons _ _ _ (tile_at x0 x1 x2 x3 k 7 _ (by sl_unfold_words; simp only [View.readAt_eq_ld, h1, h2, h3, h4]; rfl) y) ?_
  refine View.allAt_cons _ _ _ (tile_at x0 x1 x2 x3 k 6 _ (by sl_unfold_words; simp only [View.readAt_eq_ld, h1, h2, h3, h4]; rfl) y) ?_
  refine View.allAt_cons _ _ _ (tile_at x0 x1 x2 x3 k 5 _ (by sl_unfold_words; simp only [View.readAt_eq_ld, h1, h2, h3, h4]; rfl) y) ?_
  refine View.allAt_cons _ _ _ (tile_at x0 x1 x2 x3 k 4 _ (by sl_unfold_words; simp only [View.readAt_eq_ld, h1, h2, h3, h4]; rfl) y) ?_
  refine View.allAt_cons _ _ _ (tile_at x0 x1 x2 x3 k 3 _ (by sl_unfold_words; simp only [View.readAt_eq_ld, h1, h2, h3, h4]; rfl) y) ?_
  refine View.allAt_cons _ _ _ (tile_at x0 x1 x2 x3 k 2 _ (by sl_unfold_words; simp only [View.readAt_eq_ld, h1, h2, h3, h4]; rfl) y) ?_
  refine View.allAt_cons _ _ _ (tile_at x0 x1 x2 x3 k 1 _ (by sl_unfold_words; simp only [View.readAt_eq_ld, h1, h2, h3, h4]; rfl) y) ?_
  refine View.allAt_cons _ _ _ (tile_at x0 x1 x2 x3 k 0 _ (by sl_unfold_words; simp only [View.readAt_eq_ld, h1, h2, h3, h4]; rfl) y) ?_
  exact View.allAt_nil _ _

/-- The stores of the trips before `n`. -/
theorem trips_at (c : Dev nD) (i : grid0.Coords) (arg1 : Memref sig .tc .vmem S4096x128 .bf16) (harg1 : arg1.IsWhole) (arg2 : Memref sig .tc .vmem S4096x128 .bf16) (harg2 : arg2.IsWhole) (arg3 : Memref sig .tc .vmem S4096x128 .bf16) (harg3 : arg3.IsWhole) (arg4 : Memref sig .tc .vmem S2x8x64x512 .f32) (harg4 : arg4.IsWhole) (arg5 : Memref sig .tc .vmem S4096x128 .bf16) (harg5 : arg5.IsWhole)
    (x0 x1 x2 : Vec F S4096x128 .bf16) (x3 : Vec F S2x8x64x512 .f32)
    (X1 : BufTy.Contents (Elt F) arg1.view.ty) (X2 : BufTy.Contents (Elt F) arg2.view.ty) (X3 : BufTy.Contents (Elt F) arg3.view.ty) (X4 : BufTy.Contents (Elt F) arg4.view.ty)
    (h1 : arg1.view.read (Elt F) X1 = x0) (h2 : arg2.view.read (Elt F) X2 = x1) (h3 : arg3.view.read (Elt F) X3 = x2) (h4 : arg4.view.read (Elt F) X4 = x3)
    (y : S4096x128.Idx) : ∀ n : ℕ, n ≤ k0_t1_loop.trips →
    View.AllAt (pb_k0_t1 (F := F) Variants.none c none i arg1 harg1 arg2 harg2 arg3 harg3 arg4 harg4 arg5 harg5 X1 X2 X3 X4 n) y (tile x0 x1 x2 x3 y)
  | 0, _ => View.allAt_nil _ _
  | n + 1, h => by
    rw [pb_k0_t1_succ Variants.none c none i arg1 harg1 arg2 harg2 arg3 harg3 arg4 harg4 arg5 harg5 X1 X2 X3 X4 ⟨n, h⟩]
    intro p hp
    rcases List.mem_append.mp hp with hp | hp
    · exact trip_at c i arg1 harg1 arg2 harg2 arg3 harg3 arg4 harg4 arg5 harg5 x0 x1 x2 x3 X1 X2 X3 X4 h1 h2 h3 h4 ⟨n, h⟩ y p hp
    · exact trips_at c i arg1 harg1 arg2 harg2 arg3 harg3 arg4 harg4 arg5 harg5 x0 x1 x2 x3 X1 X2 X3 X4 h1 h2 h3 h4 y n (Nat.le_of_succ_le h) p hp

/-- The body leaves the tile. -/
theorem left (c : Dev nD) (i : grid0.Coords) (arg1 : Memref sig .tc .vmem S4096x128 .bf16) (harg1 : arg1.IsWhole) (arg2 : Memref sig .tc .vmem S4096x128 .bf16) (harg2 : arg2.IsWhole) (arg3 : Memref sig .tc .vmem S4096x128 .bf16) (harg3 : arg3.IsWhole) (arg4 : Memref sig .tc .vmem S2x8x64x512 .f32) (harg4 : arg4.IsWhole) (arg5 : Memref sig .tc .vmem S4096x128 .bf16) (harg5 : arg5.IsWhole)
    (x0 x1 x2 : Vec F S4096x128 .bf16) (x3 : Vec F S2x8x64x512 .f32) :
    out0_A_4 c i arg1 harg1 arg2 harg2 arg3 harg3 arg4 harg4 arg5 harg5 x0 x1 x2 x3 = tile x0 x1 x2 x3 := by
  unfold out0_A_4
  refine (View.read_writes_eq_canon _ _ _ (cover0_A_4 c i arg1 harg1 arg2 harg2 arg3 harg3 arg4 harg4 arg5 harg5 x0 x1 x2 x3)).trans (funext fun y => ?_)
  refine View.canon_eq_of_allAt _ _ _ (cover0_A_4 c i arg1 harg1 arg2 harg2 arg3 harg3 arg4 harg4 arg5 harg5 x0 x1 x2 x3 y) ?_
  exact trips_at c i arg1 harg1 arg2 harg2 arg3 harg3 arg4 harg4 arg5 harg5 x0 x1 x2 x3 _ _ _ _ (harg1.read_unread _) (harg2.read_unread _) (harg3.read_unread _) (harg4.read_unread _) y _ (le_refl _)

end Cert.Kernel30Ideal.Near

end
-- ==== Proof.Near.Spec.lean ====
/-
  The neighbourhood attention's forward pass over the extended reals, entry by entry. The queries, keys and values lie side
  by side in one array of 4096 rows, a grid of 64 by 64; each of the eight heads has 64 lanes of each.
-/
module

public import Idealize.ShloMosaic.PureOps.Ideal
public import Idealize.ShloMosaic.Lib.Pointwise

@[expose] public section

noncomputable section

namespace Cert.Near

open Idealize.ShloMosaic

/-- The scale of the queries. -/
def eighth : EReal := Ideal.ofBits FTy.f32 0x3E000000#32

/-- One score: the scaled product of a query and a key, with its entry of the table. -/
def score (q k : Fin 64 → EReal) (b : EReal) : EReal := ∑ d, q d * eighth * k d + b

/-- A row's largest score. -/
def peak (s : Fin 512 → EReal) : EReal := Finset.univ.fold max ⊥ s

/-- The values weighted by a row of scores. -/
def attend (s v : Fin 512 → EReal) : EReal :=
  ∑ c, Ideal.div (Ideal.exp (s c - peak s)) (∑ n, Ideal.exp (s n - peak s)) * v c

/-- The first of the eight rows of keys around a row of the grid. -/
def first (R : ℕ) : ℕ := min 56 (R - 4)

/-- One output: row `r`, lane `n` of the heads' 512. -/
def near (a : (⟨2, ![4096, 1536]⟩ : Shape).Idx → EReal) (t : (⟨4, ![8, 8, 64, 512]⟩ : Shape).Idx → EReal) (r : Fin 4096) (n : Fin 512) : EReal :=
  attend
    (fun c => score
      (fun d => a (ix2 r ⟨n.val / 64 * 64 + d.val, by omega⟩))
      (fun d => a (ix2 ⟨first (r.val / 64) * 64 + c.val, by unfold first; omega⟩ ⟨512 + (n.val / 64 * 64 + d.val), by omega⟩))
      (t (ix4 ⟨n.val / 64, by omega⟩ ⟨first (r.val / 64) + 7 - r.val / 64, by unfold first; omega⟩ ⟨r.val % 64, by omega⟩ c)))
    (fun c => a (ix2 ⟨first (r.val / 64) * 64 + c.val, by unfold first; omega⟩ ⟨1024 + n.val, by omega⟩))

theorem score_congr {q q' k k' : Fin 64 → EReal} {b b' : EReal} (hq : ∀ d, q d = q' d) (hk : ∀ d, k d = k' d) (hb : b = b') :
    score q k b = score q' k' b' := by
  rw [funext hq, funext hk, hb]

theorem attend_congr {s s' v v' : Fin 512 → EReal} (hs : ∀ c, s c = s' c) (hv : ∀ c, v c = v' c) : attend s v = attend s' v' := by
  rw [funext hs, funext hv]

/-- The two spellings of the scale. -/
theorem eighth_half : Ideal.ofBits FTy.bf16 0x3E00#16 = eighth := by
  simp [eighth, Ideal.ofBits, Ideal.ieee]
  rw [← EReal.coe_mul, ← EReal.coe_mul]
  norm_num

theorem neg_inf : Ideal.ofBits FTy.f32 0xFF800000#32 = ⊥ := by
  simp [Ideal.ofBits, Ideal.ieee]

end Cert.Near

end
-- ==== Proof.Near.KernelValue.lean ====
/-
  What the neighbourhood attention's forward call leaves, entry by entry over the extended reals: one row of the grid, then
  the tile, then the array.
-/
module

public import proofs.«01_k».proof.Proof.Near.Body
public import proofs.«01_k».proof.Proof.Near.Spec
public import proofs.«01_k».proof.Proof.Band.Words
public import Idealize.ShloMosaic.PureOps.Ideal
public import Idealize.ShloMosaic.Lib.Pipeline.ValueKit
public import Idealize.ShloMosaic.Lib.Tactic.CleanTypes

@[expose] public section

set_option maxRecDepth 16384

noncomputable section

namespace Cert.Kernel30Ideal.Near

open Idealize.ShloMosaic Idealize.ShloMosaic.TcCoe Idealize.ShloMosaic.WordCmp
open Cert.Kernel30Ideal Cert.Kernel30Ideal.Gen
open Cert.Near (score attend peak first near eighth)

/-- A choice by a comparison of a lane with 64. -/
theorem select_first {α : Type} (l : Fin 128) (x y : α) :
    Scalar.select (IntOp.cmpi .slt (BitVec.ofNat 32 l.val) 64#32) x y = if l.val < 64 then x else y := by
  have h : IntOp.cmpi .slt (BitVec.ofNat 32 l.val) 64#32 = 1 ↔ l.val < 64 := by
    rw [cmpi_slt_ofNat (by omega) (by omega)]
    exact ofBool_decide_eq_one_iff _
  unfold Scalar.select
  exact if_congr h rfl rfl

theorem sum_first (f : Fin 128 → EReal) : ∑ x : Fin 128, (if x.val < 64 then f x else 0) = ∑ d : Fin 64, f ⟨d.val, by omega⟩ := by
  refine (Fin.sum_univ_add (a := 64) (b := 64) (fun x : Fin 128 => if x.val < 64 then f x else 0)).trans ?_
  refine (congrArg₂ (fun a b : EReal => a + b) (Finset.sum_congr rfl fun d _ => if_pos d.isLt)
    (Finset.sum_eq_zero fun d _ => if_neg (by show ¬(64 + d.val < 64); omega))).trans (add_zero _)

theorem sum_second (f : Fin 128 → EReal) : ∑ x : Fin 128, (if x.val < 64 then 0 else f x) = ∑ d : Fin 64, f ⟨64 + d.val, by omega⟩ := by
  refine (Fin.sum_univ_add (a := 64) (b := 64) (fun x : Fin 128 => if x.val < 64 then 0 else f x)).trans ?_
  refine (congrArg₂ (fun a b : EReal => a + b) (Finset.sum_eq_zero fun d _ => if_pos d.isLt)
    (Finset.sum_congr rfl fun d _ => if_neg (by show ¬(64 + d.val < 64); omega))).trans (zero_add _)

variable (q : Vec Ideal S64x128 .bf16) (k v : Vec Ideal S512x128 .bf16) (b0 b1 : Vec Ideal S1x1x64x512 .f32)

theorem scores_first (i : Fin 64) (c : Fin 512) : scores (F := Ideal) q k b0 b1 (ix2 ⟨i.val, by omega⟩ c) =
    score (fun d => q (ix2 i ⟨d.val, by omega⟩)) (fun d => k (ix2 c ⟨d.val, by omega⟩)) (b0 (ix4 0 0 i c)) := by
  pointwise [scores, stack, reduced, firstHead]
  simp only [select_first, dif_pos i.isLt, Cert.Near.eighth_half, ite_mul, zero_mul]
  rw [sum_first]
  rfl

theorem scores_second (i : Fin 64) (c : Fin 512) : scores (F := Ideal) q k b0 b1 (ix2 ⟨64 + i.val, by omega⟩ c) =
    score (fun d => q (ix2 i ⟨64 + d.val, by omega⟩)) (fun d => k (ix2 c ⟨64 + d.val, by omega⟩)) (b1 (ix4 0 0 i c)) := by
  have e : ∀ h, (⟨64 + i.val - 64, h⟩ : Fin 64) = i := fun h => Fin.ext (by show 64 + i.val - 64 = i.val; omega)
  pointwise [scores, stack, reduced, firstHead]
  simp only [select_first, dif_neg (show ¬(64 + i.val < 64) by omega), Cert.Near.eighth_half, ite_mul, zero_mul, e]
  rw [sum_second]
  rfl

theorem weighted (x : FVec Ideal S128x512 .f32) (i l : Fin 128) :
    mixed (F := Ideal) (overSum (expo x)) v (ix2 i l) = attend (fun c => x (ix2 i c)) (fun c => v (ix2 c l)) := by
  have he (c : Fin 512) : expo (F := Ideal) x (ix2 i c) = Ideal.exp (x (ix2 i c) - peak fun c => x (ix2 i c)) := by
    pointwise [expo, alongRow]
    rw [Cert.Near.neg_inf]
    rfl
  generalize expo (F := Ideal) x = e at he ⊢
  pointwise [mixed, overSum, alongRow]
  simp only [he]
  rfl

theorem block_at (i : Fin 64) (l : Fin 128) : block (F := Ideal) q k v b0 b1 (ix2 i l) =
    attend (fun c => score (fun d => q (ix2 i ⟨l.val / 64 * 64 + d.val, by omega⟩)) (fun d => k (ix2 c ⟨l.val / 64 * 64 + d.val, by omega⟩))
      (if l.val < 64 then b0 (ix4 0 0 i c) else b1 (ix4 0 0 i c))) (fun c => v (ix2 c l)) := by
  unfold block
  have hw := weighted v (scores (F := Ideal) q k b0 b1)
  generalize mixed (F := Ideal) (overSum (expo (scores (F := Ideal) q k b0 b1))) v = w at hw ⊢
  pointwise [unstack, firstHead]
  rw [select_first]
  split_ifs with h
  · have hl : l.val / 64 = 0 := by omega
    rw [hw]
    simp only [scores_first, hl, Nat.zero_mul, Nat.zero_add]
  · have hl : l.val / 64 = 1 := by omega
    rw [hw]
    simp only [scores_second, hl, Nat.one_mul]

/-! ## The tile -/

section Tile

variable (x0 x1 x2 : Vec Ideal S4096x128 .bf16) (x3 : Vec Ideal S2x8x64x512 .f32)

theorem tile_value (y : Fin 4096) (l : Fin 128) : tile (F := Ideal) x0 x1 x2 x3 (ix2 y l) =
    attend (fun c => score (fun d => x0 (ix2 y ⟨l.val / 64 * 64 + d.val, by omega⟩))
      (fun d => x1 (ix2 ⟨first (y.val / 64) * 64 + c.val, by unfold first; omega⟩ ⟨l.val / 64 * 64 + d.val, by omega⟩))
      (x3 (ix4 ⟨l.val / 64, by omega⟩ ⟨first (y.val / 64) + 7 - y.val / 64, by unfold first; omega⟩ ⟨y.val % 64, by omega⟩ c)))
      (fun c => x2 (ix2 ⟨first (y.val / 64) * 64 + c.val, by unfold first; omega⟩ l)) := by
  obtain ⟨k, u, i, hy⟩ : ∃ (k : Fin k0_t1_loop.trips) (u : Fin 16) (i : Fin 64), y.val = (16 * k.val + u.val) * 64 + i.val :=
    ⟨⟨y.val / 1024, by show y.val / 1024 < 4; omega⟩, ⟨y.val / 64 % 16, by omega⟩, ⟨y.val % 64, by omega⟩, by
      show y.val = (16 * (y.val / 1024) + y.val / 64 % 16) * 64 + y.val % 64; omega⟩
  have hk : k.val < 4 := k.isLt
  have hR : y.val / 64 = 16 * k.val + u.val := by omega
  have hi : y.val % 64 = i.val := by omega
  have rows (r : Fin 64) (d : Fin 128) (h) : View.ld x0 (rowsRect k u) (ix2 r d) = x0 (ix2 ⟨(16 * k.val + u.val) * 64 + r.val, h⟩ d) := by
    refine congrArg x0 (funext fun b => ?_)
    fin_cases b <;> refine Fin.ext ((Rect.idx_unit_val _ _ _ _ _).trans ?_) <;> simp [off1_eq]
  have keys (x : Vec Ideal S4096x128 .bf16) (r : Fin 512) (d : Fin 128) (h) : View.ld x (keysRect k u) (ix2 r d) = x (ix2 ⟨first (16 * k.val + u.val) * 64 + r.val, h⟩ d) := by
    refine congrArg x (funext fun b => ?_)
    fin_cases b <;> refine Fin.ext ((Rect.idx_unit_val _ _ _ _ _).trans ?_) <;> simp [off2_eq, first]
  have tab0 (r : Fin 64) (n : Fin 512) (h) : View.ld x3 (firstTab k u) (ix4 0 0 r n) = x3 (ix4 0 ⟨first (16 * k.val + u.val) + 7 - (16 * k.val + u.val), h⟩ r n) := by
    refine congrArg x3 (funext fun b => ?_)
    fin_cases b <;> refine Fin.ext ((Rect.idx_unit_val _ _ _ _ _).trans ?_) <;> simp [off3_eq, first]
  have tab1 (r : Fin 64) (n : Fin 512) (h) : View.ld x3 (secondTab k u) (ix4 0 0 r n) = x3 (ix4 1 ⟨first (16 * k.val + u.val) + 7 - (16 * k.val + u.val), h⟩ r n) := by
    refine congrArg x3 (funext fun b => ?_)
    fin_cases b <;> refine Fin.ext ((Rect.idx_unit_val _ _ _ _ _).trans ?_) <;> simp [off4_eq, first]
  have hrow : (ix2 y l : S4096x128.Idx) = (rowsRect k u).emb (ix2 i l) := by
    funext b
    fin_cases b <;> refine Fin.ext (Eq.trans ?_ (Rect.idx_unit_val _ _ _ _ _).symm) <;> simp [off1_eq]
    exact hy
  rw [hrow, tile_emb]
  unfold yBlk
  rw [block_at]
  simp only [hR, hi]
  have ey : ∀ h, (⟨(16 * k.val + u.val) * 64 + i.val, h⟩ : Fin 4096) = y := fun h => Fin.ext hy.symm
  refine Cert.Near.attend_congr (fun c => ?_) (fun c => keys x2 c l _)
  refine Cert.Near.score_congr (fun d => (rows i _ (by omega)).trans (by rw [ey])) (fun d => keys x1 c _ _) ?_
  split_ifs with h
  · refine (tab0 i c (by unfold first; omega)).trans (congrArg (fun a => x3 (ix4 a _ i c)) (Fin.ext ?_))
    show 0 = l.val / 64
    omega
  · refine (tab1 i c (by unfold first; omega)).trans (congrArg (fun a => x3 (ix4 a _ i c)) (Fin.ext ?_))
    show 1 = l.val / 64
    omega

end Tile

/-! ## The array -/

theorem index_0 : ∀ t : Fin cfg0.N, win0_0.index t = ![0, t.val] := (by decide +kernel : ∀ t : Fin grid0.N, _)
theorem index_1 : ∀ t : Fin cfg0.N, win0_1.index t = ![0, 4 + t.val] := (by decide +kernel : ∀ t : Fin grid0.N, _)
theorem index_2 : ∀ t : Fin cfg0.N, win0_2.index t = ![0, 8 + t.val] := (by decide +kernel : ∀ t : Fin grid0.N, _)
theorem index_3 : ∀ t : Fin cfg0.N, win0_3.index t = ![t.val, 0, 0, 0] := (by decide +kernel : ∀ t : Fin grid0.N, _)
theorem index_4 : ∀ t : Fin cfg0.N, win0_4.index t = ![0, t.val] := (by decide +kernel : ∀ t : Fin grid0.N, _)

/-- The outputs by rows and lanes. -/
def outputs (a : S4096x1536.Idx → EReal) (t : S8x8x64x512.Idx → EReal) : S4096x512.Idx → EReal := fun i => near a t (i 0) (i 1)

variable (m : (ℓ : Loc nD τ sig) → Buf (Elt Ideal) ℓ) (c : Dev nD)

theorem final : (dats m 0 c).arrAt 4 cfg0.N = outputs (V m c main_arg0) (V m c main_arg1) := by
  refine (dats m 0 c).arrAt_eq_of_covers 4 _ (by decide +kernel) (fun t hf y => ?_)
  have ht : t.val < 4 := t.isLt
  blk_simp
  rw [after0_4]
  unfold outsAt0
  rw [Near.left]
  obtain ⟨r, l, rfl⟩ : ∃ (r : Fin 4096) (l : Fin 128), y = ix2 r l := ⟨y 0, y 1, funext fun b => by fin_cases b <;> rfl⟩
  rw [tile_value]
  rw [show ((View.whole main_v0).slice (win0_4.rect t)).emb (ix2 r l) = ix2 r ⟨t.val * 128 + l.val, by omega⟩ by blk_ext [index_4]]
  show _ = near _ _ r ⟨t.val * 128 + l.val, _⟩
  unfold near
  have hl : (t.val * 128 + l.val) / 64 = 2 * t.val + l.val / 64 := by omega
  refine Cert.Near.attend_congr (fun n => ?_) (fun n => ?_)
  · refine Cert.Near.score_congr (fun d => ?_) (fun d => ?_) ?_
    · blk_simp [iblk]
      refine congrArg _ ?_
      blk_ext [index_0]
      try omega
    · blk_simp [iblk]
      refine congrArg _ ?_
      blk_ext [index_1]
      try omega
    · blk_simp [iblk]
      refine congrArg _ ?_
      blk_ext [index_3]
      try omega
  · blk_simp [iblk]
    refine congrArg _ ?_
    blk_ext [index_2]
    try omega

end Cert.Kernel30Ideal.Near

end
-- ==== Proof.Near.RefValue.lean ====
/-
  What the reference's neighbourhood attention returns, entry by entry over the extended reals, and that the call returns
  the same.
-/
module

public import proofs.«01_k».proof.Defs
public import proofs.«01_k».proof.Proof.Near.KernelValue
public import proofs.«01_k».proof.Proof.Gen.Reference30Ideal.Run

@[expose] public section

set_option maxRecDepth 16384

noncomputable section

namespace Cert.Reference30Ideal.Near

open Idealize.ShloMosaic Idealize.ShloMosaic.TcCoe
open Cert.Reference30Ideal Cert.Reference30Ideal.Gen Cert.Reference30Ideal.Value
open Cert.Near (score attend peak first near eighth)

/-- Rows of the grid taken at the start words, read signed and kept inside. -/
theorem take_rows (x : S8x64x64x64.Idx → EReal) (w : IVec S64x8x1 32) (h : Fin 8) (R : Fin 64) (i : Fin 8) (a d : Fin 64) :
    Host.gather gather_S8x64x64x64_S64x8x1_S8x64x8x64x64_034_1_n_n_1_2_816464 x w (ix5 h R i a d) =
      x (ix4 h ⟨min (w (ix3 R i 0)).toInt.toNat 63, by omega⟩ a d) := by
  let D := gather_S8x64x64x64_S64x8x1_S8x64x8x64x64_034_1_n_n_1_2_816464
  have off (b : Fin 4) (q : Fin 5) (hb : b ∈ D.sKept) (hs : b ∉ D.startIndexMap) (hq : D.offsetDims[D.sKept.idxOf b]'(by rw [D.offset_length]; exact List.idxOf_lt_length_iff.2 hb) = q) :
      D.start (ix5 h R i a d) w b + D.batchCoord (ix5 h R i a d) b + D.offCoord (ix5 h R i a d) b = (ix5 h R i a d q).val := by
    rw [D.batchCoord_eq_zero _ _ List.not_mem_nil]
    unfold GatherDims.start GatherDims.offCoord
    rw [dif_neg hs, dif_pos hb, hq]
    omega
  unfold Host.gather
  refine congrArg x (funext fun b => Fin.ext ?_)
  show D.start (ix5 h R i a d) w b + D.batchCoord (ix5 h R i a d) b + D.offCoord (ix5 h R i a d) b = _
  obtain rfl | rfl | rfl | rfl : b = 0 ∨ b = 1 ∨ b = 2 ∨ b = 3 := by revert b; decide
  · exact off 0 0 (by decide +kernel) (by decide +kernel) (by decide +kernel)
  · rw [D.batchCoord_eq_zero _ _ List.not_mem_nil]
    unfold GatherDims.start GatherDims.offCoord
    rw [dif_pos (show (1 : Fin 4) ∈ D.startIndexMap from List.mem_singleton.mpr rfl), dif_neg (show (1 : Fin 4) ∉ D.sKept by decide +kernel)]
    have hsi : D.siIdx (ix5 h R i a d) ⟨List.idxOf (1 : Fin 4) D.startIndexMap, List.idxOf_lt_length_iff.2 (List.mem_singleton.mpr rfl)⟩ = ix3 R i 0 := by
      funext b
      fin_cases b <;> rfl
    rw [hsi]
    rfl
  · exact off 2 3 (by decide +kernel) (by decide +kernel) (by decide +kernel)
  · exact off 3 4 (by decide +kernel) (by decide +kernel) (by decide +kernel)

theorem take_table (x : S8x8x64x512.Idx → EReal) (w : IVec S64x1 32) (h : Fin 8) (R : Fin 64) (a : Fin 64) (n : Fin 512) :
    Host.gather gather_S8x8x64x512_S64x1_S8x64x64x512_023_1_n_n_1_1_8164512 x w (ix4 h R a n) =
      x (ix4 h ⟨min (w (ix2 R 0)).toInt.toNat 7, by omega⟩ a n) := by
  let D := gather_S8x8x64x512_S64x1_S8x64x64x512_023_1_n_n_1_1_8164512
  have off (b : Fin 4) (q : Fin 4) (hb : b ∈ D.sKept) (hs : b ∉ D.startIndexMap) (hq : D.offsetDims[D.sKept.idxOf b]'(by rw [D.offset_length]; exact List.idxOf_lt_length_iff.2 hb) = q) :
      D.start (ix4 h R a n) w b + D.batchCoord (ix4 h R a n) b + D.offCoord (ix4 h R a n) b = (ix4 h R a n q).val := by
    rw [D.batchCoord_eq_zero _ _ List.not_mem_nil]
    unfold GatherDims.start GatherDims.offCoord
    rw [dif_neg hs, dif_pos hb, hq]
    omega
  unfold Host.gather
  refine congrArg x (funext fun b => Fin.ext ?_)
  show D.start (ix4 h R a n) w b + D.batchCoord (ix4 h R a n) b + D.offCoord (ix4 h R a n) b = _
  obtain rfl | rfl | rfl | rfl : b = 0 ∨ b = 1 ∨ b = 2 ∨ b = 3 := by revert b; decide
  · exact off 0 0 (by decide +kernel) (by decide +kernel) (by decide +kernel)
  · rw [D.batchCoord_eq_zero _ _ List.not_mem_nil]
    unfold GatherDims.start GatherDims.offCoord
    rw [dif_pos (show (1 : Fin 4) ∈ D.startIndexMap from List.mem_singleton.mpr rfl), dif_neg (show (1 : Fin 4) ∉ D.sKept by decide +kernel)]
    have hsi : D.siIdx (ix4 h R a n) ⟨List.idxOf (1 : Fin 4) D.startIndexMap, List.idxOf_lt_length_iff.2 (List.mem_singleton.mpr rfl)⟩ = ix2 R 0 := by
      funext b
      fin_cases b <;> rfl
    rw [hsi]
    rfl
  · exact off 2 2 (by decide +kernel) (by decide +kernel) (by decide +kernel)
  · exact off 3 3 (by decide +kernel) (by decide +kernel) (by decide +kernel)

/-! ## The reference in named steps -/

/-- The rows of keys around each row of the grid, first as start words. -/
def rowFirst : IVec S64 32 := minsi (broadcastInDim S64 ![] bcast_S_S64 (id (constantI S_ 32 56#32))) (maxsi (broadcastInDim S64 ![] bcast_S_S64 (id (constantI S_ 32 0#32))) (subi (iotaInDim S64 32 0) (broadcastInDim S64 ![] bcast_S_S64 (constantI S_ 32 4#32))))
def rowSum : IVec S64x8 32 := addi (broadcastInDim S64x8 ![0, 1] bcast_S64x1_S64x8_0_1 (broadcastInDim S64x1 ![0] bcast_S64_S64x1_0 rowFirst)) (broadcastInDim S64x8 ![0, 1] bcast_S1x8_S64x8_0_1 (broadcastInDim S1x8 ![1] bcast_S8_S1x8_1 (iotaInDim S8 32 0)))
def rowWords : IVec S64x8x1 32 := broadcastInDim S64x8x1 ![0, 1] bcast_S64x8_S64x8x1_0_1 (select (cmpi .slt rowSum (broadcastInDim S64x8 ![] bcast_S_S64x8 (constantI S_ 32 0#32))) (addi rowSum (broadcastInDim S64x8 ![] bcast_S_S64x8 (constantI S_ 32 64#32))) rowSum)

/-- The rows of the table, as start words. -/
def tabSum : IVec S64 32 := addi (subi (shapeCast S64 (extractStridedSlice S64x1 ![0, 0] rowSum slices_S64x8_S64x1_0_0) shapeCasts_S64x1_S64) (iotaInDim S64 32 0)) (broadcastInDim S64 ![] bcast_S_S64 (constantI S_ 32 7#32))
def tabWords : IVec S64x1 32 := broadcastInDim S64x1 ![0] bcast_S64_S64x1_0 (select (cmpi .slt tabSum (broadcastInDim S64 ![] bcast_S_S64 (constantI S_ 32 0#32))) (addi tabSum (broadcastInDim S64 ![] bcast_S_S64 (constantI S_ 32 8#32))) tabSum)

theorem row_word : ∀ (R : Fin 64) (i : Fin 8), min (rowWords (ix3 R i 0)).toInt.toNat 63 = first R.val + i.val := by decide +kernel
theorem tab_word : ∀ R : Fin 64, min (tabWords (ix2 R 0)).toInt.toNat 7 = first R.val + 7 - R.val := by decide +kernel

variable (a : FVec Ideal S4096x1536 .bf16) (t : FVec Ideal S8x8x64x512 .f32)

/-- The heads of the scaled queries, of the keys and of the values. -/
def queries : FVec Ideal S8x64x64x64 .f32 :=
  shapeCast S8x64x64x64 (mulf (transpose S8x4096x64 [1, 0, 2] (shapeCast S4096x8x64 (extractStridedSlice S4096x512 ![0, 0] (extf .f32 a bitsLt_bf16_f32) slices_S4096x1536_S4096x512_0_0) shapeCasts_S4096x512_S4096x8x64) transposes_S4096x8x64_S8x4096x64_1_0_2) (broadcastInDim S8x4096x64 ![] bcast_S_S8x4096x64 (constant S_ .f32 0x3E000000#32))) shapeCasts_S8x4096x64_S8x64x64x64
def keys : FVec Ideal S8x64x64x64 .f32 :=
  shapeCast S8x64x64x64 (transpose S8x4096x64 [1, 0, 2] (shapeCast S4096x8x64 (extractStridedSlice S4096x512 ![0, 512] (extf .f32 a bitsLt_bf16_f32) slices_S4096x1536_S4096x512_0_512) shapeCasts_S4096x512_S4096x8x64) transposes_S4096x8x64_S8x4096x64_1_0_2) shapeCasts_S8x4096x64_S8x64x64x64
def values : FVec Ideal S8x64x64x64 .f32 :=
  shapeCast S8x64x64x64 (transpose S8x4096x64 [1, 0, 2] (shapeCast S4096x8x64 (extractStridedSlice S4096x512 ![0, 1024] (extf .f32 a bitsLt_bf16_f32) slices_S4096x1536_S4096x512_0_1024) shapeCasts_S4096x512_S4096x8x64) transposes_S4096x8x64_S8x4096x64_1_0_2) shapeCasts_S8x4096x64_S8x64x64x64

/-- The eight rows around each row of the grid. -/
def around (x : FVec Ideal S8x64x64x64 .f32) : FVec Ideal S8x64x512x64 .f32 :=
  shapeCast S8x64x512x64 (Host.gather gather_S8x64x64x64_S64x8x1_S8x64x8x64x64_034_1_n_n_1_2_816464 x rowWords) shapeCasts_S8x64x8x64x64_S8x64x512x64

def scores : FVec Ideal S8x64x64x512 .f32 :=
  addf (Host.dotGeneral dot_S8x64x64x64_S8x64x512x64_S8x64x64x512_3_3_2_2_01_01 none (queries a) (around (keys a)))
    (Host.gather gather_S8x8x64x512_S64x1_S8x64x64x512_023_1_n_n_1_1_8164512 t tabWords)

def expo (s : FVec Ideal S8x64x64x512 .f32) : FVec Ideal S8x64x64x512 .f32 :=
  Host.exp (subf s (broadcastInDim S8x64x64x512 ![0, 1, 2, 3] bcast_S8x64x64x1_S8x64x64x512_0_1_2_3 (broadcastInDim S8x64x64x1 ![0, 1, 2] bcast_S8x64x64_S8x64x64x1_0_1_2 (maximumf (broadcastInDim S8x64x64 ![] bcast_S_S8x64x64 (constant S_ .f32 0xFF800000#32)) (Host.reduce FloatOps.maximumf s (constant S_ .f32 0xFF800000#32) reducesTo_S8x64x64x512_S8x64x64_d3 h_S_)))))

def weights (e : FVec Ideal S8x64x64x512 .f32) : FVec Ideal S8x64x64x512 .f32 :=
  Host.divf e (broadcastInDim S8x64x64x512 ![0, 1, 2, 3] bcast_S8x64x64x1_S8x64x64x512_0_1_2_3 (broadcastInDim S8x64x64x1 ![0, 1, 2] bcast_S8x64x64_S8x64x64x1_0_1_2 (Host.reduceAdd e (constant S_ .f32 0x00000000#32) reducesTo_S8x64x64x512_S8x64x64_d3 h_S_)))

/-- The heads' outputs side by side. -/
def joined (x : FVec Ideal S8x64x64x64 .f32) : FVec Ideal S4096x512 .bf16 :=
  truncf .bf16 (shapeCast S4096x512 (transpose S4096x8x64 [1, 0, 2] (shapeCast S8x4096x64 x shapeCasts_S8x64x64x64_S8x4096x64) transposes_S8x4096x64_S4096x8x64_1_0_2) shapeCasts_S4096x8x64_S4096x512) bitsLt_bf16_f32

def result : FVec Ideal S4096x512 .bf16 :=
  joined (Host.dotGeneral dot_S8x64x64x512_S8x64x512x64_S8x64x64x64_3_2_2_3_01_01 none (weights (expo (scores a t))) (around (values a)))

theorem res_eq (m : (ℓ : Loc nD τ sig) → Buf (Elt Ideal) ℓ) (c : Dev nD) :
    res_main_v70 m c = result (m ((c.tc : Thread nD τ).loc main_arg0)) (m ((c.tc : Thread nD τ).loc main_arg1)) := rfl

theorem queries_at (h : Fin 8) (R i d : Fin 64) : queries a (ix4 h R i d) = a (ix2 ⟨R.val * 64 + i.val, by omega⟩ ⟨h.val * 64 + d.val, by omega⟩) * eighth := by
  pointwise [queries]
  rfl
theorem keys_at (h : Fin 8) (R i d : Fin 64) : keys a (ix4 h R i d) = a (ix2 ⟨R.val * 64 + i.val, by omega⟩ ⟨512 + (h.val * 64 + d.val), by omega⟩) := by
  pointwise [keys]
theorem values_at (h : Fin 8) (R i d : Fin 64) : values a (ix4 h R i d) = a (ix2 ⟨R.val * 64 + i.val, by omega⟩ ⟨1024 + (h.val * 64 + d.val), by omega⟩) := by
  pointwise [values]
theorem around_at (x : FVec Ideal S8x64x64x64 .f32) (h : Fin 8) (R : Fin 64) (n : Fin 512) (d : Fin 64) : around x (ix4 h R n d) =
    x (ix4 h ⟨first R.val + n.val / 64, by unfold first; omega⟩ ⟨n.val % 64, by omega⟩ d) := by
  have g := take_rows x rowWords
  unfold around
  generalize Host.gather gather_S8x64x64x64_S64x8x1_S8x64x8x64x64_034_1_n_n_1_2_816464 x rowWords = y at g ⊢
  pointwise []
  rw [g]
  exact congrArg (fun q => x (ix4 h q ⟨n.val % 64, by omega⟩ d)) (Fin.ext (row_word R ⟨n.val / 64, by omega⟩))
theorem peak_at (s : FVec Ideal S8x64x64x512 .f32) (h : Fin 8) (R i : Fin 64) :
    Host.reduce FloatOps.maximumf s (constant S_ .f32 0xFF800000#32) reducesTo_S8x64x64x512_S8x64x64_d3 h_S_ (ix3 h R i) =
      Finset.univ.fold max (Ideal.ofBits FTy.f32 0xFF800000#32) (fun n : Fin 512 => s (ix4 h R i n)) := by
  pointwise []

theorem from_bot (y : FVec Ideal S8x64x64 .f32) : maximumf (broadcastInDim S8x64x64 ![] bcast_S_S8x64x64 (constant S_ .f32 0xFF800000#32)) y = y := by
  funext i
  exact (congrArg (fun z : EReal => max z (y i)) Cert.Near.neg_inf).trans (max_eq_right bot_le)

theorem less_at (s : FVec Ideal S8x64x64x512 .f32) (y : FVec Ideal S8x64x64 .f32) (h : Fin 8) (R i : Fin 64) (n : Fin 512) :
    Host.exp (subf s (broadcastInDim S8x64x64x512 ![0, 1, 2, 3] bcast_S8x64x64x1_S8x64x64x512_0_1_2_3 (broadcastInDim S8x64x64x1 ![0, 1, 2] bcast_S8x64x64_S8x64x64x1_0_1_2 y))) (ix4 h R i n) =
      Ideal.exp (s (ix4 h R i n) - y (ix3 h R i)) := by
  pointwise []

theorem expo_at (s : FVec Ideal S8x64x64x512 .f32) (h : Fin 8) (R i : Fin 64) (n : Fin 512) : expo s (ix4 h R i n) =
    Ideal.exp (s (ix4 h R i n) - peak fun n => s (ix4 h R i n)) := by
  unfold expo
  rw [from_bot]
  refine (less_at s _ h R i n).trans (congrArg (fun z : EReal => Ideal.exp (s (ix4 h R i n) - z)) ?_)
  refine (peak_at s h R i).trans ?_
  unfold peak
  rw [Cert.Near.neg_inf]
theorem mixed_at (e : FVec Ideal S8x64x64x512 .f32) (v : FVec Ideal S8x64x512x64 .f32) (h : Fin 8) (R i d : Fin 64) :
    Host.dotGeneral (φ₁ := .f32) (φ₂ := .f32) dot_S8x64x64x512_S8x64x512x64_S8x64x64x64_3_2_2_3_01_01 none (weights e) v (ix4 h R i d) =
      ∑ n : Fin 512, Ideal.div (e (ix4 h R i n)) (∑ n : Fin 512, e (ix4 h R i n)) * v (ix4 h R n d) := by
  pointwise [weights]
theorem joined_at (x : FVec Ideal S8x64x64x64 .f32) (r : Fin 4096) (n : Fin 512) : joined x (ix2 r n) =
    x (ix4 ⟨n.val / 64, by omega⟩ ⟨r.val / 64, by omega⟩ ⟨r.val % 64, by omega⟩ ⟨n.val % 64, by omega⟩) := by
  pointwise [joined]

theorem scores_at (h : Fin 8) (R i : Fin 64) (n : Fin 512) : scores a t (ix4 h R i n) =
    ∑ d : Fin 64, queries a (ix4 h R i d) * around (keys a) (ix4 h R n d) + t (ix4 h ⟨first R.val + 7 - R.val, by unfold first; omega⟩ i n) := by
  have g := take_table t tabWords
  unfold scores
  generalize Host.gather gather_S8x8x64x512_S64x1_S8x64x64x512_023_1_n_n_1_1_8164512 t tabWords = y at g ⊢
  generalize queries a = q
  generalize around (keys a) = k
  pointwise []
  rw [g]
  exact congrArg (fun z => _ + t (ix4 h z i n)) (Fin.ext (tab_word R))

/-- The reference's entries. -/
theorem result_at (r : Fin 4096) (n : Fin 512) : result a t (ix2 r n) = near a t r n := by
  unfold result
  rw [joined_at, mixed_at]
  simp only [expo_at]
  unfold near
  refine (show _ = attend (fun c => scores a t (ix4 ⟨n.val / 64, by omega⟩ ⟨r.val / 64, by omega⟩ ⟨r.val % 64, by omega⟩ c))
    (fun c => around (values a) (ix4 ⟨n.val / 64, by omega⟩ ⟨r.val / 64, by omega⟩ c ⟨n.val % 64, by omega⟩)) from rfl).trans ?_
  refine Cert.Near.attend_congr (fun c => ?_) (fun c => ?_)
  · rw [scores_at]
    simp only [queries_at, around_at, keys_at]
    refine congrArg (fun z : EReal => z + _) (Finset.sum_congr rfl fun d _ => ?_)
    refine congrArg₂ (fun y z : EReal => y * eighth * z) (congrArg (fun z => a (ix2 z _)) (Fin.ext ?_)) (congrArg (fun z => a (ix2 z _)) (Fin.ext ?_))
    · show r.val / 64 * 64 + r.val % 64 = r.val
      omega
    · show (first (r.val / 64) + c.val / 64) * 64 + c.val % 64 = first (r.val / 64) * 64 + c.val
      omega
  · rw [around_at, values_at]
    refine congrArg₂ (fun y z => a (ix2 y z)) (Fin.ext ?_) (Fin.ext ?_)
    · show (first (r.val / 64) + c.val / 64) * 64 + c.val % 64 = first (r.val / 64) * 64 + c.val
      omega
    · show 1024 + (n.val / 64 * 64 + n.val % 64) = 1024 + n.val
      omega

theorem result_eq : result a t = Kernel30Ideal.Near.outputs a t := by
  funext i
  obtain ⟨r, n, rfl⟩ : ∃ (r : Fin 4096) (n : Fin 512), i = ix2 r n := ⟨i 0, i 1, funext fun b => by fin_cases b <;> rfl⟩
  exact result_at a t r n

end Cert.Reference30Ideal.Near

namespace Cert.Reference30Ideal.Product

open Idealize.ShloMosaic Idealize.ShloMosaic.TcCoe
open Cert.Kernel30Ideal.Gen (A_eq dats V_main_arg0 V_main_arg1)
open Cert.Kernel30Ideal.Near (outputs)

/-- From the same arguments the call and the reference return the same array. -/
theorem same : Cert.algebraic_Kernel30Ideal_Reference30Ideal := fun m g m' g' _ hargs => by
  refine ⟨fun c => outputs (m (c.tc.loc Kernel30Ideal.main_arg0))
    (m (c.tc.loc Kernel30Ideal.main_arg1)), ?_, ?_⟩
  · refine (θ_run Kernel30Ideal.defs _ _).mono (fun r h c => ⟨((h c).1 4).trans ?_,
      ((h c).1 0).trans (((dats m 0 c).arrAt_in 0 rfl _).trans ((A_eq m c 0).trans (V_main_arg0 m c))),
      ((h c).1 3).trans (((dats m 0 c).arrAt_in 3 rfl _).trans ((A_eq m c 3).trans (V_main_arg1 m c)))⟩) (Kernel30Ideal.Gen.run_main m g)
    exact (Kernel30Ideal.Near.final m c).trans (by rw [V_main_arg0, V_main_arg1])
  · refine (θ_run Reference30Ideal.defs _ _).mono (fun r h c => ⟨(h c).1.trans ?_, (h c).2⟩) (Reference30Ideal.Value.run (F := Ideal) m' g')
    obtain ⟨a0, a1⟩ := hargs c
    exact (Reference30Ideal.Near.res_eq m' c).trans ((Reference30Ideal.Near.result_eq _ _).trans (by rw [a0, a1]))

end Cert.Reference30Ideal.Product

end
-- ==== Proof.Merge.Body.lean ====
/-
  What the merge's backward call leaves in its six output tiles, over the extended reals.
-/
module

public import proofs.«01_k».proof.Proof.Gen.Kernel33Ideal.Frame
public import Idealize.ShloMosaic.PureOps.Ideal
public import Idealize.ShloMosaic.Lib.Pointwise
public import Idealize.ShloMosaic.Lib.Pipeline.ValueKit

@[expose] public section

set_option maxRecDepth 16384

noncomputable section

namespace Cert.Kernel33Ideal.Merge

open Idealize.ShloMosaic Idealize.ShloMosaic.TcCoe Idealize.ShloMosaic.Tactic Idealize.ShloMosaic.WordCmp
open Cert.Kernel33Ideal Cert.Kernel33Ideal.Gen

/-! ## The tile's values, in the natural layout -/

/-- Every lane holds its head's sum: four masked sums of the row, one per head. -/
def headSums (t : FVec Ideal S512x256 .f32) : FVec Ideal S512x256 .f32 := k0_pay5 t k0_pay2 k0_pay3 k0_pay4

variable (x0 x1 x2 x3 x4 x5 x6 : Vec Ideal S512x256 .f32)

/-- The weighted mean of the three groups' head sums. -/
def mean : FVec Ideal S512x256 .f32 :=
  addf (addf (mulf x4 (headSums (mulf x0 x1))) (mulf x5 (headSums (mulf x0 x2)))) (mulf x6 (headSums (mulf x0 x3)))

/-- A group's gradient of its outputs, and of its log-sum-exps. -/
def outGrad (w : Vec Ideal S512x256 .f32) : FVec Ideal S512x256 .f32 := mulf w x0
def lseGrad (w o : Vec Ideal S512x256 .f32) : FVec Ideal S512x256 .f32 :=
  mulf w (subf (headSums (mulf x0 o)) (mean x0 x1 x2 x3 x4 x5 x6))

/-- Two halves of the lanes, and the rows by residue. -/
def lay1 (D : S512x256.Idx → EReal) : S2x1x512x128.Idx → EReal := fun y => D (ix2 (y 2) ⟨(y 0).val * 128 + (y 3).val, by
  have h0 : (y 0).val < 2 := (y 0).isLt
  have h3 : (y 3).val < 128 := (y 3).isLt
  omega⟩)
def lay4 (D : S512x256.Idx → EReal) : S2x4x128x128.Idx → EReal := fun y => D (ix2 ⟨(y 2).val * 4 + (y 1).val, by
  have h1 : (y 1).val < 4 := (y 1).isLt
  have h2 : (y 2).val < 128 := (y 2).isLt
  omega⟩ ⟨(y 0).val * 128 + (y 3).val, by
  have h0 : (y 0).val < 2 := (y 0).isLt
  have h3 : (y 3).val < 128 := (y 3).isLt
  omega⟩)
def lay16 (D : S512x256.Idx → EReal) : S2x16x32x128.Idx → EReal := fun y => D (ix2 ⟨(y 2).val * 16 + (y 1).val, by
  have h1 : (y 1).val < 16 := (y 1).isLt
  have h2 : (y 2).val < 32 := (y 2).isLt
  omega⟩ ⟨(y 0).val * 128 + (y 3).val, by
  have h0 : (y 0).val < 2 := (y 0).isLt
  have h3 : (y 3).val < 128 := (y 3).isLt
  omega⟩)

/-! ## One store -/

/-- A load of a whole tile. -/
theorem full (x : Vec Ideal S512x256 .f32) (h) : View.ld x (Rect.unit (s := S512x256) ![0, 0] ![512, 256] h) = x :=
  View.ld_unit_lit h x (by intro b; fin_cases b <;> rfl)

theorem store1f (D : FVec Ideal S512x256 .f32) (p : ℕ) (hp : p < 2) (h1) (h2) (h3) (w : FVec Ideal S1x1x512x128 .f32)
    (hw : w = shapeCast S1x1x512x128 (extractStridedSlice S512x128 ![0, p * 128] D h1) h2) (y : S2x1x512x128.Idx) :
    View.RectAt (Val := Elt Ideal) (e := .f32) y (Rect.unit (s := S2x1x512x128) ![p, 0, 0, 0] ![1, 1, 512, 128] h3) w (lay1 D y) := by
  intro x hx
  obtain ⟨r, l, rfl⟩ : ∃ (r : Fin 512) (l : Fin 128), x = (ix4 0 0 r l : S1x1x512x128.Idx) :=
    ⟨x 2, x 3, funext fun b => by fin_cases b <;> first | rfl | exact Fin.ext (Nat.lt_one_iff.mp (x _).isLt)⟩
  rw [← hx, hw]
  have e0 : ((Rect.unit (s := S2x1x512x128) ![p, 0, 0, 0] ![1, 1, 512, 128] h3).emb (ix4 0 0 r l : S1x1x512x128.Idx) 0).val = p := (Rect.idx_unit_val _ _ _ _ _).trans (Nat.add_zero _)
  have e2 : ((Rect.unit (s := S2x1x512x128) ![p, 0, 0, 0] ![1, 1, 512, 128] h3).emb (ix4 0 0 r l : S1x1x512x128.Idx) 2).val = r.val := (Rect.idx_unit_val _ _ _ _ _).trans (Nat.zero_add _)
  have e3 : ((Rect.unit (s := S2x1x512x128) ![p, 0, 0, 0] ![1, 1, 512, 128] h3).emb (ix4 0 0 r l : S1x1x512x128.Idx) 3).val = l.val := (Rect.idx_unit_val _ _ _ _ _).trans (Nat.zero_add _)
  pointwise [lay1]
  refine congrArg D (congrArg₂ ix2 (Fin.ext ?_) (Fin.ext ?_))
  · exact e2.symm
  · show p * 128 + l.val = _ * 128 + _
    rw [e0, e3]

theorem store1b (D : FVec Ideal S512x256 .f32) (p : ℕ) (hp : p < 2) (h1) (h2) (h3) (w : FVec Ideal S1x1x512x128 .bf16)
    (hw : w = shapeCast S1x1x512x128 (truncf (s := S512x128) (φ := .f32) .bf16 (extractStridedSlice S512x128 ![0, p * 128] D h1) bitsLt_bf16_f32) h2) (y : S2x1x512x128.Idx) :
    View.RectAt (Val := Elt Ideal) (e := .bf16) y (Rect.unit (s := S2x1x512x128) ![p, 0, 0, 0] ![1, 1, 512, 128] h3) w (lay1 D y) :=
  store1f D p hp h1 h2 h3 w hw y

theorem store4f (v : View sig .tc .vmem S512x128 .f32) (D : FVec Ideal S512x256 .f32) (p : ℕ) (hp : p < 2) (a : ℕ) (ha : a < 4) (h1) (h2 : S128x128.ShapeCasts S1x1x128x128) (h3) (h4) (h5) (h6)
    (L : List (View.Piece (Elt Ideal) S512x128 .f32)) (w : FVec Ideal S1x1x128x128 .f32)
    (hw : w = shapeCast (s := S128x128) S1x1x128x128 (v.readCov (Val := Elt Ideal) (⟨Rect.unit (s := S512x128) ![0, 0] ![512, 128] h4, shapeCast S512x128 (extractStridedSlice S512x128 ![0, p * 128] D h1) h5⟩ :: L) (⟨![a, 0], ![128, 128], ![4, 1], h6⟩ : LoadRect S512x128) : FVec Ideal S128x128 .f32) h2) (y : S2x4x128x128.Idx) :
    View.RectAt (Val := Elt Ideal) (e := .f32) y (Rect.unit (s := S2x4x128x128) ![p, a, 0, 0] ![1, 1, 128, 128] h3) w (lay4 D y) := by
  intro x hx
  obtain ⟨r, l, rfl⟩ : ∃ (r : Fin 128) (l : Fin 128), x = (ix4 0 0 r l : S1x1x128x128.Idx) :=
    ⟨x 2, x 3, funext fun b => by fin_cases b <;> first | rfl | exact Fin.ext (Nat.lt_one_iff.mp (x _).isLt)⟩
  rw [← hx, hw, View.readCov_eq_canon', View.canon_cons_unit_lit h4 _ L (by intro b; fin_cases b <;> rfl)]
  have e0 : ((Rect.unit (s := S2x4x128x128) ![p, a, 0, 0] ![1, 1, 128, 128] h3).emb (ix4 0 0 r l : S1x1x128x128.Idx) 0).val = p := (Rect.idx_unit_val _ _ _ _ _).trans (Nat.add_zero _)
  have e1 : ((Rect.unit (s := S2x4x128x128) ![p, a, 0, 0] ![1, 1, 128, 128] h3).emb (ix4 0 0 r l : S1x1x128x128.Idx) 1).val = a := (Rect.idx_unit_val _ _ _ _ _).trans (Nat.add_zero _)
  have e2 : ((Rect.unit (s := S2x4x128x128) ![p, a, 0, 0] ![1, 1, 128, 128] h3).emb (ix4 0 0 r l : S1x1x128x128.Idx) 2).val = r.val := (Rect.idx_unit_val _ _ _ _ _).trans (Nat.zero_add _)
  have e3 : ((Rect.unit (s := S2x4x128x128) ![p, a, 0, 0] ![1, 1, 128, 128] h3).emb (ix4 0 0 r l : S1x1x128x128.Idx) 3).val = l.val := (Rect.idx_unit_val _ _ _ _ _).trans (Nat.zero_add _)
  pointwise [lay4]
  refine congrArg D (congrArg₂ ix2 (Fin.ext ?_) (Fin.ext ?_))
  · show a + 4 * r.val = _ * 4 + _
    rw [e2, e1]
    omega
  · show p * 128 + l.val = _ * 128 + _
    rw [e0, e3]

theorem store4b (v : View sig .tc .vmem S512x128 .f32) (D : FVec Ideal S512x256 .f32) (p : ℕ) (hp : p < 2) (a : ℕ) (ha : a < 4) (h1) (h2 : S128x128.ShapeCasts S1x1x128x128) (h3) (h4) (h5) (h6)
    (L : List (View.Piece (Elt Ideal) S512x128 .f32)) (w : FVec Ideal S1x1x128x128 .bf16)
    (hw : w = shapeCast (s := S128x128) S1x1x128x128 (truncf (s := S128x128) (φ := .f32) .bf16 (v.readCov (Val := Elt Ideal) (⟨Rect.unit (s := S512x128) ![0, 0] ![512, 128] h4, shapeCast S512x128 (extractStridedSlice S512x128 ![0, p * 128] D h1) h5⟩ :: L) (⟨![a, 0], ![128, 128], ![4, 1], h6⟩ : LoadRect S512x128) : FVec Ideal S128x128 .f32) bitsLt_bf16_f32) h2) (y : S2x4x128x128.Idx) :
    View.RectAt (Val := Elt Ideal) (e := .bf16) y (Rect.unit (s := S2x4x128x128) ![p, a, 0, 0] ![1, 1, 128, 128] h3) w (lay4 D y) :=
  store4f v D p hp a ha h1 h2 h3 h4 h5 h6 L w hw y

theorem store16f (v : View sig .tc .vmem S512x128 .f32) (D : FVec Ideal S512x256 .f32) (p : ℕ) (hp : p < 2) (a : ℕ) (ha : a < 16) (h1) (h2 : S32x128.ShapeCasts S1x1x32x128) (h3) (h4) (h5) (h6)
    (L : List (View.Piece (Elt Ideal) S512x128 .f32)) (w : FVec Ideal S1x1x32x128 .f32)
    (hw : w = shapeCast (s := S32x128) S1x1x32x128 (v.readCov (Val := Elt Ideal) (⟨Rect.unit (s := S512x128) ![0, 0] ![512, 128] h4, shapeCast S512x128 (extractStridedSlice S512x128 ![0, p * 128] D h1) h5⟩ :: L) (⟨![a, 0], ![32, 128], ![16, 1], h6⟩ : LoadRect S512x128) : FVec Ideal S32x128 .f32) h2) (y : S2x16x32x128.Idx) :
    View.RectAt (Val := Elt Ideal) (e := .f32) y (Rect.unit (s := S2x16x32x128) ![p, a, 0, 0] ![1, 1, 32, 128] h3) w (lay16 D y) := by
  intro x hx
  obtain ⟨r, l, rfl⟩ : ∃ (r : Fin 32) (l : Fin 128), x = (ix4 0 0 r l : S1x1x32x128.Idx) :=
    ⟨x 2, x 3, funext fun b => by fin_cases b <;> first | rfl | exact Fin.ext (Nat.lt_one_iff.mp (x _).isLt)⟩
  rw [← hx, hw, View.readCov_eq_canon', View.canon_cons_unit_lit h4 _ L (by intro b; fin_cases b <;> rfl)]
  have e0 : ((Rect.unit (s := S2x16x32x128) ![p, a, 0, 0] ![1, 1, 32, 128] h3).emb (ix4 0 0 r l : S1x1x32x128.Idx) 0).val = p := (Rect.idx_unit_val _ _ _ _ _).trans (Nat.add_zero _)
  have e1 : ((Rect.unit (s := S2x16x32x128) ![p, a, 0, 0] ![1, 1, 32, 128] h3).emb (ix4 0 0 r l : S1x1x32x128.Idx) 1).val = a := (Rect.idx_unit_val _ _ _ _ _).trans (Nat.add_zero _)
  have e2 : ((Rect.unit (s := S2x16x32x128) ![p, a, 0, 0] ![1, 1, 32, 128] h3).emb (ix4 0 0 r l : S1x1x32x128.Idx) 2).val = r.val := (Rect.idx_unit_val _ _ _ _ _).trans (Nat.zero_add _)
  have e3 : ((Rect.unit (s := S2x16x32x128) ![p, a, 0, 0] ![1, 1, 32, 128] h3).emb (ix4 0 0 r l : S1x1x32x128.Idx) 3).val = l.val := (Rect.idx_unit_val _ _ _ _ _).trans (Nat.zero_add _)
  pointwise [lay16]
  refine congrArg D (congrArg₂ ix2 (Fin.ext ?_) (Fin.ext ?_))
  · show a + 16 * r.val = _ * 16 + _
    rw [e2, e1]
    omega
  · show p * 128 + l.val = _ * 128 + _
    rw [e0, e3]

theorem store16b (v : View sig .tc .vmem S512x128 .f32) (D : FVec Ideal S512x256 .f32) (p : ℕ) (hp : p < 2) (a : ℕ) (ha : a < 16) (h1) (h2 : S32x128.ShapeCasts S1x1x32x128) (h3) (h4) (h5) (h6)
    (L : List (View.Piece (Elt Ideal) S512x128 .f32)) (w : FVec Ideal S1x1x32x128 .bf16)
    (hw : w = shapeCast (s := S32x128) S1x1x32x128 (truncf (s := S32x128) (φ := .f32) .bf16 (v.readCov (Val := Elt Ideal) (⟨Rect.unit (s := S512x128) ![0, 0] ![512, 128] h4, shapeCast S512x128 (extractStridedSlice S512x128 ![0, p * 128] D h1) h5⟩ :: L) (⟨![a, 0], ![32, 128], ![16, 1], h6⟩ : LoadRect S512x128) : FVec Ideal S32x128 .f32) bitsLt_bf16_f32) h2) (y : S2x16x32x128.Idx) :
    View.RectAt (Val := Elt Ideal) (e := .bf16) y (Rect.unit (s := S2x16x32x128) ![p, a, 0, 0] ![1, 1, 32, 128] h3) w (lay16 D y) :=
  store16f v D p hp a ha h1 h2 h3 h4 h5 h6 L w hw y

/-! ## What the body leaves -/

variable (c : Dev nD) (i : grid0.Coords) (arg1 : Memref sig .tc .vmem S512x256 .f32) (harg1 : arg1.IsWhole) (arg2 : Memref sig .tc .vmem S512x256 .f32) (harg2 : arg2.IsWhole) (arg3 : Memref sig .tc .vmem S512x256 .f32) (harg3 : arg3.IsWhole) (arg4 : Memref sig .tc .vmem S512x256 .f32) (harg4 : arg4.IsWhole) (arg5 : Memref sig .tc .vmem S512x256 .f32) (harg5 : arg5.IsWhole) (arg6 : Memref sig .tc .vmem S512x256 .f32) (harg6 : arg6.IsWhole) (arg7 : Memref sig .tc .vmem S512x256 .f32) (harg7 : arg7.IsWhole) (arg8 : Memref sig .tc .vmem S2x1x512x128 .bf16) (harg8 : arg8.IsWhole) (arg9 : Memref sig .tc .vmem S2x4x128x128 .bf16) (harg9 : arg9.IsWhole) (arg10 : Memref sig .tc .vmem S2x16x32x128 .bf16) (harg10 : arg10.IsWhole) (arg11 : Memref sig .tc .vmem S2x1x512x128 .f32) (harg11 : arg11.IsWhole) (arg12 : Memref sig .tc .vmem S2x4x128x128 .f32) (harg12 : arg12.IsWhole) (arg13 : Memref sig .tc .vmem S2x16x32x128 .f32) (harg13 : arg13.IsWhole) (arg14 : Memref sig .tc .vmem S512x128 .f32) (harg14 : arg14.IsWhole)

set_option maxHeartbeats 8000000 in
theorem left_7 :
    out0_A_7 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 = lay1 (outGrad x0 x4) := by
  unfold out0_A_7
  refine (View.read_writes_eq_canon _ _ _ (fun _ => cover0_A_7 ..)).trans (funext fun y => ?_)
  refine View.canon_eq_of_allAt _ _ _ (cover0_A_7 ..) ?_
  unfold kernelRun0_A
  dsimp only
  iterate 2 refine View.allAt_cons _ _ _ (store1b (outGrad x0 x4) _ (by decide) (by first | exact slices_S512x256_o0_128_S512x128 | exact slices_S512x256_o0_0_S512x128) shapeCasts_S512x128_S1x1x512x128 _ _ (by sl_unfold_words; simp only [View.readAt_eq_ld, harg1.read_unread, harg2.read_unread, harg3.read_unread, harg4.read_unread, harg5.read_unread, harg6.read_unread, harg7.read_unread, full]; rfl) y) ?_
  exact View.allAt_nil _ _

set_option maxHeartbeats 8000000 in
theorem left_8 :
    out0_A_8 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 = lay4 (outGrad x0 x5) := by
  unfold out0_A_8
  refine (View.read_writes_eq_canon _ _ _ (fun _ => cover0_A_8 ..)).trans (funext fun y => ?_)
  refine View.canon_eq_of_allAt _ _ _ (cover0_A_8 ..) ?_
  unfold kernelRun0_A
  dsimp only
  iterate 8 refine View.allAt_cons _ _ _ (store4b arg14.view (outGrad x0 x5) _ (by decide) _ (by decide) (by first | exact slices_S512x256_o0_128_S512x128 | exact slices_S512x256_o0_0_S512x128) shapeCasts_S128x128_S1x1x128x128 _ inb_S512x128_S512x128_0_0 shapeCasts_S512x128_S512x128 _ _ _ (by sl_unfold_words; simp only [View.readAt_eq_ld, harg1.read_unread, harg2.read_unread, harg3.read_unread, harg4.read_unread, harg5.read_unread, harg6.read_unread, harg7.read_unread, full]; rfl) y) ?_
  exact View.allAt_nil _ _

set_option maxHeartbeats 8000000 in
theorem left_9 :
    out0_A_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 = lay16 (outGrad x0 x6) := by
  unfold out0_A_9
  refine (View.read_writes_eq_canon _ _ _ (fun _ => cover0_A_9 ..)).trans (funext fun y => ?_)
  refine View.canon_eq_of_allAt _ _ _ (cover0_A_9 ..) ?_
  unfold kernelRun0_A
  dsimp only
  iterate 32 refine View.allAt_cons _ _ _ (store16b arg14.view (outGrad x0 x6) _ (by decide) _ (by decide) (by first | exact slices_S512x256_o0_128_S512x128 | exact slices_S512x256_o0_0_S512x128) shapeCasts_S32x128_S1x1x32x128 _ inb_S512x128_S512x128_0_0 shapeCasts_S512x128_S512x128 _ _ _ (by sl_unfold_words; simp only [View.readAt_eq_ld, harg1.read_unread, harg2.read_unread, harg3.read_unread, harg4.read_unread, harg5.read_unread, harg6.read_unread, harg7.read_unread, full]; rfl) y) ?_
  exact View.allAt_nil _ _

set_option maxHeartbeats 8000000 in
theorem left_10 :
    out0_A_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 = lay1 (lseGrad x0 x1 x2 x3 x4 x5 x6 x4 x1) := by
  unfold out0_A_10
  refine (View.read_writes_eq_canon _ _ _ (fun _ => cover0_A_10 ..)).trans (funext fun y => ?_)
  refine View.canon_eq_of_allAt _ _ _ (cover0_A_10 ..) ?_
  unfold kernelRun0_A
  dsimp only
  iterate 2 refine View.allAt_cons _ _ _ (store1f (lseGrad x0 x1 x2 x3 x4 x5 x6 x4 x1) _ (by decide) (by first | exact slices_S512x256_o0_128_S512x128 | exact slices_S512x256_o0_0_S512x128) shapeCasts_S512x128_S1x1x512x128 _ _ (by sl_unfold_words; simp only [View.readAt_eq_ld, harg1.read_unread, harg2.read_unread, harg3.read_unread, harg4.read_unread, harg5.read_unread, harg6.read_unread, harg7.read_unread, full]; rfl) y) ?_
  exact View.allAt_nil _ _

set_option maxHeartbeats 8000000 in
theorem left_11 :
    out0_A_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 = lay4 (lseGrad x0 x1 x2 x3 x4 x5 x6 x5 x2) := by
  unfold out0_A_11
  refine (View.read_writes_eq_canon _ _ _ (fun _ => cover0_A_11 ..)).trans (funext fun y => ?_)
  refine View.canon_eq_of_allAt _ _ _ (cover0_A_11 ..) ?_
  unfold kernelRun0_A
  dsimp only
  iterate 8 refine View.allAt_cons _ _ _ (store4f arg14.view (lseGrad x0 x1 x2 x3 x4 x5 x6 x5 x2) _ (by decide) _ (by decide) (by first | exact slices_S512x256_o0_128_S512x128 | exact slices_S512x256_o0_0_S512x128) shapeCasts_S128x128_S1x1x128x128 _ inb_S512x128_S512x128_0_0 shapeCasts_S512x128_S512x128 _ _ _ (by sl_unfold_words; simp only [View.readAt_eq_ld, harg1.read_unread, harg2.read_unread, harg3.read_unread, harg4.read_unread, harg5.read_unread, harg6.read_unread, harg7.read_unread, full]; rfl) y) ?_
  exact View.allAt_nil _ _

set_option maxHeartbeats 8000000 in
theorem left_12 :
    out0_A_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 = lay16 (lseGrad x0 x1 x2 x3 x4 x5 x6 x6 x3) := by
  unfold out0_A_12
  refine (View.read_writes_eq_canon _ _ _ (fun _ => cover0_A_12 ..)).trans (funext fun y => ?_)
  refine View.canon_eq_of_allAt _ _ _ (cover0_A_12 ..) ?_
  unfold kernelRun0_A
  dsimp only
  iterate 32 refine View.allAt_cons _ _ _ (store16f arg14.view (lseGrad x0 x1 x2 x3 x4 x5 x6 x6 x3) _ (by decide) _ (by decide) (by first | exact slices_S512x256_o0_128_S512x128 | exact slices_S512x256_o0_0_S512x128) shapeCasts_S32x128_S1x1x32x128 _ inb_S512x128_S512x128_0_0 shapeCasts_S512x128_S512x128 _ _ _ (by sl_unfold_words; simp only [View.readAt_eq_ld, harg1.read_unread, harg2.read_unread, harg3.read_unread, harg4.read_unread, harg5.read_unread, harg6.read_unread, harg7.read_unread, full]; rfl) y) ?_
  exact View.allAt_nil _ _

end Cert.Kernel33Ideal.Merge

end
-- ==== Proof.Merge.KernelValue.lean ====
/-
  The merge's backward call: each head's sum, and the six output arrays, entry by entry over the extended reals.
-/
module

public import proofs.«01_k».proof.Proof.Merge.Body

@[expose] public section

set_option maxRecDepth 16384

noncomputable section

namespace Cert.Merge

open Idealize.ShloMosaic

/-- Rows and lanes: 4096 tokens, four heads of 64 lanes. -/
abbrev Rows : Type := (⟨2, ![4096, 256]⟩ : Shape).Idx → EReal

variable (dy o0 o1 o2 w0 w1 w2 : Rows)

/-- A head's sum of the products of two rows. -/
def headDot (u v : Rows) (r : Fin 4096) (l : Fin 256) : EReal :=
  ∑ d : Fin 64, u (ix2 r ⟨l.val / 64 * 64 + d.val, by omega⟩) * v (ix2 r ⟨l.val / 64 * 64 + d.val, by omega⟩)

/-- The weighted mean of the groups' head sums. -/
def mix (r : Fin 4096) (l : Fin 256) : EReal :=
  w0 (ix2 r l) * headDot dy o0 r l + w1 (ix2 r l) * headDot dy o1 r l + w2 (ix2 r l) * headDot dy o2 r l

/-- A group's gradient of its outputs, and of its log-sum-exps. -/
def toOut (w : Rows) (r : Fin 4096) (l : Fin 256) : EReal := w (ix2 r l) * dy (ix2 r l)
def toLse (w o : Rows) (r : Fin 4096) (l : Fin 256) : EReal := w (ix2 r l) * (headDot dy o r l - mix dy o0 o1 o2 w0 w1 w2 r l)

/-- Rows by residue and lanes by halves, at each of the three dilations. -/
def residues1 (f : Fin 4096 → Fin 256 → EReal) : (⟨4, ![2, 1, 4096, 128]⟩ : Shape).Idx → EReal := fun y =>
  f ⟨(y 2).val * 1 + (y 1).val, by
    have h1 : (y 1).val < 1 := (y 1).isLt
    have h2 : (y 2).val < 4096 := (y 2).isLt
    omega⟩ ⟨(y 0).val * 128 + (y 3).val, by
    have h0 : (y 0).val < 2 := (y 0).isLt
    have h3 : (y 3).val < 128 := (y 3).isLt
    omega⟩
def residues4 (f : Fin 4096 → Fin 256 → EReal) : (⟨4, ![2, 4, 1024, 128]⟩ : Shape).Idx → EReal := fun y =>
  f ⟨(y 2).val * 4 + (y 1).val, by
    have h1 : (y 1).val < 4 := (y 1).isLt
    have h2 : (y 2).val < 1024 := (y 2).isLt
    omega⟩ ⟨(y 0).val * 128 + (y 3).val, by
    have h0 : (y 0).val < 2 := (y 0).isLt
    have h3 : (y 3).val < 128 := (y 3).isLt
    omega⟩
def residues16 (f : Fin 4096 → Fin 256 → EReal) : (⟨4, ![2, 16, 256, 128]⟩ : Shape).Idx → EReal := fun y =>
  f ⟨(y 2).val * 16 + (y 1).val, by
    have h1 : (y 1).val < 16 := (y 1).isLt
    have h2 : (y 2).val < 256 := (y 2).isLt
    omega⟩ ⟨(y 0).val * 128 + (y 3).val, by
    have h0 : (y 0).val < 2 := (y 0).isLt
    have h3 : (y 3).val < 128 := (y 3).isLt
    omega⟩

/-- A sum over the four heads' lanes that keeps one head's. -/
theorem sum_head (f : Fin 256 → EReal) (h : ℕ) (hh : h < 4) :
    ∑ l : Fin 256, (if l.val / 64 = h then f l else 0) = ∑ d : Fin 64, f ⟨h * 64 + d.val, by omega⟩ := by
  rw [← Finset.sum_filter]
  refine (Finset.sum_bij' (fun (d : Fin 64) _ => (⟨h * 64 + d.val, by omega⟩ : Fin 256)) (fun (l : Fin 256) _ => (⟨l.val % 64, by omega⟩ : Fin 64)) ?_ ?_ ?_ ?_ ?_).symm
  · intro d _
    refine Finset.mem_filter.mpr ⟨Finset.mem_univ _, ?_⟩
    show (h * 64 + d.val) / 64 = h
    omega
  · intro l _
    exact Finset.mem_univ _
  · intro d _
    refine Fin.ext ?_
    show (h * 64 + d.val) % 64 = d.val
    omega
  · intro l hl
    have e := (Finset.mem_filter.mp hl).2
    refine Fin.ext ?_
    show h * 64 + l.val % 64 = l.val
    omega
  · intro d _
    rfl

end Cert.Merge

namespace Cert.Kernel33Ideal.Merge

open Idealize.ShloMosaic Idealize.ShloMosaic.TcCoe
open Cert.Kernel33Ideal Cert.Kernel33Ideal.Gen
open Cert.Merge (headDot mix toOut toLse residues1 residues4 residues16 sum_head)

/-! ## A head's sum -/

/-- A lane's head. -/
theorem head_at (r : Fin 512) (l : Fin 256) : k0_pay2 (ix2 r l) = BitVec.ofNat 32 (l.val / 64) := by
  have h : ∀ l : Fin 256, k0_pay2 (ix2 (0 : Fin 512) l) = BitVec.ofNat 32 (l.val / 64) := by decide +kernel
  exact (show k0_pay2 (ix2 r l) = k0_pay2 (ix2 (0 : Fin 512) l) from rfl).trans (h l)

/-- A choice by a comparison of two heads. -/
theorem select_head {α : Type} (l : Fin 256) (h : ℕ) (hh : h < 4) (x y : α) :
    Scalar.select (IntOp.cmpi .eq (BitVec.ofNat 32 (l.val / 64)) (BitVec.ofNat 32 h)) x y = if l.val / 64 = h then x else y := by
  have e : IntOp.cmpi .eq (BitVec.ofNat 32 (l.val / 64)) (BitVec.ofNat 32 h) = 1 ↔ l.val / 64 = h := by
    have hl := l.isLt
    interval_cases h <;> revert l <;> decide +kernel
  unfold Scalar.select
  exact if_congr e rfl rfl

theorem headSums_at (t : FVec Ideal S512x256 .f32) (r : Fin 512) (l : Fin 256) :
    headSums t (ix2 r l) = ∑ d : Fin 64, t (ix2 r ⟨l.val / 64 * 64 + d.val, by omega⟩) := by
  have hp := head_at
  unfold headSums k0_pay4
  generalize k0_pay2 = q at hp ⊢
  pointwise [k0_pay5, k0_pay3]
  simp only [hp]
  simp only [select_head _ 0 (by omega), select_head _ 1 (by omega), select_head _ 2 (by omega), select_head _ 3 (by omega)]
  have hl := l.isLt
  split_ifs with h3 h2 h1 h0
  · exact (sum_head (fun x => t (ix2 r x)) 3 (by omega)).trans (Finset.sum_congr rfl fun d _ => congrArg (fun x => t (ix2 r x)) (Fin.ext (by show 3 * 64 + d.val = l.val / 64 * 64 + d.val; omega)))
  · exact (sum_head (fun x => t (ix2 r x)) 2 (by omega)).trans (Finset.sum_congr rfl fun d _ => congrArg (fun x => t (ix2 r x)) (Fin.ext (by show 2 * 64 + d.val = l.val / 64 * 64 + d.val; omega)))
  · exact (sum_head (fun x => t (ix2 r x)) 1 (by omega)).trans (Finset.sum_congr rfl fun d _ => congrArg (fun x => t (ix2 r x)) (Fin.ext (by show 1 * 64 + d.val = l.val / 64 * 64 + d.val; omega)))
  · exact (sum_head (fun x => t (ix2 r x)) 0 (by omega)).trans (Finset.sum_congr rfl fun d _ => congrArg (fun x => t (ix2 r x)) (Fin.ext (by show 0 * 64 + d.val = l.val / 64 * 64 + d.val; omega)))
  · omega

/-! ## The arrays -/

theorem index_in : ∀ t : Fin cfg0.N, win0_0.index t = ![t.val, 0]
    ∧ win0_1.index t = ![t.val, 0]
    ∧ win0_2.index t = ![t.val, 0]
    ∧ win0_3.index t = ![t.val, 0]
    ∧ win0_4.index t = ![t.val, 0]
    ∧ win0_5.index t = ![t.val, 0]
    ∧ win0_6.index t = ![t.val, 0] := (by decide +kernel : ∀ t : Fin grid0.N, _)
theorem index_out : ∀ t : Fin cfg0.N, win0_7.index t = ![0, 0, t.val, 0]
    ∧ win0_8.index t = ![0, 0, t.val, 0]
    ∧ win0_9.index t = ![0, 0, t.val, 0]
    ∧ win0_10.index t = ![0, 0, t.val, 0]
    ∧ win0_11.index t = ![0, 0, t.val, 0]
    ∧ win0_12.index t = ![0, 0, t.val, 0] := (by decide +kernel : ∀ t : Fin grid0.N, _)

variable (m : (ℓ : Loc nD τ sig) → Buf (Elt Ideal) ℓ) (c : Dev nD)

/-- A tile holds rows of an array. -/
abbrev Holds (t : Fin cfg0.N) (a : Vec Ideal S512x256 .f32) (u : Cert.Merge.Rows) : Prop :=
  ∀ (r : Fin 512) (l : Fin 256) (h : t.val * 512 + r.val < 4096), a (ix2 r l) = u (ix2 ⟨t.val * 512 + r.val, h⟩ l)

theorem holds (t : Fin cfg0.N) : Holds t (iblk m c 0 t) (V m c main_arg0)
    ∧ Holds t (iblk m c 1 t) (V m c main_arg1)
    ∧ Holds t (iblk m c 2 t) (V m c main_arg2)
    ∧ Holds t (iblk m c 3 t) (V m c main_arg3)
    ∧ Holds t (iblk m c 4 t) (V m c main_arg4)
    ∧ Holds t (iblk m c 5 t) (V m c main_arg5)
    ∧ Holds t (iblk m c 6 t) (V m c main_arg6) := by
  refine ⟨?_, ?_, ?_, ?_, ?_, ?_, ?_⟩ <;> (intro r l h; blk_simp [iblk]; refine congrArg _ ?_; blk_ext [index_in])

/-- A tile's head sums of the products of two arrays' rows. -/
theorem headSums_iblk (t : Fin cfg0.N) (a b : Vec Ideal S512x256 .f32) (u v : Cert.Merge.Rows) (ha : Holds t a u) (hb : Holds t b v)
    (r : Fin 512) (l : Fin 256) (h : t.val * 512 + r.val < 4096) :
    headSums (mulf a b) (ix2 r l) = headDot u v ⟨t.val * 512 + r.val, h⟩ l := by
  rw [headSums_at]
  refine Finset.sum_congr rfl fun d _ => ?_
  pointwise []
  rw [ha r _ h, hb r _ h]

theorem outGrad_at (t : Fin cfg0.N) (x w : Vec Ideal S512x256 .f32) (u v : Cert.Merge.Rows) (hx : Holds t x u) (hw : Holds t w v)
    (r : Fin 512) (l : Fin 256) (h : t.val * 512 + r.val < 4096) : outGrad x w (ix2 r l) = toOut u v ⟨t.val * 512 + r.val, h⟩ l := by
  unfold outGrad toOut
  pointwise []
  rw [hx r l h, hw r l h]

/-- The gradient of a group's log-sum-exps from its weights and its outputs. -/
abbrev lseOf (w o : Cert.Merge.Rows) (r : Fin 4096) (l : Fin 256) : EReal := toLse (V m c main_arg0) (V m c main_arg1) (V m c main_arg2) (V m c main_arg3) (V m c main_arg4) (V m c main_arg5) (V m c main_arg6) w o r l

theorem lseGrad_at (t : Fin cfg0.N) (w o : Vec Ideal S512x256 .f32) (u v : Cert.Merge.Rows) (hw : Holds t w u) (ho : Holds t o v)
    (r : Fin 512) (l : Fin 256) (h : t.val * 512 + r.val < 4096) :
    lseGrad (iblk m c 0 t) (iblk m c 1 t) (iblk m c 2 t) (iblk m c 3 t) (iblk m c 4 t) (iblk m c 5 t) (iblk m c 6 t) w o (ix2 r l) = lseOf m c u v ⟨t.val * 512 + r.val, h⟩ l := by
  obtain ⟨a0, a1, a2, a3, a4, a5, a6⟩ := holds m c t
  have e0 := headSums_iblk t _ _ _ _ a0 ho r l h
  have e1 := headSums_iblk t _ _ _ _ a0 a1 r l h
  have e2 := headSums_iblk t _ _ _ _ a0 a2 r l h
  have e3 := headSums_iblk t _ _ _ _ a0 a3 r l h
  unfold lseGrad mean lseOf toLse Cert.Merge.mix
  generalize headSums (mulf (iblk m c 0 t) o) = h0 at e0 ⊢
  generalize headSums (mulf (iblk m c 0 t) (iblk m c 1 t)) = h1 at e1 ⊢
  generalize headSums (mulf (iblk m c 0 t) (iblk m c 2 t)) = h2 at e2 ⊢
  generalize headSums (mulf (iblk m c 0 t) (iblk m c 3 t)) = h3 at e3 ⊢
  pointwise []
  rw [e0, e1, e2, e3, hw r l h, a4 r l h, a5 r l h, a6 r l h]

/-! A tile's rows by residue are the array's. -/

theorem lay1_at (t : Fin cfg0.N) (D : S512x256.Idx → EReal) (f : Fin 4096 → Fin 256 → EReal)
    (hD : ∀ (r : Fin 512) (l : Fin 256) (h : t.val * 512 + r.val < 4096), D (ix2 r l) = f ⟨t.val * 512 + r.val, h⟩ l)
    (a : Fin 2) (b : Fin 1) (r : Fin 512) (l : Fin 128) (h : t.val * 512 + r.val < 4096) :
    lay1 D (ix4 a b r l) = residues1 f (ix4 a b ⟨t.val * 512 + r.val, h⟩ l) :=
  (hD _ _ (by first | (show t.val * 512 + (r.val * 1 + b.val) < 4096; omega) | (show t.val * 512 + r.val < 4096; omega))).trans
    (congrArg₂ f (Fin.ext (by first | (show t.val * 512 + (r.val * 1 + b.val) = (t.val * 512 + r.val) * 1 + b.val; omega) | (show t.val * 512 + r.val = (t.val * 512 + r.val) * 1 + b.val; omega))) rfl)
theorem lay4_at (t : Fin cfg0.N) (D : S512x256.Idx → EReal) (f : Fin 4096 → Fin 256 → EReal)
    (hD : ∀ (r : Fin 512) (l : Fin 256) (h : t.val * 512 + r.val < 4096), D (ix2 r l) = f ⟨t.val * 512 + r.val, h⟩ l)
    (a : Fin 2) (b : Fin 4) (r : Fin 128) (l : Fin 128) (h : t.val * 128 + r.val < 1024) :
    lay4 D (ix4 a b r l) = residues4 f (ix4 a b ⟨t.val * 128 + r.val, h⟩ l) :=
  (hD _ _ (by first | (show t.val * 512 + (r.val * 4 + b.val) < 4096; omega) | (show t.val * 512 + r.val < 4096; omega))).trans
    (congrArg₂ f (Fin.ext (by first | (show t.val * 512 + (r.val * 4 + b.val) = (t.val * 128 + r.val) * 4 + b.val; omega) | (show t.val * 512 + r.val = (t.val * 128 + r.val) * 4 + b.val; omega))) rfl)
theorem lay16_at (t : Fin cfg0.N) (D : S512x256.Idx → EReal) (f : Fin 4096 → Fin 256 → EReal)
    (hD : ∀ (r : Fin 512) (l : Fin 256) (h : t.val * 512 + r.val < 4096), D (ix2 r l) = f ⟨t.val * 512 + r.val, h⟩ l)
    (a : Fin 2) (b : Fin 16) (r : Fin 32) (l : Fin 128) (h : t.val * 32 + r.val < 256) :
    lay16 D (ix4 a b r l) = residues16 f (ix4 a b ⟨t.val * 32 + r.val, h⟩ l) :=
  (hD _ _ (by first | (show t.val * 512 + (r.val * 16 + b.val) < 4096; omega) | (show t.val * 512 + r.val < 4096; omega))).trans
    (congrArg₂ f (Fin.ext (by first | (show t.val * 512 + (r.val * 16 + b.val) = (t.val * 32 + r.val) * 16 + b.val; omega) | (show t.val * 512 + r.val = (t.val * 32 + r.val) * 16 + b.val; omega))) rfl)

theorem final_7 : (dats m 0 c).arrAt 7 cfg0.N = residues1 (toOut (V m c main_arg0) (V m c main_arg4)) := by
  refine (dats m 0 c).arrAt_eq_of_covers 7 _ (by decide +kernel) (fun t hf y => ?_)
  have ht : t.val < 8 := t.isLt
  blk_simp
  rw [after0_7]
  unfold outsAt0
  dsimp only
  rw [left_7]
  obtain ⟨a, b, r, l, rfl⟩ : ∃ (a : Fin 2) (b : Fin 1) (r : Fin 512) (l : Fin 128), y = ix4 a b r l := ⟨y 0, y 1, y 2, y 3, funext fun b => by fin_cases b <;> rfl⟩
  rw [show ((View.whole main_v0_0).slice (win0_7.rect t)).emb (ix4 a b r l) = ix4 a b ⟨t.val * 512 + r.val, by omega⟩ l by blk_ext [index_out]]
  exact lay1_at t _ _ (outGrad_at t _ _ _ _ (holds m c t).1 (holds m c t).2.2.2.2.1) a b r l _

theorem final_8 : (dats m 0 c).arrAt 8 cfg0.N = residues4 (toOut (V m c main_arg0) (V m c main_arg5)) := by
  refine (dats m 0 c).arrAt_eq_of_covers 8 _ (by decide +kernel) (fun t hf y => ?_)
  have ht : t.val < 8 := t.isLt
  blk_simp
  rw [after0_8]
  unfold outsAt0
  dsimp only
  rw [left_8]
  obtain ⟨a, b, r, l, rfl⟩ : ∃ (a : Fin 2) (b : Fin 4) (r : Fin 128) (l : Fin 128), y = ix4 a b r l := ⟨y 0, y 1, y 2, y 3, funext fun b => by fin_cases b <;> rfl⟩
  rw [show ((View.whole main_v0_1).slice (win0_8.rect t)).emb (ix4 a b r l) = ix4 a b ⟨t.val * 128 + r.val, by omega⟩ l by blk_ext [index_out]]
  exact lay4_at t _ _ (outGrad_at t _ _ _ _ (holds m c t).1 (holds m c t).2.2.2.2.2.1) a b r l _

theorem final_9 : (dats m 0 c).arrAt 9 cfg0.N = residues16 (toOut (V m c main_arg0) (V m c main_arg6)) := by
  refine (dats m 0 c).arrAt_eq_of_covers 9 _ (by decide +kernel) (fun t hf y => ?_)
  have ht : t.val < 8 := t.isLt
  blk_simp
  rw [after0_9]
  unfold outsAt0
  dsimp only
  rw [left_9]
  obtain ⟨a, b, r, l, rfl⟩ : ∃ (a : Fin 2) (b : Fin 16) (r : Fin 32) (l : Fin 128), y = ix4 a b r l := ⟨y 0, y 1, y 2, y 3, funext fun b => by fin_cases b <;> rfl⟩
  rw [show ((View.whole main_v0_2).slice (win0_9.rect t)).emb (ix4 a b r l) = ix4 a b ⟨t.val * 32 + r.val, by omega⟩ l by blk_ext [index_out]]
  exact lay16_at t _ _ (outGrad_at t _ _ _ _ (holds m c t).1 (holds m c t).2.2.2.2.2.2) a b r l _

theorem final_10 : (dats m 0 c).arrAt 10 cfg0.N = residues1 (lseOf m c (V m c main_arg4) (V m c main_arg1)) := by
  refine (dats m 0 c).arrAt_eq_of_covers 10 _ (by decide +kernel) (fun t hf y => ?_)
  have ht : t.val < 8 := t.isLt
  blk_simp
  rw [after0_10]
  unfold outsAt0
  dsimp only
  rw [left_10]
  obtain ⟨a, b, r, l, rfl⟩ : ∃ (a : Fin 2) (b : Fin 1) (r : Fin 512) (l : Fin 128), y = ix4 a b r l := ⟨y 0, y 1, y 2, y 3, funext fun b => by fin_cases b <;> rfl⟩
  rw [show ((View.whole main_v0_3).slice (win0_10.rect t)).emb (ix4 a b r l) = ix4 a b ⟨t.val * 512 + r.val, by omega⟩ l by blk_ext [index_out]]
  exact lay1_at t _ _ (lseGrad_at m c t _ _ _ _ (holds m c t).2.2.2.2.1 (holds m c t).2.1) a b r l _

theorem final_11 : (dats m 0 c).arrAt 11 cfg0.N = residues4 (lseOf m c (V m c main_arg5) (V m c main_arg2)) := by
  refine (dats m 0 c).arrAt_eq_of_covers 11 _ (by decide +kernel) (fun t hf y => ?_)
  have ht : t.val < 8 := t.isLt
  blk_simp
  rw [after0_11]
  unfold outsAt0
  dsimp only
  rw [left_11]
  obtain ⟨a, b, r, l, rfl⟩ : ∃ (a : Fin 2) (b : Fin 4) (r : Fin 128) (l : Fin 128), y = ix4 a b r l := ⟨y 0, y 1, y 2, y 3, funext fun b => by fin_cases b <;> rfl⟩
  rw [show ((View.whole main_v0_4).slice (win0_11.rect t)).emb (ix4 a b r l) = ix4 a b ⟨t.val * 128 + r.val, by omega⟩ l by blk_ext [index_out]]
  exact lay4_at t _ _ (lseGrad_at m c t _ _ _ _ (holds m c t).2.2.2.2.2.1 (holds m c t).2.2.1) a b r l _

theorem final_12 : (dats m 0 c).arrAt 12 cfg0.N = residues16 (lseOf m c (V m c main_arg6) (V m c main_arg3)) := by
  refine (dats m 0 c).arrAt_eq_of_covers 12 _ (by decide +kernel) (fun t hf y => ?_)
  have ht : t.val < 8 := t.isLt
  blk_simp
  rw [after0_12]
  unfold outsAt0
  dsimp only
  rw [left_12]
  obtain ⟨a, b, r, l, rfl⟩ : ∃ (a : Fin 2) (b : Fin 16) (r : Fin 32) (l : Fin 128), y = ix4 a b r l := ⟨y 0, y 1, y 2, y 3, funext fun b => by fin_cases b <;> rfl⟩
  rw [show ((View.whole main_v0_5).slice (win0_12.rect t)).emb (ix4 a b r l) = ix4 a b ⟨t.val * 32 + r.val, by omega⟩ l by blk_ext [index_out]]
  exact lay16_at t _ _ (lseGrad_at m c t _ _ _ _ (holds m c t).2.2.2.2.2.2 (holds m c t).2.2.2.1) a b r l _

end Cert.Kernel33Ideal.Merge

end
-- ==== Proof.Merge.RefValue.lean ====
/-
  The reference of the merge's backward call, entry by entry, and its agreement with the call.
-/
module

public import proofs.«01_k».proof.Proof.Merge.KernelValue
public import proofs.«01_k».proof.Proof.Gen.Reference33Ideal.Run
public import proofs.«01_k».proof.Defs

@[expose] public section

set_option maxRecDepth 16384

noncomputable section

namespace Cert.Reference33Ideal.Merge

open Idealize.ShloMosaic Idealize.ShloMosaic.TcCoe
open Cert.Reference33Ideal Cert.Reference33Ideal.Gen
open Cert.Merge

/-- The lanes by heads. -/
def heads (a : FVec Ideal S4096x256 .f32) : FVec Ideal S4096x4x64 .f32 := shapeCast _ a shapeCasts_S4096x256_S4096x4x64

/-- A head's sums of products, at each of its lanes. -/
def dots (a b : FVec Ideal S4096x256 .f32) : FVec Ideal S4096x4x64 .f32 :=
  broadcastInDim S4096x4x64 ![0, 1, 2] bcast_S4096x4x1_S4096x4x64_0_1_2 (broadcastInDim S4096x4x1 ![0, 1] bcast_S4096x4_S4096x4x1_0_1
    (Host.reduceAdd (mulf (heads a) (heads b)) (constant S_ .f32 0x00000000#32) reducesTo_S4096x4x64_S4096x4_d2 h_S_))

variable (dy o0 o1 o2 w0 w1 w2 : FVec Ideal S4096x256 .f32)

/-- The groups' weighted mean. -/
def mean : FVec Ideal S4096x4x64 .f32 :=
  addf (addf (addf (broadcastInDim S4096x4x64 ![] bcast_S_S4096x4x64 (constant S_ .f32 0x00000000#32)) (mulf (heads w0) (dots dy o0)))
    (mulf (heads w1) (dots dy o1))) (mulf (heads w2) (dots dy o2))

def outs (w : FVec Ideal S4096x256 .f32) : FVec Ideal S4096x4x64 .bf16 := truncf .bf16 (mulf (heads w) (heads dy)) bitsLt_bf16_f32
def lses (w o : FVec Ideal S4096x256 .f32) : FVec Ideal S4096x4x64 .f32 := mulf (heads w) (subf (dots dy o) (mean dy o0 o1 o2 w0 w1 w2))

theorem heads_at (a : FVec Ideal S4096x256 .f32) (r : Fin 4096) (h : Fin 4) (d : Fin 64) :
    heads a (ix3 r h d) = a (ix2 r ⟨h.val * 64 + d.val, by omega⟩) := by
  pointwise [heads]

theorem dots_at (a b : FVec Ideal S4096x256 .f32) (r : Fin 4096) (h : Fin 4) (d : Fin 64) :
    dots a b (ix3 r h d) = headDot a b r ⟨h.val * 64 + d.val, by omega⟩ := by
  have ha := heads_at a
  have hb := heads_at b
  unfold dots
  generalize heads a = u at ha ⊢
  generalize heads b = v at hb ⊢
  pointwise []
  simp only [ha, hb, zero_add]
  refine Finset.sum_congr rfl fun e _ => ?_
  have he : (h.val * 64 + d.val) / 64 * 64 + e.val = h.val * 64 + e.val := by omega
  exact congrArg₂ (fun y z => a (ix2 r y) * b (ix2 r z)) (Fin.ext he.symm) (Fin.ext he.symm)

theorem outs_at (w : FVec Ideal S4096x256 .f32) (r : Fin 4096) (h : Fin 4) (d : Fin 64) :
    outs dy w (ix3 r h d) = toOut dy w r ⟨h.val * 64 + d.val, by omega⟩ := by
  have ha := heads_at w
  have hb := heads_at dy
  unfold outs toOut
  generalize heads w = u at ha ⊢
  generalize heads dy = v at hb ⊢
  pointwise []
  rw [ha, hb]

theorem mean_at (r : Fin 4096) (h : Fin 4) (d : Fin 64) :
    mean dy o0 o1 o2 w0 w1 w2 (ix3 r h d) = mix dy o0 o1 o2 w0 w1 w2 r ⟨h.val * 64 + d.val, by omega⟩ := by
  have h0 := heads_at w0 r h d
  have h1 := heads_at w1 r h d
  have h2 := heads_at w2 r h d
  have d0 := dots_at dy o0 r h d
  have d1 := dots_at dy o1 r h d
  have d2 := dots_at dy o2 r h d
  unfold mean mix
  generalize heads w0 = a0 at h0 ⊢
  generalize heads w1 = a1 at h1 ⊢
  generalize heads w2 = a2 at h2 ⊢
  generalize dots dy o0 = b0 at d0 ⊢
  generalize dots dy o1 = b1 at d1 ⊢
  generalize dots dy o2 = b2 at d2 ⊢
  pointwise []
  rw [h0, h1, h2, d0, d1, d2]

theorem lses_at (w o : FVec Ideal S4096x256 .f32) (r : Fin 4096) (h : Fin 4) (d : Fin 64) :
    lses dy o0 o1 o2 w0 w1 w2 w o (ix3 r h d) = toLse dy o0 o1 o2 w0 w1 w2 w o r ⟨h.val * 64 + d.val, by omega⟩ := by
  have h0 := heads_at w r h d
  have d0 := dots_at dy o r h d
  have m0 := mean_at dy o0 o1 o2 w0 w1 w2 r h d
  unfold lses toLse
  generalize heads w = a0 at h0 ⊢
  generalize dots dy o = b0 at d0 ⊢
  generalize mean dy o0 o1 o2 w0 w1 w2 = c0 at m0 ⊢
  pointwise []
  rw [h0, d0, m0]

theorem sorted1 {φ : FTy} (D : FVec Ideal S4096x4x64 φ) (f : Fin 4096 → Fin 256 → EReal)
    (hD : ∀ (r : Fin 4096) (h : Fin 4) (d : Fin 64), D (ix3 r h d) = f r ⟨h.val * 64 + d.val, by omega⟩) :
    transpose S2x1x4096x128 [2, 1, 0, 3] (shapeCast _ D shapeCasts_S4096x4x64_S4096x1x2x128) transposes_S4096x1x2x128_S2x1x4096x128_2_1_0_3 = residues1 f := by
  funext y
  obtain ⟨a, b, r, l, rfl⟩ : ∃ (a : Fin 2) (b : Fin 1) (r : Fin 4096) (l : Fin 128), y = ix4 a b r l :=
    ⟨y 0, y 1, y 2, y 3, funext fun b => by fin_cases b <;> rfl⟩
  unfold residues1
  have e : transpose S2x1x4096x128 [2, 1, 0, 3] (shapeCast _ D shapeCasts_S4096x4x64_S4096x1x2x128) transposes_S4096x1x2x128_S2x1x4096x128_2_1_0_3 (ix4 a b r l)
      = D (ix3 ⟨r.val * 1 + b.val, by omega⟩ ⟨a.val * 2 + l.val / 64, by omega⟩ ⟨l.val % 64, by omega⟩) := by
    pointwise []
  rw [e, hD]
  refine congrArg (f _) (Fin.ext ?_)
  show (a.val * 2 + l.val / 64) * 64 + l.val % 64 = a.val * 128 + l.val
  omega

theorem sorted4 {φ : FTy} (D : FVec Ideal S4096x4x64 φ) (f : Fin 4096 → Fin 256 → EReal)
    (hD : ∀ (r : Fin 4096) (h : Fin 4) (d : Fin 64), D (ix3 r h d) = f r ⟨h.val * 64 + d.val, by omega⟩) :
    transpose S2x4x1024x128 [2, 1, 0, 3] (shapeCast _ D shapeCasts_S4096x4x64_S1024x4x2x128) transposes_S1024x4x2x128_S2x4x1024x128_2_1_0_3 = residues4 f := by
  funext y
  obtain ⟨a, b, r, l, rfl⟩ : ∃ (a : Fin 2) (b : Fin 4) (r : Fin 1024) (l : Fin 128), y = ix4 a b r l :=
    ⟨y 0, y 1, y 2, y 3, funext fun b => by fin_cases b <;> rfl⟩
  unfold residues4
  have e : transpose S2x4x1024x128 [2, 1, 0, 3] (shapeCast _ D shapeCasts_S4096x4x64_S1024x4x2x128) transposes_S1024x4x2x128_S2x4x1024x128_2_1_0_3 (ix4 a b r l)
      = D (ix3 ⟨r.val * 4 + b.val, by omega⟩ ⟨a.val * 2 + l.val / 64, by omega⟩ ⟨l.val % 64, by omega⟩) := by
    pointwise []
  rw [e, hD]
  refine congrArg (f _) (Fin.ext ?_)
  show (a.val * 2 + l.val / 64) * 64 + l.val % 64 = a.val * 128 + l.val
  omega

theorem sorted16 {φ : FTy} (D : FVec Ideal S4096x4x64 φ) (f : Fin 4096 → Fin 256 → EReal)
    (hD : ∀ (r : Fin 4096) (h : Fin 4) (d : Fin 64), D (ix3 r h d) = f r ⟨h.val * 64 + d.val, by omega⟩) :
    transpose S2x16x256x128 [2, 1, 0, 3] (shapeCast _ D shapeCasts_S4096x4x64_S256x16x2x128) transposes_S256x16x2x128_S2x16x256x128_2_1_0_3 = residues16 f := by
  funext y
  obtain ⟨a, b, r, l, rfl⟩ : ∃ (a : Fin 2) (b : Fin 16) (r : Fin 256) (l : Fin 128), y = ix4 a b r l :=
    ⟨y 0, y 1, y 2, y 3, funext fun b => by fin_cases b <;> rfl⟩
  unfold residues16
  have e : transpose S2x16x256x128 [2, 1, 0, 3] (shapeCast _ D shapeCasts_S4096x4x64_S256x16x2x128) transposes_S256x16x2x128_S2x16x256x128_2_1_0_3 (ix4 a b r l)
      = D (ix3 ⟨r.val * 16 + b.val, by omega⟩ ⟨a.val * 2 + l.val / 64, by omega⟩ ⟨l.val % 64, by omega⟩) := by
    pointwise []
  rw [e, hD]
  refine congrArg (f _) (Fin.ext ?_)
  show (a.val * 2 + l.val / 64) * 64 + l.val % 64 = a.val * 128 + l.val
  omega

end Cert.Reference33Ideal.Merge

namespace Cert.Reference33Ideal.Product

open Idealize.ShloMosaic Idealize.ShloMosaic.TcCoe
open Cert.Kernel33Ideal.Gen (A_eq dats V_main_arg0 V_main_arg1 V_main_arg2 V_main_arg3 V_main_arg4 V_main_arg5 V_main_arg6)
open Cert.Merge Cert.Reference33Ideal.Merge

set_option maxHeartbeats 4000000 in
/-- From the same arguments the call and the reference return the same six arrays. -/
theorem same : Cert.algebraic_Kernel33Ideal_Reference33Ideal := fun m g m' g' _ hargs => by
  refine ⟨fun c => residues1 (toOut (m (c.tc.loc Kernel33Ideal.main_arg0)) (m (c.tc.loc Kernel33Ideal.main_arg4))),
    fun c => residues4 (toOut (m (c.tc.loc Kernel33Ideal.main_arg0)) (m (c.tc.loc Kernel33Ideal.main_arg5))),
    fun c => residues16 (toOut (m (c.tc.loc Kernel33Ideal.main_arg0)) (m (c.tc.loc Kernel33Ideal.main_arg6))),
    fun c => residues1 (toLse (m (c.tc.loc Kernel33Ideal.main_arg0)) (m (c.tc.loc Kernel33Ideal.main_arg1)) (m (c.tc.loc Kernel33Ideal.main_arg2)) (m (c.tc.loc Kernel33Ideal.main_arg3)) (m (c.tc.loc Kernel33Ideal.main_arg4)) (m (c.tc.loc Kernel33Ideal.main_arg5)) (m (c.tc.loc Kernel33Ideal.main_arg6)) (m (c.tc.loc Kernel33Ideal.main_arg4)) (m (c.tc.loc Kernel33Ideal.main_arg1))),
    fun c => residues4 (toLse (m (c.tc.loc Kernel33Ideal.main_arg0)) (m (c.tc.loc Kernel33Ideal.main_arg1)) (m (c.tc.loc Kernel33Ideal.main_arg2)) (m (c.tc.loc Kernel33Ideal.main_arg3)) (m (c.tc.loc Kernel33Ideal.main_arg4)) (m (c.tc.loc Kernel33Ideal.main_arg5)) (m (c.tc.loc Kernel33Ideal.main_arg6)) (m (c.tc.loc Kernel33Ideal.main_arg5)) (m (c.tc.loc Kernel33Ideal.main_arg2))),
    fun c => residues16 (toLse (m (c.tc.loc Kernel33Ideal.main_arg0)) (m (c.tc.loc Kernel33Ideal.main_arg1)) (m (c.tc.loc Kernel33Ideal.main_arg2)) (m (c.tc.loc Kernel33Ideal.main_arg3)) (m (c.tc.loc Kernel33Ideal.main_arg4)) (m (c.tc.loc Kernel33Ideal.main_arg5)) (m (c.tc.loc Kernel33Ideal.main_arg6)) (m (c.tc.loc Kernel33Ideal.main_arg6)) (m (c.tc.loc Kernel33Ideal.main_arg3))), ?_, ?_⟩
  · refine (θ_run Kernel33Ideal.defs _ _).mono (fun r h c => ⟨((h c).1 7).trans ?_,
      ((h c).1 8).trans ?_,
      ((h c).1 9).trans ?_,
      ((h c).1 10).trans ?_,
      ((h c).1 11).trans ?_,
      ((h c).1 12).trans ?_,
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c))),
      ((h c).1 6).trans (((dats m 0 c).arrAt_in 6 rfl _).trans ((A_eq m c 6).trans (V_main_arg6 m c)))⟩) (Kernel33Ideal.Gen.run_main m g)
    · exact (Kernel33Ideal.Merge.final_7 m c).trans (by rw [V_main_arg0, V_main_arg4])
    · exact (Kernel33Ideal.Merge.final_8 m c).trans (by rw [V_main_arg0, V_main_arg5])
    · exact (Kernel33Ideal.Merge.final_9 m c).trans (by rw [V_main_arg0, V_main_arg6])
    · exact (Kernel33Ideal.Merge.final_10 m c).trans (by unfold Kernel33Ideal.Merge.lseOf; rw [V_main_arg0, V_main_arg1, V_main_arg2, V_main_arg3, V_main_arg4, V_main_arg5, V_main_arg6])
    · exact (Kernel33Ideal.Merge.final_11 m c).trans (by unfold Kernel33Ideal.Merge.lseOf; rw [V_main_arg0, V_main_arg1, V_main_arg2, V_main_arg3, V_main_arg4, V_main_arg5, V_main_arg6])
    · exact (Kernel33Ideal.Merge.final_12 m c).trans (by unfold Kernel33Ideal.Merge.lseOf; rw [V_main_arg0, V_main_arg1, V_main_arg2, V_main_arg3, V_main_arg4, V_main_arg5, V_main_arg6])
  · refine (θ_run Reference33Ideal.defs _ _).mono (fun r h c => ⟨(h c).1.trans ?_, (h c).2.1.trans ?_, (h c).2.2.1.trans ?_, (h c).2.2.2.1.trans ?_, (h c).2.2.2.2.1.trans ?_, (h c).2.2.2.2.2.1.trans ?_, (h c).2.2.2.2.2.2⟩) (Reference33Ideal.Value.run (F := Ideal) m' g')
    · obtain ⟨a0, a1, a2, a3, a4, a5, a6⟩ := hargs c
      exact (sorted1 _ _ (outs_at (m' (c.tc.loc Reference33Ideal.main_arg0)) (m' (c.tc.loc Reference33Ideal.main_arg4)))).trans (by rw [a0, a4])
    · obtain ⟨a0, a1, a2, a3, a4, a5, a6⟩ := hargs c
      exact (sorted4 _ _ (outs_at (m' (c.tc.loc Reference33Ideal.main_arg0)) (m' (c.tc.loc Reference33Ideal.main_arg5)))).trans (by rw [a0, a5])
    · obtain ⟨a0, a1, a2, a3, a4, a5, a6⟩ := hargs c
      exact (sorted16 _ _ (outs_at (m' (c.tc.loc Reference33Ideal.main_arg0)) (m' (c.tc.loc Reference33Ideal.main_arg6)))).trans (by rw [a0, a6])
    · obtain ⟨a0, a1, a2, a3, a4, a5, a6⟩ := hargs c
      exact (sorted1 _ _ (lses_at (m' (c.tc.loc Reference33Ideal.main_arg0)) (m' (c.tc.loc Reference33Ideal.main_arg1)) (m' (c.tc.loc Reference33Ideal.main_arg2)) (m' (c.tc.loc Reference33Ideal.main_arg3)) (m' (c.tc.loc Reference33Ideal.main_arg4)) (m' (c.tc.loc Reference33Ideal.main_arg5)) (m' (c.tc.loc Reference33Ideal.main_arg6)) (m' (c.tc.loc Reference33Ideal.main_arg4)) (m' (c.tc.loc Reference33Ideal.main_arg1)))).trans (by rw [a0, a1, a2, a3, a4, a5, a6])
    · obtain ⟨a0, a1, a2, a3, a4, a5, a6⟩ := hargs c
      exact (sorted4 _ _ (lses_at (m' (c.tc.loc Reference33Ideal.main_arg0)) (m' (c.tc.loc Reference33Ideal.main_arg1)) (m' (c.tc.loc Reference33Ideal.main_arg2)) (m' (c.tc.loc Reference33Ideal.main_arg3)) (m' (c.tc.loc Reference33Ideal.main_arg4)) (m' (c.tc.loc Reference33Ideal.main_arg5)) (m' (c.tc.loc Reference33Ideal.main_arg6)) (m' (c.tc.loc Reference33Ideal.main_arg5)) (m' (c.tc.loc Reference33Ideal.main_arg2)))).trans (by rw [a0, a1, a2, a3, a4, a5, a6])
    · obtain ⟨a0, a1, a2, a3, a4, a5, a6⟩ := hargs c
      exact (sorted16 _ _ (lses_at (m' (c.tc.loc Reference33Ideal.main_arg0)) (m' (c.tc.loc Reference33Ideal.main_arg1)) (m' (c.tc.loc Reference33Ideal.main_arg2)) (m' (c.tc.loc Reference33Ideal.main_arg3)) (m' (c.tc.loc Reference33Ideal.main_arg4)) (m' (c.tc.loc Reference33Ideal.main_arg5)) (m' (c.tc.loc Reference33Ideal.main_arg6)) (m' (c.tc.loc Reference33Ideal.main_arg6)) (m' (c.tc.loc Reference33Ideal.main_arg3)))).trans (by rw [a0, a1, a2, a3, a4, a5, a6])

end Cert.Reference33Ideal.Product

end
-- ==== Proof.Unrotate.Body.lean ====
/-
  What the backward call of the projection's layout leaves in its output tile, over the extended reals.
-/
module

public import proofs.«01_k».proof.Proof.Gen.Kernel34Ideal.Frame
public import Idealize.ShloMosaic.PureOps.Ideal
public import Idealize.ShloMosaic.Lib.Pointwise
public import Idealize.ShloMosaic.Lib.Pipeline.ValueKit

@[expose] public section

set_option maxRecDepth 16384

noncomputable section

namespace Cert.Kernel34Ideal.Unrotate

open Idealize.ShloMosaic Idealize.ShloMosaic.TcCoe Idealize.ShloMosaic.Tactic Idealize.ShloMosaic.WordCmp
open Cert.Kernel34Ideal Cert.Kernel34Ideal.Gen

/-! ## The residues of a group's rows, put back into token order -/

def rows1 (x : Vec Ideal S2x1x512x128 .f32) (p : Fin 2) : FVec Ideal S512x128 .f32 := fun y => x (ix4 p 0 (y 0) (y 1))
def rows4 (x : Vec Ideal S2x4x128x128 .f32) (p : Fin 2) : FVec Ideal S512x128 .f32 := fun y =>
  x (ix4 p ⟨(y 0).val % 4, Nat.mod_lt _ (by decide)⟩ ⟨(y 0).val / 4, by have h : (y 0).val < 512 := (y 0).isLt; omega⟩ (y 1))
def rows16 (x : Vec Ideal S2x16x32x128 .f32) (p : Fin 2) : FVec Ideal S512x128 .f32 := fun y =>
  x (ix4 p ⟨(y 0).val % 16, Nat.mod_lt _ (by decide)⟩ ⟨(y 0).val / 16, by have h : (y 0).val < 512 := (y 0).isLt; omega⟩ (y 1))

theorem row1 (x : Vec Ideal S2x1x512x128 .f32) (p : Fin 2) (h1) (h2) :
    shapeCast S512x128 (View.ld x (Rect.unit (s := S2x1x512x128) ![p.val, 0, 0, 0] ![1, 1, 512, 128] h1)) h2 = rows1 x p := by
  funext y
  obtain ⟨r, l, rfl⟩ : ∃ (r : Fin 512) (l : Fin 128), y = (ix2 r l : S512x128.Idx) := ⟨y 0, y 1, funext fun b => by fin_cases b <;> rfl⟩
  have hw : ∀ w : FVec Ideal S1x1x512x128 .f32, shapeCast S512x128 w h2 (ix2 r l) = w (ix4 0 0 r l) := fun w => by pointwise
  rw [hw]
  refine congrArg x (funext fun b => Fin.ext ?_)
  fin_cases b
  · show p.val + 1 * 0 = p.val
    omega
  · rfl
  · show 0 + 1 * r.val = r.val
    omega
  · show 0 + 1 * l.val = l.val
    omega

/-- One strided store: the rows of residue `a`; the others lie in the stores before it. -/
theorem step4 (x : Vec Ideal S2x4x128x128 .f32) (p : Fin 2) (a : ℕ) (ha : a < 4) (h1) (h2) (h3) (h6) (h7)
    (L : List (View.Piece (Elt Ideal) S512x128 .f32)) (w : FVec Ideal S128x128 .f32)
    (hw : w = shapeCast S128x128 (shapeCast S128x128 (View.ld x (Rect.unit (s := S2x4x128x128) ![p.val, a, 0, 0] ![1, 1, 128, 128] h1)) h2) h3)
    (r : Fin 512) (l : Fin 128) (hL : r.val % 4 ≠ a → View.canon L (ix2 r l : S512x128.Idx) = rows4 x p (ix2 r l)) :
    View.canon (Val := Elt Ideal) (e := .f32) ((⟨{ off := ![a, 0], size := ![128, 128], stride := ![4, 1], inb := h6, stride_pos := h7 }, w⟩ : View.Piece (Elt Ideal) S512x128 .f32) :: L) (ix2 r l : S512x128.Idx) = rows4 x p (ix2 r l) := by
  by_cases e : r.val % 4 = a
  · have ey : (ix2 r l : S512x128.Idx) = ({ off := ![a, 0], size := ![128, 128], stride := ![4, 1], inb := h6, stride_pos := h7 } : Rect S512x128).emb (ix2 (⟨r.val / 4, by omega⟩ : Fin 128) l : S128x128.Idx) := by
      funext b
      refine Fin.ext ?_
      rw [Rect.emb_apply]
      fin_cases b
      · show r.val = a + 4 * (r.val / 4)
        omega
      · show l.val = 0 + 1 * l.val
        omega
    rw [ey, View.canon_cons_emb, ← ey, hw]
    have hc : ∀ u : FVec Ideal S1x1x128x128 .f32, shapeCast S128x128 (shapeCast S128x128 u h2) h3 (ix2 (⟨r.val / 4, by omega⟩ : Fin 128) l) = u (ix4 0 0 (⟨r.val / 4, by omega⟩ : Fin 128) l) := fun u => by pointwise
    rw [hc]
    refine congrArg x (funext fun b => Fin.ext ?_)
    fin_cases b
    · show p.val + 1 * 0 = p.val
      omega
    · show a + 1 * 0 = r.val % 4
      omega
    · show 0 + 1 * (r.val / 4) = r.val / 4
      omega
    · show 0 + 1 * l.val = l.val
      omega
  · rw [View.canon_cons_of_not_mem]
    · exact hL e
    · intro hy
      obtain ⟨j, hj⟩ := LoadRect.exists_idx_of_mem _ hy
      have e0 : a + 4 * (j 0).val = r.val := congrArg (fun z : S512x128.Idx => (z 0).val) hj
      omega

theorem row4 (v : View sig .tc .vmem S512x128 .f32) (x : Vec Ideal S2x4x128x128 .f32) (p : Fin 2) (L) (h)
    (hL : ∀ (r : Fin 512) (l : Fin 128), View.canon L (ix2 r l : S512x128.Idx) = rows4 x p (ix2 r l)) :
    v.readCov (Val := Elt Ideal) L (Rect.unit (s := S512x128) ![0, 0] ![512, 128] h).toLoadRect = rows4 x p := by
  rw [View.readCov_eq_canon']
  funext y
  obtain ⟨r, l, rfl⟩ : ∃ (r : Fin 512) (l : Fin 128), y = (ix2 r l : S512x128.Idx) := ⟨y 0, y 1, funext fun b => by fin_cases b <;> rfl⟩
  refine Eq.trans (congrArg _ (funext fun b => Fin.ext ?_)) (hL r l)
  fin_cases b
  · show 0 + 1 * r.val = r.val
    omega
  · show 0 + 1 * l.val = l.val
    omega

/-- One strided store: the rows of residue `a`; the others lie in the stores before it. -/
theorem step16 (x : Vec Ideal S2x16x32x128 .f32) (p : Fin 2) (a : ℕ) (ha : a < 16) (h1) (h2) (h3) (h6) (h7)
    (L : List (View.Piece (Elt Ideal) S512x128 .f32)) (w : FVec Ideal S32x128 .f32)
    (hw : w = shapeCast S32x128 (shapeCast S32x128 (View.ld x (Rect.unit (s := S2x16x32x128) ![p.val, a, 0, 0] ![1, 1, 32, 128] h1)) h2) h3)
    (r : Fin 512) (l : Fin 128) (hL : r.val % 16 ≠ a → View.canon L (ix2 r l : S512x128.Idx) = rows16 x p (ix2 r l)) :
    View.canon (Val := Elt Ideal) (e := .f32) ((⟨{ off := ![a, 0], size := ![32, 128], stride := ![16, 1], inb := h6, stride_pos := h7 }, w⟩ : View.Piece (Elt Ideal) S512x128 .f32) :: L) (ix2 r l : S512x128.Idx) = rows16 x p (ix2 r l) := by
  by_cases e : r.val % 16 = a
  · have ey : (ix2 r l : S512x128.Idx) = ({ off := ![a, 0], size := ![32, 128], stride := ![16, 1], inb := h6, stride_pos := h7 } : Rect S512x128).emb (ix2 (⟨r.val / 16, by omega⟩ : Fin 32) l : S32x128.Idx) := by
      funext b
      refine Fin.ext ?_
      rw [Rect.emb_apply]
      fin_cases b
      · show r.val = a + 16 * (r.val / 16)
        omega
      · show l.val = 0 + 1 * l.val
        omega
    rw [ey, View.canon_cons_emb, ← ey, hw]
    have hc : ∀ u : FVec Ideal S1x1x32x128 .f32, shapeCast S32x128 (shapeCast S32x128 u h2) h3 (ix2 (⟨r.val / 16, by omega⟩ : Fin 32) l) = u (ix4 0 0 (⟨r.val / 16, by omega⟩ : Fin 32) l) := fun u => by pointwise
    rw [hc]
    refine congrArg x (funext fun b => Fin.ext ?_)
    fin_cases b
    · show p.val + 1 * 0 = p.val
      omega
    · show a + 1 * 0 = r.val % 16
      omega
    · show 0 + 1 * (r.val / 16) = r.val / 16
      omega
    · show 0 + 1 * l.val = l.val
      omega
  · rw [View.canon_cons_of_not_mem]
    · exact hL e
    · intro hy
      obtain ⟨j, hj⟩ := LoadRect.exists_idx_of_mem _ hy
      have e0 : a + 16 * (j 0).val = r.val := congrArg (fun z : S512x128.Idx => (z 0).val) hj
      omega

theorem row16 (v : View sig .tc .vmem S512x128 .f32) (x : Vec Ideal S2x16x32x128 .f32) (p : Fin 2) (L) (h)
    (hL : ∀ (r : Fin 512) (l : Fin 128), View.canon L (ix2 r l : S512x128.Idx) = rows16 x p (ix2 r l)) :
    v.readCov (Val := Elt Ideal) L (Rect.unit (s := S512x128) ![0, 0] ![512, 128] h).toLoadRect = rows16 x p := by
  rw [View.readCov_eq_canon']
  funext y
  obtain ⟨r, l, rfl⟩ : ∃ (r : Fin 512) (l : Fin 128), y = (ix2 r l : S512x128.Idx) := ⟨y 0, y 1, funext fun b => by fin_cases b <;> rfl⟩
  refine Eq.trans (congrArg _ (funext fun b => Fin.ext ?_)) (hL r l)
  fin_cases b
  · show 0 + 1 * r.val = r.val
    omega
  · show 0 + 1 * l.val = l.val
    omega

/-! ## The tile -/

/-- The inverse rotation of a tile's lanes, and the queries' scale. -/
def unturn (cs sn t : FVec Ideal S512x128 .f32) : FVec Ideal S512x128 .f32 :=
  addf (mulf t cs) (mulf (select k0_pay7 (dynamicRotate 1 96#32 none t rotates_S512x128_d1) (dynamicRotate 1 32#32 none t rotates_S512x128_d1))
    (subf (broadcast S512x128 (Scalar.ofBits .f32 0x00000000#32)) sn))
def unturned (cs sn t : FVec Ideal S512x128 .f32) : FVec Ideal S512x128 .bf16 := truncf .bf16 (unturn cs sn t) bitsLt_bf16_f32
def unscaled (cs sn t : FVec Ideal S512x128 .f32) : FVec Ideal S512x128 .bf16 :=
  truncf .bf16 (mulf (unturn cs sn t) (broadcast S512x128 (Scalar.ofBits .f32 0x3E000000#32))) bitsLt_bf16_f32

/-- The attention's columns, then the eighteen column tiles of the dilated queries, keys and values. -/
def columns (x0 x1 x2 : Vec Ideal S512x512 .bf16) (u : Fin 18 → FVec Ideal S512x128 .bf16) : FVec Ideal S512x3840 .bf16 :=
  concatenate S512x3840 1 [⟨S512x512, x0⟩, ⟨S512x512, x1⟩, ⟨S512x512, x2⟩, ⟨S512x128, u 0⟩, ⟨S512x128, u 1⟩, ⟨S512x128, u 2⟩, ⟨S512x128, u 3⟩, ⟨S512x128, u 4⟩, ⟨S512x128, u 5⟩, ⟨S512x128, u 6⟩, ⟨S512x128, u 7⟩, ⟨S512x128, u 8⟩, ⟨S512x128, u 9⟩, ⟨S512x128, u 10⟩, ⟨S512x128, u 11⟩, ⟨S512x128, u 12⟩, ⟨S512x128, u 13⟩, ⟨S512x128, u 14⟩, ⟨S512x128, u 15⟩, ⟨S512x128, u 16⟩, ⟨S512x128, u 17⟩] concatenates_S512x512_S512x512_S512x512_S512x128_S512x128_S512x128_S512x128_S512x128_S512x128_S512x128_S512x128_S512x128_S512x128_S512x128_S512x128_S512x128_S512x128_S512x128_S512x128_S512x128_S512x128_S512x3840_d1

/-- The columns of dilated queries, keys or values, group by group. -/
def groups (a : Vec Ideal S2x1x512x128 .f32) (b : Vec Ideal S2x4x128x128 .f32) (e : Vec Ideal S2x16x32x128 .f32) : Fin 6 → FVec Ideal S512x128 .f32 :=
  ![rows1 a 0, rows1 a 1, rows4 b 0, rows4 b 1, rows16 e 0, rows16 e 1]

def tileOf (cs sn : FVec Ideal S512x128 .f32) (q k v : Fin 6 → FVec Ideal S512x128 .f32) : Fin 18 → FVec Ideal S512x128 .bf16 :=
  ![unscaled cs sn (q 0), unscaled cs sn (q 1), unscaled cs sn (q 2), unscaled cs sn (q 3), unscaled cs sn (q 4), unscaled cs sn (q 5),
    unturned cs sn (k 0), unturned cs sn (k 1), unturned cs sn (k 2), unturned cs sn (k 3), unturned cs sn (k 4), unturned cs sn (k 5),
    truncf .bf16 (v 0) bitsLt_bf16_f32, truncf .bf16 (v 1) bitsLt_bf16_f32, truncf .bf16 (v 2) bitsLt_bf16_f32, truncf .bf16 (v 3) bitsLt_bf16_f32, truncf .bf16 (v 4) bitsLt_bf16_f32, truncf .bf16 (v 5) bitsLt_bf16_f32]

theorem full5 (x : Vec Ideal S512x512 .bf16) (h) : View.ld x (Rect.unit (s := S512x512) ![0, 0] ![512, 512] h) = x :=
  View.ld_unit_lit h x (by intro b; fin_cases b <;> rfl)
theorem full1 (x : Vec Ideal S512x128 .f32) (h1) (h2) : shapeCast S512x128 (View.ld x (Rect.unit (s := S512x128) ![0, 0] ![512, 128] h1)) h2 = x := by
  rw [View.ld_unit_lit h1 x (by intro b; fin_cases b <;> rfl)]
  funext y
  obtain ⟨r, l, rfl⟩ : ∃ (r : Fin 512) (l : Fin 128), y = (ix2 r l : S512x128.Idx) := ⟨y 0, y 1, funext fun b => by fin_cases b <;> rfl⟩
  pointwise

variable (x0 : Vec Ideal S512x512 .bf16) (x1 : Vec Ideal S512x512 .bf16) (x2 : Vec Ideal S512x512 .bf16) (x3 : Vec Ideal S2x1x512x128 .f32) (x4 : Vec Ideal S2x1x512x128 .f32) (x5 : Vec Ideal S2x1x512x128 .f32) (x6 : Vec Ideal S2x4x128x128 .f32) (x7 : Vec Ideal S2x4x128x128 .f32) (x8 : Vec Ideal S2x4x128x128 .f32) (x9 : Vec Ideal S2x16x32x128 .f32) (x10 : Vec Ideal S2x16x32x128 .f32) (x11 : Vec Ideal S2x16x32x128 .f32) (x12 : Vec Ideal S512x128 .f32) (x13 : Vec Ideal S512x128 .f32)
variable (c : Dev nD) (i : grid0.Coords) (arg1 : Memref sig .tc .vmem S512x512 .bf16) (harg1 : arg1.IsWhole) (arg2 : Memref sig .tc .vmem S512x512 .bf16) (harg2 : arg2.IsWhole) (arg3 : Memref sig .tc .vmem S512x512 .bf16) (harg3 : arg3.IsWhole) (arg4 : Memref sig .tc .vmem S2x1x512x128 .f32) (harg4 : arg4.IsWhole) (arg5 : Memref sig .tc .vmem S2x1x512x128 .f32) (harg5 : arg5.IsWhole) (arg6 : Memref sig .tc .vmem S2x1x512x128 .f32) (harg6 : arg6.IsWhole) (arg7 : Memref sig .tc .vmem S2x4x128x128 .f32) (harg7 : arg7.IsWhole) (arg8 : Memref sig .tc .vmem S2x4x128x128 .f32) (harg8 : arg8.IsWhole) (arg9 : Memref sig .tc .vmem S2x4x128x128 .f32) (harg9 : arg9.IsWhole) (arg10 : Memref sig .tc .vmem S2x16x32x128 .f32) (harg10 : arg10.IsWhole) (arg11 : Memref sig .tc .vmem S2x16x32x128 .f32) (harg11 : arg11.IsWhole) (arg12 : Memref sig .tc .vmem S2x16x32x128 .f32) (harg12 : arg12.IsWhole) (arg13 : Memref sig .tc .vmem S512x128 .f32) (harg13 : arg13.IsWhole) (arg14 : Memref sig .tc .vmem S512x128 .f32) (harg14 : arg14.IsWhole) (arg15 : Memref sig .tc .vmem S512x3840 .bf16) (harg15 : arg15.IsWhole) (arg16 : Memref sig .tc .vmem S512x128 .f32) (harg16 : arg16.IsWhole)

set_option maxHeartbeats 16000000 in
theorem left :
    out0_A_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13 = columns x0 x1 x2 (tileOf x12 x13 (groups x3 x6 x9) (groups x4 x7 x10) (groups x5 x8 x11)) := by
  unfold out0_A_14
  refine (View.read_writes_eq_canon _ _ _ (fun _ => cover0_A_14 ..)).trans ?_
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread]
  refine (View.canon_cons_unit_lit _ _ _ (by intro b; fin_cases b <;> rfl)).trans ?_
  let cs : FVec Ideal S512x128 .f32 := shapeCast S512x128 (View.ld x12 (Rect.unit (s := S512x128) ![0, 0] ![512, 128] inb_S512x128_S512x128_0_0)) shapeCasts_S512x128_S512x128
  let sn : FVec Ideal S512x128 .f32 := shapeCast S512x128 (View.ld x13 (Rect.unit (s := S512x128) ![0, 0] ![512, 128] inb_S512x128_S512x128_0_0)) shapeCasts_S512x128_S512x128
  have e1 : cs = x12 := full1 x12 _ _
  have e2 : sn = x13 := full1 x13 _ _
  refine Eq.trans (b := columns (View.ld x0 (Rect.unit (s := S512x512) ![0, 0] ![512, 512] inb_S512x512_S512x512_0_0)) (View.ld x1 (Rect.unit (s := S512x512) ![0, 0] ![512, 512] inb_S512x512_S512x512_0_0)) (View.ld x2 (Rect.unit (s := S512x512) ![0, 0] ![512, 512] inb_S512x512_S512x512_0_0))
    ![unscaled cs sn _, unscaled cs sn _, unscaled cs sn _, unscaled cs sn _, unscaled cs sn _, unscaled cs sn _, unturned cs sn _, unturned cs sn _, unturned cs sn _, unturned cs sn _, unturned cs sn _, unturned cs sn _, truncf .bf16 _ bitsLt_bf16_f32, truncf .bf16 _ bitsLt_bf16_f32, truncf .bf16 _ bitsLt_bf16_f32, truncf .bf16 _ bitsLt_bf16_f32, truncf .bf16 _ bitsLt_bf16_f32, truncf .bf16 _ bitsLt_bf16_f32]) rfl ?_
  rw [full5, full5, full5, e1, e2]
  refine congrArg (columns x0 x1 x2) (funext fun k => ?_)
  fin_cases k
  · exact congrArg (unscaled x12 x13) (row1 x3 0 _ _)
  · exact congrArg (unscaled x12 x13) (row1 x3 1 _ _)
  · refine congrArg (unscaled x12 x13) (row4 _ x6 0 _ _ fun r l => ?_)
    iterate 4 refine step4 x6 0 _ (by decide) _ _ _ _ _ _ _ (by rfl) r l fun _ => ?_
    exfalso
    omega
  · refine congrArg (unscaled x12 x13) (row4 _ x6 1 _ _ fun r l => ?_)
    iterate 4 refine step4 x6 1 _ (by decide) _ _ _ _ _ _ _ (by rfl) r l fun _ => ?_
    exfalso
    omega
  · refine congrArg (unscaled x12 x13) (row16 _ x9 0 _ _ fun r l => ?_)
    iterate 16 refine step16 x9 0 _ (by decide) _ _ _ _ _ _ _ (by rfl) r l fun _ => ?_
    exfalso
    omega
  · refine congrArg (unscaled x12 x13) (row16 _ x9 1 _ _ fun r l => ?_)
    iterate 16 refine step16 x9 1 _ (by decide) _ _ _ _ _ _ _ (by rfl) r l fun _ => ?_
    exfalso
    omega
  · exact congrArg (unturned x12 x13) (row1 x4 0 _ _)
  · exact congrArg (unturned x12 x13) (row1 x4 1 _ _)
  · refine congrArg (unturned x12 x13) (row4 _ x7 0 _ _ fun r l => ?_)
    iterate 4 refine step4 x7 0 _ (by decide) _ _ _ _ _ _ _ (by rfl) r l fun _ => ?_
    exfalso
    omega
  · refine congrArg (unturned x12 x13) (row4 _ x7 1 _ _ fun r l => ?_)
    iterate 4 refine step4 x7 1 _ (by decide) _ _ _ _ _ _ _ (by rfl) r l fun _ => ?_
    exfalso
    omega
  · refine congrArg (unturned x12 x13) (row16 _ x10 0 _ _ fun r l => ?_)
    iterate 16 refine step16 x10 0 _ (by decide) _ _ _ _ _ _ _ (by rfl) r l fun _ => ?_
    exfalso
    omega
  · refine congrArg (unturned x12 x13) (row16 _ x10 1 _ _ fun r l => ?_)
    iterate 16 refine step16 x10 1 _ (by decide) _ _ _ _ _ _ _ (by rfl) r l fun _ => ?_
    exfalso
    omega
  · exact congrArg (fun t => truncf .bf16 t bitsLt_bf16_f32) (row1 x5 0 _ _)
  · exact congrArg (fun t => truncf .bf16 t bitsLt_bf16_f32) (row1 x5 1 _ _)
  · refine congrArg (fun t => truncf .bf16 t bitsLt_bf16_f32) (row4 _ x8 0 _ _ fun r l => ?_)
    iterate 4 refine step4 x8 0 _ (by decide) _ _ _ _ _ _ _ (by rfl) r l fun _ => ?_
    exfalso
    omega
  · refine congrArg (fun t => truncf .bf16 t bitsLt_bf16_f32) (row4 _ x8 1 _ _ fun r l => ?_)
    iterate 4 refine step4 x8 1 _ (by decide) _ _ _ _ _ _ _ (by rfl) r l fun _ => ?_
    exfalso
    omega
  · refine congrArg (fun t => truncf .bf16 t bitsLt_bf16_f32) (row16 _ x11 0 _ _ fun r l => ?_)
    iterate 16 refine step16 x11 0 _ (by decide) _ _ _ _ _ _ _ (by rfl) r l fun _ => ?_
    exfalso
    omega
  · refine congrArg (fun t => truncf .bf16 t bitsLt_bf16_f32) (row16 _ x11 1 _ _ fun r l => ?_)
    iterate 16 refine step16 x11 1 _ (by decide) _ _ _ _ _ _ _ (by rfl) r l fun _ => ?_
    exfalso
    omega

end Cert.Kernel34Ideal.Unrotate
-- ==== Proof.Unrotate.KernelValue.lean ====
/-
  The backward call of the projection's layout: its output array, entry by entry over the extended reals.
-/
module

public import proofs.«01_k».proof.Proof.Unrotate.Body

@[expose] public section

set_option maxRecDepth 16384

noncomputable section

namespace Cert.Unrotate

open Idealize.ShloMosaic

/-- A row's lanes rotated back by the token's angles: two heads of 64 lanes, each of two halves. -/
def turnBack (C S : Fin 32 → EReal) (f : Fin 128 → EReal) (l : Fin 128) : EReal :=
  if h : l.val % 64 < 32 then f l * C ⟨l.val % 64, h⟩ + f ⟨l.val + 32, by omega⟩ * S ⟨l.val % 64, h⟩
  else f l * C ⟨l.val % 64 - 32, by omega⟩ - f ⟨l.val - 32, by omega⟩ * S ⟨l.val % 64 - 32, by omega⟩

/-- Six column tiles of a token: two for each group, its row found among the residues. -/
def tokens (a : (⟨4, ![2, 1, 4096, 128]⟩ : Shape).Idx → EReal) (b : (⟨4, ![2, 4, 1024, 128]⟩ : Shape).Idx → EReal)
    (e : (⟨4, ![2, 16, 256, 128]⟩ : Shape).Idx → EReal) (j : Fin 6) (r : Fin 4096) (l : Fin 128) : EReal :=
  if j.val < 2 then a (ix4 ⟨j.val % 2, by omega⟩ 0 r l)
  else if j.val < 4 then b (ix4 ⟨j.val % 2, by omega⟩ ⟨r.val % 4, by omega⟩ ⟨r.val / 4, by omega⟩ l)
  else e (ix4 ⟨j.val % 2, by omega⟩ ⟨r.val % 16, by omega⟩ ⟨r.val / 16, by omega⟩ l)

/-- The eighteen column tiles: the queries turned back and scaled, the keys turned back, the values. -/
def tile (C S : Fin 4096 → Fin 32 → EReal) (q k v : Fin 6 → Fin 4096 → Fin 128 → EReal) (n : Fin 18) (r : Fin 4096) (l : Fin 128) : EReal :=
  if h : n.val < 6 then turnBack (C r) (S r) (q ⟨n.val, h⟩ r) l * Ideal.ofBits .f32 0x3E000000#32
  else if h : n.val < 12 then turnBack (C r) (S r) (k ⟨n.val - 6, by omega⟩ r) l
  else v ⟨n.val - 12, by omega⟩ r l

/-- The whole array: the attention's three blocks of columns, then the tiles. -/
def whole (x0 x1 x2 : (⟨2, ![4096, 512]⟩ : Shape).Idx → EReal) (u : Fin 18 → Fin 4096 → Fin 128 → EReal) : (⟨2, ![4096, 3840]⟩ : Shape).Idx → EReal := fun y =>
  if h0 : (y 1).val < 512 then x0 (ix2 (y 0) ⟨(y 1).val, h0⟩)
  else if h1 : (y 1).val < 1024 then x1 (ix2 (y 0) ⟨(y 1).val - 512, by omega⟩)
  else if h2 : (y 1).val < 1536 then x2 (ix2 (y 0) ⟨(y 1).val - 1024, by omega⟩)
  else u ⟨((y 1).val - 1536) / 128, by
    have h : (y 1).val < 3840 := (y 1).isLt
    omega⟩ (y 0) ⟨((y 1).val - 1536) % 128, by omega⟩

/-- A row's entries, block by block. -/
theorem whole_of (x0 x1 x2 : (⟨2, ![4096, 512]⟩ : Shape).Idx → EReal) (u : Fin 18 → Fin 4096 → Fin 128 → EReal) (f : Fin 3840 → EReal) (R : Fin 4096)
    (h0 : ∀ l : Fin 512, f ⟨l.val, by omega⟩ = x0 (ix2 R l)) (h1 : ∀ l : Fin 512, f ⟨512 + l.val, by omega⟩ = x1 (ix2 R l))
    (h2 : ∀ l : Fin 512, f ⟨1024 + l.val, by omega⟩ = x2 (ix2 R l)) (hn : ∀ (n : Fin 18) (l : Fin 128), f ⟨1536 + 128 * n.val + l.val, by omega⟩ = u n R l)
    (j : Fin 3840) : f j = whole x0 x1 x2 u (ix2 R j) := by
  have hj := j.isLt
  show _ = if h0 : j.val < 512 then x0 (ix2 R ⟨j.val, h0⟩) else if h1 : j.val < 1024 then x1 (ix2 R ⟨j.val - 512, by omega⟩)
    else if h2 : j.val < 1536 then x2 (ix2 R ⟨j.val - 1024, by omega⟩) else u ⟨(j.val - 1536) / 128, by omega⟩ R ⟨(j.val - 1536) % 128, by omega⟩
  split_ifs with a b d
  · exact h0 ⟨j.val, a⟩
  · exact (congrArg f (Fin.ext (by show j.val = 512 + (j.val - 512); omega))).trans (h1 ⟨j.val - 512, by omega⟩)
  · exact (congrArg f (Fin.ext (by show j.val = 1024 + (j.val - 1024); omega))).trans (h2 ⟨j.val - 1024, by omega⟩)
  · exact (congrArg f (Fin.ext (by show j.val = 1536 + 128 * ((j.val - 1536) / 128) + (j.val - 1536) % 128; omega))).trans (hn ⟨(j.val - 1536) / 128, by omega⟩ ⟨(j.val - 1536) % 128, by omega⟩)

end Cert.Unrotate

namespace Cert.Kernel34Ideal.Unrotate

open Idealize.ShloMosaic Idealize.ShloMosaic.TcCoe Idealize.ShloMosaic.Tactic
open Cert.Kernel34Ideal Cert.Kernel34Ideal.Gen
open Cert.Unrotate (turnBack tokens tile whole whole_of)

/-! ## The rotation -/

theorem lower_half (r : Fin 512) (l : Fin 128) : k0_pay7 (ix2 r l) = if l.val % 64 < 32 then 1 else 0 := by
  have h : ∀ l : Fin 128, k0_pay7 (ix2 (0 : Fin 512) l) = if l.val % 64 < 32 then 1 else 0 := by decide +kernel
  exact (show k0_pay7 (ix2 r l) = k0_pay7 (ix2 (0 : Fin 512) l) from rfl).trans (h l)

theorem unturn_at (cs sn t : FVec Ideal S512x128 .f32) (C S : Fin 32 → EReal) (r : Fin 512)
    (hc : ∀ l : Fin 128, cs (ix2 r l) = C ⟨l.val % 32, by omega⟩)
    (hs : ∀ l : Fin 128, sn (ix2 r l) = if l.val % 64 < 32 then -S ⟨l.val % 32, by omega⟩ else S ⟨l.val % 32, by omega⟩) (l : Fin 128) :
    unturn cs sn t (ix2 r l) = turnBack C S (fun x => t (ix2 r x)) l := by
  have hp := lower_half r l
  unfold unturn turnBack
  generalize k0_pay7 = q at hp ⊢
  pointwise []
  rw [hp, hc, hs]
  split_ifs with h
  · refine congrArg₂ (· + ·) (congrArg (fun z => t (ix2 r l) * C z) (Fin.ext (by show l.val % 32 = l.val % 64; omega))) ?_
    refine congrArg₂ (· * ·) (congrArg (fun z => t (ix2 r z)) (Fin.ext (by show (l.val + 128 - 96) % 128 = l.val + 32; omega))) ?_
    rw [sub_eq_add_neg, neg_neg, zero_add]
    exact congrArg S (Fin.ext (by show l.val % 32 = l.val % 64; omega))
  · rw [zero_sub, mul_neg, ← sub_eq_add_neg]
    refine congrArg₂ (· - ·) (congrArg (fun z => t (ix2 r l) * C z) (Fin.ext (by show l.val % 32 = l.val % 64 - 32; omega))) ?_
    exact congrArg₂ (· * ·) (congrArg (fun z => t (ix2 r z)) (Fin.ext (by show (l.val + 128 - 32) % 128 = l.val - 32; omega)))
      (congrArg S (Fin.ext (by show l.val % 32 = l.val % 64 - 32; omega)))

/-! ## The columns -/

theorem columns_at (x0 x1 x2 : Vec Ideal S512x512 .bf16) (u : Fin 18 → FVec Ideal S512x128 .bf16) (n : Fin 18) (r : Fin 512) (l : Fin 128) :
    columns x0 x1 x2 u (ix2 r ⟨1536 + 128 * n.val + l.val, by omega⟩) = u n (ix2 r l) := by
  unfold columns
  refine concatenate_apply_piece (t := S512x3840) 1 _ _ _ (3 + n.val) ?_ S512x128 (u n) ?_ rfl (1536 + 128 * n.val) ?_ (ix2 r l) ?_ ?_
  · show _ < 21
    omega
  · fin_cases n <;> rfl
  · rw [List.map_take, List.map_take]
    exact (by decide +kernel : ∀ n : Fin 18, (List.take (3 + n.val) (512 :: 512 :: 512 :: List.replicate 18 128)).sum = 1536 + 128 * n.val) n
  rotate_left
  · rfl
  intro b hb
  fin_cases b
  · rfl
  · exact absurd rfl hb

theorem columns_0 (x0 x1 x2 : Vec Ideal S512x512 .bf16) (u) (r : Fin 512) (l : Fin 512) : columns x0 x1 x2 u (ix2 r ⟨l.val, by omega⟩) = x0 (ix2 r l) := by
  unfold columns
  refine concatenate_apply_piece (t := S512x3840) 1 _ _ _ 0 ?_ S512x512 x0 ?_ rfl 0 ?_ (ix2 r l) ?_ ?_
  · show 0 < 21
    decide
  · rfl
  · rfl
  rotate_left
  · exact Nat.zero_add _
  intro b hb
  fin_cases b
  · rfl
  · exact absurd rfl hb
theorem columns_1 (x0 x1 x2 : Vec Ideal S512x512 .bf16) (u) (r : Fin 512) (l : Fin 512) : columns x0 x1 x2 u (ix2 r ⟨512 + l.val, by omega⟩) = x1 (ix2 r l) := by
  unfold columns
  refine concatenate_apply_piece (t := S512x3840) 1 _ _ _ 1 ?_ S512x512 x1 ?_ rfl 512 ?_ (ix2 r l) ?_ ?_
  · show 1 < 21
    decide
  · rfl
  · rfl
  rotate_left
  · rfl
  intro b hb
  fin_cases b
  · rfl
  · exact absurd rfl hb
theorem columns_2 (x0 x1 x2 : Vec Ideal S512x512 .bf16) (u) (r : Fin 512) (l : Fin 512) : columns x0 x1 x2 u (ix2 r ⟨1024 + l.val, by omega⟩) = x2 (ix2 r l) := by
  unfold columns
  refine concatenate_apply_piece (t := S512x3840) 1 _ _ _ 2 ?_ S512x512 x2 ?_ rfl 1024 ?_ (ix2 r l) ?_ ?_
  · show 2 < 21
    decide
  · rfl
  · rfl
  rotate_left
  · rfl
  intro b hb
  fin_cases b
  · rfl
  · exact absurd rfl hb

/-! ## The angles' tables -/

variable (m : (ℓ : Loc nD τ sig) → Buf (Elt Ideal) ℓ) (c : Dev nD)

/-- The angles: each position by each of the 32 frequencies. -/
def angles (p : IVec S4096 32) : FVec Ideal S4096x32 .f32 :=
  mulf (broadcastInDim S4096x32 ![0, 1] bcast_S4096x1_S4096x32_0_1 (broadcastInDim S4096x1 ![0] bcast_S4096_S4096x1_0 (sitofp .f32 p)))
    (broadcastInDim S4096x32 ![0, 1] bcast_S1x32_S4096x32_0_1 (broadcastInDim S1x32 ![1] bcast_S32_S1x32_1
      (Host.powf (broadcastInDim S32 ![] bcast_S_S32 (constant S_ .f32 0x461C4000#32))
        (Host.divf (Host.negf (sitofp .f32 (iotaInDim S32 32 0))) (broadcastInDim S32 ![] bcast_S_S32 (constant S_ .f32 0x42000000#32))))))

/-- Two tables of half a head's lanes, side by side and once for each of a tile's two heads. -/
def table (a b : FVec Ideal S4096x32 .f32) : FVec Ideal S4096x128 .f32 :=
  shapeCast S4096x128 (broadcastInDim S1x4096x2x64 ![0, 1, 2, 3] bcast_S1x4096x1x64_S1x4096x2x64_0_1_2_3
    (shapeCast S1x4096x1x64 (concatenate S4096x64 1 [⟨S4096x32, a⟩, ⟨S4096x32, b⟩] concatenates_S4096x32_S4096x32_S4096x64_d1) shapeCasts_S4096x64_S1x4096x1x64))
    shapeCasts_S1x4096x2x64_S4096x128

def cosines (p : IVec S4096 32) : FVec Ideal S4096x32 .f32 := Host.cos (angles p)
def sines (p : IVec S4096 32) : FVec Ideal S4096x32 .f32 := Host.sin (angles p)

theorem table_at (a b : FVec Ideal S4096x32 .f32) (r : Fin 4096) (l : Fin 128) :
    table a b (ix2 r l) = if l.val % 64 < 32 then a (ix2 r ⟨l.val % 32, by omega⟩) else b (ix2 r ⟨l.val % 32, by omega⟩) := by
  pointwise [table]
  split_ifs with h
  · exact congrArg (fun z => a (ix2 r z)) (Fin.ext (by show l.val % 64 = l.val % 32; omega))
  · exact congrArg (fun z => b (ix2 r z)) (Fin.ext (by show l.val % 64 - 32 = l.val % 32; omega))
  · rename_i h1
    exact absurd rfl h1

theorem entry_cos : V m c main_v17 = table (cosines (m ((c : Thread nD τ).loc main_arg12))) (cosines (m ((c : Thread nD τ).loc main_arg12))) := by
  simp only [V, hostOps0, List.flatten_cons, List.flatten_nil, List.append_nil, List.cons_append, List.nil_append]
  after_results
  rfl
theorem entry_sin : V m c main_v22 = table (Host.negf (sines (m ((c : Thread nD τ).loc main_arg12)))) (sines (m ((c : Thread nD τ).loc main_arg12))) := by
  simp only [V, hostOps0, List.flatten_cons, List.flatten_nil, List.append_nil, List.cons_append, List.nil_append]
  after_results
  rfl
theorem index_2 : ∀ t : Fin cfg0.N, win0_0.index t = ![t.val, 0] ∧ win0_1.index t = ![t.val, 0] ∧ win0_2.index t = ![t.val, 0]
    ∧ win0_12.index t = ![t.val, 0] ∧ win0_13.index t = ![t.val, 0] ∧ win0_14.index t = ![t.val, 0] := (by decide +kernel : ∀ t : Fin grid0.N, _)
theorem index_4 : ∀ t : Fin cfg0.N, win0_3.index t = ![0, 0, t.val, 0] ∧ win0_4.index t = ![0, 0, t.val, 0] ∧ win0_5.index t = ![0, 0, t.val, 0]
    ∧ win0_6.index t = ![0, 0, t.val, 0] ∧ win0_7.index t = ![0, 0, t.val, 0] ∧ win0_8.index t = ![0, 0, t.val, 0]
    ∧ win0_9.index t = ![0, 0, t.val, 0] ∧ win0_10.index t = ![0, 0, t.val, 0] ∧ win0_11.index t = ![0, 0, t.val, 0] := (by decide +kernel : ∀ t : Fin grid0.N, _)

/-- The blocks of step `t` among their arrays' rows. -/
theorem iblk_wide (t : Fin cfg0.N) (r : Fin 512) (l : Fin 512) (h : t.val * 512 + r.val < 4096) :
    iblk m c 0 t (ix2 r l) = V m c main_arg0 (ix2 ⟨t.val * 512 + r.val, h⟩ l)
      ∧ iblk m c 1 t (ix2 r l) = V m c main_arg1 (ix2 ⟨t.val * 512 + r.val, h⟩ l)
      ∧ iblk m c 2 t (ix2 r l) = V m c main_arg2 (ix2 ⟨t.val * 512 + r.val, h⟩ l) := by
  refine ⟨?_, ?_, ?_⟩ <;> (blk_simp [iblk]; refine congrArg _ ?_; blk_ext [index_2])
theorem iblk_table (t : Fin cfg0.N) (r : Fin 512) (l : Fin 128) (h : t.val * 512 + r.val < 4096) :
    iblk m c 12 t (ix2 r l) = V m c main_v17 (ix2 ⟨t.val * 512 + r.val, h⟩ l)
      ∧ iblk m c 13 t (ix2 r l) = V m c main_v22 (ix2 ⟨t.val * 512 + r.val, h⟩ l) := by
  refine ⟨?_, ?_⟩ <;> (blk_simp [iblk]; refine congrArg _ ?_; blk_ext [index_2])
theorem iblk_group1 (t : Fin cfg0.N) (p : Fin 2) (a : Fin 1) (r : Fin 512) (l : Fin 128) (h : t.val * 512 + r.val < 4096) :
    iblk m c 3 t (ix4 p a r l) = V m c main_arg3 (ix4 p a ⟨t.val * 512 + r.val, h⟩ l)
      ∧ iblk m c 4 t (ix4 p a r l) = V m c main_arg4 (ix4 p a ⟨t.val * 512 + r.val, h⟩ l)
      ∧ iblk m c 5 t (ix4 p a r l) = V m c main_arg5 (ix4 p a ⟨t.val * 512 + r.val, h⟩ l) := by
  refine ⟨?_, ?_, ?_⟩ <;> (blk_simp [iblk]; refine congrArg _ ?_; blk_ext [index_4])
theorem iblk_group4 (t : Fin cfg0.N) (p : Fin 2) (a : Fin 4) (r : Fin 128) (l : Fin 128) (h : t.val * 128 + r.val < 1024) :
    iblk m c 6 t (ix4 p a r l) = V m c main_arg6 (ix4 p a ⟨t.val * 128 + r.val, h⟩ l)
      ∧ iblk m c 7 t (ix4 p a r l) = V m c main_arg7 (ix4 p a ⟨t.val * 128 + r.val, h⟩ l)
      ∧ iblk m c 8 t (ix4 p a r l) = V m c main_arg8 (ix4 p a ⟨t.val * 128 + r.val, h⟩ l) := by
  refine ⟨?_, ?_, ?_⟩ <;> (blk_simp [iblk]; refine congrArg _ ?_; blk_ext [index_4])
theorem iblk_group16 (t : Fin cfg0.N) (p : Fin 2) (a : Fin 16) (r : Fin 32) (l : Fin 128) (h : t.val * 32 + r.val < 256) :
    iblk m c 9 t (ix4 p a r l) = V m c main_arg9 (ix4 p a ⟨t.val * 32 + r.val, h⟩ l)
      ∧ iblk m c 10 t (ix4 p a r l) = V m c main_arg10 (ix4 p a ⟨t.val * 32 + r.val, h⟩ l)
      ∧ iblk m c 11 t (ix4 p a r l) = V m c main_arg11 (ix4 p a ⟨t.val * 32 + r.val, h⟩ l) := by
  refine ⟨?_, ?_, ?_⟩ <;> (blk_simp [iblk]; refine congrArg _ ?_; blk_ext [index_4])

/-- A tile's tokens among the array's. -/
theorem groups_at (t : Fin cfg0.N) (a : Vec Ideal S2x1x512x128 .f32) (b : Vec Ideal S2x4x128x128 .f32) (e : Vec Ideal S2x16x32x128 .f32)
    (A : (⟨4, ![2, 1, 4096, 128]⟩ : Shape).Idx → EReal) (B : (⟨4, ![2, 4, 1024, 128]⟩ : Shape).Idx → EReal) (E : (⟨4, ![2, 16, 256, 128]⟩ : Shape).Idx → EReal)
    (ha : ∀ (p : Fin 2) (d : Fin 1) (r : Fin 512) (l : Fin 128) (h : t.val * 512 + r.val < 4096), a (ix4 p d r l) = A (ix4 p d ⟨t.val * 512 + r.val, h⟩ l))
    (hb : ∀ (p : Fin 2) (d : Fin 4) (r : Fin 128) (l : Fin 128) (h : t.val * 128 + r.val < 1024), b (ix4 p d r l) = B (ix4 p d ⟨t.val * 128 + r.val, h⟩ l))
    (he : ∀ (p : Fin 2) (d : Fin 16) (r : Fin 32) (l : Fin 128) (h : t.val * 32 + r.val < 256), e (ix4 p d r l) = E (ix4 p d ⟨t.val * 32 + r.val, h⟩ l))
    (j : Fin 6) (r : Fin 512) (l : Fin 128) (h : t.val * 512 + r.val < 4096) :
    groups a b e j (ix2 r l) = tokens A B E j ⟨t.val * 512 + r.val, h⟩ l := by
  have h4 (p : Fin 2) : rows4 b p (ix2 r l) = B (ix4 p ⟨(t.val * 512 + r.val) % 4, by omega⟩ ⟨(t.val * 512 + r.val) / 4, by omega⟩ l) :=
    (hb p ⟨r.val % 4, by omega⟩ ⟨r.val / 4, by omega⟩ l (by show t.val * 128 + r.val / 4 < 1024; omega)).trans
      (congrArg₂ (fun y z => B (ix4 p y z l)) (Fin.ext (by show r.val % 4 = (t.val * 512 + r.val) % 4; omega)) (Fin.ext (by show t.val * 128 + r.val / 4 = (t.val * 512 + r.val) / 4; omega)))
  have h16 (p : Fin 2) : rows16 e p (ix2 r l) = E (ix4 p ⟨(t.val * 512 + r.val) % 16, by omega⟩ ⟨(t.val * 512 + r.val) / 16, by omega⟩ l) :=
    (he p ⟨r.val % 16, by omega⟩ ⟨r.val / 16, by omega⟩ l (by show t.val * 32 + r.val / 16 < 256; omega)).trans
      (congrArg₂ (fun y z => E (ix4 p y z l)) (Fin.ext (by show r.val % 16 = (t.val * 512 + r.val) % 16; omega)) (Fin.ext (by show t.val * 32 + r.val / 16 = (t.val * 512 + r.val) / 16; omega)))
  fin_cases j
  · exact ha 0 0 r l h
  · exact ha 1 0 r l h
  · exact h4 0
  · exact h4 1
  · exact h16 0
  · exact h16 1

theorem tileOf_at (cs sn : FVec Ideal S512x128 .f32) (q k v : Fin 6 → FVec Ideal S512x128 .f32) (C S : Fin 4096 → Fin 32 → EReal)
    (Q K W : Fin 6 → Fin 4096 → Fin 128 → EReal) (r : Fin 512) (R : Fin 4096)
    (hc : ∀ l : Fin 128, cs (ix2 r l) = C R ⟨l.val % 32, by omega⟩)
    (hs : ∀ l : Fin 128, sn (ix2 r l) = if l.val % 64 < 32 then -S R ⟨l.val % 32, by omega⟩ else S R ⟨l.val % 32, by omega⟩)
    (hq : ∀ j l, q j (ix2 r l) = Q j R l) (hk : ∀ j l, k j (ix2 r l) = K j R l) (hv : ∀ j l, v j (ix2 r l) = W j R l) (n : Fin 18) (l : Fin 128) :
    tileOf cs sn q k v n (ix2 r l) = tile C S Q K W n R l := by
  have fk (j : Fin 6) : unturned cs sn (k j) (ix2 r l) = turnBack (C R) (S R) (K j R) l :=
    (unturn_at cs sn (k j) (C R) (S R) r hc hs l).trans (congrArg (fun f => turnBack (C R) (S R) f l) (funext fun x => hk j x))
  have fq (j : Fin 6) : unscaled cs sn (q j) (ix2 r l) = turnBack (C R) (S R) (Q j R) l * Ideal.ofBits .f32 0x3E000000#32 :=
    congrArg (· * Ideal.ofBits .f32 0x3E000000#32) ((unturn_at cs sn (q j) (C R) (S R) r hc hs l).trans (congrArg (fun f => turnBack (C R) (S R) f l) (funext fun x => hq j x)))
  fin_cases n
  iterate 6 exact fq _
  iterate 6 exact fk _
  iterate 6 exact hv _ l

theorem final_14 : (dats m 0 c).arrAt 14 cfg0.N = whole (V m c main_arg0) (V m c main_arg1) (V m c main_arg2)
    (tile (fun r j => cosines (m ((c : Thread nD τ).loc main_arg12)) (ix2 r j)) (fun r j => sines (m ((c : Thread nD τ).loc main_arg12)) (ix2 r j))
      (tokens (V m c main_arg3) (V m c main_arg6) (V m c main_arg9)) (tokens (V m c main_arg4) (V m c main_arg7) (V m c main_arg10)) (tokens (V m c main_arg5) (V m c main_arg8) (V m c main_arg11))) := by
  refine (dats m 0 c).arrAt_eq_of_covers 14 _ (by decide +kernel) (fun t hf y => ?_)
  have ht : t.val < 8 := t.isLt
  blk_simp
  rw [after0_14]
  unfold outsAt0
  dsimp only
  rw [left]
  obtain ⟨r, l, rfl⟩ : ∃ (r : Fin 512) (l : Fin 3840), y = ix2 r l := ⟨y 0, y 1, funext fun b => by fin_cases b <;> rfl⟩
  rw [show ((View.whole main_v23).slice (win0_14.rect t)).emb (ix2 r l) = ix2 ⟨t.val * 512 + r.val, by omega⟩ l by blk_ext [index_2]]
  have h : t.val * 512 + r.val < 4096 := by omega
  refine whole_of _ _ _ _ (fun x => columns (iblk m c 0 t) (iblk m c 1 t) (iblk m c 2 t) _ (ix2 r x)) _ (fun x => ?_) (fun x => ?_) (fun x => ?_) (fun n x => ?_) l
  · exact (columns_0 _ _ _ _ r x).trans (iblk_wide m c t r x h).1
  · exact (columns_1 _ _ _ _ r x).trans (iblk_wide m c t r x h).2.1
  · exact (columns_2 _ _ _ _ r x).trans (iblk_wide m c t r x h).2.2
  refine (columns_at _ _ _ _ n r x).trans (tileOf_at _ _ _ _ _ _ _ _ _ _ r _ (fun z => ?_) (fun z => ?_) (fun j z => ?_) (fun j z => ?_) (fun j z => ?_) n x)
  · exact (iblk_table m c t r z h).1.trans ((congrFun (entry_cos m c) _).trans ((table_at _ _ _ z).trans (ite_self _)))
  · exact (iblk_table m c t r z h).2.trans ((congrFun (entry_sin m c) _).trans (table_at _ _ _ z))
  · exact groups_at t _ _ _ _ _ _ (fun p a r l h => (iblk_group1 m c t p a r l h).1) (fun p a r l h => (iblk_group4 m c t p a r l h).1) (fun p a r l h => (iblk_group16 m c t p a r l h).1) j r z h
  · exact groups_at t _ _ _ _ _ _ (fun p a r l h => (iblk_group1 m c t p a r l h).2.1) (fun p a r l h => (iblk_group4 m c t p a r l h).2.1) (fun p a r l h => (iblk_group16 m c t p a r l h).2.1) j r z h
  · exact groups_at t _ _ _ _ _ _ (fun p a r l h => (iblk_group1 m c t p a r l h).2.2) (fun p a r l h => (iblk_group4 m c t p a r l h).2.2) (fun p a r l h => (iblk_group16 m c t p a r l h).2.2) j r z h

end Cert.Kernel34Ideal.Unrotate

end
-- ==== Proof.Unrotate.RefValue.lean ====
/-
  The reference of the projection's layout backward, entry by entry, and its agreement with the call.
-/
module

public import proofs.«01_k».proof.Proof.Unrotate.KernelValue
public import proofs.«01_k».proof.Proof.Gen.Reference34Ideal.Run
public import proofs.«01_k».proof.Defs

@[expose] public section

set_option maxRecDepth 16384

noncomputable section

namespace Cert.Reference34Ideal.Unrotate

open Idealize.ShloMosaic Idealize.ShloMosaic.TcCoe
open Cert.Reference34Ideal Cert.Reference34Ideal.Gen
open Cert.Unrotate

/-- The groups' heads, token by token. -/
def heads (a : FVec Ideal S2x1x4096x128 .f32) (b : FVec Ideal S2x4x1024x128 .f32) (e : FVec Ideal S2x16x256x128 .f32) : FVec Ideal S4096x12x64 .f32 :=
  concatenate S4096x12x64 1 [⟨S4096x4x64, shapeCast S4096x4x64 (transpose S4096x1x2x128 [2, 1, 0, 3] a transposes_S2x1x4096x128_S4096x1x2x128_2_1_0_3) shapeCasts_S4096x1x2x128_S4096x4x64⟩,
    ⟨S4096x4x64, shapeCast S4096x4x64 (transpose S1024x4x2x128 [2, 1, 0, 3] b transposes_S2x4x1024x128_S1024x4x2x128_2_1_0_3) shapeCasts_S1024x4x2x128_S4096x4x64⟩,
    ⟨S4096x4x64, shapeCast S4096x4x64 (transpose S256x16x2x128 [2, 1, 0, 3] e transposes_S2x16x256x128_S256x16x2x128_2_1_0_3) shapeCasts_S256x16x2x128_S4096x4x64⟩]
    concatenates_S4096x4x64_S4096x4x64_S4096x4x64_S4096x12x64_d1

/-- The angles, and the inverse rotation of every head by them. -/
def angles (p : IVec S4096 32) : FVec Ideal S4096x1x32 .f32 :=
  mulf (broadcastInDim S4096x1x32 ![0, 1, 2] bcast_S4096x1x1_S4096x1x32_0_1_2 (broadcastInDim S4096x1x1 ![0] bcast_S4096_S4096x1x1_0 (sitofp .f32 p)))
    (broadcastInDim S4096x1x32 ![0, 1, 2] bcast_S1x1x32_S4096x1x32_0_1_2 (broadcastInDim S1x1x32 ![2] bcast_S32_S1x1x32_2
      (Host.powf (broadcastInDim S32 ![] bcast_S_S32 (constant S_ .f32 0x461C4000#32))
        (Host.divf (Host.negf (sitofp .f32 (iotaInDim S32 32 0))) (broadcastInDim S32 ![] bcast_S_S32 (constant S_ .f32 0x42000000#32))))))

def back (c s : FVec Ideal S4096x1x32 .f32) (t : FVec Ideal S4096x12x64 .f32) : FVec Ideal S4096x12x64 .f32 :=
  concatenate S4096x12x64 2
    [⟨S4096x12x32, addf (mulf (extractStridedSlice S4096x12x32 ![0, 0, 0] t slices_S4096x12x64_S4096x12x32_0_0_0) (broadcastInDim S4096x12x32 ![0, 1, 2] bcast_S4096x1x32_S4096x12x32_0_1_2 c))
      (mulf (extractStridedSlice S4096x12x32 ![0, 0, 32] t slices_S4096x12x64_S4096x12x32_0_0_32) (broadcastInDim S4096x12x32 ![0, 1, 2] bcast_S4096x1x32_S4096x12x32_0_1_2 s))⟩,
    ⟨S4096x12x32, subf (mulf (extractStridedSlice S4096x12x32 ![0, 0, 32] t slices_S4096x12x64_S4096x12x32_0_0_32) (broadcastInDim S4096x12x32 ![0, 1, 2] bcast_S4096x1x32_S4096x12x32_0_1_2 c))
      (mulf (extractStridedSlice S4096x12x32 ![0, 0, 0] t slices_S4096x12x64_S4096x12x32_0_0_0) (broadcastInDim S4096x12x32 ![0, 1, 2] bcast_S4096x1x32_S4096x12x32_0_1_2 s))⟩]
    concatenates_S4096x12x32_S4096x12x32_S4096x12x64_d2

/-- The heads' lanes as columns. -/
def flat (t : FVec Ideal S4096x12x64 .f32) : FVec Ideal S4096x768 .bf16 := truncf .bf16 (shapeCast S4096x768 t shapeCasts_S4096x12x64_S4096x768) bitsLt_bf16_f32

def joined (x0 x1 x2 : FVec Ideal S4096x512 .bf16) (q k v : FVec Ideal S4096x768 .bf16) : FVec Ideal S4096x3840 .bf16 :=
  concatenate S4096x3840 1 [⟨S4096x512, x0⟩, ⟨S4096x512, x1⟩, ⟨S4096x512, x2⟩, ⟨S4096x768, q⟩, ⟨S4096x768, k⟩, ⟨S4096x768, v⟩]
    concatenates_S4096x512_S4096x512_S4096x512_S4096x768_S4096x768_S4096x768_S4096x3840_d1

/-! ## Entry by entry -/

theorem cos_at (p : IVec S4096 32) (r : Fin 4096) (j : Fin 32) : Host.cos (angles p) (ix3 r 0 j) = Kernel34Ideal.Unrotate.cosines p (ix2 r j) := by
  pointwise [angles, Kernel34Ideal.Unrotate.cosines, Kernel34Ideal.Unrotate.angles]
theorem sin_at (p : IVec S4096 32) (r : Fin 4096) (j : Fin 32) : Host.sin (angles p) (ix3 r 0 j) = Kernel34Ideal.Unrotate.sines p (ix2 r j) := by
  pointwise [angles, Kernel34Ideal.Unrotate.sines, Kernel34Ideal.Unrotate.angles]

theorem flat_at (t : FVec Ideal S4096x12x64 .f32) (r : Fin 4096) (j : Fin 6) (l : Fin 128) :
    flat t (ix2 r ⟨128 * j.val + l.val, by omega⟩) = t (ix3 r ⟨2 * j.val + l.val / 64, by omega⟩ ⟨l.val % 64, by omega⟩) := by
  pointwise [flat]
  refine congrArg₂ (fun y z => t (ix3 r y z)) (Fin.ext ?_) (Fin.ext ?_)
  · show (128 * j.val + l.val) / 64 = 2 * j.val + l.val / 64
    omega
  · show (128 * j.val + l.val) % 64 = l.val % 64
    omega

theorem back_at (c s : FVec Ideal S4096x1x32 .f32) (t : FVec Ideal S4096x12x64 .f32) (r : Fin 4096) (j : Fin 6) (l : Fin 128) :
    back c s t (ix3 r ⟨2 * j.val + l.val / 64, by omega⟩ ⟨l.val % 64, by omega⟩)
      = turnBack (fun x => c (ix3 r 0 x)) (fun x => s (ix3 r 0 x)) (fun x => t (ix3 r ⟨2 * j.val + x.val / 64, by omega⟩ ⟨x.val % 64, by omega⟩)) l := by
  unfold turnBack
  pointwise [back]
  by_cases h : l.val % 64 < 32
  · rw [dif_pos h, dif_pos h]
    refine congrArg₂ (fun y z => _ + t (ix3 r y z) * _) (Fin.ext ?_) (Fin.ext ?_)
    · show 2 * j.val + l.val / 64 = 2 * j.val + (l.val + 32) / 64
      omega
    · show 32 + l.val % 64 = (l.val + 32) % 64
      omega
  · rw [dif_neg h, dif_neg h, show (⟨32 + (l.val % 64 - 32), by omega⟩ : Fin 64) = ⟨l.val % 64, by omega⟩ from Fin.ext (by show 32 + (l.val % 64 - 32) = l.val % 64; omega)]
    refine congrArg₂ (fun y z => _ - t (ix3 r y z) * _) (Fin.ext ?_) (Fin.ext ?_)
    · show 2 * j.val + l.val / 64 = 2 * j.val + (l.val - 32) / 64
      omega
    · show l.val % 64 - 32 = (l.val - 32) % 64
      omega

theorem group1 (x : FVec Ideal S2x1x4096x128 .f32) (r : Fin 4096) (h : Fin 4) (d : Fin 64) :
    shapeCast S4096x4x64 (transpose S4096x1x2x128 [2, 1, 0, 3] x transposes_S2x1x4096x128_S4096x1x2x128_2_1_0_3) shapeCasts_S4096x1x2x128_S4096x4x64 (ix3 r h d)
      = x (ix4 ⟨h.val / 2, by omega⟩ ⟨r.val % 1, by omega⟩ ⟨r.val / 1, by omega⟩ ⟨h.val % 2 * 64 + d.val, by omega⟩) := by
  pointwise []

theorem group4 (x : FVec Ideal S2x4x1024x128 .f32) (r : Fin 4096) (h : Fin 4) (d : Fin 64) :
    shapeCast S4096x4x64 (transpose S1024x4x2x128 [2, 1, 0, 3] x transposes_S2x4x1024x128_S1024x4x2x128_2_1_0_3) shapeCasts_S1024x4x2x128_S4096x4x64 (ix3 r h d)
      = x (ix4 ⟨h.val / 2, by omega⟩ ⟨r.val % 4, by omega⟩ ⟨r.val / 4, by omega⟩ ⟨h.val % 2 * 64 + d.val, by omega⟩) := by
  pointwise []

theorem group16 (x : FVec Ideal S2x16x256x128 .f32) (r : Fin 4096) (h : Fin 4) (d : Fin 64) :
    shapeCast S4096x4x64 (transpose S256x16x2x128 [2, 1, 0, 3] x transposes_S2x16x256x128_S256x16x2x128_2_1_0_3) shapeCasts_S256x16x2x128_S4096x4x64 (ix3 r h d)
      = x (ix4 ⟨h.val / 2, by omega⟩ ⟨r.val % 16, by omega⟩ ⟨r.val / 16, by omega⟩ ⟨h.val % 2 * 64 + d.val, by omega⟩) := by
  pointwise []

theorem heads_at (a : FVec Ideal S2x1x4096x128 .f32) (b : FVec Ideal S2x4x1024x128 .f32) (e : FVec Ideal S2x16x256x128 .f32) (r : Fin 4096) (j : Fin 6) (l : Fin 128) :
    heads a b e (ix3 r ⟨2 * j.val + l.val / 64, by omega⟩ ⟨l.val % 64, by omega⟩) = tokens a b e j r l := by
  have hh : (2 * (j.val % 2) + l.val / 64) / 2 = j.val % 2 := by omega
  have hl : (2 * (j.val % 2) + l.val / 64) % 2 * 64 + l.val % 64 = l.val := by omega
  unfold heads tokens
  split_ifs with h1 h2
  · refine (concatenate_apply_piece (t := S4096x12x64) 1 _ _ _ 0 (by show 0 < 3; decide) S4096x4x64 _ rfl rfl 0 rfl (ix3 r ⟨2 * (j.val % 2) + l.val / 64, by omega⟩ ⟨l.val % 64, by omega⟩) (by
      intro b hb; fin_cases b; · rfl
      · exact absurd rfl hb
      · rfl) (by show 0 + (2 * (j.val % 2) + l.val / 64) = 2 * j.val + l.val / 64; omega)).trans ((group1 a _ _ _).trans ?_)
    refine congrArg a (funext fun b => ?_)
    fin_cases b
    · exact Fin.ext hh
    · exact Fin.ext (Nat.mod_one _)
    · exact Fin.ext (Nat.div_one _)
    · exact Fin.ext hl
  · refine (concatenate_apply_piece (t := S4096x12x64) 1 _ _ _ 1 (by show 1 < 3; decide) S4096x4x64 _ rfl rfl 4 rfl (ix3 r ⟨2 * (j.val % 2) + l.val / 64, by omega⟩ ⟨l.val % 64, by omega⟩) (by
      intro b hb; fin_cases b; · rfl
      · exact absurd rfl hb
      · rfl) (by show 4 + (2 * (j.val % 2) + l.val / 64) = 2 * j.val + l.val / 64; omega)).trans ((group4 b _ _ _).trans ?_)
    refine congrArg b (funext fun b => ?_)
    fin_cases b
    · exact Fin.ext hh
    · exact rfl
    · exact rfl
    · exact Fin.ext hl
  · refine (concatenate_apply_piece (t := S4096x12x64) 1 _ _ _ 2 (by show 2 < 3; decide) S4096x4x64 _ rfl rfl 8 rfl (ix3 r ⟨2 * (j.val % 2) + l.val / 64, by omega⟩ ⟨l.val % 64, by omega⟩) (by
      intro b hb; fin_cases b; · rfl
      · exact absurd rfl hb
      · rfl) (by show 8 + (2 * (j.val % 2) + l.val / 64) = 2 * j.val + l.val / 64; omega)).trans ((group16 e _ _ _).trans ?_)
    refine congrArg e (funext fun b => ?_)
    fin_cases b
    · exact Fin.ext hh
    · exact rfl
    · exact rfl
    · exact Fin.ext hl

section
variable (x0 x1 x2 : FVec Ideal S4096x512 .bf16) (q k v : FVec Ideal S4096x768 .bf16) (r : Fin 4096)

theorem joined_0 (l : Fin 512) : joined x0 x1 x2 q k v (ix2 r ⟨l.val, by omega⟩) = x0 (ix2 r l) :=
  concatenate_apply_piece (t := S4096x3840) 1 _ _ _ 0 (by show 0 < 6; decide) S4096x512 x0 rfl rfl 0 rfl (ix2 r l)
    (by intro b hb; fin_cases b; · rfl
        · exact absurd rfl hb) (Nat.zero_add _)

theorem joined_1 (l : Fin 512) : joined x0 x1 x2 q k v (ix2 r ⟨512 + l.val, by omega⟩) = x1 (ix2 r l) :=
  concatenate_apply_piece (t := S4096x3840) 1 _ _ _ 1 (by show 1 < 6; decide) S4096x512 x1 rfl rfl 512 rfl (ix2 r l)
    (by intro b hb; fin_cases b; · rfl
        · exact absurd rfl hb) rfl

theorem joined_2 (l : Fin 512) : joined x0 x1 x2 q k v (ix2 r ⟨1024 + l.val, by omega⟩) = x2 (ix2 r l) :=
  concatenate_apply_piece (t := S4096x3840) 1 _ _ _ 2 (by show 2 < 6; decide) S4096x512 x2 rfl rfl 1024 rfl (ix2 r l)
    (by intro b hb; fin_cases b; · rfl
        · exact absurd rfl hb) rfl

theorem joined_3 (l : Fin 768) : joined x0 x1 x2 q k v (ix2 r ⟨1536 + l.val, by omega⟩) = q (ix2 r l) :=
  concatenate_apply_piece (t := S4096x3840) 1 _ _ _ 3 (by show 3 < 6; decide) S4096x768 q rfl rfl 1536 rfl (ix2 r l)
    (by intro b hb; fin_cases b; · rfl
        · exact absurd rfl hb) rfl

theorem joined_4 (l : Fin 768) : joined x0 x1 x2 q k v (ix2 r ⟨2304 + l.val, by omega⟩) = k (ix2 r l) :=
  concatenate_apply_piece (t := S4096x3840) 1 _ _ _ 4 (by show 4 < 6; decide) S4096x768 k rfl rfl 2304 rfl (ix2 r l)
    (by intro b hb; fin_cases b; · rfl
        · exact absurd rfl hb) rfl

theorem joined_5 (l : Fin 768) : joined x0 x1 x2 q k v (ix2 r ⟨3072 + l.val, by omega⟩) = v (ix2 r l) :=
  concatenate_apply_piece (t := S4096x3840) 1 _ _ _ 5 (by show 5 < 6; decide) S4096x768 v rfl rfl 3072 rfl (ix2 r l)
    (by intro b hb; fin_cases b; · rfl
        · exact absurd rfl hb) rfl
end

/-- The reference's result from its arguments. -/
theorem joined_whole (x0 x1 x2 : FVec Ideal S4096x512 .bf16) (p : IVec S4096 32)
    (q1 k1 v1 : FVec Ideal S2x1x4096x128 .f32) (q4 k4 v4 : FVec Ideal S2x4x1024x128 .f32) (q16 k16 v16 : FVec Ideal S2x16x256x128 .f32) :
    joined x0 x1 x2
        (flat (mulf (back (Host.cos (angles p)) (Host.sin (angles p)) (heads q1 q4 q16)) (broadcastInDim S4096x12x64 ![] bcast_S_S4096x12x64 (constant S_ .f32 0x3E000000#32))))
        (flat (back (Host.cos (angles p)) (Host.sin (angles p)) (heads k1 k4 k16))) (flat (heads v1 v4 v16))
      = whole x0 x1 x2 (tile (fun r j => Kernel34Ideal.Unrotate.cosines p (ix2 r j)) (fun r j => Kernel34Ideal.Unrotate.sines p (ix2 r j))
        (tokens q1 q4 q16) (tokens k1 k4 k16) (tokens v1 v4 v16)) := by
  have turn : ∀ (a : FVec Ideal S2x1x4096x128 .f32) (b : FVec Ideal S2x4x1024x128 .f32) (e : FVec Ideal S2x16x256x128 .f32) (r : Fin 4096) (j : Fin 6) (l : Fin 128),
      back (Host.cos (angles p)) (Host.sin (angles p)) (heads a b e) (ix3 r ⟨2 * j.val + l.val / 64, by omega⟩ ⟨l.val % 64, by omega⟩)
        = turnBack (fun j => Kernel34Ideal.Unrotate.cosines p (ix2 r j)) (fun j => Kernel34Ideal.Unrotate.sines p (ix2 r j)) (tokens a b e j r) l := fun a b e r j l => by
    rw [back_at, funext (cos_at p r), funext (sin_at p r), funext (heads_at a b e r j)]
  funext y
  obtain ⟨r, l, rfl⟩ : ∃ (r : Fin 4096) (l : Fin 3840), y = ix2 r l := ⟨y 0, y 1, funext fun b => by fin_cases b <;> rfl⟩
  refine whole_of x0 x1 x2 _ (fun l => joined x0 x1 x2 _ _ _ (ix2 r l)) r (joined_0 x0 x1 x2 _ _ _ r) (joined_1 x0 x1 x2 _ _ _ r) (joined_2 x0 x1 x2 _ _ _ r) (fun n l => ?_) l
  dsimp only
  unfold tile
  split_ifs with h1 h2
  · refine (congrArg (fun i => joined x0 x1 x2 _ _ _ (ix2 r i)) (Fin.ext (by show 1536 + 128 * n.val + l.val = 1536 + (128 * n.val + l.val); omega))).trans
      ((joined_3 x0 x1 x2 _ _ _ r ⟨128 * n.val + l.val, by omega⟩).trans ((flat_at _ r ⟨n.val, h1⟩ l).trans ?_))
    exact congrArg (· * Ideal.ofBits .f32 0x3E000000#32) (turn q1 q4 q16 r ⟨n.val, h1⟩ l)
  · refine (congrArg (fun i => joined x0 x1 x2 _ _ _ (ix2 r i)) (Fin.ext (by show 1536 + 128 * n.val + l.val = 2304 + (128 * (n.val - 6) + l.val); omega))).trans
      ((joined_4 x0 x1 x2 _ _ _ r ⟨128 * (n.val - 6) + l.val, by omega⟩).trans ((flat_at _ r ⟨n.val - 6, by omega⟩ l).trans ?_))
    exact turn k1 k4 k16 r ⟨n.val - 6, by omega⟩ l
  · refine (congrArg (fun i => joined x0 x1 x2 _ _ _ (ix2 r i)) (Fin.ext (by show 1536 + 128 * n.val + l.val = 3072 + (128 * (n.val - 12) + l.val); omega))).trans
      ((joined_5 x0 x1 x2 _ _ _ r ⟨128 * (n.val - 12) + l.val, by omega⟩).trans ((flat_at _ r ⟨n.val - 12, by omega⟩ l).trans ?_))
    exact heads_at v1 v4 v16 r ⟨n.val - 12, by omega⟩ l

end Cert.Reference34Ideal.Unrotate

namespace Cert.Reference34Ideal.Product

open Idealize.ShloMosaic Idealize.ShloMosaic.TcCoe
open Cert.Kernel34Ideal.Gen (A_eq dats V_main_arg0 V_main_arg1 V_main_arg2 V_main_arg3 V_main_arg4 V_main_arg5 V_main_arg6 V_main_arg7 V_main_arg8 V_main_arg9 V_main_arg10 V_main_arg11 V_main_arg12)
open Cert.Unrotate Cert.Reference34Ideal.Unrotate

set_option maxHeartbeats 4000000 in
/-- From the same arguments the call and the reference return the same array. -/
theorem same : Cert.algebraic_Kernel34Ideal_Reference34Ideal := fun m g m' g' _ hargs => by
  refine ⟨fun c => whole (m (c.tc.loc Kernel34Ideal.main_arg0)) (m (c.tc.loc Kernel34Ideal.main_arg1)) (m (c.tc.loc Kernel34Ideal.main_arg2)) (tile (fun r j => Kernel34Ideal.Unrotate.cosines (m (c.tc.loc Kernel34Ideal.main_arg12)) (ix2 r j)) (fun r j => Kernel34Ideal.Unrotate.sines (m (c.tc.loc Kernel34Ideal.main_arg12)) (ix2 r j))
    (tokens (m (c.tc.loc Kernel34Ideal.main_arg3)) (m (c.tc.loc Kernel34Ideal.main_arg6)) (m (c.tc.loc Kernel34Ideal.main_arg9))) (tokens (m (c.tc.loc Kernel34Ideal.main_arg4)) (m (c.tc.loc Kernel34Ideal.main_arg7)) (m (c.tc.loc Kernel34Ideal.main_arg10))) (tokens (m (c.tc.loc Kernel34Ideal.main_arg5)) (m (c.tc.loc Kernel34Ideal.main_arg8)) (m (c.tc.loc Kernel34Ideal.main_arg11)))), ?_, ?_⟩
  · refine (θ_run Kernel34Ideal.defs _ _).mono (fun r h c => ⟨((h c).1 14).trans ?_,
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c))),
      ((h c).1 6).trans (((dats m 0 c).arrAt_in 6 rfl _).trans ((A_eq m c 6).trans (V_main_arg6 m c))),
      ((h c).1 7).trans (((dats m 0 c).arrAt_in 7 rfl _).trans ((A_eq m c 7).trans (V_main_arg7 m c))),
      ((h c).1 8).trans (((dats m 0 c).arrAt_in 8 rfl _).trans ((A_eq m c 8).trans (V_main_arg8 m c))),
      ((h c).1 9).trans (((dats m 0 c).arrAt_in 9 rfl _).trans ((A_eq m c 9).trans (V_main_arg9 m c))),
      ((h c).1 10).trans (((dats m 0 c).arrAt_in 10 rfl _).trans ((A_eq m c 10).trans (V_main_arg10 m c))),
      ((h c).1 11).trans (((dats m 0 c).arrAt_in 11 rfl _).trans ((A_eq m c 11).trans (V_main_arg11 m c))),
      ((h c).2 Kernel34Ideal.main_arg12 (Pipeline.mem_restRefs_of Kernel34Ideal.main_arg12 (by decide) (by decide))).trans (V_main_arg12 m c)⟩) (Kernel34Ideal.Gen.run_main m g)
    exact (Kernel34Ideal.Unrotate.final_14 m c).trans (by rw [V_main_arg0, V_main_arg1, V_main_arg2, V_main_arg3, V_main_arg4, V_main_arg5, V_main_arg6, V_main_arg7, V_main_arg8, V_main_arg9, V_main_arg10, V_main_arg11])
  · refine (θ_run Reference34Ideal.defs _ _).mono (fun r h c => ⟨(h c).1.trans ?_, (h c).2⟩) (Reference34Ideal.Value.run (F := Ideal) m' g')
    obtain ⟨a0, a1, a2, a3, a4, a5, a6, a7, a8, a9, a10, a11, a12⟩ := hargs c
    exact (joined_whole (m' (c.tc.loc Reference34Ideal.main_arg0)) (m' (c.tc.loc Reference34Ideal.main_arg1)) (m' (c.tc.loc Reference34Ideal.main_arg2)) (m' (c.tc.loc Reference34Ideal.main_arg12)) (m' (c.tc.loc Reference34Ideal.main_arg3)) (m' (c.tc.loc Reference34Ideal.main_arg4)) (m' (c.tc.loc Reference34Ideal.main_arg5)) (m' (c.tc.loc Reference34Ideal.main_arg6)) (m' (c.tc.loc Reference34Ideal.main_arg7)) (m' (c.tc.loc Reference34Ideal.main_arg8)) (m' (c.tc.loc Reference34Ideal.main_arg9)) (m' (c.tc.loc Reference34Ideal.main_arg10)) (m' (c.tc.loc Reference34Ideal.main_arg11))).trans
      (by rw [a0, a1, a2, a3, a4, a5, a6, a7, a8, a9, a10, a11, a12])

end Cert.Reference34Ideal.Product

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Band.Run
public import proofs.«01_k».proof.Proof.KBand.Run
public import proofs.«01_k».proof.Proof.Band.RefValue
public import proofs.«01_k».proof.Proof.Band.Finite
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import Idealize.ShloMosaic.Adequacy
public import Idealize.ShloMosaic.Init
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Gen.Kernel15
public import proofs.«01_k».proof.Proof.Gen.Kernel15.Skeleton
public import proofs.«01_k».proof.Proof.Gen.Kernel15.Launch
public import proofs.«01_k».proof.Proof.Gen.Kernel15.Points
public import proofs.«01_k».proof.Proof.Gen.Kernel15.Frame
public import proofs.«01_k».proof.Proof.Gen.Kernel15Ideal
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Run
public import proofs.«01_k».proof.Proof.Gen.Kernel16
public import proofs.«01_k».proof.Proof.Gen.Kernel16.Skeleton
public import proofs.«01_k».proof.Proof.Gen.Kernel16.Launch
public import proofs.«01_k».proof.Proof.Gen.Kernel16.Points
public import proofs.«01_k».proof.Proof.Gen.Kernel16.Frame
public import proofs.«01_k».proof.Proof.Gen.Kernel16Ideal
public import proofs.«01_k».proof.Proof.Gen.Kernel16Ideal.Skeleton
public import proofs.«01_k».proof.Proof.Gen.Kernel16Ideal.Launch
public import proofs.«01_k».proof.Proof.Gen.Kernel16Ideal.Points
public import proofs.«01_k».proof.Proof.Gen.Kernel16Ideal.Frame
public import proofs.«01_k».proof.Proof.Gen.Kernel16Ideal.Value
public import proofs.«01_k».proof.Proof.Gen.Reference16Ideal
public import proofs.«01_k».proof.Proof.Gen.Reference16Ideal.Run
public import proofs.«01_k».proof.Proof.Gen.Kernel17
public import proofs.«01_k».proof.Proof.Gen.Kernel17.Skeleton
public import proofs.«01_k».proof.Proof.Gen.Kernel17.Launch
public import proofs.«01_k».proof.Proof.Gen.Kernel17.Points
public import proofs.«01_k».proof.Proof.Gen.Kernel17.Frame
public import proofs.«01_k».proof.Proof.Gen.Kernel17Ideal
public import proofs.«01_k».proof.Proof.Gen.Kernel17Ideal.Skeleton
public import proofs.«01_k».proof.Proof.Gen.Kernel17Ideal.Launch
public import proofs.«01_k».proof.Proof.Gen.Kernel17Ideal.Points
public import proofs.«01_k».proof.Proof.Gen.Kernel17Ideal.Frame
public import proofs.«01_k».proof.Proof.Gen.Kernel17Ideal.Value
public import proofs.«01_k».proof.Proof.Gen.Reference17Ideal
public import proofs.«01_k».proof.Proof.Gen.Reference17Ideal.Run
public import proofs.«01_k».proof.Proof.Gen.Kernel18
public import proofs.«01_k».proof.Proof.Gen.Kernel18.Skeleton
public import proofs.«01_k».proof.Proof.Gen.Kernel18.Launch
public import proofs.«01_k».proof.Proof.Gen.Kernel18.Points
public import proofs.«01_k».proof.Proof.Gen.Kernel18.Frame
public import proofs.«01_k».proof.Proof.Gen.Kernel18Ideal
public import proofs.«01_k».proof.Proof.Gen.Kernel18Ideal.Skeleton
public import proofs.«01_k».proof.Proof.Gen.Kernel18Ideal.Launch
public import proofs.«01_k».proof.Proof.Gen.Kernel18Ideal.Points
public import proofs.«01_k».proof.Proof.Gen.Kernel18Ideal.Frame
public import proofs.«01_k».proof.Proof.Gen.Kernel18Ideal.Value
public import proofs.«01_k».proof.Proof.Gen.Reference18Ideal
public import proofs.«01_k».proof.Proof.Gen.Reference18Ideal.Run
public import proofs.«01_k».proof.Proof.Gen.Kernel19
public import proofs.«01_k».proof.Proof.Gen.Kernel19.Skeleton
public import proofs.«01_k».proof.Proof.Gen.Kernel19.Launch
public import proofs.«01_k».proof.Proof.Gen.Kernel19.Points
public import proofs.«01_k».proof.Proof.Gen.Kernel19.Frame
public import proofs.«01_k».proof.Proof.Gen.Kernel19Ideal
public import proofs.«01_k».proof.Proof.Gen.Kernel19Ideal.Skeleton
public import proofs.«01_k».proof.Proof.Gen.Kernel19Ideal.Launch
public import proofs.«01_k».proof.Proof.Gen.Kernel19Ideal.Points
public import proofs.«01_k».proof.Proof.Gen.Kernel19Ideal.Frame
public import proofs.«01_k».proof.Proof.Gen.Kernel19Ideal.Value
public import proofs.«01_k».proof.Proof.Gen.Reference19Ideal
public import proofs.«01_k».proof.Proof.Gen.Reference19Ideal.Run
public import proofs.«01_k».proof.Proof.Gen.Kernel20
public import proofs.«01_k».proof.Proof.Gen.Kernel20.Skeleton
public import proofs.«01_k».proof.Proof.Gen.Kernel20.Launch
public import proofs.«01_k».proof.Proof.Gen.Kernel20.Points
public import proofs.«01_k».proof.Proof.Gen.Kernel20.Frame
public import proofs.«01_k».proof.Proof.Gen.Kernel20Ideal
public import proofs.«01_k».proof.Proof.Gen.Kernel20Ideal.Skeleton
public import proofs.«01_k».proof.Proof.Gen.Kernel20Ideal.Launch
public import proofs.«01_k».proof.Proof.Gen.Kernel20Ideal.Points
public import proofs.«01_k».proof.Proof.Gen.Kernel20Ideal.Frame
public import proofs.«01_k».proof.Proof.Gen.Reference20Ideal
public import proofs.«01_k».proof.Proof.Gen.Reference20Ideal.Run
public import proofs.«01_k».proof.Proof.Gen.Kernel21
public import proofs.«01_k».proof.Proof.Gen.Kernel21.Skeleton
public import proofs.«01_k».proof.Proof.Gen.Kernel21.Launch
public import proofs.«01_k».proof.Proof.Gen.Kernel21.Points
public import proofs.«01_k».proof.Proof.Gen.Kernel21.Frame
public import proofs.«01_k».proof.Proof.Gen.Kernel21Ideal
public import proofs.«01_k».proof.Proof.Gen.Kernel21Ideal.Skeleton
public import proofs.«01_k».proof.Proof.Gen.Kernel21Ideal.Launch
public import proofs.«01_k».proof.Proof.Gen.Kernel21Ideal.Points
public import proofs.«01_k».proof.Proof.Gen.Kernel21Ideal.Frame
public import proofs.«01_k».proof.Proof.Gen.Kernel21Ideal.Value
public import proofs.«01_k».proof.Proof.Gen.Reference21Ideal
public import proofs.«01_k».proof.Proof.Gen.Reference21Ideal.Run
public import proofs.«01_k».proof.Proof.Gen.Kernel22
public import proofs.«01_k».proof.Proof.Gen.Kernel22.Skeleton
public import proofs.«01_k».proof.Proof.Gen.Kernel22.Launch
public import proofs.«01_k».proof.Proof.Gen.Kernel22.Points
public import proofs.«01_k».proof.Proof.Gen.Kernel22.Frame
public import proofs.«01_k».proof.Proof.Gen.Kernel22Ideal
public import proofs.«01_k».proof.Proof.Gen.Kernel22Ideal.Skeleton
public import proofs.«01_k».proof.Proof.Gen.Kernel22Ideal.Launch
public import proofs.«01_k».proof.Proof.Gen.Kernel22Ideal.Points
public import proofs.«01_k».proof.Proof.Gen.Kernel22Ideal.Frame
public import proofs.«01_k».proof.Proof.Gen.Kernel22Ideal.Value
public import proofs.«01_k».proof.Proof.Gen.Reference22Ideal
public import proofs.«01_k».proof.Proof.Gen.Reference22Ideal.Run
public import proofs.«01_k».proof.Proof.Gen.Kernel23
public import proofs.«01_k».proof.Proof.Gen.Kernel23.Skeleton
public import proofs.«01_k».proof.Proof.Gen.Kernel23.Launch
public import proofs.«01_k».proof.Proof.Gen.Kernel23.Points
public import proofs.«01_k».proof.Proof.Gen.Kernel23.Frame
public import proofs.«01_k».proof.Proof.Gen.Kernel23Ideal
public import proofs.«01_k».proof.Proof.Gen.Kernel23Ideal.Skeleton
public import proofs.«01_k».proof.Proof.Gen.Kernel23Ideal.Launch
public import proofs.«01_k».proof.Proof.Gen.Kernel23Ideal.Points
public import proofs.«01_k».proof.Proof.Gen.Kernel23Ideal.Frame
public import proofs.«01_k».proof.Proof.Gen.Kernel23Ideal.Value
public import proofs.«01_k».proof.Proof.Gen.Reference23Ideal
public import proofs.«01_k».proof.Proof.Gen.Reference23Ideal.Run
public import proofs.«01_k».proof.Proof.Gen.Kernel24
public import proofs.«01_k».proof.Proof.Gen.Kernel24.Skeleton
public import proofs.«01_k».proof.Proof.Gen.Kernel24.Launch
public import proofs.«01_k».proof.Proof.Gen.Kernel24.Points
public import proofs.«01_k».proof.Proof.Gen.Kernel24.Frame
public import proofs.«01_k».proof.Proof.Gen.Kernel24Ideal
public import proofs.«01_k».proof.Proof.Gen.Kernel24Ideal.Skeleton
public import proofs.«01_k».proof.Proof.Gen.Kernel24Ideal.Launch
public import proofs.«01_k».proof.Proof.Gen.Kernel24Ideal.Points
public import proofs.«01_k».proof.Proof.Gen.Kernel24Ideal.Frame
public import proofs.«01_k».proof.Proof.Gen.Kernel24Ideal.Value
public import proofs.«01_k».proof.Proof.Gen.Reference24Ideal
public import proofs.«01_k».proof.Proof.Gen.Reference24Ideal.Run
public import proofs.«01_k».proof.Proof.Gen.Kernel25
public import proofs.«01_k».proof.Proof.Gen.Kernel25.Skeleton
public import proofs.«01_k».proof.Proof.Gen.Kernel25.Launch
public import proofs.«01_k».proof.Proof.Gen.Kernel25.Points
public import proofs.«01_k».proof.Proof.Gen.Kernel25.Frame
public import proofs.«01_k».proof.Proof.Gen.Kernel25Ideal
public import proofs.«01_k».proof.Proof.Gen.Kernel25Ideal.Skeleton
public import proofs.«01_k».proof.Proof.Gen.Kernel25Ideal.Launch
public import proofs.«01_k».proof.Proof.Gen.Kernel25Ideal.Points
public import proofs.«01_k».proof.Proof.Gen.Kernel25Ideal.Frame
public import proofs.«01_k».proof.Proof.Gen.Kernel25Ideal.Value
public import proofs.«01_k».proof.Proof.Gen.Reference25Ideal
public import proofs.«01_k».proof.Proof.Gen.Reference25Ideal.Run
public import proofs.«01_k».proof.Proof.Gen.Kernel26
public import proofs.«01_k».proof.Proof.Gen.Kernel26.Skeleton
public import proofs.«01_k».proof.Proof.Gen.Kernel26.Launch
public import proofs.«01_k».proof.Proof.Gen.Kernel26.Points
public import proofs.«01_k».proof.Proof.Gen.Kernel26.Frame
public import proofs.«01_k».proof.Proof.Gen.Kernel26Ideal
public import proofs.«01_k».proof.Proof.Gen.Kernel26Ideal.Skeleton
public import proofs.«01_k».proof.Proof.Gen.Kernel26Ideal.Launch
public import proofs.«01_k».proof.Proof.Gen.Kernel26Ideal.Points
public import proofs.«01_k».proof.Proof.Gen.Kernel26Ideal.Frame
public import proofs.«01_k».proof.Proof.Gen.Kernel26Ideal.Value
public import proofs.«01_k».proof.Proof.Gen.Reference26Ideal
public import proofs.«01_k».proof.Proof.Gen.Reference26Ideal.Run
public import proofs.«01_k».proof.Proof.Gen.Kernel27
public import proofs.«01_k».proof.Proof.Gen.Kernel27.Skeleton
public import proofs.«01_k».proof.Proof.Gen.Kernel27.Launch
public import proofs.«01_k».proof.Proof.Gen.Kernel27.Points
public import proofs.«01_k».proof.Proof.Gen.Kernel27.Frame
public import proofs.«01_k».proof.Proof.Gen.Kernel27Ideal
public import proofs.«01_k».proof.Proof.Gen.Kernel27Ideal.Skeleton
public import proofs.«01_k».proof.Proof.Gen.Kernel27Ideal.Launch
public import proofs.«01_k».proof.Proof.Gen.Kernel27Ideal.Points
public import proofs.«01_k».proof.Proof.Gen.Kernel27Ideal.Frame
public import proofs.«01_k».proof.Proof.Gen.Kernel27Ideal.Value
public import proofs.«01_k».proof.Proof.Gen.Reference27Ideal
public import proofs.«01_k».proof.Proof.Gen.Reference27Ideal.Run
public import proofs.«01_k».proof.Proof.Gen.Kernel28
public import proofs.«01_k».proof.Proof.Gen.Kernel28.Skeleton
public import proofs.«01_k».proof.Proof.Gen.Kernel28.Launch
public import proofs.«01_k».proof.Proof.Gen.Kernel28.Points
public import proofs.«01_k».proof.Proof.Gen.Kernel28.Frame
public import proofs.«01_k».proof.Proof.Gen.Kernel28Ideal
public import proofs.«01_k».proof.Proof.Gen.Kernel28Ideal.Skeleton
public import proofs.«01_k».proof.Proof.Gen.Kernel28Ideal.Launch
public import proofs.«01_k».proof.Proof.Gen.Kernel28Ideal.Points
public import proofs.«01_k».proof.Proof.Gen.Kernel28Ideal.Frame
public import proofs.«01_k».proof.Proof.Gen.Kernel28Ideal.Value
public import proofs.«01_k».proof.Proof.Gen.Reference28Ideal
public import proofs.«01_k».proof.Proof.Gen.Reference28Ideal.Run
public import proofs.«01_k».proof.Proof.Gen.Kernel30
public import proofs.«01_k».proof.Proof.Gen.Kernel30.Skeleton
public import proofs.«01_k».proof.Proof.Gen.Kernel30.Launch
public import proofs.«01_k».proof.Proof.Gen.Kernel30.Points
public import proofs.«01_k».proof.Proof.Gen.Kernel30.Frame
public import proofs.«01_k».proof.Proof.Gen.Kernel30Ideal
public import proofs.«01_k».proof.Proof.Gen.Kernel30Ideal.Skeleton
public import proofs.«01_k».proof.Proof.Gen.Kernel30Ideal.Launch
public import proofs.«01_k».proof.Proof.Gen.Kernel30Ideal.Points
public import proofs.«01_k».proof.Proof.Gen.Kernel30Ideal.Frame
public import proofs.«01_k».proof.Proof.Gen.Reference30Ideal
public import proofs.«01_k».proof.Proof.Gen.Reference30Ideal.Run
public import proofs.«01_k».proof.Proof.Gen.Kernel33
public import proofs.«01_k».proof.Proof.Gen.Kernel33.Skeleton
public import proofs.«01_k».proof.Proof.Gen.Kernel33.Launch
public import proofs.«01_k».proof.Proof.Gen.Kernel33.Points
public import proofs.«01_k».proof.Proof.Gen.Kernel33.Frame
public import proofs.«01_k».proof.Proof.Gen.Kernel33Ideal
public import proofs.«01_k».proof.Proof.Gen.Kernel33Ideal.Skeleton
public import proofs.«01_k».proof.Proof.Gen.Kernel33Ideal.Launch
public import proofs.«01_k».proof.Proof.Gen.Kernel33Ideal.Points
public import proofs.«01_k».proof.Proof.Gen.Kernel33Ideal.Frame
public import proofs.«01_k».proof.Proof.Gen.Reference33Ideal
public import proofs.«01_k».proof.Proof.Gen.Reference33Ideal.Run
public import proofs.«01_k».proof.Proof.Gen.Kernel34
public import proofs.«01_k».proof.Proof.Gen.Kernel34.Skeleton
public import proofs.«01_k».proof.Proof.Gen.Kernel34.Launch
public import proofs.«01_k».proof.Proof.Gen.Kernel34.Points
public import proofs.«01_k».proof.Proof.Gen.Kernel34.Frame
public import proofs.«01_k».proof.Proof.Gen.Kernel34Ideal
public import proofs.«01_k».proof.Proof.Gen.Kernel34Ideal.Skeleton
public import proofs.«01_k».proof.Proof.Gen.Kernel34Ideal.Launch
public import proofs.«01_k».proof.Proof.Gen.Kernel34Ideal.Points
public import proofs.«01_k».proof.Proof.Gen.Kernel34Ideal.Frame
public import proofs.«01_k».proof.Proof.Gen.Reference34Ideal
public import proofs.«01_k».proof.Proof.Gen.Reference34Ideal.Run
public import proofs.«01_k».proof.Proof.Products.DMlpDown
public import proofs.«01_k».proof.Proof.Products.GMlpDown
public import proofs.«01_k».proof.Proof.Products.GMlpUp
public import proofs.«01_k».proof.Proof.Products.GIn
public import proofs.«01_k».proof.Proof.Products.DInQkv
public import proofs.«01_k».proof.Proof.Products.MlpUp
public import proofs.«01_k».proof.Proof.Products.InNa
public import proofs.«01_k».proof.Proof.Products.InDil
public import proofs.«01_k».proof.Proof.Products.InGates
public import proofs.«01_k».proof.Proof.Products.MlpDown
public import proofs.«01_k».proof.Proof.Products.DMlpUp
public import proofs.«01_k».proof.Proof.Products.DInGates
public import proofs.«01_k».proof.Proof.Products.DPleGate
public import proofs.«01_k».proof.Proof.Products.OutProj
public import proofs.«01_k».proof.Proof.Products.BranchNa
public import proofs.«01_k».proof.Proof.Products.BranchDil
public import proofs.«01_k».proof.Proof.Products.PleProj
public import proofs.«01_k».proof.Proof.Products.LossHead
public import proofs.«01_k».proof.Proof.Products.GPleGate
public import proofs.«01_k».proof.Proof.Products.GOutProj
public import proofs.«01_k».proof.Proof.Products.GPleProj
public import proofs.«01_k».proof.Proof.Products.GBranchNa
public import proofs.«01_k».proof.Proof.Products.GBranchDil
public import proofs.«01_k».proof.Proof.Products.DOutProj
public import proofs.«01_k».proof.Proof.Products.DBranchNa
public import proofs.«01_k».proof.Proof.Products.DBranchDil
public import proofs.«01_k».proof.Proof.Products.NormMix
public import proofs.«01_k».proof.Proof.Near.RefValue
public import proofs.«01_k».proof.Proof.Merge.RefValue
public import proofs.«01_k».proof.Proof.Unrotate.RefValue

@[expose] public section

noncomputable section

namespace Cert.Proof

open Idealize.ShloMosaic Idealize.SL.Sem

/-- The kernel as printed ends, its arguments as they were, every counter at zero. -/
theorem frame_kernel : Cert.quiescent_Kernel := fun m ρ _ => Kernel.Band.frame m ρ

/-- So does its ideal form. -/
theorem frame_ideal : Cert.quiescent_KernelIdeal := fun m ρ _ => KernelIdeal.Band.frame m ρ

/-- So does the reference, which declares no semaphore. -/
theorem frame_reference : Cert.quiescent_ReferenceIdeal := fun m ρ _ =>
  (θ_run ReferenceIdeal.defs _ _).mono
    (fun r h => ⟨fun c => (h c).2.2.2, sem_eq_zero_of_no_sems (by decide) r.2⟩)
    (ReferenceIdeal.Value.run (F := Ideal) m ρ)

/-- The mask constant of the kernel may be named. -/
theorem mask_named : Cert.preserves_Kernel_KernelIdeal :=
  IdealRules.named_const.statement KernelIdeal.κ "mask" .f32 0xF149F2CA#32 ⊥ rfl

/-- On real arguments the kernel and the reference end with the same gradients. -/
theorem same_gradients : Cert.algebraic_KernelIdeal_ReferenceIdeal_pre_finite_args := fun m g m' g' hp hargs => by
  have real := fun c => Cert.Pre_finite_args.Band.real_args _ _ _ _ _ (hp c)
  choose q k v a l h0 h1 h2 h3 h4 using real
  refine ⟨fun c => KernelIdeal.Band.re (KernelIdeal.Band.eighth (KernelIdeal.Band.dQ (KernelIdeal.Band.eighth (q c)) (k c) (v c) (a c) (l c))),
    fun c => KernelIdeal.Band.re (KernelIdeal.Band.dK (KernelIdeal.Band.eighth (q c)) (k c) (v c) (a c) (l c)),
    fun c => KernelIdeal.Band.re (KernelIdeal.Band.dV (KernelIdeal.Band.eighth (q c)) (k c) (a c)), ?_, ?_⟩
  · refine (θ_run KernelIdeal.defs _ _).mono (fun r h c => ?_)
      (θ_run_and (KernelIdeal.Band.run_value m g) (KernelIdeal.Band.frame m g))
    obtain ⟨e0, e1, e2⟩ := h.1 c (q c) (k c) (v c) (a c) (l c) (h0 c) (h1 c) (h2 c) (h3 c) (h4 c)
    exact ⟨e0, e1, e2, h.2.1 c⟩
  · refine (θ_run ReferenceIdeal.defs _ _).mono (fun r h c => ?_)
      (θ_run_and (ReferenceIdeal.Band.run_value m' g') (ReferenceIdeal.Value.run (F := Ideal) m' g'))
    obtain ⟨a0, a1, a2, a3, a4⟩ := hargs c
    obtain ⟨e0, e1, e2⟩ := h.1 c (q c) (k c) (v c) (a c) (l c) (a0.trans (h0 c)) (a1.trans (h1 c)) (a2.trans (h2 c)) (a3.trans (h3 c)) (a4.trans (h4 c))
    exact ⟨e0, e1, e2, (h.2 c).2.2.2⟩

/-- The frame of reference 2. -/
theorem frame_reference2 : Cert.quiescent_Reference2Ideal := fun m ρ _ =>
  (θ_run Reference2Ideal.defs _ _).mono (fun r h => ⟨fun c => (h c).2, sem_eq_zero_of_no_sems (by decide) r.2⟩)
    (Reference2Ideal.Value.run (F := Ideal) m ρ)

/-- The frame of reference 3. -/
theorem frame_reference3 : Cert.quiescent_Reference3Ideal := fun m ρ _ =>
  (θ_run Reference3Ideal.defs _ _).mono (fun r h => ⟨fun c => (h c).2, sem_eq_zero_of_no_sems (by decide) r.2⟩)
    (Reference3Ideal.Value.run (F := Ideal) m ρ)

/-- The frame of reference 4. -/
theorem frame_reference4 : Cert.quiescent_Reference4Ideal := fun m ρ _ =>
  (θ_run Reference4Ideal.defs _ _).mono (fun r h => ⟨fun c => (h c).2, sem_eq_zero_of_no_sems (by decide) r.2⟩)
    (Reference4Ideal.Value.run (F := Ideal) m ρ)

/-- The frame of reference 5. -/
theorem frame_reference5 : Cert.quiescent_Reference5Ideal := fun m ρ _ =>
  (θ_run Reference5Ideal.defs _ _).mono (fun r h => ⟨fun c => (h c).2, sem_eq_zero_of_no_sems (by decide) r.2⟩)
    (Reference5Ideal.Value.run (F := Ideal) m ρ)

/-- The frame of reference 6. -/
theorem frame_reference6 : Cert.quiescent_Reference6Ideal := fun m ρ _ =>
  (θ_run Reference6Ideal.defs _ _).mono (fun r h => ⟨fun c => (h c).2, sem_eq_zero_of_no_sems (by decide) r.2⟩)
    (Reference6Ideal.Value.run (F := Ideal) m ρ)

/-- The frame of reference 7. -/
theorem frame_reference7 : Cert.quiescent_Reference7Ideal := fun m ρ _ =>
  (θ_run Reference7Ideal.defs _ _).mono (fun r h => ⟨fun c => (h c).2.2, sem_eq_zero_of_no_sems (by decide) r.2⟩)
    (Reference7Ideal.Value.run (F := Ideal) m ρ)

/-- The frame of reference 8. -/
theorem frame_reference8 : Cert.quiescent_Reference8Ideal := fun m ρ _ =>
  (θ_run Reference8Ideal.defs _ _).mono (fun r h => ⟨fun c => (h c).2, sem_eq_zero_of_no_sems (by decide) r.2⟩)
    (Reference8Ideal.Value.run (F := Ideal) m ρ)

/-- The frame of reference 9. -/
theorem frame_reference9 : Cert.quiescent_Reference9Ideal := fun m ρ _ =>
  (θ_run Reference9Ideal.defs _ _).mono (fun r h => ⟨fun c => (h c).2, sem_eq_zero_of_no_sems (by decide) r.2⟩)
    (Reference9Ideal.Value.run (F := Ideal) m ρ)

/-- The frame of reference 10. -/
theorem frame_reference10 : Cert.quiescent_Reference10Ideal := fun m ρ _ =>
  (θ_run Reference10Ideal.defs _ _).mono (fun r h => ⟨fun c => (h c).2, sem_eq_zero_of_no_sems (by decide) r.2⟩)
    (Reference10Ideal.Value.run (F := Ideal) m ρ)

/-- The frame of reference 11. -/
theorem frame_reference11 : Cert.quiescent_Reference11Ideal := fun m ρ _ =>
  (θ_run Reference11Ideal.defs _ _).mono (fun r h => ⟨fun c => (h c).2.2, sem_eq_zero_of_no_sems (by decide) r.2⟩)
    (Reference11Ideal.Value.run (F := Ideal) m ρ)

/-- The frame of reference 12. -/
theorem frame_reference12 : Cert.quiescent_Reference12Ideal := fun m ρ _ =>
  (θ_run Reference12Ideal.defs _ _).mono (fun r h => ⟨fun c => (h c).2.2.2, sem_eq_zero_of_no_sems (by decide) r.2⟩)
    (Reference12Ideal.Value.run (F := Ideal) m ρ)

/-- The frame of reference 13. -/
theorem frame_reference13 : Cert.quiescent_Reference13Ideal := fun m ρ _ =>
  (θ_run Reference13Ideal.defs _ _).mono (fun r h => ⟨fun c => (h c).2.2, sem_eq_zero_of_no_sems (by decide) r.2⟩)
    (Reference13Ideal.Value.run (F := Ideal) m ρ)

/-- The frame of reference 14. -/
theorem frame_reference14 : Cert.quiescent_Reference14Ideal := fun m ρ _ =>
  (θ_run Reference14Ideal.defs _ _).mono (fun r h => ⟨fun c => (h c).2.2.2, sem_eq_zero_of_no_sems (by decide) r.2⟩)
    (Reference14Ideal.Value.run (F := Ideal) m ρ)

/-- The frame of reference 15. -/
theorem frame_reference15 : Cert.quiescent_Reference15Ideal := fun m ρ _ =>
  (θ_run Reference15Ideal.defs _ _).mono (fun r h => ⟨fun c => (h c).2.2, sem_eq_zero_of_no_sems (by decide) r.2⟩)
    (Reference15Ideal.Value.run (F := Ideal) m ρ)

/-- The frame of reference 16. -/
theorem frame_reference16 : Cert.quiescent_Reference16Ideal := fun m ρ _ =>
  (θ_run Reference16Ideal.defs _ _).mono (fun r h => ⟨fun c => (h c).2, sem_eq_zero_of_no_sems (by decide) r.2⟩)
    (Reference16Ideal.Value.run (F := Ideal) m ρ)

/-- The frame of reference 17. -/
theorem frame_reference17 : Cert.quiescent_Reference17Ideal := fun m ρ _ =>
  (θ_run Reference17Ideal.defs _ _).mono (fun r h => ⟨fun c => (h c).2.2, sem_eq_zero_of_no_sems (by decide) r.2⟩)
    (Reference17Ideal.Value.run (F := Ideal) m ρ)

/-- The frame of reference 18. -/
theorem frame_reference18 : Cert.quiescent_Reference18Ideal := fun m ρ _ =>
  (θ_run Reference18Ideal.defs _ _).mono (fun r h => ⟨fun c => (h c).2, sem_eq_zero_of_no_sems (by decide) r.2⟩)
    (Reference18Ideal.Value.run (F := Ideal) m ρ)

/-- The frame of reference 19. -/
theorem frame_reference19 : Cert.quiescent_Reference19Ideal := fun m ρ _ =>
  (θ_run Reference19Ideal.defs _ _).mono (fun r h => ⟨fun c => (h c).2.2.2.2.2, sem_eq_zero_of_no_sems (by decide) r.2⟩)
    (Reference19Ideal.Value.run (F := Ideal) m ρ)

/-- The frame of reference 20. -/
theorem frame_reference20 : Cert.quiescent_Reference20Ideal := fun m ρ _ =>
  (θ_run Reference20Ideal.defs _ _).mono (fun r h => ⟨fun c => (h c).2, sem_eq_zero_of_no_sems (by decide) r.2⟩)
    (Reference20Ideal.Value.run (F := Ideal) m ρ)

/-- The frame of reference 21. -/
theorem frame_reference21 : Cert.quiescent_Reference21Ideal := fun m ρ _ =>
  (θ_run Reference21Ideal.defs _ _).mono (fun r h => ⟨fun c => (h c).2, sem_eq_zero_of_no_sems (by decide) r.2⟩)
    (Reference21Ideal.Value.run (F := Ideal) m ρ)

/-- The frame of reference 22. -/
theorem frame_reference22 : Cert.quiescent_Reference22Ideal := fun m ρ _ =>
  (θ_run Reference22Ideal.defs _ _).mono (fun r h => ⟨fun c => (h c).2, sem_eq_zero_of_no_sems (by decide) r.2⟩)
    (Reference22Ideal.Value.run (F := Ideal) m ρ)

/-- The frame of reference 23. -/
theorem frame_reference23 : Cert.quiescent_Reference23Ideal := fun m ρ _ =>
  (θ_run Reference23Ideal.defs _ _).mono (fun r h => ⟨fun c => (h c).2, sem_eq_zero_of_no_sems (by decide) r.2⟩)
    (Reference23Ideal.Value.run (F := Ideal) m ρ)

/-- The frame of reference 24. -/
theorem frame_reference24 : Cert.quiescent_Reference24Ideal := fun m ρ _ =>
  (θ_run Reference24Ideal.defs _ _).mono (fun r h => ⟨fun c => (h c).2, sem_eq_zero_of_no_sems (by decide) r.2⟩)
    (Reference24Ideal.Value.run (F := Ideal) m ρ)

/-- The frame of reference 25. -/
theorem frame_reference25 : Cert.quiescent_Reference25Ideal := fun m ρ _ =>
  (θ_run Reference25Ideal.defs _ _).mono (fun r h => ⟨fun c => (h c).2.2.2, sem_eq_zero_of_no_sems (by decide) r.2⟩)
    (Reference25Ideal.Value.run (F := Ideal) m ρ)

/-- The frame of reference 26. -/
theorem frame_reference26 : Cert.quiescent_Reference26Ideal := fun m ρ _ =>
  (θ_run Reference26Ideal.defs _ _).mono (fun r h => ⟨fun c => (h c).2, sem_eq_zero_of_no_sems (by decide) r.2⟩)
    (Reference26Ideal.Value.run (F := Ideal) m ρ)

/-- The frame of reference 27. -/
theorem frame_reference27 : Cert.quiescent_Reference27Ideal := fun m ρ _ =>
  (θ_run Reference27Ideal.defs _ _).mono (fun r h => ⟨fun c => (h c).2, sem_eq_zero_of_no_sems (by decide) r.2⟩)
    (Reference27Ideal.Value.run (F := Ideal) m ρ)

/-- The frame of reference 28. -/
theorem frame_reference28 : Cert.quiescent_Reference28Ideal := fun m ρ _ =>
  (θ_run Reference28Ideal.defs _ _).mono (fun r h => ⟨fun c => (h c).2, sem_eq_zero_of_no_sems (by decide) r.2⟩)
    (Reference28Ideal.Value.run (F := Ideal) m ρ)

/-- The frame of reference 30. -/
theorem frame_reference30 : Cert.quiescent_Reference30Ideal := fun m ρ _ =>
  (θ_run Reference30Ideal.defs _ _).mono (fun r h => ⟨fun c => (h c).2, sem_eq_zero_of_no_sems (by decide) r.2⟩)
    (Reference30Ideal.Value.run (F := Ideal) m ρ)

/-- The frame of reference 33. -/
theorem frame_reference33 : Cert.quiescent_Reference33Ideal := fun m ρ _ =>
  (θ_run Reference33Ideal.defs _ _).mono (fun r h => ⟨fun c => (h c).2.2.2.2.2.2, sem_eq_zero_of_no_sems (by decide) r.2⟩)
    (Reference33Ideal.Value.run (F := Ideal) m ρ)

/-- The frame of reference 34. -/
theorem frame_reference34 : Cert.quiescent_Reference34Ideal := fun m ρ _ =>
  (θ_run Reference34Ideal.defs _ _).mono (fun r h => ⟨fun c => (h c).2, sem_eq_zero_of_no_sems (by decide) r.2⟩)
    (Reference34Ideal.Value.run (F := Ideal) m ρ)

/-- Everything claimed. -/
theorem claim : Cert.Claim :=
  ⟨Kernel.Gen.facts, KernelIdeal.Gen.facts, ReferenceIdeal.Gen.facts,
    Kernel2.Gen.facts, Kernel2Ideal.Gen.facts, Reference2Ideal.Gen.facts,
    Kernel3.Gen.facts, Kernel3Ideal.Gen.facts, Reference3Ideal.Gen.facts,
    Kernel4.Gen.facts, Kernel4Ideal.Gen.facts, Reference4Ideal.Gen.facts,
    Kernel5.Gen.facts, Kernel5Ideal.Gen.facts, Reference5Ideal.Gen.facts,
    Kernel6.Gen.facts, Kernel6Ideal.Gen.facts, Reference6Ideal.Gen.facts,
    Kernel7.Gen.facts, Kernel7Ideal.Gen.facts, Reference7Ideal.Gen.facts,
    Kernel8.Gen.facts, Kernel8Ideal.Gen.facts, Reference8Ideal.Gen.facts,
    Kernel9.Gen.facts, Kernel9Ideal.Gen.facts, Reference9Ideal.Gen.facts,
    Kernel10.Gen.facts, Kernel10Ideal.Gen.facts, Reference10Ideal.Gen.facts,
    Kernel11.Gen.facts, Kernel11Ideal.Gen.facts, Reference11Ideal.Gen.facts,
    Kernel12.Gen.facts, Kernel12Ideal.Gen.facts, Reference12Ideal.Gen.facts,
    Kernel13.Gen.facts, Kernel13Ideal.Gen.facts, Reference13Ideal.Gen.facts,
    Kernel14.Gen.facts, Kernel14Ideal.Gen.facts, Reference14Ideal.Gen.facts,
    Kernel15.Gen.facts, Kernel15Ideal.Gen.facts, Reference15Ideal.Gen.facts,
    Kernel16.Gen.facts, Kernel16Ideal.Gen.facts, Reference16Ideal.Gen.facts,
    Kernel17.Gen.facts, Kernel17Ideal.Gen.facts, Reference17Ideal.Gen.facts,
    Kernel18.Gen.facts, Kernel18Ideal.Gen.facts, Reference18Ideal.Gen.facts,
    Kernel19.Gen.facts, Kernel19Ideal.Gen.facts, Reference19Ideal.Gen.facts,
    Kernel20.Gen.facts, Kernel20Ideal.Gen.facts, Reference20Ideal.Gen.facts,
    Kernel21.Gen.facts, Kernel21Ideal.Gen.facts, Reference21Ideal.Gen.facts,
    Kernel22.Gen.facts, Kernel22Ideal.Gen.facts, Reference22Ideal.Gen.facts,
    Kernel23.Gen.facts, Kernel23Ideal.Gen.facts, Reference23Ideal.Gen.facts,
    Kernel24.Gen.facts, Kernel24Ideal.Gen.facts, Reference24Ideal.Gen.facts,
    Kernel25.Gen.facts, Kernel25Ideal.Gen.facts, Reference25Ideal.Gen.facts,
    Kernel26.Gen.facts, Kernel26Ideal.Gen.facts, Reference26Ideal.Gen.facts,
    Kernel27.Gen.facts, Kernel27Ideal.Gen.facts, Reference27Ideal.Gen.facts,
    Kernel28.Gen.facts, Kernel28Ideal.Gen.facts, Reference28Ideal.Gen.facts,
    Kernel30.Gen.facts, Kernel30Ideal.Gen.facts, Reference30Ideal.Gen.facts,
    Kernel33.Gen.facts, Kernel33Ideal.Gen.facts, Reference33Ideal.Gen.facts,
    Kernel34.Gen.facts, Kernel34Ideal.Gen.facts, Reference34Ideal.Gen.facts,
    Cert.Pre_finite_args.Band.facts,
    frame_kernel, frame_ideal, fun m ρ _ => KernelIdeal.Band.frame m ρ, frame_reference,
    fun m ρ _ => frame_reference m ρ trivial,
    fun m ρ _ => Kernel2.Gen.frame m ρ, fun m ρ _ => Kernel2Ideal.Gen.frame m ρ, frame_reference2,
    fun m ρ _ => Kernel3.Gen.frame m ρ, fun m ρ _ => Kernel3Ideal.Gen.frame m ρ, frame_reference3,
    fun m ρ _ => Kernel4.Gen.frame m ρ, fun m ρ _ => Kernel4Ideal.Gen.frame m ρ, frame_reference4,
    fun m ρ _ => Kernel5.Gen.frame m ρ, fun m ρ _ => Kernel5Ideal.Gen.frame m ρ, frame_reference5,
    fun m ρ _ => Kernel6.Gen.frame m ρ, fun m ρ _ => Kernel6Ideal.Gen.frame m ρ, frame_reference6,
    fun m ρ _ => Kernel7.Gen.frame m ρ, fun m ρ _ => Kernel7Ideal.Gen.frame m ρ, frame_reference7,
    fun m ρ _ => Kernel8.Gen.frame m ρ, fun m ρ _ => Kernel8Ideal.Gen.frame m ρ, frame_reference8,
    fun m ρ _ => Kernel9.Gen.frame m ρ, fun m ρ _ => Kernel9Ideal.Gen.frame m ρ, frame_reference9,
    fun m ρ _ => Kernel10.Gen.frame m ρ, fun m ρ _ => Kernel10Ideal.Gen.frame m ρ, frame_reference10,
    fun m ρ _ => Kernel11.Gen.frame m ρ, fun m ρ _ => Kernel11Ideal.Gen.frame m ρ, frame_reference11,
    fun m ρ _ => Kernel12.Gen.frame m ρ, fun m ρ _ => Kernel12Ideal.Gen.frame m ρ, frame_reference12,
    fun m ρ _ => Kernel13.Gen.frame m ρ, fun m ρ _ => Kernel13Ideal.Gen.frame m ρ, frame_reference13,
    fun m ρ _ => Kernel14.Gen.frame m ρ, fun m ρ _ => Kernel14Ideal.Gen.frame m ρ, frame_reference14,
    fun m ρ _ => Kernel15.Gen.frame m ρ, fun m ρ _ => Kernel15Ideal.Gen.frame m ρ, frame_reference15,
    fun m ρ _ => Kernel16.Gen.frame m ρ, fun m ρ _ => Kernel16Ideal.Gen.frame m ρ, frame_reference16,
    fun m ρ _ => Kernel17.Gen.frame m ρ, fun m ρ _ => Kernel17Ideal.Gen.frame m ρ, frame_reference17,
    fun m ρ _ => Kernel18.Gen.frame m ρ, fun m ρ _ => Kernel18Ideal.Gen.frame m ρ, frame_reference18,
    fun m ρ _ => Kernel19.Gen.frame m ρ, fun m ρ _ => Kernel19Ideal.Gen.frame m ρ, frame_reference19,
    fun m ρ _ => Kernel20.Gen.frame m ρ, fun m ρ _ => Kernel20Ideal.Gen.frame m ρ, frame_reference20,
    fun m ρ _ => Kernel21.Gen.frame m ρ, fun m ρ _ => Kernel21Ideal.Gen.frame m ρ, frame_reference21,
    fun m ρ _ => Kernel22.Gen.frame m ρ, fun m ρ _ => Kernel22Ideal.Gen.frame m ρ, frame_reference22,
    fun m ρ _ => Kernel23.Gen.frame m ρ, fun m ρ _ => Kernel23Ideal.Gen.frame m ρ, frame_reference23,
    fun m ρ _ => Kernel24.Gen.frame m ρ, fun m ρ _ => Kernel24Ideal.Gen.frame m ρ, frame_reference24,
    fun m ρ _ => Kernel25.Gen.frame m ρ, fun m ρ _ => Kernel25Ideal.Gen.frame m ρ, frame_reference25,
    fun m ρ _ => Kernel26.Gen.frame m ρ, fun m ρ _ => Kernel26Ideal.Gen.frame m ρ, frame_reference26,
    fun m ρ _ => Kernel27.Gen.frame m ρ, fun m ρ _ => Kernel27Ideal.Gen.frame m ρ, frame_reference27,
    fun m ρ _ => Kernel28.Gen.frame m ρ, fun m ρ _ => Kernel28Ideal.Gen.frame m ρ, frame_reference28,
    fun m ρ _ => Kernel30.Gen.frame m ρ, fun m ρ _ => Kernel30Ideal.Gen.frame m ρ, frame_reference30,
    fun m ρ _ => Kernel33.Gen.frame m ρ, fun m ρ _ => Kernel33Ideal.Gen.frame m ρ, frame_reference33,
    fun m ρ _ => Kernel34.Gen.frame m ρ, fun m ρ _ => Kernel34Ideal.Gen.frame m ρ, frame_reference34,
    mask_named, same_gradients,
    trivial, Reference2Ideal.Product.same,
    trivial, Reference3Ideal.Product.same,
    trivial, Reference4Ideal.Product.same,
    trivial, Reference5Ideal.Product.same,
    trivial, Reference6Ideal.Product.same,
    trivial, Reference7Ideal.Product.same,
    trivial, Reference8Ideal.Product.same,
    trivial, Reference9Ideal.Product.same,
    trivial, Reference10Ideal.Product.same,
    trivial, Reference11Ideal.Product.same,
    trivial, Reference12Ideal.Product.same,
    trivial, Reference13Ideal.Product.same,
    trivial, Reference14Ideal.Product.same,
    trivial, Reference15Ideal.Product.same,
    trivial, Reference16Ideal.Product.same,
    trivial, Reference17Ideal.Product.same,
    trivial, Reference18Ideal.Product.same,
    trivial, Reference19Ideal.Product.same,
    trivial, Reference20Ideal.Product.same,
    trivial, Reference21Ideal.Product.same,
    trivial, Reference22Ideal.Product.same,
    trivial, Reference23Ideal.Product.same,
    trivial, Reference24Ideal.Product.same,
    trivial, Reference25Ideal.Product.same,
    trivial, Reference26Ideal.Product.same,
    trivial, Reference27Ideal.Product.same,
    trivial, Reference28Ideal.Product.same,
    trivial, Reference30Ideal.Product.same,
    trivial, Reference33Ideal.Product.same,
    trivial, Reference34Ideal.Product.same⟩

end Cert.Proof

end
